-- ==== Defs.lean ====
def Pre_Kernel [hPre_faces_in_range : Cert.Pre_faces_in_range.Facts] (m : (ℓ : Loc Cert.Kernel.nD Cert.Kernel.τ Cert.Kernel.sig) → Buf (Elt Bits) ℓ) : Prop :=
  ∀ c : Dev Cert.Kernel.nD,
    (Cert.Pre_faces_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_faces_in_range : Cert.Pre_faces_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_faces_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_faces_in_range [hPre_faces_in_range : Cert.Pre_faces_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_faces_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Chamfer (m : (ℓ : Loc Cert.Chamfer.nD Cert.Chamfer.τ Cert.Chamfer.sig) → Buf (Elt Bits) ℓ) : Prop :=
  True

def Pre_ChamferIdeal (m : (ℓ : Loc Cert.ChamferIdeal.nD Cert.ChamferIdeal.τ Cert.ChamferIdeal.sig) → Buf (Elt Ideal) ℓ) : Prop :=
  True

def Pre_ChamferIdeal_below_big [hPre_below_big : Cert.Pre_below_big.Facts] (m : (ℓ : Loc Cert.ChamferIdeal.nD Cert.ChamferIdeal.τ Cert.ChamferIdeal.sig) → Buf (Elt Ideal) ℓ) : Prop :=
  ∀ c : Dev Cert.ChamferIdeal.nD,
    (Cert.Pre_below_big.fn (F := Ideal) (m ((c.tc : Thread Cert.ChamferIdeal.nD Cert.ChamferIdeal.τ).loc Cert.ChamferIdeal.main_arg0)) (m ((c.tc : Thread Cert.ChamferIdeal.nD Cert.ChamferIdeal.τ).loc Cert.ChamferIdeal.main_arg1))) = (fun _ => 1#1)

def Pre_ChamferReferenceIdeal (m : (ℓ : Loc Cert.ChamferReferenceIdeal.nD Cert.ChamferReferenceIdeal.τ Cert.ChamferReferenceIdeal.sig) → Buf (Elt Ideal) ℓ) : Prop :=
  True

def Pre_ChamferReferenceIdeal_below_big [hPre_below_big : Cert.Pre_below_big.Facts] (m : (ℓ : Loc Cert.ChamferReferenceIdeal.nD Cert.ChamferReferenceIdeal.τ Cert.ChamferReferenceIdeal.sig) → Buf (Elt Ideal) ℓ) : Prop :=
  ∀ c : Dev Cert.ChamferReferenceIdeal.nD,
    (Cert.Pre_below_big.fn (F := Ideal) (m ((c.tc : Thread Cert.ChamferReferenceIdeal.nD Cert.ChamferReferenceIdeal.τ).loc Cert.ChamferReferenceIdeal.main_arg0)) (m ((c.tc : Thread Cert.ChamferReferenceIdeal.nD Cert.ChamferReferenceIdeal.τ).loc Cert.ChamferReferenceIdeal.main_arg1))) = (fun _ => 1#1)

def quiescent_Kernel [hKernel : Cert.Kernel.Facts] [hPre_faces_in_range : Cert.Pre_faces_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_faces_in_range : Cert.Pre_faces_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_faces_in_range [hReferenceIdeal : Cert.ReferenceIdeal.Facts] [hPre_faces_in_range : Cert.Pre_faces_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_faces_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Chamfer [hChamfer : Cert.Chamfer.Facts] : Prop :=
  ∀ (m : (ℓ : Loc Cert.Chamfer.nD Cert.Chamfer.τ Cert.Chamfer.sig) → Buf (Elt Bits) ℓ) (g : Dev Cert.Chamfer.nD → PrngReg), Pre_Chamfer m →
    θ_run (Cert.Chamfer.defs (F := Bits)) (onTc (τ := Cert.Chamfer.τ) (Cert.Chamfer.main (F := Bits))) ⟨m, fun _ => 0, g⟩ (fun r => (∀ c : Dev Cert.Chamfer.nD,
      r.2.mem ((c.tc : Thread Cert.Chamfer.nD Cert.Chamfer.τ).loc Cert.Chamfer.main_arg0) = m ((c.tc : Thread Cert.Chamfer.nD Cert.Chamfer.τ).loc Cert.Chamfer.main_arg0)
      ∧ r.2.mem ((c.tc : Thread Cert.Chamfer.nD Cert.Chamfer.τ).loc Cert.Chamfer.main_arg1) = m ((c.tc : Thread Cert.Chamfer.nD Cert.Chamfer.τ).loc Cert.Chamfer.main_arg1))
      ∧ r.2.sem = fun _ => 0)

def quiescent_ChamferIdeal [hChamferIdeal : Cert.ChamferIdeal.Facts] : Prop :=
  ∀ (m : (ℓ : Loc Cert.ChamferIdeal.nD Cert.ChamferIdeal.τ Cert.ChamferIdeal.sig) → Buf (Elt Ideal) ℓ) (g : Dev Cert.ChamferIdeal.nD → PrngReg), Pre_ChamferIdeal m →
    θ_run (Cert.ChamferIdeal.defs (F := Ideal)) (onTc (τ := Cert.ChamferIdeal.τ) (Cert.ChamferIdeal.main (F := Ideal))) ⟨m, fun _ => 0, g⟩ (fun r => (∀ c : Dev Cert.ChamferIdeal.nD,
      r.2.mem ((c.tc : Thread Cert.ChamferIdeal.nD Cert.ChamferIdeal.τ).loc Cert.ChamferIdeal.main_arg0) = m ((c.tc : Thread Cert.ChamferIdeal.nD Cert.ChamferIdeal.τ).loc Cert.ChamferIdeal.main_arg0)
      ∧ r.2.mem ((c.tc : Thread Cert.ChamferIdeal.nD Cert.ChamferIdeal.τ).loc Cert.ChamferIdeal.main_arg1) = m ((c.tc : Thread Cert.ChamferIdeal.nD Cert.ChamferIdeal.τ).loc Cert.ChamferIdeal.main_arg1))
      ∧ r.2.sem = fun _ => 0)

def quiescent_ChamferIdeal_pre_below_big [hChamferIdeal : Cert.ChamferIdeal.Facts] [hPre_below_big : Cert.Pre_below_big.Facts] : Prop :=
  ∀ (m : (ℓ : Loc Cert.ChamferIdeal.nD Cert.ChamferIdeal.τ Cert.ChamferIdeal.sig) → Buf (Elt Ideal) ℓ) (g : Dev Cert.ChamferIdeal.nD → PrngReg), Pre_ChamferIdeal_below_big m →
    θ_run (Cert.ChamferIdeal.defs (F := Ideal)) (onTc (τ := Cert.ChamferIdeal.τ) (Cert.ChamferIdeal.main (F := Ideal))) ⟨m, fun _ => 0, g⟩ (fun r => (∀ c : Dev Cert.ChamferIdeal.nD,
      r.2.mem ((c.tc : Thread Cert.ChamferIdeal.nD Cert.ChamferIdeal.τ).loc Cert.ChamferIdeal.main_arg0) = m ((c.tc : Thread Cert.ChamferIdeal.nD Cert.ChamferIdeal.τ).loc Cert.ChamferIdeal.main_arg0)
      ∧ r.2.mem ((c.tc : Thread Cert.ChamferIdeal.nD Cert.ChamferIdeal.τ).loc Cert.ChamferIdeal.main_arg1) = m ((c.tc : Thread Cert.ChamferIdeal.nD Cert.ChamferIdeal.τ).loc Cert.ChamferIdeal.main_arg1))
      ∧ r.2.sem = fun _ => 0)

def quiescent_ChamferReferenceIdeal [hChamferReferenceIdeal : Cert.ChamferReferenceIdeal.Facts] : Prop :=
  ∀ (m : (ℓ : Loc Cert.ChamferReferenceIdeal.nD Cert.ChamferReferenceIdeal.τ Cert.ChamferReferenceIdeal.sig) → Buf (Elt Ideal) ℓ) (g : Dev Cert.ChamferReferenceIdeal.nD → PrngReg), Pre_ChamferReferenceIdeal m →
    θ_run (Cert.ChamferReferenceIdeal.defs (F := Ideal)) (onTc (τ := Cert.ChamferReferenceIdeal.τ) (Cert.ChamferReferenceIdeal.main (F := Ideal))) ⟨m, fun _ => 0, g⟩ (fun r => (∀ c : Dev Cert.ChamferReferenceIdeal.nD,
      r.2.mem ((c.tc : Thread Cert.ChamferReferenceIdeal.nD Cert.ChamferReferenceIdeal.τ).loc Cert.ChamferReferenceIdeal.main_arg0) = m ((c.tc : Thread Cert.ChamferReferenceIdeal.nD Cert.ChamferReferenceIdeal.τ).loc Cert.ChamferReferenceIdeal.main_arg0)
      ∧ r.2.mem ((c.tc : Thread Cert.ChamferReferenceIdeal.nD Cert.ChamferReferenceIdeal.τ).loc Cert.ChamferReferenceIdeal.main_arg1) = m ((c.tc : Thread Cert.ChamferReferenceIdeal.nD Cert.ChamferReferenceIdeal.τ).loc Cert.ChamferReferenceIdeal.main_arg1))
      ∧ r.2.sem = fun _ => 0)

def quiescent_ChamferReferenceIdeal_pre_below_big [hChamferReferenceIdeal : Cert.ChamferReferenceIdeal.Facts] [hPre_below_big : Cert.Pre_below_big.Facts] : Prop :=
  ∀ (m : (ℓ : Loc Cert.ChamferReferenceIdeal.nD Cert.ChamferReferenceIdeal.τ Cert.ChamferReferenceIdeal.sig) → Buf (Elt Ideal) ℓ) (g : Dev Cert.ChamferReferenceIdeal.nD → PrngReg), Pre_ChamferReferenceIdeal_below_big m →
    θ_run (Cert.ChamferReferenceIdeal.defs (F := Ideal)) (onTc (τ := Cert.ChamferReferenceIdeal.τ) (Cert.ChamferReferenceIdeal.main (F := Ideal))) ⟨m, fun _ => 0, g⟩ (fun r => (∀ c : Dev Cert.ChamferReferenceIdeal.nD,
      r.2.mem ((c.tc : Thread Cert.ChamferReferenceIdeal.nD Cert.ChamferReferenceIdeal.τ).loc Cert.ChamferReferenceIdeal.main_arg0) = m ((c.tc : Thread Cert.ChamferReferenceIdeal.nD Cert.ChamferReferenceIdeal.τ).loc Cert.ChamferReferenceIdeal.main_arg0)
      ∧ r.2.mem ((c.tc : Thread Cert.ChamferReferenceIdeal.nD Cert.ChamferReferenceIdeal.τ).loc Cert.ChamferReferenceIdeal.main_arg1) = m ((c.tc : Thread Cert.ChamferReferenceIdeal.nD Cert.ChamferReferenceIdeal.τ).loc Cert.ChamferReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_faces_in_range : Cert.Pre_faces_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_v937) = v1 c
          ∧ r.2.mem ((c.tc : Thread Cert.ReferenceIdeal.nD Cert.ReferenceIdeal.τ).loc Cert.ReferenceIdeal.main_v1738) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Chamfer_ChamferIdeal : Prop :=
  True

def algebraic_ChamferIdeal_ChamferReferenceIdeal_pre_below_big [hChamferIdeal : Cert.ChamferIdeal.Facts] [hChamferReferenceIdeal : Cert.ChamferReferenceIdeal.Facts] [hPre_below_big : Cert.Pre_below_big.Facts] : Prop :=
  ∀ (m : (ℓ : Loc Cert.ChamferIdeal.nD Cert.ChamferIdeal.τ Cert.ChamferIdeal.sig) → Buf (Elt Ideal) ℓ) (g : Dev Cert.ChamferIdeal.nD → PrngReg)
    (m' : (ℓ : Loc Cert.ChamferReferenceIdeal.nD Cert.ChamferReferenceIdeal.τ Cert.ChamferReferenceIdeal.sig) → Buf (Elt Ideal) ℓ) (g' : Dev Cert.ChamferReferenceIdeal.nD → PrngReg), Pre_ChamferIdeal_below_big m →
    (∀ c : Dev Cert.ChamferIdeal.nD,
      m' ((c.tc : Thread Cert.ChamferReferenceIdeal.nD Cert.ChamferReferenceIdeal.τ).loc Cert.ChamferReferenceIdeal.main_arg0) = m ((c.tc : Thread Cert.ChamferIdeal.nD Cert.ChamferIdeal.τ).loc Cert.ChamferIdeal.main_arg0)
      ∧ m' ((c.tc : Thread Cert.ChamferReferenceIdeal.nD Cert.ChamferReferenceIdeal.τ).loc Cert.ChamferReferenceIdeal.main_arg1) = m ((c.tc : Thread Cert.ChamferIdeal.nD Cert.ChamferIdeal.τ).loc Cert.ChamferIdeal.main_arg1)) →
    ∃ (v0 : (c : Dev Cert.ChamferIdeal.nD) → Buf (Elt Ideal) ((c.tc : Thread Cert.ChamferIdeal.nD Cert.ChamferIdeal.τ).loc Cert.ChamferIdeal.main_v48)) (v1 : (c : Dev Cert.ChamferIdeal.nD) → Buf (Elt Ideal) ((c.tc : Thread Cert.ChamferIdeal.nD Cert.ChamferIdeal.τ).loc Cert.ChamferIdeal.main_v52)),
      θ_run (Cert.ChamferIdeal.defs (F := Ideal)) (onTc (τ := Cert.ChamferIdeal.τ) (Cert.ChamferIdeal.main (F := Ideal))) ⟨m, fun _ => 0, g⟩ (fun r => ∀ c : Dev Cert.ChamferIdeal.nD,
          r.2.mem ((c.tc : Thread Cert.ChamferIdeal.nD Cert.ChamferIdeal.τ).loc Cert.ChamferIdeal.main_v48) = v0 c
          ∧ r.2.mem ((c.tc : Thread Cert.ChamferIdeal.nD Cert.ChamferIdeal.τ).loc Cert.ChamferIdeal.main_v52) = v1 c
          ∧ r.2.mem ((c.tc : Thread Cert.ChamferIdeal.nD Cert.ChamferIdeal.τ).loc Cert.ChamferIdeal.main_arg0) = m ((c.tc : Thread Cert.ChamferIdeal.nD Cert.ChamferIdeal.τ).loc Cert.ChamferIdeal.main_arg0)
          ∧ r.2.mem ((c.tc : Thread Cert.ChamferIdeal.nD Cert.ChamferIdeal.τ).loc Cert.ChamferIdeal.main_arg1) = m ((c.tc : Thread Cert.ChamferIdeal.nD Cert.ChamferIdeal.τ).loc Cert.ChamferIdeal.main_arg1))
      ∧ θ_run (Cert.ChamferReferenceIdeal.defs (F := Ideal)) (onTc (τ := Cert.ChamferReferenceIdeal.τ) (Cert.ChamferReferenceIdeal.main (F := Ideal))) ⟨m', fun _ => 0, g'⟩ (fun r => ∀ c : Dev Cert.ChamferReferenceIdeal.nD,
          r.2.mem ((c.tc : Thread Cert.ChamferReferenceIdeal.nD Cert.ChamferReferenceIdeal.τ).loc Cert.ChamferReferenceIdeal.main_v23) = v0 c
          ∧ r.2.mem ((c.tc : Thread Cert.ChamferReferenceIdeal.nD Cert.ChamferReferenceIdeal.τ).loc Cert.ChamferReferenceIdeal.main_v53) = v1 c
          ∧ r.2.mem ((c.tc : Thread Cert.ChamferReferenceIdeal.nD Cert.ChamferReferenceIdeal.τ).loc Cert.ChamferReferenceIdeal.main_arg0) = m' ((c.tc : Thread Cert.ChamferReferenceIdeal.nD Cert.ChamferReferenceIdeal.τ).loc Cert.ChamferReferenceIdeal.main_arg0)
          ∧ r.2.mem ((c.tc : Thread Cert.ChamferReferenceIdeal.nD Cert.ChamferReferenceIdeal.τ).loc Cert.ChamferReferenceIdeal.main_arg1) = m' ((c.tc : Thread Cert.ChamferReferenceIdeal.nD Cert.ChamferReferenceIdeal.τ).loc Cert.ChamferReferenceIdeal.main_arg1))

def Claim : Prop :=
  ∃ (hKernel : Cert.Kernel.Facts) (hKernelIdeal : Cert.KernelIdeal.Facts) (hReferenceIdeal : Cert.ReferenceIdeal.Facts) (hChamfer : Cert.Chamfer.Facts) (hChamferIdeal : Cert.ChamferIdeal.Facts) (hChamferReferenceIdeal : Cert.ChamferReferenceIdeal.Facts) (hPre_faces_in_range : Cert.Pre_faces_in_range.Facts) (hPre_below_big : Cert.Pre_below_big.Facts),
    quiescent_Kernel (hKernel := hKernel) (hPre_faces_in_range := hPre_faces_in_range)
    ∧ quiescent_KernelIdeal (hKernelIdeal := hKernelIdeal) (hPre_faces_in_range := hPre_faces_in_range)
    ∧ quiescent_ReferenceIdeal (hReferenceIdeal := hReferenceIdeal)
    ∧ quiescent_ReferenceIdeal_pre_faces_in_range (hReferenceIdeal := hReferenceIdeal) (hPre_faces_in_range := hPre_faces_in_range)
    ∧ quiescent_Chamfer (hChamfer := hChamfer)
    ∧ quiescent_ChamferIdeal (hChamferIdeal := hChamferIdeal)
    ∧ quiescent_ChamferIdeal_pre_below_big (hChamferIdeal := hChamferIdeal) (hPre_below_big := hPre_below_big)
    ∧ quiescent_ChamferReferenceIdeal (hChamferReferenceIdeal := hChamferReferenceIdeal)
    ∧ quiescent_ChamferReferenceIdeal_pre_below_big (hChamferReferenceIdeal := hChamferReferenceIdeal) (hPre_below_big := hPre_below_big)
    ∧ preserves_Kernel_KernelIdeal
    ∧ algebraic_KernelIdeal_ReferenceIdeal (hKernelIdeal := hKernelIdeal) (hReferenceIdeal := hReferenceIdeal) (hPre_faces_in_range := hPre_faces_in_range)
    ∧ preserves_Chamfer_ChamferIdeal
    ∧ algebraic_ChamferIdeal_ChamferReferenceIdeal_pre_below_big (hChamferIdeal := hChamferIdeal) (hChamferReferenceIdeal := hChamferReferenceIdeal) (hPre_below_big := hPre_below_big)
-- ==== Pre_below_big.lean ====
abbrev S4x2048x3 : Shape := ⟨3, ![4, 2048, 3]⟩
abbrev S_ : Shape := ⟨0, ![]⟩

class Facts : Prop where
  bcast_S_S4x2048x3 : S_.BroadcastsInDim S4x2048x3 (![] : Fin 0 → Fin S4x2048x3.rank)
  reducesTo_S4x2048x3_S_d0_1_2 : S4x2048x3.ReducesTo [0, 1, 2] S_
  h_S_ : 0 < S_.numel

variable [Facts]

def fn {F : FTy → Type} [FloatOps F] (main_arg0 : FVec F S4x2048x3 .f32) (main_arg1 : FVec F S4x2048x3 .f32) : IVec S_ 1 :=
  let main_v0 : FVec F S4x2048x3 .f32 := Host.absf main_arg0
  let main_cst : FVec F S_ .f32 := constant S_ .f32 0x56B5E621#32
  let main_v1 : FVec F S4x2048x3 .f32 := broadcastInDim S4x2048x3 ![] bcast_S_S4x2048x3 main_cst
  let main_v2 : IVec S4x2048x3 1 := cmpf .ole main_v0 main_v1
  let main_c : IVec S_ 1 := constantI S_ 1 1#1
  let main_v3 : IVec S_ 1 := (fun x v => Host.reduce IntOp.andi x v reducesTo_S4x2048x3_S_d0_1_2 h_S_) main_v2 main_c
  let main_v4 : FVec F S4x2048x3 .f32 := Host.absf main_arg1
  let main_cst_0 : FVec F S_ .f32 := constant S_ .f32 0x56B5E621#32
  let main_v5 : FVec F S4x2048x3 .f32 := broadcastInDim S4x2048x3 ![] bcast_S_S4x2048x3 main_cst_0
  let main_v6 : IVec S4x2048x3 1 := cmpf .ole main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  main_v8
-- ==== Pre_faces_in_range.lean ====
abbrev S4x2048x3 : Shape := ⟨3, ![4, 2048, 3]⟩
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x2048x3 .f32) (main_arg1 : IVec S4x4096x3 32) : IVec S_ 1 :=
  let main_c : IVec S_ 32 := constantI S_ 32 0#32
  let main_v0 : IVec S4x4096x3 32 := broadcastInDim S4x4096x3 ![] bcast_S_S4x4096x3 main_c
  let main_v1 : IVec S4x4096x3 1 := cmpi .sge main_arg1 main_v0
  let main_c_0 : IVec S_ 32 := constantI S_ 32 2048#32
  let main_v2 : IVec S4x4096x3 32 := broadcastInDim S4x4096x3 ![] bcast_S_S4x4096x3 main_c_0
  let main_v3 : IVec S4x4096x3 1 := cmpi .slt main_arg1 main_v2
  let main_v4 : IVec S4x4096x3 1 := andi main_v1 main_v3
  let main_c_1 : IVec S_ 1 := constantI S_ 1 1#1
  let main_v5 : IVec S_ 1 := (fun x v => Host.reduce IntOp.andi x v reducesTo_S4x4096x3_S_d0_1_2 h_S_) main_v4 main_c_1
  main_v5
-- ==== Kernel.lean ====
abbrev S4x2048x3 : Shape := ⟨3, ![4, 2048, 3]⟩
abbrev S4x4096x3 : Shape := ⟨3, ![4, 4096, 3]⟩
abbrev S4x3x2048 : Shape := ⟨3, ![4, 3, 2048]⟩
abbrev S24576 : Shape := ⟨1, ![24576]⟩
abbrev S4x3x4096 : Shape := ⟨3, ![4, 3, 4096]⟩
abbrev S49152 : Shape := ⟨1, ![49152]⟩
abbrev S2560 : Shape := ⟨1, ![2560]⟩
abbrev S2048 : Shape := ⟨1, ![2048]⟩
abbrev S4096 : Shape := ⟨1, ![4096]⟩
abbrev S12288 : Shape := ⟨1, ![12288]⟩
abbrev S256 : Shape := ⟨1, ![256]⟩
abbrev S80 : Shape := ⟨1, ![80]⟩
abbrev S131072 : Shape := ⟨1, ![131072]⟩
abbrev S16 : Shape := ⟨1, ![16]⟩
abbrev S_ : Shape := ⟨0, ![]⟩
abbrev S512 : Shape := ⟨1, ![512]⟩
abbrev S4x8x5x16 : Shape := ⟨4, ![4, 8, 5, 16]⟩
abbrev S4x5 : Shape := ⟨2, ![4, 5]⟩
abbrev S4x1 : Shape := ⟨2, ![4, 1]⟩
abbrev S4 : Shape := ⟨1, ![4]⟩

abbrev nBuf : Table → Nat
  | .hbm => 51
  | .shared => 7
  | .local .scVector .vmem => 23
  | _ => 0

abbrev bufTy : (tb : Table) → Fin (nBuf tb) → BufTy
  | .hbm, ⟨0, _⟩ => ⟨S4x2048x3, .f32⟩
  | .hbm, ⟨1, _⟩ => ⟨S4x4096x3, .i32⟩
  | .hbm, ⟨2, _⟩ => ⟨S4x3x2048, .f32⟩
  | .hbm, ⟨3, _⟩ => ⟨S24576, .f32⟩
  | .hbm, ⟨4, _⟩ => ⟨S4x3x4096, .i32⟩
  | .hbm, ⟨5, _⟩ => ⟨S49152, .i32⟩
  | .hbm, ⟨6, _⟩ => ⟨S2560, .f32⟩
  | .hbm, ⟨7, _⟩ => ⟨S4x8x5x16, .f32⟩
  | .hbm, ⟨8, _⟩ => ⟨S_, .f32⟩
  | .hbm, ⟨9, _⟩ => ⟨S4x5, .f32⟩
  | .hbm, ⟨10, _⟩ => ⟨S4x1, .f32⟩
  | .hbm, ⟨11, _⟩ => ⟨S4, .f32⟩
  | .hbm, ⟨12, _⟩ => ⟨S4x1, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x1, .f32⟩
  | .hbm, ⟨23, _⟩ => ⟨S4, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x1, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .i1⟩
  | .hbm, ⟨35, _⟩ => ⟨S4x1, .f32⟩
  | .hbm, ⟨36, _⟩ => ⟨S4, .f32⟩
  | .hbm, ⟨37, _⟩ => ⟨S4x1, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .shared, ⟨0, _⟩ => ⟨S24576, .i32⟩
  | .shared, ⟨1, _⟩ => ⟨S24576, .i32⟩
  | .shared, ⟨2, _⟩ => ⟨S24576, .i32⟩
  | .shared, ⟨3, _⟩ => ⟨S24576, .i32⟩
  | .shared, ⟨4, _⟩ => ⟨S4096, .i32⟩
  | .shared, ⟨5, _⟩ => ⟨S4096, .i32⟩
  | .shared, ⟨6, _⟩ => ⟨S131072, .f32⟩
  | .local .scVector .vmem, ⟨0, _⟩ => ⟨S2048, .f32⟩
  | .local .scVector .vmem, ⟨1, _⟩ => ⟨S2048, .f32⟩
  | .local .scVector .vmem, ⟨2, _⟩ => ⟨S2048, .f32⟩
  | .local .scVector .vmem, ⟨3, _⟩ => ⟨S4096, .i32⟩
  | .local .scVector .vmem, ⟨4, _⟩ => ⟨S4096, .i32⟩
  | .local .scVector .vmem, ⟨5, _⟩ => ⟨S4096, .i32⟩
  | .local .scVector .vmem, ⟨6, _⟩ => ⟨S12288, .i32⟩
  | .local .scVector .vmem, ⟨7, _⟩ => ⟨S12288, .i32⟩
  | .local .scVector .vmem, ⟨8, _⟩ => ⟨S12288, .i32⟩
  | .local .scVector .vmem, ⟨9, _⟩ => ⟨S12288, .i32⟩
  | .local .scVector .vmem, ⟨10, _⟩ => ⟨S2048, .i32⟩
  | .local .scVector .vmem, ⟨11, _⟩ => ⟨S2048, .i32⟩
  | .local .scVector .vmem, ⟨12, _⟩ => ⟨S2048, .i32⟩
  | .local .scVector .vmem, ⟨13, _⟩ => ⟨S2048, .f32⟩
  | .local .scVector .vmem, ⟨14, _⟩ => ⟨S2048, .f32⟩
  | .local .scVector .vmem, ⟨15, _⟩ => ⟨S2048, .f32⟩
  | .local .scVector .vmem, ⟨16, _⟩ => ⟨S2048, .f32⟩
  | .local .scVector .vmem, ⟨17, _⟩ => ⟨S2048, .f32⟩
  | .local .scVector .vmem, ⟨18, _⟩ => ⟨S256, .f32⟩
  | .local .scVector .vmem, ⟨19, _⟩ => ⟨S256, .f32⟩
  | .local .scVector .vmem, ⟨20, _⟩ => ⟨S256, .f32⟩
  | .local .scVector .vmem, ⟨21, _⟩ => ⟨S256, .f32⟩
  | .local .scVector .vmem, ⟨22, _⟩ => ⟨S80, .f32⟩
  | _, _ => ⟨S4x2048x3, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 61 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | _ => false

abbrev sig : RefSig :=
  ofTables nBuf rfl bufTy 5 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch23 : Ref sig .scVector := ⟨.shared, 0, rfl⟩
abbrev cc0_scratch24 : Ref sig .scVector := ⟨.shared, 1, rfl⟩
abbrev cc0_scratch25 : Ref sig .scVector := ⟨.shared, 2, rfl⟩
abbrev cc0_scratch26 : Ref sig .scVector := ⟨.shared, 3, rfl⟩
abbrev cc0_scratch27 : Ref sig .scVector := ⟨.shared, 4, rfl⟩
abbrev cc0_scratch28 : Ref sig .scVector := ⟨.shared, 5, rfl⟩
abbrev cc0_scratch29 : Ref sig .scVector := ⟨.shared, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c2_i32 : BitVec 32 := 2#32
  let v2 : BitVec 32 := Scalar.muli arg0 c2_i32
  let arg1 : BitVec 32 := BitVec.ofNat 32 (i 1).val
  let c3_i32 : BitVec 32 := 3#32
  let v0 : BitVec 32 := Scalar.shrsi arg1 c3_i32
  let v3 : BitVec 32 := Scalar.addi v2 v0
  let c6144_i32 : BitVec 32 := 6144#32
  let v7 : BitVec 32 := Scalar.muli v3 c6144_i32
  ![v7.toNat]
def k0_off2 (i : grid0.Coords) (c2048_i32 : BitVec 32) : Fin 1 → Nat :=
  let arg0 : BitVec 32 := BitVec.ofNat 32 (i 0).val
  let c2_i32 : BitVec 32 := 2#32
  let v2 : BitVec 32 := Scalar.muli arg0 c2_i32
  let arg1 : BitVec 32 := BitVec.ofNat 32 (i 1).val
  let c3_i32 : BitVec 32 := 3#32
  let v0 : BitVec 32 := Scalar.shrsi arg1 c3_i32
  let v3 : BitVec 32 := Scalar.addi v2 v0
  let c6144_i32 : BitVec 32 := 6144#32
  let v7 : BitVec 32 := Scalar.muli v3 c6144_i32
  let v8 : BitVec 32 := Scalar.addi v7 c2048_i32
  ![v8.toNat]
def k0_off3 (i : grid0.Coords) : Fin 1 → Nat :=
  let arg0 : BitVec 32 := BitVec.ofNat 32 (i 0).val
  let c2_i32 : BitVec 32 := 2#32
  let v2 : BitVec 32 := Scalar.muli arg0 c2_i32
  let arg1 : BitVec 32 := BitVec.ofNat 32 (i 1).val
  let c3_i32 : BitVec 32 := 3#32
  let v0 : BitVec 32 := Scalar.shrsi arg1 c3_i32
  let v3 : BitVec 32 := Scalar.addi v2 v0
  let c12288_i32 : BitVec 32 := 12288#32
  let v10 : BitVec 32 := Scalar.muli v3 c12288_i32
  ![v10.toNat]
def k0_off4 (i : grid0.Coords) (c4096_i32_0 : BitVec 32) : Fin 1 → Nat :=
  let arg0 : BitVec 32 := BitVec.ofNat 32 (i 0).val
  let c2_i32 : BitVec 32 := 2#32
  let v2 : BitVec 32 := Scalar.muli arg0 c2_i32
  let arg1 : BitVec 32 := BitVec.ofNat 32 (i 1).val
  let c3_i32 : BitVec 32 := 3#32
  let v0 : BitVec 32 := Scalar.shrsi arg1 c3_i32
  let v3 : BitVec 32 := Scalar.addi v2 v0
  let c12288_i32 : BitVec 32 := 12288#32
  let v10 : BitVec 32 := Scalar.muli v3 c12288_i32
  let v11 : BitVec 32 := Scalar.addi v10 c4096_i32_0
  ![v11.toNat]
@[reducible] def k0_t1_loop : Scf.Loop 32 :=
  let c0_i32_2 : BitVec 32 := 0#32
  let c128_i32 : BitVec 32 := 128#32
  let v13 : BitVec 32 := Scalar.addi c0_i32_2 c128_i32
  let c1_i32 : BitVec 32 := 1#32
  ⟨c0_i32_2, v13, c1_i32⟩
def k0_off5 (k0_t1 : Fin k0_t1_loop.trips) : Fin 1 → Nat :=
  let c0_i32_2 : BitVec 32 := 0#32
  let c1_i32 : BitVec 32 := 1#32
  let arg35 : BitVec 32 := Scf.iv c0_i32_2 c1_i32 k0_t1
  let c16_i32_227 : BitVec 32 := 16#32
  let v280 : BitVec 32 := Scalar.muli arg35 c16_i32_227
  let v281 : Index := Scalar.indexCast v280
  ![v281.toNat]
@[reducible] def k0_t2_loop : Scf.Loop 32 :=
  let c0_i32_5 : BitVec 32 := 0#32
  let c32_i32 : BitVec 32 := 32#32
  let v16 : BitVec 32 := Scalar.addi c0_i32_5 c32_i32
  let c1_i32_6 : BitVec 32 := 1#32
  ⟨c0_i32_5, v16, c1_i32_6⟩
def k0_off6 (i : grid0.Coords) (k0_t2 : Fin k0_t2_loop.trips) : Fin 1 → Nat :=
  let arg1 : BitVec 32 := BitVec.ofNat 32 (i 1).val
  let c7_i32 : BitVec 32 := 7#32
  let v1 : BitVec 32 := Scalar.andi arg1 c7_i32
  let c512_i32 : BitVec 32 := 512#32
  let v15 : BitVec 32 := Scalar.muli v1 c512_i32
  let c0_i32_5 : BitVec 32 := 0#32
  let c1_i32_6 : BitVec 32 := 1#32
  let arg35 : BitVec 32 := Scf.iv c0_i32_5 c1_i32_6 k0_t2
  let c16_i32_227 : BitVec 32 := 16#32
  let v280 : BitVec 32 := Scalar.muli arg35 c16_i32_227
  let v281 : BitVec 32 := Scalar.addi v15 v280
  let v282 : Index := Scalar.indexCast v281
  ![v282.toNat]

def k0_chk3 (v287 : IVec S16 32) : Prop :=
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a)
theorem k0_idx7_inb : ∀ (v287 : IVec S16 32) (k0_hw3 : k0_chk3 v287), ∀ a x, ((![v287] : Fin 1 → IVec S16 32) a x).toNat < S2048.size a := fun v287 k0_hw3 => k0_hw3.1
theorem k0_idx8_inb : ∀ (v287 : IVec S16 32) (k0_hw3 : k0_chk3 v287), ∀ a x, ((![v287] : Fin 1 → IVec S16 32) a x).toNat < S2048.size a := fun v287 k0_hw3 => k0_hw3.2.1
theorem k0_idx9_inb : ∀ (v287 : IVec S16 32) (k0_hw3 : k0_chk3 v287), ∀ a x, ((![v287] : Fin 1 → IVec S16 32) a x).toNat < S2048.size a := fun v287 k0_hw3 => k0_hw3.2.2.1
theorem k0_idx14_inb : ∀ (v287 : IVec S16 32) (k0_hw3 : k0_chk3 v287), ∀ a x, ((![v287] : Fin 1 → IVec S16 32) a x).toNat < S2048.size a := fun v287 k0_hw3 => k0_hw3.2.2.2.1
theorem k0_idx15_inb : ∀ (v287 : IVec S16 32) (k0_hw3 : k0_chk3 v287), ∀ a x, ((![v287] : Fin 1 → IVec S16 32) a x).toNat < S2048.size a := fun v287 k0_hw3 => k0_hw3.2.2.2.2.1
theorem k0_idx16_inb : ∀ (v287 : IVec S16 32) (k0_hw3 : k0_chk3 v287), ∀ a x, ((![v287] : Fin 1 → IVec S16 32) a x).toNat < S2048.size a := fun v287 k0_hw3 => k0_hw3.2.2.2.2.2.1
theorem k0_idx17_inb : ∀ (v287 : IVec S16 32) (k0_hw3 : k0_chk3 v287), ∀ a x, ((![v287] : Fin 1 → IVec S16 32) a x).toNat < S2048.size a := fun v287 k0_hw3 => k0_hw3.2.2.2.2.2.2.1
theorem k0_idx18_inb : ∀ (v287 : IVec S16 32) (k0_hw3 : k0_chk3 v287), ∀ a x, ((![v287] : Fin 1 → IVec S16 32) a x).toNat < S2048.size a := fun v287 k0_hw3 => k0_hw3.2.2.2.2.2.2.2.1
theorem k0_idx19_inb : ∀ (v287 : IVec S16 32) (k0_hw3 : k0_chk3 v287), ∀ a x, ((![v287] : Fin 1 → IVec S16 32) a x).toNat < S2048.size a := fun v287 k0_hw3 => k0_hw3.2.2.2.2.2.2.2.2.1
theorem k0_idx20_inb : ∀ (v287 : IVec S16 32) (k0_hw3 : k0_chk3 v287), ∀ a x, ((![v287] : Fin 1 → IVec S16 32) a x).toNat < S2048.size a := fun v287 k0_hw3 => k0_hw3.2.2.2.2.2.2.2.2.2.1
theorem k0_idx21_inb : ∀ (v287 : IVec S16 32) (k0_hw3 : k0_chk3 v287), ∀ a x, ((![v287] : Fin 1 → IVec S16 32) a x).toNat < S2048.size a := fun v287 k0_hw3 => k0_hw3.2.2.2.2.2.2.2.2.2.2

def k0_chk1 (v283 : IVec S16 32) : Prop :=
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a) ∧
  (∀ a x, ((![v283] : Fin 1 → IVec S16 32) a x).toNat < S2048.size a)
theorem k0_idx1_inb : ∀ (v283 : IVec S16 32) (k0_hw1 : k0_chk1 v283), ∀ a x, ((![v283] : Fin 1 → IVec S16 32) a x).toNat < S2048.size a := fun v283 k0_hw1 => k0_hw1.1
theorem k0_idx2_inb : ∀ (v283 : IVec S16 32) (k0_hw1 : k0_chk1 v283), ∀ a x, ((![v283] : Fin 1 → IVec S16 32) a x).toNat < S2048.size a := fun v283 k0_hw1 => k0_hw1.2.1
theorem k0_idx3_inb : ∀ (v283 : IVec S16 32) (k0_hw1 : k0_chk1 v283), ∀ a x, ((![v283] : Fin 1 → IVec S16 32) a x).toNat < S2048.size a := fun v283 k0_hw1 => k0_hw1.2.2.1
theorem k0_idx22_inb : ∀ (v283 : IVec S16 32) (k0_hw1 : k0_chk1 v283), ∀ a x, ((![v283] : Fin 1 → IVec S16 32) a x).toNat < S2048.size a := fun v283 k0_hw1 => k0_hw1.2.2.2.1
theorem k0_idx23_inb : ∀ (v283 : IVec S16 32) (k0_hw1 : k0_chk1 v283), ∀ a x, ((![v283] : Fin 1 → IVec S16 32) a x).toNat < S2048.size a := fun v283 k0_hw1 => k0_hw1.2.2.2.2.1
theorem k0_idx24_inb : ∀ (v283 : IVec S16 32) (k0_hw1 : k0_chk1 v283), ∀ a x, ((![v283] : Fin 1 → IVec S16 32) a x).toNat < S2048.size a := fun v283 k0_hw1 => k0_hw1.2.2.2.2.2.1
theorem k0_idx25_inb : ∀ (v283 : IVec S16 32) (k0_hw1 : k0_chk1 v283), ∀ a x, ((![v283] : Fin 1 → IVec S16 32) a x).toNat < S2048.size a := fun v283 k0_hw1 => k0_hw1.2.2.2.2.2.2.1
theorem k0_idx26_inb : ∀ (v283 : IVec S16 32) (k0_hw1 : k0_chk1 v283), ∀ a x, ((![v283] : Fin 1 → IVec S16 32) a x).toNat < S2048.size a := fun v283 k0_hw1 => k0_hw1.2.2.2.2.2.2.2.1
theorem k0_idx27_inb : ∀ (v283 : IVec S16 32) (k0_hw1 : k0_chk1 v283), ∀ a x, ((![v283] : Fin 1 → IVec S16 32) a x).toNat < S2048.size a := fun v283 k0_hw1 => k0_hw1.2.2.2.2.2.2.2.2.1
theorem k0_idx28_inb : ∀ (v283 : IVec S16 32) (k0_hw1 : k0_chk1 v283), ∀ a x, ((![v283] : Fin 1 → IVec S16 32) a x).toNat < S2048.size a := fun v283 k0_hw1 => k0_hw1.2.2.2.2.2.2.2.2.2.1
theorem k0_idx29_inb : ∀ (v283 : IVec S16 32) (k0_hw1 : k0_chk1 v283), ∀ a x, ((![v283] : Fin 1 → IVec S16 32) a x).toNat < S2048.size a := fun v283 k0_hw1 => k0_hw1.2.2.2.2.2.2.2.2.2.2

def k0_chk2 (v285 : IVec S16 32) : Prop :=
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a) ∧
  (∀ a x, ((![v285] : Fin 1 → IVec S16 32) a x).toNat < S2048.size a)
theorem k0_idx4_inb : ∀ (v285 : IVec S16 32) (k0_hw2 : k0_chk2 v285), ∀ a x, ((![v285] : Fin 1 → IVec S16 32) a x).toNat < S2048.size a := fun v285 k0_hw2 => k0_hw2.1
theorem k0_idx5_inb : ∀ (v285 : IVec S16 32) (k0_hw2 : k0_chk2 v285), ∀ a x, ((![v285] : Fin 1 → IVec S16 32) a x).toNat < S2048.size a := fun v285 k0_hw2 => k0_hw2.2.1
theorem k0_idx6_inb : ∀ (v285 : IVec S16 32) (k0_hw2 : k0_chk2 v285), ∀ a x, ((![v285] : Fin 1 → IVec S16 32) a x).toNat < S2048.size a := fun v285 k0_hw2 => k0_hw2.2.2.1
theorem k0_idx10_inb : ∀ (v285 : IVec S16 32) (k0_hw2 : k0_chk2 v285), ∀ a x, ((![v285] : Fin 1 → IVec S16 32) a x).toNat < S2048.size a := fun v285 k0_hw2 => k0_hw2.2.2.2.1
theorem k0_idx11_inb : ∀ (v285 : IVec S16 32) (k0_hw2 : k0_chk2 v285), ∀ a x, ((![v285] : Fin 1 → IVec S16 32) a x).toNat < S2048.size a := fun v285 k0_hw2 => k0_hw2.2.2.2.2.1
theorem k0_idx12_inb : ∀ (v285 : IVec S16 32) (k0_hw2 : k0_chk2 v285), ∀ a x, ((![v285] : Fin 1 → IVec S16 32) a x).toNat < S2048.size a := fun v285 k0_hw2 => k0_hw2.2.2.2.2.2.1
theorem k0_idx13_inb : ∀ (v285 : IVec S16 32) (k0_hw2 : k0_chk2 v285), ∀ a x, ((![v285] : Fin 1 → IVec S16 32) a x).toNat < S2048.size a := fun v285 k0_hw2 => k0_hw2.2.2.2.2.2.2.1
theorem k0_idx30_inb : ∀ (v285 : IVec S16 32) (k0_hw2 : k0_chk2 v285), ∀ a x, ((![v285] : Fin 1 → IVec S16 32) a x).toNat < S2048.size a := fun v285 k0_hw2 => k0_hw2.2.2.2.2.2.2.2.1
theorem k0_idx31_inb : ∀ (v285 : IVec S16 32) (k0_hw2 : k0_chk2 v285), ∀ a x, ((![v285] : Fin 1 → IVec S16 32) a x).toNat < S2048.size a := fun v285 k0_hw2 => k0_hw2.2.2.2.2.2.2.2.2.1
theorem k0_idx32_inb : ∀ (v285 : IVec S16 32) (k0_hw2 : k0_chk2 v285), ∀ a x, ((![v285] : Fin 1 → IVec S16 32) a x).toNat < S2048.size a := fun v285 k0_hw2 => k0_hw2.2.2.2.2.2.2.2.2.2.1
theorem k0_idx33_inb : ∀ (v285 : IVec S16 32) (k0_hw2 : k0_chk2 v285), ∀ a x, ((![v285] : Fin 1 → IVec S16 32) a x).toNat < S2048.size a := fun v285 k0_hw2 => k0_hw2.2.2.2.2.2.2.2.2.2.2
def k0_off7 (i : grid0.Coords) (k0_t2 : Fin k0_t2_loop.trips) (c0_i32_234 : BitVec 32) : Fin 1 → Nat :=
  let arg1 : BitVec 32 := BitVec.ofNat 32 (i 1).val
  let c7_i32 : BitVec 32 := 7#32
  let v1 : BitVec 32 := Scalar.andi arg1 c7_i32
  let c512_i32 : BitVec 32 := 512#32
  let v15 : BitVec 32 := Scalar.muli v1 c512_i32
  let c0_i32_5 : BitVec 32 := 0#32
  let c1_i32_6 : BitVec 32 := 1#32
  let arg35 : BitVec 32 := Scf.iv c0_i32_5 c1_i32_6 k0_t2
  let c16_i32_227 : BitVec 32 := 16#32
  let v280 : BitVec 32 := Scalar.muli arg35 c16_i32_227
  let v281 : BitVec 32 := Scalar.addi v15 v280
  let v374 : BitVec 32 := Scalar.addi c0_i32_234 v281
  let v375 : Index := Scalar.indexCast v374
  ![v375.toNat]
def k0_off8 (i : grid0.Coords) (c0_i32_8 : BitVec 32) : Fin 1 → Nat :=
  let arg1 : BitVec 32 := BitVec.ofNat 32 (i 1).val
  let c7_i32 : BitVec 32 := 7#32
  let v1 : BitVec 32 := Scalar.andi arg1 c7_i32
  let c512_i32 : BitVec 32 := 512#32
  let v15 : BitVec 32 := Scalar.muli v1 c512_i32
  let v18 : BitVec 32 := Scalar.addi c0_i32_8 v15
  ![v18.toNat]
def k0_off9 (i : grid0.Coords) (c0_i32_8 : BitVec 32) : Fin 1 → Nat :=
  let arg1 : BitVec 32 := BitVec.ofNat 32 (i 1).val
  let c3_i32 : BitVec 32 := 3#32
  let v0 : BitVec 32 := Scalar.shrsi arg1 c3_i32
  let c12288_i32_9 : BitVec 32 := 12288#32
  let v19 : BitVec 32 := Scalar.muli v0 c12288_i32_9
  let c7_i32 : BitVec 32 := 7#32
  let v1 : BitVec 32 := Scalar.andi arg1 c7_i32
  let c512_i32 : BitVec 32 := 512#32
  let v15 : BitVec 32 := Scalar.muli v1 c512_i32
  let v18 : BitVec 32 := Scalar.addi c0_i32_8 v15
  let v20 : BitVec 32 := Scalar.addi v19 v18
  ![v20.toNat]
def k0_off10 (i : grid0.Coords) (c0_i32_20 : BitVec 32) : Fin 1 → Nat :=
  let arg1 : BitVec 32 := BitVec.ofNat 32 (i 1).val
  let c3_i32 : BitVec 32 := 3#32
  let v0 : BitVec 32 := Scalar.shrsi arg1 c3_i32
  let c8_i32 : BitVec 32 := 8#32
  let v39 : BitVec 32 := Scalar.muli v0 c8_i32
  let c7_i32 : BitVec 32 := 7#32
  let v1 : BitVec 32 := Scalar.andi arg1 c7_i32
  let v40 : BitVec 32 := Scalar.addi v39 v1
  let c4_i32 : BitVec 32 := 4#32
  let v41 : BitVec 32 := Scalar.muli v40 c4_i32
  let v42 : BitVec 32 := Scalar.addi v41 c0_i32_20
  let c2048_i32_21 : BitVec 32 := 2048#32
  let v43 : BitVec 32 := Scalar.muli v42 c2048_i32_21
  ![v43.toNat]
def k0_cond1 (i : grid0.Coords) : BitVec 1 :=
  let arg1 : BitVec 32 := BitVec.ofNat 32 (i 1).val
  let c7_i32 : BitVec 32 := 7#32
  let v1 : BitVec 32 := Scalar.andi arg1 c7_i32
  let c0_i32_34 : BitVec 32 := 0#32
  let v59 : BitVec 1 := Scalar.cmpi .eq v1 c0_i32_34
  let v_true : BitVec 1 := 1#1
  let v60 : BitVec 1 := Scalar.andi v59 v_true
  let v61 : BitVec 32 := Scalar.extui v60
  let c0_i32_35 : BitVec 32 := 0#32
  let v62 : BitVec 1 := Scalar.cmpi .ne v61 c0_i32_35
  v62

def k0_off11 (i : grid0.Coords) : Fin 1 → Nat :=
  let arg1 : BitVec 32 := BitVec.ofNat 32 (i 1).val
  let c3_i32 : BitVec 32 := 3#32
  let v0 : BitVec 32 := Scalar.shrsi arg1 c3_i32
  let c12288_i32_227 : BitVec 32 := 12288#32
  let v280 : BitVec 32 := Scalar.muli v0 c12288_i32_227
  ![v280.toNat]
@[reducible] def k0_t3_loop : Scf.Loop 32 :=
  let c0_i32_230 : BitVec 32 := 0#32
  let c128_i32_231 : BitVec 32 := 128#32
  let v282 : BitVec 32 := Scalar.addi c0_i32_230 c128_i32_231
  let c1_i32_232 : BitVec 32 := 1#32
  ⟨c0_i32_230, v282, c1_i32_232⟩
def k0_off12 (k0_t3 : Fin k0_t3_loop.trips) : Fin 1 → Nat :=
  let c0_i32_230 : BitVec 32 := 0#32
  let c1_i32_232 : BitVec 32 := 1#32
  let arg35 : BitVec 32 := Scf.iv c0_i32_230 c1_i32_232 k0_t3
  let c16_i32_251 : BitVec 32 := 16#32
  let v293 : BitVec 32 := Scalar.muli arg35 c16_i32_251
  let v294 : Index := Scalar.indexCast v293
  ![v294.toNat]
@[reducible] def k0_t4_loop : Scf.Loop 32 :=
  let c0_i32_235 : BitVec 32 := 0#32
  let c768_i32 : BitVec 32 := 768#32
  let v284 : BitVec 32 := Scalar.addi c0_i32_235 c768_i32
  let c1_i32_236 : BitVec 32 := 1#32
  ⟨c0_i32_235, v284, c1_i32_236⟩
def k0_off13 (k0_t4 : Fin k0_t4_loop.trips) : Fin 1 → Nat :=
  let c0_i32_235 : BitVec 32 := 0#32
  let c1_i32_236 : BitVec 32 := 1#32
  let arg35 : BitVec 32 := Scf.iv c0_i32_235 c1_i32_236 k0_t4
  let c16_i32_251 : BitVec 32 := 16#32
  let v293 : BitVec 32 := Scalar.muli arg35 c16_i32_251
  let v294 : Index := Scalar.indexCast v293
  ![v294.toNat]

def k0_chk4 (i : grid0.Coords) (v295 : IVec S16 32) : Prop :=
  (∀ (k0_h1 : k0_cond1 i = 1#1), ∀ a x, ((![v295] : Fin 1 → IVec S16 32) a x).toNat < S2048.size a)
theorem k0_idx34_inb : ∀ (i : grid0.Coords) (v295 : IVec S16 32) (k0_hw4 : k0_chk4 i v295), ∀ (k0_h1 : k0_cond1 i = 1#1), ∀ a x, ((![v295] : Fin 1 → IVec S16 32) a x).toNat < S2048.size a := fun i v295 k0_hw4 k0_h1 => k0_hw4 k0_h1
@[reducible] def k0_t5_loop : Scf.Loop 32 :=
  let c0_i32_239 : BitVec 32 := 0#32
  let c128_i32_240 : BitVec 32 := 128#32
  let v286 : BitVec 32 := Scalar.addi c0_i32_239 c128_i32_240
  let c1_i32_241 : BitVec 32 := 1#32
  ⟨c0_i32_239, v286, c1_i32_241⟩
def k0_off14 (k0_t5 : Fin k0_t5_loop.trips) : Fin 1 → Nat :=
  let c0_i32_239 : BitVec 32 := 0#32
  let c1_i32_241 : BitVec 32 := 1#32
  let arg35 : BitVec 32 := Scf.iv c0_i32_239 c1_i32_241 k0_t5
  let c16_i32_251 : BitVec 32 := 16#32
  let v293 : BitVec 32 := Scalar.muli arg35 c16_i32_251
  let v294 : Index := Scalar.indexCast v293
  ![v294.toNat]
@[reducible] def k0_t6_loop : Scf.Loop 32 :=
  let c0_i32_244 : BitVec 32 := 0#32
  let c768_i32_245 : BitVec 32 := 768#32
  let v288 : BitVec 32 := Scalar.addi c0_i32_244 c768_i32_245
  let c1_i32_246 : BitVec 32 := 1#32
  ⟨c0_i32_244, v288, c1_i32_246⟩
def k0_off15 (k0_t6 : Fin k0_t6_loop.trips) : Fin 1 → Nat :=
  let c0_i32_244 : BitVec 32 := 0#32
  let c1_i32_246 : BitVec 32 := 1#32
  let arg35 : BitVec 32 := Scf.iv c0_i32_244 c1_i32_246 k0_t6
  let c16_i32_251 : BitVec 32 := 16#32
  let v293 : BitVec 32 := Scalar.muli arg35 c16_i32_251
  let v294 : Index := Scalar.indexCast v293
  ![v294.toNat]

def k0_chk6 (i : grid0.Coords) (v303 : IVec S16 32) : Prop :=
  (∀ (k0_h1 : k0_cond1 i = 1#1), ∀ a x, ((![v303] : Fin 1 → IVec S16 32) a x).toNat < S12288.size a)
theorem k0_idx36_inb : ∀ (i : grid0.Coords) (v303 : IVec S16 32) (k0_hw6 : k0_chk6 i v303), ∀ (k0_h1 : k0_cond1 i = 1#1), ∀ a x, ((![v303] : Fin 1 → IVec S16 32) a x).toNat < S12288.size a := fun i v303 k0_hw6 k0_h1 => k0_hw6 k0_h1

def k0_chk5 (i : grid0.Coords) (v295 : IVec S16 32) : Prop :=
  (∀ (k0_h1 : k0_cond1 i = 1#1), ∀ a x, ((![v295] : Fin 1 → IVec S16 32) a x).toNat < S2048.size a) ∧
  (∀ (k0_h1 : k0_cond1 i = 1#1), ∀ a x, ((![v295] : Fin 1 → IVec S16 32) a x).toNat < S2048.size a)
theorem k0_idx35_inb : ∀ (i : grid0.Coords) (v295 : IVec S16 32) (k0_hw5 : k0_chk5 i v295), ∀ (k0_h1 : k0_cond1 i = 1#1), ∀ a x, ((![v295] : Fin 1 → IVec S16 32) a x).toNat < S2048.size a := fun i v295 k0_hw5 k0_h1 => k0_hw5.1 k0_h1
theorem k0_idx37_inb : ∀ (i : grid0.Coords) (v295 : IVec S16 32) (k0_hw5 : k0_chk5 i v295), ∀ (k0_h1 : k0_cond1 i = 1#1), ∀ a x, ((![v295] : Fin 1 → IVec S16 32) a x).toNat < S2048.size a := fun i v295 k0_hw5 k0_h1 => k0_hw5.2 k0_h1
def k0_off16 (i : grid0.Coords) : Fin 1 → Nat :=
  let arg1 : BitVec 32 := BitVec.ofNat 32 (i 1).val
  let c3_i32 : BitVec 32 := 3#32
  let v0 : BitVec 32 := Scalar.shrsi arg1 c3_i32
  let c2048_i32_249 : BitVec 32 := 2048#32
  let v291 : BitVec 32 := Scalar.muli v0 c2048_i32_249
  ![v291.toNat]
def k0_off17 (i : grid0.Coords) (c0_i32_37 : BitVec 32) (c0_i32_39 : BitVec 32) : Fin 1 → Nat :=
  let arg1 : BitVec 32 := BitVec.ofNat 32 (i 1).val
  let c3_i32 : BitVec 32 := 3#32
  let v0 : BitVec 32 := Scalar.shrsi arg1 c3_i32
  let c8_i32_36 : BitVec 32 := 8#32
  let v64 : BitVec 32 := Scalar.muli v0 c8_i32_36
  let v65 : BitVec 32 := Scalar.addi v64 c0_i32_37
  let c4_i32_38 : BitVec 32 := 4#32
  let v66 : BitVec 32 := Scalar.muli v65 c4_i32_38
  let v67 : BitVec 32 := Scalar.addi v66 c0_i32_39
  let c2048_i32_40 : BitVec 32 := 2048#32
  let v68 : BitVec 32 := Scalar.muli v67 c2048_i32_40
  let c7_i32 : BitVec 32 := 7#32
  let v1 : BitVec 32 := Scalar.andi arg1 c7_i32
  let c256_i32 : BitVec 32 := 256#32
  let v63 : BitVec 32 := Scalar.muli v1 c256_i32
  let v69 : BitVec 32 := Scalar.addi v68 v63
  ![v69.toNat]
@[reducible] def k0_t7_loop : Scf.Loop 32 :=
  let c0_i32_75 : BitVec 32 := 0#32
  let c16_i32 : BitVec 32 := 16#32
  let v112 : BitVec 32 := Scalar.addi c0_i32_75 c16_i32
  let c1_i32_76 : BitVec 32 := 1#32
  ⟨c0_i32_75, v112, c1_i32_76⟩
def k0_off18 (k0_t7 : Fin k0_t7_loop.trips) : Fin 1 → Nat :=
  let c0_i32_75 : BitVec 32 := 0#32
  let c1_i32_76 : BitVec 32 := 1#32
  let arg35 : BitVec 32 := Scf.iv c0_i32_75 c1_i32_76 k0_t7
  let c16_i32_227 : BitVec 32 := 16#32
  let v280 : BitVec 32 := Scalar.muli arg35 c16_i32_227
  let v281 : Index := Scalar.indexCast v280
  ![v281.toNat]
def k0_off19 (k0_t7 : Fin k0_t7_loop.trips) (c256_i32_229 : BitVec 32) : Fin 1 → Nat :=
  let c0_i32_75 : BitVec 32 := 0#32
  let c1_i32_76 : BitVec 32 := 1#32
  let arg35 : BitVec 32 := Scf.iv c0_i32_75 c1_i32_76 k0_t7
  let c16_i32_228 : BitVec 32 := 16#32
  let v283 : BitVec 32 := Scalar.muli arg35 c16_i32_228
  let v284 : BitVec 32 := Scalar.addi c256_i32_229 v283
  let v285 : Index := Scalar.indexCast v284
  ![v285.toNat]
def k0_off20 (k0_t7 : Fin k0_t7_loop.trips) : Fin 1 → Nat :=
  let c0_i32_75 : BitVec 32 := 0#32
  let c1_i32_76 : BitVec 32 := 1#32
  let arg35 : BitVec 32 := Scf.iv c0_i32_75 c1_i32_76 k0_t7
  let c16_i32_237 : BitVec 32 := 16#32
  let v318 : BitVec 32 := Scalar.muli arg35 c16_i32_237
  let v319 : Index := Scalar.indexCast v318
  ![v319.toNat]
@[reducible] def k0_t8_loop : Scf.Loop 32 :=
  let c0_i32_119 : BitVec 32 := 0#32
  let c16_i32_120 : BitVec 32 := 16#32
  let v162 : BitVec 32 := Scalar.addi c0_i32_119 c16_i32_120
  let c1_i32_121 : BitVec 32 := 1#32
  ⟨c0_i32_119, v162, c1_i32_121⟩
def k0_off21 (k0_t8 : Fin k0_t8_loop.trips) : Fin 1 → Nat :=
  let c0_i32_119 : BitVec 32 := 0#32
  let c1_i32_121 : BitVec 32 := 1#32
  let arg35 : BitVec 32 := Scf.iv c0_i32_119 c1_i32_121 k0_t8
  let c16_i32_227 : BitVec 32 := 16#32
  let v280 : BitVec 32 := Scalar.muli arg35 c16_i32_227
  let v281 : Index := Scalar.indexCast v280
  ![v281.toNat]
def k0_off22 (k0_t8 : Fin k0_t8_loop.trips) (c256_i32_229 : BitVec 32) : Fin 1 → Nat :=
  let c0_i32_119 : BitVec 32 := 0#32
  let c1_i32_121 : BitVec 32 := 1#32
  let arg35 : BitVec 32 := Scf.iv c0_i32_119 c1_i32_121 k0_t8
  let c16_i32_228 : BitVec 32 := 16#32
  let v283 : BitVec 32 := Scalar.muli arg35 c16_i32_228
  let v284 : BitVec 32 := Scalar.addi c256_i32_229 v283
  let v285 : Index := Scalar.indexCast v284
  ![v285.toNat]
def k0_off23 (k0_t8 : Fin k0_t8_loop.trips) : Fin 1 → Nat :=
  let c0_i32_119 : BitVec 32 := 0#32
  let c1_i32_121 : BitVec 32 := 1#32
  let arg35 : BitVec 32 := Scf.iv c0_i32_119 c1_i32_121 k0_t8
  let c16_i32_237 : BitVec 32 := 16#32
  let v318 : BitVec 32 := Scalar.muli arg35 c16_i32_237
  let v319 : Index := Scalar.indexCast v318
  ![v319.toNat]
@[reducible] def k0_t9_loop : Scf.Loop 32 :=
  let c0_i32_164 : BitVec 32 := 0#32
  let c16_i32_165 : BitVec 32 := 16#32
  let v212 : BitVec 32 := Scalar.addi c0_i32_164 c16_i32_165
  let c1_i32_166 : BitVec 32 := 1#32
  ⟨c0_i32_164, v212, c1_i32_166⟩
def k0_off24 (k0_t9 : Fin k0_t9_loop.trips) : Fin 1 → Nat :=
  let c0_i32_164 : BitVec 32 := 0#32
  let c1_i32_166 : BitVec 32 := 1#32
  let arg35 : BitVec 32 := Scf.iv c0_i32_164 c1_i32_166 k0_t9
  let c16_i32_227 : BitVec 32 := 16#32
  let v280 : BitVec 32 := Scalar.muli arg35 c16_i32_227
  let v281 : Index := Scalar.indexCast v280
  ![v281.toNat]
def k0_off25 (k0_t9 : Fin k0_t9_loop.trips) (c256_i32_229 : BitVec 32) : Fin 1 → Nat :=
  let c0_i32_164 : BitVec 32 := 0#32
  let c1_i32_166 : BitVec 32 := 1#32
  let arg35 : BitVec 32 := Scf.iv c0_i32_164 c1_i32_166 k0_t9
  let c16_i32_228 : BitVec 32 := 16#32
  let v283 : BitVec 32 := Scalar.muli arg35 c16_i32_228
  let v284 : BitVec 32 := Scalar.addi c256_i32_229 v283
  let v285 : Index := Scalar.indexCast v284
  ![v285.toNat]
def k0_off26 (k0_t9 : Fin k0_t9_loop.trips) : Fin 1 → Nat :=
  let c0_i32_164 : BitVec 32 := 0#32
  let c1_i32_166 : BitVec 32 := 1#32
  let arg35 : BitVec 32 := Scf.iv c0_i32_164 c1_i32_166 k0_t9
  let c16_i32_237 : BitVec 32 := 16#32
  let v318 : BitVec 32 := Scalar.muli arg35 c16_i32_237
  let v319 : Index := Scalar.indexCast v318
  ![v319.toNat]
@[reducible] def k0_t10_loop : Scf.Loop 32 :=
  let c0_i32_209 : BitVec 32 := 0#32
  let c16_i32_210 : BitVec 32 := 16#32
  let v262 : BitVec 32 := Scalar.addi c0_i32_209 c16_i32_210
  let c1_i32_211 : BitVec 32 := 1#32
  ⟨c0_i32_209, v262, c1_i32_211⟩
def k0_off27 (k0_t10 : Fin k0_t10_loop.trips) : Fin 1 → Nat :=
  let c0_i32_209 : BitVec 32 := 0#32
  let c1_i32_211 : BitVec 32 := 1#32
  let arg35 : BitVec 32 := Scf.iv c0_i32_209 c1_i32_211 k0_t10
  let c16_i32_227 : BitVec 32 := 16#32
  let v280 : BitVec 32 := Scalar.muli arg35 c16_i32_227
  let v281 : Index := Scalar.indexCast v280
  ![v281.toNat]
def k0_off28 (k0_t10 : Fin k0_t10_loop.trips) (c256_i32_229 : BitVec 32) : Fin 1 → Nat :=
  let c0_i32_209 : BitVec 32 := 0#32
  let c1_i32_211 : BitVec 32 := 1#32
  let arg35 : BitVec 32 := Scf.iv c0_i32_209 c1_i32_211 k0_t10
  let c16_i32_228 : BitVec 32 := 16#32
  let v283 : BitVec 32 := Scalar.muli arg35 c16_i32_228
  let v284 : BitVec 32 := Scalar.addi c256_i32_229 v283
  let v285 : Index := Scalar.indexCast v284
  ![v285.toNat]
def k0_off29 (k0_t10 : Fin k0_t10_loop.trips) : Fin 1 → Nat :=
  let c0_i32_209 : BitVec 32 := 0#32
  let c1_i32_211 : BitVec 32 := 1#32
  let arg35 : BitVec 32 := Scf.iv c0_i32_209 c1_i32_211 k0_t10
  let c16_i32_237 : BitVec 32 := 16#32
  let v318 : BitVec 32 := Scalar.muli arg35 c16_i32_237
  let v319 : Index := Scalar.indexCast v318
  ![v319.toNat]
@[reducible] def k0_t11_loop : Scf.Loop 32 :=
  let c0_i32_213 : BitVec 32 := 0#32
  let c16_i32_214 : BitVec 32 := 16#32
  let v264 : BitVec 32 := Scalar.addi c0_i32_213 c16_i32_214
  let c1_i32_215 : BitVec 32 := 1#32
  ⟨c0_i32_213, v264, c1_i32_215⟩
def k0_off30 (k0_t11 : Fin k0_t11_loop.trips) : Fin 1 → Nat :=
  let c0_i32_213 : BitVec 32 := 0#32
  let c1_i32_215 : BitVec 32 := 1#32
  let arg35 : BitVec 32 := Scf.iv c0_i32_213 c1_i32_215 k0_t11
  let c16_i32_227 : BitVec 32 := 16#32
  let v280 : BitVec 32 := Scalar.muli arg35 c16_i32_227
  let v281 : Index := Scalar.indexCast v280
  ![v281.toNat]
def k0_off31 (i : grid0.Coords) (k0_t11 : Fin k0_t11_loop.trips) : Fin 1 → Nat :=
  let arg1 : BitVec 32 := BitVec.ofNat 32 (i 1).val
  let c7_i32 : BitVec 32 := 7#32
  let v1 : BitVec 32 := Scalar.andi arg1 c7_i32
  let c256_i32 : BitVec 32 := 256#32
  let v63 : BitVec 32 := Scalar.muli v1 c256_i32
  let c0_i32_213 : BitVec 32 := 0#32
  let c1_i32_215 : BitVec 32 := 1#32
  let arg35 : BitVec 32 := Scf.iv c0_i32_213 c1_i32_215 k0_t11
  let c16_i32_233 : BitVec 32 := 16#32
  let v293 : BitVec 32 := Scalar.muli arg35 c16_i32_233
  let v294 : BitVec 32 := Scalar.addi v63 v293
  let v295 : Index := Scalar.indexCast v294
  ![v295.toNat]
def k0_off32 (i : grid0.Coords) : Fin 1 → Nat :=
  let arg1 : BitVec 32 := BitVec.ofNat 32 (i 1).val
  let c3_i32 : BitVec 32 := 3#32
  let v0 : BitVec 32 := Scalar.shrsi arg1 c3_i32
  let c12288_i32_218 : BitVec 32 := 12288#32
  let v266 : BitVec 32 := Scalar.muli v0 c12288_i32_218
  ![v266.toNat]
def k0_off33 (i : grid0.Coords) : Fin 1 → Nat :=
  let arg1 : BitVec 32 := BitVec.ofNat 32 (i 1).val
  let c3_i32 : BitVec 32 := 3#32
  let v0 : BitVec 32 := Scalar.shrsi arg1 c3_i32
  let c2048_i32_219 : BitVec 32 := 2048#32
  let v267 : BitVec 32 := Scalar.muli v0 c2048_i32_219
  ![v267.toNat]
@[reducible] def k0_t12_loop : Scf.Loop 32 :=
  let c0_i32_222 : BitVec 32 := 0#32
  let c96_i32 : BitVec 32 := 96#32
  let v270 : BitVec 32 := Scalar.addi c0_i32_222 c96_i32
  let c1_i32_223 : BitVec 32 := 1#32
  ⟨c0_i32_222, v270, c1_i32_223⟩
def k0_off34 (i : grid0.Coords) (k0_t12 : Fin k0_t12_loop.trips) : Fin 1 → Nat :=
  let c0_i32_222 : BitVec 32 := 0#32
  let c1_i32_223 : BitVec 32 := 1#32
  let arg35 : BitVec 32 := Scf.iv c0_i32_222 c1_i32_223 k0_t12
  let c5_i32_227 : BitVec 32 := 5#32
  let v280 : BitVec 32 := Scalar.shrsi arg35 c5_i32_227
  let c4096_i32_228 : BitVec 32 := 4096#32
  let v281 : BitVec 32 := Scalar.muli v280 c4096_i32_228
  let arg1 : BitVec 32 := BitVec.ofNat 32 (i 1).val
  let c7_i32 : BitVec 32 := 7#32
  let v1 : BitVec 32 := Scalar.andi arg1 c7_i32
  let c512_i32 : BitVec 32 := 512#32
  let v15 : BitVec 32 := Scalar.muli v1 c512_i32
  let v282 : BitVec 32 := Scalar.addi v281 v15
  let c31_i32 : BitVec 32 := 31#32
  let v283 : BitVec 32 := Scalar.andi arg35 c31_i32
  let c16_i32_229 : BitVec 32 := 16#32
  let v284 : BitVec 32 := Scalar.muli v283 c16_i32_229
  let v285 : BitVec 32 := Scalar.addi v282 v284
  let v286 : Index := Scalar.indexCast v285
  ![v286.toNat]
@[reducible] def k0_t13_loop (v302 : BitVec 32) : Scf.Loop 32 :=
  let c0_i32_231 : BitVec 32 := 0#32
  let v304 : BitVec 32 := Scalar.subi v302 c0_i32_231
  let c1_i32_232 : BitVec 32 := 1#32
  let v306 : BitVec 32 := Scalar.divsi v304 c1_i32_232
  let v307 : BitVec 32 := Scalar.muli v306 c1_i32_232
  let v308 : BitVec 32 := Scalar.addi c0_i32_231 v307
  let c1_i32_233 : BitVec 32 := 1#32
  ⟨c0_i32_231, v308, c1_i32_233⟩

def k0_chk9 (v414 : IVec S16 32) : Prop :=
  (∀ a x, ((![v414] : Fin 1 → IVec S16 32) a x).toNat < S12288.size a)
theorem k0_idx40_inb : ∀ (v414 : IVec S16 32) (k0_hw9 : k0_chk9 v414), ∀ a x, ((![v414] : Fin 1 → IVec S16 32) a x).toNat < S12288.size a := fun v414 k0_hw9 => k0_hw9
@[reducible] def k0_t14_loop (v302 : BitVec 32) : Scf.Loop 32 :=
  let c0_i32_231 : BitVec 32 := 0#32
  let v304 : BitVec 32 := Scalar.subi v302 c0_i32_231
  let c1_i32_232 : BitVec 32 := 1#32
  let v306 : BitVec 32 := Scalar.divsi v304 c1_i32_232
  let v307 : BitVec 32 := Scalar.muli v306 c1_i32_232
  let v308 : BitVec 32 := Scalar.addi c0_i32_231 v307
  let v305 : BitVec 32 := Scalar.addi c0_i32_231 v304
  let c1_i32_234 : BitVec 32 := 1#32
  ⟨v308, v305, c1_i32_234⟩

def k0_chk8 (v302 : BitVec 32) : Prop :=
  ((k0_t13_loop v302).OK) ∧
  ((k0_t14_loop v302).OK)
theorem k0_t13_ok : ∀ (v302 : BitVec 32) (k0_hw8 : k0_chk8 v302), (k0_t13_loop v302).OK := fun v302 k0_hw8 => k0_hw8.1
theorem k0_t14_ok : ∀ (v302 : BitVec 32) (k0_hw8 : k0_chk8 v302), (k0_t14_loop v302).OK := fun v302 k0_hw8 => k0_hw8.2

def k0_chk10 (v414 : IVec S16 32) : Prop :=
  (∀ a x, ((![v414] : Fin 1 → IVec S16 32) a x).toNat < S12288.size a)
theorem k0_idx41_inb : ∀ (v414 : IVec S16 32) (k0_hw10 : k0_chk10 v414), ∀ a x, ((![v414] : Fin 1 → IVec S16 32) a x).toNat < S12288.size a := fun v414 k0_hw10 => k0_hw10

def k0_chk7 (v287 : IVec S16 32) : Prop :=
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a) ∧
  (∀ a x, ((![v287] : Fin 1 → IVec S16 32) a x).toNat < S2048.size a)
theorem k0_idx38_inb : ∀ (v287 : IVec S16 32) (k0_hw7 : k0_chk7 v287), ∀ a x, ((![v287] : Fin 1 → IVec S16 32) a x).toNat < S2048.size a := fun v287 k0_hw7 => k0_hw7.1
theorem k0_idx39_inb : ∀ (v287 : IVec S16 32) (k0_hw7 : k0_chk7 v287), ∀ a x, ((![v287] : Fin 1 → IVec S16 32) a x).toNat < S2048.size a := fun v287 k0_hw7 => k0_hw7.2.1
theorem k0_idx42_inb : ∀ (v287 : IVec S16 32) (k0_hw7 : k0_chk7 v287), ∀ a x, ((![v287] : Fin 1 → IVec S16 32) a x).toNat < S2048.size a := fun v287 k0_hw7 => k0_hw7.2.2.1
theorem k0_idx43_inb : ∀ (v287 : IVec S16 32) (k0_hw7 : k0_chk7 v287), ∀ a x, ((![v287] : Fin 1 → IVec S16 32) a x).toNat < S2048.size a := fun v287 k0_hw7 => k0_hw7.2.2.2.1
theorem k0_idx44_inb : ∀ (v287 : IVec S16 32) (k0_hw7 : k0_chk7 v287), ∀ a x, ((![v287] : Fin 1 → IVec S16 32) a x).toNat < S2048.size a := fun v287 k0_hw7 => k0_hw7.2.2.2.2

def k0_chk11 (v291 : IVec S16 32) : Prop :=
  (∀ a x, ((![v291] : Fin 1 → IVec S16 32) a x).toNat < S2048.size a) ∧
  (∀ a x, ((![v291] : Fin 1 → IVec S16 32) a x).toNat < S2048.size a) ∧
  (∀ a x, ((![v291] : Fin 1 → IVec S16 32) a x).toNat < S2048.size a)
theorem k0_idx45_inb : ∀ (v291 : IVec S16 32) (k0_hw11 : k0_chk11 v291), ∀ a x, ((![v291] : Fin 1 → IVec S16 32) a x).toNat < S2048.size a := fun v291 k0_hw11 => k0_hw11.1
theorem k0_idx46_inb : ∀ (v291 : IVec S16 32) (k0_hw11 : k0_chk11 v291), ∀ a x, ((![v291] : Fin 1 → IVec S16 32) a x).toNat < S2048.size a := fun v291 k0_hw11 => k0_hw11.2.1
theorem k0_idx47_inb : ∀ (v291 : IVec S16 32) (k0_hw11 : k0_chk11 v291), ∀ a x, ((![v291] : Fin 1 → IVec S16 32) a x).toNat < S2048.size a := fun v291 k0_hw11 => k0_hw11.2.2
def k0_off35 (i : grid0.Coords) (k0_t12 : Fin k0_t12_loop.trips) : Fin 1 → Nat :=
  let c0_i32_222 : BitVec 32 := 0#32
  let c1_i32_223 : BitVec 32 := 1#32
  let arg35 : BitVec 32 := Scf.iv c0_i32_222 c1_i32_223 k0_t12
  let c5_i32_227 : BitVec 32 := 5#32
  let v280 : BitVec 32 := Scalar.shrsi arg35 c5_i32_227
  let c4096_i32_228 : BitVec 32 := 4096#32
  let v281 : BitVec 32 := Scalar.muli v280 c4096_i32_228
  let arg1 : BitVec 32 := BitVec.ofNat 32 (i 1).val
  let c7_i32 : BitVec 32 := 7#32
  let v1 : BitVec 32 := Scalar.andi arg1 c7_i32
  let c512_i32 : BitVec 32 := 512#32
  let v15 : BitVec 32 := Scalar.muli v1 c512_i32
  let v282 : BitVec 32 := Scalar.addi v281 v15
  let c31_i32 : BitVec 32 := 31#32
  let v283 : BitVec 32 := Scalar.andi arg35 c31_i32
  let c16_i32_229 : BitVec 32 := 16#32
  let v284 : BitVec 32 := Scalar.muli v283 c16_i32_229
  let v285 : BitVec 32 := Scalar.addi v282 v284
  let v338 : Index := Scalar.indexCast v285
  ![v338.toNat]

def k0_chk12 (v337 : IVec S16 32) : Prop :=
  (∀ a x, ((![v337] : Fin 1 → IVec S16 32) a x).toNat < S12288.size a)
theorem k0_idx48_inb : ∀ (v337 : IVec S16 32) (k0_hw12 : k0_chk12 v337), ∀ a x, ((![v337] : Fin 1 → IVec S16 32) a x).toNat < S12288.size a := fun v337 k0_hw12 => k0_hw12

def k0_chk13 (v339 : IVec S16 32) : Prop :=
  (∀ a x, ((![v339] : Fin 1 → IVec S16 32) a x).toNat < S2048.size a) ∧
  (∀ a x, ((![v339] : Fin 1 → IVec S16 32) a x).toNat < S2048.size a) ∧
  (∀ a x, ((![v339] : Fin 1 → IVec S16 32) a x).toNat < S2048.size a)
theorem k0_idx49_inb : ∀ (v339 : IVec S16 32) (k0_hw13 : k0_chk13 v339), ∀ a x, ((![v339] : Fin 1 → IVec S16 32) a x).toNat < S2048.size a := fun v339 k0_hw13 => k0_hw13.1
theorem k0_idx50_inb : ∀ (v339 : IVec S16 32) (k0_hw13 : k0_chk13 v339), ∀ a x, ((![v339] : Fin 1 → IVec S16 32) a x).toNat < S2048.size a := fun v339 k0_hw13 => k0_hw13.2.1
theorem k0_idx51_inb : ∀ (v339 : IVec S16 32) (k0_hw13 : k0_chk13 v339), ∀ a x, ((![v339] : Fin 1 → IVec S16 32) a x).toNat < S2048.size a := fun v339 k0_hw13 => k0_hw13.2.2

def k0_chk14 (v340 : IVec S16 32) : Prop :=
  (∀ a x, ((![v340] : Fin 1 → IVec S16 32) a x).toNat < S2048.size a) ∧
  (∀ a x, ((![v340] : Fin 1 → IVec S16 32) a x).toNat < S2048.size a) ∧
  (∀ a x, ((![v340] : Fin 1 → IVec S16 32) a x).toNat < S2048.size a)
theorem k0_idx52_inb : ∀ (v340 : IVec S16 32) (k0_hw14 : k0_chk14 v340), ∀ a x, ((![v340] : Fin 1 → IVec S16 32) a x).toNat < S2048.size a := fun v340 k0_hw14 => k0_hw14.1
theorem k0_idx53_inb : ∀ (v340 : IVec S16 32) (k0_hw14 : k0_chk14 v340), ∀ a x, ((![v340] : Fin 1 → IVec S16 32) a x).toNat < S2048.size a := fun v340 k0_hw14 => k0_hw14.2.1
theorem k0_idx54_inb : ∀ (v340 : IVec S16 32) (k0_hw14 : k0_chk14 v340), ∀ a x, ((![v340] : Fin 1 → IVec S16 32) a x).toNat < S2048.size a := fun v340 k0_hw14 => k0_hw14.2.2
def k0_off36 (i : grid0.Coords) : Fin 1 → Nat :=
  let arg0 : BitVec 32 := BitVec.ofNat 32 (i 0).val
  let c2_i32 : BitVec 32 := 2#32
  let v2 : BitVec 32 := Scalar.muli arg0 c2_i32
  let arg1 : BitVec 32 := BitVec.ofNat 32 (i 1).val
  let c3_i32 : BitVec 32 := 3#32
  let v0 : BitVec 32 := Scalar.shrsi arg1 c3_i32
  let v3 : BitVec 32 := Scalar.addi v2 v0
  let c8_i32_226 : BitVec 32 := 8#32
  let v277 : BitVec 32 := Scalar.muli v3 c8_i32_226
  let c7_i32 : BitVec 32 := 7#32
  let v1 : BitVec 32 := Scalar.andi arg1 c7_i32
  let v278 : BitVec 32 := Scalar.addi v277 v1
  let c80_i32 : BitVec 32 := 80#32
  let v279 : BitVec 32 := Scalar.muli v278 c80_i32
  ![v279.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x3 : Shape := ⟨3, ![4, 2048, 3]⟩
abbrev S4x4096x3 : Shape := ⟨3, ![4, 4096, 3]⟩
abbrev S2 : Shape := ⟨1, ![2]⟩
abbrev S3 : Shape := ⟨1, ![3]⟩
abbrev S1x4096x3 : Shape := ⟨3, ![1, 4096, 3]⟩
abbrev S4096x3 : Shape := ⟨2, ![4096, 3]⟩
abbrev S_ : Shape := ⟨0, ![]⟩
abbrev S2x1 : Shape := ⟨2, ![2, 1]⟩
abbrev S4096x2 : Shape := ⟨2, ![4096, 2]⟩
abbrev S12288x2 : Shape := ⟨2, ![12288, 2]⟩
abbrev S12288x1 : Shape := ⟨2, ![12288, 1]⟩
abbrev S12288 : Shape := ⟨1, ![12288]⟩
abbrev S1 : Shape := ⟨1, ![1]⟩
abbrev S12287 : Shape := ⟨1, ![12287]⟩
abbrev S1x2048x3 : Shape := ⟨3, ![1, 2048, 3]⟩
abbrev S2048x3 : Shape := ⟨2, ![2048, 3]⟩
abbrev S12288x3 : Shape := ⟨2, ![12288, 3]⟩
abbrev S4096x1 : Shape := ⟨2, ![4096, 1]⟩
abbrev S4096 : Shape := ⟨1, ![4096]⟩
abbrev S3x1 : Shape := ⟨2, ![3, 1]⟩
abbrev S2048 : Shape := ⟨1, ![2048]⟩
abbrev S2048x1 : Shape := ⟨2, ![2048, 1]⟩
abbrev S12287x1 : Shape := ⟨2, ![12287, 1]⟩
abbrev S12287x3 : Shape := ⟨2, ![12287, 3]⟩

abbrev nBuf : Space → Nat
  | .hbm => 2479
  | .vmem => 0
  | .smem => 0
  | _ => 0

abbrev hbmTy0_0 (i : Nat) : BufTy := match i % 128 with
  | 0 => ⟨S4x2048x3, .f32⟩
  | 1 => ⟨S4x4096x3, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S3, .i32⟩
  | 15 => ⟨S3, .i32⟩
  | 16 => ⟨S3, .i32⟩
  | 17 => ⟨S3, .i32⟩
  | 18 => ⟨S3, .i32⟩
  | 19 => ⟨S3, .i32⟩
  | 20 => ⟨S3, .i32⟩
  | 21 => ⟨S3, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S1x4096x3, .i32⟩
  | 35 => ⟨S4096x3, .i32⟩
  | 36 => ⟨S_, .i32⟩
  | 37 => ⟨S2, .i32⟩
  | 38 => ⟨S2, .i1⟩
  | 39 => ⟨S_, .i32⟩
  | 40 => ⟨S2, .i32⟩
  | 41 => ⟨S2, .i32⟩
  | 42 => ⟨S2, .i32⟩
  | 43 => ⟨S2x1, .i32⟩
  | 44 => ⟨S4096x2, .i32⟩
  | 45 => ⟨S_, .i32⟩
  | 46 => ⟨S2, .i32⟩
  | 47 => ⟨S2, .i1⟩
  | 48 => ⟨S_, .i32⟩
  | 49 => ⟨S2, .i32⟩
  | 50 => ⟨S2, .i32⟩
  | 51 => ⟨S2, .i32⟩
  | 52 => ⟨S2x1, .i32⟩
  | 53 => ⟨S4096x2, .i32⟩
  | 54 => ⟨S_, .i32⟩
  | 55 => ⟨S2, .i32⟩
  | 56 => ⟨S2, .i1⟩
  | 57 => ⟨S_, .i32⟩
  | 58 => ⟨S2, .i32⟩
  | 59 => ⟨S2, .i32⟩
  | 60 => ⟨S2, .i32⟩
  | 61 => ⟨S2x1, .i32⟩
  | 62 => ⟨S4096x2, .i32⟩
  | 63 => ⟨S12288x2, .i32⟩
  | 64 => ⟨S12288x2, .i32⟩
  | 65 => ⟨S12288x1, .i32⟩
  | 66 => ⟨S12288, .i32⟩
  | 67 => ⟨S_, .i32⟩
  | 68 => ⟨S12288, .i32⟩
  | 69 => ⟨S12288, .i32⟩
  | 70 => ⟨S12288x1, .i32⟩
  | 71 => ⟨S12288, .i32⟩
  | 72 => ⟨S12288, .i32⟩
  | 73 => ⟨S12288, .i32⟩
  | 74 => ⟨S_, .i1⟩
  | 75 => ⟨S1, .i1⟩
  | 76 => ⟨S12287, .i32⟩
  | 77 => ⟨S12287, .i32⟩
  | 78 => ⟨S12287, .i1⟩
  | 79 => ⟨S12288, .i1⟩
  | 80 => ⟨S12288, .f32⟩
  | 81 => ⟨S1x2048x3, .f32⟩
  | 82 => ⟨S2048x3, .f32⟩
  | 83 => ⟨S_, .i32⟩
  | 84 => ⟨S_, .i32⟩
  | 85 => ⟨S12288, .i32⟩
  | 86 => ⟨S12288, .i32⟩
  | 87 => ⟨S12288, .i32⟩
  | 88 => ⟨S_, .i32⟩
  | 89 => ⟨S12288, .i32⟩
  | 90 => ⟨S12288, .i1⟩
  | 91 => ⟨S12288, .i32⟩
  | 92 => ⟨S12288, .i32⟩
  | 93 => ⟨S_, .i32⟩
  | 94 => ⟨S12288, .i32⟩
  | 95 => ⟨S12288, .i1⟩
  | 96 => ⟨S12288, .i1⟩
  | 97 => ⟨S_, .i32⟩
  | 98 => ⟨S12288, .i32⟩
  | 99 => ⟨S12288, .i32⟩
  | 100 => ⟨S12288, .i32⟩
  | 101 => ⟨S_, .i32⟩
  | 102 => ⟨S12288, .i32⟩
  | 103 => ⟨S12288, .i1⟩
  | 104 => ⟨S_, .i32⟩
  | 105 => ⟨S12288, .i32⟩
  | 106 => ⟨S12288, .i32⟩
  | 107 => ⟨S12288, .i32⟩
  | 108 => ⟨S12288x1, .i32⟩
  | 109 => ⟨S12288x3, .f32⟩
  | 110 => ⟨S1x2048x3, .f32⟩
  | 111 => ⟨S2048x3, .f32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S12288, .i32⟩
  | 119 => ⟨S12288, .i32⟩
  | 120 => ⟨S_, .i32⟩
  | 121 => ⟨S12288, .i32⟩
  | 122 => ⟨S12288, .i1⟩
  | 123 => ⟨S_, .i32⟩
  | 124 => ⟨S12288, .i32⟩
  | 125 => ⟨S12288, .i1⟩
  | 126 => ⟨S_, .i32⟩
  | 127 => ⟨S_, .i1⟩
  | _ => ⟨S4x2048x3, .f32⟩

abbrev hbmTy0_1 (i : Nat) : BufTy := match i % 128 with
  | 0 => ⟨S12288, .i1⟩
  | 1 => ⟨S12288, .i1⟩
  | 2 => ⟨S12288, .i1⟩
  | 3 => ⟨S12288, .i32⟩
  | 4 => ⟨S12288, .i32⟩
  | 5 => ⟨S12288, .i32⟩
  | 6 => ⟨S_, .i32⟩
  | 7 => ⟨S12288, .i32⟩
  | 8 => ⟨S12288, .i1⟩
  | 9 => ⟨S_, .i32⟩
  | 10 => ⟨S12288, .i32⟩
  | 11 => ⟨S12288, .i32⟩
  | 12 => ⟨S12288, .i32⟩
  | 13 => ⟨S12288x1, .i32⟩
  | 14 => ⟨S12288x3, .f32⟩
  | 15 => ⟨S12288x3, .f32⟩
  | 16 => ⟨S12288x3, .f32⟩
  | 17 => ⟨S_, .f32⟩
  | 18 => ⟨S12288, .f32⟩
  | 19 => ⟨S12288, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S1x4096x3, .i32⟩
  | 30 => ⟨S4096x3, .i32⟩
  | 31 => ⟨S_, .i32⟩
  | 32 => ⟨S2, .i32⟩
  | 33 => ⟨S2, .i1⟩
  | 34 => ⟨S_, .i32⟩
  | 35 => ⟨S2, .i32⟩
  | 36 => ⟨S2, .i32⟩
  | 37 => ⟨S2, .i32⟩
  | 38 => ⟨S2x1, .i32⟩
  | 39 => ⟨S4096x2, .i32⟩
  | 40 => ⟨S_, .i32⟩
  | 41 => ⟨S2, .i32⟩
  | 42 => ⟨S2, .i1⟩
  | 43 => ⟨S_, .i32⟩
  | 44 => ⟨S2, .i32⟩
  | 45 => ⟨S2, .i32⟩
  | 46 => ⟨S2, .i32⟩
  | 47 => ⟨S2x1, .i32⟩
  | 48 => ⟨S4096x2, .i32⟩
  | 49 => ⟨S_, .i32⟩
  | 50 => ⟨S2, .i32⟩
  | 51 => ⟨S2, .i1⟩
  | 52 => ⟨S_, .i32⟩
  | 53 => ⟨S2, .i32⟩
  | 54 => ⟨S2, .i32⟩
  | 55 => ⟨S2, .i32⟩
  | 56 => ⟨S2x1, .i32⟩
  | 57 => ⟨S4096x2, .i32⟩
  | 58 => ⟨S12288x2, .i32⟩
  | 59 => ⟨S12288x2, .i32⟩
  | 60 => ⟨S12288x1, .i32⟩
  | 61 => ⟨S12288, .i32⟩
  | 62 => ⟨S_, .i32⟩
  | 63 => ⟨S12288, .i32⟩
  | 64 => ⟨S12288, .i32⟩
  | 65 => ⟨S12288x1, .i32⟩
  | 66 => ⟨S12288, .i32⟩
  | 67 => ⟨S12288, .i32⟩
  | 68 => ⟨S12288, .i32⟩
  | 69 => ⟨S_, .i1⟩
  | 70 => ⟨S1, .i1⟩
  | 71 => ⟨S12287, .i32⟩
  | 72 => ⟨S12287, .i32⟩
  | 73 => ⟨S12287, .i1⟩
  | 74 => ⟨S12288, .i1⟩
  | 75 => ⟨S12288, .f32⟩
  | 76 => ⟨S1x2048x3, .f32⟩
  | 77 => ⟨S2048x3, .f32⟩
  | 78 => ⟨S_, .i32⟩
  | 79 => ⟨S_, .i32⟩
  | 80 => ⟨S12288, .i32⟩
  | 81 => ⟨S12288, .i32⟩
  | 82 => ⟨S12288, .i32⟩
  | 83 => ⟨S_, .i32⟩
  | 84 => ⟨S12288, .i32⟩
  | 85 => ⟨S12288, .i1⟩
  | 86 => ⟨S12288, .i32⟩
  | 87 => ⟨S12288, .i32⟩
  | 88 => ⟨S_, .i32⟩
  | 89 => ⟨S12288, .i32⟩
  | 90 => ⟨S12288, .i1⟩
  | 91 => ⟨S12288, .i1⟩
  | 92 => ⟨S_, .i32⟩
  | 93 => ⟨S12288, .i32⟩
  | 94 => ⟨S12288, .i32⟩
  | 95 => ⟨S12288, .i32⟩
  | 96 => ⟨S_, .i32⟩
  | 97 => ⟨S12288, .i32⟩
  | 98 => ⟨S12288, .i1⟩
  | 99 => ⟨S_, .i32⟩
  | 100 => ⟨S12288, .i32⟩
  | 101 => ⟨S12288, .i32⟩
  | 102 => ⟨S12288, .i32⟩
  | 103 => ⟨S12288x1, .i32⟩
  | 104 => ⟨S12288x3, .f32⟩
  | 105 => ⟨S1x2048x3, .f32⟩
  | 106 => ⟨S2048x3, .f32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S12288, .i32⟩
  | 114 => ⟨S12288, .i32⟩
  | 115 => ⟨S_, .i32⟩
  | 116 => ⟨S12288, .i32⟩
  | 117 => ⟨S12288, .i1⟩
  | 118 => ⟨S_, .i32⟩
  | 119 => ⟨S12288, .i32⟩
  | 120 => ⟨S12288, .i1⟩
  | 121 => ⟨S_, .i32⟩
  | 122 => ⟨S_, .i1⟩
  | 123 => ⟨S12288, .i1⟩
  | 124 => ⟨S12288, .i1⟩
  | 125 => ⟨S12288, .i1⟩
  | 126 => ⟨S12288, .i32⟩
  | 127 => ⟨S12288, .i32⟩
  | _ => ⟨S4x2048x3, .f32⟩

abbrev hbmTy0_2 (i : Nat) : BufTy := match i % 128 with
  | 0 => ⟨S12288, .i32⟩
  | 1 => ⟨S_, .i32⟩
  | 2 => ⟨S12288, .i32⟩
  | 3 => ⟨S12288, .i1⟩
  | 4 => ⟨S_, .i32⟩
  | 5 => ⟨S12288, .i32⟩
  | 6 => ⟨S12288, .i32⟩
  | 7 => ⟨S12288, .i32⟩
  | 8 => ⟨S12288x1, .i32⟩
  | 9 => ⟨S12288x3, .f32⟩
  | 10 => ⟨S12288x3, .f32⟩
  | 11 => ⟨S12288x3, .f32⟩
  | 12 => ⟨S_, .f32⟩
  | 13 => ⟨S12288, .f32⟩
  | 14 => ⟨S12288, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1x4096x3, .i32⟩
  | 24 => ⟨S4096x3, .i32⟩
  | 25 => ⟨S_, .i32⟩
  | 26 => ⟨S2, .i32⟩
  | 27 => ⟨S2, .i1⟩
  | 28 => ⟨S_, .i32⟩
  | 29 => ⟨S2, .i32⟩
  | 30 => ⟨S2, .i32⟩
  | 31 => ⟨S2, .i32⟩
  | 32 => ⟨S2x1, .i32⟩
  | 33 => ⟨S4096x2, .i32⟩
  | 34 => ⟨S_, .i32⟩
  | 35 => ⟨S2, .i32⟩
  | 36 => ⟨S2, .i1⟩
  | 37 => ⟨S_, .i32⟩
  | 38 => ⟨S2, .i32⟩
  | 39 => ⟨S2, .i32⟩
  | 40 => ⟨S2, .i32⟩
  | 41 => ⟨S2x1, .i32⟩
  | 42 => ⟨S4096x2, .i32⟩
  | 43 => ⟨S_, .i32⟩
  | 44 => ⟨S2, .i32⟩
  | 45 => ⟨S2, .i1⟩
  | 46 => ⟨S_, .i32⟩
  | 47 => ⟨S2, .i32⟩
  | 48 => ⟨S2, .i32⟩
  | 49 => ⟨S2, .i32⟩
  | 50 => ⟨S2x1, .i32⟩
  | 51 => ⟨S4096x2, .i32⟩
  | 52 => ⟨S12288x2, .i32⟩
  | 53 => ⟨S12288x2, .i32⟩
  | 54 => ⟨S12288x1, .i32⟩
  | 55 => ⟨S12288, .i32⟩
  | 56 => ⟨S_, .i32⟩
  | 57 => ⟨S12288, .i32⟩
  | 58 => ⟨S12288, .i32⟩
  | 59 => ⟨S12288x1, .i32⟩
  | 60 => ⟨S12288, .i32⟩
  | 61 => ⟨S12288, .i32⟩
  | 62 => ⟨S12288, .i32⟩
  | 63 => ⟨S_, .i1⟩
  | 64 => ⟨S1, .i1⟩
  | 65 => ⟨S12287, .i32⟩
  | 66 => ⟨S12287, .i32⟩
  | 67 => ⟨S12287, .i1⟩
  | 68 => ⟨S12288, .i1⟩
  | 69 => ⟨S12288, .f32⟩
  | 70 => ⟨S1x2048x3, .f32⟩
  | 71 => ⟨S2048x3, .f32⟩
  | 72 => ⟨S_, .i32⟩
  | 73 => ⟨S_, .i32⟩
  | 74 => ⟨S12288, .i32⟩
  | 75 => ⟨S12288, .i32⟩
  | 76 => ⟨S12288, .i32⟩
  | 77 => ⟨S_, .i32⟩
  | 78 => ⟨S12288, .i32⟩
  | 79 => ⟨S12288, .i1⟩
  | 80 => ⟨S12288, .i32⟩
  | 81 => ⟨S12288, .i32⟩
  | 82 => ⟨S_, .i32⟩
  | 83 => ⟨S12288, .i32⟩
  | 84 => ⟨S12288, .i1⟩
  | 85 => ⟨S12288, .i1⟩
  | 86 => ⟨S_, .i32⟩
  | 87 => ⟨S12288, .i32⟩
  | 88 => ⟨S12288, .i32⟩
  | 89 => ⟨S12288, .i32⟩
  | 90 => ⟨S_, .i32⟩
  | 91 => ⟨S12288, .i32⟩
  | 92 => ⟨S12288, .i1⟩
  | 93 => ⟨S_, .i32⟩
  | 94 => ⟨S12288, .i32⟩
  | 95 => ⟨S12288, .i32⟩
  | 96 => ⟨S12288, .i32⟩
  | 97 => ⟨S12288x1, .i32⟩
  | 98 => ⟨S12288x3, .f32⟩
  | 99 => ⟨S1x2048x3, .f32⟩
  | 100 => ⟨S2048x3, .f32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S12288, .i32⟩
  | 108 => ⟨S12288, .i32⟩
  | 109 => ⟨S_, .i32⟩
  | 110 => ⟨S12288, .i32⟩
  | 111 => ⟨S12288, .i1⟩
  | 112 => ⟨S_, .i32⟩
  | 113 => ⟨S12288, .i32⟩
  | 114 => ⟨S12288, .i1⟩
  | 115 => ⟨S_, .i32⟩
  | 116 => ⟨S_, .i1⟩
  | 117 => ⟨S12288, .i1⟩
  | 118 => ⟨S12288, .i1⟩
  | 119 => ⟨S12288, .i1⟩
  | 120 => ⟨S12288, .i32⟩
  | 121 => ⟨S12288, .i32⟩
  | 122 => ⟨S12288, .i32⟩
  | 123 => ⟨S_, .i32⟩
  | 124 => ⟨S12288, .i32⟩
  | 125 => ⟨S12288, .i1⟩
  | 126 => ⟨S_, .i32⟩
  | 127 => ⟨S12288, .i32⟩
  | _ => ⟨S4x2048x3, .f32⟩

abbrev hbmTy0_3 (i : Nat) : BufTy := match i % 128 with
  | 0 => ⟨S12288, .i32⟩
  | 1 => ⟨S12288, .i32⟩
  | 2 => ⟨S12288x1, .i32⟩
  | 3 => ⟨S12288x3, .f32⟩
  | 4 => ⟨S12288x3, .f32⟩
  | 5 => ⟨S12288x3, .f32⟩
  | 6 => ⟨S_, .f32⟩
  | 7 => ⟨S12288, .f32⟩
  | 8 => ⟨S12288, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1x4096x3, .i32⟩
  | 18 => ⟨S4096x3, .i32⟩
  | 19 => ⟨S_, .i32⟩
  | 20 => ⟨S2, .i32⟩
  | 21 => ⟨S2, .i1⟩
  | 22 => ⟨S_, .i32⟩
  | 23 => ⟨S2, .i32⟩
  | 24 => ⟨S2, .i32⟩
  | 25 => ⟨S2, .i32⟩
  | 26 => ⟨S2x1, .i32⟩
  | 27 => ⟨S4096x2, .i32⟩
  | 28 => ⟨S_, .i32⟩
  | 29 => ⟨S2, .i32⟩
  | 30 => ⟨S2, .i1⟩
  | 31 => ⟨S_, .i32⟩
  | 32 => ⟨S2, .i32⟩
  | 33 => ⟨S2, .i32⟩
  | 34 => ⟨S2, .i32⟩
  | 35 => ⟨S2x1, .i32⟩
  | 36 => ⟨S4096x2, .i32⟩
  | 37 => ⟨S_, .i32⟩
  | 38 => ⟨S2, .i32⟩
  | 39 => ⟨S2, .i1⟩
  | 40 => ⟨S_, .i32⟩
  | 41 => ⟨S2, .i32⟩
  | 42 => ⟨S2, .i32⟩
  | 43 => ⟨S2, .i32⟩
  | 44 => ⟨S2x1, .i32⟩
  | 45 => ⟨S4096x2, .i32⟩
  | 46 => ⟨S12288x2, .i32⟩
  | 47 => ⟨S12288x2, .i32⟩
  | 48 => ⟨S12288x1, .i32⟩
  | 49 => ⟨S12288, .i32⟩
  | 50 => ⟨S_, .i32⟩
  | 51 => ⟨S12288, .i32⟩
  | 52 => ⟨S12288, .i32⟩
  | 53 => ⟨S12288x1, .i32⟩
  | 54 => ⟨S12288, .i32⟩
  | 55 => ⟨S12288, .i32⟩
  | 56 => ⟨S12288, .i32⟩
  | 57 => ⟨S_, .i1⟩
  | 58 => ⟨S1, .i1⟩
  | 59 => ⟨S12287, .i32⟩
  | 60 => ⟨S12287, .i32⟩
  | 61 => ⟨S12287, .i1⟩
  | 62 => ⟨S12288, .i1⟩
  | 63 => ⟨S12288, .f32⟩
  | 64 => ⟨S1x2048x3, .f32⟩
  | 65 => ⟨S2048x3, .f32⟩
  | 66 => ⟨S_, .i32⟩
  | 67 => ⟨S_, .i32⟩
  | 68 => ⟨S12288, .i32⟩
  | 69 => ⟨S12288, .i32⟩
  | 70 => ⟨S12288, .i32⟩
  | 71 => ⟨S_, .i32⟩
  | 72 => ⟨S12288, .i32⟩
  | 73 => ⟨S12288, .i1⟩
  | 74 => ⟨S12288, .i32⟩
  | 75 => ⟨S12288, .i32⟩
  | 76 => ⟨S_, .i32⟩
  | 77 => ⟨S12288, .i32⟩
  | 78 => ⟨S12288, .i1⟩
  | 79 => ⟨S12288, .i1⟩
  | 80 => ⟨S_, .i32⟩
  | 81 => ⟨S12288, .i32⟩
  | 82 => ⟨S12288, .i32⟩
  | 83 => ⟨S12288, .i32⟩
  | 84 => ⟨S_, .i32⟩
  | 85 => ⟨S12288, .i32⟩
  | 86 => ⟨S12288, .i1⟩
  | 87 => ⟨S_, .i32⟩
  | 88 => ⟨S12288, .i32⟩
  | 89 => ⟨S12288, .i32⟩
  | 90 => ⟨S12288, .i32⟩
  | 91 => ⟨S12288x1, .i32⟩
  | 92 => ⟨S12288x3, .f32⟩
  | 93 => ⟨S1x2048x3, .f32⟩
  | 94 => ⟨S2048x3, .f32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S12288, .i32⟩
  | 102 => ⟨S12288, .i32⟩
  | 103 => ⟨S_, .i32⟩
  | 104 => ⟨S12288, .i32⟩
  | 105 => ⟨S12288, .i1⟩
  | 106 => ⟨S_, .i32⟩
  | 107 => ⟨S12288, .i32⟩
  | 108 => ⟨S12288, .i1⟩
  | 109 => ⟨S_, .i32⟩
  | 110 => ⟨S_, .i1⟩
  | 111 => ⟨S12288, .i1⟩
  | 112 => ⟨S12288, .i1⟩
  | 113 => ⟨S12288, .i1⟩
  | 114 => ⟨S12288, .i32⟩
  | 115 => ⟨S12288, .i32⟩
  | 116 => ⟨S12288, .i32⟩
  | 117 => ⟨S_, .i32⟩
  | 118 => ⟨S12288, .i32⟩
  | 119 => ⟨S12288, .i1⟩
  | 120 => ⟨S_, .i32⟩
  | 121 => ⟨S12288, .i32⟩
  | 122 => ⟨S12288, .i32⟩
  | 123 => ⟨S12288, .i32⟩
  | 124 => ⟨S12288x1, .i32⟩
  | 125 => ⟨S12288x3, .f32⟩
  | 126 => ⟨S12288x3, .f32⟩
  | 127 => ⟨S12288x3, .f32⟩
  | _ => ⟨S4x2048x3, .f32⟩

abbrev hbmTy0_4 (i : Nat) : BufTy := match i % 128 with
  | 0 => ⟨S_, .f32⟩
  | 1 => ⟨S12288, .f32⟩
  | 2 => ⟨S12288, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1x2048x3, .f32⟩
  | 14 => ⟨S2048x3, .f32⟩
  | 15 => ⟨S1x4096x3, .i32⟩
  | 16 => ⟨S4096x3, .i32⟩
  | 17 => ⟨S4096x1, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x3, .f32⟩
  | 28 => ⟨S4096x1, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S4096x3, .f32⟩
  | 39 => ⟨S4096x1, .i32⟩
  | 40 => ⟨S4096, .i32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x3, .f32⟩
  | 50 => ⟨S4096x3, .f32⟩
  | 51 => ⟨S4096x3, .f32⟩
  | 52 => ⟨S_, .f32⟩
  | 53 => ⟨S4096, .f32⟩
  | 54 => ⟨S_, .f32⟩
  | 55 => ⟨S4096, .f32⟩
  | 56 => ⟨S4096, .f32⟩
  | 57 => ⟨S4096, .f32⟩
  | 58 => ⟨S4096x3, .f32⟩
  | 59 => ⟨S4096x3, .f32⟩
  | 60 => ⟨S_, .f32⟩
  | 61 => ⟨S4096, .f32⟩
  | 62 => ⟨S_, .f32⟩
  | 63 => ⟨S4096, .f32⟩
  | 64 => ⟨S4096, .f32⟩
  | 65 => ⟨S4096, .f32⟩
  | 66 => ⟨S4096x3, .f32⟩
  | 67 => ⟨S4096x3, .f32⟩
  | 68 => ⟨S_, .f32⟩
  | 69 => ⟨S4096, .f32⟩
  | 70 => ⟨S_, .f32⟩
  | 71 => ⟨S4096, .f32⟩
  | 72 => ⟨S4096, .f32⟩
  | 73 => ⟨S4096, .f32⟩
  | 74 => ⟨S4096, .f32⟩
  | 75 => ⟨S4096, .f32⟩
  | 76 => ⟨S_, .f32⟩
  | 77 => ⟨S4096, .f32⟩
  | 78 => ⟨S4096, .f32⟩
  | 79 => ⟨S4096, .f32⟩
  | 80 => ⟨S4096, .f32⟩
  | 81 => ⟨S4096, .f32⟩
  | 82 => ⟨S4096, .f32⟩
  | 83 => ⟨S4096, .f32⟩
  | 84 => ⟨S4096, .f32⟩
  | 85 => ⟨S_, .f32⟩
  | 86 => ⟨S_, .f32⟩
  | 87 => ⟨S4096, .f32⟩
  | 88 => ⟨S4096, .f32⟩
  | 89 => ⟨S4096, .f32⟩
  | 90 => ⟨S4096, .f32⟩
  | 91 => ⟨S4096, .f32⟩
  | 92 => ⟨S4096, .f32⟩
  | 93 => ⟨S4096, .f32⟩
  | 94 => ⟨S4096, .f32⟩
  | 95 => ⟨S4096, .f32⟩
  | 96 => ⟨S4096, .f32⟩
  | 97 => ⟨S4096, .f32⟩
  | 98 => ⟨S4096, .f32⟩
  | 99 => ⟨S4096, .f32⟩
  | 100 => ⟨S4096, .f32⟩
  | 101 => ⟨S4096, .f32⟩
  | 102 => ⟨S4096x1, .f32⟩
  | 103 => ⟨S4096x1, .f32⟩
  | 104 => ⟨S4096x1, .f32⟩
  | 105 => ⟨S4096x3, .f32⟩
  | 106 => ⟨S_, .f32⟩
  | 107 => ⟨S4096x3, .f32⟩
  | 108 => ⟨S4096x3, .f32⟩
  | 109 => ⟨S12288, .f32⟩
  | 110 => ⟨S_, .i32⟩
  | 111 => ⟨S3, .i32⟩
  | 112 => ⟨S3, .i1⟩
  | 113 => ⟨S_, .i32⟩
  | 114 => ⟨S3, .i32⟩
  | 115 => ⟨S3, .i32⟩
  | 116 => ⟨S3, .i32⟩
  | 117 => ⟨S3x1, .i32⟩
  | 118 => ⟨S4096x3, .i32⟩
  | 119 => ⟨S12288, .i32⟩
  | 120 => ⟨S_, .i32⟩
  | 121 => ⟨S3, .i32⟩
  | 122 => ⟨S3, .i1⟩
  | 123 => ⟨S_, .i32⟩
  | 124 => ⟨S3, .i32⟩
  | 125 => ⟨S3, .i32⟩
  | 126 => ⟨S3, .i32⟩
  | 127 => ⟨S3x1, .i32⟩
  | _ => ⟨S4x2048x3, .f32⟩

abbrev hbmTy0_5 (i : Nat) : BufTy := match i % 128 with
  | 0 => ⟨S4096x3, .i32⟩
  | 1 => ⟨S12288, .i32⟩
  | 2 => ⟨S_, .f32⟩
  | 3 => ⟨S2048x3, .f32⟩
  | 4 => ⟨S12288x1, .f32⟩
  | 5 => ⟨S_, .i32⟩
  | 6 => ⟨S12288, .i32⟩
  | 7 => ⟨S12288, .i1⟩
  | 8 => ⟨S_, .i32⟩
  | 9 => ⟨S12288, .i32⟩
  | 10 => ⟨S12288, .i32⟩
  | 11 => ⟨S12288, .i32⟩
  | 12 => ⟨S12288x1, .i32⟩
  | 13 => ⟨S12288x3, .f32⟩
  | 14 => ⟨S12288x3, .f32⟩
  | 15 => ⟨S12288x3, .f32⟩
  | 16 => ⟨S_, .i32⟩
  | 17 => ⟨S12288, .i32⟩
  | 18 => ⟨S12288, .i1⟩
  | 19 => ⟨S_, .i32⟩
  | 20 => ⟨S12288, .i32⟩
  | 21 => ⟨S12288, .i32⟩
  | 22 => ⟨S12288, .i32⟩
  | 23 => ⟨S12288x1, .i32⟩
  | 24 => ⟨S2048x3, .f32⟩
  | 25 => ⟨S12288x1, .f32⟩
  | 26 => ⟨S_, .i32⟩
  | 27 => ⟨S12288, .i32⟩
  | 28 => ⟨S12288, .i1⟩
  | 29 => ⟨S_, .i32⟩
  | 30 => ⟨S12288, .i32⟩
  | 31 => ⟨S12288, .i32⟩
  | 32 => ⟨S12288, .i32⟩
  | 33 => ⟨S12288x1, .i32⟩
  | 34 => ⟨S12288x3, .f32⟩
  | 35 => ⟨S12288x3, .f32⟩
  | 36 => ⟨S12288x3, .f32⟩
  | 37 => ⟨S_, .i32⟩
  | 38 => ⟨S12288, .i32⟩
  | 39 => ⟨S12288, .i1⟩
  | 40 => ⟨S_, .i32⟩
  | 41 => ⟨S12288, .i32⟩
  | 42 => ⟨S12288, .i32⟩
  | 43 => ⟨S12288, .i32⟩
  | 44 => ⟨S12288x1, .i32⟩
  | 45 => ⟨S2048x3, .f32⟩
  | 46 => ⟨S_, .f32⟩
  | 47 => ⟨S2048, .f32⟩
  | 48 => ⟨S_, .i32⟩
  | 49 => ⟨S12288, .i32⟩
  | 50 => ⟨S12288, .i1⟩
  | 51 => ⟨S_, .i32⟩
  | 52 => ⟨S12288, .i32⟩
  | 53 => ⟨S12288, .i32⟩
  | 54 => ⟨S12288, .i32⟩
  | 55 => ⟨S12288x1, .i32⟩
  | 56 => ⟨S2048, .f32⟩
  | 57 => ⟨S_, .i32⟩
  | 58 => ⟨S12288, .i32⟩
  | 59 => ⟨S12288, .i1⟩
  | 60 => ⟨S_, .i32⟩
  | 61 => ⟨S12288, .i32⟩
  | 62 => ⟨S12288, .i32⟩
  | 63 => ⟨S12288, .i32⟩
  | 64 => ⟨S12288x1, .i32⟩
  | 65 => ⟨S2048, .f32⟩
  | 66 => ⟨S_, .f32⟩
  | 67 => ⟨S2048, .f32⟩
  | 68 => ⟨S2048, .i1⟩
  | 69 => ⟨S_, .f32⟩
  | 70 => ⟨S_, .f32⟩
  | 71 => ⟨S2048, .f32⟩
  | 72 => ⟨S2048, .f32⟩
  | 73 => ⟨S_, .f32⟩
  | 74 => ⟨S2048, .f32⟩
  | 75 => ⟨S2048, .i1⟩
  | 76 => ⟨S_, .f32⟩
  | 77 => ⟨S2048, .f32⟩
  | 78 => ⟨S2048, .f32⟩
  | 79 => ⟨S_, .f32⟩
  | 80 => ⟨S_, .f32⟩
  | 81 => ⟨S2048, .f32⟩
  | 82 => ⟨S2048, .f32⟩
  | 83 => ⟨S2048x1, .f32⟩
  | 84 => ⟨S2048x3, .f32⟩
  | 85 => ⟨S2048x3, .f32⟩
  | 86 => ⟨S2048x3, .f32⟩
  | 87 => ⟨S2048x3, .f32⟩
  | 88 => ⟨S_, .f32⟩
  | 89 => ⟨S2048, .f32⟩
  | 90 => ⟨S_, .f32⟩
  | 91 => ⟨S2048, .f32⟩
  | 92 => ⟨S2048, .f32⟩
  | 93 => ⟨S2048, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1x2048x3, .f32⟩
  | 101 => ⟨S2048x3, .f32⟩
  | 102 => ⟨S1x4096x3, .i32⟩
  | 103 => ⟨S4096x3, .i32⟩
  | 104 => ⟨S4096x1, .i32⟩
  | 105 => ⟨S4096, .i32⟩
  | 106 => ⟨S_, .i32⟩
  | 107 => ⟨S4096, .i32⟩
  | 108 => ⟨S4096, .i1⟩
  | 109 => ⟨S_, .i32⟩
  | 110 => ⟨S4096, .i32⟩
  | 111 => ⟨S4096, .i32⟩
  | 112 => ⟨S4096, .i32⟩
  | 113 => ⟨S4096x1, .i32⟩
  | 114 => ⟨S4096x3, .f32⟩
  | 115 => ⟨S4096x1, .i32⟩
  | 116 => ⟨S4096, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x3, .f32⟩
  | 126 => ⟨S4096x1, .i32⟩
  | 127 => ⟨S4096, .i32⟩
  | _ => ⟨S4x2048x3, .f32⟩

abbrev hbmTy0_6 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S4096x3, .f32⟩
  | 9 => ⟨S4096x3, .f32⟩
  | 10 => ⟨S4096x3, .f32⟩
  | 11 => ⟨S_, .f32⟩
  | 12 => ⟨S4096, .f32⟩
  | 13 => ⟨S_, .f32⟩
  | 14 => ⟨S4096, .f32⟩
  | 15 => ⟨S4096, .f32⟩
  | 16 => ⟨S4096, .f32⟩
  | 17 => ⟨S4096x3, .f32⟩
  | 18 => ⟨S4096x3, .f32⟩
  | 19 => ⟨S_, .f32⟩
  | 20 => ⟨S4096, .f32⟩
  | 21 => ⟨S_, .f32⟩
  | 22 => ⟨S4096, .f32⟩
  | 23 => ⟨S4096, .f32⟩
  | 24 => ⟨S4096, .f32⟩
  | 25 => ⟨S4096x3, .f32⟩
  | 26 => ⟨S4096x3, .f32⟩
  | 27 => ⟨S_, .f32⟩
  | 28 => ⟨S4096, .f32⟩
  | 29 => ⟨S_, .f32⟩
  | 30 => ⟨S4096, .f32⟩
  | 31 => ⟨S4096, .f32⟩
  | 32 => ⟨S4096, .f32⟩
  | 33 => ⟨S4096, .f32⟩
  | 34 => ⟨S4096, .f32⟩
  | 35 => ⟨S_, .f32⟩
  | 36 => ⟨S4096, .f32⟩
  | 37 => ⟨S4096, .f32⟩
  | 38 => ⟨S4096, .f32⟩
  | 39 => ⟨S4096, .f32⟩
  | 40 => ⟨S4096, .f32⟩
  | 41 => ⟨S4096, .f32⟩
  | 42 => ⟨S4096, .f32⟩
  | 43 => ⟨S4096, .f32⟩
  | 44 => ⟨S_, .f32⟩
  | 45 => ⟨S_, .f32⟩
  | 46 => ⟨S4096, .f32⟩
  | 47 => ⟨S4096, .f32⟩
  | 48 => ⟨S4096, .f32⟩
  | 49 => ⟨S4096, .f32⟩
  | 50 => ⟨S4096, .f32⟩
  | 51 => ⟨S4096, .f32⟩
  | 52 => ⟨S4096, .f32⟩
  | 53 => ⟨S4096, .f32⟩
  | 54 => ⟨S4096, .f32⟩
  | 55 => ⟨S4096, .f32⟩
  | 56 => ⟨S4096, .f32⟩
  | 57 => ⟨S4096, .f32⟩
  | 58 => ⟨S4096, .f32⟩
  | 59 => ⟨S4096, .f32⟩
  | 60 => ⟨S4096, .f32⟩
  | 61 => ⟨S4096x1, .f32⟩
  | 62 => ⟨S4096x1, .f32⟩
  | 63 => ⟨S4096x1, .f32⟩
  | 64 => ⟨S4096x3, .f32⟩
  | 65 => ⟨S_, .f32⟩
  | 66 => ⟨S4096x3, .f32⟩
  | 67 => ⟨S4096x3, .f32⟩
  | 68 => ⟨S12288, .f32⟩
  | 69 => ⟨S_, .i32⟩
  | 70 => ⟨S3, .i32⟩
  | 71 => ⟨S3, .i1⟩
  | 72 => ⟨S_, .i32⟩
  | 73 => ⟨S3, .i32⟩
  | 74 => ⟨S3, .i32⟩
  | 75 => ⟨S3, .i32⟩
  | 76 => ⟨S3x1, .i32⟩
  | 77 => ⟨S4096x3, .i32⟩
  | 78 => ⟨S12288, .i32⟩
  | 79 => ⟨S_, .i32⟩
  | 80 => ⟨S3, .i32⟩
  | 81 => ⟨S3, .i1⟩
  | 82 => ⟨S_, .i32⟩
  | 83 => ⟨S3, .i32⟩
  | 84 => ⟨S3, .i32⟩
  | 85 => ⟨S3, .i32⟩
  | 86 => ⟨S3x1, .i32⟩
  | 87 => ⟨S4096x3, .i32⟩
  | 88 => ⟨S12288, .i32⟩
  | 89 => ⟨S_, .f32⟩
  | 90 => ⟨S2048x3, .f32⟩
  | 91 => ⟨S12288x1, .f32⟩
  | 92 => ⟨S_, .i32⟩
  | 93 => ⟨S12288, .i32⟩
  | 94 => ⟨S12288, .i1⟩
  | 95 => ⟨S_, .i32⟩
  | 96 => ⟨S12288, .i32⟩
  | 97 => ⟨S12288, .i32⟩
  | 98 => ⟨S12288, .i32⟩
  | 99 => ⟨S12288x1, .i32⟩
  | 100 => ⟨S12288x3, .f32⟩
  | 101 => ⟨S12288x3, .f32⟩
  | 102 => ⟨S12288x3, .f32⟩
  | 103 => ⟨S_, .i32⟩
  | 104 => ⟨S12288, .i32⟩
  | 105 => ⟨S12288, .i1⟩
  | 106 => ⟨S_, .i32⟩
  | 107 => ⟨S12288, .i32⟩
  | 108 => ⟨S12288, .i32⟩
  | 109 => ⟨S12288, .i32⟩
  | 110 => ⟨S12288x1, .i32⟩
  | 111 => ⟨S2048x3, .f32⟩
  | 112 => ⟨S12288x1, .f32⟩
  | 113 => ⟨S_, .i32⟩
  | 114 => ⟨S12288, .i32⟩
  | 115 => ⟨S12288, .i1⟩
  | 116 => ⟨S_, .i32⟩
  | 117 => ⟨S12288, .i32⟩
  | 118 => ⟨S12288, .i32⟩
  | 119 => ⟨S12288, .i32⟩
  | 120 => ⟨S12288x1, .i32⟩
  | 121 => ⟨S12288x3, .f32⟩
  | 122 => ⟨S12288x3, .f32⟩
  | 123 => ⟨S12288x3, .f32⟩
  | 124 => ⟨S_, .i32⟩
  | 125 => ⟨S12288, .i32⟩
  | 126 => ⟨S12288, .i1⟩
  | 127 => ⟨S_, .i32⟩
  | _ => ⟨S4x2048x3, .f32⟩

abbrev hbmTy0_7 (i : Nat) : BufTy := match i % 128 with
  | 0 => ⟨S12288, .i32⟩
  | 1 => ⟨S12288, .i32⟩
  | 2 => ⟨S12288, .i32⟩
  | 3 => ⟨S12288x1, .i32⟩
  | 4 => ⟨S2048x3, .f32⟩
  | 5 => ⟨S_, .f32⟩
  | 6 => ⟨S2048, .f32⟩
  | 7 => ⟨S_, .i32⟩
  | 8 => ⟨S12288, .i32⟩
  | 9 => ⟨S12288, .i1⟩
  | 10 => ⟨S_, .i32⟩
  | 11 => ⟨S12288, .i32⟩
  | 12 => ⟨S12288, .i32⟩
  | 13 => ⟨S12288, .i32⟩
  | 14 => ⟨S12288x1, .i32⟩
  | 15 => ⟨S2048, .f32⟩
  | 16 => ⟨S_, .i32⟩
  | 17 => ⟨S12288, .i32⟩
  | 18 => ⟨S12288, .i1⟩
  | 19 => ⟨S_, .i32⟩
  | 20 => ⟨S12288, .i32⟩
  | 21 => ⟨S12288, .i32⟩
  | 22 => ⟨S12288, .i32⟩
  | 23 => ⟨S12288x1, .i32⟩
  | 24 => ⟨S2048, .f32⟩
  | 25 => ⟨S_, .f32⟩
  | 26 => ⟨S2048, .f32⟩
  | 27 => ⟨S2048, .i1⟩
  | 28 => ⟨S_, .f32⟩
  | 29 => ⟨S_, .f32⟩
  | 30 => ⟨S2048, .f32⟩
  | 31 => ⟨S2048, .f32⟩
  | 32 => ⟨S_, .f32⟩
  | 33 => ⟨S2048, .f32⟩
  | 34 => ⟨S2048, .i1⟩
  | 35 => ⟨S_, .f32⟩
  | 36 => ⟨S2048, .f32⟩
  | 37 => ⟨S2048, .f32⟩
  | 38 => ⟨S_, .f32⟩
  | 39 => ⟨S_, .f32⟩
  | 40 => ⟨S2048, .f32⟩
  | 41 => ⟨S2048, .f32⟩
  | 42 => ⟨S2048x1, .f32⟩
  | 43 => ⟨S2048x3, .f32⟩
  | 44 => ⟨S2048x3, .f32⟩
  | 45 => ⟨S2048x3, .f32⟩
  | 46 => ⟨S2048x3, .f32⟩
  | 47 => ⟨S_, .f32⟩
  | 48 => ⟨S2048, .f32⟩
  | 49 => ⟨S_, .f32⟩
  | 50 => ⟨S2048, .f32⟩
  | 51 => ⟨S2048, .f32⟩
  | 52 => ⟨S2048, .f32⟩
  | 53 => ⟨S_, .f32⟩
  | 54 => ⟨S_, .f32⟩
  | 55 => ⟨S_, .f32⟩
  | 56 => ⟨S_, .f32⟩
  | 57 => ⟨S_, .f32⟩
  | 58 => ⟨S1x2048x3, .f32⟩
  | 59 => ⟨S2048x3, .f32⟩
  | 60 => ⟨S1x4096x3, .i32⟩
  | 61 => ⟨S4096x3, .i32⟩
  | 62 => ⟨S4096x1, .i32⟩
  | 63 => ⟨S4096, .i32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S4096x3, .f32⟩
  | 73 => ⟨S4096x1, .i32⟩
  | 74 => ⟨S4096, .i32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S4096x3, .f32⟩
  | 84 => ⟨S4096x1, .i32⟩
  | 85 => ⟨S4096, .i32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S4096x3, .f32⟩
  | 95 => ⟨S4096x3, .f32⟩
  | 96 => ⟨S4096x3, .f32⟩
  | 97 => ⟨S_, .f32⟩
  | 98 => ⟨S4096, .f32⟩
  | 99 => ⟨S_, .f32⟩
  | 100 => ⟨S4096, .f32⟩
  | 101 => ⟨S4096, .f32⟩
  | 102 => ⟨S4096, .f32⟩
  | 103 => ⟨S4096x3, .f32⟩
  | 104 => ⟨S4096x3, .f32⟩
  | 105 => ⟨S_, .f32⟩
  | 106 => ⟨S4096, .f32⟩
  | 107 => ⟨S_, .f32⟩
  | 108 => ⟨S4096, .f32⟩
  | 109 => ⟨S4096, .f32⟩
  | 110 => ⟨S4096, .f32⟩
  | 111 => ⟨S4096x3, .f32⟩
  | 112 => ⟨S4096x3, .f32⟩
  | 113 => ⟨S_, .f32⟩
  | 114 => ⟨S4096, .f32⟩
  | 115 => ⟨S_, .f32⟩
  | 116 => ⟨S4096, .f32⟩
  | 117 => ⟨S4096, .f32⟩
  | 118 => ⟨S4096, .f32⟩
  | 119 => ⟨S4096, .f32⟩
  | 120 => ⟨S4096, .f32⟩
  | 121 => ⟨S_, .f32⟩
  | 122 => ⟨S4096, .f32⟩
  | 123 => ⟨S4096, .f32⟩
  | 124 => ⟨S4096, .f32⟩
  | 125 => ⟨S4096, .f32⟩
  | 126 => ⟨S4096, .f32⟩
  | 127 => ⟨S4096, .f32⟩
  | _ => ⟨S4x2048x3, .f32⟩

abbrev hbmTy0_8 (i : Nat) : BufTy := match i % 128 with
  | 0 => ⟨S4096, .f32⟩
  | 1 => ⟨S4096, .f32⟩
  | 2 => ⟨S_, .f32⟩
  | 3 => ⟨S_, .f32⟩
  | 4 => ⟨S4096, .f32⟩
  | 5 => ⟨S4096, .f32⟩
  | 6 => ⟨S4096, .f32⟩
  | 7 => ⟨S4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .f32⟩
  | 15 => ⟨S4096, .f32⟩
  | 16 => ⟨S4096, .f32⟩
  | 17 => ⟨S4096, .f32⟩
  | 18 => ⟨S4096, .f32⟩
  | 19 => ⟨S4096x1, .f32⟩
  | 20 => ⟨S4096x1, .f32⟩
  | 21 => ⟨S4096x1, .f32⟩
  | 22 => ⟨S4096x3, .f32⟩
  | 23 => ⟨S_, .f32⟩
  | 24 => ⟨S4096x3, .f32⟩
  | 25 => ⟨S4096x3, .f32⟩
  | 26 => ⟨S12288, .f32⟩
  | 27 => ⟨S_, .i32⟩
  | 28 => ⟨S3, .i32⟩
  | 29 => ⟨S3, .i1⟩
  | 30 => ⟨S_, .i32⟩
  | 31 => ⟨S3, .i32⟩
  | 32 => ⟨S3, .i32⟩
  | 33 => ⟨S3, .i32⟩
  | 34 => ⟨S3x1, .i32⟩
  | 35 => ⟨S4096x3, .i32⟩
  | 36 => ⟨S12288, .i32⟩
  | 37 => ⟨S_, .i32⟩
  | 38 => ⟨S3, .i32⟩
  | 39 => ⟨S3, .i1⟩
  | 40 => ⟨S_, .i32⟩
  | 41 => ⟨S3, .i32⟩
  | 42 => ⟨S3, .i32⟩
  | 43 => ⟨S3, .i32⟩
  | 44 => ⟨S3x1, .i32⟩
  | 45 => ⟨S4096x3, .i32⟩
  | 46 => ⟨S12288, .i32⟩
  | 47 => ⟨S_, .f32⟩
  | 48 => ⟨S2048x3, .f32⟩
  | 49 => ⟨S12288x1, .f32⟩
  | 50 => ⟨S_, .i32⟩
  | 51 => ⟨S12288, .i32⟩
  | 52 => ⟨S12288, .i1⟩
  | 53 => ⟨S_, .i32⟩
  | 54 => ⟨S12288, .i32⟩
  | 55 => ⟨S12288, .i32⟩
  | 56 => ⟨S12288, .i32⟩
  | 57 => ⟨S12288x1, .i32⟩
  | 58 => ⟨S12288x3, .f32⟩
  | 59 => ⟨S12288x3, .f32⟩
  | 60 => ⟨S12288x3, .f32⟩
  | 61 => ⟨S_, .i32⟩
  | 62 => ⟨S12288, .i32⟩
  | 63 => ⟨S12288, .i1⟩
  | 64 => ⟨S_, .i32⟩
  | 65 => ⟨S12288, .i32⟩
  | 66 => ⟨S12288, .i32⟩
  | 67 => ⟨S12288, .i32⟩
  | 68 => ⟨S12288x1, .i32⟩
  | 69 => ⟨S2048x3, .f32⟩
  | 70 => ⟨S12288x1, .f32⟩
  | 71 => ⟨S_, .i32⟩
  | 72 => ⟨S12288, .i32⟩
  | 73 => ⟨S12288, .i1⟩
  | 74 => ⟨S_, .i32⟩
  | 75 => ⟨S12288, .i32⟩
  | 76 => ⟨S12288, .i32⟩
  | 77 => ⟨S12288, .i32⟩
  | 78 => ⟨S12288x1, .i32⟩
  | 79 => ⟨S12288x3, .f32⟩
  | 80 => ⟨S12288x3, .f32⟩
  | 81 => ⟨S12288x3, .f32⟩
  | 82 => ⟨S_, .i32⟩
  | 83 => ⟨S12288, .i32⟩
  | 84 => ⟨S12288, .i1⟩
  | 85 => ⟨S_, .i32⟩
  | 86 => ⟨S12288, .i32⟩
  | 87 => ⟨S12288, .i32⟩
  | 88 => ⟨S12288, .i32⟩
  | 89 => ⟨S12288x1, .i32⟩
  | 90 => ⟨S2048x3, .f32⟩
  | 91 => ⟨S_, .f32⟩
  | 92 => ⟨S2048, .f32⟩
  | 93 => ⟨S_, .i32⟩
  | 94 => ⟨S12288, .i32⟩
  | 95 => ⟨S12288, .i1⟩
  | 96 => ⟨S_, .i32⟩
  | 97 => ⟨S12288, .i32⟩
  | 98 => ⟨S12288, .i32⟩
  | 99 => ⟨S12288, .i32⟩
  | 100 => ⟨S12288x1, .i32⟩
  | 101 => ⟨S2048, .f32⟩
  | 102 => ⟨S_, .i32⟩
  | 103 => ⟨S12288, .i32⟩
  | 104 => ⟨S12288, .i1⟩
  | 105 => ⟨S_, .i32⟩
  | 106 => ⟨S12288, .i32⟩
  | 107 => ⟨S12288, .i32⟩
  | 108 => ⟨S12288, .i32⟩
  | 109 => ⟨S12288x1, .i32⟩
  | 110 => ⟨S2048, .f32⟩
  | 111 => ⟨S_, .f32⟩
  | 112 => ⟨S2048, .f32⟩
  | 113 => ⟨S2048, .i1⟩
  | 114 => ⟨S_, .f32⟩
  | 115 => ⟨S_, .f32⟩
  | 116 => ⟨S2048, .f32⟩
  | 117 => ⟨S2048, .f32⟩
  | 118 => ⟨S_, .f32⟩
  | 119 => ⟨S2048, .f32⟩
  | 120 => ⟨S2048, .i1⟩
  | 121 => ⟨S_, .f32⟩
  | 122 => ⟨S2048, .f32⟩
  | 123 => ⟨S2048, .f32⟩
  | 124 => ⟨S_, .f32⟩
  | 125 => ⟨S_, .f32⟩
  | 126 => ⟨S2048, .f32⟩
  | 127 => ⟨S2048, .f32⟩
  | _ => ⟨S4x2048x3, .f32⟩

abbrev hbmTy0_9 (i : Nat) : BufTy := match i % 128 with
  | 0 => ⟨S2048x1, .f32⟩
  | 1 => ⟨S2048x3, .f32⟩
  | 2 => ⟨S2048x3, .f32⟩
  | 3 => ⟨S2048x3, .f32⟩
  | 4 => ⟨S2048x3, .f32⟩
  | 5 => ⟨S_, .f32⟩
  | 6 => ⟨S2048, .f32⟩
  | 7 => ⟨S_, .f32⟩
  | 8 => ⟨S2048, .f32⟩
  | 9 => ⟨S2048, .f32⟩
  | 10 => ⟨S2048, .f32⟩
  | 11 => ⟨S_, .f32⟩
  | 12 => ⟨S_, .f32⟩
  | 13 => ⟨S_, .f32⟩
  | 14 => ⟨S_, .f32⟩
  | 15 => ⟨S_, .f32⟩
  | 16 => ⟨S1x2048x3, .f32⟩
  | 17 => ⟨S2048x3, .f32⟩
  | 18 => ⟨S1x4096x3, .i32⟩
  | 19 => ⟨S4096x3, .i32⟩
  | 20 => ⟨S4096x1, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x3, .f32⟩
  | 31 => ⟨S4096x1, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x3, .f32⟩
  | 42 => ⟨S4096x1, .i32⟩
  | 43 => ⟨S4096, .i32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S4096x3, .f32⟩
  | 53 => ⟨S4096x3, .f32⟩
  | 54 => ⟨S4096x3, .f32⟩
  | 55 => ⟨S_, .f32⟩
  | 56 => ⟨S4096, .f32⟩
  | 57 => ⟨S_, .f32⟩
  | 58 => ⟨S4096, .f32⟩
  | 59 => ⟨S4096, .f32⟩
  | 60 => ⟨S4096, .f32⟩
  | 61 => ⟨S4096x3, .f32⟩
  | 62 => ⟨S4096x3, .f32⟩
  | 63 => ⟨S_, .f32⟩
  | 64 => ⟨S4096, .f32⟩
  | 65 => ⟨S_, .f32⟩
  | 66 => ⟨S4096, .f32⟩
  | 67 => ⟨S4096, .f32⟩
  | 68 => ⟨S4096, .f32⟩
  | 69 => ⟨S4096x3, .f32⟩
  | 70 => ⟨S4096x3, .f32⟩
  | 71 => ⟨S_, .f32⟩
  | 72 => ⟨S4096, .f32⟩
  | 73 => ⟨S_, .f32⟩
  | 74 => ⟨S4096, .f32⟩
  | 75 => ⟨S4096, .f32⟩
  | 76 => ⟨S4096, .f32⟩
  | 77 => ⟨S4096, .f32⟩
  | 78 => ⟨S4096, .f32⟩
  | 79 => ⟨S_, .f32⟩
  | 80 => ⟨S4096, .f32⟩
  | 81 => ⟨S4096, .f32⟩
  | 82 => ⟨S4096, .f32⟩
  | 83 => ⟨S4096, .f32⟩
  | 84 => ⟨S4096, .f32⟩
  | 85 => ⟨S4096, .f32⟩
  | 86 => ⟨S4096, .f32⟩
  | 87 => ⟨S4096, .f32⟩
  | 88 => ⟨S_, .f32⟩
  | 89 => ⟨S_, .f32⟩
  | 90 => ⟨S4096, .f32⟩
  | 91 => ⟨S4096, .f32⟩
  | 92 => ⟨S4096, .f32⟩
  | 93 => ⟨S4096, .f32⟩
  | 94 => ⟨S4096, .f32⟩
  | 95 => ⟨S4096, .f32⟩
  | 96 => ⟨S4096, .f32⟩
  | 97 => ⟨S4096, .f32⟩
  | 98 => ⟨S4096, .f32⟩
  | 99 => ⟨S4096, .f32⟩
  | 100 => ⟨S4096, .f32⟩
  | 101 => ⟨S4096, .f32⟩
  | 102 => ⟨S4096, .f32⟩
  | 103 => ⟨S4096, .f32⟩
  | 104 => ⟨S4096, .f32⟩
  | 105 => ⟨S4096x1, .f32⟩
  | 106 => ⟨S4096x1, .f32⟩
  | 107 => ⟨S4096x1, .f32⟩
  | 108 => ⟨S4096x3, .f32⟩
  | 109 => ⟨S_, .f32⟩
  | 110 => ⟨S4096x3, .f32⟩
  | 111 => ⟨S4096x3, .f32⟩
  | 112 => ⟨S12288, .f32⟩
  | 113 => ⟨S_, .i32⟩
  | 114 => ⟨S3, .i32⟩
  | 115 => ⟨S3, .i1⟩
  | 116 => ⟨S_, .i32⟩
  | 117 => ⟨S3, .i32⟩
  | 118 => ⟨S3, .i32⟩
  | 119 => ⟨S3, .i32⟩
  | 120 => ⟨S3x1, .i32⟩
  | 121 => ⟨S4096x3, .i32⟩
  | 122 => ⟨S12288, .i32⟩
  | 123 => ⟨S_, .i32⟩
  | 124 => ⟨S3, .i32⟩
  | 125 => ⟨S3, .i1⟩
  | 126 => ⟨S_, .i32⟩
  | 127 => ⟨S3, .i32⟩
  | _ => ⟨S4x2048x3, .f32⟩

abbrev hbmTy0_10 (i : Nat) : BufTy := match i % 128 with
  | 0 => ⟨S3, .i32⟩
  | 1 => ⟨S3, .i32⟩
  | 2 => ⟨S3x1, .i32⟩
  | 3 => ⟨S4096x3, .i32⟩
  | 4 => ⟨S12288, .i32⟩
  | 5 => ⟨S_, .f32⟩
  | 6 => ⟨S2048x3, .f32⟩
  | 7 => ⟨S12288x1, .f32⟩
  | 8 => ⟨S_, .i32⟩
  | 9 => ⟨S12288, .i32⟩
  | 10 => ⟨S12288, .i1⟩
  | 11 => ⟨S_, .i32⟩
  | 12 => ⟨S12288, .i32⟩
  | 13 => ⟨S12288, .i32⟩
  | 14 => ⟨S12288, .i32⟩
  | 15 => ⟨S12288x1, .i32⟩
  | 16 => ⟨S12288x3, .f32⟩
  | 17 => ⟨S12288x3, .f32⟩
  | 18 => ⟨S12288x3, .f32⟩
  | 19 => ⟨S_, .i32⟩
  | 20 => ⟨S12288, .i32⟩
  | 21 => ⟨S12288, .i1⟩
  | 22 => ⟨S_, .i32⟩
  | 23 => ⟨S12288, .i32⟩
  | 24 => ⟨S12288, .i32⟩
  | 25 => ⟨S12288, .i32⟩
  | 26 => ⟨S12288x1, .i32⟩
  | 27 => ⟨S2048x3, .f32⟩
  | 28 => ⟨S12288x1, .f32⟩
  | 29 => ⟨S_, .i32⟩
  | 30 => ⟨S12288, .i32⟩
  | 31 => ⟨S12288, .i1⟩
  | 32 => ⟨S_, .i32⟩
  | 33 => ⟨S12288, .i32⟩
  | 34 => ⟨S12288, .i32⟩
  | 35 => ⟨S12288, .i32⟩
  | 36 => ⟨S12288x1, .i32⟩
  | 37 => ⟨S12288x3, .f32⟩
  | 38 => ⟨S12288x3, .f32⟩
  | 39 => ⟨S12288x3, .f32⟩
  | 40 => ⟨S_, .i32⟩
  | 41 => ⟨S12288, .i32⟩
  | 42 => ⟨S12288, .i1⟩
  | 43 => ⟨S_, .i32⟩
  | 44 => ⟨S12288, .i32⟩
  | 45 => ⟨S12288, .i32⟩
  | 46 => ⟨S12288, .i32⟩
  | 47 => ⟨S12288x1, .i32⟩
  | 48 => ⟨S2048x3, .f32⟩
  | 49 => ⟨S_, .f32⟩
  | 50 => ⟨S2048, .f32⟩
  | 51 => ⟨S_, .i32⟩
  | 52 => ⟨S12288, .i32⟩
  | 53 => ⟨S12288, .i1⟩
  | 54 => ⟨S_, .i32⟩
  | 55 => ⟨S12288, .i32⟩
  | 56 => ⟨S12288, .i32⟩
  | 57 => ⟨S12288, .i32⟩
  | 58 => ⟨S12288x1, .i32⟩
  | 59 => ⟨S2048, .f32⟩
  | 60 => ⟨S_, .i32⟩
  | 61 => ⟨S12288, .i32⟩
  | 62 => ⟨S12288, .i1⟩
  | 63 => ⟨S_, .i32⟩
  | 64 => ⟨S12288, .i32⟩
  | 65 => ⟨S12288, .i32⟩
  | 66 => ⟨S12288, .i32⟩
  | 67 => ⟨S12288x1, .i32⟩
  | 68 => ⟨S2048, .f32⟩
  | 69 => ⟨S_, .f32⟩
  | 70 => ⟨S2048, .f32⟩
  | 71 => ⟨S2048, .i1⟩
  | 72 => ⟨S_, .f32⟩
  | 73 => ⟨S_, .f32⟩
  | 74 => ⟨S2048, .f32⟩
  | 75 => ⟨S2048, .f32⟩
  | 76 => ⟨S_, .f32⟩
  | 77 => ⟨S2048, .f32⟩
  | 78 => ⟨S2048, .i1⟩
  | 79 => ⟨S_, .f32⟩
  | 80 => ⟨S2048, .f32⟩
  | 81 => ⟨S2048, .f32⟩
  | 82 => ⟨S_, .f32⟩
  | 83 => ⟨S_, .f32⟩
  | 84 => ⟨S2048, .f32⟩
  | 85 => ⟨S2048, .f32⟩
  | 86 => ⟨S2048x1, .f32⟩
  | 87 => ⟨S2048x3, .f32⟩
  | 88 => ⟨S2048x3, .f32⟩
  | 89 => ⟨S2048x3, .f32⟩
  | 90 => ⟨S2048x3, .f32⟩
  | 91 => ⟨S_, .f32⟩
  | 92 => ⟨S2048, .f32⟩
  | 93 => ⟨S_, .f32⟩
  | 94 => ⟨S2048, .f32⟩
  | 95 => ⟨S2048, .f32⟩
  | 96 => ⟨S2048, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1x2048x3, .f32⟩
  | 105 => ⟨S2048x3, .f32⟩
  | 106 => ⟨S1x4096x3, .i32⟩
  | 107 => ⟨S4096x3, .i32⟩
  | 108 => ⟨S_, .i32⟩
  | 109 => ⟨S2, .i32⟩
  | 110 => ⟨S2, .i1⟩
  | 111 => ⟨S_, .i32⟩
  | 112 => ⟨S2, .i32⟩
  | 113 => ⟨S2, .i32⟩
  | 114 => ⟨S2, .i32⟩
  | 115 => ⟨S2x1, .i32⟩
  | 116 => ⟨S4096x2, .i32⟩
  | 117 => ⟨S_, .i32⟩
  | 118 => ⟨S2, .i32⟩
  | 119 => ⟨S2, .i1⟩
  | 120 => ⟨S_, .i32⟩
  | 121 => ⟨S2, .i32⟩
  | 122 => ⟨S2, .i32⟩
  | 123 => ⟨S2, .i32⟩
  | 124 => ⟨S2x1, .i32⟩
  | 125 => ⟨S4096x2, .i32⟩
  | 126 => ⟨S_, .i32⟩
  | 127 => ⟨S2, .i32⟩
  | _ => ⟨S4x2048x3, .f32⟩

abbrev hbmTy0_11 (i : Nat) : BufTy := match i % 128 with
  | 0 => ⟨S2, .i1⟩
  | 1 => ⟨S_, .i32⟩
  | 2 => ⟨S2, .i32⟩
  | 3 => ⟨S2, .i32⟩
  | 4 => ⟨S2, .i32⟩
  | 5 => ⟨S2x1, .i32⟩
  | 6 => ⟨S4096x2, .i32⟩
  | 7 => ⟨S12288x2, .i32⟩
  | 8 => ⟨S4096x1, .i32⟩
  | 9 => ⟨S4096, .i32⟩
  | 10 => ⟨S4096x1, .i32⟩
  | 11 => ⟨S4096, .i32⟩
  | 12 => ⟨S4096x1, .i32⟩
  | 13 => ⟨S4096, .i32⟩
  | 14 => ⟨S12288, .i32⟩
  | 15 => ⟨S12288x2, .i32⟩
  | 16 => ⟨S12288x1, .i32⟩
  | 17 => ⟨S12288, .i32⟩
  | 18 => ⟨S_, .i32⟩
  | 19 => ⟨S12288, .i32⟩
  | 20 => ⟨S12288, .i32⟩
  | 21 => ⟨S12288x1, .i32⟩
  | 22 => ⟨S12288, .i32⟩
  | 23 => ⟨S12288, .i32⟩
  | 24 => ⟨S12288, .i32⟩
  | 25 => ⟨S12288, .i32⟩
  | 26 => ⟨S12288, .i32⟩
  | 27 => ⟨S_, .i32⟩
  | 28 => ⟨S12288, .i32⟩
  | 29 => ⟨S12288, .i1⟩
  | 30 => ⟨S_, .i32⟩
  | 31 => ⟨S12288, .i32⟩
  | 32 => ⟨S12288, .i32⟩
  | 33 => ⟨S12288, .i32⟩
  | 34 => ⟨S12288x1, .i32⟩
  | 35 => ⟨S12288, .i32⟩
  | 36 => ⟨S_, .i32⟩
  | 37 => ⟨S12288, .i32⟩
  | 38 => ⟨S12288, .i1⟩
  | 39 => ⟨S_, .i32⟩
  | 40 => ⟨S12288, .i32⟩
  | 41 => ⟨S12288, .i32⟩
  | 42 => ⟨S12288, .i32⟩
  | 43 => ⟨S12288x1, .i32⟩
  | 44 => ⟨S12288, .i32⟩
  | 45 => ⟨S12287, .i32⟩
  | 46 => ⟨S12287, .i32⟩
  | 47 => ⟨S12287, .i1⟩
  | 48 => ⟨S12287, .f32⟩
  | 49 => ⟨S12287, .i32⟩
  | 50 => ⟨S_, .i32⟩
  | 51 => ⟨S_, .i32⟩
  | 52 => ⟨S12287, .i32⟩
  | 53 => ⟨S12287, .i32⟩
  | 54 => ⟨S12287, .i32⟩
  | 55 => ⟨S_, .i32⟩
  | 56 => ⟨S12287, .i32⟩
  | 57 => ⟨S12287, .i1⟩
  | 58 => ⟨S12287, .i32⟩
  | 59 => ⟨S12287, .i32⟩
  | 60 => ⟨S_, .i32⟩
  | 61 => ⟨S12287, .i32⟩
  | 62 => ⟨S12287, .i1⟩
  | 63 => ⟨S12287, .i1⟩
  | 64 => ⟨S_, .i32⟩
  | 65 => ⟨S12287, .i32⟩
  | 66 => ⟨S12287, .i32⟩
  | 67 => ⟨S12287, .i32⟩
  | 68 => ⟨S_, .i32⟩
  | 69 => ⟨S12287, .i32⟩
  | 70 => ⟨S12287, .i1⟩
  | 71 => ⟨S_, .i32⟩
  | 72 => ⟨S12287, .i32⟩
  | 73 => ⟨S12287, .i32⟩
  | 74 => ⟨S12287, .i32⟩
  | 75 => ⟨S12287x1, .i32⟩
  | 76 => ⟨S12287x3, .f32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S12287, .i32⟩
  | 84 => ⟨S12287, .i32⟩
  | 85 => ⟨S_, .i32⟩
  | 86 => ⟨S12287, .i32⟩
  | 87 => ⟨S12287, .i1⟩
  | 88 => ⟨S_, .i32⟩
  | 89 => ⟨S12287, .i32⟩
  | 90 => ⟨S12287, .i1⟩
  | 91 => ⟨S_, .i32⟩
  | 92 => ⟨S_, .i1⟩
  | 93 => ⟨S12287, .i1⟩
  | 94 => ⟨S12287, .i1⟩
  | 95 => ⟨S12287, .i1⟩
  | 96 => ⟨S12287, .i32⟩
  | 97 => ⟨S12287, .i32⟩
  | 98 => ⟨S12287, .i32⟩
  | 99 => ⟨S_, .i32⟩
  | 100 => ⟨S12287, .i32⟩
  | 101 => ⟨S12287, .i1⟩
  | 102 => ⟨S_, .i32⟩
  | 103 => ⟨S12287, .i32⟩
  | 104 => ⟨S12287, .i32⟩
  | 105 => ⟨S12287, .i32⟩
  | 106 => ⟨S12287x1, .i32⟩
  | 107 => ⟨S12287x3, .f32⟩
  | 108 => ⟨S12287, .i32⟩
  | 109 => ⟨S_, .i32⟩
  | 110 => ⟨S12287, .i32⟩
  | 111 => ⟨S12287, .i1⟩
  | 112 => ⟨S_, .i32⟩
  | 113 => ⟨S12287, .i32⟩
  | 114 => ⟨S12287, .i32⟩
  | 115 => ⟨S12287, .i32⟩
  | 116 => ⟨S12287x1, .i32⟩
  | 117 => ⟨S12287x3, .f32⟩
  | 118 => ⟨S12287, .i32⟩
  | 119 => ⟨S_, .i32⟩
  | 120 => ⟨S12287, .i32⟩
  | 121 => ⟨S12287, .i1⟩
  | 122 => ⟨S_, .i32⟩
  | 123 => ⟨S12287, .i32⟩
  | 124 => ⟨S12287, .i32⟩
  | 125 => ⟨S12287, .i32⟩
  | 126 => ⟨S12287x1, .i32⟩
  | 127 => ⟨S12287x3, .f32⟩
  | _ => ⟨S4x2048x3, .f32⟩

abbrev hbmTy0_12 (i : Nat) : BufTy := match i % 128 with
  | 0 => ⟨S12287x3, .f32⟩
  | 1 => ⟨S12287x3, .f32⟩
  | 2 => ⟨S12287x1, .f32⟩
  | 3 => ⟨S12287, .f32⟩
  | 4 => ⟨S12287x1, .f32⟩
  | 5 => ⟨S12287, .f32⟩
  | 6 => ⟨S12287, .f32⟩
  | 7 => ⟨S12287x1, .f32⟩
  | 8 => ⟨S12287, .f32⟩
  | 9 => ⟨S12287x1, .f32⟩
  | 10 => ⟨S12287, .f32⟩
  | 11 => ⟨S12287, .f32⟩
  | 12 => ⟨S12287, .f32⟩
  | 13 => ⟨S12287x1, .f32⟩
  | 14 => ⟨S12287, .f32⟩
  | 15 => ⟨S12287x1, .f32⟩
  | 16 => ⟨S12287, .f32⟩
  | 17 => ⟨S12287, .f32⟩
  | 18 => ⟨S12287x1, .f32⟩
  | 19 => ⟨S12287, .f32⟩
  | 20 => ⟨S12287x1, .f32⟩
  | 21 => ⟨S12287, .f32⟩
  | 22 => ⟨S12287, .f32⟩
  | 23 => ⟨S12287, .f32⟩
  | 24 => ⟨S12287x1, .f32⟩
  | 25 => ⟨S12287, .f32⟩
  | 26 => ⟨S12287x1, .f32⟩
  | 27 => ⟨S12287, .f32⟩
  | 28 => ⟨S12287, .f32⟩
  | 29 => ⟨S12287x1, .f32⟩
  | 30 => ⟨S12287, .f32⟩
  | 31 => ⟨S12287x1, .f32⟩
  | 32 => ⟨S12287, .f32⟩
  | 33 => ⟨S12287, .f32⟩
  | 34 => ⟨S12287, .f32⟩
  | 35 => ⟨S12287x1, .f32⟩
  | 36 => ⟨S12287x1, .f32⟩
  | 37 => ⟨S12287x1, .f32⟩
  | 38 => ⟨S12287x3, .f32⟩
  | 39 => ⟨S12287x3, .f32⟩
  | 40 => ⟨S12287x3, .f32⟩
  | 41 => ⟨S12287x1, .f32⟩
  | 42 => ⟨S12287, .f32⟩
  | 43 => ⟨S12287x1, .f32⟩
  | 44 => ⟨S12287, .f32⟩
  | 45 => ⟨S12287, .f32⟩
  | 46 => ⟨S12287x1, .f32⟩
  | 47 => ⟨S12287, .f32⟩
  | 48 => ⟨S12287x1, .f32⟩
  | 49 => ⟨S12287, .f32⟩
  | 50 => ⟨S12287, .f32⟩
  | 51 => ⟨S12287, .f32⟩
  | 52 => ⟨S12287x1, .f32⟩
  | 53 => ⟨S12287, .f32⟩
  | 54 => ⟨S12287x1, .f32⟩
  | 55 => ⟨S12287, .f32⟩
  | 56 => ⟨S12287, .f32⟩
  | 57 => ⟨S12287x1, .f32⟩
  | 58 => ⟨S12287, .f32⟩
  | 59 => ⟨S12287x1, .f32⟩
  | 60 => ⟨S12287, .f32⟩
  | 61 => ⟨S12287, .f32⟩
  | 62 => ⟨S12287, .f32⟩
  | 63 => ⟨S12287x1, .f32⟩
  | 64 => ⟨S12287, .f32⟩
  | 65 => ⟨S12287x1, .f32⟩
  | 66 => ⟨S12287, .f32⟩
  | 67 => ⟨S12287, .f32⟩
  | 68 => ⟨S12287x1, .f32⟩
  | 69 => ⟨S12287, .f32⟩
  | 70 => ⟨S12287x1, .f32⟩
  | 71 => ⟨S12287, .f32⟩
  | 72 => ⟨S12287, .f32⟩
  | 73 => ⟨S12287, .f32⟩
  | 74 => ⟨S12287x1, .f32⟩
  | 75 => ⟨S12287x1, .f32⟩
  | 76 => ⟨S12287x1, .f32⟩
  | 77 => ⟨S12287x3, .f32⟩
  | 78 => ⟨S12287x3, .f32⟩
  | 79 => ⟨S12287x3, .f32⟩
  | 80 => ⟨S_, .f32⟩
  | 81 => ⟨S12287, .f32⟩
  | 82 => ⟨S_, .f32⟩
  | 83 => ⟨S12287, .f32⟩
  | 84 => ⟨S12287, .f32⟩
  | 85 => ⟨S12287, .f32⟩
  | 86 => ⟨S_, .f32⟩
  | 87 => ⟨S12287, .f32⟩
  | 88 => ⟨S12287, .f32⟩
  | 89 => ⟨S12287x3, .f32⟩
  | 90 => ⟨S_, .f32⟩
  | 91 => ⟨S12287, .f32⟩
  | 92 => ⟨S_, .f32⟩
  | 93 => ⟨S12287, .f32⟩
  | 94 => ⟨S12287, .f32⟩
  | 95 => ⟨S12287, .f32⟩
  | 96 => ⟨S_, .f32⟩
  | 97 => ⟨S12287, .f32⟩
  | 98 => ⟨S12287, .f32⟩
  | 99 => ⟨S12287x3, .f32⟩
  | 100 => ⟨S_, .f32⟩
  | 101 => ⟨S12287, .f32⟩
  | 102 => ⟨S12287, .f32⟩
  | 103 => ⟨S12287, .f32⟩
  | 104 => ⟨S_, .f32⟩
  | 105 => ⟨S12287, .f32⟩
  | 106 => ⟨S12287, .f32⟩
  | 107 => ⟨S12287, .f32⟩
  | 108 => ⟨S_, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S1x2048x3, .f32⟩
  | 123 => ⟨S2048x3, .f32⟩
  | 124 => ⟨S1x4096x3, .i32⟩
  | 125 => ⟨S4096x3, .i32⟩
  | 126 => ⟨S_, .i32⟩
  | 127 => ⟨S2, .i32⟩
  | _ => ⟨S4x2048x3, .f32⟩

abbrev hbmTy0_13 (i : Nat) : BufTy := match i % 128 with
  | 0 => ⟨S2, .i1⟩
  | 1 => ⟨S_, .i32⟩
  | 2 => ⟨S2, .i32⟩
  | 3 => ⟨S2, .i32⟩
  | 4 => ⟨S2, .i32⟩
  | 5 => ⟨S2x1, .i32⟩
  | 6 => ⟨S4096x2, .i32⟩
  | 7 => ⟨S_, .i32⟩
  | 8 => ⟨S2, .i32⟩
  | 9 => ⟨S2, .i1⟩
  | 10 => ⟨S_, .i32⟩
  | 11 => ⟨S2, .i32⟩
  | 12 => ⟨S2, .i32⟩
  | 13 => ⟨S2, .i32⟩
  | 14 => ⟨S2x1, .i32⟩
  | 15 => ⟨S4096x2, .i32⟩
  | 16 => ⟨S_, .i32⟩
  | 17 => ⟨S2, .i32⟩
  | 18 => ⟨S2, .i1⟩
  | 19 => ⟨S_, .i32⟩
  | 20 => ⟨S2, .i32⟩
  | 21 => ⟨S2, .i32⟩
  | 22 => ⟨S2, .i32⟩
  | 23 => ⟨S2x1, .i32⟩
  | 24 => ⟨S4096x2, .i32⟩
  | 25 => ⟨S12288x2, .i32⟩
  | 26 => ⟨S4096x1, .i32⟩
  | 27 => ⟨S4096, .i32⟩
  | 28 => ⟨S4096x1, .i32⟩
  | 29 => ⟨S4096, .i32⟩
  | 30 => ⟨S4096x1, .i32⟩
  | 31 => ⟨S4096, .i32⟩
  | 32 => ⟨S12288, .i32⟩
  | 33 => ⟨S12288x2, .i32⟩
  | 34 => ⟨S12288x1, .i32⟩
  | 35 => ⟨S12288, .i32⟩
  | 36 => ⟨S_, .i32⟩
  | 37 => ⟨S12288, .i32⟩
  | 38 => ⟨S12288, .i32⟩
  | 39 => ⟨S12288x1, .i32⟩
  | 40 => ⟨S12288, .i32⟩
  | 41 => ⟨S12288, .i32⟩
  | 42 => ⟨S12288, .i32⟩
  | 43 => ⟨S12288, .i32⟩
  | 44 => ⟨S12288, .i32⟩
  | 45 => ⟨S_, .i32⟩
  | 46 => ⟨S12288, .i32⟩
  | 47 => ⟨S12288, .i1⟩
  | 48 => ⟨S_, .i32⟩
  | 49 => ⟨S12288, .i32⟩
  | 50 => ⟨S12288, .i32⟩
  | 51 => ⟨S12288, .i32⟩
  | 52 => ⟨S12288x1, .i32⟩
  | 53 => ⟨S12288, .i32⟩
  | 54 => ⟨S_, .i32⟩
  | 55 => ⟨S12288, .i32⟩
  | 56 => ⟨S12288, .i1⟩
  | 57 => ⟨S_, .i32⟩
  | 58 => ⟨S12288, .i32⟩
  | 59 => ⟨S12288, .i32⟩
  | 60 => ⟨S12288, .i32⟩
  | 61 => ⟨S12288x1, .i32⟩
  | 62 => ⟨S12288, .i32⟩
  | 63 => ⟨S12287, .i32⟩
  | 64 => ⟨S12287, .i32⟩
  | 65 => ⟨S12287, .i1⟩
  | 66 => ⟨S12287, .f32⟩
  | 67 => ⟨S12287, .i32⟩
  | 68 => ⟨S_, .i32⟩
  | 69 => ⟨S_, .i32⟩
  | 70 => ⟨S12287, .i32⟩
  | 71 => ⟨S12287, .i32⟩
  | 72 => ⟨S12287, .i32⟩
  | 73 => ⟨S_, .i32⟩
  | 74 => ⟨S12287, .i32⟩
  | 75 => ⟨S12287, .i1⟩
  | 76 => ⟨S12287, .i32⟩
  | 77 => ⟨S12287, .i32⟩
  | 78 => ⟨S_, .i32⟩
  | 79 => ⟨S12287, .i32⟩
  | 80 => ⟨S12287, .i1⟩
  | 81 => ⟨S12287, .i1⟩
  | 82 => ⟨S_, .i32⟩
  | 83 => ⟨S12287, .i32⟩
  | 84 => ⟨S12287, .i32⟩
  | 85 => ⟨S12287, .i32⟩
  | 86 => ⟨S_, .i32⟩
  | 87 => ⟨S12287, .i32⟩
  | 88 => ⟨S12287, .i1⟩
  | 89 => ⟨S_, .i32⟩
  | 90 => ⟨S12287, .i32⟩
  | 91 => ⟨S12287, .i32⟩
  | 92 => ⟨S12287, .i32⟩
  | 93 => ⟨S12287x1, .i32⟩
  | 94 => ⟨S12287x3, .f32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S12287, .i32⟩
  | 102 => ⟨S12287, .i32⟩
  | 103 => ⟨S_, .i32⟩
  | 104 => ⟨S12287, .i32⟩
  | 105 => ⟨S12287, .i1⟩
  | 106 => ⟨S_, .i32⟩
  | 107 => ⟨S12287, .i32⟩
  | 108 => ⟨S12287, .i1⟩
  | 109 => ⟨S_, .i32⟩
  | 110 => ⟨S_, .i1⟩
  | 111 => ⟨S12287, .i1⟩
  | 112 => ⟨S12287, .i1⟩
  | 113 => ⟨S12287, .i1⟩
  | 114 => ⟨S12287, .i32⟩
  | 115 => ⟨S12287, .i32⟩
  | 116 => ⟨S12287, .i32⟩
  | 117 => ⟨S_, .i32⟩
  | 118 => ⟨S12287, .i32⟩
  | 119 => ⟨S12287, .i1⟩
  | 120 => ⟨S_, .i32⟩
  | 121 => ⟨S12287, .i32⟩
  | 122 => ⟨S12287, .i32⟩
  | 123 => ⟨S12287, .i32⟩
  | 124 => ⟨S12287x1, .i32⟩
  | 125 => ⟨S12287x3, .f32⟩
  | 126 => ⟨S12287, .i32⟩
  | 127 => ⟨S_, .i32⟩
  | _ => ⟨S4x2048x3, .f32⟩

abbrev hbmTy0_14 (i : Nat) : BufTy := match i % 128 with
  | 0 => ⟨S12287, .i32⟩
  | 1 => ⟨S12287, .i1⟩
  | 2 => ⟨S_, .i32⟩
  | 3 => ⟨S12287, .i32⟩
  | 4 => ⟨S12287, .i32⟩
  | 5 => ⟨S12287, .i32⟩
  | 6 => ⟨S12287x1, .i32⟩
  | 7 => ⟨S12287x3, .f32⟩
  | 8 => ⟨S12287, .i32⟩
  | 9 => ⟨S_, .i32⟩
  | 10 => ⟨S12287, .i32⟩
  | 11 => ⟨S12287, .i1⟩
  | 12 => ⟨S_, .i32⟩
  | 13 => ⟨S12287, .i32⟩
  | 14 => ⟨S12287, .i32⟩
  | 15 => ⟨S12287, .i32⟩
  | 16 => ⟨S12287x1, .i32⟩
  | 17 => ⟨S12287x3, .f32⟩
  | 18 => ⟨S12287x3, .f32⟩
  | 19 => ⟨S12287x3, .f32⟩
  | 20 => ⟨S12287x1, .f32⟩
  | 21 => ⟨S12287, .f32⟩
  | 22 => ⟨S12287x1, .f32⟩
  | 23 => ⟨S12287, .f32⟩
  | 24 => ⟨S12287, .f32⟩
  | 25 => ⟨S12287x1, .f32⟩
  | 26 => ⟨S12287, .f32⟩
  | 27 => ⟨S12287x1, .f32⟩
  | 28 => ⟨S12287, .f32⟩
  | 29 => ⟨S12287, .f32⟩
  | 30 => ⟨S12287, .f32⟩
  | 31 => ⟨S12287x1, .f32⟩
  | 32 => ⟨S12287, .f32⟩
  | 33 => ⟨S12287x1, .f32⟩
  | 34 => ⟨S12287, .f32⟩
  | 35 => ⟨S12287, .f32⟩
  | 36 => ⟨S12287x1, .f32⟩
  | 37 => ⟨S12287, .f32⟩
  | 38 => ⟨S12287x1, .f32⟩
  | 39 => ⟨S12287, .f32⟩
  | 40 => ⟨S12287, .f32⟩
  | 41 => ⟨S12287, .f32⟩
  | 42 => ⟨S12287x1, .f32⟩
  | 43 => ⟨S12287, .f32⟩
  | 44 => ⟨S12287x1, .f32⟩
  | 45 => ⟨S12287, .f32⟩
  | 46 => ⟨S12287, .f32⟩
  | 47 => ⟨S12287x1, .f32⟩
  | 48 => ⟨S12287, .f32⟩
  | 49 => ⟨S12287x1, .f32⟩
  | 50 => ⟨S12287, .f32⟩
  | 51 => ⟨S12287, .f32⟩
  | 52 => ⟨S12287, .f32⟩
  | 53 => ⟨S12287x1, .f32⟩
  | 54 => ⟨S12287x1, .f32⟩
  | 55 => ⟨S12287x1, .f32⟩
  | 56 => ⟨S12287x3, .f32⟩
  | 57 => ⟨S12287x3, .f32⟩
  | 58 => ⟨S12287x3, .f32⟩
  | 59 => ⟨S12287x1, .f32⟩
  | 60 => ⟨S12287, .f32⟩
  | 61 => ⟨S12287x1, .f32⟩
  | 62 => ⟨S12287, .f32⟩
  | 63 => ⟨S12287, .f32⟩
  | 64 => ⟨S12287x1, .f32⟩
  | 65 => ⟨S12287, .f32⟩
  | 66 => ⟨S12287x1, .f32⟩
  | 67 => ⟨S12287, .f32⟩
  | 68 => ⟨S12287, .f32⟩
  | 69 => ⟨S12287, .f32⟩
  | 70 => ⟨S12287x1, .f32⟩
  | 71 => ⟨S12287, .f32⟩
  | 72 => ⟨S12287x1, .f32⟩
  | 73 => ⟨S12287, .f32⟩
  | 74 => ⟨S12287, .f32⟩
  | 75 => ⟨S12287x1, .f32⟩
  | 76 => ⟨S12287, .f32⟩
  | 77 => ⟨S12287x1, .f32⟩
  | 78 => ⟨S12287, .f32⟩
  | 79 => ⟨S12287, .f32⟩
  | 80 => ⟨S12287, .f32⟩
  | 81 => ⟨S12287x1, .f32⟩
  | 82 => ⟨S12287, .f32⟩
  | 83 => ⟨S12287x1, .f32⟩
  | 84 => ⟨S12287, .f32⟩
  | 85 => ⟨S12287, .f32⟩
  | 86 => ⟨S12287x1, .f32⟩
  | 87 => ⟨S12287, .f32⟩
  | 88 => ⟨S12287x1, .f32⟩
  | 89 => ⟨S12287, .f32⟩
  | 90 => ⟨S12287, .f32⟩
  | 91 => ⟨S12287, .f32⟩
  | 92 => ⟨S12287x1, .f32⟩
  | 93 => ⟨S12287x1, .f32⟩
  | 94 => ⟨S12287x1, .f32⟩
  | 95 => ⟨S12287x3, .f32⟩
  | 96 => ⟨S12287x3, .f32⟩
  | 97 => ⟨S12287x3, .f32⟩
  | 98 => ⟨S_, .f32⟩
  | 99 => ⟨S12287, .f32⟩
  | 100 => ⟨S_, .f32⟩
  | 101 => ⟨S12287, .f32⟩
  | 102 => ⟨S12287, .f32⟩
  | 103 => ⟨S12287, .f32⟩
  | 104 => ⟨S_, .f32⟩
  | 105 => ⟨S12287, .f32⟩
  | 106 => ⟨S12287, .f32⟩
  | 107 => ⟨S12287x3, .f32⟩
  | 108 => ⟨S_, .f32⟩
  | 109 => ⟨S12287, .f32⟩
  | 110 => ⟨S_, .f32⟩
  | 111 => ⟨S12287, .f32⟩
  | 112 => ⟨S12287, .f32⟩
  | 113 => ⟨S12287, .f32⟩
  | 114 => ⟨S_, .f32⟩
  | 115 => ⟨S12287, .f32⟩
  | 116 => ⟨S12287, .f32⟩
  | 117 => ⟨S12287x3, .f32⟩
  | 118 => ⟨S_, .f32⟩
  | 119 => ⟨S12287, .f32⟩
  | 120 => ⟨S12287, .f32⟩
  | 121 => ⟨S12287, .f32⟩
  | 122 => ⟨S_, .f32⟩
  | 123 => ⟨S12287, .f32⟩
  | 124 => ⟨S12287, .f32⟩
  | 125 => ⟨S12287, .f32⟩
  | 126 => ⟨S_, .f32⟩
  | 127 => ⟨S_, .f32⟩
  | _ => ⟨S4x2048x3, .f32⟩

abbrev hbmTy0_15 (i : Nat) : BufTy := match i % 128 with
  | 0 => ⟨S_, .f32⟩
  | 1 => ⟨S_, .i1⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S1x2048x3, .f32⟩
  | 12 => ⟨S2048x3, .f32⟩
  | 13 => ⟨S1x4096x3, .i32⟩
  | 14 => ⟨S4096x3, .i32⟩
  | 15 => ⟨S_, .i32⟩
  | 16 => ⟨S2, .i32⟩
  | 17 => ⟨S2, .i1⟩
  | 18 => ⟨S_, .i32⟩
  | 19 => ⟨S2, .i32⟩
  | 20 => ⟨S2, .i32⟩
  | 21 => ⟨S2, .i32⟩
  | 22 => ⟨S2x1, .i32⟩
  | 23 => ⟨S4096x2, .i32⟩
  | 24 => ⟨S_, .i32⟩
  | 25 => ⟨S2, .i32⟩
  | 26 => ⟨S2, .i1⟩
  | 27 => ⟨S_, .i32⟩
  | 28 => ⟨S2, .i32⟩
  | 29 => ⟨S2, .i32⟩
  | 30 => ⟨S2, .i32⟩
  | 31 => ⟨S2x1, .i32⟩
  | 32 => ⟨S4096x2, .i32⟩
  | 33 => ⟨S_, .i32⟩
  | 34 => ⟨S2, .i32⟩
  | 35 => ⟨S2, .i1⟩
  | 36 => ⟨S_, .i32⟩
  | 37 => ⟨S2, .i32⟩
  | 38 => ⟨S2, .i32⟩
  | 39 => ⟨S2, .i32⟩
  | 40 => ⟨S2x1, .i32⟩
  | 41 => ⟨S4096x2, .i32⟩
  | 42 => ⟨S12288x2, .i32⟩
  | 43 => ⟨S4096x1, .i32⟩
  | 44 => ⟨S4096, .i32⟩
  | 45 => ⟨S4096x1, .i32⟩
  | 46 => ⟨S4096, .i32⟩
  | 47 => ⟨S4096x1, .i32⟩
  | 48 => ⟨S4096, .i32⟩
  | 49 => ⟨S12288, .i32⟩
  | 50 => ⟨S12288x2, .i32⟩
  | 51 => ⟨S12288x1, .i32⟩
  | 52 => ⟨S12288, .i32⟩
  | 53 => ⟨S_, .i32⟩
  | 54 => ⟨S12288, .i32⟩
  | 55 => ⟨S12288, .i32⟩
  | 56 => ⟨S12288x1, .i32⟩
  | 57 => ⟨S12288, .i32⟩
  | 58 => ⟨S12288, .i32⟩
  | 59 => ⟨S12288, .i32⟩
  | 60 => ⟨S12288, .i32⟩
  | 61 => ⟨S12288, .i32⟩
  | 62 => ⟨S_, .i32⟩
  | 63 => ⟨S12288, .i32⟩
  | 64 => ⟨S12288, .i1⟩
  | 65 => ⟨S_, .i32⟩
  | 66 => ⟨S12288, .i32⟩
  | 67 => ⟨S12288, .i32⟩
  | 68 => ⟨S12288, .i32⟩
  | 69 => ⟨S12288x1, .i32⟩
  | 70 => ⟨S12288, .i32⟩
  | 71 => ⟨S_, .i32⟩
  | 72 => ⟨S12288, .i32⟩
  | 73 => ⟨S12288, .i1⟩
  | 74 => ⟨S_, .i32⟩
  | 75 => ⟨S12288, .i32⟩
  | 76 => ⟨S12288, .i32⟩
  | 77 => ⟨S12288, .i32⟩
  | 78 => ⟨S12288x1, .i32⟩
  | 79 => ⟨S12288, .i32⟩
  | 80 => ⟨S12287, .i32⟩
  | 81 => ⟨S12287, .i32⟩
  | 82 => ⟨S12287, .i1⟩
  | 83 => ⟨S12287, .f32⟩
  | 84 => ⟨S12287, .i32⟩
  | 85 => ⟨S_, .i32⟩
  | 86 => ⟨S_, .i32⟩
  | 87 => ⟨S12287, .i32⟩
  | 88 => ⟨S12287, .i32⟩
  | 89 => ⟨S12287, .i32⟩
  | 90 => ⟨S_, .i32⟩
  | 91 => ⟨S12287, .i32⟩
  | 92 => ⟨S12287, .i1⟩
  | 93 => ⟨S12287, .i32⟩
  | 94 => ⟨S12287, .i32⟩
  | 95 => ⟨S_, .i32⟩
  | 96 => ⟨S12287, .i32⟩
  | 97 => ⟨S12287, .i1⟩
  | 98 => ⟨S12287, .i1⟩
  | 99 => ⟨S_, .i32⟩
  | 100 => ⟨S12287, .i32⟩
  | 101 => ⟨S12287, .i32⟩
  | 102 => ⟨S12287, .i32⟩
  | 103 => ⟨S_, .i32⟩
  | 104 => ⟨S12287, .i32⟩
  | 105 => ⟨S12287, .i1⟩
  | 106 => ⟨S_, .i32⟩
  | 107 => ⟨S12287, .i32⟩
  | 108 => ⟨S12287, .i32⟩
  | 109 => ⟨S12287, .i32⟩
  | 110 => ⟨S12287x1, .i32⟩
  | 111 => ⟨S12287x3, .f32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S12287, .i32⟩
  | 119 => ⟨S12287, .i32⟩
  | 120 => ⟨S_, .i32⟩
  | 121 => ⟨S12287, .i32⟩
  | 122 => ⟨S12287, .i1⟩
  | 123 => ⟨S_, .i32⟩
  | 124 => ⟨S12287, .i32⟩
  | 125 => ⟨S12287, .i1⟩
  | 126 => ⟨S_, .i32⟩
  | 127 => ⟨S_, .i1⟩
  | _ => ⟨S4x2048x3, .f32⟩

abbrev hbmTy0_16 (i : Nat) : BufTy := match i % 128 with
  | 0 => ⟨S12287, .i1⟩
  | 1 => ⟨S12287, .i1⟩
  | 2 => ⟨S12287, .i1⟩
  | 3 => ⟨S12287, .i32⟩
  | 4 => ⟨S12287, .i32⟩
  | 5 => ⟨S12287, .i32⟩
  | 6 => ⟨S_, .i32⟩
  | 7 => ⟨S12287, .i32⟩
  | 8 => ⟨S12287, .i1⟩
  | 9 => ⟨S_, .i32⟩
  | 10 => ⟨S12287, .i32⟩
  | 11 => ⟨S12287, .i32⟩
  | 12 => ⟨S12287, .i32⟩
  | 13 => ⟨S12287x1, .i32⟩
  | 14 => ⟨S12287x3, .f32⟩
  | 15 => ⟨S12287, .i32⟩
  | 16 => ⟨S_, .i32⟩
  | 17 => ⟨S12287, .i32⟩
  | 18 => ⟨S12287, .i1⟩
  | 19 => ⟨S_, .i32⟩
  | 20 => ⟨S12287, .i32⟩
  | 21 => ⟨S12287, .i32⟩
  | 22 => ⟨S12287, .i32⟩
  | 23 => ⟨S12287x1, .i32⟩
  | 24 => ⟨S12287x3, .f32⟩
  | 25 => ⟨S12287, .i32⟩
  | 26 => ⟨S_, .i32⟩
  | 27 => ⟨S12287, .i32⟩
  | 28 => ⟨S12287, .i1⟩
  | 29 => ⟨S_, .i32⟩
  | 30 => ⟨S12287, .i32⟩
  | 31 => ⟨S12287, .i32⟩
  | 32 => ⟨S12287, .i32⟩
  | 33 => ⟨S12287x1, .i32⟩
  | 34 => ⟨S12287x3, .f32⟩
  | 35 => ⟨S12287x3, .f32⟩
  | 36 => ⟨S12287x3, .f32⟩
  | 37 => ⟨S12287x1, .f32⟩
  | 38 => ⟨S12287, .f32⟩
  | 39 => ⟨S12287x1, .f32⟩
  | 40 => ⟨S12287, .f32⟩
  | 41 => ⟨S12287, .f32⟩
  | 42 => ⟨S12287x1, .f32⟩
  | 43 => ⟨S12287, .f32⟩
  | 44 => ⟨S12287x1, .f32⟩
  | 45 => ⟨S12287, .f32⟩
  | 46 => ⟨S12287, .f32⟩
  | 47 => ⟨S12287, .f32⟩
  | 48 => ⟨S12287x1, .f32⟩
  | 49 => ⟨S12287, .f32⟩
  | 50 => ⟨S12287x1, .f32⟩
  | 51 => ⟨S12287, .f32⟩
  | 52 => ⟨S12287, .f32⟩
  | 53 => ⟨S12287x1, .f32⟩
  | 54 => ⟨S12287, .f32⟩
  | 55 => ⟨S12287x1, .f32⟩
  | 56 => ⟨S12287, .f32⟩
  | 57 => ⟨S12287, .f32⟩
  | 58 => ⟨S12287, .f32⟩
  | 59 => ⟨S12287x1, .f32⟩
  | 60 => ⟨S12287, .f32⟩
  | 61 => ⟨S12287x1, .f32⟩
  | 62 => ⟨S12287, .f32⟩
  | 63 => ⟨S12287, .f32⟩
  | 64 => ⟨S12287x1, .f32⟩
  | 65 => ⟨S12287, .f32⟩
  | 66 => ⟨S12287x1, .f32⟩
  | 67 => ⟨S12287, .f32⟩
  | 68 => ⟨S12287, .f32⟩
  | 69 => ⟨S12287, .f32⟩
  | 70 => ⟨S12287x1, .f32⟩
  | 71 => ⟨S12287x1, .f32⟩
  | 72 => ⟨S12287x1, .f32⟩
  | 73 => ⟨S12287x3, .f32⟩
  | 74 => ⟨S12287x3, .f32⟩
  | 75 => ⟨S12287x3, .f32⟩
  | 76 => ⟨S12287x1, .f32⟩
  | 77 => ⟨S12287, .f32⟩
  | 78 => ⟨S12287x1, .f32⟩
  | 79 => ⟨S12287, .f32⟩
  | 80 => ⟨S12287, .f32⟩
  | 81 => ⟨S12287x1, .f32⟩
  | 82 => ⟨S12287, .f32⟩
  | 83 => ⟨S12287x1, .f32⟩
  | 84 => ⟨S12287, .f32⟩
  | 85 => ⟨S12287, .f32⟩
  | 86 => ⟨S12287, .f32⟩
  | 87 => ⟨S12287x1, .f32⟩
  | 88 => ⟨S12287, .f32⟩
  | 89 => ⟨S12287x1, .f32⟩
  | 90 => ⟨S12287, .f32⟩
  | 91 => ⟨S12287, .f32⟩
  | 92 => ⟨S12287x1, .f32⟩
  | 93 => ⟨S12287, .f32⟩
  | 94 => ⟨S12287x1, .f32⟩
  | 95 => ⟨S12287, .f32⟩
  | 96 => ⟨S12287, .f32⟩
  | 97 => ⟨S12287, .f32⟩
  | 98 => ⟨S12287x1, .f32⟩
  | 99 => ⟨S12287, .f32⟩
  | 100 => ⟨S12287x1, .f32⟩
  | 101 => ⟨S12287, .f32⟩
  | 102 => ⟨S12287, .f32⟩
  | 103 => ⟨S12287x1, .f32⟩
  | 104 => ⟨S12287, .f32⟩
  | 105 => ⟨S12287x1, .f32⟩
  | 106 => ⟨S12287, .f32⟩
  | 107 => ⟨S12287, .f32⟩
  | 108 => ⟨S12287, .f32⟩
  | 109 => ⟨S12287x1, .f32⟩
  | 110 => ⟨S12287x1, .f32⟩
  | 111 => ⟨S12287x1, .f32⟩
  | 112 => ⟨S12287x3, .f32⟩
  | 113 => ⟨S12287x3, .f32⟩
  | 114 => ⟨S12287x3, .f32⟩
  | 115 => ⟨S_, .f32⟩
  | 116 => ⟨S12287, .f32⟩
  | 117 => ⟨S_, .f32⟩
  | 118 => ⟨S12287, .f32⟩
  | 119 => ⟨S12287, .f32⟩
  | 120 => ⟨S12287, .f32⟩
  | 121 => ⟨S_, .f32⟩
  | 122 => ⟨S12287, .f32⟩
  | 123 => ⟨S12287, .f32⟩
  | 124 => ⟨S12287x3, .f32⟩
  | 125 => ⟨S_, .f32⟩
  | 126 => ⟨S12287, .f32⟩
  | 127 => ⟨S_, .f32⟩
  | _ => ⟨S4x2048x3, .f32⟩

abbrev hbmTy0_17 (i : Nat) : BufTy := match i % 128 with
  | 0 => ⟨S12287, .f32⟩
  | 1 => ⟨S12287, .f32⟩
  | 2 => ⟨S12287, .f32⟩
  | 3 => ⟨S_, .f32⟩
  | 4 => ⟨S12287, .f32⟩
  | 5 => ⟨S12287, .f32⟩
  | 6 => ⟨S12287x3, .f32⟩
  | 7 => ⟨S_, .f32⟩
  | 8 => ⟨S12287, .f32⟩
  | 9 => ⟨S12287, .f32⟩
  | 10 => ⟨S12287, .f32⟩
  | 11 => ⟨S_, .f32⟩
  | 12 => ⟨S12287, .f32⟩
  | 13 => ⟨S12287, .f32⟩
  | 14 => ⟨S12287, .f32⟩
  | 15 => ⟨S_, .f32⟩
  | 16 => ⟨S_, .f32⟩
  | 17 => ⟨S_, .f32⟩
  | 18 => ⟨S_, .i1⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1x2048x3, .f32⟩
  | 29 => ⟨S2048x3, .f32⟩
  | 30 => ⟨S1x4096x3, .i32⟩
  | 31 => ⟨S4096x3, .i32⟩
  | 32 => ⟨S_, .i32⟩
  | 33 => ⟨S2, .i32⟩
  | 34 => ⟨S2, .i1⟩
  | 35 => ⟨S_, .i32⟩
  | 36 => ⟨S2, .i32⟩
  | 37 => ⟨S2, .i32⟩
  | 38 => ⟨S2, .i32⟩
  | 39 => ⟨S2x1, .i32⟩
  | 40 => ⟨S4096x2, .i32⟩
  | 41 => ⟨S_, .i32⟩
  | 42 => ⟨S2, .i32⟩
  | 43 => ⟨S2, .i1⟩
  | 44 => ⟨S_, .i32⟩
  | 45 => ⟨S2, .i32⟩
  | 46 => ⟨S2, .i32⟩
  | 47 => ⟨S2, .i32⟩
  | 48 => ⟨S2x1, .i32⟩
  | 49 => ⟨S4096x2, .i32⟩
  | 50 => ⟨S_, .i32⟩
  | 51 => ⟨S2, .i32⟩
  | 52 => ⟨S2, .i1⟩
  | 53 => ⟨S_, .i32⟩
  | 54 => ⟨S2, .i32⟩
  | 55 => ⟨S2, .i32⟩
  | 56 => ⟨S2, .i32⟩
  | 57 => ⟨S2x1, .i32⟩
  | 58 => ⟨S4096x2, .i32⟩
  | 59 => ⟨S12288x2, .i32⟩
  | 60 => ⟨S4096x1, .i32⟩
  | 61 => ⟨S4096, .i32⟩
  | 62 => ⟨S4096x1, .i32⟩
  | 63 => ⟨S4096, .i32⟩
  | 64 => ⟨S4096x1, .i32⟩
  | 65 => ⟨S4096, .i32⟩
  | 66 => ⟨S12288, .i32⟩
  | 67 => ⟨S12288x2, .i32⟩
  | 68 => ⟨S12288x1, .i32⟩
  | 69 => ⟨S12288, .i32⟩
  | 70 => ⟨S_, .i32⟩
  | 71 => ⟨S12288, .i32⟩
  | 72 => ⟨S12288, .i32⟩
  | 73 => ⟨S12288x1, .i32⟩
  | 74 => ⟨S12288, .i32⟩
  | 75 => ⟨S12288, .i32⟩
  | 76 => ⟨S12288, .i32⟩
  | 77 => ⟨S12288, .i32⟩
  | 78 => ⟨S12288, .i32⟩
  | 79 => ⟨S_, .i32⟩
  | 80 => ⟨S12288, .i32⟩
  | 81 => ⟨S12288, .i1⟩
  | 82 => ⟨S_, .i32⟩
  | 83 => ⟨S12288, .i32⟩
  | 84 => ⟨S12288, .i32⟩
  | 85 => ⟨S12288, .i32⟩
  | 86 => ⟨S12288x1, .i32⟩
  | 87 => ⟨S12288, .i32⟩
  | 88 => ⟨S_, .i32⟩
  | 89 => ⟨S12288, .i32⟩
  | 90 => ⟨S12288, .i1⟩
  | 91 => ⟨S_, .i32⟩
  | 92 => ⟨S12288, .i32⟩
  | 93 => ⟨S12288, .i32⟩
  | 94 => ⟨S12288, .i32⟩
  | 95 => ⟨S12288x1, .i32⟩
  | 96 => ⟨S12288, .i32⟩
  | 97 => ⟨S12287, .i32⟩
  | 98 => ⟨S12287, .i32⟩
  | 99 => ⟨S12287, .i1⟩
  | 100 => ⟨S12287, .f32⟩
  | 101 => ⟨S12287, .i32⟩
  | 102 => ⟨S_, .i32⟩
  | 103 => ⟨S_, .i32⟩
  | 104 => ⟨S12287, .i32⟩
  | 105 => ⟨S12287, .i32⟩
  | 106 => ⟨S12287, .i32⟩
  | 107 => ⟨S_, .i32⟩
  | 108 => ⟨S12287, .i32⟩
  | 109 => ⟨S12287, .i1⟩
  | 110 => ⟨S12287, .i32⟩
  | 111 => ⟨S12287, .i32⟩
  | 112 => ⟨S_, .i32⟩
  | 113 => ⟨S12287, .i32⟩
  | 114 => ⟨S12287, .i1⟩
  | 115 => ⟨S12287, .i1⟩
  | 116 => ⟨S_, .i32⟩
  | 117 => ⟨S12287, .i32⟩
  | 118 => ⟨S12287, .i32⟩
  | 119 => ⟨S12287, .i32⟩
  | 120 => ⟨S_, .i32⟩
  | 121 => ⟨S12287, .i32⟩
  | 122 => ⟨S12287, .i1⟩
  | 123 => ⟨S_, .i32⟩
  | 124 => ⟨S12287, .i32⟩
  | 125 => ⟨S12287, .i32⟩
  | 126 => ⟨S12287, .i32⟩
  | 127 => ⟨S12287x1, .i32⟩
  | _ => ⟨S4x2048x3, .f32⟩

abbrev hbmTy0_18 (i : Nat) : BufTy := match i % 128 with
  | 0 => ⟨S12287x3, .f32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S12287, .i32⟩
  | 8 => ⟨S12287, .i32⟩
  | 9 => ⟨S_, .i32⟩
  | 10 => ⟨S12287, .i32⟩
  | 11 => ⟨S12287, .i1⟩
  | 12 => ⟨S_, .i32⟩
  | 13 => ⟨S12287, .i32⟩
  | 14 => ⟨S12287, .i1⟩
  | 15 => ⟨S_, .i32⟩
  | 16 => ⟨S_, .i1⟩
  | 17 => ⟨S12287, .i1⟩
  | 18 => ⟨S12287, .i1⟩
  | 19 => ⟨S12287, .i1⟩
  | 20 => ⟨S12287, .i32⟩
  | 21 => ⟨S12287, .i32⟩
  | 22 => ⟨S12287, .i32⟩
  | 23 => ⟨S_, .i32⟩
  | 24 => ⟨S12287, .i32⟩
  | 25 => ⟨S12287, .i1⟩
  | 26 => ⟨S_, .i32⟩
  | 27 => ⟨S12287, .i32⟩
  | 28 => ⟨S12287, .i32⟩
  | 29 => ⟨S12287, .i32⟩
  | 30 => ⟨S12287x1, .i32⟩
  | 31 => ⟨S12287x3, .f32⟩
  | 32 => ⟨S12287, .i32⟩
  | 33 => ⟨S_, .i32⟩
  | 34 => ⟨S12287, .i32⟩
  | 35 => ⟨S12287, .i1⟩
  | 36 => ⟨S_, .i32⟩
  | 37 => ⟨S12287, .i32⟩
  | 38 => ⟨S12287, .i32⟩
  | 39 => ⟨S12287, .i32⟩
  | 40 => ⟨S12287x1, .i32⟩
  | 41 => ⟨S12287x3, .f32⟩
  | 42 => ⟨S12287, .i32⟩
  | 43 => ⟨S_, .i32⟩
  | 44 => ⟨S12287, .i32⟩
  | 45 => ⟨S12287, .i1⟩
  | 46 => ⟨S_, .i32⟩
  | 47 => ⟨S12287, .i32⟩
  | 48 => ⟨S12287, .i32⟩
  | 49 => ⟨S12287, .i32⟩
  | 50 => ⟨S12287x1, .i32⟩
  | 51 => ⟨S12287x3, .f32⟩
  | 52 => ⟨S12287x3, .f32⟩
  | 53 => ⟨S12287x3, .f32⟩
  | 54 => ⟨S12287x1, .f32⟩
  | 55 => ⟨S12287, .f32⟩
  | 56 => ⟨S12287x1, .f32⟩
  | 57 => ⟨S12287, .f32⟩
  | 58 => ⟨S12287, .f32⟩
  | 59 => ⟨S12287x1, .f32⟩
  | 60 => ⟨S12287, .f32⟩
  | 61 => ⟨S12287x1, .f32⟩
  | 62 => ⟨S12287, .f32⟩
  | 63 => ⟨S12287, .f32⟩
  | 64 => ⟨S12287, .f32⟩
  | 65 => ⟨S12287x1, .f32⟩
  | 66 => ⟨S12287, .f32⟩
  | 67 => ⟨S12287x1, .f32⟩
  | 68 => ⟨S12287, .f32⟩
  | 69 => ⟨S12287, .f32⟩
  | 70 => ⟨S12287x1, .f32⟩
  | 71 => ⟨S12287, .f32⟩
  | 72 => ⟨S12287x1, .f32⟩
  | 73 => ⟨S12287, .f32⟩
  | 74 => ⟨S12287, .f32⟩
  | 75 => ⟨S12287, .f32⟩
  | 76 => ⟨S12287x1, .f32⟩
  | 77 => ⟨S12287, .f32⟩
  | 78 => ⟨S12287x1, .f32⟩
  | 79 => ⟨S12287, .f32⟩
  | 80 => ⟨S12287, .f32⟩
  | 81 => ⟨S12287x1, .f32⟩
  | 82 => ⟨S12287, .f32⟩
  | 83 => ⟨S12287x1, .f32⟩
  | 84 => ⟨S12287, .f32⟩
  | 85 => ⟨S12287, .f32⟩
  | 86 => ⟨S12287, .f32⟩
  | 87 => ⟨S12287x1, .f32⟩
  | 88 => ⟨S12287x1, .f32⟩
  | 89 => ⟨S12287x1, .f32⟩
  | 90 => ⟨S12287x3, .f32⟩
  | 91 => ⟨S12287x3, .f32⟩
  | 92 => ⟨S12287x3, .f32⟩
  | 93 => ⟨S12287x1, .f32⟩
  | 94 => ⟨S12287, .f32⟩
  | 95 => ⟨S12287x1, .f32⟩
  | 96 => ⟨S12287, .f32⟩
  | 97 => ⟨S12287, .f32⟩
  | 98 => ⟨S12287x1, .f32⟩
  | 99 => ⟨S12287, .f32⟩
  | 100 => ⟨S12287x1, .f32⟩
  | 101 => ⟨S12287, .f32⟩
  | 102 => ⟨S12287, .f32⟩
  | 103 => ⟨S12287, .f32⟩
  | 104 => ⟨S12287x1, .f32⟩
  | 105 => ⟨S12287, .f32⟩
  | 106 => ⟨S12287x1, .f32⟩
  | 107 => ⟨S12287, .f32⟩
  | 108 => ⟨S12287, .f32⟩
  | 109 => ⟨S12287x1, .f32⟩
  | 110 => ⟨S12287, .f32⟩
  | 111 => ⟨S12287x1, .f32⟩
  | 112 => ⟨S12287, .f32⟩
  | 113 => ⟨S12287, .f32⟩
  | 114 => ⟨S12287, .f32⟩
  | 115 => ⟨S12287x1, .f32⟩
  | 116 => ⟨S12287, .f32⟩
  | 117 => ⟨S12287x1, .f32⟩
  | 118 => ⟨S12287, .f32⟩
  | 119 => ⟨S12287, .f32⟩
  | 120 => ⟨S12287x1, .f32⟩
  | 121 => ⟨S12287, .f32⟩
  | 122 => ⟨S12287x1, .f32⟩
  | 123 => ⟨S12287, .f32⟩
  | 124 => ⟨S12287, .f32⟩
  | 125 => ⟨S12287, .f32⟩
  | 126 => ⟨S12287x1, .f32⟩
  | 127 => ⟨S12287x1, .f32⟩
  | _ => ⟨S4x2048x3, .f32⟩

abbrev hbmTy0_19 (i : Nat) : BufTy := match i % 128 with
  | 0 => ⟨S12287x1, .f32⟩
  | 1 => ⟨S12287x3, .f32⟩
  | 2 => ⟨S12287x3, .f32⟩
  | 3 => ⟨S12287x3, .f32⟩
  | 4 => ⟨S_, .f32⟩
  | 5 => ⟨S12287, .f32⟩
  | 6 => ⟨S_, .f32⟩
  | 7 => ⟨S12287, .f32⟩
  | 8 => ⟨S12287, .f32⟩
  | 9 => ⟨S12287, .f32⟩
  | 10 => ⟨S_, .f32⟩
  | 11 => ⟨S12287, .f32⟩
  | 12 => ⟨S12287, .f32⟩
  | 13 => ⟨S12287x3, .f32⟩
  | 14 => ⟨S_, .f32⟩
  | 15 => ⟨S12287, .f32⟩
  | 16 => ⟨S_, .f32⟩
  | 17 => ⟨S12287, .f32⟩
  | 18 => ⟨S12287, .f32⟩
  | 19 => ⟨S12287, .f32⟩
  | 20 => ⟨S_, .f32⟩
  | 21 => ⟨S12287, .f32⟩
  | 22 => ⟨S12287, .f32⟩
  | 23 => ⟨S12287x3, .f32⟩
  | 24 => ⟨S_, .f32⟩
  | 25 => ⟨S12287, .f32⟩
  | 26 => ⟨S12287, .f32⟩
  | 27 => ⟨S12287, .f32⟩
  | 28 => ⟨S_, .f32⟩
  | 29 => ⟨S12287, .f32⟩
  | 30 => ⟨S12287, .f32⟩
  | 31 => ⟨S12287, .f32⟩
  | 32 => ⟨S_, .f32⟩
  | 33 => ⟨S_, .f32⟩
  | 34 => ⟨S_, .f32⟩
  | 35 => ⟨S_, .i1⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | _ => ⟨S4x2048x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | _ => ⟨S4x2048x3, .f32⟩

abbrev bufTy : (tb : Table) → Fin (tcTables nBuf tb) → BufTy
  | .hbm, ⟨i, _⟩ => hbmTy i
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_c_16 : Ref sig .tc := ⟨.hbm, 19, rfl⟩
abbrev main_c_17 : Ref sig .tc := ⟨.hbm, 20, rfl⟩
abbrev main_c_18 : Ref sig .tc := ⟨.hbm, 21, rfl⟩
abbrev main_c_19 : Ref sig .tc := ⟨.hbm, 22, rfl⟩
abbrev main_c_20 : Ref sig .tc := ⟨.hbm, 23, rfl⟩
abbrev main_c_21 : Ref sig .tc := ⟨.hbm, 24, rfl⟩
abbrev main_c_22 : Ref sig .tc := ⟨.hbm, 25, rfl⟩
abbrev main_c_23 : Ref sig .tc := ⟨.hbm, 26, rfl⟩
abbrev main_c_24 : Ref sig .tc := ⟨.hbm, 27, rfl⟩
abbrev main_c_25 : Ref sig .tc := ⟨.hbm, 28, rfl⟩
abbrev main_c_26 : Ref sig .tc := ⟨.hbm, 29, rfl⟩
abbrev main_c_27 : Ref sig .tc := ⟨.hbm, 30, rfl⟩
abbrev main_c_28 : Ref sig .tc := ⟨.hbm, 31, rfl⟩
abbrev main_c_29 : Ref sig .tc := ⟨.hbm, 32, rfl⟩
abbrev main_c_30 : Ref sig .tc := ⟨.hbm, 33, rfl⟩
abbrev main_v0 : Ref sig .tc := ⟨.hbm, 34, rfl⟩
abbrev main_v1 : Ref sig .tc := ⟨.hbm, 35, rfl⟩
abbrev main_c_31 : Ref sig .tc := ⟨.hbm, 36, rfl⟩
abbrev main_v2 : Ref sig .tc := ⟨.hbm, 37, rfl⟩
abbrev main_v3 : Ref sig .tc := ⟨.hbm, 38, rfl⟩
abbrev main_c_32 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_c_33 : Ref sig .tc := ⟨.hbm, 45, rfl⟩
abbrev main_v9 : Ref sig .tc := ⟨.hbm, 46, rfl⟩
abbrev main_v10 : Ref sig .tc := ⟨.hbm, 47, rfl⟩
abbrev main_c_34 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_c_35 : Ref sig .tc := ⟨.hbm, 54, rfl⟩
abbrev main_v16 : Ref sig .tc := ⟨.hbm, 55, rfl⟩
abbrev main_v17 : Ref sig .tc := ⟨.hbm, 56, rfl⟩
abbrev main_c_36 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_c_37 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_c_38 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_39 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_c : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_0 : Ref sig .tc := ⟨.hbm, 97, rfl⟩
abbrev main_call2_v12 : Ref sig .tc := ⟨.hbm, 98, rfl⟩
abbrev main_call2_v13 : Ref sig .tc := ⟨.hbm, 99, rfl⟩
abbrev main_v41 : Ref sig .tc := ⟨.hbm, 100, rfl⟩
abbrev main_c_40 : Ref sig .tc := ⟨.hbm, 101, rfl⟩
abbrev main_v42 : Ref sig .tc := ⟨.hbm, 102, rfl⟩
abbrev main_v43 : Ref sig .tc := ⟨.hbm, 103, rfl⟩
abbrev main_c_41 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_c_42 : Ref sig .tc := ⟨.hbm, 112, rfl⟩
abbrev main_call3_v0 : Ref sig .tc := ⟨.hbm, 113, rfl⟩
abbrev main_call3_c : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_c_1 : Ref sig .tc := ⟨.hbm, 120, rfl⟩
abbrev main_call3_v5 : Ref sig .tc := ⟨.hbm, 121, rfl⟩
abbrev main_call3_v6 : Ref sig .tc := ⟨.hbm, 122, rfl⟩
abbrev main_call3_c_2 : Ref sig .tc := ⟨.hbm, 123, rfl⟩
abbrev main_call3_v7 : Ref sig .tc := ⟨.hbm, 124, rfl⟩
abbrev main_call3_v8 : Ref sig .tc := ⟨.hbm, 125, rfl⟩
abbrev main_call3_c_3 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_v51 : Ref sig .tc := ⟨.hbm, 133, rfl⟩
abbrev main_c_43 : Ref sig .tc := ⟨.hbm, 134, rfl⟩
abbrev main_v52 : Ref sig .tc := ⟨.hbm, 135, rfl⟩
abbrev main_v53 : Ref sig .tc := ⟨.hbm, 136, rfl⟩
abbrev main_c_44 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_cst : Ref sig .tc := ⟨.hbm, 145, rfl⟩
abbrev main_v61 : Ref sig .tc := ⟨.hbm, 146, rfl⟩
abbrev main_v62 : Ref sig .tc := ⟨.hbm, 147, rfl⟩
abbrev main_cst_45 : Ref sig .tc := ⟨.hbm, 148, rfl⟩
abbrev main_v63 : Ref sig .tc := ⟨.hbm, 149, rfl⟩
abbrev main_cst_46 : Ref sig .tc := ⟨.hbm, 150, rfl⟩
abbrev main_v64 : Ref sig .tc := ⟨.hbm, 151, rfl⟩
abbrev main_cst_47 : Ref sig .tc := ⟨.hbm, 152, rfl⟩
abbrev main_v65 : Ref sig .tc := ⟨.hbm, 153, rfl⟩
abbrev main_v66 : Ref sig .tc := ⟨.hbm, 154, rfl⟩
abbrev main_cst_48 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_c_49 : Ref sig .tc := ⟨.hbm, 159, rfl⟩
abbrev main_v70 : Ref sig .tc := ⟨.hbm, 160, rfl⟩
abbrev main_v71 : Ref sig .tc := ⟨.hbm, 161, rfl⟩
abbrev main_c_50 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_c_51 : Ref sig .tc := ⟨.hbm, 168, rfl⟩
abbrev main_v77 : Ref sig .tc := ⟨.hbm, 169, rfl⟩
abbrev main_v78 : Ref sig .tc := ⟨.hbm, 170, rfl⟩
abbrev main_c_52 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_c_53 : Ref sig .tc := ⟨.hbm, 177, rfl⟩
abbrev main_v84 : Ref sig .tc := ⟨.hbm, 178, rfl⟩
abbrev main_v85 : Ref sig .tc := ⟨.hbm, 179, rfl⟩
abbrev main_c_54 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_c_55 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_c_56 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_c_57 : Ref sig .tc := ⟨.hbm, 206, rfl⟩
abbrev main_call6_v0 : Ref sig .tc := ⟨.hbm, 207, rfl⟩
abbrev main_call6_v1 : Ref sig .tc := ⟨.hbm, 208, rfl⟩
abbrev main_call6_v2 : Ref sig .tc := ⟨.hbm, 209, rfl⟩
abbrev main_call6_v3 : Ref sig .tc := ⟨.hbm, 210, rfl⟩
abbrev main_call6_v4 : Ref sig .tc := ⟨.hbm, 211, rfl⟩
abbrev main_call6_v5 : Ref sig .tc := ⟨.hbm, 212, rfl⟩
abbrev main_call6_v6 : Ref sig .tc := ⟨.hbm, 213, rfl⟩
abbrev main_call6_v7 : Ref sig .tc := ⟨.hbm, 214, rfl⟩
abbrev main_call6_v8 : Ref sig .tc := ⟨.hbm, 215, rfl⟩
abbrev main_call6_c : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_c_0 : Ref sig .tc := ⟨.hbm, 220, rfl⟩
abbrev main_call6_v12 : Ref sig .tc := ⟨.hbm, 221, rfl⟩
abbrev main_call6_v13 : Ref sig .tc := ⟨.hbm, 222, rfl⟩
abbrev main_v109 : Ref sig .tc := ⟨.hbm, 223, rfl⟩
abbrev main_c_58 : Ref sig .tc := ⟨.hbm, 224, rfl⟩
abbrev main_v110 : Ref sig .tc := ⟨.hbm, 225, rfl⟩
abbrev main_v111 : Ref sig .tc := ⟨.hbm, 226, rfl⟩
abbrev main_c_59 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_c_60 : Ref sig .tc := ⟨.hbm, 235, rfl⟩
abbrev main_call7_v0 : Ref sig .tc := ⟨.hbm, 236, rfl⟩
abbrev main_call7_c : Ref sig .tc := ⟨.hbm, 237, rfl⟩
abbrev main_call7_v1 : Ref sig .tc := ⟨.hbm, 238, rfl⟩
abbrev main_call7_c_0 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_call7_c_1 : Ref sig .tc := ⟨.hbm, 243, rfl⟩
abbrev main_call7_v5 : Ref sig .tc := ⟨.hbm, 244, rfl⟩
abbrev main_call7_v6 : Ref sig .tc := ⟨.hbm, 245, rfl⟩
abbrev main_call7_c_2 : Ref sig .tc := ⟨.hbm, 246, rfl⟩
abbrev main_call7_v7 : Ref sig .tc := ⟨.hbm, 247, rfl⟩
abbrev main_call7_v8 : Ref sig .tc := ⟨.hbm, 248, rfl⟩
abbrev main_call7_c_3 : Ref sig .tc := ⟨.hbm, 249, rfl⟩
abbrev main_call7_v9 : Ref sig .tc := ⟨.hbm, 250, rfl⟩
abbrev main_call7_v10 : Ref sig .tc := ⟨.hbm, 251, rfl⟩
abbrev main_call7_v11 : Ref sig .tc := ⟨.hbm, 252, rfl⟩
abbrev main_call7_v12 : Ref sig .tc := ⟨.hbm, 253, rfl⟩
abbrev main_call7_v13 : Ref sig .tc := ⟨.hbm, 254, rfl⟩
abbrev main_call7_v14 : Ref sig .tc := ⟨.hbm, 255, rfl⟩
abbrev main_v119 : Ref sig .tc := ⟨.hbm, 256, rfl⟩
abbrev main_c_61 : Ref sig .tc := ⟨.hbm, 257, rfl⟩
abbrev main_v120 : Ref sig .tc := ⟨.hbm, 258, rfl⟩
abbrev main_v121 : Ref sig .tc := ⟨.hbm, 259, rfl⟩
abbrev main_c_62 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_cst_63 : Ref sig .tc := ⟨.hbm, 268, rfl⟩
abbrev main_v129 : Ref sig .tc := ⟨.hbm, 269, rfl⟩
abbrev main_v130 : Ref sig .tc := ⟨.hbm, 270, rfl⟩
abbrev main_cst_64 : Ref sig .tc := ⟨.hbm, 271, rfl⟩
abbrev main_v131 : Ref sig .tc := ⟨.hbm, 272, rfl⟩
abbrev main_cst_65 : Ref sig .tc := ⟨.hbm, 273, rfl⟩
abbrev main_v132 : Ref sig .tc := ⟨.hbm, 274, rfl⟩
abbrev main_cst_66 : Ref sig .tc := ⟨.hbm, 275, rfl⟩
abbrev main_v133 : Ref sig .tc := ⟨.hbm, 276, rfl⟩
abbrev main_v134 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_c_67 : Ref sig .tc := ⟨.hbm, 281, rfl⟩
abbrev main_v138 : Ref sig .tc := ⟨.hbm, 282, rfl⟩
abbrev main_v139 : Ref sig .tc := ⟨.hbm, 283, rfl⟩
abbrev main_c_68 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_c_69 : Ref sig .tc := ⟨.hbm, 290, rfl⟩
abbrev main_v145 : Ref sig .tc := ⟨.hbm, 291, rfl⟩
abbrev main_v146 : Ref sig .tc := ⟨.hbm, 292, rfl⟩
abbrev main_c_70 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_c_71 : Ref sig .tc := ⟨.hbm, 299, rfl⟩
abbrev main_v152 : Ref sig .tc := ⟨.hbm, 300, rfl⟩
abbrev main_v153 : Ref sig .tc := ⟨.hbm, 301, rfl⟩
abbrev main_c_72 : Ref sig .tc := ⟨.hbm, 302, rfl⟩
abbrev main_v154 : Ref sig .tc := ⟨.hbm, 303, rfl⟩
abbrev main_v155 : Ref sig .tc := ⟨.hbm, 304, rfl⟩
abbrev main_v156 : Ref sig .tc := ⟨.hbm, 305, rfl⟩
abbrev main_v157 : Ref sig .tc := ⟨.hbm, 306, rfl⟩
abbrev main_v158 : Ref sig .tc := ⟨.hbm, 307, rfl⟩
abbrev main_v159 : Ref sig .tc := ⟨.hbm, 308, rfl⟩
abbrev main_v160 : Ref sig .tc := ⟨.hbm, 309, rfl⟩
abbrev main_v161 : Ref sig .tc := ⟨.hbm, 310, rfl⟩
abbrev main_v162 : Ref sig .tc := ⟨.hbm, 311, rfl⟩
abbrev main_c_73 : Ref sig .tc := ⟨.hbm, 312, rfl⟩
abbrev main_v163 : Ref sig .tc := ⟨.hbm, 313, rfl⟩
abbrev main_v164 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_c_74 : Ref sig .tc := ⟨.hbm, 319, rfl⟩
abbrev main_v169 : Ref sig .tc := ⟨.hbm, 320, rfl⟩
abbrev main_v170 : Ref sig .tc := ⟨.hbm, 321, rfl⟩
abbrev main_v171 : Ref sig .tc := ⟨.hbm, 322, rfl⟩
abbrev main_v172 : Ref sig .tc := ⟨.hbm, 323, rfl⟩
abbrev main_v173 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_c_75 : Ref sig .tc := ⟨.hbm, 328, rfl⟩
abbrev main_call10_v0 : Ref sig .tc := ⟨.hbm, 329, rfl⟩
abbrev main_call10_v1 : Ref sig .tc := ⟨.hbm, 330, rfl⟩
abbrev main_call10_v2 : Ref sig .tc := ⟨.hbm, 331, rfl⟩
abbrev main_call10_v3 : Ref sig .tc := ⟨.hbm, 332, rfl⟩
abbrev main_call10_v4 : Ref sig .tc := ⟨.hbm, 333, rfl⟩
abbrev main_call10_v5 : Ref sig .tc := ⟨.hbm, 334, rfl⟩
abbrev main_call10_v6 : Ref sig .tc := ⟨.hbm, 335, rfl⟩
abbrev main_call10_v7 : Ref sig .tc := ⟨.hbm, 336, rfl⟩
abbrev main_call10_v8 : Ref sig .tc := ⟨.hbm, 337, rfl⟩
abbrev main_call10_c : Ref sig .tc := ⟨.hbm, 338, rfl⟩
abbrev main_call10_v9 : Ref sig .tc := ⟨.hbm, 339, rfl⟩
abbrev main_call10_v10 : Ref sig .tc := ⟨.hbm, 340, rfl⟩
abbrev main_call10_v11 : Ref sig .tc := ⟨.hbm, 341, rfl⟩
abbrev main_call10_c_0 : Ref sig .tc := ⟨.hbm, 342, rfl⟩
abbrev main_call10_v12 : Ref sig .tc := ⟨.hbm, 343, rfl⟩
abbrev main_call10_v13 : Ref sig .tc := ⟨.hbm, 344, rfl⟩
abbrev main_v177 : Ref sig .tc := ⟨.hbm, 345, rfl⟩
abbrev main_c_76 : Ref sig .tc := ⟨.hbm, 346, rfl⟩
abbrev main_v178 : Ref sig .tc := ⟨.hbm, 347, rfl⟩
abbrev main_v179 : Ref sig .tc := ⟨.hbm, 348, rfl⟩
abbrev main_c_77 : Ref sig .tc := ⟨.hbm, 349, rfl⟩
abbrev main_v180 : Ref sig .tc := ⟨.hbm, 350, rfl⟩
abbrev main_v181 : Ref sig .tc := ⟨.hbm, 351, rfl⟩
abbrev main_v182 : Ref sig .tc := ⟨.hbm, 352, rfl⟩
abbrev main_v183 : Ref sig .tc := ⟨.hbm, 353, rfl⟩
abbrev main_v184 : Ref sig .tc := ⟨.hbm, 354, rfl⟩
abbrev main_v185 : Ref sig .tc := ⟨.hbm, 355, rfl⟩
abbrev main_v186 : Ref sig .tc := ⟨.hbm, 356, rfl⟩
abbrev main_c_78 : Ref sig .tc := ⟨.hbm, 357, rfl⟩
abbrev main_call11_v0 : Ref sig .tc := ⟨.hbm, 358, rfl⟩
abbrev main_call11_c : Ref sig .tc := ⟨.hbm, 359, rfl⟩
abbrev main_call11_v1 : Ref sig .tc := ⟨.hbm, 360, rfl⟩
abbrev main_call11_c_0 : Ref sig .tc := ⟨.hbm, 361, rfl⟩
abbrev main_call11_v2 : Ref sig .tc := ⟨.hbm, 362, rfl⟩
abbrev main_call11_v3 : Ref sig .tc := ⟨.hbm, 363, rfl⟩
abbrev main_call11_v4 : Ref sig .tc := ⟨.hbm, 364, rfl⟩
abbrev main_call11_c_1 : Ref sig .tc := ⟨.hbm, 365, rfl⟩
abbrev main_call11_v5 : Ref sig .tc := ⟨.hbm, 366, rfl⟩
abbrev main_call11_v6 : Ref sig .tc := ⟨.hbm, 367, rfl⟩
abbrev main_call11_c_2 : Ref sig .tc := ⟨.hbm, 368, rfl⟩
abbrev main_call11_v7 : Ref sig .tc := ⟨.hbm, 369, rfl⟩
abbrev main_call11_v8 : Ref sig .tc := ⟨.hbm, 370, rfl⟩
abbrev main_call11_c_3 : Ref sig .tc := ⟨.hbm, 371, rfl⟩
abbrev main_call11_v9 : Ref sig .tc := ⟨.hbm, 372, rfl⟩
abbrev main_call11_v10 : Ref sig .tc := ⟨.hbm, 373, rfl⟩
abbrev main_call11_v11 : Ref sig .tc := ⟨.hbm, 374, rfl⟩
abbrev main_call11_v12 : Ref sig .tc := ⟨.hbm, 375, rfl⟩
abbrev main_call11_v13 : Ref sig .tc := ⟨.hbm, 376, rfl⟩
abbrev main_call11_v14 : Ref sig .tc := ⟨.hbm, 377, rfl⟩
abbrev main_v187 : Ref sig .tc := ⟨.hbm, 378, rfl⟩
abbrev main_c_79 : Ref sig .tc := ⟨.hbm, 379, rfl⟩
abbrev main_v188 : Ref sig .tc := ⟨.hbm, 380, rfl⟩
abbrev main_v189 : Ref sig .tc := ⟨.hbm, 381, rfl⟩
abbrev main_c_80 : Ref sig .tc := ⟨.hbm, 382, rfl⟩
abbrev main_v190 : Ref sig .tc := ⟨.hbm, 383, rfl⟩
abbrev main_v191 : Ref sig .tc := ⟨.hbm, 384, rfl⟩
abbrev main_v192 : Ref sig .tc := ⟨.hbm, 385, rfl⟩
abbrev main_v193 : Ref sig .tc := ⟨.hbm, 386, rfl⟩
abbrev main_v194 : Ref sig .tc := ⟨.hbm, 387, rfl⟩
abbrev main_v195 : Ref sig .tc := ⟨.hbm, 388, rfl⟩
abbrev main_v196 : Ref sig .tc := ⟨.hbm, 389, rfl⟩
abbrev main_cst_81 : Ref sig .tc := ⟨.hbm, 390, rfl⟩
abbrev main_v197 : Ref sig .tc := ⟨.hbm, 391, rfl⟩
abbrev main_v198 : Ref sig .tc := ⟨.hbm, 392, rfl⟩
abbrev main_cst_82 : Ref sig .tc := ⟨.hbm, 393, rfl⟩
abbrev main_v199 : Ref sig .tc := ⟨.hbm, 394, rfl⟩
abbrev main_cst_83 : Ref sig .tc := ⟨.hbm, 395, rfl⟩
abbrev main_v200 : Ref sig .tc := ⟨.hbm, 396, rfl⟩
abbrev main_cst_84 : Ref sig .tc := ⟨.hbm, 397, rfl⟩
abbrev main_v201 : Ref sig .tc := ⟨.hbm, 398, rfl⟩
abbrev main_v202 : Ref sig .tc := ⟨.hbm, 399, rfl⟩
abbrev main_v203 : Ref sig .tc := ⟨.hbm, 400, rfl⟩
abbrev main_v204 : Ref sig .tc := ⟨.hbm, 401, rfl⟩
abbrev main_v205 : Ref sig .tc := ⟨.hbm, 402, rfl⟩
abbrev main_c_85 : Ref sig .tc := ⟨.hbm, 403, rfl⟩
abbrev main_v206 : Ref sig .tc := ⟨.hbm, 404, rfl⟩
abbrev main_v207 : Ref sig .tc := ⟨.hbm, 405, rfl⟩
abbrev main_c_86 : Ref sig .tc := ⟨.hbm, 406, rfl⟩
abbrev main_v208 : Ref sig .tc := ⟨.hbm, 407, rfl⟩
abbrev main_v209 : Ref sig .tc := ⟨.hbm, 408, rfl⟩
abbrev main_v210 : Ref sig .tc := ⟨.hbm, 409, rfl⟩
abbrev main_v211 : Ref sig .tc := ⟨.hbm, 410, rfl⟩
abbrev main_v212 : Ref sig .tc := ⟨.hbm, 411, rfl⟩
abbrev main_c_87 : Ref sig .tc := ⟨.hbm, 412, rfl⟩
abbrev main_v213 : Ref sig .tc := ⟨.hbm, 413, rfl⟩
abbrev main_v214 : Ref sig .tc := ⟨.hbm, 414, rfl⟩
abbrev main_c_88 : Ref sig .tc := ⟨.hbm, 415, rfl⟩
abbrev main_v215 : Ref sig .tc := ⟨.hbm, 416, rfl⟩
abbrev main_v216 : Ref sig .tc := ⟨.hbm, 417, rfl⟩
abbrev main_v217 : Ref sig .tc := ⟨.hbm, 418, rfl⟩
abbrev main_v218 : Ref sig .tc := ⟨.hbm, 419, rfl⟩
abbrev main_v219 : Ref sig .tc := ⟨.hbm, 420, rfl⟩
abbrev main_c_89 : Ref sig .tc := ⟨.hbm, 421, rfl⟩
abbrev main_v220 : Ref sig .tc := ⟨.hbm, 422, rfl⟩
abbrev main_v221 : Ref sig .tc := ⟨.hbm, 423, rfl⟩
abbrev main_c_90 : Ref sig .tc := ⟨.hbm, 424, rfl⟩
abbrev main_v222 : Ref sig .tc := ⟨.hbm, 425, rfl⟩
abbrev main_v223 : Ref sig .tc := ⟨.hbm, 426, rfl⟩
abbrev main_v224 : Ref sig .tc := ⟨.hbm, 427, rfl⟩
abbrev main_v225 : Ref sig .tc := ⟨.hbm, 428, rfl⟩
abbrev main_v226 : Ref sig .tc := ⟨.hbm, 429, rfl⟩
abbrev main_v227 : Ref sig .tc := ⟨.hbm, 430, rfl⟩
abbrev main_v228 : Ref sig .tc := ⟨.hbm, 431, rfl⟩
abbrev main_v229 : Ref sig .tc := ⟨.hbm, 432, rfl⟩
abbrev main_v230 : Ref sig .tc := ⟨.hbm, 433, rfl⟩
abbrev main_c_91 : Ref sig .tc := ⟨.hbm, 434, rfl⟩
abbrev main_v231 : Ref sig .tc := ⟨.hbm, 435, rfl⟩
abbrev main_v232 : Ref sig .tc := ⟨.hbm, 436, rfl⟩
abbrev main_v233 : Ref sig .tc := ⟨.hbm, 437, rfl⟩
abbrev main_v234 : Ref sig .tc := ⟨.hbm, 438, rfl⟩
abbrev main_v235 : Ref sig .tc := ⟨.hbm, 439, rfl⟩
abbrev main_v236 : Ref sig .tc := ⟨.hbm, 440, rfl⟩
abbrev main_c_92 : Ref sig .tc := ⟨.hbm, 441, rfl⟩
abbrev main_v237 : Ref sig .tc := ⟨.hbm, 442, rfl⟩
abbrev main_v238 : Ref sig .tc := ⟨.hbm, 443, rfl⟩
abbrev main_v239 : Ref sig .tc := ⟨.hbm, 444, rfl⟩
abbrev main_v240 : Ref sig .tc := ⟨.hbm, 445, rfl⟩
abbrev main_v241 : Ref sig .tc := ⟨.hbm, 446, rfl⟩
abbrev main_v242 : Ref sig .tc := ⟨.hbm, 447, rfl⟩
abbrev main_v243 : Ref sig .tc := ⟨.hbm, 448, rfl⟩
abbrev main_v244 : Ref sig .tc := ⟨.hbm, 449, rfl⟩
abbrev main_c_93 : Ref sig .tc := ⟨.hbm, 450, rfl⟩
abbrev main_call14_v0 : Ref sig .tc := ⟨.hbm, 451, rfl⟩
abbrev main_call14_v1 : Ref sig .tc := ⟨.hbm, 452, rfl⟩
abbrev main_call14_v2 : Ref sig .tc := ⟨.hbm, 453, rfl⟩
abbrev main_call14_v3 : Ref sig .tc := ⟨.hbm, 454, rfl⟩
abbrev main_call14_v4 : Ref sig .tc := ⟨.hbm, 455, rfl⟩
abbrev main_call14_v5 : Ref sig .tc := ⟨.hbm, 456, rfl⟩
abbrev main_call14_v6 : Ref sig .tc := ⟨.hbm, 457, rfl⟩
abbrev main_call14_v7 : Ref sig .tc := ⟨.hbm, 458, rfl⟩
abbrev main_call14_v8 : Ref sig .tc := ⟨.hbm, 459, rfl⟩
abbrev main_call14_c : Ref sig .tc := ⟨.hbm, 460, rfl⟩
abbrev main_call14_v9 : Ref sig .tc := ⟨.hbm, 461, rfl⟩
abbrev main_call14_v10 : Ref sig .tc := ⟨.hbm, 462, rfl⟩
abbrev main_call14_v11 : Ref sig .tc := ⟨.hbm, 463, rfl⟩
abbrev main_call14_c_0 : Ref sig .tc := ⟨.hbm, 464, rfl⟩
abbrev main_call14_v12 : Ref sig .tc := ⟨.hbm, 465, rfl⟩
abbrev main_call14_v13 : Ref sig .tc := ⟨.hbm, 466, rfl⟩
abbrev main_v245 : Ref sig .tc := ⟨.hbm, 467, rfl⟩
abbrev main_c_94 : Ref sig .tc := ⟨.hbm, 468, rfl⟩
abbrev main_v246 : Ref sig .tc := ⟨.hbm, 469, rfl⟩
abbrev main_v247 : Ref sig .tc := ⟨.hbm, 470, rfl⟩
abbrev main_c_95 : Ref sig .tc := ⟨.hbm, 471, rfl⟩
abbrev main_v248 : Ref sig .tc := ⟨.hbm, 472, rfl⟩
abbrev main_v249 : Ref sig .tc := ⟨.hbm, 473, rfl⟩
abbrev main_v250 : Ref sig .tc := ⟨.hbm, 474, rfl⟩
abbrev main_v251 : Ref sig .tc := ⟨.hbm, 475, rfl⟩
abbrev main_v252 : Ref sig .tc := ⟨.hbm, 476, rfl⟩
abbrev main_v253 : Ref sig .tc := ⟨.hbm, 477, rfl⟩
abbrev main_v254 : Ref sig .tc := ⟨.hbm, 478, rfl⟩
abbrev main_c_96 : Ref sig .tc := ⟨.hbm, 479, rfl⟩
abbrev main_call15_v0 : Ref sig .tc := ⟨.hbm, 480, rfl⟩
abbrev main_call15_c : Ref sig .tc := ⟨.hbm, 481, rfl⟩
abbrev main_call15_v1 : Ref sig .tc := ⟨.hbm, 482, rfl⟩
abbrev main_call15_c_0 : Ref sig .tc := ⟨.hbm, 483, rfl⟩
abbrev main_call15_v2 : Ref sig .tc := ⟨.hbm, 484, rfl⟩
abbrev main_call15_v3 : Ref sig .tc := ⟨.hbm, 485, rfl⟩
abbrev main_call15_v4 : Ref sig .tc := ⟨.hbm, 486, rfl⟩
abbrev main_call15_c_1 : Ref sig .tc := ⟨.hbm, 487, rfl⟩
abbrev main_call15_v5 : Ref sig .tc := ⟨.hbm, 488, rfl⟩
abbrev main_call15_v6 : Ref sig .tc := ⟨.hbm, 489, rfl⟩
abbrev main_call15_c_2 : Ref sig .tc := ⟨.hbm, 490, rfl⟩
abbrev main_call15_v7 : Ref sig .tc := ⟨.hbm, 491, rfl⟩
abbrev main_call15_v8 : Ref sig .tc := ⟨.hbm, 492, rfl⟩
abbrev main_call15_c_3 : Ref sig .tc := ⟨.hbm, 493, rfl⟩
abbrev main_call15_v9 : Ref sig .tc := ⟨.hbm, 494, rfl⟩
abbrev main_call15_v10 : Ref sig .tc := ⟨.hbm, 495, rfl⟩
abbrev main_call15_v11 : Ref sig .tc := ⟨.hbm, 496, rfl⟩
abbrev main_call15_v12 : Ref sig .tc := ⟨.hbm, 497, rfl⟩
abbrev main_call15_v13 : Ref sig .tc := ⟨.hbm, 498, rfl⟩
abbrev main_call15_v14 : Ref sig .tc := ⟨.hbm, 499, rfl⟩
abbrev main_v255 : Ref sig .tc := ⟨.hbm, 500, rfl⟩
abbrev main_c_97 : Ref sig .tc := ⟨.hbm, 501, rfl⟩
abbrev main_v256 : Ref sig .tc := ⟨.hbm, 502, rfl⟩
abbrev main_v257 : Ref sig .tc := ⟨.hbm, 503, rfl⟩
abbrev main_c_98 : Ref sig .tc := ⟨.hbm, 504, rfl⟩
abbrev main_v258 : Ref sig .tc := ⟨.hbm, 505, rfl⟩
abbrev main_v259 : Ref sig .tc := ⟨.hbm, 506, rfl⟩
abbrev main_v260 : Ref sig .tc := ⟨.hbm, 507, rfl⟩
abbrev main_v261 : Ref sig .tc := ⟨.hbm, 508, rfl⟩
abbrev main_v262 : Ref sig .tc := ⟨.hbm, 509, rfl⟩
abbrev main_v263 : Ref sig .tc := ⟨.hbm, 510, rfl⟩
abbrev main_v264 : Ref sig .tc := ⟨.hbm, 511, rfl⟩
abbrev main_cst_99 : Ref sig .tc := ⟨.hbm, 512, rfl⟩
abbrev main_v265 : Ref sig .tc := ⟨.hbm, 513, rfl⟩
abbrev main_v266 : Ref sig .tc := ⟨.hbm, 514, rfl⟩
abbrev main_cst_100 : Ref sig .tc := ⟨.hbm, 515, rfl⟩
abbrev main_v267 : Ref sig .tc := ⟨.hbm, 516, rfl⟩
abbrev main_cst_101 : Ref sig .tc := ⟨.hbm, 517, rfl⟩
abbrev main_v268 : Ref sig .tc := ⟨.hbm, 518, rfl⟩
abbrev main_cst_102 : Ref sig .tc := ⟨.hbm, 519, rfl⟩
abbrev main_v269 : Ref sig .tc := ⟨.hbm, 520, rfl⟩
abbrev main_v270 : Ref sig .tc := ⟨.hbm, 521, rfl⟩
abbrev main_v271 : Ref sig .tc := ⟨.hbm, 522, rfl⟩
abbrev main_cst_103 : Ref sig .tc := ⟨.hbm, 523, rfl⟩
abbrev main_v272 : Ref sig .tc := ⟨.hbm, 524, rfl⟩
abbrev main_v273 : Ref sig .tc := ⟨.hbm, 525, rfl⟩
abbrev main_v274 : Ref sig .tc := ⟨.hbm, 526, rfl⟩
abbrev main_v275 : Ref sig .tc := ⟨.hbm, 527, rfl⟩
abbrev main_v276 : Ref sig .tc := ⟨.hbm, 528, rfl⟩
abbrev main_v277 : Ref sig .tc := ⟨.hbm, 529, rfl⟩
abbrev main_v278 : Ref sig .tc := ⟨.hbm, 530, rfl⟩
abbrev main_c_104 : Ref sig .tc := ⟨.hbm, 531, rfl⟩
abbrev main_v279 : Ref sig .tc := ⟨.hbm, 532, rfl⟩
abbrev main_v280 : Ref sig .tc := ⟨.hbm, 533, rfl⟩
abbrev main_c_105 : Ref sig .tc := ⟨.hbm, 534, rfl⟩
abbrev main_v281 : Ref sig .tc := ⟨.hbm, 535, rfl⟩
abbrev main_v282 : Ref sig .tc := ⟨.hbm, 536, rfl⟩
abbrev main_v283 : Ref sig .tc := ⟨.hbm, 537, rfl⟩
abbrev main_v284 : Ref sig .tc := ⟨.hbm, 538, rfl⟩
abbrev main_v285 : Ref sig .tc := ⟨.hbm, 539, rfl⟩
abbrev main_v286 : Ref sig .tc := ⟨.hbm, 540, rfl⟩
abbrev main_v287 : Ref sig .tc := ⟨.hbm, 541, rfl⟩
abbrev main_c_106 : Ref sig .tc := ⟨.hbm, 542, rfl⟩
abbrev main_v288 : Ref sig .tc := ⟨.hbm, 543, rfl⟩
abbrev main_v289 : Ref sig .tc := ⟨.hbm, 544, rfl⟩
abbrev main_c_107 : Ref sig .tc := ⟨.hbm, 545, rfl⟩
abbrev main_v290 : Ref sig .tc := ⟨.hbm, 546, rfl⟩
abbrev main_v291 : Ref sig .tc := ⟨.hbm, 547, rfl⟩
abbrev main_v292 : Ref sig .tc := ⟨.hbm, 548, rfl⟩
abbrev main_v293 : Ref sig .tc := ⟨.hbm, 549, rfl⟩
abbrev main_v294 : Ref sig .tc := ⟨.hbm, 550, rfl⟩
abbrev main_v295 : Ref sig .tc := ⟨.hbm, 551, rfl⟩
abbrev main_v296 : Ref sig .tc := ⟨.hbm, 552, rfl⟩
abbrev main_c_108 : Ref sig .tc := ⟨.hbm, 553, rfl⟩
abbrev main_v297 : Ref sig .tc := ⟨.hbm, 554, rfl⟩
abbrev main_v298 : Ref sig .tc := ⟨.hbm, 555, rfl⟩
abbrev main_c_109 : Ref sig .tc := ⟨.hbm, 556, rfl⟩
abbrev main_v299 : Ref sig .tc := ⟨.hbm, 557, rfl⟩
abbrev main_v300 : Ref sig .tc := ⟨.hbm, 558, rfl⟩
abbrev main_v301 : Ref sig .tc := ⟨.hbm, 559, rfl⟩
abbrev main_v302 : Ref sig .tc := ⟨.hbm, 560, rfl⟩
abbrev main_v303 : Ref sig .tc := ⟨.hbm, 561, rfl⟩
abbrev main_v304 : Ref sig .tc := ⟨.hbm, 562, rfl⟩
abbrev main_v305 : Ref sig .tc := ⟨.hbm, 563, rfl⟩
abbrev main_cst_110 : Ref sig .tc := ⟨.hbm, 564, rfl⟩
abbrev main_v306 : Ref sig .tc := ⟨.hbm, 565, rfl⟩
abbrev main_cst_111 : Ref sig .tc := ⟨.hbm, 566, rfl⟩
abbrev main_v307 : Ref sig .tc := ⟨.hbm, 567, rfl⟩
abbrev main_v308 : Ref sig .tc := ⟨.hbm, 568, rfl⟩
abbrev main_v309 : Ref sig .tc := ⟨.hbm, 569, rfl⟩
abbrev main_v310 : Ref sig .tc := ⟨.hbm, 570, rfl⟩
abbrev main_v311 : Ref sig .tc := ⟨.hbm, 571, rfl⟩
abbrev main_cst_112 : Ref sig .tc := ⟨.hbm, 572, rfl⟩
abbrev main_v312 : Ref sig .tc := ⟨.hbm, 573, rfl⟩
abbrev main_cst_113 : Ref sig .tc := ⟨.hbm, 574, rfl⟩
abbrev main_v313 : Ref sig .tc := ⟨.hbm, 575, rfl⟩
abbrev main_v314 : Ref sig .tc := ⟨.hbm, 576, rfl⟩
abbrev main_v315 : Ref sig .tc := ⟨.hbm, 577, rfl⟩
abbrev main_v316 : Ref sig .tc := ⟨.hbm, 578, rfl⟩
abbrev main_v317 : Ref sig .tc := ⟨.hbm, 579, rfl⟩
abbrev main_cst_114 : Ref sig .tc := ⟨.hbm, 580, rfl⟩
abbrev main_v318 : Ref sig .tc := ⟨.hbm, 581, rfl⟩
abbrev main_cst_115 : Ref sig .tc := ⟨.hbm, 582, rfl⟩
abbrev main_v319 : Ref sig .tc := ⟨.hbm, 583, rfl⟩
abbrev main_v320 : Ref sig .tc := ⟨.hbm, 584, rfl⟩
abbrev main_v321 : Ref sig .tc := ⟨.hbm, 585, rfl⟩
abbrev main_v322 : Ref sig .tc := ⟨.hbm, 586, rfl⟩
abbrev main_v323 : Ref sig .tc := ⟨.hbm, 587, rfl⟩
abbrev main_cst_116 : Ref sig .tc := ⟨.hbm, 588, rfl⟩
abbrev main_v324 : Ref sig .tc := ⟨.hbm, 589, rfl⟩
abbrev main_v325 : Ref sig .tc := ⟨.hbm, 590, rfl⟩
abbrev main_v326 : Ref sig .tc := ⟨.hbm, 591, rfl⟩
abbrev main_v327 : Ref sig .tc := ⟨.hbm, 592, rfl⟩
abbrev main_v328 : Ref sig .tc := ⟨.hbm, 593, rfl⟩
abbrev main_v329 : Ref sig .tc := ⟨.hbm, 594, rfl⟩
abbrev main_v330 : Ref sig .tc := ⟨.hbm, 595, rfl⟩
abbrev main_v331 : Ref sig .tc := ⟨.hbm, 596, rfl⟩
abbrev main_cst_117 : Ref sig .tc := ⟨.hbm, 597, rfl⟩
abbrev main_call16_v0 : Ref sig .tc := ⟨.hbm, 598, rfl⟩
abbrev main_call16_v1 : Ref sig .tc := ⟨.hbm, 599, rfl⟩
abbrev main_v332 : Ref sig .tc := ⟨.hbm, 600, rfl⟩
abbrev main_v333 : Ref sig .tc := ⟨.hbm, 601, rfl⟩
abbrev main_v334 : Ref sig .tc := ⟨.hbm, 602, rfl⟩
abbrev main_v335 : Ref sig .tc := ⟨.hbm, 603, rfl⟩
abbrev main_v336 : Ref sig .tc := ⟨.hbm, 604, rfl⟩
abbrev main_v337 : Ref sig .tc := ⟨.hbm, 605, rfl⟩
abbrev main_v338 : Ref sig .tc := ⟨.hbm, 606, rfl⟩
abbrev main_v339 : Ref sig .tc := ⟨.hbm, 607, rfl⟩
abbrev main_v340 : Ref sig .tc := ⟨.hbm, 608, rfl⟩
abbrev main_v341 : Ref sig .tc := ⟨.hbm, 609, rfl⟩
abbrev main_v342 : Ref sig .tc := ⟨.hbm, 610, rfl⟩
abbrev main_v343 : Ref sig .tc := ⟨.hbm, 611, rfl⟩
abbrev main_v344 : Ref sig .tc := ⟨.hbm, 612, rfl⟩
abbrev main_v345 : Ref sig .tc := ⟨.hbm, 613, rfl⟩
abbrev main_v346 : Ref sig .tc := ⟨.hbm, 614, rfl⟩
abbrev main_v347 : Ref sig .tc := ⟨.hbm, 615, rfl⟩
abbrev main_v348 : Ref sig .tc := ⟨.hbm, 616, rfl⟩
abbrev main_v349 : Ref sig .tc := ⟨.hbm, 617, rfl⟩
abbrev main_cst_118 : Ref sig .tc := ⟨.hbm, 618, rfl⟩
abbrev main_v350 : Ref sig .tc := ⟨.hbm, 619, rfl⟩
abbrev main_v351 : Ref sig .tc := ⟨.hbm, 620, rfl⟩
abbrev main_v352 : Ref sig .tc := ⟨.hbm, 621, rfl⟩
abbrev main_c_119 : Ref sig .tc := ⟨.hbm, 622, rfl⟩
abbrev main_v353 : Ref sig .tc := ⟨.hbm, 623, rfl⟩
abbrev main_v354 : Ref sig .tc := ⟨.hbm, 624, rfl⟩
abbrev main_c_120 : Ref sig .tc := ⟨.hbm, 625, rfl⟩
abbrev main_v355 : Ref sig .tc := ⟨.hbm, 626, rfl⟩
abbrev main_v356 : Ref sig .tc := ⟨.hbm, 627, rfl⟩
abbrev main_v357 : Ref sig .tc := ⟨.hbm, 628, rfl⟩
abbrev main_v358 : Ref sig .tc := ⟨.hbm, 629, rfl⟩
abbrev main_v359 : Ref sig .tc := ⟨.hbm, 630, rfl⟩
abbrev main_v360 : Ref sig .tc := ⟨.hbm, 631, rfl⟩
abbrev main_c_121 : Ref sig .tc := ⟨.hbm, 632, rfl⟩
abbrev main_v361 : Ref sig .tc := ⟨.hbm, 633, rfl⟩
abbrev main_v362 : Ref sig .tc := ⟨.hbm, 634, rfl⟩
abbrev main_c_122 : Ref sig .tc := ⟨.hbm, 635, rfl⟩
abbrev main_v363 : Ref sig .tc := ⟨.hbm, 636, rfl⟩
abbrev main_v364 : Ref sig .tc := ⟨.hbm, 637, rfl⟩
abbrev main_v365 : Ref sig .tc := ⟨.hbm, 638, rfl⟩
abbrev main_v366 : Ref sig .tc := ⟨.hbm, 639, rfl⟩
abbrev main_v367 : Ref sig .tc := ⟨.hbm, 640, rfl⟩
abbrev main_v368 : Ref sig .tc := ⟨.hbm, 641, rfl⟩
abbrev main_cst_123 : Ref sig .tc := ⟨.hbm, 642, rfl⟩
abbrev main_v369 : Ref sig .tc := ⟨.hbm, 643, rfl⟩
abbrev main_v370 : Ref sig .tc := ⟨.hbm, 644, rfl⟩
abbrev main_c_124 : Ref sig .tc := ⟨.hbm, 645, rfl⟩
abbrev main_v371 : Ref sig .tc := ⟨.hbm, 646, rfl⟩
abbrev main_v372 : Ref sig .tc := ⟨.hbm, 647, rfl⟩
abbrev main_c_125 : Ref sig .tc := ⟨.hbm, 648, rfl⟩
abbrev main_v373 : Ref sig .tc := ⟨.hbm, 649, rfl⟩
abbrev main_v374 : Ref sig .tc := ⟨.hbm, 650, rfl⟩
abbrev main_v375 : Ref sig .tc := ⟨.hbm, 651, rfl⟩
abbrev main_v376 : Ref sig .tc := ⟨.hbm, 652, rfl⟩
abbrev main_v377 : Ref sig .tc := ⟨.hbm, 653, rfl⟩
abbrev main_v378 : Ref sig .tc := ⟨.hbm, 654, rfl⟩
abbrev main_v379 : Ref sig .tc := ⟨.hbm, 655, rfl⟩
abbrev main_c_126 : Ref sig .tc := ⟨.hbm, 656, rfl⟩
abbrev main_v380 : Ref sig .tc := ⟨.hbm, 657, rfl⟩
abbrev main_v381 : Ref sig .tc := ⟨.hbm, 658, rfl⟩
abbrev main_c_127 : Ref sig .tc := ⟨.hbm, 659, rfl⟩
abbrev main_v382 : Ref sig .tc := ⟨.hbm, 660, rfl⟩
abbrev main_v383 : Ref sig .tc := ⟨.hbm, 661, rfl⟩
abbrev main_v384 : Ref sig .tc := ⟨.hbm, 662, rfl⟩
abbrev main_v385 : Ref sig .tc := ⟨.hbm, 663, rfl⟩
abbrev main_v386 : Ref sig .tc := ⟨.hbm, 664, rfl⟩
abbrev main_v387 : Ref sig .tc := ⟨.hbm, 665, rfl⟩
abbrev main_c_128 : Ref sig .tc := ⟨.hbm, 666, rfl⟩
abbrev main_v388 : Ref sig .tc := ⟨.hbm, 667, rfl⟩
abbrev main_v389 : Ref sig .tc := ⟨.hbm, 668, rfl⟩
abbrev main_c_129 : Ref sig .tc := ⟨.hbm, 669, rfl⟩
abbrev main_v390 : Ref sig .tc := ⟨.hbm, 670, rfl⟩
abbrev main_v391 : Ref sig .tc := ⟨.hbm, 671, rfl⟩
abbrev main_v392 : Ref sig .tc := ⟨.hbm, 672, rfl⟩
abbrev main_v393 : Ref sig .tc := ⟨.hbm, 673, rfl⟩
abbrev main_v394 : Ref sig .tc := ⟨.hbm, 674, rfl⟩
abbrev main_v395 : Ref sig .tc := ⟨.hbm, 675, rfl⟩
abbrev main_v396 : Ref sig .tc := ⟨.hbm, 676, rfl⟩
abbrev main_c_130 : Ref sig .tc := ⟨.hbm, 677, rfl⟩
abbrev main_v397 : Ref sig .tc := ⟨.hbm, 678, rfl⟩
abbrev main_v398 : Ref sig .tc := ⟨.hbm, 679, rfl⟩
abbrev main_c_131 : Ref sig .tc := ⟨.hbm, 680, rfl⟩
abbrev main_v399 : Ref sig .tc := ⟨.hbm, 681, rfl⟩
abbrev main_v400 : Ref sig .tc := ⟨.hbm, 682, rfl⟩
abbrev main_v401 : Ref sig .tc := ⟨.hbm, 683, rfl⟩
abbrev main_v402 : Ref sig .tc := ⟨.hbm, 684, rfl⟩
abbrev main_v403 : Ref sig .tc := ⟨.hbm, 685, rfl⟩
abbrev main_cst_132 : Ref sig .tc := ⟨.hbm, 686, rfl⟩
abbrev main_v404 : Ref sig .tc := ⟨.hbm, 687, rfl⟩
abbrev main_c_133 : Ref sig .tc := ⟨.hbm, 688, rfl⟩
abbrev main_v405 : Ref sig .tc := ⟨.hbm, 689, rfl⟩
abbrev main_v406 : Ref sig .tc := ⟨.hbm, 690, rfl⟩
abbrev main_c_134 : Ref sig .tc := ⟨.hbm, 691, rfl⟩
abbrev main_v407 : Ref sig .tc := ⟨.hbm, 692, rfl⟩
abbrev main_v408 : Ref sig .tc := ⟨.hbm, 693, rfl⟩
abbrev main_v409 : Ref sig .tc := ⟨.hbm, 694, rfl⟩
abbrev main_v410 : Ref sig .tc := ⟨.hbm, 695, rfl⟩
abbrev main_v411 : Ref sig .tc := ⟨.hbm, 696, rfl⟩
abbrev main_c_135 : Ref sig .tc := ⟨.hbm, 697, rfl⟩
abbrev main_v412 : Ref sig .tc := ⟨.hbm, 698, rfl⟩
abbrev main_v413 : Ref sig .tc := ⟨.hbm, 699, rfl⟩
abbrev main_c_136 : Ref sig .tc := ⟨.hbm, 700, rfl⟩
abbrev main_v414 : Ref sig .tc := ⟨.hbm, 701, rfl⟩
abbrev main_v415 : Ref sig .tc := ⟨.hbm, 702, rfl⟩
abbrev main_v416 : Ref sig .tc := ⟨.hbm, 703, rfl⟩
abbrev main_v417 : Ref sig .tc := ⟨.hbm, 704, rfl⟩
abbrev main_v418 : Ref sig .tc := ⟨.hbm, 705, rfl⟩
abbrev main_cst_137 : Ref sig .tc := ⟨.hbm, 706, rfl⟩
abbrev main_v419 : Ref sig .tc := ⟨.hbm, 707, rfl⟩
abbrev main_v420 : Ref sig .tc := ⟨.hbm, 708, rfl⟩
abbrev main_cst_138 : Ref sig .tc := ⟨.hbm, 709, rfl⟩
abbrev main_call17_v0 : Ref sig .tc := ⟨.hbm, 710, rfl⟩
abbrev main_call17_v1 : Ref sig .tc := ⟨.hbm, 711, rfl⟩
abbrev main_v421 : Ref sig .tc := ⟨.hbm, 712, rfl⟩
abbrev main_cst_139 : Ref sig .tc := ⟨.hbm, 713, rfl⟩
abbrev main_v422 : Ref sig .tc := ⟨.hbm, 714, rfl⟩
abbrev main_v423 : Ref sig .tc := ⟨.hbm, 715, rfl⟩
abbrev main_cst_140 : Ref sig .tc := ⟨.hbm, 716, rfl⟩
abbrev main_v424 : Ref sig .tc := ⟨.hbm, 717, rfl⟩
abbrev main_v425 : Ref sig .tc := ⟨.hbm, 718, rfl⟩
abbrev main_cst_141 : Ref sig .tc := ⟨.hbm, 719, rfl⟩
abbrev main_call18_v0 : Ref sig .tc := ⟨.hbm, 720, rfl⟩
abbrev main_call18_v1 : Ref sig .tc := ⟨.hbm, 721, rfl⟩
abbrev main_v426 : Ref sig .tc := ⟨.hbm, 722, rfl⟩
abbrev main_v427 : Ref sig .tc := ⟨.hbm, 723, rfl⟩
abbrev main_v428 : Ref sig .tc := ⟨.hbm, 724, rfl⟩
abbrev main_v429 : Ref sig .tc := ⟨.hbm, 725, rfl⟩
abbrev main_v430 : Ref sig .tc := ⟨.hbm, 726, rfl⟩
abbrev main_v431 : Ref sig .tc := ⟨.hbm, 727, rfl⟩
abbrev main_cst_142 : Ref sig .tc := ⟨.hbm, 728, rfl⟩
abbrev main_v432 : Ref sig .tc := ⟨.hbm, 729, rfl⟩
abbrev main_cst_143 : Ref sig .tc := ⟨.hbm, 730, rfl⟩
abbrev main_v433 : Ref sig .tc := ⟨.hbm, 731, rfl⟩
abbrev main_v434 : Ref sig .tc := ⟨.hbm, 732, rfl⟩
abbrev main_v435 : Ref sig .tc := ⟨.hbm, 733, rfl⟩
abbrev main_cst_144 : Ref sig .tc := ⟨.hbm, 734, rfl⟩
abbrev main_v436 : Ref sig .tc := ⟨.hbm, 735, rfl⟩
abbrev main_cst_145 : Ref sig .tc := ⟨.hbm, 736, rfl⟩
abbrev main_v437 : Ref sig .tc := ⟨.hbm, 737, rfl⟩
abbrev main_cst_146 : Ref sig .tc := ⟨.hbm, 738, rfl⟩
abbrev main_v438 : Ref sig .tc := ⟨.hbm, 739, rfl⟩
abbrev main_v439 : Ref sig .tc := ⟨.hbm, 740, rfl⟩
abbrev main_v440 : Ref sig .tc := ⟨.hbm, 741, rfl⟩
abbrev main_v441 : Ref sig .tc := ⟨.hbm, 742, rfl⟩
abbrev main_v442 : Ref sig .tc := ⟨.hbm, 743, rfl⟩
abbrev main_v443 : Ref sig .tc := ⟨.hbm, 744, rfl⟩
abbrev main_v444 : Ref sig .tc := ⟨.hbm, 745, rfl⟩
abbrev main_c_147 : Ref sig .tc := ⟨.hbm, 746, rfl⟩
abbrev main_v445 : Ref sig .tc := ⟨.hbm, 747, rfl⟩
abbrev main_v446 : Ref sig .tc := ⟨.hbm, 748, rfl⟩
abbrev main_c_148 : Ref sig .tc := ⟨.hbm, 749, rfl⟩
abbrev main_v447 : Ref sig .tc := ⟨.hbm, 750, rfl⟩
abbrev main_v448 : Ref sig .tc := ⟨.hbm, 751, rfl⟩
abbrev main_v449 : Ref sig .tc := ⟨.hbm, 752, rfl⟩
abbrev main_v450 : Ref sig .tc := ⟨.hbm, 753, rfl⟩
abbrev main_v451 : Ref sig .tc := ⟨.hbm, 754, rfl⟩
abbrev main_v452 : Ref sig .tc := ⟨.hbm, 755, rfl⟩
abbrev main_v453 : Ref sig .tc := ⟨.hbm, 756, rfl⟩
abbrev main_c_149 : Ref sig .tc := ⟨.hbm, 757, rfl⟩
abbrev main_v454 : Ref sig .tc := ⟨.hbm, 758, rfl⟩
abbrev main_v455 : Ref sig .tc := ⟨.hbm, 759, rfl⟩
abbrev main_c_150 : Ref sig .tc := ⟨.hbm, 760, rfl⟩
abbrev main_v456 : Ref sig .tc := ⟨.hbm, 761, rfl⟩
abbrev main_v457 : Ref sig .tc := ⟨.hbm, 762, rfl⟩
abbrev main_v458 : Ref sig .tc := ⟨.hbm, 763, rfl⟩
abbrev main_v459 : Ref sig .tc := ⟨.hbm, 764, rfl⟩
abbrev main_v460 : Ref sig .tc := ⟨.hbm, 765, rfl⟩
abbrev main_v461 : Ref sig .tc := ⟨.hbm, 766, rfl⟩
abbrev main_v462 : Ref sig .tc := ⟨.hbm, 767, rfl⟩
abbrev main_c_151 : Ref sig .tc := ⟨.hbm, 768, rfl⟩
abbrev main_v463 : Ref sig .tc := ⟨.hbm, 769, rfl⟩
abbrev main_v464 : Ref sig .tc := ⟨.hbm, 770, rfl⟩
abbrev main_c_152 : Ref sig .tc := ⟨.hbm, 771, rfl⟩
abbrev main_v465 : Ref sig .tc := ⟨.hbm, 772, rfl⟩
abbrev main_v466 : Ref sig .tc := ⟨.hbm, 773, rfl⟩
abbrev main_v467 : Ref sig .tc := ⟨.hbm, 774, rfl⟩
abbrev main_v468 : Ref sig .tc := ⟨.hbm, 775, rfl⟩
abbrev main_v469 : Ref sig .tc := ⟨.hbm, 776, rfl⟩
abbrev main_v470 : Ref sig .tc := ⟨.hbm, 777, rfl⟩
abbrev main_v471 : Ref sig .tc := ⟨.hbm, 778, rfl⟩
abbrev main_cst_153 : Ref sig .tc := ⟨.hbm, 779, rfl⟩
abbrev main_v472 : Ref sig .tc := ⟨.hbm, 780, rfl⟩
abbrev main_cst_154 : Ref sig .tc := ⟨.hbm, 781, rfl⟩
abbrev main_v473 : Ref sig .tc := ⟨.hbm, 782, rfl⟩
abbrev main_v474 : Ref sig .tc := ⟨.hbm, 783, rfl⟩
abbrev main_v475 : Ref sig .tc := ⟨.hbm, 784, rfl⟩
abbrev main_v476 : Ref sig .tc := ⟨.hbm, 785, rfl⟩
abbrev main_v477 : Ref sig .tc := ⟨.hbm, 786, rfl⟩
abbrev main_cst_155 : Ref sig .tc := ⟨.hbm, 787, rfl⟩
abbrev main_v478 : Ref sig .tc := ⟨.hbm, 788, rfl⟩
abbrev main_cst_156 : Ref sig .tc := ⟨.hbm, 789, rfl⟩
abbrev main_v479 : Ref sig .tc := ⟨.hbm, 790, rfl⟩
abbrev main_v480 : Ref sig .tc := ⟨.hbm, 791, rfl⟩
abbrev main_v481 : Ref sig .tc := ⟨.hbm, 792, rfl⟩
abbrev main_v482 : Ref sig .tc := ⟨.hbm, 793, rfl⟩
abbrev main_v483 : Ref sig .tc := ⟨.hbm, 794, rfl⟩
abbrev main_cst_157 : Ref sig .tc := ⟨.hbm, 795, rfl⟩
abbrev main_v484 : Ref sig .tc := ⟨.hbm, 796, rfl⟩
abbrev main_cst_158 : Ref sig .tc := ⟨.hbm, 797, rfl⟩
abbrev main_v485 : Ref sig .tc := ⟨.hbm, 798, rfl⟩
abbrev main_v486 : Ref sig .tc := ⟨.hbm, 799, rfl⟩
abbrev main_v487 : Ref sig .tc := ⟨.hbm, 800, rfl⟩
abbrev main_v488 : Ref sig .tc := ⟨.hbm, 801, rfl⟩
abbrev main_v489 : Ref sig .tc := ⟨.hbm, 802, rfl⟩
abbrev main_cst_159 : Ref sig .tc := ⟨.hbm, 803, rfl⟩
abbrev main_v490 : Ref sig .tc := ⟨.hbm, 804, rfl⟩
abbrev main_v491 : Ref sig .tc := ⟨.hbm, 805, rfl⟩
abbrev main_v492 : Ref sig .tc := ⟨.hbm, 806, rfl⟩
abbrev main_v493 : Ref sig .tc := ⟨.hbm, 807, rfl⟩
abbrev main_v494 : Ref sig .tc := ⟨.hbm, 808, rfl⟩
abbrev main_v495 : Ref sig .tc := ⟨.hbm, 809, rfl⟩
abbrev main_v496 : Ref sig .tc := ⟨.hbm, 810, rfl⟩
abbrev main_v497 : Ref sig .tc := ⟨.hbm, 811, rfl⟩
abbrev main_cst_160 : Ref sig .tc := ⟨.hbm, 812, rfl⟩
abbrev main_call19_v0 : Ref sig .tc := ⟨.hbm, 813, rfl⟩
abbrev main_call19_v1 : Ref sig .tc := ⟨.hbm, 814, rfl⟩
abbrev main_v498 : Ref sig .tc := ⟨.hbm, 815, rfl⟩
abbrev main_v499 : Ref sig .tc := ⟨.hbm, 816, rfl⟩
abbrev main_v500 : Ref sig .tc := ⟨.hbm, 817, rfl⟩
abbrev main_v501 : Ref sig .tc := ⟨.hbm, 818, rfl⟩
abbrev main_v502 : Ref sig .tc := ⟨.hbm, 819, rfl⟩
abbrev main_v503 : Ref sig .tc := ⟨.hbm, 820, rfl⟩
abbrev main_v504 : Ref sig .tc := ⟨.hbm, 821, rfl⟩
abbrev main_v505 : Ref sig .tc := ⟨.hbm, 822, rfl⟩
abbrev main_v506 : Ref sig .tc := ⟨.hbm, 823, rfl⟩
abbrev main_v507 : Ref sig .tc := ⟨.hbm, 824, rfl⟩
abbrev main_v508 : Ref sig .tc := ⟨.hbm, 825, rfl⟩
abbrev main_v509 : Ref sig .tc := ⟨.hbm, 826, rfl⟩
abbrev main_v510 : Ref sig .tc := ⟨.hbm, 827, rfl⟩
abbrev main_v511 : Ref sig .tc := ⟨.hbm, 828, rfl⟩
abbrev main_v512 : Ref sig .tc := ⟨.hbm, 829, rfl⟩
abbrev main_v513 : Ref sig .tc := ⟨.hbm, 830, rfl⟩
abbrev main_v514 : Ref sig .tc := ⟨.hbm, 831, rfl⟩
abbrev main_v515 : Ref sig .tc := ⟨.hbm, 832, rfl⟩
abbrev main_cst_161 : Ref sig .tc := ⟨.hbm, 833, rfl⟩
abbrev main_v516 : Ref sig .tc := ⟨.hbm, 834, rfl⟩
abbrev main_v517 : Ref sig .tc := ⟨.hbm, 835, rfl⟩
abbrev main_v518 : Ref sig .tc := ⟨.hbm, 836, rfl⟩
abbrev main_c_162 : Ref sig .tc := ⟨.hbm, 837, rfl⟩
abbrev main_v519 : Ref sig .tc := ⟨.hbm, 838, rfl⟩
abbrev main_v520 : Ref sig .tc := ⟨.hbm, 839, rfl⟩
abbrev main_c_163 : Ref sig .tc := ⟨.hbm, 840, rfl⟩
abbrev main_v521 : Ref sig .tc := ⟨.hbm, 841, rfl⟩
abbrev main_v522 : Ref sig .tc := ⟨.hbm, 842, rfl⟩
abbrev main_v523 : Ref sig .tc := ⟨.hbm, 843, rfl⟩
abbrev main_v524 : Ref sig .tc := ⟨.hbm, 844, rfl⟩
abbrev main_v525 : Ref sig .tc := ⟨.hbm, 845, rfl⟩
abbrev main_v526 : Ref sig .tc := ⟨.hbm, 846, rfl⟩
abbrev main_c_164 : Ref sig .tc := ⟨.hbm, 847, rfl⟩
abbrev main_v527 : Ref sig .tc := ⟨.hbm, 848, rfl⟩
abbrev main_v528 : Ref sig .tc := ⟨.hbm, 849, rfl⟩
abbrev main_c_165 : Ref sig .tc := ⟨.hbm, 850, rfl⟩
abbrev main_v529 : Ref sig .tc := ⟨.hbm, 851, rfl⟩
abbrev main_v530 : Ref sig .tc := ⟨.hbm, 852, rfl⟩
abbrev main_v531 : Ref sig .tc := ⟨.hbm, 853, rfl⟩
abbrev main_v532 : Ref sig .tc := ⟨.hbm, 854, rfl⟩
abbrev main_v533 : Ref sig .tc := ⟨.hbm, 855, rfl⟩
abbrev main_v534 : Ref sig .tc := ⟨.hbm, 856, rfl⟩
abbrev main_cst_166 : Ref sig .tc := ⟨.hbm, 857, rfl⟩
abbrev main_v535 : Ref sig .tc := ⟨.hbm, 858, rfl⟩
abbrev main_v536 : Ref sig .tc := ⟨.hbm, 859, rfl⟩
abbrev main_c_167 : Ref sig .tc := ⟨.hbm, 860, rfl⟩
abbrev main_v537 : Ref sig .tc := ⟨.hbm, 861, rfl⟩
abbrev main_v538 : Ref sig .tc := ⟨.hbm, 862, rfl⟩
abbrev main_c_168 : Ref sig .tc := ⟨.hbm, 863, rfl⟩
abbrev main_v539 : Ref sig .tc := ⟨.hbm, 864, rfl⟩
abbrev main_v540 : Ref sig .tc := ⟨.hbm, 865, rfl⟩
abbrev main_v541 : Ref sig .tc := ⟨.hbm, 866, rfl⟩
abbrev main_v542 : Ref sig .tc := ⟨.hbm, 867, rfl⟩
abbrev main_v543 : Ref sig .tc := ⟨.hbm, 868, rfl⟩
abbrev main_v544 : Ref sig .tc := ⟨.hbm, 869, rfl⟩
abbrev main_v545 : Ref sig .tc := ⟨.hbm, 870, rfl⟩
abbrev main_c_169 : Ref sig .tc := ⟨.hbm, 871, rfl⟩
abbrev main_v546 : Ref sig .tc := ⟨.hbm, 872, rfl⟩
abbrev main_v547 : Ref sig .tc := ⟨.hbm, 873, rfl⟩
abbrev main_c_170 : Ref sig .tc := ⟨.hbm, 874, rfl⟩
abbrev main_v548 : Ref sig .tc := ⟨.hbm, 875, rfl⟩
abbrev main_v549 : Ref sig .tc := ⟨.hbm, 876, rfl⟩
abbrev main_v550 : Ref sig .tc := ⟨.hbm, 877, rfl⟩
abbrev main_v551 : Ref sig .tc := ⟨.hbm, 878, rfl⟩
abbrev main_v552 : Ref sig .tc := ⟨.hbm, 879, rfl⟩
abbrev main_v553 : Ref sig .tc := ⟨.hbm, 880, rfl⟩
abbrev main_c_171 : Ref sig .tc := ⟨.hbm, 881, rfl⟩
abbrev main_v554 : Ref sig .tc := ⟨.hbm, 882, rfl⟩
abbrev main_v555 : Ref sig .tc := ⟨.hbm, 883, rfl⟩
abbrev main_c_172 : Ref sig .tc := ⟨.hbm, 884, rfl⟩
abbrev main_v556 : Ref sig .tc := ⟨.hbm, 885, rfl⟩
abbrev main_v557 : Ref sig .tc := ⟨.hbm, 886, rfl⟩
abbrev main_v558 : Ref sig .tc := ⟨.hbm, 887, rfl⟩
abbrev main_v559 : Ref sig .tc := ⟨.hbm, 888, rfl⟩
abbrev main_v560 : Ref sig .tc := ⟨.hbm, 889, rfl⟩
abbrev main_v561 : Ref sig .tc := ⟨.hbm, 890, rfl⟩
abbrev main_v562 : Ref sig .tc := ⟨.hbm, 891, rfl⟩
abbrev main_c_173 : Ref sig .tc := ⟨.hbm, 892, rfl⟩
abbrev main_v563 : Ref sig .tc := ⟨.hbm, 893, rfl⟩
abbrev main_v564 : Ref sig .tc := ⟨.hbm, 894, rfl⟩
abbrev main_c_174 : Ref sig .tc := ⟨.hbm, 895, rfl⟩
abbrev main_v565 : Ref sig .tc := ⟨.hbm, 896, rfl⟩
abbrev main_v566 : Ref sig .tc := ⟨.hbm, 897, rfl⟩
abbrev main_v567 : Ref sig .tc := ⟨.hbm, 898, rfl⟩
abbrev main_v568 : Ref sig .tc := ⟨.hbm, 899, rfl⟩
abbrev main_v569 : Ref sig .tc := ⟨.hbm, 900, rfl⟩
abbrev main_cst_175 : Ref sig .tc := ⟨.hbm, 901, rfl⟩
abbrev main_v570 : Ref sig .tc := ⟨.hbm, 902, rfl⟩
abbrev main_c_176 : Ref sig .tc := ⟨.hbm, 903, rfl⟩
abbrev main_v571 : Ref sig .tc := ⟨.hbm, 904, rfl⟩
abbrev main_v572 : Ref sig .tc := ⟨.hbm, 905, rfl⟩
abbrev main_c_177 : Ref sig .tc := ⟨.hbm, 906, rfl⟩
abbrev main_v573 : Ref sig .tc := ⟨.hbm, 907, rfl⟩
abbrev main_v574 : Ref sig .tc := ⟨.hbm, 908, rfl⟩
abbrev main_v575 : Ref sig .tc := ⟨.hbm, 909, rfl⟩
abbrev main_v576 : Ref sig .tc := ⟨.hbm, 910, rfl⟩
abbrev main_v577 : Ref sig .tc := ⟨.hbm, 911, rfl⟩
abbrev main_c_178 : Ref sig .tc := ⟨.hbm, 912, rfl⟩
abbrev main_v578 : Ref sig .tc := ⟨.hbm, 913, rfl⟩
abbrev main_v579 : Ref sig .tc := ⟨.hbm, 914, rfl⟩
abbrev main_c_179 : Ref sig .tc := ⟨.hbm, 915, rfl⟩
abbrev main_v580 : Ref sig .tc := ⟨.hbm, 916, rfl⟩
abbrev main_v581 : Ref sig .tc := ⟨.hbm, 917, rfl⟩
abbrev main_v582 : Ref sig .tc := ⟨.hbm, 918, rfl⟩
abbrev main_v583 : Ref sig .tc := ⟨.hbm, 919, rfl⟩
abbrev main_v584 : Ref sig .tc := ⟨.hbm, 920, rfl⟩
abbrev main_cst_180 : Ref sig .tc := ⟨.hbm, 921, rfl⟩
abbrev main_v585 : Ref sig .tc := ⟨.hbm, 922, rfl⟩
abbrev main_v586 : Ref sig .tc := ⟨.hbm, 923, rfl⟩
abbrev main_cst_181 : Ref sig .tc := ⟨.hbm, 924, rfl⟩
abbrev main_call20_v0 : Ref sig .tc := ⟨.hbm, 925, rfl⟩
abbrev main_call20_v1 : Ref sig .tc := ⟨.hbm, 926, rfl⟩
abbrev main_v587 : Ref sig .tc := ⟨.hbm, 927, rfl⟩
abbrev main_cst_182 : Ref sig .tc := ⟨.hbm, 928, rfl⟩
abbrev main_v588 : Ref sig .tc := ⟨.hbm, 929, rfl⟩
abbrev main_v589 : Ref sig .tc := ⟨.hbm, 930, rfl⟩
abbrev main_cst_183 : Ref sig .tc := ⟨.hbm, 931, rfl⟩
abbrev main_v590 : Ref sig .tc := ⟨.hbm, 932, rfl⟩
abbrev main_v591 : Ref sig .tc := ⟨.hbm, 933, rfl⟩
abbrev main_cst_184 : Ref sig .tc := ⟨.hbm, 934, rfl⟩
abbrev main_call21_v0 : Ref sig .tc := ⟨.hbm, 935, rfl⟩
abbrev main_call21_v1 : Ref sig .tc := ⟨.hbm, 936, rfl⟩
abbrev main_v592 : Ref sig .tc := ⟨.hbm, 937, rfl⟩
abbrev main_v593 : Ref sig .tc := ⟨.hbm, 938, rfl⟩
abbrev main_v594 : Ref sig .tc := ⟨.hbm, 939, rfl⟩
abbrev main_v595 : Ref sig .tc := ⟨.hbm, 940, rfl⟩
abbrev main_v596 : Ref sig .tc := ⟨.hbm, 941, rfl⟩
abbrev main_v597 : Ref sig .tc := ⟨.hbm, 942, rfl⟩
abbrev main_cst_185 : Ref sig .tc := ⟨.hbm, 943, rfl⟩
abbrev main_v598 : Ref sig .tc := ⟨.hbm, 944, rfl⟩
abbrev main_cst_186 : Ref sig .tc := ⟨.hbm, 945, rfl⟩
abbrev main_v599 : Ref sig .tc := ⟨.hbm, 946, rfl⟩
abbrev main_v600 : Ref sig .tc := ⟨.hbm, 947, rfl⟩
abbrev main_v601 : Ref sig .tc := ⟨.hbm, 948, rfl⟩
abbrev main_cst_187 : Ref sig .tc := ⟨.hbm, 949, rfl⟩
abbrev main_v602 : Ref sig .tc := ⟨.hbm, 950, rfl⟩
abbrev main_cst_188 : Ref sig .tc := ⟨.hbm, 951, rfl⟩
abbrev main_v603 : Ref sig .tc := ⟨.hbm, 952, rfl⟩
abbrev main_v604 : Ref sig .tc := ⟨.hbm, 953, rfl⟩
abbrev main_v605 : Ref sig .tc := ⟨.hbm, 954, rfl⟩
abbrev main_v606 : Ref sig .tc := ⟨.hbm, 955, rfl⟩
abbrev main_v607 : Ref sig .tc := ⟨.hbm, 956, rfl⟩
abbrev main_v608 : Ref sig .tc := ⟨.hbm, 957, rfl⟩
abbrev main_v609 : Ref sig .tc := ⟨.hbm, 958, rfl⟩
abbrev main_v610 : Ref sig .tc := ⟨.hbm, 959, rfl⟩
abbrev main_c_189 : Ref sig .tc := ⟨.hbm, 960, rfl⟩
abbrev main_v611 : Ref sig .tc := ⟨.hbm, 961, rfl⟩
abbrev main_v612 : Ref sig .tc := ⟨.hbm, 962, rfl⟩
abbrev main_c_190 : Ref sig .tc := ⟨.hbm, 963, rfl⟩
abbrev main_v613 : Ref sig .tc := ⟨.hbm, 964, rfl⟩
abbrev main_v614 : Ref sig .tc := ⟨.hbm, 965, rfl⟩
abbrev main_v615 : Ref sig .tc := ⟨.hbm, 966, rfl⟩
abbrev main_v616 : Ref sig .tc := ⟨.hbm, 967, rfl⟩
abbrev main_v617 : Ref sig .tc := ⟨.hbm, 968, rfl⟩
abbrev main_v618 : Ref sig .tc := ⟨.hbm, 969, rfl⟩
abbrev main_v619 : Ref sig .tc := ⟨.hbm, 970, rfl⟩
abbrev main_c_191 : Ref sig .tc := ⟨.hbm, 971, rfl⟩
abbrev main_v620 : Ref sig .tc := ⟨.hbm, 972, rfl⟩
abbrev main_v621 : Ref sig .tc := ⟨.hbm, 973, rfl⟩
abbrev main_c_192 : Ref sig .tc := ⟨.hbm, 974, rfl⟩
abbrev main_v622 : Ref sig .tc := ⟨.hbm, 975, rfl⟩
abbrev main_v623 : Ref sig .tc := ⟨.hbm, 976, rfl⟩
abbrev main_v624 : Ref sig .tc := ⟨.hbm, 977, rfl⟩
abbrev main_v625 : Ref sig .tc := ⟨.hbm, 978, rfl⟩
abbrev main_v626 : Ref sig .tc := ⟨.hbm, 979, rfl⟩
abbrev main_v627 : Ref sig .tc := ⟨.hbm, 980, rfl⟩
abbrev main_v628 : Ref sig .tc := ⟨.hbm, 981, rfl⟩
abbrev main_c_193 : Ref sig .tc := ⟨.hbm, 982, rfl⟩
abbrev main_v629 : Ref sig .tc := ⟨.hbm, 983, rfl⟩
abbrev main_v630 : Ref sig .tc := ⟨.hbm, 984, rfl⟩
abbrev main_c_194 : Ref sig .tc := ⟨.hbm, 985, rfl⟩
abbrev main_v631 : Ref sig .tc := ⟨.hbm, 986, rfl⟩
abbrev main_v632 : Ref sig .tc := ⟨.hbm, 987, rfl⟩
abbrev main_v633 : Ref sig .tc := ⟨.hbm, 988, rfl⟩
abbrev main_v634 : Ref sig .tc := ⟨.hbm, 989, rfl⟩
abbrev main_v635 : Ref sig .tc := ⟨.hbm, 990, rfl⟩
abbrev main_v636 : Ref sig .tc := ⟨.hbm, 991, rfl⟩
abbrev main_v637 : Ref sig .tc := ⟨.hbm, 992, rfl⟩
abbrev main_cst_195 : Ref sig .tc := ⟨.hbm, 993, rfl⟩
abbrev main_v638 : Ref sig .tc := ⟨.hbm, 994, rfl⟩
abbrev main_cst_196 : Ref sig .tc := ⟨.hbm, 995, rfl⟩
abbrev main_v639 : Ref sig .tc := ⟨.hbm, 996, rfl⟩
abbrev main_v640 : Ref sig .tc := ⟨.hbm, 997, rfl⟩
abbrev main_v641 : Ref sig .tc := ⟨.hbm, 998, rfl⟩
abbrev main_v642 : Ref sig .tc := ⟨.hbm, 999, rfl⟩
abbrev main_v643 : Ref sig .tc := ⟨.hbm, 1000, rfl⟩
abbrev main_cst_197 : Ref sig .tc := ⟨.hbm, 1001, rfl⟩
abbrev main_v644 : Ref sig .tc := ⟨.hbm, 1002, rfl⟩
abbrev main_cst_198 : Ref sig .tc := ⟨.hbm, 1003, rfl⟩
abbrev main_v645 : Ref sig .tc := ⟨.hbm, 1004, rfl⟩
abbrev main_v646 : Ref sig .tc := ⟨.hbm, 1005, rfl⟩
abbrev main_v647 : Ref sig .tc := ⟨.hbm, 1006, rfl⟩
abbrev main_v648 : Ref sig .tc := ⟨.hbm, 1007, rfl⟩
abbrev main_v649 : Ref sig .tc := ⟨.hbm, 1008, rfl⟩
abbrev main_cst_199 : Ref sig .tc := ⟨.hbm, 1009, rfl⟩
abbrev main_v650 : Ref sig .tc := ⟨.hbm, 1010, rfl⟩
abbrev main_cst_200 : Ref sig .tc := ⟨.hbm, 1011, rfl⟩
abbrev main_v651 : Ref sig .tc := ⟨.hbm, 1012, rfl⟩
abbrev main_v652 : Ref sig .tc := ⟨.hbm, 1013, rfl⟩
abbrev main_v653 : Ref sig .tc := ⟨.hbm, 1014, rfl⟩
abbrev main_v654 : Ref sig .tc := ⟨.hbm, 1015, rfl⟩
abbrev main_v655 : Ref sig .tc := ⟨.hbm, 1016, rfl⟩
abbrev main_cst_201 : Ref sig .tc := ⟨.hbm, 1017, rfl⟩
abbrev main_v656 : Ref sig .tc := ⟨.hbm, 1018, rfl⟩
abbrev main_v657 : Ref sig .tc := ⟨.hbm, 1019, rfl⟩
abbrev main_v658 : Ref sig .tc := ⟨.hbm, 1020, rfl⟩
abbrev main_v659 : Ref sig .tc := ⟨.hbm, 1021, rfl⟩
abbrev main_v660 : Ref sig .tc := ⟨.hbm, 1022, rfl⟩
abbrev main_v661 : Ref sig .tc := ⟨.hbm, 1023, rfl⟩
abbrev main_v662 : Ref sig .tc := ⟨.hbm, 1024, rfl⟩
abbrev main_v663 : Ref sig .tc := ⟨.hbm, 1025, rfl⟩
abbrev main_cst_202 : Ref sig .tc := ⟨.hbm, 1026, rfl⟩
abbrev main_call22_v0 : Ref sig .tc := ⟨.hbm, 1027, rfl⟩
abbrev main_call22_v1 : Ref sig .tc := ⟨.hbm, 1028, rfl⟩
abbrev main_v664 : Ref sig .tc := ⟨.hbm, 1029, rfl⟩
abbrev main_v665 : Ref sig .tc := ⟨.hbm, 1030, rfl⟩
abbrev main_v666 : Ref sig .tc := ⟨.hbm, 1031, rfl⟩
abbrev main_v667 : Ref sig .tc := ⟨.hbm, 1032, rfl⟩
abbrev main_v668 : Ref sig .tc := ⟨.hbm, 1033, rfl⟩
abbrev main_v669 : Ref sig .tc := ⟨.hbm, 1034, rfl⟩
abbrev main_v670 : Ref sig .tc := ⟨.hbm, 1035, rfl⟩
abbrev main_v671 : Ref sig .tc := ⟨.hbm, 1036, rfl⟩
abbrev main_v672 : Ref sig .tc := ⟨.hbm, 1037, rfl⟩
abbrev main_v673 : Ref sig .tc := ⟨.hbm, 1038, rfl⟩
abbrev main_v674 : Ref sig .tc := ⟨.hbm, 1039, rfl⟩
abbrev main_v675 : Ref sig .tc := ⟨.hbm, 1040, rfl⟩
abbrev main_v676 : Ref sig .tc := ⟨.hbm, 1041, rfl⟩
abbrev main_v677 : Ref sig .tc := ⟨.hbm, 1042, rfl⟩
abbrev main_v678 : Ref sig .tc := ⟨.hbm, 1043, rfl⟩
abbrev main_v679 : Ref sig .tc := ⟨.hbm, 1044, rfl⟩
abbrev main_v680 : Ref sig .tc := ⟨.hbm, 1045, rfl⟩
abbrev main_v681 : Ref sig .tc := ⟨.hbm, 1046, rfl⟩
abbrev main_cst_203 : Ref sig .tc := ⟨.hbm, 1047, rfl⟩
abbrev main_v682 : Ref sig .tc := ⟨.hbm, 1048, rfl⟩
abbrev main_v683 : Ref sig .tc := ⟨.hbm, 1049, rfl⟩
abbrev main_v684 : Ref sig .tc := ⟨.hbm, 1050, rfl⟩
abbrev main_c_204 : Ref sig .tc := ⟨.hbm, 1051, rfl⟩
abbrev main_v685 : Ref sig .tc := ⟨.hbm, 1052, rfl⟩
abbrev main_v686 : Ref sig .tc := ⟨.hbm, 1053, rfl⟩
abbrev main_c_205 : Ref sig .tc := ⟨.hbm, 1054, rfl⟩
abbrev main_v687 : Ref sig .tc := ⟨.hbm, 1055, rfl⟩
abbrev main_v688 : Ref sig .tc := ⟨.hbm, 1056, rfl⟩
abbrev main_v689 : Ref sig .tc := ⟨.hbm, 1057, rfl⟩
abbrev main_v690 : Ref sig .tc := ⟨.hbm, 1058, rfl⟩
abbrev main_v691 : Ref sig .tc := ⟨.hbm, 1059, rfl⟩
abbrev main_v692 : Ref sig .tc := ⟨.hbm, 1060, rfl⟩
abbrev main_c_206 : Ref sig .tc := ⟨.hbm, 1061, rfl⟩
abbrev main_v693 : Ref sig .tc := ⟨.hbm, 1062, rfl⟩
abbrev main_v694 : Ref sig .tc := ⟨.hbm, 1063, rfl⟩
abbrev main_c_207 : Ref sig .tc := ⟨.hbm, 1064, rfl⟩
abbrev main_v695 : Ref sig .tc := ⟨.hbm, 1065, rfl⟩
abbrev main_v696 : Ref sig .tc := ⟨.hbm, 1066, rfl⟩
abbrev main_v697 : Ref sig .tc := ⟨.hbm, 1067, rfl⟩
abbrev main_v698 : Ref sig .tc := ⟨.hbm, 1068, rfl⟩
abbrev main_v699 : Ref sig .tc := ⟨.hbm, 1069, rfl⟩
abbrev main_v700 : Ref sig .tc := ⟨.hbm, 1070, rfl⟩
abbrev main_cst_208 : Ref sig .tc := ⟨.hbm, 1071, rfl⟩
abbrev main_v701 : Ref sig .tc := ⟨.hbm, 1072, rfl⟩
abbrev main_v702 : Ref sig .tc := ⟨.hbm, 1073, rfl⟩
abbrev main_c_209 : Ref sig .tc := ⟨.hbm, 1074, rfl⟩
abbrev main_v703 : Ref sig .tc := ⟨.hbm, 1075, rfl⟩
abbrev main_v704 : Ref sig .tc := ⟨.hbm, 1076, rfl⟩
abbrev main_c_210 : Ref sig .tc := ⟨.hbm, 1077, rfl⟩
abbrev main_v705 : Ref sig .tc := ⟨.hbm, 1078, rfl⟩
abbrev main_v706 : Ref sig .tc := ⟨.hbm, 1079, rfl⟩
abbrev main_v707 : Ref sig .tc := ⟨.hbm, 1080, rfl⟩
abbrev main_v708 : Ref sig .tc := ⟨.hbm, 1081, rfl⟩
abbrev main_v709 : Ref sig .tc := ⟨.hbm, 1082, rfl⟩
abbrev main_v710 : Ref sig .tc := ⟨.hbm, 1083, rfl⟩
abbrev main_v711 : Ref sig .tc := ⟨.hbm, 1084, rfl⟩
abbrev main_c_211 : Ref sig .tc := ⟨.hbm, 1085, rfl⟩
abbrev main_v712 : Ref sig .tc := ⟨.hbm, 1086, rfl⟩
abbrev main_v713 : Ref sig .tc := ⟨.hbm, 1087, rfl⟩
abbrev main_c_212 : Ref sig .tc := ⟨.hbm, 1088, rfl⟩
abbrev main_v714 : Ref sig .tc := ⟨.hbm, 1089, rfl⟩
abbrev main_v715 : Ref sig .tc := ⟨.hbm, 1090, rfl⟩
abbrev main_v716 : Ref sig .tc := ⟨.hbm, 1091, rfl⟩
abbrev main_v717 : Ref sig .tc := ⟨.hbm, 1092, rfl⟩
abbrev main_v718 : Ref sig .tc := ⟨.hbm, 1093, rfl⟩
abbrev main_v719 : Ref sig .tc := ⟨.hbm, 1094, rfl⟩
abbrev main_c_213 : Ref sig .tc := ⟨.hbm, 1095, rfl⟩
abbrev main_v720 : Ref sig .tc := ⟨.hbm, 1096, rfl⟩
abbrev main_v721 : Ref sig .tc := ⟨.hbm, 1097, rfl⟩
abbrev main_c_214 : Ref sig .tc := ⟨.hbm, 1098, rfl⟩
abbrev main_v722 : Ref sig .tc := ⟨.hbm, 1099, rfl⟩
abbrev main_v723 : Ref sig .tc := ⟨.hbm, 1100, rfl⟩
abbrev main_v724 : Ref sig .tc := ⟨.hbm, 1101, rfl⟩
abbrev main_v725 : Ref sig .tc := ⟨.hbm, 1102, rfl⟩
abbrev main_v726 : Ref sig .tc := ⟨.hbm, 1103, rfl⟩
abbrev main_v727 : Ref sig .tc := ⟨.hbm, 1104, rfl⟩
abbrev main_v728 : Ref sig .tc := ⟨.hbm, 1105, rfl⟩
abbrev main_c_215 : Ref sig .tc := ⟨.hbm, 1106, rfl⟩
abbrev main_v729 : Ref sig .tc := ⟨.hbm, 1107, rfl⟩
abbrev main_v730 : Ref sig .tc := ⟨.hbm, 1108, rfl⟩
abbrev main_c_216 : Ref sig .tc := ⟨.hbm, 1109, rfl⟩
abbrev main_v731 : Ref sig .tc := ⟨.hbm, 1110, rfl⟩
abbrev main_v732 : Ref sig .tc := ⟨.hbm, 1111, rfl⟩
abbrev main_v733 : Ref sig .tc := ⟨.hbm, 1112, rfl⟩
abbrev main_v734 : Ref sig .tc := ⟨.hbm, 1113, rfl⟩
abbrev main_v735 : Ref sig .tc := ⟨.hbm, 1114, rfl⟩
abbrev main_cst_217 : Ref sig .tc := ⟨.hbm, 1115, rfl⟩
abbrev main_v736 : Ref sig .tc := ⟨.hbm, 1116, rfl⟩
abbrev main_c_218 : Ref sig .tc := ⟨.hbm, 1117, rfl⟩
abbrev main_v737 : Ref sig .tc := ⟨.hbm, 1118, rfl⟩
abbrev main_v738 : Ref sig .tc := ⟨.hbm, 1119, rfl⟩
abbrev main_c_219 : Ref sig .tc := ⟨.hbm, 1120, rfl⟩
abbrev main_v739 : Ref sig .tc := ⟨.hbm, 1121, rfl⟩
abbrev main_v740 : Ref sig .tc := ⟨.hbm, 1122, rfl⟩
abbrev main_v741 : Ref sig .tc := ⟨.hbm, 1123, rfl⟩
abbrev main_v742 : Ref sig .tc := ⟨.hbm, 1124, rfl⟩
abbrev main_v743 : Ref sig .tc := ⟨.hbm, 1125, rfl⟩
abbrev main_c_220 : Ref sig .tc := ⟨.hbm, 1126, rfl⟩
abbrev main_v744 : Ref sig .tc := ⟨.hbm, 1127, rfl⟩
abbrev main_v745 : Ref sig .tc := ⟨.hbm, 1128, rfl⟩
abbrev main_c_221 : Ref sig .tc := ⟨.hbm, 1129, rfl⟩
abbrev main_v746 : Ref sig .tc := ⟨.hbm, 1130, rfl⟩
abbrev main_v747 : Ref sig .tc := ⟨.hbm, 1131, rfl⟩
abbrev main_v748 : Ref sig .tc := ⟨.hbm, 1132, rfl⟩
abbrev main_v749 : Ref sig .tc := ⟨.hbm, 1133, rfl⟩
abbrev main_v750 : Ref sig .tc := ⟨.hbm, 1134, rfl⟩
abbrev main_cst_222 : Ref sig .tc := ⟨.hbm, 1135, rfl⟩
abbrev main_v751 : Ref sig .tc := ⟨.hbm, 1136, rfl⟩
abbrev main_v752 : Ref sig .tc := ⟨.hbm, 1137, rfl⟩
abbrev main_cst_223 : Ref sig .tc := ⟨.hbm, 1138, rfl⟩
abbrev main_call23_v0 : Ref sig .tc := ⟨.hbm, 1139, rfl⟩
abbrev main_call23_v1 : Ref sig .tc := ⟨.hbm, 1140, rfl⟩
abbrev main_v753 : Ref sig .tc := ⟨.hbm, 1141, rfl⟩
abbrev main_cst_224 : Ref sig .tc := ⟨.hbm, 1142, rfl⟩
abbrev main_v754 : Ref sig .tc := ⟨.hbm, 1143, rfl⟩
abbrev main_v755 : Ref sig .tc := ⟨.hbm, 1144, rfl⟩
abbrev main_cst_225 : Ref sig .tc := ⟨.hbm, 1145, rfl⟩
abbrev main_v756 : Ref sig .tc := ⟨.hbm, 1146, rfl⟩
abbrev main_v757 : Ref sig .tc := ⟨.hbm, 1147, rfl⟩
abbrev main_cst_226 : Ref sig .tc := ⟨.hbm, 1148, rfl⟩
abbrev main_call24_v0 : Ref sig .tc := ⟨.hbm, 1149, rfl⟩
abbrev main_call24_v1 : Ref sig .tc := ⟨.hbm, 1150, rfl⟩
abbrev main_v758 : Ref sig .tc := ⟨.hbm, 1151, rfl⟩
abbrev main_v759 : Ref sig .tc := ⟨.hbm, 1152, rfl⟩
abbrev main_v760 : Ref sig .tc := ⟨.hbm, 1153, rfl⟩
abbrev main_v761 : Ref sig .tc := ⟨.hbm, 1154, rfl⟩
abbrev main_v762 : Ref sig .tc := ⟨.hbm, 1155, rfl⟩
abbrev main_v763 : Ref sig .tc := ⟨.hbm, 1156, rfl⟩
abbrev main_cst_227 : Ref sig .tc := ⟨.hbm, 1157, rfl⟩
abbrev main_v764 : Ref sig .tc := ⟨.hbm, 1158, rfl⟩
abbrev main_cst_228 : Ref sig .tc := ⟨.hbm, 1159, rfl⟩
abbrev main_v765 : Ref sig .tc := ⟨.hbm, 1160, rfl⟩
abbrev main_v766 : Ref sig .tc := ⟨.hbm, 1161, rfl⟩
abbrev main_v767 : Ref sig .tc := ⟨.hbm, 1162, rfl⟩
abbrev main_cst_229 : Ref sig .tc := ⟨.hbm, 1163, rfl⟩
abbrev main_v768 : Ref sig .tc := ⟨.hbm, 1164, rfl⟩
abbrev main_cst_230 : Ref sig .tc := ⟨.hbm, 1165, rfl⟩
abbrev main_v769 : Ref sig .tc := ⟨.hbm, 1166, rfl⟩
abbrev main_v770 : Ref sig .tc := ⟨.hbm, 1167, rfl⟩
abbrev main_v771 : Ref sig .tc := ⟨.hbm, 1168, rfl⟩
abbrev main_v772 : Ref sig .tc := ⟨.hbm, 1169, rfl⟩
abbrev main_v773 : Ref sig .tc := ⟨.hbm, 1170, rfl⟩
abbrev main_v774 : Ref sig .tc := ⟨.hbm, 1171, rfl⟩
abbrev main_v775 : Ref sig .tc := ⟨.hbm, 1172, rfl⟩
abbrev main_v776 : Ref sig .tc := ⟨.hbm, 1173, rfl⟩
abbrev main_c_231 : Ref sig .tc := ⟨.hbm, 1174, rfl⟩
abbrev main_v777 : Ref sig .tc := ⟨.hbm, 1175, rfl⟩
abbrev main_v778 : Ref sig .tc := ⟨.hbm, 1176, rfl⟩
abbrev main_c_232 : Ref sig .tc := ⟨.hbm, 1177, rfl⟩
abbrev main_v779 : Ref sig .tc := ⟨.hbm, 1178, rfl⟩
abbrev main_v780 : Ref sig .tc := ⟨.hbm, 1179, rfl⟩
abbrev main_v781 : Ref sig .tc := ⟨.hbm, 1180, rfl⟩
abbrev main_v782 : Ref sig .tc := ⟨.hbm, 1181, rfl⟩
abbrev main_v783 : Ref sig .tc := ⟨.hbm, 1182, rfl⟩
abbrev main_v784 : Ref sig .tc := ⟨.hbm, 1183, rfl⟩
abbrev main_v785 : Ref sig .tc := ⟨.hbm, 1184, rfl⟩
abbrev main_c_233 : Ref sig .tc := ⟨.hbm, 1185, rfl⟩
abbrev main_v786 : Ref sig .tc := ⟨.hbm, 1186, rfl⟩
abbrev main_v787 : Ref sig .tc := ⟨.hbm, 1187, rfl⟩
abbrev main_c_234 : Ref sig .tc := ⟨.hbm, 1188, rfl⟩
abbrev main_v788 : Ref sig .tc := ⟨.hbm, 1189, rfl⟩
abbrev main_v789 : Ref sig .tc := ⟨.hbm, 1190, rfl⟩
abbrev main_v790 : Ref sig .tc := ⟨.hbm, 1191, rfl⟩
abbrev main_v791 : Ref sig .tc := ⟨.hbm, 1192, rfl⟩
abbrev main_v792 : Ref sig .tc := ⟨.hbm, 1193, rfl⟩
abbrev main_v793 : Ref sig .tc := ⟨.hbm, 1194, rfl⟩
abbrev main_v794 : Ref sig .tc := ⟨.hbm, 1195, rfl⟩
abbrev main_c_235 : Ref sig .tc := ⟨.hbm, 1196, rfl⟩
abbrev main_v795 : Ref sig .tc := ⟨.hbm, 1197, rfl⟩
abbrev main_v796 : Ref sig .tc := ⟨.hbm, 1198, rfl⟩
abbrev main_c_236 : Ref sig .tc := ⟨.hbm, 1199, rfl⟩
abbrev main_v797 : Ref sig .tc := ⟨.hbm, 1200, rfl⟩
abbrev main_v798 : Ref sig .tc := ⟨.hbm, 1201, rfl⟩
abbrev main_v799 : Ref sig .tc := ⟨.hbm, 1202, rfl⟩
abbrev main_v800 : Ref sig .tc := ⟨.hbm, 1203, rfl⟩
abbrev main_v801 : Ref sig .tc := ⟨.hbm, 1204, rfl⟩
abbrev main_v802 : Ref sig .tc := ⟨.hbm, 1205, rfl⟩
abbrev main_v803 : Ref sig .tc := ⟨.hbm, 1206, rfl⟩
abbrev main_cst_237 : Ref sig .tc := ⟨.hbm, 1207, rfl⟩
abbrev main_v804 : Ref sig .tc := ⟨.hbm, 1208, rfl⟩
abbrev main_cst_238 : Ref sig .tc := ⟨.hbm, 1209, rfl⟩
abbrev main_v805 : Ref sig .tc := ⟨.hbm, 1210, rfl⟩
abbrev main_v806 : Ref sig .tc := ⟨.hbm, 1211, rfl⟩
abbrev main_v807 : Ref sig .tc := ⟨.hbm, 1212, rfl⟩
abbrev main_v808 : Ref sig .tc := ⟨.hbm, 1213, rfl⟩
abbrev main_v809 : Ref sig .tc := ⟨.hbm, 1214, rfl⟩
abbrev main_cst_239 : Ref sig .tc := ⟨.hbm, 1215, rfl⟩
abbrev main_v810 : Ref sig .tc := ⟨.hbm, 1216, rfl⟩
abbrev main_cst_240 : Ref sig .tc := ⟨.hbm, 1217, rfl⟩
abbrev main_v811 : Ref sig .tc := ⟨.hbm, 1218, rfl⟩
abbrev main_v812 : Ref sig .tc := ⟨.hbm, 1219, rfl⟩
abbrev main_v813 : Ref sig .tc := ⟨.hbm, 1220, rfl⟩
abbrev main_v814 : Ref sig .tc := ⟨.hbm, 1221, rfl⟩
abbrev main_v815 : Ref sig .tc := ⟨.hbm, 1222, rfl⟩
abbrev main_cst_241 : Ref sig .tc := ⟨.hbm, 1223, rfl⟩
abbrev main_v816 : Ref sig .tc := ⟨.hbm, 1224, rfl⟩
abbrev main_cst_242 : Ref sig .tc := ⟨.hbm, 1225, rfl⟩
abbrev main_v817 : Ref sig .tc := ⟨.hbm, 1226, rfl⟩
abbrev main_v818 : Ref sig .tc := ⟨.hbm, 1227, rfl⟩
abbrev main_v819 : Ref sig .tc := ⟨.hbm, 1228, rfl⟩
abbrev main_v820 : Ref sig .tc := ⟨.hbm, 1229, rfl⟩
abbrev main_v821 : Ref sig .tc := ⟨.hbm, 1230, rfl⟩
abbrev main_cst_243 : Ref sig .tc := ⟨.hbm, 1231, rfl⟩
abbrev main_v822 : Ref sig .tc := ⟨.hbm, 1232, rfl⟩
abbrev main_v823 : Ref sig .tc := ⟨.hbm, 1233, rfl⟩
abbrev main_v824 : Ref sig .tc := ⟨.hbm, 1234, rfl⟩
abbrev main_v825 : Ref sig .tc := ⟨.hbm, 1235, rfl⟩
abbrev main_v826 : Ref sig .tc := ⟨.hbm, 1236, rfl⟩
abbrev main_v827 : Ref sig .tc := ⟨.hbm, 1237, rfl⟩
abbrev main_v828 : Ref sig .tc := ⟨.hbm, 1238, rfl⟩
abbrev main_v829 : Ref sig .tc := ⟨.hbm, 1239, rfl⟩
abbrev main_cst_244 : Ref sig .tc := ⟨.hbm, 1240, rfl⟩
abbrev main_call25_v0 : Ref sig .tc := ⟨.hbm, 1241, rfl⟩
abbrev main_call25_v1 : Ref sig .tc := ⟨.hbm, 1242, rfl⟩
abbrev main_v830 : Ref sig .tc := ⟨.hbm, 1243, rfl⟩
abbrev main_v831 : Ref sig .tc := ⟨.hbm, 1244, rfl⟩
abbrev main_v832 : Ref sig .tc := ⟨.hbm, 1245, rfl⟩
abbrev main_v833 : Ref sig .tc := ⟨.hbm, 1246, rfl⟩
abbrev main_v834 : Ref sig .tc := ⟨.hbm, 1247, rfl⟩
abbrev main_v835 : Ref sig .tc := ⟨.hbm, 1248, rfl⟩
abbrev main_v836 : Ref sig .tc := ⟨.hbm, 1249, rfl⟩
abbrev main_v837 : Ref sig .tc := ⟨.hbm, 1250, rfl⟩
abbrev main_v838 : Ref sig .tc := ⟨.hbm, 1251, rfl⟩
abbrev main_v839 : Ref sig .tc := ⟨.hbm, 1252, rfl⟩
abbrev main_v840 : Ref sig .tc := ⟨.hbm, 1253, rfl⟩
abbrev main_v841 : Ref sig .tc := ⟨.hbm, 1254, rfl⟩
abbrev main_v842 : Ref sig .tc := ⟨.hbm, 1255, rfl⟩
abbrev main_v843 : Ref sig .tc := ⟨.hbm, 1256, rfl⟩
abbrev main_v844 : Ref sig .tc := ⟨.hbm, 1257, rfl⟩
abbrev main_v845 : Ref sig .tc := ⟨.hbm, 1258, rfl⟩
abbrev main_v846 : Ref sig .tc := ⟨.hbm, 1259, rfl⟩
abbrev main_v847 : Ref sig .tc := ⟨.hbm, 1260, rfl⟩
abbrev main_cst_245 : Ref sig .tc := ⟨.hbm, 1261, rfl⟩
abbrev main_v848 : Ref sig .tc := ⟨.hbm, 1262, rfl⟩
abbrev main_v849 : Ref sig .tc := ⟨.hbm, 1263, rfl⟩
abbrev main_v850 : Ref sig .tc := ⟨.hbm, 1264, rfl⟩
abbrev main_c_246 : Ref sig .tc := ⟨.hbm, 1265, rfl⟩
abbrev main_v851 : Ref sig .tc := ⟨.hbm, 1266, rfl⟩
abbrev main_v852 : Ref sig .tc := ⟨.hbm, 1267, rfl⟩
abbrev main_c_247 : Ref sig .tc := ⟨.hbm, 1268, rfl⟩
abbrev main_v853 : Ref sig .tc := ⟨.hbm, 1269, rfl⟩
abbrev main_v854 : Ref sig .tc := ⟨.hbm, 1270, rfl⟩
abbrev main_v855 : Ref sig .tc := ⟨.hbm, 1271, rfl⟩
abbrev main_v856 : Ref sig .tc := ⟨.hbm, 1272, rfl⟩
abbrev main_v857 : Ref sig .tc := ⟨.hbm, 1273, rfl⟩
abbrev main_v858 : Ref sig .tc := ⟨.hbm, 1274, rfl⟩
abbrev main_c_248 : Ref sig .tc := ⟨.hbm, 1275, rfl⟩
abbrev main_v859 : Ref sig .tc := ⟨.hbm, 1276, rfl⟩
abbrev main_v860 : Ref sig .tc := ⟨.hbm, 1277, rfl⟩
abbrev main_c_249 : Ref sig .tc := ⟨.hbm, 1278, rfl⟩
abbrev main_v861 : Ref sig .tc := ⟨.hbm, 1279, rfl⟩
abbrev main_v862 : Ref sig .tc := ⟨.hbm, 1280, rfl⟩
abbrev main_v863 : Ref sig .tc := ⟨.hbm, 1281, rfl⟩
abbrev main_v864 : Ref sig .tc := ⟨.hbm, 1282, rfl⟩
abbrev main_v865 : Ref sig .tc := ⟨.hbm, 1283, rfl⟩
abbrev main_v866 : Ref sig .tc := ⟨.hbm, 1284, rfl⟩
abbrev main_cst_250 : Ref sig .tc := ⟨.hbm, 1285, rfl⟩
abbrev main_v867 : Ref sig .tc := ⟨.hbm, 1286, rfl⟩
abbrev main_v868 : Ref sig .tc := ⟨.hbm, 1287, rfl⟩
abbrev main_c_251 : Ref sig .tc := ⟨.hbm, 1288, rfl⟩
abbrev main_v869 : Ref sig .tc := ⟨.hbm, 1289, rfl⟩
abbrev main_v870 : Ref sig .tc := ⟨.hbm, 1290, rfl⟩
abbrev main_c_252 : Ref sig .tc := ⟨.hbm, 1291, rfl⟩
abbrev main_v871 : Ref sig .tc := ⟨.hbm, 1292, rfl⟩
abbrev main_v872 : Ref sig .tc := ⟨.hbm, 1293, rfl⟩
abbrev main_v873 : Ref sig .tc := ⟨.hbm, 1294, rfl⟩
abbrev main_v874 : Ref sig .tc := ⟨.hbm, 1295, rfl⟩
abbrev main_v875 : Ref sig .tc := ⟨.hbm, 1296, rfl⟩
abbrev main_v876 : Ref sig .tc := ⟨.hbm, 1297, rfl⟩
abbrev main_v877 : Ref sig .tc := ⟨.hbm, 1298, rfl⟩
abbrev main_c_253 : Ref sig .tc := ⟨.hbm, 1299, rfl⟩
abbrev main_v878 : Ref sig .tc := ⟨.hbm, 1300, rfl⟩
abbrev main_v879 : Ref sig .tc := ⟨.hbm, 1301, rfl⟩
abbrev main_c_254 : Ref sig .tc := ⟨.hbm, 1302, rfl⟩
abbrev main_v880 : Ref sig .tc := ⟨.hbm, 1303, rfl⟩
abbrev main_v881 : Ref sig .tc := ⟨.hbm, 1304, rfl⟩
abbrev main_v882 : Ref sig .tc := ⟨.hbm, 1305, rfl⟩
abbrev main_v883 : Ref sig .tc := ⟨.hbm, 1306, rfl⟩
abbrev main_v884 : Ref sig .tc := ⟨.hbm, 1307, rfl⟩
abbrev main_v885 : Ref sig .tc := ⟨.hbm, 1308, rfl⟩
abbrev main_c_255 : Ref sig .tc := ⟨.hbm, 1309, rfl⟩
abbrev main_v886 : Ref sig .tc := ⟨.hbm, 1310, rfl⟩
abbrev main_v887 : Ref sig .tc := ⟨.hbm, 1311, rfl⟩
abbrev main_c_256 : Ref sig .tc := ⟨.hbm, 1312, rfl⟩
abbrev main_v888 : Ref sig .tc := ⟨.hbm, 1313, rfl⟩
abbrev main_v889 : Ref sig .tc := ⟨.hbm, 1314, rfl⟩
abbrev main_v890 : Ref sig .tc := ⟨.hbm, 1315, rfl⟩
abbrev main_v891 : Ref sig .tc := ⟨.hbm, 1316, rfl⟩
abbrev main_v892 : Ref sig .tc := ⟨.hbm, 1317, rfl⟩
abbrev main_v893 : Ref sig .tc := ⟨.hbm, 1318, rfl⟩
abbrev main_v894 : Ref sig .tc := ⟨.hbm, 1319, rfl⟩
abbrev main_c_257 : Ref sig .tc := ⟨.hbm, 1320, rfl⟩
abbrev main_v895 : Ref sig .tc := ⟨.hbm, 1321, rfl⟩
abbrev main_v896 : Ref sig .tc := ⟨.hbm, 1322, rfl⟩
abbrev main_c_258 : Ref sig .tc := ⟨.hbm, 1323, rfl⟩
abbrev main_v897 : Ref sig .tc := ⟨.hbm, 1324, rfl⟩
abbrev main_v898 : Ref sig .tc := ⟨.hbm, 1325, rfl⟩
abbrev main_v899 : Ref sig .tc := ⟨.hbm, 1326, rfl⟩
abbrev main_v900 : Ref sig .tc := ⟨.hbm, 1327, rfl⟩
abbrev main_v901 : Ref sig .tc := ⟨.hbm, 1328, rfl⟩
abbrev main_cst_259 : Ref sig .tc := ⟨.hbm, 1329, rfl⟩
abbrev main_v902 : Ref sig .tc := ⟨.hbm, 1330, rfl⟩
abbrev main_c_260 : Ref sig .tc := ⟨.hbm, 1331, rfl⟩
abbrev main_v903 : Ref sig .tc := ⟨.hbm, 1332, rfl⟩
abbrev main_v904 : Ref sig .tc := ⟨.hbm, 1333, rfl⟩
abbrev main_c_261 : Ref sig .tc := ⟨.hbm, 1334, rfl⟩
abbrev main_v905 : Ref sig .tc := ⟨.hbm, 1335, rfl⟩
abbrev main_v906 : Ref sig .tc := ⟨.hbm, 1336, rfl⟩
abbrev main_v907 : Ref sig .tc := ⟨.hbm, 1337, rfl⟩
abbrev main_v908 : Ref sig .tc := ⟨.hbm, 1338, rfl⟩
abbrev main_v909 : Ref sig .tc := ⟨.hbm, 1339, rfl⟩
abbrev main_c_262 : Ref sig .tc := ⟨.hbm, 1340, rfl⟩
abbrev main_v910 : Ref sig .tc := ⟨.hbm, 1341, rfl⟩
abbrev main_v911 : Ref sig .tc := ⟨.hbm, 1342, rfl⟩
abbrev main_c_263 : Ref sig .tc := ⟨.hbm, 1343, rfl⟩
abbrev main_v912 : Ref sig .tc := ⟨.hbm, 1344, rfl⟩
abbrev main_v913 : Ref sig .tc := ⟨.hbm, 1345, rfl⟩
abbrev main_v914 : Ref sig .tc := ⟨.hbm, 1346, rfl⟩
abbrev main_v915 : Ref sig .tc := ⟨.hbm, 1347, rfl⟩
abbrev main_v916 : Ref sig .tc := ⟨.hbm, 1348, rfl⟩
abbrev main_cst_264 : Ref sig .tc := ⟨.hbm, 1349, rfl⟩
abbrev main_v917 : Ref sig .tc := ⟨.hbm, 1350, rfl⟩
abbrev main_v918 : Ref sig .tc := ⟨.hbm, 1351, rfl⟩
abbrev main_cst_265 : Ref sig .tc := ⟨.hbm, 1352, rfl⟩
abbrev main_call26_v0 : Ref sig .tc := ⟨.hbm, 1353, rfl⟩
abbrev main_call26_v1 : Ref sig .tc := ⟨.hbm, 1354, rfl⟩
abbrev main_v919 : Ref sig .tc := ⟨.hbm, 1355, rfl⟩
abbrev main_cst_266 : Ref sig .tc := ⟨.hbm, 1356, rfl⟩
abbrev main_v920 : Ref sig .tc := ⟨.hbm, 1357, rfl⟩
abbrev main_v921 : Ref sig .tc := ⟨.hbm, 1358, rfl⟩
abbrev main_cst_267 : Ref sig .tc := ⟨.hbm, 1359, rfl⟩
abbrev main_v922 : Ref sig .tc := ⟨.hbm, 1360, rfl⟩
abbrev main_v923 : Ref sig .tc := ⟨.hbm, 1361, rfl⟩
abbrev main_cst_268 : Ref sig .tc := ⟨.hbm, 1362, rfl⟩
abbrev main_call27_v0 : Ref sig .tc := ⟨.hbm, 1363, rfl⟩
abbrev main_call27_v1 : Ref sig .tc := ⟨.hbm, 1364, rfl⟩
abbrev main_v924 : Ref sig .tc := ⟨.hbm, 1365, rfl⟩
abbrev main_v925 : Ref sig .tc := ⟨.hbm, 1366, rfl⟩
abbrev main_v926 : Ref sig .tc := ⟨.hbm, 1367, rfl⟩
abbrev main_v927 : Ref sig .tc := ⟨.hbm, 1368, rfl⟩
abbrev main_v928 : Ref sig .tc := ⟨.hbm, 1369, rfl⟩
abbrev main_v929 : Ref sig .tc := ⟨.hbm, 1370, rfl⟩
abbrev main_cst_269 : Ref sig .tc := ⟨.hbm, 1371, rfl⟩
abbrev main_v930 : Ref sig .tc := ⟨.hbm, 1372, rfl⟩
abbrev main_cst_270 : Ref sig .tc := ⟨.hbm, 1373, rfl⟩
abbrev main_v931 : Ref sig .tc := ⟨.hbm, 1374, rfl⟩
abbrev main_v932 : Ref sig .tc := ⟨.hbm, 1375, rfl⟩
abbrev main_v933 : Ref sig .tc := ⟨.hbm, 1376, rfl⟩
abbrev main_cst_271 : Ref sig .tc := ⟨.hbm, 1377, rfl⟩
abbrev main_v934 : Ref sig .tc := ⟨.hbm, 1378, rfl⟩
abbrev main_cst_272 : Ref sig .tc := ⟨.hbm, 1379, rfl⟩
abbrev main_v935 : Ref sig .tc := ⟨.hbm, 1380, rfl⟩
abbrev main_v936 : Ref sig .tc := ⟨.hbm, 1381, rfl⟩
abbrev main_cst_273 : Ref sig .tc := ⟨.hbm, 1382, rfl⟩
abbrev main_v937 : Ref sig .tc := ⟨.hbm, 1383, rfl⟩
abbrev main_v938 : Ref sig .tc := ⟨.hbm, 1384, rfl⟩
abbrev main_v939 : Ref sig .tc := ⟨.hbm, 1385, rfl⟩
abbrev main_v940 : Ref sig .tc := ⟨.hbm, 1386, rfl⟩
abbrev main_v941 : Ref sig .tc := ⟨.hbm, 1387, rfl⟩
abbrev main_c_274 : Ref sig .tc := ⟨.hbm, 1388, rfl⟩
abbrev main_v942 : Ref sig .tc := ⟨.hbm, 1389, rfl⟩
abbrev main_v943 : Ref sig .tc := ⟨.hbm, 1390, rfl⟩
abbrev main_c_275 : Ref sig .tc := ⟨.hbm, 1391, rfl⟩
abbrev main_v944 : Ref sig .tc := ⟨.hbm, 1392, rfl⟩
abbrev main_v945 : Ref sig .tc := ⟨.hbm, 1393, rfl⟩
abbrev main_v946 : Ref sig .tc := ⟨.hbm, 1394, rfl⟩
abbrev main_v947 : Ref sig .tc := ⟨.hbm, 1395, rfl⟩
abbrev main_v948 : Ref sig .tc := ⟨.hbm, 1396, rfl⟩
abbrev main_c_276 : Ref sig .tc := ⟨.hbm, 1397, rfl⟩
abbrev main_v949 : Ref sig .tc := ⟨.hbm, 1398, rfl⟩
abbrev main_v950 : Ref sig .tc := ⟨.hbm, 1399, rfl⟩
abbrev main_c_277 : Ref sig .tc := ⟨.hbm, 1400, rfl⟩
abbrev main_v951 : Ref sig .tc := ⟨.hbm, 1401, rfl⟩
abbrev main_v952 : Ref sig .tc := ⟨.hbm, 1402, rfl⟩
abbrev main_v953 : Ref sig .tc := ⟨.hbm, 1403, rfl⟩
abbrev main_v954 : Ref sig .tc := ⟨.hbm, 1404, rfl⟩
abbrev main_v955 : Ref sig .tc := ⟨.hbm, 1405, rfl⟩
abbrev main_c_278 : Ref sig .tc := ⟨.hbm, 1406, rfl⟩
abbrev main_v956 : Ref sig .tc := ⟨.hbm, 1407, rfl⟩
abbrev main_v957 : Ref sig .tc := ⟨.hbm, 1408, rfl⟩
abbrev main_c_279 : Ref sig .tc := ⟨.hbm, 1409, rfl⟩
abbrev main_v958 : Ref sig .tc := ⟨.hbm, 1410, rfl⟩
abbrev main_v959 : Ref sig .tc := ⟨.hbm, 1411, rfl⟩
abbrev main_v960 : Ref sig .tc := ⟨.hbm, 1412, rfl⟩
abbrev main_v961 : Ref sig .tc := ⟨.hbm, 1413, rfl⟩
abbrev main_v962 : Ref sig .tc := ⟨.hbm, 1414, rfl⟩
abbrev main_v963 : Ref sig .tc := ⟨.hbm, 1415, rfl⟩
abbrev main_v964 : Ref sig .tc := ⟨.hbm, 1416, rfl⟩
abbrev main_v965 : Ref sig .tc := ⟨.hbm, 1417, rfl⟩
abbrev main_v966 : Ref sig .tc := ⟨.hbm, 1418, rfl⟩
abbrev main_v967 : Ref sig .tc := ⟨.hbm, 1419, rfl⟩
abbrev main_v968 : Ref sig .tc := ⟨.hbm, 1420, rfl⟩
abbrev main_v969 : Ref sig .tc := ⟨.hbm, 1421, rfl⟩
abbrev main_v970 : Ref sig .tc := ⟨.hbm, 1422, rfl⟩
abbrev main_v971 : Ref sig .tc := ⟨.hbm, 1423, rfl⟩
abbrev main_v972 : Ref sig .tc := ⟨.hbm, 1424, rfl⟩
abbrev main_v973 : Ref sig .tc := ⟨.hbm, 1425, rfl⟩
abbrev main_c_280 : Ref sig .tc := ⟨.hbm, 1426, rfl⟩
abbrev main_v974 : Ref sig .tc := ⟨.hbm, 1427, rfl⟩
abbrev main_v975 : Ref sig .tc := ⟨.hbm, 1428, rfl⟩
abbrev main_v976 : Ref sig .tc := ⟨.hbm, 1429, rfl⟩
abbrev main_v977 : Ref sig .tc := ⟨.hbm, 1430, rfl⟩
abbrev main_v978 : Ref sig .tc := ⟨.hbm, 1431, rfl⟩
abbrev main_call29_v0 : Ref sig .tc := ⟨.hbm, 1432, rfl⟩
abbrev main_call29_v1_0 : Ref sig .tc := ⟨.hbm, 1433, rfl⟩
abbrev main_v979 : Ref sig .tc := ⟨.hbm, 1434, rfl⟩
abbrev main_c_281 : Ref sig .tc := ⟨.hbm, 1435, rfl⟩
abbrev main_v980 : Ref sig .tc := ⟨.hbm, 1436, rfl⟩
abbrev main_v981 : Ref sig .tc := ⟨.hbm, 1437, rfl⟩
abbrev main_c_282 : Ref sig .tc := ⟨.hbm, 1438, rfl⟩
abbrev main_v982 : Ref sig .tc := ⟨.hbm, 1439, rfl⟩
abbrev main_v983 : Ref sig .tc := ⟨.hbm, 1440, rfl⟩
abbrev main_v984 : Ref sig .tc := ⟨.hbm, 1441, rfl⟩
abbrev main_v985 : Ref sig .tc := ⟨.hbm, 1442, rfl⟩
abbrev main_v986 : Ref sig .tc := ⟨.hbm, 1443, rfl⟩
abbrev main_c_283 : Ref sig .tc := ⟨.hbm, 1444, rfl⟩
abbrev main_v987 : Ref sig .tc := ⟨.hbm, 1445, rfl⟩
abbrev main_v988 : Ref sig .tc := ⟨.hbm, 1446, rfl⟩
abbrev main_c_284 : Ref sig .tc := ⟨.hbm, 1447, rfl⟩
abbrev main_v989 : Ref sig .tc := ⟨.hbm, 1448, rfl⟩
abbrev main_v990 : Ref sig .tc := ⟨.hbm, 1449, rfl⟩
abbrev main_v991 : Ref sig .tc := ⟨.hbm, 1450, rfl⟩
abbrev main_v992 : Ref sig .tc := ⟨.hbm, 1451, rfl⟩
abbrev main_v993 : Ref sig .tc := ⟨.hbm, 1452, rfl⟩
abbrev main_v994 : Ref sig .tc := ⟨.hbm, 1453, rfl⟩
abbrev main_v995 : Ref sig .tc := ⟨.hbm, 1454, rfl⟩
abbrev main_v996 : Ref sig .tc := ⟨.hbm, 1455, rfl⟩
abbrev main_v997 : Ref sig .tc := ⟨.hbm, 1456, rfl⟩
abbrev main_v998 : Ref sig .tc := ⟨.hbm, 1457, rfl⟩
abbrev main_c_285 : Ref sig .tc := ⟨.hbm, 1458, rfl⟩
abbrev main_call30_v0 : Ref sig .tc := ⟨.hbm, 1459, rfl⟩
abbrev main_call30_v1 : Ref sig .tc := ⟨.hbm, 1460, rfl⟩
abbrev main_call30_v2 : Ref sig .tc := ⟨.hbm, 1461, rfl⟩
abbrev main_call30_v3 : Ref sig .tc := ⟨.hbm, 1462, rfl⟩
abbrev main_call30_v4 : Ref sig .tc := ⟨.hbm, 1463, rfl⟩
abbrev main_call30_v5 : Ref sig .tc := ⟨.hbm, 1464, rfl⟩
abbrev main_call30_v6 : Ref sig .tc := ⟨.hbm, 1465, rfl⟩
abbrev main_call30_v7 : Ref sig .tc := ⟨.hbm, 1466, rfl⟩
abbrev main_call30_v8 : Ref sig .tc := ⟨.hbm, 1467, rfl⟩
abbrev main_call30_c : Ref sig .tc := ⟨.hbm, 1468, rfl⟩
abbrev main_call30_v9 : Ref sig .tc := ⟨.hbm, 1469, rfl⟩
abbrev main_call30_v10 : Ref sig .tc := ⟨.hbm, 1470, rfl⟩
abbrev main_call30_v11 : Ref sig .tc := ⟨.hbm, 1471, rfl⟩
abbrev main_call30_c_0 : Ref sig .tc := ⟨.hbm, 1472, rfl⟩
abbrev main_call30_v12 : Ref sig .tc := ⟨.hbm, 1473, rfl⟩
abbrev main_call30_v13 : Ref sig .tc := ⟨.hbm, 1474, rfl⟩
abbrev main_v999 : Ref sig .tc := ⟨.hbm, 1475, rfl⟩
abbrev main_c_286 : Ref sig .tc := ⟨.hbm, 1476, rfl⟩
abbrev main_v1000 : Ref sig .tc := ⟨.hbm, 1477, rfl⟩
abbrev main_v1001 : Ref sig .tc := ⟨.hbm, 1478, rfl⟩
abbrev main_c_287 : Ref sig .tc := ⟨.hbm, 1479, rfl⟩
abbrev main_v1002 : Ref sig .tc := ⟨.hbm, 1480, rfl⟩
abbrev main_v1003 : Ref sig .tc := ⟨.hbm, 1481, rfl⟩
abbrev main_v1004 : Ref sig .tc := ⟨.hbm, 1482, rfl⟩
abbrev main_v1005 : Ref sig .tc := ⟨.hbm, 1483, rfl⟩
abbrev main_v1006 : Ref sig .tc := ⟨.hbm, 1484, rfl⟩
abbrev main_c_288 : Ref sig .tc := ⟨.hbm, 1485, rfl⟩
abbrev main_call31_v0 : Ref sig .tc := ⟨.hbm, 1486, rfl⟩
abbrev main_call31_c : Ref sig .tc := ⟨.hbm, 1487, rfl⟩
abbrev main_call31_v1 : Ref sig .tc := ⟨.hbm, 1488, rfl⟩
abbrev main_call31_c_0 : Ref sig .tc := ⟨.hbm, 1489, rfl⟩
abbrev main_call31_v2 : Ref sig .tc := ⟨.hbm, 1490, rfl⟩
abbrev main_call31_v3 : Ref sig .tc := ⟨.hbm, 1491, rfl⟩
abbrev main_call31_v4 : Ref sig .tc := ⟨.hbm, 1492, rfl⟩
abbrev main_call31_c_1 : Ref sig .tc := ⟨.hbm, 1493, rfl⟩
abbrev main_call31_v5 : Ref sig .tc := ⟨.hbm, 1494, rfl⟩
abbrev main_call31_v6 : Ref sig .tc := ⟨.hbm, 1495, rfl⟩
abbrev main_call31_c_2 : Ref sig .tc := ⟨.hbm, 1496, rfl⟩
abbrev main_call31_v7 : Ref sig .tc := ⟨.hbm, 1497, rfl⟩
abbrev main_call31_v8 : Ref sig .tc := ⟨.hbm, 1498, rfl⟩
abbrev main_call31_c_3 : Ref sig .tc := ⟨.hbm, 1499, rfl⟩
abbrev main_call31_v9 : Ref sig .tc := ⟨.hbm, 1500, rfl⟩
abbrev main_call31_v10 : Ref sig .tc := ⟨.hbm, 1501, rfl⟩
abbrev main_call31_v11 : Ref sig .tc := ⟨.hbm, 1502, rfl⟩
abbrev main_call31_v12 : Ref sig .tc := ⟨.hbm, 1503, rfl⟩
abbrev main_call31_v13 : Ref sig .tc := ⟨.hbm, 1504, rfl⟩
abbrev main_call31_v14 : Ref sig .tc := ⟨.hbm, 1505, rfl⟩
abbrev main_v1007 : Ref sig .tc := ⟨.hbm, 1506, rfl⟩
abbrev main_c_289 : Ref sig .tc := ⟨.hbm, 1507, rfl⟩
abbrev main_v1008 : Ref sig .tc := ⟨.hbm, 1508, rfl⟩
abbrev main_v1009 : Ref sig .tc := ⟨.hbm, 1509, rfl⟩
abbrev main_c_290 : Ref sig .tc := ⟨.hbm, 1510, rfl⟩
abbrev main_v1010 : Ref sig .tc := ⟨.hbm, 1511, rfl⟩
abbrev main_v1011 : Ref sig .tc := ⟨.hbm, 1512, rfl⟩
abbrev main_v1012 : Ref sig .tc := ⟨.hbm, 1513, rfl⟩
abbrev main_v1013 : Ref sig .tc := ⟨.hbm, 1514, rfl⟩
abbrev main_v1014 : Ref sig .tc := ⟨.hbm, 1515, rfl⟩
abbrev main_v1015 : Ref sig .tc := ⟨.hbm, 1516, rfl⟩
abbrev main_c_291 : Ref sig .tc := ⟨.hbm, 1517, rfl⟩
abbrev main_v1016 : Ref sig .tc := ⟨.hbm, 1518, rfl⟩
abbrev main_v1017 : Ref sig .tc := ⟨.hbm, 1519, rfl⟩
abbrev main_c_292 : Ref sig .tc := ⟨.hbm, 1520, rfl⟩
abbrev main_v1018 : Ref sig .tc := ⟨.hbm, 1521, rfl⟩
abbrev main_v1019 : Ref sig .tc := ⟨.hbm, 1522, rfl⟩
abbrev main_v1020 : Ref sig .tc := ⟨.hbm, 1523, rfl⟩
abbrev main_v1021 : Ref sig .tc := ⟨.hbm, 1524, rfl⟩
abbrev main_v1022 : Ref sig .tc := ⟨.hbm, 1525, rfl⟩
abbrev main_v1023 : Ref sig .tc := ⟨.hbm, 1526, rfl⟩
abbrev main_c_293 : Ref sig .tc := ⟨.hbm, 1527, rfl⟩
abbrev main_v1024 : Ref sig .tc := ⟨.hbm, 1528, rfl⟩
abbrev main_v1025 : Ref sig .tc := ⟨.hbm, 1529, rfl⟩
abbrev main_c_294 : Ref sig .tc := ⟨.hbm, 1530, rfl⟩
abbrev main_v1026 : Ref sig .tc := ⟨.hbm, 1531, rfl⟩
abbrev main_v1027 : Ref sig .tc := ⟨.hbm, 1532, rfl⟩
abbrev main_v1028 : Ref sig .tc := ⟨.hbm, 1533, rfl⟩
abbrev main_v1029 : Ref sig .tc := ⟨.hbm, 1534, rfl⟩
abbrev main_v1030 : Ref sig .tc := ⟨.hbm, 1535, rfl⟩
abbrev main_v1031 : Ref sig .tc := ⟨.hbm, 1536, rfl⟩
abbrev main_v1032 : Ref sig .tc := ⟨.hbm, 1537, rfl⟩
abbrev main_v1033 : Ref sig .tc := ⟨.hbm, 1538, rfl⟩
abbrev main_v1034 : Ref sig .tc := ⟨.hbm, 1539, rfl⟩
abbrev main_v1035 : Ref sig .tc := ⟨.hbm, 1540, rfl⟩
abbrev main_v1036 : Ref sig .tc := ⟨.hbm, 1541, rfl⟩
abbrev main_v1037 : Ref sig .tc := ⟨.hbm, 1542, rfl⟩
abbrev main_v1038 : Ref sig .tc := ⟨.hbm, 1543, rfl⟩
abbrev main_v1039 : Ref sig .tc := ⟨.hbm, 1544, rfl⟩
abbrev main_v1040 : Ref sig .tc := ⟨.hbm, 1545, rfl⟩
abbrev main_v1041 : Ref sig .tc := ⟨.hbm, 1546, rfl⟩
abbrev main_v1042 : Ref sig .tc := ⟨.hbm, 1547, rfl⟩
abbrev main_v1043 : Ref sig .tc := ⟨.hbm, 1548, rfl⟩
abbrev main_v1044 : Ref sig .tc := ⟨.hbm, 1549, rfl⟩
abbrev main_v1045 : Ref sig .tc := ⟨.hbm, 1550, rfl⟩
abbrev main_v1046 : Ref sig .tc := ⟨.hbm, 1551, rfl⟩
abbrev main_v1047 : Ref sig .tc := ⟨.hbm, 1552, rfl⟩
abbrev main_v1048 : Ref sig .tc := ⟨.hbm, 1553, rfl⟩
abbrev main_v1049 : Ref sig .tc := ⟨.hbm, 1554, rfl⟩
abbrev main_v1050 : Ref sig .tc := ⟨.hbm, 1555, rfl⟩
abbrev main_v1051 : Ref sig .tc := ⟨.hbm, 1556, rfl⟩
abbrev main_v1052 : Ref sig .tc := ⟨.hbm, 1557, rfl⟩
abbrev main_v1053 : Ref sig .tc := ⟨.hbm, 1558, rfl⟩
abbrev main_v1054 : Ref sig .tc := ⟨.hbm, 1559, rfl⟩
abbrev main_v1055 : Ref sig .tc := ⟨.hbm, 1560, rfl⟩
abbrev main_v1056 : Ref sig .tc := ⟨.hbm, 1561, rfl⟩
abbrev main_v1057 : Ref sig .tc := ⟨.hbm, 1562, rfl⟩
abbrev main_v1058 : Ref sig .tc := ⟨.hbm, 1563, rfl⟩
abbrev main_v1059 : Ref sig .tc := ⟨.hbm, 1564, rfl⟩
abbrev main_v1060 : Ref sig .tc := ⟨.hbm, 1565, rfl⟩
abbrev main_v1061 : Ref sig .tc := ⟨.hbm, 1566, rfl⟩
abbrev main_v1062 : Ref sig .tc := ⟨.hbm, 1567, rfl⟩
abbrev main_v1063 : Ref sig .tc := ⟨.hbm, 1568, rfl⟩
abbrev main_v1064 : Ref sig .tc := ⟨.hbm, 1569, rfl⟩
abbrev main_v1065 : Ref sig .tc := ⟨.hbm, 1570, rfl⟩
abbrev main_v1066 : Ref sig .tc := ⟨.hbm, 1571, rfl⟩
abbrev main_v1067 : Ref sig .tc := ⟨.hbm, 1572, rfl⟩
abbrev main_v1068 : Ref sig .tc := ⟨.hbm, 1573, rfl⟩
abbrev main_v1069 : Ref sig .tc := ⟨.hbm, 1574, rfl⟩
abbrev main_v1070 : Ref sig .tc := ⟨.hbm, 1575, rfl⟩
abbrev main_v1071 : Ref sig .tc := ⟨.hbm, 1576, rfl⟩
abbrev main_v1072 : Ref sig .tc := ⟨.hbm, 1577, rfl⟩
abbrev main_v1073 : Ref sig .tc := ⟨.hbm, 1578, rfl⟩
abbrev main_v1074 : Ref sig .tc := ⟨.hbm, 1579, rfl⟩
abbrev main_v1075 : Ref sig .tc := ⟨.hbm, 1580, rfl⟩
abbrev main_v1076 : Ref sig .tc := ⟨.hbm, 1581, rfl⟩
abbrev main_v1077 : Ref sig .tc := ⟨.hbm, 1582, rfl⟩
abbrev main_v1078 : Ref sig .tc := ⟨.hbm, 1583, rfl⟩
abbrev main_v1079 : Ref sig .tc := ⟨.hbm, 1584, rfl⟩
abbrev main_v1080 : Ref sig .tc := ⟨.hbm, 1585, rfl⟩
abbrev main_v1081 : Ref sig .tc := ⟨.hbm, 1586, rfl⟩
abbrev main_v1082 : Ref sig .tc := ⟨.hbm, 1587, rfl⟩
abbrev main_v1083 : Ref sig .tc := ⟨.hbm, 1588, rfl⟩
abbrev main_v1084 : Ref sig .tc := ⟨.hbm, 1589, rfl⟩
abbrev main_v1085 : Ref sig .tc := ⟨.hbm, 1590, rfl⟩
abbrev main_v1086 : Ref sig .tc := ⟨.hbm, 1591, rfl⟩
abbrev main_v1087 : Ref sig .tc := ⟨.hbm, 1592, rfl⟩
abbrev main_v1088 : Ref sig .tc := ⟨.hbm, 1593, rfl⟩
abbrev main_v1089 : Ref sig .tc := ⟨.hbm, 1594, rfl⟩
abbrev main_v1090 : Ref sig .tc := ⟨.hbm, 1595, rfl⟩
abbrev main_v1091 : Ref sig .tc := ⟨.hbm, 1596, rfl⟩
abbrev main_v1092 : Ref sig .tc := ⟨.hbm, 1597, rfl⟩
abbrev main_v1093 : Ref sig .tc := ⟨.hbm, 1598, rfl⟩
abbrev main_v1094 : Ref sig .tc := ⟨.hbm, 1599, rfl⟩
abbrev main_v1095 : Ref sig .tc := ⟨.hbm, 1600, rfl⟩
abbrev main_v1096 : Ref sig .tc := ⟨.hbm, 1601, rfl⟩
abbrev main_v1097 : Ref sig .tc := ⟨.hbm, 1602, rfl⟩
abbrev main_v1098 : Ref sig .tc := ⟨.hbm, 1603, rfl⟩
abbrev main_v1099 : Ref sig .tc := ⟨.hbm, 1604, rfl⟩
abbrev main_v1100 : Ref sig .tc := ⟨.hbm, 1605, rfl⟩
abbrev main_v1101 : Ref sig .tc := ⟨.hbm, 1606, rfl⟩
abbrev main_v1102 : Ref sig .tc := ⟨.hbm, 1607, rfl⟩
abbrev main_v1103 : Ref sig .tc := ⟨.hbm, 1608, rfl⟩
abbrev main_v1104 : Ref sig .tc := ⟨.hbm, 1609, rfl⟩
abbrev main_v1105 : Ref sig .tc := ⟨.hbm, 1610, rfl⟩
abbrev main_v1106 : Ref sig .tc := ⟨.hbm, 1611, rfl⟩
abbrev main_v1107 : Ref sig .tc := ⟨.hbm, 1612, rfl⟩
abbrev main_v1108 : Ref sig .tc := ⟨.hbm, 1613, rfl⟩
abbrev main_v1109 : Ref sig .tc := ⟨.hbm, 1614, rfl⟩
abbrev main_v1110 : Ref sig .tc := ⟨.hbm, 1615, rfl⟩
abbrev main_cst_295 : Ref sig .tc := ⟨.hbm, 1616, rfl⟩
abbrev main_v1111 : Ref sig .tc := ⟨.hbm, 1617, rfl⟩
abbrev main_cst_296 : Ref sig .tc := ⟨.hbm, 1618, rfl⟩
abbrev main_v1112 : Ref sig .tc := ⟨.hbm, 1619, rfl⟩
abbrev main_v1113 : Ref sig .tc := ⟨.hbm, 1620, rfl⟩
abbrev main_v1114 : Ref sig .tc := ⟨.hbm, 1621, rfl⟩
abbrev main_cst_297 : Ref sig .tc := ⟨.hbm, 1622, rfl⟩
abbrev main_v1115 : Ref sig .tc := ⟨.hbm, 1623, rfl⟩
abbrev main_v1116 : Ref sig .tc := ⟨.hbm, 1624, rfl⟩
abbrev main_v1117 : Ref sig .tc := ⟨.hbm, 1625, rfl⟩
abbrev main_cst_298 : Ref sig .tc := ⟨.hbm, 1626, rfl⟩
abbrev main_v1118 : Ref sig .tc := ⟨.hbm, 1627, rfl⟩
abbrev main_cst_299 : Ref sig .tc := ⟨.hbm, 1628, rfl⟩
abbrev main_v1119 : Ref sig .tc := ⟨.hbm, 1629, rfl⟩
abbrev main_v1120 : Ref sig .tc := ⟨.hbm, 1630, rfl⟩
abbrev main_v1121 : Ref sig .tc := ⟨.hbm, 1631, rfl⟩
abbrev main_cst_300 : Ref sig .tc := ⟨.hbm, 1632, rfl⟩
abbrev main_v1122 : Ref sig .tc := ⟨.hbm, 1633, rfl⟩
abbrev main_v1123 : Ref sig .tc := ⟨.hbm, 1634, rfl⟩
abbrev main_v1124 : Ref sig .tc := ⟨.hbm, 1635, rfl⟩
abbrev main_cst_301 : Ref sig .tc := ⟨.hbm, 1636, rfl⟩
abbrev main_v1125 : Ref sig .tc := ⟨.hbm, 1637, rfl⟩
abbrev main_v1126 : Ref sig .tc := ⟨.hbm, 1638, rfl⟩
abbrev main_v1127 : Ref sig .tc := ⟨.hbm, 1639, rfl⟩
abbrev main_cst_302 : Ref sig .tc := ⟨.hbm, 1640, rfl⟩
abbrev main_v1128 : Ref sig .tc := ⟨.hbm, 1641, rfl⟩
abbrev main_v1129 : Ref sig .tc := ⟨.hbm, 1642, rfl⟩
abbrev main_v1130 : Ref sig .tc := ⟨.hbm, 1643, rfl⟩
abbrev main_cst_303 : Ref sig .tc := ⟨.hbm, 1644, rfl⟩
abbrev main_v1131 : Ref sig .tc := ⟨.hbm, 1645, rfl⟩
abbrev main_cst_304 : Ref sig .tc := ⟨.hbm, 1646, rfl⟩
abbrev main_v1132 : Ref sig .tc := ⟨.hbm, 1647, rfl⟩
abbrev main_cst_305 : Ref sig .tc := ⟨.hbm, 1648, rfl⟩
abbrev main_v1133 : Ref sig .tc := ⟨.hbm, 1649, rfl⟩
abbrev main_cst_306 : Ref sig .tc := ⟨.hbm, 1650, rfl⟩
abbrev main_v1134 : Ref sig .tc := ⟨.hbm, 1651, rfl⟩
abbrev main_v1135 : Ref sig .tc := ⟨.hbm, 1652, rfl⟩
abbrev main_cst_307 : Ref sig .tc := ⟨.hbm, 1653, rfl⟩
abbrev main_call32_v0 : Ref sig .tc := ⟨.hbm, 1654, rfl⟩
abbrev main_v1136 : Ref sig .tc := ⟨.hbm, 1655, rfl⟩
abbrev main_cst_308 : Ref sig .tc := ⟨.hbm, 1656, rfl⟩
abbrev main_v1137 : Ref sig .tc := ⟨.hbm, 1657, rfl⟩
abbrev main_v1138 : Ref sig .tc := ⟨.hbm, 1658, rfl⟩
abbrev main_v1139 : Ref sig .tc := ⟨.hbm, 1659, rfl⟩
abbrev main_v1140 : Ref sig .tc := ⟨.hbm, 1660, rfl⟩
abbrev main_v1141 : Ref sig .tc := ⟨.hbm, 1661, rfl⟩
abbrev main_c_309 : Ref sig .tc := ⟨.hbm, 1662, rfl⟩
abbrev main_v1142 : Ref sig .tc := ⟨.hbm, 1663, rfl⟩
abbrev main_v1143 : Ref sig .tc := ⟨.hbm, 1664, rfl⟩
abbrev main_c_310 : Ref sig .tc := ⟨.hbm, 1665, rfl⟩
abbrev main_v1144 : Ref sig .tc := ⟨.hbm, 1666, rfl⟩
abbrev main_v1145 : Ref sig .tc := ⟨.hbm, 1667, rfl⟩
abbrev main_v1146 : Ref sig .tc := ⟨.hbm, 1668, rfl⟩
abbrev main_v1147 : Ref sig .tc := ⟨.hbm, 1669, rfl⟩
abbrev main_v1148 : Ref sig .tc := ⟨.hbm, 1670, rfl⟩
abbrev main_c_311 : Ref sig .tc := ⟨.hbm, 1671, rfl⟩
abbrev main_v1149 : Ref sig .tc := ⟨.hbm, 1672, rfl⟩
abbrev main_v1150 : Ref sig .tc := ⟨.hbm, 1673, rfl⟩
abbrev main_c_312 : Ref sig .tc := ⟨.hbm, 1674, rfl⟩
abbrev main_v1151 : Ref sig .tc := ⟨.hbm, 1675, rfl⟩
abbrev main_v1152 : Ref sig .tc := ⟨.hbm, 1676, rfl⟩
abbrev main_v1153 : Ref sig .tc := ⟨.hbm, 1677, rfl⟩
abbrev main_v1154 : Ref sig .tc := ⟨.hbm, 1678, rfl⟩
abbrev main_v1155 : Ref sig .tc := ⟨.hbm, 1679, rfl⟩
abbrev main_c_313 : Ref sig .tc := ⟨.hbm, 1680, rfl⟩
abbrev main_v1156 : Ref sig .tc := ⟨.hbm, 1681, rfl⟩
abbrev main_v1157 : Ref sig .tc := ⟨.hbm, 1682, rfl⟩
abbrev main_c_314 : Ref sig .tc := ⟨.hbm, 1683, rfl⟩
abbrev main_v1158 : Ref sig .tc := ⟨.hbm, 1684, rfl⟩
abbrev main_v1159 : Ref sig .tc := ⟨.hbm, 1685, rfl⟩
abbrev main_v1160 : Ref sig .tc := ⟨.hbm, 1686, rfl⟩
abbrev main_v1161 : Ref sig .tc := ⟨.hbm, 1687, rfl⟩
abbrev main_v1162 : Ref sig .tc := ⟨.hbm, 1688, rfl⟩
abbrev main_v1163 : Ref sig .tc := ⟨.hbm, 1689, rfl⟩
abbrev main_v1164 : Ref sig .tc := ⟨.hbm, 1690, rfl⟩
abbrev main_v1165 : Ref sig .tc := ⟨.hbm, 1691, rfl⟩
abbrev main_v1166 : Ref sig .tc := ⟨.hbm, 1692, rfl⟩
abbrev main_v1167 : Ref sig .tc := ⟨.hbm, 1693, rfl⟩
abbrev main_v1168 : Ref sig .tc := ⟨.hbm, 1694, rfl⟩
abbrev main_v1169 : Ref sig .tc := ⟨.hbm, 1695, rfl⟩
abbrev main_v1170 : Ref sig .tc := ⟨.hbm, 1696, rfl⟩
abbrev main_v1171 : Ref sig .tc := ⟨.hbm, 1697, rfl⟩
abbrev main_v1172 : Ref sig .tc := ⟨.hbm, 1698, rfl⟩
abbrev main_v1173 : Ref sig .tc := ⟨.hbm, 1699, rfl⟩
abbrev main_c_315 : Ref sig .tc := ⟨.hbm, 1700, rfl⟩
abbrev main_v1174 : Ref sig .tc := ⟨.hbm, 1701, rfl⟩
abbrev main_v1175 : Ref sig .tc := ⟨.hbm, 1702, rfl⟩
abbrev main_v1176 : Ref sig .tc := ⟨.hbm, 1703, rfl⟩
abbrev main_v1177 : Ref sig .tc := ⟨.hbm, 1704, rfl⟩
abbrev main_v1178 : Ref sig .tc := ⟨.hbm, 1705, rfl⟩
abbrev main_call34_v0 : Ref sig .tc := ⟨.hbm, 1706, rfl⟩
abbrev main_call34_v1_0 : Ref sig .tc := ⟨.hbm, 1707, rfl⟩
abbrev main_v1179 : Ref sig .tc := ⟨.hbm, 1708, rfl⟩
abbrev main_c_316 : Ref sig .tc := ⟨.hbm, 1709, rfl⟩
abbrev main_v1180 : Ref sig .tc := ⟨.hbm, 1710, rfl⟩
abbrev main_v1181 : Ref sig .tc := ⟨.hbm, 1711, rfl⟩
abbrev main_c_317 : Ref sig .tc := ⟨.hbm, 1712, rfl⟩
abbrev main_v1182 : Ref sig .tc := ⟨.hbm, 1713, rfl⟩
abbrev main_v1183 : Ref sig .tc := ⟨.hbm, 1714, rfl⟩
abbrev main_v1184 : Ref sig .tc := ⟨.hbm, 1715, rfl⟩
abbrev main_v1185 : Ref sig .tc := ⟨.hbm, 1716, rfl⟩
abbrev main_v1186 : Ref sig .tc := ⟨.hbm, 1717, rfl⟩
abbrev main_c_318 : Ref sig .tc := ⟨.hbm, 1718, rfl⟩
abbrev main_v1187 : Ref sig .tc := ⟨.hbm, 1719, rfl⟩
abbrev main_v1188 : Ref sig .tc := ⟨.hbm, 1720, rfl⟩
abbrev main_c_319 : Ref sig .tc := ⟨.hbm, 1721, rfl⟩
abbrev main_v1189 : Ref sig .tc := ⟨.hbm, 1722, rfl⟩
abbrev main_v1190 : Ref sig .tc := ⟨.hbm, 1723, rfl⟩
abbrev main_v1191 : Ref sig .tc := ⟨.hbm, 1724, rfl⟩
abbrev main_v1192 : Ref sig .tc := ⟨.hbm, 1725, rfl⟩
abbrev main_v1193 : Ref sig .tc := ⟨.hbm, 1726, rfl⟩
abbrev main_v1194 : Ref sig .tc := ⟨.hbm, 1727, rfl⟩
abbrev main_v1195 : Ref sig .tc := ⟨.hbm, 1728, rfl⟩
abbrev main_v1196 : Ref sig .tc := ⟨.hbm, 1729, rfl⟩
abbrev main_v1197 : Ref sig .tc := ⟨.hbm, 1730, rfl⟩
abbrev main_v1198 : Ref sig .tc := ⟨.hbm, 1731, rfl⟩
abbrev main_c_320 : Ref sig .tc := ⟨.hbm, 1732, rfl⟩
abbrev main_call35_v0 : Ref sig .tc := ⟨.hbm, 1733, rfl⟩
abbrev main_call35_v1 : Ref sig .tc := ⟨.hbm, 1734, rfl⟩
abbrev main_call35_v2 : Ref sig .tc := ⟨.hbm, 1735, rfl⟩
abbrev main_call35_v3 : Ref sig .tc := ⟨.hbm, 1736, rfl⟩
abbrev main_call35_v4 : Ref sig .tc := ⟨.hbm, 1737, rfl⟩
abbrev main_call35_v5 : Ref sig .tc := ⟨.hbm, 1738, rfl⟩
abbrev main_call35_v6 : Ref sig .tc := ⟨.hbm, 1739, rfl⟩
abbrev main_call35_v7 : Ref sig .tc := ⟨.hbm, 1740, rfl⟩
abbrev main_call35_v8 : Ref sig .tc := ⟨.hbm, 1741, rfl⟩
abbrev main_call35_c : Ref sig .tc := ⟨.hbm, 1742, rfl⟩
abbrev main_call35_v9 : Ref sig .tc := ⟨.hbm, 1743, rfl⟩
abbrev main_call35_v10 : Ref sig .tc := ⟨.hbm, 1744, rfl⟩
abbrev main_call35_v11 : Ref sig .tc := ⟨.hbm, 1745, rfl⟩
abbrev main_call35_c_0 : Ref sig .tc := ⟨.hbm, 1746, rfl⟩
abbrev main_call35_v12 : Ref sig .tc := ⟨.hbm, 1747, rfl⟩
abbrev main_call35_v13 : Ref sig .tc := ⟨.hbm, 1748, rfl⟩
abbrev main_v1199 : Ref sig .tc := ⟨.hbm, 1749, rfl⟩
abbrev main_c_321 : Ref sig .tc := ⟨.hbm, 1750, rfl⟩
abbrev main_v1200 : Ref sig .tc := ⟨.hbm, 1751, rfl⟩
abbrev main_v1201 : Ref sig .tc := ⟨.hbm, 1752, rfl⟩
abbrev main_c_322 : Ref sig .tc := ⟨.hbm, 1753, rfl⟩
abbrev main_v1202 : Ref sig .tc := ⟨.hbm, 1754, rfl⟩
abbrev main_v1203 : Ref sig .tc := ⟨.hbm, 1755, rfl⟩
abbrev main_v1204 : Ref sig .tc := ⟨.hbm, 1756, rfl⟩
abbrev main_v1205 : Ref sig .tc := ⟨.hbm, 1757, rfl⟩
abbrev main_v1206 : Ref sig .tc := ⟨.hbm, 1758, rfl⟩
abbrev main_c_323 : Ref sig .tc := ⟨.hbm, 1759, rfl⟩
abbrev main_call36_v0 : Ref sig .tc := ⟨.hbm, 1760, rfl⟩
abbrev main_call36_c : Ref sig .tc := ⟨.hbm, 1761, rfl⟩
abbrev main_call36_v1 : Ref sig .tc := ⟨.hbm, 1762, rfl⟩
abbrev main_call36_c_0 : Ref sig .tc := ⟨.hbm, 1763, rfl⟩
abbrev main_call36_v2 : Ref sig .tc := ⟨.hbm, 1764, rfl⟩
abbrev main_call36_v3 : Ref sig .tc := ⟨.hbm, 1765, rfl⟩
abbrev main_call36_v4 : Ref sig .tc := ⟨.hbm, 1766, rfl⟩
abbrev main_call36_c_1 : Ref sig .tc := ⟨.hbm, 1767, rfl⟩
abbrev main_call36_v5 : Ref sig .tc := ⟨.hbm, 1768, rfl⟩
abbrev main_call36_v6 : Ref sig .tc := ⟨.hbm, 1769, rfl⟩
abbrev main_call36_c_2 : Ref sig .tc := ⟨.hbm, 1770, rfl⟩
abbrev main_call36_v7 : Ref sig .tc := ⟨.hbm, 1771, rfl⟩
abbrev main_call36_v8 : Ref sig .tc := ⟨.hbm, 1772, rfl⟩
abbrev main_call36_c_3 : Ref sig .tc := ⟨.hbm, 1773, rfl⟩
abbrev main_call36_v9 : Ref sig .tc := ⟨.hbm, 1774, rfl⟩
abbrev main_call36_v10 : Ref sig .tc := ⟨.hbm, 1775, rfl⟩
abbrev main_call36_v11 : Ref sig .tc := ⟨.hbm, 1776, rfl⟩
abbrev main_call36_v12 : Ref sig .tc := ⟨.hbm, 1777, rfl⟩
abbrev main_call36_v13 : Ref sig .tc := ⟨.hbm, 1778, rfl⟩
abbrev main_call36_v14 : Ref sig .tc := ⟨.hbm, 1779, rfl⟩
abbrev main_v1207 : Ref sig .tc := ⟨.hbm, 1780, rfl⟩
abbrev main_c_324 : Ref sig .tc := ⟨.hbm, 1781, rfl⟩
abbrev main_v1208 : Ref sig .tc := ⟨.hbm, 1782, rfl⟩
abbrev main_v1209 : Ref sig .tc := ⟨.hbm, 1783, rfl⟩
abbrev main_c_325 : Ref sig .tc := ⟨.hbm, 1784, rfl⟩
abbrev main_v1210 : Ref sig .tc := ⟨.hbm, 1785, rfl⟩
abbrev main_v1211 : Ref sig .tc := ⟨.hbm, 1786, rfl⟩
abbrev main_v1212 : Ref sig .tc := ⟨.hbm, 1787, rfl⟩
abbrev main_v1213 : Ref sig .tc := ⟨.hbm, 1788, rfl⟩
abbrev main_v1214 : Ref sig .tc := ⟨.hbm, 1789, rfl⟩
abbrev main_v1215 : Ref sig .tc := ⟨.hbm, 1790, rfl⟩
abbrev main_c_326 : Ref sig .tc := ⟨.hbm, 1791, rfl⟩
abbrev main_v1216 : Ref sig .tc := ⟨.hbm, 1792, rfl⟩
abbrev main_v1217 : Ref sig .tc := ⟨.hbm, 1793, rfl⟩
abbrev main_c_327 : Ref sig .tc := ⟨.hbm, 1794, rfl⟩
abbrev main_v1218 : Ref sig .tc := ⟨.hbm, 1795, rfl⟩
abbrev main_v1219 : Ref sig .tc := ⟨.hbm, 1796, rfl⟩
abbrev main_v1220 : Ref sig .tc := ⟨.hbm, 1797, rfl⟩
abbrev main_v1221 : Ref sig .tc := ⟨.hbm, 1798, rfl⟩
abbrev main_v1222 : Ref sig .tc := ⟨.hbm, 1799, rfl⟩
abbrev main_v1223 : Ref sig .tc := ⟨.hbm, 1800, rfl⟩
abbrev main_c_328 : Ref sig .tc := ⟨.hbm, 1801, rfl⟩
abbrev main_v1224 : Ref sig .tc := ⟨.hbm, 1802, rfl⟩
abbrev main_v1225 : Ref sig .tc := ⟨.hbm, 1803, rfl⟩
abbrev main_c_329 : Ref sig .tc := ⟨.hbm, 1804, rfl⟩
abbrev main_v1226 : Ref sig .tc := ⟨.hbm, 1805, rfl⟩
abbrev main_v1227 : Ref sig .tc := ⟨.hbm, 1806, rfl⟩
abbrev main_v1228 : Ref sig .tc := ⟨.hbm, 1807, rfl⟩
abbrev main_v1229 : Ref sig .tc := ⟨.hbm, 1808, rfl⟩
abbrev main_v1230 : Ref sig .tc := ⟨.hbm, 1809, rfl⟩
abbrev main_v1231 : Ref sig .tc := ⟨.hbm, 1810, rfl⟩
abbrev main_v1232 : Ref sig .tc := ⟨.hbm, 1811, rfl⟩
abbrev main_v1233 : Ref sig .tc := ⟨.hbm, 1812, rfl⟩
abbrev main_v1234 : Ref sig .tc := ⟨.hbm, 1813, rfl⟩
abbrev main_v1235 : Ref sig .tc := ⟨.hbm, 1814, rfl⟩
abbrev main_v1236 : Ref sig .tc := ⟨.hbm, 1815, rfl⟩
abbrev main_v1237 : Ref sig .tc := ⟨.hbm, 1816, rfl⟩
abbrev main_v1238 : Ref sig .tc := ⟨.hbm, 1817, rfl⟩
abbrev main_v1239 : Ref sig .tc := ⟨.hbm, 1818, rfl⟩
abbrev main_v1240 : Ref sig .tc := ⟨.hbm, 1819, rfl⟩
abbrev main_v1241 : Ref sig .tc := ⟨.hbm, 1820, rfl⟩
abbrev main_v1242 : Ref sig .tc := ⟨.hbm, 1821, rfl⟩
abbrev main_v1243 : Ref sig .tc := ⟨.hbm, 1822, rfl⟩
abbrev main_v1244 : Ref sig .tc := ⟨.hbm, 1823, rfl⟩
abbrev main_v1245 : Ref sig .tc := ⟨.hbm, 1824, rfl⟩
abbrev main_v1246 : Ref sig .tc := ⟨.hbm, 1825, rfl⟩
abbrev main_v1247 : Ref sig .tc := ⟨.hbm, 1826, rfl⟩
abbrev main_v1248 : Ref sig .tc := ⟨.hbm, 1827, rfl⟩
abbrev main_v1249 : Ref sig .tc := ⟨.hbm, 1828, rfl⟩
abbrev main_v1250 : Ref sig .tc := ⟨.hbm, 1829, rfl⟩
abbrev main_v1251 : Ref sig .tc := ⟨.hbm, 1830, rfl⟩
abbrev main_v1252 : Ref sig .tc := ⟨.hbm, 1831, rfl⟩
abbrev main_v1253 : Ref sig .tc := ⟨.hbm, 1832, rfl⟩
abbrev main_v1254 : Ref sig .tc := ⟨.hbm, 1833, rfl⟩
abbrev main_v1255 : Ref sig .tc := ⟨.hbm, 1834, rfl⟩
abbrev main_v1256 : Ref sig .tc := ⟨.hbm, 1835, rfl⟩
abbrev main_v1257 : Ref sig .tc := ⟨.hbm, 1836, rfl⟩
abbrev main_v1258 : Ref sig .tc := ⟨.hbm, 1837, rfl⟩
abbrev main_v1259 : Ref sig .tc := ⟨.hbm, 1838, rfl⟩
abbrev main_v1260 : Ref sig .tc := ⟨.hbm, 1839, rfl⟩
abbrev main_v1261 : Ref sig .tc := ⟨.hbm, 1840, rfl⟩
abbrev main_v1262 : Ref sig .tc := ⟨.hbm, 1841, rfl⟩
abbrev main_v1263 : Ref sig .tc := ⟨.hbm, 1842, rfl⟩
abbrev main_v1264 : Ref sig .tc := ⟨.hbm, 1843, rfl⟩
abbrev main_v1265 : Ref sig .tc := ⟨.hbm, 1844, rfl⟩
abbrev main_v1266 : Ref sig .tc := ⟨.hbm, 1845, rfl⟩
abbrev main_v1267 : Ref sig .tc := ⟨.hbm, 1846, rfl⟩
abbrev main_v1268 : Ref sig .tc := ⟨.hbm, 1847, rfl⟩
abbrev main_v1269 : Ref sig .tc := ⟨.hbm, 1848, rfl⟩
abbrev main_v1270 : Ref sig .tc := ⟨.hbm, 1849, rfl⟩
abbrev main_v1271 : Ref sig .tc := ⟨.hbm, 1850, rfl⟩
abbrev main_v1272 : Ref sig .tc := ⟨.hbm, 1851, rfl⟩
abbrev main_v1273 : Ref sig .tc := ⟨.hbm, 1852, rfl⟩
abbrev main_v1274 : Ref sig .tc := ⟨.hbm, 1853, rfl⟩
abbrev main_v1275 : Ref sig .tc := ⟨.hbm, 1854, rfl⟩
abbrev main_v1276 : Ref sig .tc := ⟨.hbm, 1855, rfl⟩
abbrev main_v1277 : Ref sig .tc := ⟨.hbm, 1856, rfl⟩
abbrev main_v1278 : Ref sig .tc := ⟨.hbm, 1857, rfl⟩
abbrev main_v1279 : Ref sig .tc := ⟨.hbm, 1858, rfl⟩
abbrev main_v1280 : Ref sig .tc := ⟨.hbm, 1859, rfl⟩
abbrev main_v1281 : Ref sig .tc := ⟨.hbm, 1860, rfl⟩
abbrev main_v1282 : Ref sig .tc := ⟨.hbm, 1861, rfl⟩
abbrev main_v1283 : Ref sig .tc := ⟨.hbm, 1862, rfl⟩
abbrev main_v1284 : Ref sig .tc := ⟨.hbm, 1863, rfl⟩
abbrev main_v1285 : Ref sig .tc := ⟨.hbm, 1864, rfl⟩
abbrev main_v1286 : Ref sig .tc := ⟨.hbm, 1865, rfl⟩
abbrev main_v1287 : Ref sig .tc := ⟨.hbm, 1866, rfl⟩
abbrev main_v1288 : Ref sig .tc := ⟨.hbm, 1867, rfl⟩
abbrev main_v1289 : Ref sig .tc := ⟨.hbm, 1868, rfl⟩
abbrev main_v1290 : Ref sig .tc := ⟨.hbm, 1869, rfl⟩
abbrev main_v1291 : Ref sig .tc := ⟨.hbm, 1870, rfl⟩
abbrev main_v1292 : Ref sig .tc := ⟨.hbm, 1871, rfl⟩
abbrev main_v1293 : Ref sig .tc := ⟨.hbm, 1872, rfl⟩
abbrev main_v1294 : Ref sig .tc := ⟨.hbm, 1873, rfl⟩
abbrev main_v1295 : Ref sig .tc := ⟨.hbm, 1874, rfl⟩
abbrev main_v1296 : Ref sig .tc := ⟨.hbm, 1875, rfl⟩
abbrev main_v1297 : Ref sig .tc := ⟨.hbm, 1876, rfl⟩
abbrev main_v1298 : Ref sig .tc := ⟨.hbm, 1877, rfl⟩
abbrev main_v1299 : Ref sig .tc := ⟨.hbm, 1878, rfl⟩
abbrev main_v1300 : Ref sig .tc := ⟨.hbm, 1879, rfl⟩
abbrev main_v1301 : Ref sig .tc := ⟨.hbm, 1880, rfl⟩
abbrev main_v1302 : Ref sig .tc := ⟨.hbm, 1881, rfl⟩
abbrev main_v1303 : Ref sig .tc := ⟨.hbm, 1882, rfl⟩
abbrev main_v1304 : Ref sig .tc := ⟨.hbm, 1883, rfl⟩
abbrev main_v1305 : Ref sig .tc := ⟨.hbm, 1884, rfl⟩
abbrev main_v1306 : Ref sig .tc := ⟨.hbm, 1885, rfl⟩
abbrev main_v1307 : Ref sig .tc := ⟨.hbm, 1886, rfl⟩
abbrev main_v1308 : Ref sig .tc := ⟨.hbm, 1887, rfl⟩
abbrev main_v1309 : Ref sig .tc := ⟨.hbm, 1888, rfl⟩
abbrev main_v1310 : Ref sig .tc := ⟨.hbm, 1889, rfl⟩
abbrev main_cst_330 : Ref sig .tc := ⟨.hbm, 1890, rfl⟩
abbrev main_v1311 : Ref sig .tc := ⟨.hbm, 1891, rfl⟩
abbrev main_cst_331 : Ref sig .tc := ⟨.hbm, 1892, rfl⟩
abbrev main_v1312 : Ref sig .tc := ⟨.hbm, 1893, rfl⟩
abbrev main_v1313 : Ref sig .tc := ⟨.hbm, 1894, rfl⟩
abbrev main_v1314 : Ref sig .tc := ⟨.hbm, 1895, rfl⟩
abbrev main_cst_332 : Ref sig .tc := ⟨.hbm, 1896, rfl⟩
abbrev main_v1315 : Ref sig .tc := ⟨.hbm, 1897, rfl⟩
abbrev main_v1316 : Ref sig .tc := ⟨.hbm, 1898, rfl⟩
abbrev main_v1317 : Ref sig .tc := ⟨.hbm, 1899, rfl⟩
abbrev main_cst_333 : Ref sig .tc := ⟨.hbm, 1900, rfl⟩
abbrev main_v1318 : Ref sig .tc := ⟨.hbm, 1901, rfl⟩
abbrev main_cst_334 : Ref sig .tc := ⟨.hbm, 1902, rfl⟩
abbrev main_v1319 : Ref sig .tc := ⟨.hbm, 1903, rfl⟩
abbrev main_v1320 : Ref sig .tc := ⟨.hbm, 1904, rfl⟩
abbrev main_v1321 : Ref sig .tc := ⟨.hbm, 1905, rfl⟩
abbrev main_cst_335 : Ref sig .tc := ⟨.hbm, 1906, rfl⟩
abbrev main_v1322 : Ref sig .tc := ⟨.hbm, 1907, rfl⟩
abbrev main_v1323 : Ref sig .tc := ⟨.hbm, 1908, rfl⟩
abbrev main_v1324 : Ref sig .tc := ⟨.hbm, 1909, rfl⟩
abbrev main_cst_336 : Ref sig .tc := ⟨.hbm, 1910, rfl⟩
abbrev main_v1325 : Ref sig .tc := ⟨.hbm, 1911, rfl⟩
abbrev main_v1326 : Ref sig .tc := ⟨.hbm, 1912, rfl⟩
abbrev main_v1327 : Ref sig .tc := ⟨.hbm, 1913, rfl⟩
abbrev main_cst_337 : Ref sig .tc := ⟨.hbm, 1914, rfl⟩
abbrev main_v1328 : Ref sig .tc := ⟨.hbm, 1915, rfl⟩
abbrev main_v1329 : Ref sig .tc := ⟨.hbm, 1916, rfl⟩
abbrev main_v1330 : Ref sig .tc := ⟨.hbm, 1917, rfl⟩
abbrev main_cst_338 : Ref sig .tc := ⟨.hbm, 1918, rfl⟩
abbrev main_v1331 : Ref sig .tc := ⟨.hbm, 1919, rfl⟩
abbrev main_cst_339 : Ref sig .tc := ⟨.hbm, 1920, rfl⟩
abbrev main_v1332 : Ref sig .tc := ⟨.hbm, 1921, rfl⟩
abbrev main_cst_340 : Ref sig .tc := ⟨.hbm, 1922, rfl⟩
abbrev main_v1333 : Ref sig .tc := ⟨.hbm, 1923, rfl⟩
abbrev main_cst_341 : Ref sig .tc := ⟨.hbm, 1924, rfl⟩
abbrev main_v1334 : Ref sig .tc := ⟨.hbm, 1925, rfl⟩
abbrev main_v1335 : Ref sig .tc := ⟨.hbm, 1926, rfl⟩
abbrev main_cst_342 : Ref sig .tc := ⟨.hbm, 1927, rfl⟩
abbrev main_call37_v0 : Ref sig .tc := ⟨.hbm, 1928, rfl⟩
abbrev main_v1336 : Ref sig .tc := ⟨.hbm, 1929, rfl⟩
abbrev main_v1337 : Ref sig .tc := ⟨.hbm, 1930, rfl⟩
abbrev main_v1338 : Ref sig .tc := ⟨.hbm, 1931, rfl⟩
abbrev main_v1339 : Ref sig .tc := ⟨.hbm, 1932, rfl⟩
abbrev main_v1340 : Ref sig .tc := ⟨.hbm, 1933, rfl⟩
abbrev main_v1341 : Ref sig .tc := ⟨.hbm, 1934, rfl⟩
abbrev main_c_343 : Ref sig .tc := ⟨.hbm, 1935, rfl⟩
abbrev main_v1342 : Ref sig .tc := ⟨.hbm, 1936, rfl⟩
abbrev main_v1343 : Ref sig .tc := ⟨.hbm, 1937, rfl⟩
abbrev main_c_344 : Ref sig .tc := ⟨.hbm, 1938, rfl⟩
abbrev main_v1344 : Ref sig .tc := ⟨.hbm, 1939, rfl⟩
abbrev main_v1345 : Ref sig .tc := ⟨.hbm, 1940, rfl⟩
abbrev main_v1346 : Ref sig .tc := ⟨.hbm, 1941, rfl⟩
abbrev main_v1347 : Ref sig .tc := ⟨.hbm, 1942, rfl⟩
abbrev main_v1348 : Ref sig .tc := ⟨.hbm, 1943, rfl⟩
abbrev main_c_345 : Ref sig .tc := ⟨.hbm, 1944, rfl⟩
abbrev main_v1349 : Ref sig .tc := ⟨.hbm, 1945, rfl⟩
abbrev main_v1350 : Ref sig .tc := ⟨.hbm, 1946, rfl⟩
abbrev main_c_346 : Ref sig .tc := ⟨.hbm, 1947, rfl⟩
abbrev main_v1351 : Ref sig .tc := ⟨.hbm, 1948, rfl⟩
abbrev main_v1352 : Ref sig .tc := ⟨.hbm, 1949, rfl⟩
abbrev main_v1353 : Ref sig .tc := ⟨.hbm, 1950, rfl⟩
abbrev main_v1354 : Ref sig .tc := ⟨.hbm, 1951, rfl⟩
abbrev main_v1355 : Ref sig .tc := ⟨.hbm, 1952, rfl⟩
abbrev main_c_347 : Ref sig .tc := ⟨.hbm, 1953, rfl⟩
abbrev main_v1356 : Ref sig .tc := ⟨.hbm, 1954, rfl⟩
abbrev main_v1357 : Ref sig .tc := ⟨.hbm, 1955, rfl⟩
abbrev main_c_348 : Ref sig .tc := ⟨.hbm, 1956, rfl⟩
abbrev main_v1358 : Ref sig .tc := ⟨.hbm, 1957, rfl⟩
abbrev main_v1359 : Ref sig .tc := ⟨.hbm, 1958, rfl⟩
abbrev main_v1360 : Ref sig .tc := ⟨.hbm, 1959, rfl⟩
abbrev main_v1361 : Ref sig .tc := ⟨.hbm, 1960, rfl⟩
abbrev main_v1362 : Ref sig .tc := ⟨.hbm, 1961, rfl⟩
abbrev main_v1363 : Ref sig .tc := ⟨.hbm, 1962, rfl⟩
abbrev main_v1364 : Ref sig .tc := ⟨.hbm, 1963, rfl⟩
abbrev main_v1365 : Ref sig .tc := ⟨.hbm, 1964, rfl⟩
abbrev main_v1366 : Ref sig .tc := ⟨.hbm, 1965, rfl⟩
abbrev main_v1367 : Ref sig .tc := ⟨.hbm, 1966, rfl⟩
abbrev main_v1368 : Ref sig .tc := ⟨.hbm, 1967, rfl⟩
abbrev main_v1369 : Ref sig .tc := ⟨.hbm, 1968, rfl⟩
abbrev main_v1370 : Ref sig .tc := ⟨.hbm, 1969, rfl⟩
abbrev main_v1371 : Ref sig .tc := ⟨.hbm, 1970, rfl⟩
abbrev main_v1372 : Ref sig .tc := ⟨.hbm, 1971, rfl⟩
abbrev main_v1373 : Ref sig .tc := ⟨.hbm, 1972, rfl⟩
abbrev main_c_349 : Ref sig .tc := ⟨.hbm, 1973, rfl⟩
abbrev main_v1374 : Ref sig .tc := ⟨.hbm, 1974, rfl⟩
abbrev main_v1375 : Ref sig .tc := ⟨.hbm, 1975, rfl⟩
abbrev main_v1376 : Ref sig .tc := ⟨.hbm, 1976, rfl⟩
abbrev main_v1377 : Ref sig .tc := ⟨.hbm, 1977, rfl⟩
abbrev main_v1378 : Ref sig .tc := ⟨.hbm, 1978, rfl⟩
abbrev main_call39_v0 : Ref sig .tc := ⟨.hbm, 1979, rfl⟩
abbrev main_call39_v1_0 : Ref sig .tc := ⟨.hbm, 1980, rfl⟩
abbrev main_v1379 : Ref sig .tc := ⟨.hbm, 1981, rfl⟩
abbrev main_c_350 : Ref sig .tc := ⟨.hbm, 1982, rfl⟩
abbrev main_v1380 : Ref sig .tc := ⟨.hbm, 1983, rfl⟩
abbrev main_v1381 : Ref sig .tc := ⟨.hbm, 1984, rfl⟩
abbrev main_c_351 : Ref sig .tc := ⟨.hbm, 1985, rfl⟩
abbrev main_v1382 : Ref sig .tc := ⟨.hbm, 1986, rfl⟩
abbrev main_v1383 : Ref sig .tc := ⟨.hbm, 1987, rfl⟩
abbrev main_v1384 : Ref sig .tc := ⟨.hbm, 1988, rfl⟩
abbrev main_v1385 : Ref sig .tc := ⟨.hbm, 1989, rfl⟩
abbrev main_v1386 : Ref sig .tc := ⟨.hbm, 1990, rfl⟩
abbrev main_c_352 : Ref sig .tc := ⟨.hbm, 1991, rfl⟩
abbrev main_v1387 : Ref sig .tc := ⟨.hbm, 1992, rfl⟩
abbrev main_v1388 : Ref sig .tc := ⟨.hbm, 1993, rfl⟩
abbrev main_c_353 : Ref sig .tc := ⟨.hbm, 1994, rfl⟩
abbrev main_v1389 : Ref sig .tc := ⟨.hbm, 1995, rfl⟩
abbrev main_v1390 : Ref sig .tc := ⟨.hbm, 1996, rfl⟩
abbrev main_v1391 : Ref sig .tc := ⟨.hbm, 1997, rfl⟩
abbrev main_v1392 : Ref sig .tc := ⟨.hbm, 1998, rfl⟩
abbrev main_v1393 : Ref sig .tc := ⟨.hbm, 1999, rfl⟩
abbrev main_v1394 : Ref sig .tc := ⟨.hbm, 2000, rfl⟩
abbrev main_v1395 : Ref sig .tc := ⟨.hbm, 2001, rfl⟩
abbrev main_v1396 : Ref sig .tc := ⟨.hbm, 2002, rfl⟩
abbrev main_v1397 : Ref sig .tc := ⟨.hbm, 2003, rfl⟩
abbrev main_v1398 : Ref sig .tc := ⟨.hbm, 2004, rfl⟩
abbrev main_c_354 : Ref sig .tc := ⟨.hbm, 2005, rfl⟩
abbrev main_call40_v0 : Ref sig .tc := ⟨.hbm, 2006, rfl⟩
abbrev main_call40_v1 : Ref sig .tc := ⟨.hbm, 2007, rfl⟩
abbrev main_call40_v2 : Ref sig .tc := ⟨.hbm, 2008, rfl⟩
abbrev main_call40_v3 : Ref sig .tc := ⟨.hbm, 2009, rfl⟩
abbrev main_call40_v4 : Ref sig .tc := ⟨.hbm, 2010, rfl⟩
abbrev main_call40_v5 : Ref sig .tc := ⟨.hbm, 2011, rfl⟩
abbrev main_call40_v6 : Ref sig .tc := ⟨.hbm, 2012, rfl⟩
abbrev main_call40_v7 : Ref sig .tc := ⟨.hbm, 2013, rfl⟩
abbrev main_call40_v8 : Ref sig .tc := ⟨.hbm, 2014, rfl⟩
abbrev main_call40_c : Ref sig .tc := ⟨.hbm, 2015, rfl⟩
abbrev main_call40_v9 : Ref sig .tc := ⟨.hbm, 2016, rfl⟩
abbrev main_call40_v10 : Ref sig .tc := ⟨.hbm, 2017, rfl⟩
abbrev main_call40_v11 : Ref sig .tc := ⟨.hbm, 2018, rfl⟩
abbrev main_call40_c_0 : Ref sig .tc := ⟨.hbm, 2019, rfl⟩
abbrev main_call40_v12 : Ref sig .tc := ⟨.hbm, 2020, rfl⟩
abbrev main_call40_v13 : Ref sig .tc := ⟨.hbm, 2021, rfl⟩
abbrev main_v1399 : Ref sig .tc := ⟨.hbm, 2022, rfl⟩
abbrev main_c_355 : Ref sig .tc := ⟨.hbm, 2023, rfl⟩
abbrev main_v1400 : Ref sig .tc := ⟨.hbm, 2024, rfl⟩
abbrev main_v1401 : Ref sig .tc := ⟨.hbm, 2025, rfl⟩
abbrev main_c_356 : Ref sig .tc := ⟨.hbm, 2026, rfl⟩
abbrev main_v1402 : Ref sig .tc := ⟨.hbm, 2027, rfl⟩
abbrev main_v1403 : Ref sig .tc := ⟨.hbm, 2028, rfl⟩
abbrev main_v1404 : Ref sig .tc := ⟨.hbm, 2029, rfl⟩
abbrev main_v1405 : Ref sig .tc := ⟨.hbm, 2030, rfl⟩
abbrev main_v1406 : Ref sig .tc := ⟨.hbm, 2031, rfl⟩
abbrev main_c_357 : Ref sig .tc := ⟨.hbm, 2032, rfl⟩
abbrev main_call41_v0 : Ref sig .tc := ⟨.hbm, 2033, rfl⟩
abbrev main_call41_c : Ref sig .tc := ⟨.hbm, 2034, rfl⟩
abbrev main_call41_v1 : Ref sig .tc := ⟨.hbm, 2035, rfl⟩
abbrev main_call41_c_0 : Ref sig .tc := ⟨.hbm, 2036, rfl⟩
abbrev main_call41_v2 : Ref sig .tc := ⟨.hbm, 2037, rfl⟩
abbrev main_call41_v3 : Ref sig .tc := ⟨.hbm, 2038, rfl⟩
abbrev main_call41_v4 : Ref sig .tc := ⟨.hbm, 2039, rfl⟩
abbrev main_call41_c_1 : Ref sig .tc := ⟨.hbm, 2040, rfl⟩
abbrev main_call41_v5 : Ref sig .tc := ⟨.hbm, 2041, rfl⟩
abbrev main_call41_v6 : Ref sig .tc := ⟨.hbm, 2042, rfl⟩
abbrev main_call41_c_2 : Ref sig .tc := ⟨.hbm, 2043, rfl⟩
abbrev main_call41_v7 : Ref sig .tc := ⟨.hbm, 2044, rfl⟩
abbrev main_call41_v8 : Ref sig .tc := ⟨.hbm, 2045, rfl⟩
abbrev main_call41_c_3 : Ref sig .tc := ⟨.hbm, 2046, rfl⟩
abbrev main_call41_v9 : Ref sig .tc := ⟨.hbm, 2047, rfl⟩
abbrev main_call41_v10 : Ref sig .tc := ⟨.hbm, 2048, rfl⟩
abbrev main_call41_v11 : Ref sig .tc := ⟨.hbm, 2049, rfl⟩
abbrev main_call41_v12 : Ref sig .tc := ⟨.hbm, 2050, rfl⟩
abbrev main_call41_v13 : Ref sig .tc := ⟨.hbm, 2051, rfl⟩
abbrev main_call41_v14 : Ref sig .tc := ⟨.hbm, 2052, rfl⟩
abbrev main_v1407 : Ref sig .tc := ⟨.hbm, 2053, rfl⟩
abbrev main_c_358 : Ref sig .tc := ⟨.hbm, 2054, rfl⟩
abbrev main_v1408 : Ref sig .tc := ⟨.hbm, 2055, rfl⟩
abbrev main_v1409 : Ref sig .tc := ⟨.hbm, 2056, rfl⟩
abbrev main_c_359 : Ref sig .tc := ⟨.hbm, 2057, rfl⟩
abbrev main_v1410 : Ref sig .tc := ⟨.hbm, 2058, rfl⟩
abbrev main_v1411 : Ref sig .tc := ⟨.hbm, 2059, rfl⟩
abbrev main_v1412 : Ref sig .tc := ⟨.hbm, 2060, rfl⟩
abbrev main_v1413 : Ref sig .tc := ⟨.hbm, 2061, rfl⟩
abbrev main_v1414 : Ref sig .tc := ⟨.hbm, 2062, rfl⟩
abbrev main_v1415 : Ref sig .tc := ⟨.hbm, 2063, rfl⟩
abbrev main_c_360 : Ref sig .tc := ⟨.hbm, 2064, rfl⟩
abbrev main_v1416 : Ref sig .tc := ⟨.hbm, 2065, rfl⟩
abbrev main_v1417 : Ref sig .tc := ⟨.hbm, 2066, rfl⟩
abbrev main_c_361 : Ref sig .tc := ⟨.hbm, 2067, rfl⟩
abbrev main_v1418 : Ref sig .tc := ⟨.hbm, 2068, rfl⟩
abbrev main_v1419 : Ref sig .tc := ⟨.hbm, 2069, rfl⟩
abbrev main_v1420 : Ref sig .tc := ⟨.hbm, 2070, rfl⟩
abbrev main_v1421 : Ref sig .tc := ⟨.hbm, 2071, rfl⟩
abbrev main_v1422 : Ref sig .tc := ⟨.hbm, 2072, rfl⟩
abbrev main_v1423 : Ref sig .tc := ⟨.hbm, 2073, rfl⟩
abbrev main_c_362 : Ref sig .tc := ⟨.hbm, 2074, rfl⟩
abbrev main_v1424 : Ref sig .tc := ⟨.hbm, 2075, rfl⟩
abbrev main_v1425 : Ref sig .tc := ⟨.hbm, 2076, rfl⟩
abbrev main_c_363 : Ref sig .tc := ⟨.hbm, 2077, rfl⟩
abbrev main_v1426 : Ref sig .tc := ⟨.hbm, 2078, rfl⟩
abbrev main_v1427 : Ref sig .tc := ⟨.hbm, 2079, rfl⟩
abbrev main_v1428 : Ref sig .tc := ⟨.hbm, 2080, rfl⟩
abbrev main_v1429 : Ref sig .tc := ⟨.hbm, 2081, rfl⟩
abbrev main_v1430 : Ref sig .tc := ⟨.hbm, 2082, rfl⟩
abbrev main_v1431 : Ref sig .tc := ⟨.hbm, 2083, rfl⟩
abbrev main_v1432 : Ref sig .tc := ⟨.hbm, 2084, rfl⟩
abbrev main_v1433 : Ref sig .tc := ⟨.hbm, 2085, rfl⟩
abbrev main_v1434 : Ref sig .tc := ⟨.hbm, 2086, rfl⟩
abbrev main_v1435 : Ref sig .tc := ⟨.hbm, 2087, rfl⟩
abbrev main_v1436 : Ref sig .tc := ⟨.hbm, 2088, rfl⟩
abbrev main_v1437 : Ref sig .tc := ⟨.hbm, 2089, rfl⟩
abbrev main_v1438 : Ref sig .tc := ⟨.hbm, 2090, rfl⟩
abbrev main_v1439 : Ref sig .tc := ⟨.hbm, 2091, rfl⟩
abbrev main_v1440 : Ref sig .tc := ⟨.hbm, 2092, rfl⟩
abbrev main_v1441 : Ref sig .tc := ⟨.hbm, 2093, rfl⟩
abbrev main_v1442 : Ref sig .tc := ⟨.hbm, 2094, rfl⟩
abbrev main_v1443 : Ref sig .tc := ⟨.hbm, 2095, rfl⟩
abbrev main_v1444 : Ref sig .tc := ⟨.hbm, 2096, rfl⟩
abbrev main_v1445 : Ref sig .tc := ⟨.hbm, 2097, rfl⟩
abbrev main_v1446 : Ref sig .tc := ⟨.hbm, 2098, rfl⟩
abbrev main_v1447 : Ref sig .tc := ⟨.hbm, 2099, rfl⟩
abbrev main_v1448 : Ref sig .tc := ⟨.hbm, 2100, rfl⟩
abbrev main_v1449 : Ref sig .tc := ⟨.hbm, 2101, rfl⟩
abbrev main_v1450 : Ref sig .tc := ⟨.hbm, 2102, rfl⟩
abbrev main_v1451 : Ref sig .tc := ⟨.hbm, 2103, rfl⟩
abbrev main_v1452 : Ref sig .tc := ⟨.hbm, 2104, rfl⟩
abbrev main_v1453 : Ref sig .tc := ⟨.hbm, 2105, rfl⟩
abbrev main_v1454 : Ref sig .tc := ⟨.hbm, 2106, rfl⟩
abbrev main_v1455 : Ref sig .tc := ⟨.hbm, 2107, rfl⟩
abbrev main_v1456 : Ref sig .tc := ⟨.hbm, 2108, rfl⟩
abbrev main_v1457 : Ref sig .tc := ⟨.hbm, 2109, rfl⟩
abbrev main_v1458 : Ref sig .tc := ⟨.hbm, 2110, rfl⟩
abbrev main_v1459 : Ref sig .tc := ⟨.hbm, 2111, rfl⟩
abbrev main_v1460 : Ref sig .tc := ⟨.hbm, 2112, rfl⟩
abbrev main_v1461 : Ref sig .tc := ⟨.hbm, 2113, rfl⟩
abbrev main_v1462 : Ref sig .tc := ⟨.hbm, 2114, rfl⟩
abbrev main_v1463 : Ref sig .tc := ⟨.hbm, 2115, rfl⟩
abbrev main_v1464 : Ref sig .tc := ⟨.hbm, 2116, rfl⟩
abbrev main_v1465 : Ref sig .tc := ⟨.hbm, 2117, rfl⟩
abbrev main_v1466 : Ref sig .tc := ⟨.hbm, 2118, rfl⟩
abbrev main_v1467 : Ref sig .tc := ⟨.hbm, 2119, rfl⟩
abbrev main_v1468 : Ref sig .tc := ⟨.hbm, 2120, rfl⟩
abbrev main_v1469 : Ref sig .tc := ⟨.hbm, 2121, rfl⟩
abbrev main_v1470 : Ref sig .tc := ⟨.hbm, 2122, rfl⟩
abbrev main_v1471 : Ref sig .tc := ⟨.hbm, 2123, rfl⟩
abbrev main_v1472 : Ref sig .tc := ⟨.hbm, 2124, rfl⟩
abbrev main_v1473 : Ref sig .tc := ⟨.hbm, 2125, rfl⟩
abbrev main_v1474 : Ref sig .tc := ⟨.hbm, 2126, rfl⟩
abbrev main_v1475 : Ref sig .tc := ⟨.hbm, 2127, rfl⟩
abbrev main_v1476 : Ref sig .tc := ⟨.hbm, 2128, rfl⟩
abbrev main_v1477 : Ref sig .tc := ⟨.hbm, 2129, rfl⟩
abbrev main_v1478 : Ref sig .tc := ⟨.hbm, 2130, rfl⟩
abbrev main_v1479 : Ref sig .tc := ⟨.hbm, 2131, rfl⟩
abbrev main_v1480 : Ref sig .tc := ⟨.hbm, 2132, rfl⟩
abbrev main_v1481 : Ref sig .tc := ⟨.hbm, 2133, rfl⟩
abbrev main_v1482 : Ref sig .tc := ⟨.hbm, 2134, rfl⟩
abbrev main_v1483 : Ref sig .tc := ⟨.hbm, 2135, rfl⟩
abbrev main_v1484 : Ref sig .tc := ⟨.hbm, 2136, rfl⟩
abbrev main_v1485 : Ref sig .tc := ⟨.hbm, 2137, rfl⟩
abbrev main_v1486 : Ref sig .tc := ⟨.hbm, 2138, rfl⟩
abbrev main_v1487 : Ref sig .tc := ⟨.hbm, 2139, rfl⟩
abbrev main_v1488 : Ref sig .tc := ⟨.hbm, 2140, rfl⟩
abbrev main_v1489 : Ref sig .tc := ⟨.hbm, 2141, rfl⟩
abbrev main_v1490 : Ref sig .tc := ⟨.hbm, 2142, rfl⟩
abbrev main_v1491 : Ref sig .tc := ⟨.hbm, 2143, rfl⟩
abbrev main_v1492 : Ref sig .tc := ⟨.hbm, 2144, rfl⟩
abbrev main_v1493 : Ref sig .tc := ⟨.hbm, 2145, rfl⟩
abbrev main_v1494 : Ref sig .tc := ⟨.hbm, 2146, rfl⟩
abbrev main_v1495 : Ref sig .tc := ⟨.hbm, 2147, rfl⟩
abbrev main_v1496 : Ref sig .tc := ⟨.hbm, 2148, rfl⟩
abbrev main_v1497 : Ref sig .tc := ⟨.hbm, 2149, rfl⟩
abbrev main_v1498 : Ref sig .tc := ⟨.hbm, 2150, rfl⟩
abbrev main_v1499 : Ref sig .tc := ⟨.hbm, 2151, rfl⟩
abbrev main_v1500 : Ref sig .tc := ⟨.hbm, 2152, rfl⟩
abbrev main_v1501 : Ref sig .tc := ⟨.hbm, 2153, rfl⟩
abbrev main_v1502 : Ref sig .tc := ⟨.hbm, 2154, rfl⟩
abbrev main_v1503 : Ref sig .tc := ⟨.hbm, 2155, rfl⟩
abbrev main_v1504 : Ref sig .tc := ⟨.hbm, 2156, rfl⟩
abbrev main_v1505 : Ref sig .tc := ⟨.hbm, 2157, rfl⟩
abbrev main_v1506 : Ref sig .tc := ⟨.hbm, 2158, rfl⟩
abbrev main_v1507 : Ref sig .tc := ⟨.hbm, 2159, rfl⟩
abbrev main_v1508 : Ref sig .tc := ⟨.hbm, 2160, rfl⟩
abbrev main_v1509 : Ref sig .tc := ⟨.hbm, 2161, rfl⟩
abbrev main_v1510 : Ref sig .tc := ⟨.hbm, 2162, rfl⟩
abbrev main_cst_364 : Ref sig .tc := ⟨.hbm, 2163, rfl⟩
abbrev main_v1511 : Ref sig .tc := ⟨.hbm, 2164, rfl⟩
abbrev main_cst_365 : Ref sig .tc := ⟨.hbm, 2165, rfl⟩
abbrev main_v1512 : Ref sig .tc := ⟨.hbm, 2166, rfl⟩
abbrev main_v1513 : Ref sig .tc := ⟨.hbm, 2167, rfl⟩
abbrev main_v1514 : Ref sig .tc := ⟨.hbm, 2168, rfl⟩
abbrev main_cst_366 : Ref sig .tc := ⟨.hbm, 2169, rfl⟩
abbrev main_v1515 : Ref sig .tc := ⟨.hbm, 2170, rfl⟩
abbrev main_v1516 : Ref sig .tc := ⟨.hbm, 2171, rfl⟩
abbrev main_v1517 : Ref sig .tc := ⟨.hbm, 2172, rfl⟩
abbrev main_cst_367 : Ref sig .tc := ⟨.hbm, 2173, rfl⟩
abbrev main_v1518 : Ref sig .tc := ⟨.hbm, 2174, rfl⟩
abbrev main_cst_368 : Ref sig .tc := ⟨.hbm, 2175, rfl⟩
abbrev main_v1519 : Ref sig .tc := ⟨.hbm, 2176, rfl⟩
abbrev main_v1520 : Ref sig .tc := ⟨.hbm, 2177, rfl⟩
abbrev main_v1521 : Ref sig .tc := ⟨.hbm, 2178, rfl⟩
abbrev main_cst_369 : Ref sig .tc := ⟨.hbm, 2179, rfl⟩
abbrev main_v1522 : Ref sig .tc := ⟨.hbm, 2180, rfl⟩
abbrev main_v1523 : Ref sig .tc := ⟨.hbm, 2181, rfl⟩
abbrev main_v1524 : Ref sig .tc := ⟨.hbm, 2182, rfl⟩
abbrev main_cst_370 : Ref sig .tc := ⟨.hbm, 2183, rfl⟩
abbrev main_v1525 : Ref sig .tc := ⟨.hbm, 2184, rfl⟩
abbrev main_v1526 : Ref sig .tc := ⟨.hbm, 2185, rfl⟩
abbrev main_v1527 : Ref sig .tc := ⟨.hbm, 2186, rfl⟩
abbrev main_cst_371 : Ref sig .tc := ⟨.hbm, 2187, rfl⟩
abbrev main_v1528 : Ref sig .tc := ⟨.hbm, 2188, rfl⟩
abbrev main_v1529 : Ref sig .tc := ⟨.hbm, 2189, rfl⟩
abbrev main_v1530 : Ref sig .tc := ⟨.hbm, 2190, rfl⟩
abbrev main_cst_372 : Ref sig .tc := ⟨.hbm, 2191, rfl⟩
abbrev main_v1531 : Ref sig .tc := ⟨.hbm, 2192, rfl⟩
abbrev main_cst_373 : Ref sig .tc := ⟨.hbm, 2193, rfl⟩
abbrev main_v1532 : Ref sig .tc := ⟨.hbm, 2194, rfl⟩
abbrev main_cst_374 : Ref sig .tc := ⟨.hbm, 2195, rfl⟩
abbrev main_v1533 : Ref sig .tc := ⟨.hbm, 2196, rfl⟩
abbrev main_cst_375 : Ref sig .tc := ⟨.hbm, 2197, rfl⟩
abbrev main_v1534 : Ref sig .tc := ⟨.hbm, 2198, rfl⟩
abbrev main_v1535 : Ref sig .tc := ⟨.hbm, 2199, rfl⟩
abbrev main_cst_376 : Ref sig .tc := ⟨.hbm, 2200, rfl⟩
abbrev main_call42_v0 : Ref sig .tc := ⟨.hbm, 2201, rfl⟩
abbrev main_v1536 : Ref sig .tc := ⟨.hbm, 2202, rfl⟩
abbrev main_v1537 : Ref sig .tc := ⟨.hbm, 2203, rfl⟩
abbrev main_v1538 : Ref sig .tc := ⟨.hbm, 2204, rfl⟩
abbrev main_v1539 : Ref sig .tc := ⟨.hbm, 2205, rfl⟩
abbrev main_v1540 : Ref sig .tc := ⟨.hbm, 2206, rfl⟩
abbrev main_v1541 : Ref sig .tc := ⟨.hbm, 2207, rfl⟩
abbrev main_c_377 : Ref sig .tc := ⟨.hbm, 2208, rfl⟩
abbrev main_v1542 : Ref sig .tc := ⟨.hbm, 2209, rfl⟩
abbrev main_v1543 : Ref sig .tc := ⟨.hbm, 2210, rfl⟩
abbrev main_c_378 : Ref sig .tc := ⟨.hbm, 2211, rfl⟩
abbrev main_v1544 : Ref sig .tc := ⟨.hbm, 2212, rfl⟩
abbrev main_v1545 : Ref sig .tc := ⟨.hbm, 2213, rfl⟩
abbrev main_v1546 : Ref sig .tc := ⟨.hbm, 2214, rfl⟩
abbrev main_v1547 : Ref sig .tc := ⟨.hbm, 2215, rfl⟩
abbrev main_v1548 : Ref sig .tc := ⟨.hbm, 2216, rfl⟩
abbrev main_c_379 : Ref sig .tc := ⟨.hbm, 2217, rfl⟩
abbrev main_v1549 : Ref sig .tc := ⟨.hbm, 2218, rfl⟩
abbrev main_v1550 : Ref sig .tc := ⟨.hbm, 2219, rfl⟩
abbrev main_c_380 : Ref sig .tc := ⟨.hbm, 2220, rfl⟩
abbrev main_v1551 : Ref sig .tc := ⟨.hbm, 2221, rfl⟩
abbrev main_v1552 : Ref sig .tc := ⟨.hbm, 2222, rfl⟩
abbrev main_v1553 : Ref sig .tc := ⟨.hbm, 2223, rfl⟩
abbrev main_v1554 : Ref sig .tc := ⟨.hbm, 2224, rfl⟩
abbrev main_v1555 : Ref sig .tc := ⟨.hbm, 2225, rfl⟩
abbrev main_c_381 : Ref sig .tc := ⟨.hbm, 2226, rfl⟩
abbrev main_v1556 : Ref sig .tc := ⟨.hbm, 2227, rfl⟩
abbrev main_v1557 : Ref sig .tc := ⟨.hbm, 2228, rfl⟩
abbrev main_c_382 : Ref sig .tc := ⟨.hbm, 2229, rfl⟩
abbrev main_v1558 : Ref sig .tc := ⟨.hbm, 2230, rfl⟩
abbrev main_v1559 : Ref sig .tc := ⟨.hbm, 2231, rfl⟩
abbrev main_v1560 : Ref sig .tc := ⟨.hbm, 2232, rfl⟩
abbrev main_v1561 : Ref sig .tc := ⟨.hbm, 2233, rfl⟩
abbrev main_v1562 : Ref sig .tc := ⟨.hbm, 2234, rfl⟩
abbrev main_v1563 : Ref sig .tc := ⟨.hbm, 2235, rfl⟩
abbrev main_v1564 : Ref sig .tc := ⟨.hbm, 2236, rfl⟩
abbrev main_v1565 : Ref sig .tc := ⟨.hbm, 2237, rfl⟩
abbrev main_v1566 : Ref sig .tc := ⟨.hbm, 2238, rfl⟩
abbrev main_v1567 : Ref sig .tc := ⟨.hbm, 2239, rfl⟩
abbrev main_v1568 : Ref sig .tc := ⟨.hbm, 2240, rfl⟩
abbrev main_v1569 : Ref sig .tc := ⟨.hbm, 2241, rfl⟩
abbrev main_v1570 : Ref sig .tc := ⟨.hbm, 2242, rfl⟩
abbrev main_v1571 : Ref sig .tc := ⟨.hbm, 2243, rfl⟩
abbrev main_v1572 : Ref sig .tc := ⟨.hbm, 2244, rfl⟩
abbrev main_v1573 : Ref sig .tc := ⟨.hbm, 2245, rfl⟩
abbrev main_c_383 : Ref sig .tc := ⟨.hbm, 2246, rfl⟩
abbrev main_v1574 : Ref sig .tc := ⟨.hbm, 2247, rfl⟩
abbrev main_v1575 : Ref sig .tc := ⟨.hbm, 2248, rfl⟩
abbrev main_v1576 : Ref sig .tc := ⟨.hbm, 2249, rfl⟩
abbrev main_v1577 : Ref sig .tc := ⟨.hbm, 2250, rfl⟩
abbrev main_v1578 : Ref sig .tc := ⟨.hbm, 2251, rfl⟩
abbrev main_call44_v0 : Ref sig .tc := ⟨.hbm, 2252, rfl⟩
abbrev main_call44_v1_0 : Ref sig .tc := ⟨.hbm, 2253, rfl⟩
abbrev main_v1579 : Ref sig .tc := ⟨.hbm, 2254, rfl⟩
abbrev main_c_384 : Ref sig .tc := ⟨.hbm, 2255, rfl⟩
abbrev main_v1580 : Ref sig .tc := ⟨.hbm, 2256, rfl⟩
abbrev main_v1581 : Ref sig .tc := ⟨.hbm, 2257, rfl⟩
abbrev main_c_385 : Ref sig .tc := ⟨.hbm, 2258, rfl⟩
abbrev main_v1582 : Ref sig .tc := ⟨.hbm, 2259, rfl⟩
abbrev main_v1583 : Ref sig .tc := ⟨.hbm, 2260, rfl⟩
abbrev main_v1584 : Ref sig .tc := ⟨.hbm, 2261, rfl⟩
abbrev main_v1585 : Ref sig .tc := ⟨.hbm, 2262, rfl⟩
abbrev main_v1586 : Ref sig .tc := ⟨.hbm, 2263, rfl⟩
abbrev main_c_386 : Ref sig .tc := ⟨.hbm, 2264, rfl⟩
abbrev main_v1587 : Ref sig .tc := ⟨.hbm, 2265, rfl⟩
abbrev main_v1588 : Ref sig .tc := ⟨.hbm, 2266, rfl⟩
abbrev main_c_387 : Ref sig .tc := ⟨.hbm, 2267, rfl⟩
abbrev main_v1589 : Ref sig .tc := ⟨.hbm, 2268, rfl⟩
abbrev main_v1590 : Ref sig .tc := ⟨.hbm, 2269, rfl⟩
abbrev main_v1591 : Ref sig .tc := ⟨.hbm, 2270, rfl⟩
abbrev main_v1592 : Ref sig .tc := ⟨.hbm, 2271, rfl⟩
abbrev main_v1593 : Ref sig .tc := ⟨.hbm, 2272, rfl⟩
abbrev main_v1594 : Ref sig .tc := ⟨.hbm, 2273, rfl⟩
abbrev main_v1595 : Ref sig .tc := ⟨.hbm, 2274, rfl⟩
abbrev main_v1596 : Ref sig .tc := ⟨.hbm, 2275, rfl⟩
abbrev main_v1597 : Ref sig .tc := ⟨.hbm, 2276, rfl⟩
abbrev main_v1598 : Ref sig .tc := ⟨.hbm, 2277, rfl⟩
abbrev main_c_388 : Ref sig .tc := ⟨.hbm, 2278, rfl⟩
abbrev main_call45_v0 : Ref sig .tc := ⟨.hbm, 2279, rfl⟩
abbrev main_call45_v1 : Ref sig .tc := ⟨.hbm, 2280, rfl⟩
abbrev main_call45_v2 : Ref sig .tc := ⟨.hbm, 2281, rfl⟩
abbrev main_call45_v3 : Ref sig .tc := ⟨.hbm, 2282, rfl⟩
abbrev main_call45_v4 : Ref sig .tc := ⟨.hbm, 2283, rfl⟩
abbrev main_call45_v5 : Ref sig .tc := ⟨.hbm, 2284, rfl⟩
abbrev main_call45_v6 : Ref sig .tc := ⟨.hbm, 2285, rfl⟩
abbrev main_call45_v7 : Ref sig .tc := ⟨.hbm, 2286, rfl⟩
abbrev main_call45_v8 : Ref sig .tc := ⟨.hbm, 2287, rfl⟩
abbrev main_call45_c : Ref sig .tc := ⟨.hbm, 2288, rfl⟩
abbrev main_call45_v9 : Ref sig .tc := ⟨.hbm, 2289, rfl⟩
abbrev main_call45_v10 : Ref sig .tc := ⟨.hbm, 2290, rfl⟩
abbrev main_call45_v11 : Ref sig .tc := ⟨.hbm, 2291, rfl⟩
abbrev main_call45_c_0 : Ref sig .tc := ⟨.hbm, 2292, rfl⟩
abbrev main_call45_v12 : Ref sig .tc := ⟨.hbm, 2293, rfl⟩
abbrev main_call45_v13 : Ref sig .tc := ⟨.hbm, 2294, rfl⟩
abbrev main_v1599 : Ref sig .tc := ⟨.hbm, 2295, rfl⟩
abbrev main_c_389 : Ref sig .tc := ⟨.hbm, 2296, rfl⟩
abbrev main_v1600 : Ref sig .tc := ⟨.hbm, 2297, rfl⟩
abbrev main_v1601 : Ref sig .tc := ⟨.hbm, 2298, rfl⟩
abbrev main_c_390 : Ref sig .tc := ⟨.hbm, 2299, rfl⟩
abbrev main_v1602 : Ref sig .tc := ⟨.hbm, 2300, rfl⟩
abbrev main_v1603 : Ref sig .tc := ⟨.hbm, 2301, rfl⟩
abbrev main_v1604 : Ref sig .tc := ⟨.hbm, 2302, rfl⟩
abbrev main_v1605 : Ref sig .tc := ⟨.hbm, 2303, rfl⟩
abbrev main_v1606 : Ref sig .tc := ⟨.hbm, 2304, rfl⟩
abbrev main_c_391 : Ref sig .tc := ⟨.hbm, 2305, rfl⟩
abbrev main_call46_v0 : Ref sig .tc := ⟨.hbm, 2306, rfl⟩
abbrev main_call46_c : Ref sig .tc := ⟨.hbm, 2307, rfl⟩
abbrev main_call46_v1 : Ref sig .tc := ⟨.hbm, 2308, rfl⟩
abbrev main_call46_c_0 : Ref sig .tc := ⟨.hbm, 2309, rfl⟩
abbrev main_call46_v2 : Ref sig .tc := ⟨.hbm, 2310, rfl⟩
abbrev main_call46_v3 : Ref sig .tc := ⟨.hbm, 2311, rfl⟩
abbrev main_call46_v4 : Ref sig .tc := ⟨.hbm, 2312, rfl⟩
abbrev main_call46_c_1 : Ref sig .tc := ⟨.hbm, 2313, rfl⟩
abbrev main_call46_v5 : Ref sig .tc := ⟨.hbm, 2314, rfl⟩
abbrev main_call46_v6 : Ref sig .tc := ⟨.hbm, 2315, rfl⟩
abbrev main_call46_c_2 : Ref sig .tc := ⟨.hbm, 2316, rfl⟩
abbrev main_call46_v7 : Ref sig .tc := ⟨.hbm, 2317, rfl⟩
abbrev main_call46_v8 : Ref sig .tc := ⟨.hbm, 2318, rfl⟩
abbrev main_call46_c_3 : Ref sig .tc := ⟨.hbm, 2319, rfl⟩
abbrev main_call46_v9 : Ref sig .tc := ⟨.hbm, 2320, rfl⟩
abbrev main_call46_v10 : Ref sig .tc := ⟨.hbm, 2321, rfl⟩
abbrev main_call46_v11 : Ref sig .tc := ⟨.hbm, 2322, rfl⟩
abbrev main_call46_v12 : Ref sig .tc := ⟨.hbm, 2323, rfl⟩
abbrev main_call46_v13 : Ref sig .tc := ⟨.hbm, 2324, rfl⟩
abbrev main_call46_v14 : Ref sig .tc := ⟨.hbm, 2325, rfl⟩
abbrev main_v1607 : Ref sig .tc := ⟨.hbm, 2326, rfl⟩
abbrev main_c_392 : Ref sig .tc := ⟨.hbm, 2327, rfl⟩
abbrev main_v1608 : Ref sig .tc := ⟨.hbm, 2328, rfl⟩
abbrev main_v1609 : Ref sig .tc := ⟨.hbm, 2329, rfl⟩
abbrev main_c_393 : Ref sig .tc := ⟨.hbm, 2330, rfl⟩
abbrev main_v1610 : Ref sig .tc := ⟨.hbm, 2331, rfl⟩
abbrev main_v1611 : Ref sig .tc := ⟨.hbm, 2332, rfl⟩
abbrev main_v1612 : Ref sig .tc := ⟨.hbm, 2333, rfl⟩
abbrev main_v1613 : Ref sig .tc := ⟨.hbm, 2334, rfl⟩
abbrev main_v1614 : Ref sig .tc := ⟨.hbm, 2335, rfl⟩
abbrev main_v1615 : Ref sig .tc := ⟨.hbm, 2336, rfl⟩
abbrev main_c_394 : Ref sig .tc := ⟨.hbm, 2337, rfl⟩
abbrev main_v1616 : Ref sig .tc := ⟨.hbm, 2338, rfl⟩
abbrev main_v1617 : Ref sig .tc := ⟨.hbm, 2339, rfl⟩
abbrev main_c_395 : Ref sig .tc := ⟨.hbm, 2340, rfl⟩
abbrev main_v1618 : Ref sig .tc := ⟨.hbm, 2341, rfl⟩
abbrev main_v1619 : Ref sig .tc := ⟨.hbm, 2342, rfl⟩
abbrev main_v1620 : Ref sig .tc := ⟨.hbm, 2343, rfl⟩
abbrev main_v1621 : Ref sig .tc := ⟨.hbm, 2344, rfl⟩
abbrev main_v1622 : Ref sig .tc := ⟨.hbm, 2345, rfl⟩
abbrev main_v1623 : Ref sig .tc := ⟨.hbm, 2346, rfl⟩
abbrev main_c_396 : Ref sig .tc := ⟨.hbm, 2347, rfl⟩
abbrev main_v1624 : Ref sig .tc := ⟨.hbm, 2348, rfl⟩
abbrev main_v1625 : Ref sig .tc := ⟨.hbm, 2349, rfl⟩
abbrev main_c_397 : Ref sig .tc := ⟨.hbm, 2350, rfl⟩
abbrev main_v1626 : Ref sig .tc := ⟨.hbm, 2351, rfl⟩
abbrev main_v1627 : Ref sig .tc := ⟨.hbm, 2352, rfl⟩
abbrev main_v1628 : Ref sig .tc := ⟨.hbm, 2353, rfl⟩
abbrev main_v1629 : Ref sig .tc := ⟨.hbm, 2354, rfl⟩
abbrev main_v1630 : Ref sig .tc := ⟨.hbm, 2355, rfl⟩
abbrev main_v1631 : Ref sig .tc := ⟨.hbm, 2356, rfl⟩
abbrev main_v1632 : Ref sig .tc := ⟨.hbm, 2357, rfl⟩
abbrev main_v1633 : Ref sig .tc := ⟨.hbm, 2358, rfl⟩
abbrev main_v1634 : Ref sig .tc := ⟨.hbm, 2359, rfl⟩
abbrev main_v1635 : Ref sig .tc := ⟨.hbm, 2360, rfl⟩
abbrev main_v1636 : Ref sig .tc := ⟨.hbm, 2361, rfl⟩
abbrev main_v1637 : Ref sig .tc := ⟨.hbm, 2362, rfl⟩
abbrev main_v1638 : Ref sig .tc := ⟨.hbm, 2363, rfl⟩
abbrev main_v1639 : Ref sig .tc := ⟨.hbm, 2364, rfl⟩
abbrev main_v1640 : Ref sig .tc := ⟨.hbm, 2365, rfl⟩
abbrev main_v1641 : Ref sig .tc := ⟨.hbm, 2366, rfl⟩
abbrev main_v1642 : Ref sig .tc := ⟨.hbm, 2367, rfl⟩
abbrev main_v1643 : Ref sig .tc := ⟨.hbm, 2368, rfl⟩
abbrev main_v1644 : Ref sig .tc := ⟨.hbm, 2369, rfl⟩
abbrev main_v1645 : Ref sig .tc := ⟨.hbm, 2370, rfl⟩
abbrev main_v1646 : Ref sig .tc := ⟨.hbm, 2371, rfl⟩
abbrev main_v1647 : Ref sig .tc := ⟨.hbm, 2372, rfl⟩
abbrev main_v1648 : Ref sig .tc := ⟨.hbm, 2373, rfl⟩
abbrev main_v1649 : Ref sig .tc := ⟨.hbm, 2374, rfl⟩
abbrev main_v1650 : Ref sig .tc := ⟨.hbm, 2375, rfl⟩
abbrev main_v1651 : Ref sig .tc := ⟨.hbm, 2376, rfl⟩
abbrev main_v1652 : Ref sig .tc := ⟨.hbm, 2377, rfl⟩
abbrev main_v1653 : Ref sig .tc := ⟨.hbm, 2378, rfl⟩
abbrev main_v1654 : Ref sig .tc := ⟨.hbm, 2379, rfl⟩
abbrev main_v1655 : Ref sig .tc := ⟨.hbm, 2380, rfl⟩
abbrev main_v1656 : Ref sig .tc := ⟨.hbm, 2381, rfl⟩
abbrev main_v1657 : Ref sig .tc := ⟨.hbm, 2382, rfl⟩
abbrev main_v1658 : Ref sig .tc := ⟨.hbm, 2383, rfl⟩
abbrev main_v1659 : Ref sig .tc := ⟨.hbm, 2384, rfl⟩
abbrev main_v1660 : Ref sig .tc := ⟨.hbm, 2385, rfl⟩
abbrev main_v1661 : Ref sig .tc := ⟨.hbm, 2386, rfl⟩
abbrev main_v1662 : Ref sig .tc := ⟨.hbm, 2387, rfl⟩
abbrev main_v1663 : Ref sig .tc := ⟨.hbm, 2388, rfl⟩
abbrev main_v1664 : Ref sig .tc := ⟨.hbm, 2389, rfl⟩
abbrev main_v1665 : Ref sig .tc := ⟨.hbm, 2390, rfl⟩
abbrev main_v1666 : Ref sig .tc := ⟨.hbm, 2391, rfl⟩
abbrev main_v1667 : Ref sig .tc := ⟨.hbm, 2392, rfl⟩
abbrev main_v1668 : Ref sig .tc := ⟨.hbm, 2393, rfl⟩
abbrev main_v1669 : Ref sig .tc := ⟨.hbm, 2394, rfl⟩
abbrev main_v1670 : Ref sig .tc := ⟨.hbm, 2395, rfl⟩
abbrev main_v1671 : Ref sig .tc := ⟨.hbm, 2396, rfl⟩
abbrev main_v1672 : Ref sig .tc := ⟨.hbm, 2397, rfl⟩
abbrev main_v1673 : Ref sig .tc := ⟨.hbm, 2398, rfl⟩
abbrev main_v1674 : Ref sig .tc := ⟨.hbm, 2399, rfl⟩
abbrev main_v1675 : Ref sig .tc := ⟨.hbm, 2400, rfl⟩
abbrev main_v1676 : Ref sig .tc := ⟨.hbm, 2401, rfl⟩
abbrev main_v1677 : Ref sig .tc := ⟨.hbm, 2402, rfl⟩
abbrev main_v1678 : Ref sig .tc := ⟨.hbm, 2403, rfl⟩
abbrev main_v1679 : Ref sig .tc := ⟨.hbm, 2404, rfl⟩
abbrev main_v1680 : Ref sig .tc := ⟨.hbm, 2405, rfl⟩
abbrev main_v1681 : Ref sig .tc := ⟨.hbm, 2406, rfl⟩
abbrev main_v1682 : Ref sig .tc := ⟨.hbm, 2407, rfl⟩
abbrev main_v1683 : Ref sig .tc := ⟨.hbm, 2408, rfl⟩
abbrev main_v1684 : Ref sig .tc := ⟨.hbm, 2409, rfl⟩
abbrev main_v1685 : Ref sig .tc := ⟨.hbm, 2410, rfl⟩
abbrev main_v1686 : Ref sig .tc := ⟨.hbm, 2411, rfl⟩
abbrev main_v1687 : Ref sig .tc := ⟨.hbm, 2412, rfl⟩
abbrev main_v1688 : Ref sig .tc := ⟨.hbm, 2413, rfl⟩
abbrev main_v1689 : Ref sig .tc := ⟨.hbm, 2414, rfl⟩
abbrev main_v1690 : Ref sig .tc := ⟨.hbm, 2415, rfl⟩
abbrev main_v1691 : Ref sig .tc := ⟨.hbm, 2416, rfl⟩
abbrev main_v1692 : Ref sig .tc := ⟨.hbm, 2417, rfl⟩
abbrev main_v1693 : Ref sig .tc := ⟨.hbm, 2418, rfl⟩
abbrev main_v1694 : Ref sig .tc := ⟨.hbm, 2419, rfl⟩
abbrev main_v1695 : Ref sig .tc := ⟨.hbm, 2420, rfl⟩
abbrev main_v1696 : Ref sig .tc := ⟨.hbm, 2421, rfl⟩
abbrev main_v1697 : Ref sig .tc := ⟨.hbm, 2422, rfl⟩
abbrev main_v1698 : Ref sig .tc := ⟨.hbm, 2423, rfl⟩
abbrev main_v1699 : Ref sig .tc := ⟨.hbm, 2424, rfl⟩
abbrev main_v1700 : Ref sig .tc := ⟨.hbm, 2425, rfl⟩
abbrev main_v1701 : Ref sig .tc := ⟨.hbm, 2426, rfl⟩
abbrev main_v1702 : Ref sig .tc := ⟨.hbm, 2427, rfl⟩
abbrev main_v1703 : Ref sig .tc := ⟨.hbm, 2428, rfl⟩
abbrev main_v1704 : Ref sig .tc := ⟨.hbm, 2429, rfl⟩
abbrev main_v1705 : Ref sig .tc := ⟨.hbm, 2430, rfl⟩
abbrev main_v1706 : Ref sig .tc := ⟨.hbm, 2431, rfl⟩
abbrev main_v1707 : Ref sig .tc := ⟨.hbm, 2432, rfl⟩
abbrev main_v1708 : Ref sig .tc := ⟨.hbm, 2433, rfl⟩
abbrev main_v1709 : Ref sig .tc := ⟨.hbm, 2434, rfl⟩
abbrev main_v1710 : Ref sig .tc := ⟨.hbm, 2435, rfl⟩
abbrev main_cst_398 : Ref sig .tc := ⟨.hbm, 2436, rfl⟩
abbrev main_v1711 : Ref sig .tc := ⟨.hbm, 2437, rfl⟩
abbrev main_cst_399 : Ref sig .tc := ⟨.hbm, 2438, rfl⟩
abbrev main_v1712 : Ref sig .tc := ⟨.hbm, 2439, rfl⟩
abbrev main_v1713 : Ref sig .tc := ⟨.hbm, 2440, rfl⟩
abbrev main_v1714 : Ref sig .tc := ⟨.hbm, 2441, rfl⟩
abbrev main_cst_400 : Ref sig .tc := ⟨.hbm, 2442, rfl⟩
abbrev main_v1715 : Ref sig .tc := ⟨.hbm, 2443, rfl⟩
abbrev main_v1716 : Ref sig .tc := ⟨.hbm, 2444, rfl⟩
abbrev main_v1717 : Ref sig .tc := ⟨.hbm, 2445, rfl⟩
abbrev main_cst_401 : Ref sig .tc := ⟨.hbm, 2446, rfl⟩
abbrev main_v1718 : Ref sig .tc := ⟨.hbm, 2447, rfl⟩
abbrev main_cst_402 : Ref sig .tc := ⟨.hbm, 2448, rfl⟩
abbrev main_v1719 : Ref sig .tc := ⟨.hbm, 2449, rfl⟩
abbrev main_v1720 : Ref sig .tc := ⟨.hbm, 2450, rfl⟩
abbrev main_v1721 : Ref sig .tc := ⟨.hbm, 2451, rfl⟩
abbrev main_cst_403 : Ref sig .tc := ⟨.hbm, 2452, rfl⟩
abbrev main_v1722 : Ref sig .tc := ⟨.hbm, 2453, rfl⟩
abbrev main_v1723 : Ref sig .tc := ⟨.hbm, 2454, rfl⟩
abbrev main_v1724 : Ref sig .tc := ⟨.hbm, 2455, rfl⟩
abbrev main_cst_404 : Ref sig .tc := ⟨.hbm, 2456, rfl⟩
abbrev main_v1725 : Ref sig .tc := ⟨.hbm, 2457, rfl⟩
abbrev main_v1726 : Ref sig .tc := ⟨.hbm, 2458, rfl⟩
abbrev main_v1727 : Ref sig .tc := ⟨.hbm, 2459, rfl⟩
abbrev main_cst_405 : Ref sig .tc := ⟨.hbm, 2460, rfl⟩
abbrev main_v1728 : Ref sig .tc := ⟨.hbm, 2461, rfl⟩
abbrev main_v1729 : Ref sig .tc := ⟨.hbm, 2462, rfl⟩
abbrev main_v1730 : Ref sig .tc := ⟨.hbm, 2463, rfl⟩
abbrev main_cst_406 : Ref sig .tc := ⟨.hbm, 2464, rfl⟩
abbrev main_v1731 : Ref sig .tc := ⟨.hbm, 2465, rfl⟩
abbrev main_cst_407 : Ref sig .tc := ⟨.hbm, 2466, rfl⟩
abbrev main_v1732 : Ref sig .tc := ⟨.hbm, 2467, rfl⟩
abbrev main_cst_408 : Ref sig .tc := ⟨.hbm, 2468, rfl⟩
abbrev main_v1733 : Ref sig .tc := ⟨.hbm, 2469, rfl⟩
abbrev main_cst_409 : Ref sig .tc := ⟨.hbm, 2470, rfl⟩
abbrev main_v1734 : Ref sig .tc := ⟨.hbm, 2471, rfl⟩
abbrev main_v1735 : Ref sig .tc := ⟨.hbm, 2472, rfl⟩
abbrev main_cst_410 : Ref sig .tc := ⟨.hbm, 2473, rfl⟩
abbrev main_call47_v0 : Ref sig .tc := ⟨.hbm, 2474, rfl⟩
abbrev main_v1736 : Ref sig .tc := ⟨.hbm, 2475, rfl⟩
abbrev main_v1737 : Ref sig .tc := ⟨.hbm, 2476, rfl⟩
abbrev main_cst_411 : Ref sig .tc := ⟨.hbm, 2477, rfl⟩
abbrev main_v1738 : Ref sig .tc := ⟨.hbm, 2478, rfl⟩

abbrev nD : Nat := 1
abbrev τ : Topo := Topo.v7x

variable {F : FTy → Type} [FloatOps F]
-- ==== Chamfer.lean ====
abbrev S4x2048x3 : Shape := ⟨3, ![4, 2048, 3]⟩
abbrev S8 : Shape := ⟨1, ![8]⟩
abbrev S_ : Shape := ⟨0, ![]⟩
abbrev S4x2048 : Shape := ⟨2, ![4, 2048]⟩
abbrev S4x2048x1 : Shape := ⟨3, ![4, 2048, 1]⟩
abbrev S4x2048x8 : Shape := ⟨3, ![4, 2048, 8]⟩
abbrev S4x2047x3 : Shape := ⟨3, ![4, 2047, 3]⟩
abbrev S4x2047 : Shape := ⟨2, ![4, 2047]⟩
abbrev S4x2047x1 : Shape := ⟨3, ![4, 2047, 1]⟩
abbrev S4x2047x8 : Shape := ⟨3, ![4, 2047, 8]⟩
abbrev S4x1x8 : Shape := ⟨3, ![4, 1, 8]⟩
abbrev S1x4x2048x8 : Shape := ⟨4, ![1, 4, 2048, 8]⟩
abbrev S2x4x2048x8 : Shape := ⟨4, ![2, 4, 2048, 8]⟩
abbrev S2x4x1x1 : Shape := ⟨4, ![2, 4, 1, 1]⟩
abbrev S1x1x2048x8 : Shape := ⟨4, ![1, 1, 2048, 8]⟩
abbrev S1x1x1x1 : Shape := ⟨4, ![1, 1, 1, 1]⟩
abbrev S2048x8 : Shape := ⟨2, ![2048, 8]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩
abbrev S1x2048x1 : Shape := ⟨3, ![1, 2048, 1]⟩
abbrev S1 : Shape := ⟨1, ![1]⟩
abbrev S1x1x1 : Shape := ⟨3, ![1, 1, 1]⟩
abbrev S1x1x2048 : Shape := ⟨3, ![1, 1, 2048]⟩
abbrev S1x4x1x1 : Shape := ⟨4, ![1, 4, 1, 1]⟩
abbrev S4x1x1 : Shape := ⟨3, ![4, 1, 1]⟩

abbrev nBuf : Space → Nat
  | .hbm => 75
  | .vmem => 6
  | .smem => 0
  | _ => 0

abbrev bufTy : (tb : Table) → Fin (tcTables nBuf tb) → BufTy
  | .hbm, ⟨0, _⟩ => ⟨S4x2048x3, .f32⟩
  | .hbm, ⟨1, _⟩ => ⟨S4x2048x3, .f32⟩
  | .hbm, ⟨2, _⟩ => ⟨S8, .f32⟩
  | .hbm, ⟨3, _⟩ => ⟨S8, .f32⟩
  | .hbm, ⟨4, _⟩ => ⟨S4x2048x3, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S_, .f32⟩
  | .hbm, ⟨11, _⟩ => ⟨S4x2048x3, .f32⟩
  | .hbm, ⟨12, _⟩ => ⟨S_, .f32⟩
  | .hbm, ⟨13, _⟩ => ⟨S4x2048x3, .f32⟩
  | .hbm, ⟨14, _⟩ => ⟨S4x2048x3, .f32⟩
  | .hbm, ⟨15, _⟩ => ⟨S4x2048x8, .f32⟩
  | .hbm, ⟨16, _⟩ => ⟨S4x2048x3, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S_, .f32⟩
  | .hbm, ⟨23, _⟩ => ⟨S4x2048x3, .f32⟩
  | .hbm, ⟨24, _⟩ => ⟨S4x2048x8, .f32⟩
  | .hbm, ⟨25, _⟩ => ⟨S4x2047x3, .f32⟩
  | .hbm, ⟨26, _⟩ => ⟨S4x2047x3, .f32⟩
  | .hbm, ⟨27, _⟩ => ⟨S4x2047x3, .f32⟩
  | .hbm, ⟨28, _⟩ => ⟨S4x2047x3, .f32⟩
  | .hbm, ⟨29, _⟩ => ⟨S4x2047x3, .f32⟩
  | .hbm, ⟨30, _⟩ => ⟨S4x2047x3, .f32⟩
  | .hbm, ⟨31, _⟩ => ⟨S4x2047x3, .f32⟩
  | .hbm, ⟨32, _⟩ => ⟨S_, .f32⟩
  | .hbm, ⟨33, _⟩ => ⟨S4x2047, .f32⟩
  | .hbm, ⟨34, _⟩ => ⟨S4x2047x1, .f32⟩
  | .hbm, ⟨35, _⟩ => ⟨S_, .f32⟩
  | .hbm, ⟨36, _⟩ => ⟨S4x2047x1, .f32⟩
  | .hbm, ⟨37, _⟩ => ⟨S_, .f32⟩
  | .hbm, ⟨38, _⟩ => ⟨S4x2047x3, .f32⟩
  | .hbm, ⟨39, _⟩ => ⟨S_, .f32⟩
  | .hbm, ⟨40, _⟩ => ⟨S4x2047x3, .f32⟩
  | .hbm, ⟨41, _⟩ => ⟨S4x2047x3, .f32⟩
  | .hbm, ⟨42, _⟩ => ⟨S4x2047x8, .f32⟩
  | .hbm, ⟨43, _⟩ => ⟨S4x1x8, .f32⟩
  | .hbm, ⟨44, _⟩ => ⟨S4x2048x8, .f32⟩
  | .hbm, ⟨45, _⟩ => ⟨S4x2047x3, .f32⟩
  | .hbm, ⟨46, _⟩ => ⟨S_, .f32⟩
  | .hbm, ⟨47, _⟩ => ⟨S4x2047, .f32⟩
  | .hbm, ⟨48, _⟩ => ⟨S4x2047x1, .f32⟩
  | .hbm, ⟨49, _⟩ => ⟨S_, .f32⟩
  | .hbm, ⟨50, _⟩ => ⟨S4x2047x1, .f32⟩
  | .hbm, ⟨51, _⟩ => ⟨S_, .f32⟩
  | .hbm, ⟨52, _⟩ => ⟨S4x2047x3, .f32⟩
  | .hbm, ⟨53, _⟩ => ⟨S4x2047x8, .f32⟩
  | .hbm, ⟨54, _⟩ => ⟨S4x1x8, .f32⟩
  | .hbm, ⟨55, _⟩ => ⟨S4x2048x8, .f32⟩
  | .hbm, ⟨56, _⟩ => ⟨S1x4x2048x8, .f32⟩
  | .hbm, ⟨57, _⟩ => ⟨S1x4x2048x8, .f32⟩
  | .hbm, ⟨58, _⟩ => ⟨S2x4x2048x8, .f32⟩
  | .hbm, ⟨59, _⟩ => ⟨S1x4x2048x8, .f32⟩
  | .hbm, ⟨60, _⟩ => ⟨S1x4x2048x8, .f32⟩
  | .hbm, ⟨61, _⟩ => ⟨S2x4x2048x8, .f32⟩
  | .hbm, ⟨62, _⟩ => ⟨S2x4x1x1, .f32⟩
  | .hbm, ⟨63, _⟩ => ⟨S1x4x1x1, .f32⟩
  | .hbm, ⟨64, _⟩ => ⟨S4x1x1, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x4x1x1, .f32⟩
  | .hbm, ⟨70, _⟩ => ⟨S4x1x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S1x1x2048x8, .f32⟩
  | .local _ .vmem, ⟨1, _⟩ => ⟨S1x1x2048x8, .f32⟩
  | .local _ .vmem, ⟨2, _⟩ => ⟨S1x1x2048x8, .f32⟩
  | .local _ .vmem, ⟨3, _⟩ => ⟨S1x1x2048x8, .f32⟩
  | .local _ .vmem, ⟨4, _⟩ => ⟨S1x1x1x1, .f32⟩
  | .local _ .vmem, ⟨5, _⟩ => ⟨S1x1x1x1, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_cst_3 : Ref sig .tc := ⟨.hbm, 10, rfl⟩
abbrev main_v4 : Ref sig .tc := ⟨.hbm, 11, rfl⟩
abbrev main_cst_4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_cst_7 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_cst_10 : Ref sig .tc := ⟨.hbm, 37, rfl⟩
abbrev main_v24 : Ref sig .tc := ⟨.hbm, 38, rfl⟩
abbrev main_cst_11 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_v32 : Ref sig .tc := ⟨.hbm, 48, rfl⟩
abbrev main_cst_13 : Ref sig .tc := ⟨.hbm, 49, rfl⟩
abbrev main_v33 : Ref sig .tc := ⟨.hbm, 50, rfl⟩
abbrev main_cst_14 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_cst_16 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_17 : Ref sig .tc := ⟨.hbm, 71, rfl⟩
abbrev main_v51 : Ref sig .tc := ⟨.hbm, 72, rfl⟩
abbrev main_cst_18 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChamferReferenceIdeal.lean ====
abbrev S4x2048x3 : Shape := ⟨3, ![4, 2048, 3]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4 : Shape := ⟨1, ![4]⟩
abbrev S4x2047x3 : Shape := ⟨3, ![4, 2047, 3]⟩
abbrev S4x2047 : Shape := ⟨2, ![4, 2047]⟩
abbrev S4x2047x1 : Shape := ⟨3, ![4, 2047, 1]⟩
abbrev S4x1x2047 : Shape := ⟨3, ![4, 1, 2047]⟩
abbrev S4x2047x2047 : Shape := ⟨3, ![4, 2047, 2047]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x2048x3, .f32⟩
  | .hbm, ⟨2, _⟩ => ⟨S4x2048x3, .f32⟩
  | .hbm, ⟨3, _⟩ => ⟨S_, .f32⟩
  | .hbm, ⟨4, _⟩ => ⟨S4x2048, .f32⟩
  | .hbm, ⟨5, _⟩ => ⟨S4x2048x3, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S4x1x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4x2048, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x2047x3, .f32⟩
  | .hbm, ⟨38, _⟩ => ⟨S4x2047x3, .f32⟩
  | .hbm, ⟨39, _⟩ => ⟨S4x2047x3, .f32⟩
  | .hbm, ⟨40, _⟩ => ⟨S4x2047x3, .f32⟩
  | .hbm, ⟨41, _⟩ => ⟨S4x2047x3, .f32⟩
  | .hbm, ⟨42, _⟩ => ⟨S4x2047x3, .f32⟩
  | .hbm, ⟨43, _⟩ => ⟨S4x2047x3, .f32⟩
  | .hbm, ⟨44, _⟩ => ⟨S_, .f32⟩
  | .hbm, ⟨45, _⟩ => ⟨S4x2047, .f32⟩
  | .hbm, ⟨46, _⟩ => ⟨S4x2047x3, .f32⟩
  | .hbm, ⟨47, _⟩ => ⟨S_, .f32⟩
  | .hbm, ⟨48, _⟩ => ⟨S4x2047, .f32⟩
  | .hbm, ⟨49, _⟩ => ⟨S4x2047x1, .f32⟩
  | .hbm, ⟨50, _⟩ => ⟨S4x1x2047, .f32⟩
  | .hbm, ⟨51, _⟩ => ⟨S4x2047x2047, .f32⟩
  | .hbm, ⟨52, _⟩ => ⟨S4x2047x2047, .f32⟩
  | .hbm, ⟨53, _⟩ => ⟨S4x2047x2047, .f32⟩
  | .hbm, ⟨54, _⟩ => ⟨S4x2047x2047, .f32⟩
  | .hbm, ⟨55, _⟩ => ⟨S_, .f32⟩
  | .hbm, ⟨56, _⟩ => ⟨S4x2047x2047, .f32⟩
  | .hbm, ⟨57, _⟩ => ⟨S4x2047x2047, .f32⟩
  | .hbm, ⟨58, _⟩ => ⟨S4x2047x2047, .f32⟩
  | .hbm, ⟨59, _⟩ => ⟨S_, .f32⟩
  | .hbm, ⟨60, _⟩ => ⟨S4x2047, .f32⟩
  | .hbm, ⟨61, _⟩ => ⟨S_, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4x2047, .f32⟩
  | .hbm, ⟨68, _⟩ => ⟨S_, .f32⟩
  | .hbm, ⟨69, _⟩ => ⟨S4, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_cst_14 : Ref sig .tc := ⟨.hbm, 61, rfl⟩
abbrev main_v44 : Ref sig .tc := ⟨.hbm, 62, rfl⟩
abbrev main_cst_15 : Ref sig .tc := ⟨.hbm, 63, rfl⟩
abbrev main_v45 : Ref sig .tc := ⟨.hbm, 64, rfl⟩
abbrev main_v46 : Ref sig .tc := ⟨.hbm, 65, rfl⟩
abbrev main_cst_16 : Ref sig .tc := ⟨.hbm, 66, rfl⟩
abbrev main_v47 : Ref sig .tc := ⟨.hbm, 67, rfl⟩
abbrev main_cst_17 : Ref sig .tc := ⟨.hbm, 68, rfl⟩
abbrev main_v48 : Ref sig .tc := ⟨.hbm, 69, rfl⟩
abbrev main_cst_18 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_19 : Ref sig .tc := ⟨.hbm, 74, rfl⟩
abbrev main_v52 : Ref sig .tc := ⟨.hbm, 75, rfl⟩
abbrev main_cst_20 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Proof.LocalRun.lean ====
/-
  A pure account of what a vector subcore does between two barriers.

  A tile that only reads and writes memory it holds, copies between such memory one copy at a time (each waited for before
  the next is issued) and checks conditions is a sequential program over an ordinary state: the contents of the buffers it
  names, and the copy that is under way, if one is.  `lwp` is the weakest precondition of such a program over that
  state, by recursion on the program, with no separation logic in it; `lwp_sound` says that it implies the logic's `wp`
  from the points-tos of the buffers the tile holds, its copies' semaphores at zero, and the right to wait.
-/
module

public import Idealize.ShloMosaic.Lib.SparseCore.Quiescent
public import Idealize.ShloMosaic.Lib.SparseCore.Ops
public import Idealize.ShloMosaic.Lib.Tactic

@[expose] public section

noncomputable section

namespace Cert.Proof.LocalRun

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-! ## The state and the weakest precondition -/

/-- The contents of every buffer a tile names (meaningful on the part it holds), and the copy under way: the semaphore it
    is waited for on and the amount. -/
structure LSt (sig : RefSig) (Val : EltTy → Type) (κ : Kind) where
  mem : ∀ r : Ref sig κ, r.ty.Contents Val
  fly : Option (SemLoc sig × ℕ)

/-- What part of each buffer the tile holds, and at which share. -/
structure Acc (sig : RefSig) (κ : Kind) where
  refs : Finset (Ref sig κ)
  own : ∀ r : Ref sig κ, Finset r.ty.shape.Idx
  sh : Ref sig κ → PosShare TreeShare
  sems : Finset (SemLoc sig)

namespace LSt

variable {κ : Kind}

/-- The state with buffer `r` replaced. -/
def set (σ : LSt sig Val κ) (r : Ref sig κ) (f : r.ty.Contents Val) : LSt sig Val κ :=
  { σ with mem := Function.update σ.mem r f }

@[simp] theorem set_mem_same (σ : LSt sig Val κ) (r : Ref sig κ) (f : r.ty.Contents Val) : (σ.set r f).mem r = f :=
  Function.update_self ..

theorem set_mem_ne (σ : LSt sig Val κ) {r r' : Ref sig κ} (f : r.ty.Contents Val) (h : r' ≠ r) :
    (σ.set r f).mem r' = σ.mem r' := Function.update_of_ne h ..

@[simp] theorem set_fly (σ : LSt sig Val κ) (r : Ref sig κ) (f : r.ty.Contents Val) : (σ.set r f).fly = σ.fly := rfl

theorem set_set (σ : LSt sig Val κ) (r : Ref sig κ) (f g : r.ty.Contents Val) : (σ.set r f).set r g = σ.set r g := by
  unfold set; simp

end LSt

/-- One operation's weakest precondition. -/
def lstep {p : Proc τ} (A : Acc sig p.kind) {β : Type} (e : TpuEff nD τ sig Val Λ p β)
    (Q : β → LSt sig Val p.kind → Prop) (σ : LSt sig Val p.kind) : Prop :=
  match e with
  | .load m r _ => m.view.ref ∈ A.refs ∧ m.view.setOn r.set ⊆ A.own m.view.ref ∧ σ.fly = none ∧
      Q (m.view.readAt Val r (σ.mem m.view.ref)) σ
  | .store m r w Mk _ _ => (m.access r).ref ∈ A.refs ∧ (m.access r).setOn Mk ⊆ A.own (m.access r).ref ∧
      A.sh (m.access r).ref = fullShare ∧ σ.fly = none ∧
      Q ⟨⟩ (σ.set (m.access r).ref ((m.access r).write Val (σ.mem (m.access r).ref) w Mk))
  | .assume P _ => ∃ h : P, Q ⟨h⟩ σ
  | .enqueueDmaAs src (.here dst) via sem _ _ _ =>
      src.view.ref ∈ A.refs ∧ dst.view.ref ∈ A.refs ∧ src.view.ref ≠ dst.view.ref ∧
      src.view.set ⊆ A.own src.view.ref ∧ dst.view.set ⊆ A.own dst.view.ref ∧ A.sh dst.view.ref = fullShare ∧
      sem ∈ A.sems ∧ 0 < dst.view.amount sem ∧ σ.fly = none ∧
      Q ⟨⟩ ⟨(σ.set dst.view.ref (dst.view.write Val (σ.mem dst.view.ref)
        (via.apply (src.view.read Val (σ.mem src.view.ref))) Finset.univ)).mem, some (sem, dst.view.amount sem)⟩
  | .waitDma sem b s e _ => σ.fly = some (.dma sem, b.dmaCredit s e) ∧ Q ⟨⟩ ⟨σ.mem, none⟩
  | _ => False

/-- The weakest precondition of a program. -/
def lwp {p : Proc τ} (A : Acc sig p.kind) {α : Type} : Prog (TpuEff nD τ sig Val Λ p) α →
    (α → LSt sig Val p.kind → Prop) → LSt sig Val p.kind → Prop
  | .ret a, Q, σ => Q a σ
  | .op e k, Q, σ => lstep A e (fun b σ' => lwp A (k b) Q σ') σ

section Rules

variable {p : Proc τ} (A : Acc sig p.kind) {α β : Type}

@[simp] theorem lwp_ret (a : α) (Q : α → LSt sig Val p.kind → Prop) (σ : LSt sig Val p.kind) :
    lwp (nD := nD) (Λ := Λ) A (.ret a) Q σ = Q a σ := rfl

theorem lwp_op (e : TpuEff nD τ sig Val Λ p β) (k : β → Prog (TpuEff nD τ sig Val Λ p) α)
    (Q : α → LSt sig Val p.kind → Prop) (σ : LSt sig Val p.kind) :
    lwp A (.op e k) Q σ = lstep A e (fun b σ' => lwp A (k b) Q σ') σ := rfl

/-- The precondition of a sequence. -/
@[simp] theorem lwp_bind (q : Prog (TpuEff nD τ sig Val Λ p) α) (k : α → Prog (TpuEff nD τ sig Val Λ p) β)
    (Q : β → LSt sig Val p.kind → Prop) (σ : LSt sig Val p.kind) :
    lwp A (q >>= k) Q σ = lwp A q (fun a σ' => lwp A (k a) Q σ') σ := by
  induction q generalizing σ with
  | ret a => rfl
  | op e c ih =>
    show lstep A e (fun b σ' => lwp A (c b >>= k) Q σ') σ = lstep A e (fun b σ' => lwp A (c b) _ σ') σ
    congr 1; funext b σ'; exact ih b σ'

theorem lstep_mono (e : TpuEff nD τ sig Val Λ p β) {Q Q' : β → LSt sig Val p.kind → Prop} (h : ∀ b σ, Q b σ → Q' b σ)
    (σ : LSt sig Val p.kind) (H : lstep A e Q σ) : lstep A e Q' σ := by
  cases e
  case load => exact ⟨H.1, H.2.1, H.2.2.1, h _ _ H.2.2.2⟩
  case store => exact ⟨H.1, H.2.1, H.2.2.1, H.2.2.2.1, h _ _ H.2.2.2.2⟩
  case assume => exact ⟨H.choose, h _ _ H.choose_spec⟩
  case enqueueDmaAs tgt _ _ _ _ _ =>
    cases tgt
    case here =>
      obtain ⟨h1, h2, h3, h4, h5, h6, h7, h8, h9, h10⟩ := H
      exact ⟨h1, h2, h3, h4, h5, h6, h7, h8, h9, h _ _ h10⟩
    all_goals exact H.elim
  case waitDma => exact ⟨H.1, h _ _ H.2⟩
  all_goals exact H.elim

/-- A weaker post follows. -/
theorem lwp_mono (q : Prog (TpuEff nD τ sig Val Λ p) α) {Q Q' : α → LSt sig Val p.kind → Prop} (h : ∀ b σ, Q b σ → Q' b σ)
    (σ : LSt sig Val p.kind) (H : lwp A q Q σ) : lwp A q Q' σ := by
  induction q generalizing σ with
  | ret a => exact h a σ H
  | op e c ih => exact lstep_mono A e (fun b σ' hb => ih b σ' hb) σ H

/-- A counted loop by an invariant indexed by the trips done. -/
theorem lwp_for {ls : Type} {w : ℕ} (l : Scf.Loop w) (hok : l.OK) (init : ls)
    (body : Fin l.trips → ls → Prog (TpuEff nD τ sig Val Λ p) ls)
    (I : ℕ → ls → LSt sig Val p.kind → Prop) (σ : LSt sig Val p.kind) (h0 : I 0 init σ)
    (hstep : ∀ (i : Fin l.trips) s σ', I i.val s σ' → lwp A (body i s) (I (i.val + 1)) σ') :
    lwp A (l.for hok init body) (I l.trips) σ := by
  have key : ∀ (n : ℕ) (hn : n ≤ l.trips) (s : ls) (σ' : LSt sig Val p.kind), I (l.trips - n) s σ' →
      lwp A (Scf.forFrom body ((List.finRange l.trips).drop (l.trips - n)) s) (I l.trips) σ' := by
    intro n
    induction n with
    | zero =>
      intro _ s σ' hI
      rw [List.drop_of_length_le (by simp)]
      exact hI
    | succ n ih =>
      intro hn s σ' hI
      have hlt : l.trips - (n + 1) < (List.finRange l.trips).length := by simp; omega
      rw [List.drop_eq_getElem_cons hlt]
      have e1 : l.trips - (n + 1) + 1 = l.trips - n := by omega
      show lwp A (body _ s >>= fun s' => Scf.forFrom body _ s') _ σ'
      rw [lwp_bind]
      refine lwp_mono A _ (fun s' σ'' hI' => ?_) σ' (hstep _ s σ' (by simpa using hI))
      rw [e1]
      refine ih (by omega) s' σ'' ?_
      rw [← e1]; simpa using hI'
  have := key l.trips le_rfl init σ (by simpa using h0)
  rw [Nat.sub_self, List.drop_zero] at this
  unfold Scf.Loop.for
  rw [Scf.for_eq]; exact this

end Rules

/-! ## Soundness -/

section Sound

variable {Ix : Type} [DecidableEq Ix] {Name : Type} [DecidableEq Name] [Infinite Name] {U : Type} [URA U] {Lvl : Type} [Preorder Lvl]

local notation "𝕄" => MT nD τ sig Ix Val Name U Lvl

variable (EC : UEmb Counters (MT nD τ sig Ix Val Name U Lvl))
variable {defs : Defs nD τ sig Val Λ} (𝒱 : Variants) (c : Thread nD τ) (bd : Option 𝒱.V)

/-- The buffers a tile holds, at the state's contents. -/
def memSt (A : Acc sig c.2.kind) (μ : ∀ r : Ref sig c.2.kind, r.ty.Contents Val) : sProp 𝕄 :=
  bigSep A.refs fun r => (c.loc r ↦[A.own r]{A.sh r} μ r)

/-- Its semaphores, at zero. -/
def semSt (A : Acc sig c.2.kind) : sProp 𝕄 := bigSep A.sems fun s => semVal (c, s) 0

/-- The state as a resource: the buffers and the semaphores, or, with a copy under way, that copy and what its wait gives
    back. -/
def stRes (A : Acc sig c.2.kind) (ι : Ix) (σ : LSt sig Val c.2.kind) : sProp 𝕄 :=
  match σ.fly with
  | none => iprop(memSt c A σ.mem ∗ semSt c A)
  | some (s, N) => iprop(∃ D, Transfers.Flight EC c s ι N D ∗ (iprop(D ∗ semVal (c, s) 0) -∗ iprop(memSt c A σ.mem ∗ semSt c A)))

/-- What the tile owes, the waits it has done since `W` all at index `ι`. -/
def owed (ι : Ix) (O : CellTallies nD τ sig Ix) (W : Waits sig Ix) : sProp 𝕄 :=
  iprop(∃ W', ⌜∀ p ∈ W', p ∈ W ∨ p.2 = ι⌝ ∗ owes c O W')

theorem stRes_none {A : Acc sig c.2.kind} {ι : Ix} {σ : LSt sig Val c.2.kind} (h : σ.fly = none) :
    stRes EC c A ι σ = iprop(memSt c A σ.mem ∗ semSt c A) := by
  unfold stRes; rw [h]

theorem memSt_take {A : Acc sig c.2.kind} {μ : ∀ r : Ref sig c.2.kind, r.ty.Contents Val} {r : Ref sig c.2.kind} (h : r ∈ A.refs) :
    (memSt c A μ : sProp 𝕄) = iprop((c.loc r ↦[A.own r]{A.sh r} μ r) ∗ bigSep (A.refs.erase r) fun r => (c.loc r ↦[A.own r]{A.sh r} μ r)) :=
  SparseCore.bigSep_erase' h

theorem memSt_put {A : Acc sig c.2.kind} {μ : ∀ r : Ref sig c.2.kind, r.ty.Contents Val} {r : Ref sig c.2.kind} (h : r ∈ A.refs)
    (f : r.ty.Contents Val) :
    (memSt c A (Function.update μ r f) : sProp 𝕄)
      = iprop((c.loc r ↦[A.own r]{A.sh r} f) ∗ bigSep (A.refs.erase r) fun r => (c.loc r ↦[A.own r]{A.sh r} μ r)) := by
  rw [memSt_take c h, Function.update_self]
  congr 1
  refine bigSep_congr fun r' hr' => ?_
  rw [Function.update_of_ne (Finset.ne_of_mem_erase hr')]

theorem lwp_sound [EC.LandsIn (upEmb : UEmb _ 𝕄)] {α : Type} (A : Acc sig c.2.kind) (ι : Ix) (O : CellTallies nD τ sig Ix) (W : Waits sig Ix)
    (q : Prog (TpuEff nD τ sig Val Λ c.2) α) (Q : α → LSt sig Val c.2.kind → Prop) (Φ : α → sProp 𝕄) :
    ∀ (σ : LSt sig Val c.2.kind), lwp A q Q σ →
    iprop(stRes EC c A ι σ ∗ owed c ι O W ∗ Transfers.MayWaits c ι O
        ∗ (∀ a σ', iprop(⌜Q a σ'⌝ ∗ stRes EC c A ι σ' ∗ owed c ι O W) -∗ Φ a))
      ⊢ wp frame (wpE defs 𝒱 c bd) Set.univ q Φ := by
  induction q with
  | ret a =>
    intro σ h
    rw [wp_ret]
    iintro ⟨Hst, Ho, -, HΦ⟩
    imodintro
    iapply HΦ
    isplitr; · ipureintro; exact h
    isplitl [Hst] <;> iassumption
  | op e k ih =>
    intro σ h
    change lstep A e (fun b σ' => lwp A (k b) Q σ') σ at h
    cases e
    case load m r hl =>
      obtain ⟨h1, h2, h3, h4⟩ := h
      unfold stRes; rw [h3]; dsimp only
      rw [memSt_take c h1]
      iintro ⟨⟨⟨Hr, Hrest⟩, Hs⟩, Ho, Hmw, HΦ⟩
      iapply (wp_load 𝒱 c bd Set.univ (hl := hl) h2) $$ Hr
      iintro Hr
      iapply (ih _ σ h4)
      isplitl [Hr Hrest Hs]
      · unfold stRes; rw [h3]; dsimp only
        rw [memSt_take c h1]
        isplitl [Hr Hrest]; · isplitl [Hr] <;> iassumption
        iexact Hs
      isplitl [Ho]; · iexact Ho
      isplitl [Hmw]; · iexact Hmw
      iexact HΦ
    case store m r w Mk hx hm =>
      obtain ⟨h1, h2, h3, h4, h5⟩ := h
      unfold stRes; rw [h4]; dsimp only
      rw [memSt_take c h1]
      iintro ⟨⟨⟨Hr, Hrest⟩, Hs⟩, Ho, Hmw, HΦ⟩
      rw [h3]
      iapply (wp_store 𝒱 c bd Set.univ (hx := hx) (hm := hm) h2) $$ Hr
      iintro Hr
      iapply (ih _ _ h5)
      isplitl [Hr Hrest Hs]
      · unfold stRes; rw [LSt.set_fly, h4]; dsimp only
        unfold LSt.set; dsimp only
        rw [memSt_put c h1, h3]
        isplitl [Hr Hrest]; · isplitl [Hr] <;> iassumption
        iexact Hs
      isplitl [Ho]; · iexact Ho
      isplitl [Hmw]; · iexact Hmw
      iexact HΦ
    case assume P dec =>
      obtain ⟨hP, h⟩ := h
      exact (ih _ σ h).trans (wp_assume 𝒱 c bd Set.univ hP)
    case enqueueDmaAs src tgt via sem hsrc hdst hsem =>
      cases tgt
      case here dst =>
        obtain ⟨h1, h2, h3, h4, h5, h6, h7, h8, h9, h10⟩ := h
        rw [stRes_none EC c h9, memSt_take c h1, SparseCore.bigSep_erase' (Finset.mem_erase.mpr ⟨fun e => h3 e.symm, h2⟩)]
        unfold semSt; rw [SparseCore.bigSep_erase' h7]
        iintro ⟨⟨⟨Hsrc, Hdst, Hrest⟩, Hv, Hsems⟩, Ho, Hmw, HΦ⟩
        ihave Hsrc' := (pointsTo_split_subset (ℓ := c.loc src.view.ref) (I := src.view.set) (S := A.own src.view.ref) h4).1 $$ Hsrc
        icases Hsrc' with ⟨Hsrc, Hsrc'⟩
        rw [h6]
        iapply (Transfers.wp_dmaLocal EC 𝒱 c bd ι (dst.view.amount sem) rfl h8 h5) $$ [Hsrc Hdst Hv]
        · isplitl [Hsrc]; · iexact Hsrc
          isplitl [Hdst] <;> iassumption
        iintro Hfl
        iapply (ih _ _ h10)
        isplitl [Hfl Hsrc' Hrest Hsems]
        · unfold stRes; dsimp only
          iexists _
          isplitl [Hfl]; · iexact Hfl
          iintro ⟨⟨Hd, Hsrc⟩, Hv⟩
          ihave Hsrc2 := (pointsTo_split_subset (ℓ := c.loc src.view.ref) (I := src.view.set) (S := A.own src.view.ref) h4).2 $$ [Hsrc Hsrc']
          · isplitl [Hsrc] <;> iassumption
          unfold LSt.set; dsimp only
          rw [memSt_put c h2, h6, SparseCore.bigSep_erase' (Finset.mem_erase.mpr ⟨h3, h1⟩), Finset.erase_right_comm]
          isplitr [Hv Hsems]
          · isplitl [Hd]; · iexact Hd
            isplitl [Hsrc2]; · iexact Hsrc2
            iexact Hrest
          · unfold semSt; rw [SparseCore.bigSep_erase' h7]
            isplitl [Hv] <;> iassumption
        isplitl [Ho]; · iexact Ho
        isplitl [Hmw]; · iexact Hmw
        iexact HΦ
      all_goals exact h.elim
    case waitDma κ sem b s e hk =>
      obtain ⟨h1, h2⟩ := h
      unfold stRes; rw [h1]; dsimp only
      unfold owed
      iintro ⟨⟨%D, Hfl, Hback⟩, ⟨%W', %hW', Ho⟩, #Hmw, HΦ⟩
      iapply (Transfers.wp_waitLocalOSized EC 𝒱 c bd ι rfl) $$ [Hfl Ho]
      · isplitl [Hfl]; · iexact Hfl
        isplitl [Ho]; · iexact Ho
        iapply (Transfers.MayWaits.elim (.dma sem)); iexact Hmw
      iintro ⟨HD, Hv, Ho⟩
      iapply (ih _ _ h2)
      isplitl [HD Hv Hback]
      · unfold stRes; dsimp only
        iapply Hback
        isplitl [HD] <;> iassumption
      isplitl [Ho]
      · unfold owed
        iexists _; isplitr
        swap; · iexact Ho
        ipureintro; intro p hp
        rcases Finset.mem_insert.mp hp with hp | hp
        · exact .inr (hp ▸ rfl)
        · exact hW' p hp
      isplitr; · iexact Hmw
      iexact HΦ
    all_goals exact h.elim

end Sound

end Cert.Proof.LocalRun

end
-- ==== Proof.Barrier.lean ====
/-
  Two meetings of the sixteen tiles of a SparseCore at one barrier semaphore.

  The two meetings use the same semaphore, and a fast tile may raise another tile's counter for the second meeting before a
  slow tile's raise for the first has arrived there: a counter at sixteen does not say whose raises it counts.  So the two
  meetings are ONE round of thirty-two unit duties on each tile's cell: duty `n < 16` is tile `n`'s first arrival, duty
  `16 + n` its second.  A tile's first wait takes sixteen of them, whichever have landed.  What a first arrival hands over
  is a witness that the arriving tile has laid its data into a store of its own, an invariant (`depBody`); a second arrival
  carries all sixteen witnesses of its sender.  Of sixteen duties that landed either all are first arrivals or one is a
  second one: both ways the waiting tile has every witness, and takes what is laid for it out of the sixteen stores.
-/
module

public import proofs.«01_k».proof.Defs
public import proofs.«01_k».proof.Proof.LocalRun
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Meet

open Cert.KernelIdeal Cert.KernelIdeal.Gen

open Idealize.ShloMosaic
open Idealize.ShloMosaic.SparseCore (S V T)
open Idealize.ShloMosaic.SparseCore.Cfg (HIx Blocks Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one call has two stages: its two meetings. -/
@[reducible] def blocks : Blocks 1 2 where
  first := fun _ => 0
  last := fun _ => 1
  fst := fun k => if k = 0 then 0 else 2
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.zero_le j, Fin.le_def.mpr (Nat.le_of_lt_succ j.isLt), h⟩, fun ⟨j, _, _, h⟩ => ⟨j, h⟩⟩

attribute [local instance] blocks

/-! ## The resource algebra: the handshakes', the barrier cells', the stores', the transfers' -/

abbrev UH : Type := URounds (GSem nD τ sig) ℕ
abbrev UU : Type := UH × (UH × (UH × Counters))

local notation "𝕄" => MT nD τ sig (HIx 2) (Elt F) ℕ UU ℕ

abbrev EH : Emb UH (MT nD τ sig (HIx 2) (Elt F) ℕ UU ℕ) := embL
/-- The barrier cells' rounds library. -/
def EB : Emb UH (MT nD τ sig (HIx 2) (Elt F) ℕ UU ℕ) :=
  ((Emb.inl : Emb UH (UH × (UH × Counters))).trans (Emb.inr : Emb (UH × (UH × Counters)) UU)).trans
    (uEmb (nD := nD) (sig := sig) (Ix := HIx 2) (Val := Elt F) (Name := ℕ) (U := UU) (Lvl := ℕ)).toEmb
instance EB_landsIn : (EB : Emb UH 𝕄).LandsIn (upEmb : UEmb _ 𝕄) := by unfold EB; infer_instance
/-- The stores' (a rounds library of its own; a store is named by its tile's barrier cell). -/
def ED : Emb UH (MT nD τ sig (HIx 2) (Elt F) ℕ UU ℕ) :=
  (((Emb.inl : Emb UH (UH × Counters)).trans (Emb.inr : Emb (UH × Counters) (UH × (UH × Counters)))).trans
    (Emb.inr : Emb (UH × (UH × Counters)) UU)).trans
    (uEmb (nD := nD) (sig := sig) (Ix := HIx 2) (Val := Elt F) (Name := ℕ) (U := UU) (Lvl := ℕ)).toEmb
instance ED_landsIn : (ED : Emb UH 𝕄).LandsIn (upEmb : UEmb _ 𝕄) := by unfold ED; infer_instance

/-! ## Cells, stores, schedule -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The tile a duty belongs to. -/
def tileOf (n : ℕ) : Fin τ.nSub := ⟨n % 16, Nat.mod_lt _ (by decide)⟩
theorem tileOf_val (i : Fin τ.nSub) : tileOf i.val = i := Fin.ext (Nat.mod_eq_of_lt i.isLt)
theorem tileOf_add (i : Fin τ.nSub) : tileOf (16 + i.val) = i := Fin.ext (by
  show (16 + i.val) % 16 = i.val
  rw [Nat.add_mod_left]; exact Nat.mod_eq_of_lt i.isLt)

variable (F) in
/-- What tile `i` hands tile `j` at a meeting, on each device and SparseCore. -/
abbrev Fam : Type := Dev nD → Fin τ.nSC → Fin τ.nSub → Fin τ.nSub → sProp 𝕄

variable (P1 P2 : Fam F)

/-- Tile `(c, i)`'s store: empty; or laid, what it holds for tile `j` being there still or taken by `j`. -/
def depBody (x : Dev nD × Fin τ.nSC × Fin τ.nSub) : sProp 𝕄 :=
  iprop(roundAuth ED (bcell x.1 x.2.1 x.2.2) 0 ∅ 0
    ∨ (roundAuth ED (bcell x.1 x.2.1 x.2.2) 1 ∅ 0
      ∗ bigSep Finset.univ fun j : Fin τ.nSub => iprop(P1 x.1 x.2.1 x.2.2 j ∨ dutyTok ED (bcell x.1 x.2.1 x.2.2) 0 j.val)))

instance depBody_storable [∀ d c i j, BI.Storable (upEmb : UEmb _ 𝕄) (P1 d c i j)] (x : Dev nD × Fin τ.nSC × Fin τ.nSub) :
    BI.Storable (upEmb : UEmb _ 𝕄) (depBody (F := F) P1 x) := by
  unfold depBody; infer_instance

/-- Tile `(c, i)`'s store has been laid. -/
abbrev laid (d : Dev nD) (c : Fin τ.nSC) (i : Fin τ.nSub) : sProp 𝕄 := reached ED (bcell d c i) 1
/-- Every tile's of the SparseCore. -/
abbrev allLaid (d : Dev nD) (c : Fin τ.nSC) : sProp 𝕄 := bigSep Finset.univ fun i : Fin τ.nSub => laid d c i

/-- What duty `n` of tile `(c, j)`'s round hands over. -/
def bPay (g : GSem nD τ sig) (n : ℕ) : sProp 𝕄 :=
  match g with
  | ((d, .scVector c j), _) => if n < 16 then laid d c (tileOf n) else iprop(allLaid d c ∗ P2 d c (tileOf n) j)
  | _ => iprop(emp)

/-- The barrier cells' schedule: one round on each, of thirty-two unit duties. -/
def bRd : Rounds.Schedule (GSem nD τ sig) ℕ 𝕄 where
  duties g r := if isBar g ∧ r = 0 then Finset.range 32 else ∅
  amount _ _ _ := 1
  payload g _ n := bPay P2 g n
  amount_pos _ _ _ _ := Nat.one_pos

instance bRd_payload_storable [∀ d c i j, BI.Storable (upEmb : UEmb _ 𝕄) (P2 d c i j)] (g : GSem nD τ sig) (r n : ℕ) :
    BI.Storable (upEmb : UEmb _ 𝕄) ((bRd (F := F) P2).payload g r n) := by
  show BI.Storable upEmb (bPay P2 g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) P2).duties (bcell d c j) 0 = Finset.range 32 := by
  simp [bRd, isBar]
theorem bRd_duties_succ (g : GSem nD τ sig) (r : ℕ) (hr : 1 ≤ r) : (bRd (F := F) P2).duties g r = ∅ :=
  if_neg fun h => absurd h.2 (Nat.ne_of_gt hr)
theorem bRd_expect (d : Dev nD) (c : Fin τ.nSC) (j : Fin τ.nSub) : (bRd (F := F) P2).expect (bcell d c j) 0 = 32 := by
  unfold Rounds.Schedule.expect; rw [bRd_duties₀]
  show ∑ x ∈ Finset.range 32, 1 = 32
  rw [Finset.sum_const, Finset.card_range]; rfl

theorem bPay_first (d : Dev nD) (c : Fin τ.nSC) (i j : Fin τ.nSub) : (bRd (F := F) P2).payload (bcell d c j) 0 i.val = laid d c i := by
  show (if i.val < 16 then laid d c (tileOf i.val) else _) = _
  rw [if_pos (show i.val < 16 from i.isLt), tileOf_val]
theorem bPay_second (d : Dev nD) (c : Fin τ.nSC) (i j : Fin τ.nSub) :
    (bRd (F := F) P2).payload (bcell d c j) 0 (16 + i.val) = iprop(allLaid d c ∗ P2 d c i j) := by
  show (if 16 + i.val < 16 then _ else iprop(allLaid d c ∗ P2 d c (tileOf (16 + i.val)) j)) = _
  rw [if_neg (by omega), tileOf_add]

/-! ## The stores -/

section Stores

/-- A tile lays its store. -/
theorem lay {κ : ℕ} (x : Dev nD × Fin τ.nSC × Fin τ.nSub) :
    iprop(inv κ (depBody (F := F) P1 x) ∗ atPos ED (bcell x.1 x.2.1 x.2.2) 0 ∅ 0 ∗ bigSep Finset.univ fun j : Fin τ.nSub => P1 x.1 x.2.1 x.2.2 j)
      ⊢ (|={Set.univ}=> laid x.1 x.2.1 x.2.2 : sProp 𝕄) := by
  iintro ⟨Hinv, Hat, HP⟩
  imod (inv_acc (Set.mem_univ κ)) $$ Hinv with ⟨Hb, Hclose⟩
  unfold depBody
  icases Hb with (Ha | ⟨Ha, Hb⟩)
  · imod (roundAuth_atPos_move ED 1 ∅ 0 (Nat.zero_le 1)) $$ [Ha Hat] with ⟨Ha, -⟩
    · isplitl [Ha] <;> iassumption
    imod (roundAuth_witness ED) $$ Ha with ⟨Ha, #Hr⟩
    imod Hclose $$ [Ha HP] with -
    · iright
      isplitl [Ha]; · iexact Ha
      iapply (SparseCore.ent (bigSep_mono (Φ := fun j : Fin τ.nSub => P1 x.1 x.2.1 x.2.2 j) fun j _ => BI.or_introL))
      iexact HP
    imodintro; iexact Hr
  · ihave H := (roundAuth_atPos_agree ED) $$ [Ha Hat]
    · isplitl [Ha] <;> iassumption
    icases H with %h
    exact absurd h.1 (by decide)

/-- A tile takes out of a laid store what is there for it. -/
theorem take {κ : ℕ} (x : Dev nD × Fin τ.nSC × Fin τ.nSub) (j : Fin τ.nSub) :
    iprop(inv κ (depBody (F := F) P1 x) ∗ laid x.1 x.2.1 x.2.2 ∗ dutyTok ED (bcell x.1 x.2.1 x.2.2) 0 j.val)
      ⊢ (|={Set.univ}=> P1 x.1 x.2.1 x.2.2 j : sProp 𝕄) := by
  iintro ⟨Hinv, #Hr, Htok⟩
  imod (inv_acc (Set.mem_univ κ)) $$ Hinv with ⟨Hb, Hclose⟩
  unfold depBody
  icases Hb with (Ha | ⟨Ha, Hb⟩)
  · ihave H := (roundAuth_reached_le ED) $$ [Ha]
    · isplitl [Ha]; · iexact Ha
      iexact Hr
    icases H with %h
    exact absurd h (by decide)
  · ihave Hb' := (Entails.of_eq (SparseCore.bigSep_erase' (Finset.mem_univ j))) $$ Hb
    icases Hb' with ⟨(HP | Ht), Hrest⟩
    · imod Hclose $$ [Ha Htok Hrest] with -
      · iright
        isplitl [Ha]; · iexact Ha
        iapply (Entails.of_eq (SparseCore.bigSep_erase' (Finset.mem_univ j)).symm)
        isplitl [Htok]; · iright; iexact Htok
        iexact Hrest
      imodintro; iexact HP
    · ihave H := (dutyTok_dutyTok_false ED) $$ [Ht Htok]
      · isplitl [Ht] <;> iassumption
      icases H with %h
      exact h.elim

/-- A tile takes out of every store of its SparseCore what is there for it. -/
theorem takeAll (κ : Dev nD × Fin τ.nSC × Fin τ.nSub → ℕ) (d : Dev nD) (c : Fin τ.nSC) (i : Fin τ.nSub) :
    iprop((bigSep Finset.univ fun j : Fin τ.nSub => inv (κ (d, c, j)) (depBody (F := F) P1 (d, c, j))) ∗ allLaid d c
        ∗ bigSep Finset.univ fun j : Fin τ.nSub => dutyTok ED (bcell d c j) 0 i.val)
      ⊢ (|={Set.univ}=> bigSep Finset.univ fun j : Fin τ.nSub => P1 d c j i : sProp 𝕄) := by
  rw [← bigSep_sep', ← bigSep_sep']
  exact (bigSep_mono fun j _ => take P1 (κ := κ (d, c, j)) (d, c, j) i).trans (SparseCore.ent (bigSep_fupd Finset.univ _))

end Stores

/-! ## The arrivals -/

section Meetings

variable [FloatOps F] {Λ : Labels} {defs : Defs nD τ sig (Elt F) Λ} (𝒱 : Variants) (bd : Option 𝒱.V)
variable (F) in
/-- A resource of this launch. -/
abbrev Res : Type := sProp 𝕄
variable {α : Type} {Q : α → Res F}

/-- Every tile's cell invariant of the SparseCore. -/
abbrev cells (κ : GSem nD τ sig → ℕ) (d : Dev nD) (c : Fin τ.nSC) : sProp 𝕄 :=
  bigSep Finset.univ fun j : Fin τ.nSub => cellInv EB (bRd (F := F) P2) (κ (bcell d c j)) (bcell d c j)
/-- Every tile's store. -/
abbrev stores (κ : Dev nD × Fin τ.nSC × Fin τ.nSub → ℕ) (d : Dev nD) (c : Fin τ.nSC) : sProp 𝕄 :=
  bigSep Finset.univ fun j : Fin τ.nSub => inv (κ (d, c, j)) (depBody (F := F) P1 (d, c, j))
/-- What a tile owes for one meeting: a unit on every tile's cell. -/
def due (d : Dev nD) (c : Fin τ.nSC) (ι : HIx 2) : CellTallies nD τ sig (HIx 2) := ∑ j : Fin (grid0.bound 1), tallyAt (bcell d c (j.castLE hsub0)) ι 1

/-- The sixteen raises of one meeting, then its wait. -/
theorem wp_raises {κ : GSem nD τ sig → ℕ} (d : Dev nD) (c : Fin τ.nSC) (i : Fin τ.nSub) (me : ℕ) (hme : me < 32) (ι : HIx 2)
    (O : CellTallies nD τ sig (HIx 2)) (W : Waits sig (HIx 2)) {k : PUnit → Prog (TpuEff nD τ sig (Elt F) Λ (.scVector c i)) α} :
    iprop(cells P2 κ d c ∗ owes (V d c i) (O + due d c ι) W
        ∗ (bigSep Finset.univ fun j : Fin τ.nSub => dutyTok EB (bcell d c j) 0 me)
        ∗ (bigSep Finset.univ fun j : Fin τ.nSub => reached EB (bcell d c j) 0)
        ∗ (bigSep Finset.univ fun j : Fin τ.nSub => (bRd (F := F) P2).payload (bcell d c j) 0 me)
        ∗ (owes (V d c i) O W -∗ wp frame (wpE defs 𝒱 (V d c i) bd) Set.univ (.op (TpuEff.semWait sc_bar0 (grid0.bound 1)) k) Q))
      ⊢ wp frame (wpE defs 𝒱 (V d c i) bd) Set.univ (SparseCore.subcoreBarrier sc_bar0 (grid0.bound 1) hsub0 >>= k) Q := by
  classical
  rw [SparseCore.subcoreBarrier_bind, show (wp frame (wpE defs 𝒱 (V d c i) bd) Set.univ (.op .deviceId _) Q : sProp 𝕄) = _ from wp_deviceId 𝒱 (V d c i) bd Set.univ]
  have key : ∀ l : List (Fin (grid0.bound 1)), l.Nodup →
      iprop(cells P2 κ d c ∗ owes (V d c i) (O + ∑ j ∈ l.toFinset, tallyAt (bcell d c (j.castLE hsub0)) ι 1) W
          ∗ (bigSep l.toFinset fun j : Fin (grid0.bound 1) => dutyTok EB (bcell d c (j.castLE hsub0)) 0 me)
          ∗ (bigSep Finset.univ fun j : Fin τ.nSub => reached EB (bcell d c j) 0)
          ∗ (bigSep l.toFinset fun j : Fin (grid0.bound 1) => (bRd (F := F) P2).payload (bcell d c (j.castLE hsub0)) 0 me)
          ∗ (owes (V d c i) O W -∗ wp frame (wpE defs 𝒱 (V d c i) bd) Set.univ (.op (TpuEff.semWait sc_bar0 (grid0.bound 1)) k) Q))
        ⊢ wp frame (wpE defs 𝒱 (V d c i) bd) Set.univ
            (l.foldr (fun j r => .op (TpuEff.semSignal (d, .scVector c (j.castLE hsub0)) sc_bar0 1) fun _ => r) (.op (TpuEff.semWait sc_bar0 (grid0.bound 1)) k)) Q := by
    intro l hl
    induction l with
    | nil =>
      rw [List.toFinset_nil, List.foldr_nil, Finset.sum_empty, add_zero]
      iintro ⟨-, HO, -, -, -, Hk⟩; iapply Hk; iexact HO
    | cons j l ih =>
      rw [List.toFinset_cons, List.foldr_cons]
      have hj : j ∉ l.toFinset := fun h => (List.nodup_cons.mp hl).1 (List.mem_toFinset.mp h)
      rw [SparseCore.bigSep_insert' hj, SparseCore.bigSep_insert' hj, Finset.sum_insert hj]
      iintro ⟨#Hinv, HO, ⟨Htok, Htoks⟩, #Hr, ⟨Hpay, Hpays⟩, Hk⟩
      iapply (Rounds.wp_signal 𝒱 EB (bRd (F := F) P2) (V d c i) bd (dst := V d c (j.castLE hsub0)) (sem := sc_bar0) (r := 0) (d := me) (k' := 1)
          (κ := κ (bcell d c (j.castLE hsub0))) (by rw [bRd_duties₀]; exact Finset.mem_range.mpr hme) rfl ι
          (O₀ := O + (tallyAt (bcell d c (j.castLE hsub0)) ι 1 + ∑ j ∈ l.toFinset, tallyAt (bcell d c (j.castLE hsub0)) ι 1))
          (O := O + ∑ j ∈ l.toFinset, tallyAt (bcell d c (j.castLE hsub0)) ι 1)
          (by rw [add_comm (tallyAt _ _ _) _, ← add_assoc]) (W := W)) $$ [HO Htok Hpay]
      · isplitr; · iapply (SparseCore.ent (BI.bigSep_elim (Finset.mem_univ (j.castLE hsub0)))) $$ Hinv
        isplitl [HO]; · iexact HO
        isplitl [Htok]; · iexact Htok
        isplitl [Hpay]; · iexact Hpay
        iapply (SparseCore.ent (BI.bigSep_elim (Φ := fun j : Fin τ.nSub => (reached EB (bcell d c j) 0 : sProp 𝕄)) (Finset.mem_univ (j.castLE hsub0)))); iexact Hr
      iintro HO
      iapply (ih (List.nodup_cons.mp hl).2)
      isplitr; · iexact Hinv
      isplitl [HO]; · iexact HO
      isplitl [Htoks]; · iexact Htoks
      isplitr; · iexact Hr
      isplitl [Hpays] <;> iassumption
  have := key (List.finRange (grid0.bound 1)) (List.nodup_finRange _)
  rw [List.toFinset_finRange] at this
  exact this

/-! ## The two meetings -/

/-- What a tile `(c, i)` holds for the two meetings before the first. -/
def kit (d : Dev nD) (c : Fin τ.nSC) (i : Fin τ.nSub) : sProp 𝕄 :=
  iprop((∃ κ : GSem nD τ sig → ℕ, cells P2 κ d c) ∗ (∃ κ : Dev nD × Fin τ.nSC × Fin τ.nSub → ℕ, stores P1 κ d c)
    ∗ (bigSep Finset.univ fun j : Fin τ.nSub => dutyTok EB (bcell d c j) 0 i.val)
    ∗ (bigSep Finset.univ fun j : Fin τ.nSub => dutyTok EB (bcell d c j) 0 (16 + i.val))
    ∗ (bigSep Finset.univ fun j : Fin τ.nSub => reached EB (bcell d c j) 0)
    ∗ atPos EB (bcell d c i) 0 ∅ 0
    ∗ cred (tallyAt (bcell d c i) (some 0) 16) ∗ cred (tallyAt (bcell d c i) (some 1) 16)
    ∗ atPos ED (bcell d c i) 0 ∅ 0
    ∗ (bigSep Finset.univ fun j : Fin τ.nSub => dutyTok ED (bcell d c j) 0 i.val))

/-- What it holds between the two. -/
def midKit (d : Dev nD) (c : Fin τ.nSC) (i : Fin τ.nSub) : sProp 𝕄 :=
  iprop((∃ κ : GSem nD τ sig → ℕ, cells P2 κ d c)
    ∗ (bigSep Finset.univ fun j : Fin τ.nSub => dutyTok EB (bcell d c j) 0 (16 + i.val))
    ∗ (bigSep Finset.univ fun j : Fin τ.nSub => reached EB (bcell d c j) 0)
    ∗ cred (tallyAt (bcell d c i) (some 1) 16)
    ∗ allLaid d c
    ∗ ∃ S : Finset ℕ, ⌜S ⊆ Finset.range 32⌝ ∗ atPos EB (bcell d c i) 0 S 16 ∗ bigSep S fun n => (bRd (F := F) P2).payload (bcell d c i) 0 n)

/-- Sixteen landed duties, whichever they are, give every tile's witness. -/
theorem allLaid_of (d : Dev nD) (c : Fin τ.nSC) (i : Fin τ.nSub) (S : Finset ℕ) (hS : S ⊆ Finset.range 32) (hc : 16 ≤ S.card) :
    (bigSep S fun n => (bRd (F := F) P2).payload (bcell d c i) 0 n) ⊢ (allLaid d c : sProp 𝕄) := by
  by_cases h : ∃ n ∈ S, 16 ≤ n
  · obtain ⟨n, hn, h16⟩ := h
    have hn32 := Finset.mem_range.mp (hS hn)
    refine (BI.bigSep_elim hn).trans ?_
    have e := bPay_second P2 d c ⟨n - 16, (by omega : n - 16 < 16)⟩ i
    rw [show 16 + (⟨n - 16, (by omega : n - 16 < 16)⟩ : Fin τ.nSub).val = n from (by show 16 + (n - 16) = n; omega)] at e
    rw [e]
    exact SparseCore.ent (sep_elim_left (P := allLaid d c))
  · have hsub : S ⊆ Finset.range 16 := fun n hn => Finset.mem_range.mpr (by
      by_contra hc; exact h ⟨n, hn, by omega⟩)
    have heq : S = Finset.range 16 := Finset.eq_of_subset_of_card_le hsub (by rw [Finset.card_range]; exact hc)
    subst heq
    have himg : Finset.range 16 = (Finset.univ : Finset (Fin τ.nSub)).image Fin.val := by decide
    rw [himg, SparseCore.bigSep_image_of_injOn (fun a _ b _ e => Fin.val_injective e)]
    exact bigSep_mono fun j _ => Entails.of_eq (bPay_first P2 d c j i)

/-- All thirty-two payloads hold what every tile's second arrival carries. -/
theorem second_of (d : Dev nD) (c : Fin τ.nSC) (i : Fin τ.nSub) (S : Finset ℕ) (hS : S ⊆ Finset.range 32) :
    iprop((bigSep S fun n => (bRd (F := F) P2).payload (bcell d c i) 0 n)
        ∗ bigSep ((bRd (F := F) P2).duties (bcell d c i) 0 \ S) fun n => (bRd (F := F) P2).payload (bcell d c i) 0 n)
      ⊢ (bigSep Finset.univ fun j : Fin τ.nSub => P2 d c j i : Res F) := by
  rw [bRd_duties₀, show iprop((bigSep S fun n => (bRd (F := F) P2).payload (bcell d c i) 0 n)
      ∗ bigSep (Finset.range 32 \ S) fun n => (bRd (F := F) P2).payload (bcell d c i) 0 n)
      = bigSep (Finset.range 32) fun n => (bRd (F := F) P2).payload (bcell d c i) 0 n from (BI.bigSep_sdiff_split hS).symm]
  have hsub : (Finset.univ : Finset (Fin τ.nSub)).image (fun j => 16 + j.val) ⊆ Finset.range 32 := by decide
  refine (BI.bigSep_subset hsub).trans ?_
  rw [SparseCore.bigSep_image_of_injOn (fun a _ b _ e => Fin.ext (Nat.add_left_cancel e))]
  exact bigSep_mono fun j _ => (Entails.of_eq (bPay_second P2 d c j i)).trans (SparseCore.ent (sep_elim_right (P := allLaid d c)))

/-- The first meeting: the tile lays what it has for each tile, and takes what each has laid for it. -/
theorem wp_meet₁ (d : Dev nD) (c : Fin τ.nSC) (i : Fin τ.nSub) (O : CellTallies nD τ sig (HIx 2)) (W : Waits sig (HIx 2))
    {k : PUnit → Prog (TpuEff nD τ sig (Elt F) Λ (.scVector c i)) α} :
    iprop(kit P1 P2 d c i ∗ (bigSep Finset.univ fun j : Fin τ.nSub => P1 d c i j) ∗ owes (V d c i) (O + due d c (some 0)) W
        ∗ MayWait (V d c i) (.reg sc_bar0) (some 0) O
        ∗ (midKit P2 d c i -∗ (bigSep Finset.univ fun j : Fin τ.nSub => P1 d c j i) -∗ owes (V d c i) O (W ∪ {(.reg sc_bar0, some 0)})
          -∗ wp frame (wpE defs 𝒱 (V d c i) bd) Set.univ (k ⟨⟩) Q))
      ⊢ wp frame (wpE defs 𝒱 (V d c i) bd) Set.univ (SparseCore.subcoreBarrier sc_bar0 (grid0.bound 1) hsub0 >>= k) Q := by
  unfold kit
  iintro ⟨⟨⟨%κ, #Hinv⟩, ⟨%κ', #Hst⟩, Htok1, Htok2, #Hr, Hat, Hc1, Hc2, Hd, Hdt⟩, HP, HO, Hmw, Hk⟩
  imod (lay P1 (κ := κ' (d, c, i)) (d, c, i)) $$ [Hd HP] with #Hlaid
  · isplitr
    · iapply (SparseCore.ent (BI.bigSep_elim (Φ := fun j : Fin τ.nSub => (inv (κ' (d, c, j)) (depBody (F := F) P1 (d, c, j)) : sProp 𝕄)) (Finset.mem_univ i))); iexact Hst
    isplitl [Hd] <;> iassumption
  iapply (wp_raises P2 𝒱 bd (κ := κ) d c i i.val (show i.val < 32 from lt_trans i.isLt (by decide)) (some 0) O W)
  isplitr; · iexact Hinv
  isplitl [HO]; · iexact HO
  isplitl [Htok1]; · iexact Htok1
  isplitr; · iexact Hr
  isplitr
  · simp only [bPay_first]
    iapply (SparseCore.ent (bigSep_of_persistent Finset.univ (laid (F := F) d c i))); iexact Hlaid
  iintro HO
  iapply (Rounds.wp_wait 𝒱 EB (bRd (F := F) P2) (V d c i) bd (sm := .reg sc_bar0) (k' := 16) (κ := κ (bcell d c i))
      (wpE_semWait_eq 𝒱 (V d c i) bd Set.univ) (Set.mem_univ _) (cr := Finsupp.single (some 0) 16) (O := O) (W := W) {(.reg sc_bar0, some 0)} (R := 0) (m := 0) (T := ∅)
      (by rw [Util.total_single]) (image_single_subset _ _ _)) $$ [Hc1 HO Hmw Hat]
  · isplitr
    · iapply (SparseCore.ent (BI.bigSep_elim (Φ := fun j : Fin τ.nSub => cellInv EB (bRd (F := F) P2) (κ (bcell d c j)) (bcell d c j)) (Finset.mem_univ i))); iexact Hinv
    isplitl [Hc1]; · iexact Hc1
    isplitl [HO]; · iexact HO
    isplitl [Hmw] <;> iassumption
  iintro %S ⟨%hS, HO, Hat, Hpays⟩
  rw [bRd_duties₀, bRd_expect, Finset.sdiff_empty] at *
  have hcard : 16 ≤ S.card := by
    have h1 := hS.2.2
    rw [Finset.card_sdiff_of_subset hS.2.1, Finset.card_range] at h1
    omega
  ihave #Hall := (allLaid_of P2 d c i S hS.2.1 hcard) $$ Hpays
  imod (takeAll P1 κ' d c i) $$ [Hdt] with Hgot
  · isplitr; · iexact Hst
    isplitr; · iexact Hall
    iexact Hdt
  iapply Hk $$ [Htok2 Hc2 Hat Hpays] Hgot HO
  unfold midKit
  isplitr; · iexists κ; iexact Hinv
  isplitl [Htok2]; · iexact Htok2
  isplitr; · iexact Hr
  isplitl [Hc2]; · iexact Hc2
  isplitr; · iexact Hall
  iexists S
  isplitr; · ipureintro; exact hS.2.1
  isplitl [Hat]; · iexact Hat
  iexact Hpays

/-- The second meeting: the tile's second arrival hands its data over directly; its one round is over and the tile keeps
    the counter, at zero. -/
theorem wp_meet₂ (d : Dev nD) (c : Fin τ.nSC) (i : Fin τ.nSub) (O : CellTallies nD τ sig (HIx 2)) (W : Waits sig (HIx 2))
    {k : PUnit → Prog (TpuEff nD τ sig (Elt F) Λ (.scVector c i)) α} :
    iprop(midKit P2 d c i ∗ (bigSep Finset.univ fun j : Fin τ.nSub => P2 d c i j) ∗ owes (V d c i) (O + due d c (some 1)) W
        ∗ MayWait (V d c i) (.reg sc_bar0) (some 1) O
        ∗ (semVal (bcell d c i) 0 -∗ (bigSep Finset.univ fun j : Fin τ.nSub => P2 d c j i) -∗ owes (V d c i) O (insert (.reg sc_bar0, some 1) W)
          -∗ wp frame (wpE defs 𝒱 (V d c i) bd) Set.univ (k ⟨⟩) Q))
      ⊢ wp frame (wpE defs 𝒱 (V d c i) bd) Set.univ (SparseCore.subcoreBarrier sc_bar0 (grid0.bound 1) hsub0 >>= k) Q := by
  unfold midKit
  iintro ⟨⟨⟨%κ, #Hinv⟩, Htok2, #Hr, Hc2, #Hall, %S, %hS, Hat, HS⟩, HP, HO, Hmw, Hk⟩
  iapply (wp_raises P2 𝒱 bd (κ := κ) d c i (16 + i.val) (show 16 + i.val < 32 from Nat.add_lt_add_left i.isLt 16) (some 1) O W)
  isplitr; · iexact Hinv
  isplitl [HO]; · iexact HO
  isplitl [Htok2]; · iexact Htok2
  isplitr; · iexact Hr
  isplitl [HP]
  · simp only [bPay_second]
    rw [bigSep_sep']
    isplitr
    · iapply (SparseCore.ent (bigSep_of_persistent Finset.univ (allLaid (F := F) d c))); iexact Hall
    iexact HP
  iintro HO
  iapply (Rounds.wp_wait_rest_token 𝒱 EB (bRd (F := F) P2) (V d c i) bd (sm := .reg sc_bar0) (k' := 16) (κ := κ (bcell d c i))
      (wpE_semWait_eq 𝒱 (V d c i) bd Set.univ) (Set.mem_univ _) (some 1) (O := O) (W := W) (R := 0) (m := 16) (T := S)
      (by rw [bRd_expect])) $$ [Hc2 HO Hmw Hat]
  · isplitr
    · iapply (SparseCore.ent (BI.bigSep_elim (Φ := fun j : Fin τ.nSub => cellInv EB (bRd (F := F) P2) (κ (bcell d c j)) (bcell d c j)) (Finset.mem_univ i))); iexact Hinv
    isplitl [Hc2]; · iexact Hc2
    isplitl [HO]; · iexact HO
    isplitl [Hmw] <;> iassumption
  iintro ⟨HO, Hat, -, Hrest⟩
  imod (Rounds.cell_close EB (bRd (F := F) P2) (g := bcell d c i) (Set.mem_univ (κ (bcell d c i))) (fun h => h) (bRd_duties_succ P2 _)) $$ [Hat] with Hsem
  · isplitr
    · iapply (SparseCore.ent (BI.bigSep_elim (Φ := fun j : Fin τ.nSub => cellInv EB (bRd (F := F) P2) (κ (bcell d c j)) (bcell d c j)) (Finset.mem_univ i))); iexact Hinv
    · iexact Hat
  ihave Hgot := (second_of P2 d c i S hS) $$ [HS Hrest]
  · isplitl [HS] <;> iassumption
  iapply Hk $$ Hsem Hgot HO

end Meetings

end Cert.Proof.Meet

end
-- ==== Proof.Steps.lean ====
/-
  Stepping a tile's program over the pure account of `LocalRun`.

  The buffers of this kernel have rank one.  `at_` reads such a buffer at a natural number; `put` is what a store or a copy
  onto a stretch of a buffer leaves; `gat` and `scat` are a gather and a scatter with the addresses read as numbers.  The step
  lemmas turn each operation into these.
-/
module

public import proofs.«01_k».proof.Defs
public import proofs.«01_k».proof.Proof.LocalRun
public import proofs.«01_k».proof.Proof.Gen.KernelIdeal
public import proofs.«01_k».proof.Proof.Gen.KernelIdeal.Skeleton
public import Idealize.ShloMosaic.Lib.WritesUnit
public import Idealize.ShloMosaic.Lib.Tactic

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀

/-! ## Rank-one contents -/

/-- The index of a rank-one shape at a natural number (taken modulo the extent). -/
def ix {m : ℕ} [NeZero m] (n : ℕ) : (⟨1, ![m]⟩ : Shape).Idx := fun a => ⟨n % m, by
  have : (⟨1, ![m]⟩ : Shape).size a = m := by fin_cases a; rfl
  rw [this]; exact Nat.mod_lt _ (Nat.pos_of_ne_zero (NeZero.ne m))⟩

theorem ix_val {m : ℕ} [NeZero m] (n : ℕ) : ((ix n : (⟨1, ![m]⟩ : Shape).Idx) 0).val = n % m := rfl

theorem ix_val_lt {m : ℕ} [NeZero m] {n : ℕ} (h : n < m) : ((ix n : (⟨1, ![m]⟩ : Shape).Idx) 0).val = n := Nat.mod_eq_of_lt h

theorem idx_ext {m : ℕ} {x y : (⟨1, ![m]⟩ : Shape).Idx} (h : (x 0).val = (y 0).val) : x = y := by
  funext a; fin_cases a; exact Fin.ext h

theorem idx_lt {m : ℕ} (x : (⟨1, ![m]⟩ : Shape).Idx) : (x 0).val < m := (x 0).isLt

theorem ix_self {m : ℕ} [NeZero m] (x : (⟨1, ![m]⟩ : Shape).Idx) : ix (x 0).val = x :=
  idx_ext (by rw [ix_val, Nat.mod_eq_of_lt (idx_lt x)])

theorem eq_ix {m : ℕ} [NeZero m] {x : (⟨1, ![m]⟩ : Shape).Idx} {n : ℕ} (h : (x 0).val = n) : x = ix n := by
  rw [← h, ix_self]

/-- A rank-one buffer read at a natural number. -/
def at_ {m : ℕ} [NeZero m] {α : Type} (f : (⟨1, ![m]⟩ : Shape).Idx → α) (n : ℕ) : α := f (ix n)

theorem at_val {m : ℕ} [NeZero m] {α : Type} (f : (⟨1, ![m]⟩ : Shape).Idx → α) (x : (⟨1, ![m]⟩ : Shape).Idx) : at_ f (x 0).val = f x := by
  unfold at_; rw [ix_self]

/-- The stretch of `k` elements from `o` on of a rank-one buffer. -/
def cut {m k : ℕ} [NeZero m] {α : Type} (o : ℕ) (f : (⟨1, ![m]⟩ : Shape).Idx → α) : (⟨1, ![k]⟩ : Shape).Idx → α :=
  fun x => at_ f (o + (x 0).val)

/-- The buffer with the stretch of `k` elements from `o` on replaced by `w`. -/
def put {m k : ℕ} [NeZero k] {α : Type} (o : ℕ) (w : (⟨1, ![k]⟩ : Shape).Idx → α) (f : (⟨1, ![m]⟩ : Shape).Idx → α) :
    (⟨1, ![m]⟩ : Shape).Idx → α :=
  fun y => if o ≤ (y 0).val ∧ (y 0).val < o + k then at_ w ((y 0).val - o) else f y

theorem put_in {m k : ℕ} [NeZero k] {α : Type} {o : ℕ} {w : (⟨1, ![k]⟩ : Shape).Idx → α} {f : (⟨1, ![m]⟩ : Shape).Idx → α}
    {y : (⟨1, ![m]⟩ : Shape).Idx} (h₁ : o ≤ (y 0).val) (h₂ : (y 0).val < o + k) : put o w f y = at_ w ((y 0).val - o) :=
  if_pos ⟨h₁, h₂⟩

theorem put_out {m k : ℕ} [NeZero k] {α : Type} {o : ℕ} {w : (⟨1, ![k]⟩ : Shape).Idx → α} {f : (⟨1, ![m]⟩ : Shape).Idx → α}
    {y : (⟨1, ![m]⟩ : Shape).Idx} (h : (y 0).val < o ∨ o + k ≤ (y 0).val) : put o w f y = f y :=
  if_neg (by omega)

/-- A gather, the addresses read as numbers. -/
def gat {m k : ℕ} [NeZero m] {α : Type} (f : (⟨1, ![m]⟩ : Shape).Idx → α) (v : (⟨1, ![k]⟩ : Shape).Idx → BitVec 32) :
    (⟨1, ![k]⟩ : Shape).Idx → α := fun x => at_ f (v x).toNat

/-- A scatter, the addresses read as numbers, lane by lane from the lowest; `g` joins what is there with the lane's value. -/
def scat {m k : ℕ} {α : Type} (g : α → α → α) (f : (⟨1, ![m]⟩ : Shape).Idx → α) (v : (⟨1, ![k]⟩ : Shape).Idx → BitVec 32)
    (w : (⟨1, ![k]⟩ : Shape).Idx → α) : (⟨1, ![m]⟩ : Shape).Idx → α :=
  (List.finRange ((![k] : Fin 1 → ℕ) 0)).foldl (fun h l => fun j => if (j 0).val = (v (Shape.ofLane l)).toNat then
    g (h j) (w (Shape.ofLane l)) else h j) f

variable {F : FTy → Type} [FloatOps F]

theorem loadIdx_eq {m k : ℕ} [NeZero m] {e : EltTy} (f : Vec F (⟨1, ![m]⟩ : Shape) e) (v : IVec (⟨1, ![k]⟩ : Shape) 32)
    (h : ∀ a x, ((![v] : Fin 1 → IVec (⟨1, ![k]⟩ : Shape) 32) a x).toNat < (⟨1, ![m]⟩ : Shape).size a) :
    loadIdx (F := F) f (![v] : Fin 1 → IVec (⟨1, ![k]⟩ : Shape) 32) h = gat f v := by
  funext x
  show f _ = f _
  congr 1
  refine eq_ix ?_
  rfl

theorem storeIdx_add_eq {m k : ℕ} {e : EltTy} (f : Vec F (⟨1, ![m]⟩ : Shape) e) (v : IVec (⟨1, ![k]⟩ : Shape) 32) (w : Vec F (⟨1, ![k]⟩ : Shape) e)
    (h : ∀ a x, ((![v] : Fin 1 → IVec (⟨1, ![k]⟩ : Shape) 32) a x).toNat < (⟨1, ![m]⟩ : Shape).size a) :
    storeIdx (F := F) f (![v] : Fin 1 → IVec (⟨1, ![k]⟩ : Shape) 32) w (fun _ => 1#1) true h = scat (Elt.idxAdd (F := F) e) f v w := by
  unfold storeIdx scat
  congr 1
  funext g l
  dsimp only
  refine (if_pos rfl).trans ?_
  funext j
  have : (∀ a, (j a).val = (idxAt (s := (⟨1, ![m]⟩ : Shape)) (![v] : Fin 1 → IVec (⟨1, ![k]⟩ : Shape) 32) h (Shape.ofLane l) a).val) ↔
      (j 0).val = (v (Shape.ofLane l)).toNat := Fin.forall_fin_one
  by_cases hj : (j 0).val = (v (Shape.ofLane l)).toNat
  · have e : j = idxAt (s := (⟨1, ![m]⟩ : Shape)) (![v] : Fin 1 → IVec (⟨1, ![k]⟩ : Shape) 32) h (Shape.ofLane l) := idx_ext hj
    rw [if_pos (this.2 hj)]
    refine Eq.trans ?_ (if_pos hj).symm
    rw [← e]; rfl
  · rw [if_neg (fun hh => hj (this.1 hh))]
    exact (if_neg hj).symm

theorem storeIdx_set_eq {m k : ℕ} {e : EltTy} (f : Vec F (⟨1, ![m]⟩ : Shape) e) (v : IVec (⟨1, ![k]⟩ : Shape) 32) (w : Vec F (⟨1, ![k]⟩ : Shape) e)
    (h : ∀ a x, ((![v] : Fin 1 → IVec (⟨1, ![k]⟩ : Shape) 32) a x).toNat < (⟨1, ![m]⟩ : Shape).size a) :
    storeIdx (F := F) f (![v] : Fin 1 → IVec (⟨1, ![k]⟩ : Shape) 32) w (fun _ => 1#1) false h = scat (fun _ b => b) f v w := by
  unfold storeIdx scat
  congr 1
  funext g l
  dsimp only
  refine (if_pos rfl).trans ?_
  funext j
  have : (∀ a, (j a).val = (idxAt (s := (⟨1, ![m]⟩ : Shape)) (![v] : Fin 1 → IVec (⟨1, ![k]⟩ : Shape) 32) h (Shape.ofLane l) a).val) ↔
      (j 0).val = (v (Shape.ofLane l)).toNat := Fin.forall_fin_one
  by_cases hj : (j 0).val = (v (Shape.ofLane l)).toNat
  · rw [if_pos (this.2 hj)]
    refine Eq.trans ?_ (if_pos hj).symm
    rfl
  · rw [if_neg (fun hh => hj (this.1 hh))]
    exact (if_neg hj).symm

/-! ## The kernel's buffers -/

/-- A part of the kernel's body, at the buffers and semaphores the call gives it. -/
abbrev At {α : Sort _} (f : (arg2 : Memref sig .scVector .hbm S24576 .f32) → arg2.IsWhole → (arg3 : Memref sig .scVector .hbm S49152 .i32) → arg3.IsWhole → (arg4 : Memref sig .scVector .hbm S2560 .f32) → arg4.IsWhole → (arg5 : Memref sig .scVector .vmem S2048 .f32) → arg5.IsWhole → (arg6 : Memref sig .scVector .vmem S2048 .f32) → arg6.IsWhole → (arg7 : Memref sig .scVector .vmem S2048 .f32) → arg7.IsWhole → (arg8 : Memref sig .scVector .vmem S4096 .i32) → arg8.IsWhole → (arg9 : Memref sig .scVector .vmem S4096 .i32) → arg9.IsWhole → (arg10 : Memref sig .scVector .vmem S4096 .i32) → arg10.IsWhole → (arg11 : Memref sig .scVector .vmem S12288 .i32) → arg11.IsWhole → (arg12 : Memref sig .scVector .vmem S12288 .i32) → arg12.IsWhole → (arg13 : Memref sig .scVector .vmem S12288 .i32) → arg13.IsWhole → (arg14 : Memref sig .scVector .vmem S12288 .i32) → arg14.IsWhole → (arg15 : Memref sig .scVector .vmem S2048 .i32) → arg15.IsWhole → (arg16 : Memref sig .scVector .vmem S2048 .i32) → arg16.IsWhole → (arg17 : Memref sig .scVector .vmem S2048 .i32) → arg17.IsWhole → (arg18 : Memref sig .scVector .vmem S2048 .f32) → arg18.IsWhole → (arg19 : Memref sig .scVector .vmem S2048 .f32) → arg19.IsWhole → (arg20 : Memref sig .scVector .vmem S2048 .f32) → arg20.IsWhole → (arg21 : Memref sig .scVector .vmem S2048 .f32) → arg21.IsWhole → (arg22 : Memref sig .scVector .vmem S2048 .f32) → arg22.IsWhole → (arg23 : Memref sig .scVector .vmem S256 .f32) → arg23.IsWhole → (arg24 : Memref sig .scVector .vmem S256 .f32) → arg24.IsWhole → (arg25 : Memref sig .scVector .vmem S256 .f32) → arg25.IsWhole → (arg26 : Memref sig .scVector .vmem S256 .f32) → arg26.IsWhole → (arg27 : Memref sig .scVector .vmem S80 .f32) → arg27.IsWhole → (arg28 : Memref sig .scVector .shared S24576 .i32) → arg28.IsWhole → (arg29 : Memref sig .scVector .shared S24576 .i32) → arg29.IsWhole → (arg30 : Memref sig .scVector .shared S24576 .i32) → arg30.IsWhole → (arg31 : Memref sig .scVector .shared S24576 .i32) → arg31.IsWhole → (arg32 : Memref sig .scVector .shared S4096 .i32) → arg32.IsWhole → (arg33 : Memref sig .scVector .shared S4096 .i32) → arg33.IsWhole → (arg34 : Memref sig .scVector .shared S131072 .f32) → arg34.IsWhole → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → α) : α :=
  f (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60

/-- The contents of a tile's buffers. -/
abbrev Mem (F : FTy → Type) : Type := ∀ r : Ref sig .scVector, r.ty.Contents (Elt F)

/-- A buffer of the tile's own memory. -/
abbrev isV (b : Ref sig .scVector) : Bool := decide (b.space = .vmem)

/-- What part of buffer number `j` of memory space `sp` tile `s` of SparseCore `c` holds, by the element's number `x`; `ph` counts
    the meetings so far. -/
def ownP (ph c s : ℕ) : Space → ℕ → ℕ → Prop
  | .hbm, 6, x => x / 80 = c * 16 + s
  | .hbm, _, _ => True
  | .shared, 6, x => if ph = 0 then x / 8192 = s else x / 65536 = s / 8 ∧ x % 2048 / 256 = s % 8
  | .shared, 0, x => if ph = 0 then x / 12288 = s / 8 ∧ x % 4096 / 512 = s % 8 else x / 12288 = s / 8 ∧ s % 8 = 0
  | .shared, 1, x => if ph = 0 then x / 12288 = s / 8 ∧ x % 4096 / 512 = s % 8 else x / 12288 = s / 8 ∧ s % 8 = 0
  | .shared, 2, x => if ph = 0 then x / 12288 = s / 8 ∧ x % 4096 / 512 = s % 8 else x / 12288 = s / 8
  | .shared, 3, x => if ph = 2 then x / 12288 = s / 8 else x / 12288 = s / 8 ∧ s % 8 = 0
  | .shared, 4, x => if ph = 2 then x / 2048 = s / 8 else x / 2048 = s / 8 ∧ s % 8 = 0
  | .shared, 5, x => if ph = 2 then x / 2048 = s / 8 else x / 2048 = s / 8 ∧ s % 8 = 0
  | .vmem, _, _ => True
  | _, _, _ => False

/-- The share of reader `k` of eight. -/
def shr (k : ℕ) : PosShare TreeShare := dealShare fullShare 8 k

/-- The share of the two tables that tile `s` of SparseCore `c` reads at. -/
def tabSh (c s : ℕ) : PosShare TreeShare := shareTokN (shareTokN fullShare c) s

/-- The share the tile holds of each. -/
def shP (ph c s : ℕ) : Space → ℕ → PosShare TreeShare
  | .hbm, 6 => fullShare
  | .hbm, _ => tabSh c s
  | .shared, 2 => if ph = 0 then fullShare else shr (s % 8)
  | .shared, 3 => if ph = 2 then shr (s % 8) else fullShare
  | .shared, 4 => if ph = 2 then shr (s % 8) else fullShare
  | .shared, 5 => if ph = 2 then shr (s % 8) else fullShare
  | _, _ => fullShare

/-- The buffers a tile names. -/
abbrev named (b : Ref sig .scVector) : Bool :=
  decide (b.space = .vmem) || decide (b.space = .shared) || decide (b = main_v1_scv) || decide (b = main_v3_scv) || decide (b = main_v4_scv)

open Classical in
/-- What a tile holds between its meetings. -/
def acc (ph c s : ℕ) : Acc sig .scVector where
  refs := Finset.univ.filter fun b => named b = true
  own := fun b => Finset.univ.filter fun x => ownP ph c s b.space b.idx.val (b.ty.shape.rowMajor x).val
  sh := fun b => shP ph c s b.space b.idx.val
  sems := Finset.univ.image fun k => SemLoc.dma k

theorem mem_refs {ph c s : ℕ} {b : Ref sig .scVector} (h : named b = true) : b ∈ (acc ph c s).refs :=
  Finset.mem_filter.mpr ⟨Finset.mem_univ _, h⟩

theorem mem_sems {ph c s : ℕ} (k) : SemLoc.dma k ∈ (acc ph c s).sems := Finset.mem_image_of_mem _ (Finset.mem_univ k)

theorem mem_own {ph c s : ℕ} {b : Ref sig .scVector} {x : b.ty.shape.Idx} :
    x ∈ (acc ph c s).own b ↔ ownP ph c s b.space b.idx.val (b.ty.shape.rowMajor x).val := by
  classical
  refine (Finset.mem_filter (p := fun x => ownP ph c s b.space b.idx.val (b.ty.shape.rowMajor x).val)).trans ⟨fun h => h.2, fun h => ⟨Finset.mem_univ _, h⟩⟩

theorem own_vm {ph c s : ℕ} {j nm} : (acc ph c s).own ⟨.vmem, j, nm⟩ = Finset.univ := by
  ext x; rw [mem_own]; exact ⟨fun _ => Finset.mem_univ _, fun _ => trivial⟩

theorem sh_vm {ph c s : ℕ} {j nm} : (acc ph c s).sh ⟨.vmem, j, nm⟩ = fullShare := rfl

theorem sub_own_vm {ph c s : ℕ} {j nm} (X : Finset (Ref.mk (sig := sig) (κ := .scVector) .vmem j nm).ty.shape.Idx) :
    X ⊆ (acc ph c s).own ⟨.vmem, j, nm⟩ := by rw [own_vm]; exact Finset.subset_univ _

theorem named_vm {j nm} : named ⟨.vmem, j, nm⟩ = true := by
  unfold named; simp

/-! ## Stretches -/

/-- What writing through a rectangle leaves. -/
def rput {s : Shape} {α : Type} (r : Rect s) (w : r.shape.Idx → α) (f : s.Idx → α) : s.Idx → α :=
  open Classical in fun y => if h : ∃ x, r.emb x = y then w h.choose else f y

theorem write_slice {κ : Kind} (b : Ref sig κ) (r : Rect b.ty.shape) (f : b.ty.Contents (Elt F)) (w : r.shape.Idx → Elt F b.ty.elt) :
    ((View.whole b).slice r : View sig κ _ _ _).write (Elt F) f w Finset.univ = rput r w f := by
  funext y
  unfold rput
  by_cases h : ∃ x, r.emb x = y
  · obtain ⟨x, rfl⟩ := h
    rw [dif_pos ⟨x, rfl⟩]
    have := View.write_emb_of_mem (v := ((View.whole b).slice r : View sig κ _ _ _)) (Val := Elt F) f w (M := Finset.univ) (x := x) (Finset.mem_univ _)
    have hx : (⟨x, rfl⟩ : ∃ x', r.emb x' = r.emb x).choose = x := r.emb.injective (⟨x, rfl⟩ : ∃ x', r.emb x' = r.emb x).choose_spec
    rw [hx]
    exact this
  · rw [dif_neg h]
    refine View.write_of_not_mem (v := ((View.whole b).slice r : View sig κ _ _ _)) (Val := Elt F) f w Finset.univ ?_
    intro hm
    obtain ⟨x, -, hx⟩ := Finset.mem_map.mp hm
    exact h ⟨x, hx⟩

theorem write_whole {κ : Kind} (b : Ref sig κ) (f w : b.ty.Contents (Elt F)) :
    (View.whole b : View sig κ _ _ _).write (Elt F) f w Finset.univ = w := View.write_whole_univ b f w

section Stretch

variable {m k : ℕ} [NeZero m] [NeZero k] {α : Type} {off : Fin 1 → ℕ}
    {inb : ∀ a, off a + (![k] : Fin 1 → ℕ) a ≤ (⟨1, ![m]⟩ : Shape).size a} {o : ℕ}

theorem unit_idx_val (x : (⟨1, ![k]⟩ : Shape).Idx) :
    ((Rect.unit (s := ⟨1, ![m]⟩) off ![k] inb).idx x 0).val = off 0 + (x 0).val := by
  show off 0 + 1 * (x 0).val = _; omega

/-- A read of a stretch. -/
theorem cut_eq (ho : off 0 = o) (f : (⟨1, ![m]⟩ : Shape).Idx → α) :
    (fun x => f ((Rect.unit (s := ⟨1, ![m]⟩) off ![k] inb).idx x)) = (cut o f : (⟨1, ![k]⟩ : Shape).Idx → α) := by
  funext x
  unfold cut at_
  congr 1
  exact eq_ix (by rw [unit_idx_val, ho])

/-- A write of a stretch. -/
theorem put_eq (ho : off 0 = o) (w : (⟨1, ![k]⟩ : Shape).Idx → α) (f : (⟨1, ![m]⟩ : Shape).Idx → α) :
    rput (Rect.unit (s := ⟨1, ![m]⟩) off ![k] inb) w f = put o w f := by
  funext y
  unfold rput
  by_cases h : ∃ x, (Rect.unit (s := ⟨1, ![m]⟩) off ![k] inb).emb x = y
  · rw [dif_pos h]
    have hx := h.choose_spec
    have hv : (y 0).val = o + (h.choose 0).val := by
      rw [← ho, ← unit_idx_val (inb := inb) h.choose]; exact (congrArg (fun z : (⟨1, ![m]⟩ : Shape).Idx => (z 0).val) hx).symm
    have hlt : (h.choose 0).val < k := (h.choose 0).isLt
    rw [put_in (by omega) (by omega), show (y 0).val - o = (h.choose 0).val by omega, at_val]
  · rw [dif_neg h]
    refine (put_out ?_).symm
    by_contra hc
    have h1 : o ≤ (y 0).val ∧ (y 0).val < o + k := by omega
    refine h ⟨ix ((y 0).val - o), idx_ext ?_⟩
    show off 0 + 1 * (((y 0).val - o) % k) = _
    rw [Nat.mod_eq_of_lt (by omega)]; omega

/-- A stretch lies in a set of elements given by their numbers. -/
theorem stretch_sub {P : ℕ → Prop} {S : Finset (⟨1, ![m]⟩ : Shape).Idx} (hS : ∀ x, x ∈ S ↔ P ((⟨1, ![m]⟩ : Shape).rowMajor x).val) (ho : off 0 = o)
    (h : ∀ n, o ≤ n → n < o + k → P n) : (Rect.unit (s := ⟨1, ![m]⟩) off ![k] inb).set ⊆ S := by
  intro x hx
  rw [hS]
  have := (Rect.mem_set_unit.mp hx) 0
  have e : ((⟨1, ![m]⟩ : Shape).rowMajor x).val = (x 0).val := Shape.rowMajor_val_one x
  rw [e]
  have hk : (![k] : Fin 1 → ℕ) 0 = k := rfl
  exact h _ (by omega) (by rw [← ho, ← hk]; exact this.2)

end Stretch

/-! ## The steps -/

section Step

variable {ph c s : ℕ} {cc : Fin τ.nSC} {ss : Fin τ.nSub} {α : Type} {μ : Mem F} {Q : α → LSt sig (Elt F) .scVector → Prop}

/-- The precondition of the rest of a tile's program. -/
abbrev Lwp (ph c s : ℕ) {cc : Fin τ.nSC} {ss : Fin τ.nSub} {α : Type} (q : Prog (TpuEff nD τ sig (Elt F) Λ₀ (.scVector cc ss)) α)
    (Q : α → LSt sig (Elt F) .scVector → Prop) (σ : LSt sig (Elt F) .scVector) : Prop := lwp (p := .scVector cc ss) (acc ph c s) q Q σ

theorem lwp_seq {β : Type} {q : Prog (TpuEff nD τ sig (Elt F) Λ₀ (.scVector cc ss)) β}
    {k : β → Prog (TpuEff nD τ sig (Elt F) Λ₀ (.scVector cc ss)) α} {σ : LSt sig (Elt F) .scVector} {R : β → LSt sig (Elt F) .scVector → Prop}
    (h₁ : Lwp ph c s q R σ) (h₂ : ∀ a σ', R a σ' → Lwp ph c s (k a) Q σ') : Lwp ph c s (q >>= k) Q σ := by
  show lwp _ _ _ _
  rw [lwp_bind]
  exact lwp_mono (p := .scVector cc ss) _ _ h₂ _ h₁

theorem step_load {j nm} {r : LoadRect (Ref.mk (sig := sig) (κ := .scVector) .vmem j nm).ty.shape} {hl}
    {k : (r.shape.Idx → Elt F (Ref.mk (sig := sig) (κ := .scVector) .vmem j nm).ty.elt) → Prog (TpuEff nD τ sig (Elt F) Λ₀ (.scVector cc ss)) α} {v}
    (hv : (fun x => μ ⟨.vmem, j, nm⟩ (r.idx x)) = v) (h : Lwp ph c s (k v) Q ⟨μ, none⟩) :
    Lwp ph c s (Prog.lift (.load (Memref.whole ⟨.vmem, j, nm⟩) r hl) >>= k) Q ⟨μ, none⟩ := by
  subst hv
  exact ⟨mem_refs named_vm, sub_own_vm _, rfl, h⟩

theorem step_store {j nm} {r : Rect (Ref.mk (sig := sig) (κ := .scVector) .vmem j nm).ty.shape}
    {w : r.shape.Idx → Elt F (Ref.mk (sig := sig) (κ := .scVector) .vmem j nm).ty.elt} {hx hm}
    {k : PUnit → Prog (TpuEff nD τ sig (Elt F) Λ₀ (.scVector cc ss)) α} {v}
    (hv : rput r w (μ ⟨.vmem, j, nm⟩) = v)
    (h : Lwp ph c s (k ⟨⟩) Q ⟨Function.update μ ⟨.vmem, j, nm⟩ v, none⟩) :
    Lwp ph c s (Prog.lift (.store (Memref.whole ⟨.vmem, j, nm⟩) r w Finset.univ hx hm) >>= k) Q ⟨μ, none⟩ := by
  subst hv
  rw [← write_slice] at h
  exact ⟨mem_refs named_vm, sub_own_vm _, sh_vm, rfl, h⟩

theorem step_assume {P : Prop} {dec : Decidable P} {k : PLift P → Prog (TpuEff nD τ sig (Elt F) Λ₀ (.scVector cc ss)) α} (hP : P)
    (h : Lwp ph c s (k ⟨hP⟩) Q ⟨μ, none⟩) : Lwp ph c s (Prog.lift (TpuEff.assume P dec) >>= k) Q ⟨μ, none⟩ :=
  ⟨hP, h⟩

theorem step_loadIdx {j nm} {t : Shape} {idxs : Fin (Ref.mk (sig := sig) (κ := .scVector) .vmem j nm).ty.shape.rank → IVec t 32} {hi hl}
    {k : Vec F t (Ref.mk (sig := sig) (κ := .scVector) .vmem j nm).ty.elt → Prog (TpuEff nD τ sig (Elt F) Λ₀ (.scVector cc ss)) α} {v}
    (hv : loadIdx (F := F) (μ ⟨.vmem, j, nm⟩) idxs hi = v) (h : Lwp ph c s (k v) Q ⟨μ, none⟩) :
    Lwp ph c s (SparseCore.vectorLoadIdx (p := .scVector cc ss) (Memref.whole ⟨.vmem, j, nm⟩) idxs hi hl >>= k) Q ⟨μ, none⟩ := by
  subst hv
  refine ⟨mem_refs named_vm, sub_own_vm _, rfl, ?_⟩
  have e := Memref.readAt_whole (Elt F) (Ref.mk (sig := sig) (κ := .scVector) .vmem j nm) (μ ⟨.vmem, j, nm⟩)
  show lwp _ (k (loadIdx (F := F) ((Memref.whole (Ref.mk (sig := sig) (κ := .scVector) .vmem j nm)).view.readAt (Elt F) (LoadRect.whole _) (μ ⟨.vmem, j, nm⟩)) idxs hi)) _ _
  rw [e]
  exact h

theorem step_storeIdx {j nm} {d : Fin 1 → ℕ} {idxs : Fin (Ref.mk (sig := sig) (κ := .scVector) .vmem j nm).ty.shape.rank → IVec ⟨1, d⟩ 32}
    {w : Vec F ⟨1, d⟩ (Ref.mk (sig := sig) (κ := .scVector) .vmem j nm).ty.elt} {mask : IVec ⟨1, d⟩ 1} {add : Bool} {hi hs}
    {k : PUnit → Prog (TpuEff nD τ sig (Elt F) Λ₀ (.scVector cc ss)) α} {v}
    (hv : storeIdx (F := F) (μ ⟨.vmem, j, nm⟩) idxs w mask add hi = v)
    (h : Lwp ph c s (k ⟨⟩) Q ⟨Function.update μ ⟨.vmem, j, nm⟩ v, none⟩) :
    Lwp ph c s (SparseCore.vectorStoreIdx (p := .scVector cc ss) (Memref.whole ⟨.vmem, j, nm⟩) idxs w mask add hi hs >>= k) Q ⟨μ, none⟩ := by
  subst hv
  refine ⟨mem_refs named_vm, sub_own_vm _, rfl,
    mem_refs named_vm, sub_own_vm _, sh_vm, rfl, ?_⟩
  have e := Memref.readAt_whole (Elt F) (Ref.mk (sig := sig) (κ := .scVector) .vmem j nm) (μ ⟨.vmem, j, nm⟩)
  have e' := Memref.write_access_whole_univ (Elt F) (Ref.mk (sig := sig) (κ := .scVector) .vmem j nm) (μ ⟨.vmem, j, nm⟩)
    (storeIdx (F := F) ((Memref.whole (Ref.mk (sig := sig) (κ := .scVector) .vmem j nm)).view.readAt (Elt F) (LoadRect.whole _) (μ ⟨.vmem, j, nm⟩)) idxs w mask add hi)
  show lwp _ (k ⟨⟩) _ ⟨Function.update μ ⟨.vmem, j, nm⟩ _, none⟩
  erw [e', e]
  exact h

/-- A copy and its wait. -/
theorem step_copy {sp₁ sp₂ : Space} {sh : Shape} {e : EltTy} {src : Memref sig .scVector sp₁ sh e} {dst : Memref sig .scVector sp₂ sh e} {sem : DmaSem sig}
    {h₁ h₂ h₃ h₄ h₅} {k : PUnit → Prog (TpuEff nD τ sig (Elt F) Λ₀ (.scVector cc ss)) α} {f}
    (hs : named src.view.ref = true) (hd : named dst.view.ref = true) (hne : src.view.ref ≠ dst.view.ref)
    (hso : src.view.set ⊆ (acc ph c s).own src.view.ref) (hdo : dst.view.set ⊆ (acc ph c s).own dst.view.ref)
    (hsh : (acc ph c s).sh dst.view.ref = fullShare) (hn : 0 < dst.view.dmaCredit)
    (hf : dst.view.write (Elt F) (μ dst.view.ref) (src.view.read (Elt F) (μ src.view.ref)) Finset.univ = f)
    (h : Lwp ph c s (k ⟨⟩) Q ⟨Function.update μ dst.view.ref f, none⟩) :
    Lwp ph c s (Prog.lift (.enqueueDma src (.here dst) (.dma sem) h₁ h₂ h₃) >>= fun _ => Prog.lift (.waitDma2 sem src dst h₄ h₅) >>= k) Q ⟨μ, none⟩ := by
  subst hf
  exact ⟨mem_refs hs, mem_refs hd, hne, hso, hdo, hsh, mem_sems _, hn, rfl, rfl, h⟩

/-- A copy whose wait comes later. -/
theorem step_enqueue {sp₁ sp₂ : Space} {sh : Shape} {e : EltTy} {src : Memref sig .scVector sp₁ sh e} {dst : Memref sig .scVector sp₂ sh e} {sem : DmaSem sig}
    {h₁ h₂ h₃} {k : PUnit → Prog (TpuEff nD τ sig (Elt F) Λ₀ (.scVector cc ss)) α} {f}
    (hs : named src.view.ref = true) (hd : named dst.view.ref = true) (hne : src.view.ref ≠ dst.view.ref)
    (hso : src.view.set ⊆ (acc ph c s).own src.view.ref) (hdo : dst.view.set ⊆ (acc ph c s).own dst.view.ref)
    (hsh : (acc ph c s).sh dst.view.ref = fullShare) (hn : 0 < dst.view.dmaCredit)
    (hf : dst.view.write (Elt F) (μ dst.view.ref) (src.view.read (Elt F) (μ src.view.ref)) Finset.univ = f)
    (h : Lwp ph c s (k ⟨⟩) Q ⟨Function.update μ dst.view.ref f, some (.dma sem, dst.view.dmaCredit)⟩) :
    Lwp ph c s (Prog.lift (.enqueueDma src (.here dst) (.dma sem) h₁ h₂ h₃) >>= k) Q ⟨μ, none⟩ := by
  subst hf
  exact ⟨mem_refs hs, mem_refs hd, hne, hso, hdo, hsh, mem_sems _, hn, rfl, h⟩

/-- The same, the two buffers named. -/
theorem step_copy' {sp₁ sp₂ : Space} {sh : Shape} {e : EltTy} {src : Memref sig .scVector sp₁ sh e} {dst : Memref sig .scVector sp₂ sh e} {sem : DmaSem sig}
    {h₁ h₂ h₃ h₄ h₅} {k : PUnit → Prog (TpuEff nD τ sig (Elt F) Λ₀ (.scVector cc ss)) α} (a b : Ref sig .scVector) {f : b.ty.Contents (Elt F)}
    (ha : src.view.ref = a) (hb : dst.view.ref = b)
    (hs : named a = true) (hd : named b = true) (hne : a ≠ b)
    (hso : src.view.set ⊆ (acc ph c s).own src.view.ref) (hdo : dst.view.set ⊆ (acc ph c s).own dst.view.ref)
    (hsh : (acc ph c s).sh b = fullShare) (hn : 0 < dst.view.dmaCredit)
    (hf : (hb ▸ dst.view.write (Elt F) (μ dst.view.ref) (src.view.read (Elt F) (μ src.view.ref)) Finset.univ) = f)
    (h : Lwp ph c s (k ⟨⟩) Q ⟨Function.update μ b f, none⟩) :
    Lwp ph c s (Prog.lift (.enqueueDma src (.here dst) (.dma sem) h₁ h₂ h₃) >>= fun _ => Prog.lift (.waitDma2 sem src dst h₄ h₅) >>= k) Q ⟨μ, none⟩ := by
  subst ha hb
  exact step_copy hs hd hne hso hdo hsh hn hf h

theorem step_wait {sp₁ sp₂ : Space} {sh : Shape} {e : EltTy} {src : Memref sig .scVector sp₁ sh e} {dst : Memref sig .scVector sp₂ sh e} {sem : DmaSem sig}
    {h₄ h₅} {k : PUnit → Prog (TpuEff nD τ sig (Elt F) Λ₀ (.scVector cc ss)) α}
    (h : Lwp ph c s (k ⟨⟩) Q ⟨μ, none⟩) :
    Lwp ph c s (Prog.lift (.waitDma2 sem src dst h₄ h₅) >>= k) Q ⟨μ, some (.dma sem, dst.view.dmaCredit)⟩ :=
  ⟨rfl, h⟩

/-- A part of a program, the rest as its post. -/
theorem lwp_enter {β : Type} {q : Prog (TpuEff nD τ sig (Elt F) Λ₀ (.scVector cc ss)) β}
    {k : β → Prog (TpuEff nD τ sig (Elt F) Λ₀ (.scVector cc ss)) α} {σ : LSt sig (Elt F) .scVector}
    (h : Lwp ph c s q (fun a σ' => Lwp ph c s (k a) Q σ') σ) : Lwp ph c s (q >>= k) Q σ := by
  show lwp _ _ _ _
  rw [lwp_bind]
  exact h

theorem lwp_pure {a : α} {σ : LSt sig (Elt F) .scVector} (h : Q a σ) : Lwp ph c s (pure a : Prog (TpuEff nD τ sig (Elt F) Λ₀ (.scVector cc ss)) α) Q σ := h

/-- What is known of the memory may replace the memory. -/
theorem lwp_forget {q : Prog (TpuEff nD τ sig (Elt F) Λ₀ (.scVector cc ss)) α} (R : Mem F → Prop) (hR : R μ)
    (h : ∀ μ', R μ' → Lwp ph c s q Q ⟨μ', none⟩) : Lwp ph c s q Q ⟨μ, none⟩ := h μ hR

/-- A counted loop, by what is known before each trip. -/
theorem step_for {ls : Type} {w : ℕ} {l : Scf.Loop w} {hok : l.OK} {init : ls}
    {body : Fin l.trips → ls → Prog (TpuEff nD τ sig (Elt F) Λ₀ (.scVector cc ss)) ls}
    {k : ls → Prog (TpuEff nD τ sig (Elt F) Λ₀ (.scVector cc ss)) α}
    (I : ℕ → ls → Mem F → Prop) (h0 : I 0 init μ)
    (hstep : ∀ (n : Fin l.trips) a μ', I n.val a μ' →
      Lwp ph c s (body n a) (fun a' σ => ∃ μ'', σ = ⟨μ'', none⟩ ∧ I (n.val + 1) a' μ'') ⟨μ', none⟩)
    (h : ∀ a μ', I l.trips a μ' → Lwp ph c s (k a) Q ⟨μ', none⟩) : Lwp ph c s (l.for hok init body >>= k) Q ⟨μ, none⟩ := by
  refine lwp_seq (R := fun a σ => ∃ μ', σ = ⟨μ', none⟩ ∧ I l.trips a μ') ?_ ?_
  · refine lwp_for (p := .scVector cc ss) _ l hok init body (fun n a σ => ∃ μ', σ = ⟨μ', none⟩ ∧ I n a μ') _ ⟨μ, rfl, h0⟩ ?_
    rintro n a σ' ⟨μ', rfl, hI⟩
    exact hstep n a μ' hI
  · rintro a σ' ⟨μ', rfl, hI⟩
    exact h a μ' hI

/-- The two states agree on every buffer but the ones listed. -/
def Off (l : List (Ref sig .scVector)) (μ' μ : Mem F) : Prop := ∀ r, r ∉ l → μ' r = μ r

theorem Off.refl (l : List (Ref sig .scVector)) (μ : Mem F) : Off l μ μ := fun _ _ => rfl

theorem Off.trans {l : List (Ref sig .scVector)} {μ₁ μ₂ μ₃ : Mem F} (h : Off l μ₁ μ₂) (h' : Off l μ₂ μ₃) : Off l μ₁ μ₃ :=
  fun r hr => (h r hr).trans (h' r hr)

theorem Off.mono {l l' : List (Ref sig .scVector)} {μ' μ : Mem F} (h : Off l μ' μ) (hl : l ⊆ l') : Off l' μ' μ :=
  fun r hr => h r fun hh => hr (hl hh)

theorem Off.update {l : List (Ref sig .scVector)} {μ' μ : Mem F} (h : Off l μ' μ) {b : Ref sig .scVector} (hb : b ∈ l) (f) :
    Off l (Function.update μ' b f) μ :=
  fun r hr => (Function.update_of_ne (fun e => hr (by rw [e]; exact hb)) _ _).trans (h r hr)

end Step

end Cert.Proof.Tile

end
-- ==== Proof.Scatter.lean ====
/-
  The first phase of a tile: copies of its batch's vertices and faces, the four accumulators zeroed, and one pass over its
  512 faces that adds each face's cotangent weights into the accumulators and writes the face's three edges.
-/
module

public import proofs.«01_k».proof.Proof.Steps

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀
variable {F : FTy → Type} [FloatOps F]

/-! ## Where the accesses fall -/

theorem off5 : ∀ k : Fin k0_t1_loop.trips, k0_off5 k 0 = 16 * k.val := by decide +kernel
theorem off6 : ∀ (i : grid0.Coords) (k : Fin k0_t2_loop.trips), k0_off6 i k 0 = 512 * ((i 1).val % 8) + 16 * k.val := by decide +kernel
theorem off7a : ∀ (i : grid0.Coords) (k : Fin k0_t2_loop.trips), k0_off7 i k 0#32 0 = 512 * ((i 1).val % 8) + 16 * k.val := by decide +kernel
theorem off7b : ∀ (i : grid0.Coords) (k : Fin k0_t2_loop.trips), k0_off7 i k 4096#32 0 = 4096 + (512 * ((i 1).val % 8) + 16 * k.val) := by decide +kernel
theorem off7c : ∀ (i : grid0.Coords) (k : Fin k0_t2_loop.trips), k0_off7 i k 8192#32 0 = 8192 + (512 * ((i 1).val % 8) + 16 * k.val) := by decide +kernel

/-! ## What one trip computes -/

/-- The three squared edge lengths of sixteen faces, their lengths, the sum of the lengths. -/
structure Lens (F : FTy → Type) where
  (a2 b2 c2 a b c sum : FVec F S16 .f32)

/-- They, from the coordinates of the three corners. -/
def lens (p : Fin 3 → Fin 3 → FVec F S16 .f32) : Lens F where
  a2 := k0_pay3 (p 1 0) (p 1 1) (p 1 2) (p 2 0) (p 2 1) (p 2 2)
  b2 := k0_pay4 (p 0 0) (p 0 1) (p 0 2) (p 2 0) (p 2 1) (p 2 2)
  c2 := k0_pay5 (p 0 0) (p 0 1) (p 0 2) (p 1 0) (p 1 1) (p 1 2)
  a := k0_pay6 (p 1 0) (p 1 1) (p 1 2) (p 2 0) (p 2 1) (p 2 2)
  b := k0_pay7 (p 0 0) (p 0 1) (p 0 2) (p 2 0) (p 2 1) (p 2 2)
  c := k0_pay8 (p 0 0) (p 0 1) (p 0 2) (p 1 0) (p 1 1) (p 1 2)
  sum := k0_pay9 (p 0 0) (p 0 1) (p 0 2) (p 1 0) (p 1 1) (p 1 2) (p 2 0) (p 2 1) (p 2 2)

/-- The weights of the corners. -/
def cots (l : Lens F) : Fin 3 → FVec F S16 .f32
  | 0 => k0_pay11 l.a2 l.b2 l.c2 l.a l.b l.c l.sum
  | 1 => k0_pay12 l.a2 l.b2 l.c2 l.a l.b l.c l.sum
  | 2 => k0_pay13 l.a2 l.b2 l.c2 l.a l.b l.c l.sum

/-- Sixteen faces' six additions into one accumulator: for the corner opposite each edge, `w`'s value at the edge's other end. -/
def six (f : Fin 3 → Vec F S16 .i32) (ct : Fin 3 → FVec F S16 .f32) (w : Fin 3 → FVec F S16 .f32) (A : Vec F S2048 .f32) : Vec F S2048 .f32 :=
  let g := Elt.idxAdd (F := F) .f32
  scat g (scat g (scat g (scat g (scat g (scat g A (f 1) (mulf (ct 0) (w 2))) (f 2) (mulf (ct 0) (w 1)))
    (f 2) (mulf (ct 1) (w 0))) (f 0) (mulf (ct 1) (w 2))) (f 0) (mulf (ct 2) (w 1))) (f 1) (mulf (ct 2) (w 0))

/-- The same for the accumulator of the weights alone. -/
def sixW (f : Fin 3 → Vec F S16 .i32) (ct : Fin 3 → FVec F S16 .f32) (A : Vec F S2048 .f32) : Vec F S2048 .f32 :=
  let g := Elt.idxAdd (F := F) .f32
  scat g (scat g (scat g (scat g (scat g (scat g A (f 1) (ct 0)) (f 2) (ct 0))
    (f 2) (ct 1)) (f 0) (ct 1)) (f 0) (ct 2)) (f 1) (ct 2)

/-- The corners' coordinates. -/
def corners (v : Fin 3 → Vec F S2048 .f32) (f : Fin 3 → Vec F S16 .i32) : Fin 3 → Fin 3 → FVec F S16 .f32 :=
  fun k q => gat (v q) (f k)

/-- The accumulators, as buffers. -/
abbrev accs : List (Ref sig .scVector) := [cc0_scratch13, cc0_scratch14, cc0_scratch15, cc0_scratch16, cc0_scratch6, cc0_scratch7, cc0_scratch8]

theorem chk_of {m : ℕ} {v : IVec S16 32} (h : ∀ x, (v x).toNat < m) :
    ∀ a x, ((![v] : Fin 1 → IVec S16 32) a x).toNat < (⟨1, ![m]⟩ : Shape).size a := by
  intro a x; fin_cases a; exact h x

theorem eleven {P : Prop} (h : P) : P ∧ P ∧ P ∧ P ∧ P ∧ P ∧ P ∧ P ∧ P ∧ P ∧ P := ⟨h, h, h, h, h, h, h, h, h, h, h⟩

theorem t1_step (c s : ℕ) (i : grid0.Coords) (v0 v1 : BitVec 32) (v4 : IVec S16 32) (v5 : FVec F S16 .f32) (k : Fin k0_t1_loop.trips) (a : BitVec 32) (μ : Mem F) :
    Lwp 0 c s (At (k0_t1_body (F := F) i) v0 v1 v4 v5 k a) (fun _ σ => ∃ μ' : Mem F, σ = ⟨μ', none⟩ ∧
      μ' cc0_scratch13 = put (16 * k.val) v5 (μ cc0_scratch13) ∧
      μ' cc0_scratch14 = put (16 * k.val) v5 (μ cc0_scratch14) ∧
      μ' cc0_scratch15 = put (16 * k.val) v5 (μ cc0_scratch15) ∧
      μ' cc0_scratch16 = put (16 * k.val) v5 (μ cc0_scratch16) ∧ Off accs μ' μ) ⟨μ, none⟩ := by
  unfold At k0_t1_body
  refine step_load (cut_eq (off5 k) _) ?_
  refine step_store (put_eq (off5 k) _ _) ?_
  refine step_load (cut_eq (off5 k) _) ?_
  refine step_store (put_eq (off5 k) _ _) ?_
  refine step_load (cut_eq (off5 k) _) ?_
  refine step_store (put_eq (off5 k) _ _) ?_
  refine step_load (cut_eq (off5 k) _) ?_
  refine step_store (put_eq (off5 k) _ _) ?_
  refine lwp_pure ⟨_, rfl, ?_, ?_, ?_, ?_, ?_⟩
  · simp (disch := decide) only [Function.update_of_ne, Function.update_self]
  · simp (disch := decide) only [Function.update_of_ne, Function.update_self]
  · simp (disch := decide) only [Function.update_of_ne, Function.update_self]
  · simp (disch := decide) only [Function.update_of_ne, Function.update_self]
  · exact ((((Off.refl _ _).update (by decide) _).update (by decide) _).update (by decide) _).update (by decide) _

theorem t2_step (c s : ℕ) (i : grid0.Coords) (v0 v1 : BitVec 32) (v5 : FVec F S16 .f32) (v15 : BitVec 32)
    (k : Fin k0_t2_loop.trips) (a : BitVec 32) (μ : Mem F) (v4 : IVec S16 32)
    (v : Fin 3 → Vec F S2048 .f32) (hv0 : μ cc0_scratch0 = v 0) (hv1 : μ cc0_scratch1 = v 1) (hv2 : μ cc0_scratch2 = v 2)
    (f : Fin 3 → Vec F S16 .i32) (o : ℕ) (ho : o = 512 * ((i 1).val % 8) + 16 * k.val)
    (hf0 : cut o (μ cc0_scratch3 : Vec F S4096 .i32) = f 0) (hf1 : cut o (μ cc0_scratch4 : Vec F S4096 .i32) = f 1)
    (hf2 : cut o (μ cc0_scratch5 : Vec F S4096 .i32) = f 2) (hf : ∀ k x, (f k x : BitVec 32).toNat < 2048) :
    Lwp 0 c s (At (k0_t2_body (F := F) i) v0 v1 v4 v5 v15 k a) (fun _ σ => ∃ μ' : Mem F, σ = ⟨μ', none⟩ ∧
      μ' cc0_scratch13 = six f (cots (lens (corners v f))) (fun j => corners v f j 0) (μ cc0_scratch13) ∧
      μ' cc0_scratch14 = six f (cots (lens (corners v f))) (fun j => corners v f j 1) (μ cc0_scratch14) ∧
      μ' cc0_scratch15 = six f (cots (lens (corners v f))) (fun j => corners v f j 2) (μ cc0_scratch15) ∧
      μ' cc0_scratch16 = sixW f (cots (lens (corners v f))) (μ cc0_scratch16) ∧
      μ' cc0_scratch6 = put (8192 + o) (k0_pay36 (f 0) (f 2)) (put (4096 + o) (k0_pay34 (f 1) (f 2)) (put o (k0_pay32 (f 0) (f 1)) (μ cc0_scratch6 : Vec F S12288 .i32))) ∧
      μ' cc0_scratch7 = put (8192 + o) (k0_pay37 v4 (Scalar.addi v15 (Scalar.muli (Scf.iv 0#32 1#32 k) 16#32)) (f 0) (f 2))
        (put (4096 + o) (k0_pay35 v4 (Scalar.addi v15 (Scalar.muli (Scf.iv 0#32 1#32 k) 16#32)) (f 1) (f 2))
          (put o (k0_pay33 v4 (Scalar.addi v15 (Scalar.muli (Scf.iv 0#32 1#32 k) 16#32)) (f 0) (f 1)) (μ cc0_scratch7 : Vec F S12288 .i32))) ∧
      μ' cc0_scratch8 = put (8192 + o) (f 1) (put (4096 + o) (f 0) (put o (f 2) (μ cc0_scratch8 : Vec F S12288 .i32))) ∧ Off accs μ' μ) ⟨μ, none⟩ := by
  subst ho
  have hoff : ∀ k' : Fin k0_t2_loop.trips, k' = k → k0_off6 i k' 0 = 512 * ((i 1).val % 8) + 16 * k.val := fun k' e => by rw [e, off6]
  unfold At k0_t2_body
  rw [k0_part1_eq_skeleton, k0_part2_eq_skeleton, k0_part3_eq_skeleton]
  refine lwp_enter ?_
  unfold k0_part1_skel
  refine step_load ((cut_eq (hoff k rfl) _).trans hf0) ?_
  refine step_assume (eleven (chk_of (hf 0))) ?_
  refine step_load ((cut_eq (hoff k rfl) _).trans hf1) ?_
  refine step_assume (eleven (chk_of (hf 1))) ?_
  refine step_load ((cut_eq (hoff k rfl) _).trans hf2) ?_
  refine step_assume (eleven (chk_of (hf 2))) ?_
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  rw [hv0, hv1, hv2]
  refine lwp_pure ?_
  refine lwp_enter ?_
  unfold k0_part2_skel
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine lwp_pure ?_
  refine lwp_enter ?_
  unfold k0_part3_skel
  refine step_storeIdx (storeIdx_add_eq _ _ _ _) ?_
  refine step_storeIdx (storeIdx_add_eq _ _ _ _) ?_
  refine step_storeIdx (storeIdx_add_eq _ _ _ _) ?_
  refine step_storeIdx (storeIdx_add_eq _ _ _ _) ?_
  refine step_load (cut_eq (off7a i k) _) ?_
  refine step_store (put_eq (off7a i k) _ _) ?_
  refine step_load (cut_eq (off7a i k) _) ?_
  refine step_store (put_eq (off7a i k) _ _) ?_
  refine step_load (cut_eq (off7a i k) _) ?_
  refine step_store (put_eq (off7a i k) _ _) ?_
  refine step_load (cut_eq (off7b i k) _) ?_
  refine step_store (put_eq (off7b i k) _ _) ?_
  refine step_load (cut_eq (off7b i k) _) ?_
  refine step_store (put_eq (off7b i k) _ _) ?_
  refine step_load (cut_eq (off7b i k) _) ?_
  refine step_store (put_eq (off7b i k) _ _) ?_
  refine step_load (cut_eq (off7c i k) _) ?_
  refine step_store (put_eq (off7c i k) _ _) ?_
  refine step_load (cut_eq (off7c i k) _) ?_
  refine lwp_pure ?_
  refine step_store (put_eq (off7c i k) _ _) ?_
  refine step_load (cut_eq (off7c i k) _) ?_
  refine step_store (put_eq (off7c i k) _ _) ?_
  refine lwp_pure ⟨_, rfl, ?_, ?_, ?_, ?_, ?_, ?_, ?_, ?_⟩
  on_goal 8 =>
    iterate 33 refine Off.update ?_ (by decide) _
    exact Off.refl _ _
  all_goals
    simp (disch := decide) only [Function.update_of_ne, Function.update_self]
    try rfl

/-! ## What the phase leaves -/

/-- Coordinate `q` of batch `b`'s vertices. -/
def vtx (V : Vec F S24576 .f32) (b : ℕ) (q : Fin 3) : Vec F S2048 .f32 := cut (b * 6144 + q.val * 2048) V

/-- Corner `k` of batch `b`'s faces. -/
def fce (G : Vec F S49152 .i32) (b : ℕ) (k : Fin 3) : Vec F S4096 .i32 := cut (b * 12288 + k.val * 4096) G

/-- The sixteen faces of trip `n` of tile `s`, corner `k`. -/
def fs (G : Vec F S49152 .i32) (b s n : ℕ) (k : Fin 3) : Vec F S16 .i32 := cut (512 * s + 16 * n) (fce G b k)

/-- The four accumulators of tile `s` after `n` trips. -/
def accL (V : Vec F S24576 .f32) (G : Vec F S49152 .i32) (b s : ℕ) : ℕ → Fin 4 → Vec F S2048 .f32
  | 0, _ => fun _ => Scalar.ofBits .f32 0#32
  | n + 1, q =>
    let f := fs G b s n
    let p := corners (vtx V b) f
    match q with
    | 0 => six f (cots (lens p)) (fun j => p j 0) (accL V G b s n 0)
    | 1 => six f (cots (lens p)) (fun j => p j 1) (accL V G b s n 1)
    | 2 => six f (cots (lens p)) (fun j => p j 2) (accL V G b s n 2)
    | 3 => sixW f (cots (lens p)) (accL V G b s n 3)

/-- The two ends of edge `t` of a batch, in the face's order: the face is `t % 4096`, and `t / 4096` says which edge of it. -/
def endA (G : Vec F S49152 .i32) (b t : ℕ) : BitVec 32 := at_ (fce G b (if t / 4096 = 0 then 0 else if t / 4096 = 1 then 1 else 2)) (t % 4096)
def endB (G : Vec F S49152 .i32) (b t : ℕ) : BitVec 32 := at_ (fce G b (if t / 4096 = 0 then 1 else if t / 4096 = 1 then 2 else 0)) (t % 4096)
/-- The corner of the face that is not on the edge. -/
def endO (G : Vec F S49152 .i32) (b t : ℕ) : BitVec 32 := at_ (fce G b (if t / 4096 = 0 then 2 else if t / 4096 = 1 then 0 else 1)) (t % 4096)

/-- The lower end of each edge; the higher end, packed with the edge's number; the opposite corner. -/
def EA (G : Vec F S49152 .i32) (b : ℕ) : Vec F S12288 .i32 := fun y => IntOp.minsi (endA G b (y 0).val) (endB G b (y 0).val)
def PK (G : Vec F S49152 .i32) (b : ℕ) : Vec F S12288 .i32 := fun y => IntOp.shli .vector (IntOp.maxsi (endA G b (y 0).val) (endB G b (y 0).val)) 14#32 + BitVec.ofNat 32 (y 0).val
def EO (G : Vec F S49152 .i32) (b : ℕ) : Vec F S12288 .i32 := fun y => endO G b (y 0).val

/-- Every face's corners are vertices. -/
def InRange (G : Vec F S49152 .i32) : Prop := ∀ y, (G y : BitVec 32).toNat < 2048

theorem at_lt {m : ℕ} [NeZero m] {f : (⟨1, ![m]⟩ : Shape).Idx → BitVec 32} (h : ∀ y, (f y).toNat < 2048) (n : ℕ) : (at_ f n).toNat < 2048 := h _

/-- Three stretches of sixteen, one in each third, carry a stripe on by sixteen. -/
theorem stripe {α : Type} (E f : S12288.Idx → α) (w0 w1 w2 : S16.Idx → α) {o s n : ℕ} (ho : o = 512 * s + 16 * n) (hs : s < 8) (hn : n < 32)
    (hf : ∀ y : S12288.Idx, (y 0).val % 4096 / 512 = s → (y 0).val % 512 < 16 * n → f y = E y)
    (h0 : ∀ x : S16.Idx, w0 x = at_ E (4096 * 0 + o + (x 0).val)) (h1 : ∀ x : S16.Idx, w1 x = at_ E (4096 * 1 + o + (x 0).val))
    (h2 : ∀ x : S16.Idx, w2 x = at_ E (4096 * 2 + o + (x 0).val)) (y : S12288.Idx) (hy : (y 0).val % 4096 / 512 = s)
    (hy' : (y 0).val % 512 < 16 * (n + 1)) :
    put (8192 + o) w2 (put (4096 + o) w1 (put o w0 f)) y = E y := by
  have hlt : (y 0).val < 12288 := (y 0).isLt
  have key : ∀ (a : ℕ) (w : S16.Idx → α) (hw : ∀ x : S16.Idx, w x = at_ E (a + (x 0).val)), a ≤ (y 0).val → (y 0).val < a + 16 →
      at_ w ((y 0).val - a) = E y := by
    intro a w hw h₁ h₂
    unfold at_
    rw [hw]
    unfold at_
    refine congrArg E (idx_ext ?_)
    show (a + ((y 0).val - a) % 16) % 12288 = _
    rw [Nat.mod_eq_of_lt (a := (y 0).val - a) (by omega), Nat.mod_eq_of_lt (by omega)]; omega
  by_cases c2 : 8192 + o ≤ (y 0).val ∧ (y 0).val < 8192 + o + 16
  · rw [put_in c2.1 c2.2]; exact key _ _ h2 c2.1 c2.2
  rw [put_out (by omega)]
  by_cases c1 : 4096 + o ≤ (y 0).val ∧ (y 0).val < 4096 + o + 16
  · rw [put_in c1.1 c1.2]; exact key _ _ h1 c1.1 c1.2
  rw [put_out (by omega)]
  by_cases c0 : o ≤ (y 0).val ∧ (y 0).val < o + 16
  · rw [put_in c0.1 c0.2]; exact key _ _ (fun x => (h0 x).trans (by rw [Nat.mul_zero, Nat.zero_add])) c0.1 c0.2
  rw [put_out (by omega)]
  exact hf y hy (by omega)

theorem w281 : ∀ (i : grid0.Coords) (k : Fin k0_t2_loop.trips),
    Scalar.addi (Scalar.muli (Scalar.andi (BitVec.ofNat 32 (i 1).val) 7#32) 512#32) (Scalar.muli (Scf.iv 0#32 1#32 k) 16#32) =
      BitVec.ofNat 32 (512 * ((i 1).val % 8) + 16 * k.val) := by decide +kernel

/-- The lanes' numbers. -/
abbrev lanes : IVec S16 32 := iota .scVector S16 32 [0] iota_S16_d0_w32_scVector

theorem lanes_val (x : S16.Idx) : lanes x = BitVec.ofNat 32 (x 0).val := by
  show BitVec.ofNat 32 (0 * 16 + (x 0).val) = _
  rw [Nat.zero_mul, Nat.zero_add]

theorem fs_at (G : Vec F S49152 .i32) (b : ℕ) {s n o : ℕ} (ho : o = 512 * s + 16 * n) (hs : s < 8) (hn : n < 32) (k : Fin 3) (x : S16.Idx) (r : ℕ) :
    fs G b s n k x = at_ (fce G b k) ((4096 * r + o + (x 0).val) % 4096) := by
  have hx : (x 0).val < 16 := (x 0).isLt
  unfold fs cut
  refine congrArg (fun z => at_ (fce G b k) z) ?_
  rw [← ho]; omega

end Cert.Proof.Tile
end
-- ==== Proof.Body.lean ====
/-
  The tile kernel's body in three pieces, cut at its two meetings.
-/
module

public import proofs.«01_k».proof.Proof.Steps

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀
variable {F : FTy → Type} [FloatOps F]

/-- The program of a tile. -/
abbrev TileProg (F : FTy → Type) (i : grid0.Coords) (α : Type) : Type 1 :=
  Prog (TpuEff nD τ sig (Elt F) Λ₀ (.scVector ((i 0).castLE hcore0) ((i 1).castLE hsub0))) α

/-- What the first piece hands on: the batch's half, the tile's place in it, the lanes' numbers, zeros of both kinds, the tile's
    first face. -/
abbrev HandA (F : FTy → Type) : Type := BitVec 32 × BitVec 32 × IVec S16 32 × FVec F S16 .f32 × IVec S16 32 × BitVec 32

def copyLap2 (i : grid0.Coords) : TileProg F i PUnit := do
  let d : Memref sig .scVector .shared S2048 .f32 := (Memref.whole cc0_scratch29).slice (Rect.unit (s := S131072) (k0_off10 i 2#32) S2048.size (k0_off10_inb i 2)) (fun _ => rfl)
  Prog.lift (.enqueueDma (Memref.whole cc0_scratch15) (.here d) (.dma cc0_scoped17.sem) (Memref.isWhole_whole cc0_scratch15).wordExact (View.wordExact_bits rfl) ⟨Or.inl rfl, trivial⟩)
  Prog.lift (.waitDma2 cc0_scoped17.sem (Memref.whole cc0_scratch15) d (Memref.isWhole_whole cc0_scratch15).wordExact (View.wordExact_bits rfl))
  let d : Memref sig .scVector .shared S2048 .f32 := (Memref.whole cc0_scratch29).slice (Rect.unit (s := S131072) (k0_off10 i 3#32) S2048.size (k0_off10_inb i 3)) (fun _ => rfl)
  Prog.lift (.enqueueDma (Memref.whole cc0_scratch16) (.here d) (.dma cc0_scoped18.sem) (Memref.isWhole_whole cc0_scratch16).wordExact (View.wordExact_bits rfl) ⟨Or.inl rfl, trivial⟩)
  Prog.lift (.waitDma2 cc0_scoped18.sem (Memref.whole cc0_scratch16) d (Memref.isWhole_whole cc0_scratch16).wordExact (View.wordExact_bits rfl))
  pure ⟨⟩

/-- Up to the first meeting. -/
def progA (i : grid0.Coords) : TileProg F i (HandA F) := do
  let ⟨v0, v1, v3, v4, v5, v6⟩ : Σ' (v0 : BitVec 32) (v1 : BitVec 32) (v3 : BitVec 32) (v4 : IVec S16 32) (v5 : FVec F S16 .f32), IVec S16 32 ← At (k0_part12 i)
  let ⟨v15, c4096_i32_12⟩ : Σ' (v15 : BitVec 32), BitVec 32 ← At (k0_part13 i) v0 v1 v4 v5
  let v32 : BitVec 32 ← At (k0_part14 i) v0 v15 c4096_i32_12
  At (k0_part15 i) v0 v1 v32
  copyLap2 i
  pure (v0, v1, v4, v5, v6, v15)

/-- The sort, on the half's first tile. -/
def sortB (i : grid0.Coords) (v0 : BitVec 32) (v6 : IVec S16 32) : TileProg F i PUnit := do
  if k0_h1 : k0_cond1 i = 1#1 then do
    At (k0_part4 i) v0 v6 k0_h1
    let d : Memref sig .scVector .shared S2048 .i32 := (Memref.whole cc0_scratch28).slice (Rect.unit (s := S4096) (k0_off16 i) S2048.size (k0_off16_inb i k0_h1)) (fun _ => rfl)
    Prog.lift (.enqueueDma (Memref.whole cc0_scratch11) (.here d) (.dma cc0_scoped23.sem) (Memref.isWhole_whole cc0_scratch11).wordExact (View.wordExact_bits rfl) ⟨Or.inl rfl, trivial⟩)
    Prog.lift (.waitDma2 cc0_scoped23.sem (Memref.whole cc0_scratch11) d (Memref.isWhole_whole cc0_scratch11).wordExact (View.wordExact_bits rfl))
    pure ⟨⟩
  else do
    pure ⟨⟩

def copyLast (i : grid0.Coords) : TileProg F i PUnit := do
  let d : Memref sig .scVector .vmem S256 .f32 := (Memref.whole cc0_scratch17).slice (Rect.unit (s := S2048) ![1792] S256.size inb_S2048_S256_1792) (fun _ => rfl)
  let a : Memref sig .scVector .shared S256 .f32 := (Memref.whole cc0_scratch29).slice (Rect.unit (s := S131072) (k0_off17 i 7#32 3#32) S256.size (k0_off17_inb i 7 3)) (fun _ => rfl)
  Prog.lift (.enqueueDma a (.here d) (.dma cc0_scoped55.sem) (View.wordExact_bits rfl) (View.wordExact_bits rfl) ⟨Or.inl rfl, trivial⟩)
  Prog.lift (.waitDma2 cc0_scoped55.sem a d (View.wordExact_bits rfl) (View.wordExact_bits rfl))
  pure ⟨⟩

def copyFirst (i : grid0.Coords) : TileProg F i PUnit := do
  let d : Memref sig .scVector .vmem S256 .f32 := (Memref.whole cc0_scratch17).slice (Rect.unit (s := S2048) ![0] S256.size inb_S2048_S256_0) (fun _ => rfl)
  let a : Memref sig .scVector .shared S256 .f32 := (Memref.whole cc0_scratch29).slice (Rect.unit (s := S131072) (k0_off17 i 0#32 0#32) S256.size (k0_off17_inb i 0 0)) (fun _ => rfl)
  Prog.lift (.enqueueDma a (.here d) (.dma cc0_scoped24.sem) (View.wordExact_bits rfl) (View.wordExact_bits rfl) ⟨Or.inl rfl, trivial⟩)
  Prog.lift (.waitDma2 cc0_scoped24.sem a d (View.wordExact_bits rfl) (View.wordExact_bits rfl))
  pure ⟨⟩

/-- Between the meetings. -/
def progB (i : grid0.Coords) (a : HandA F) : TileProg F i (FVec F S16 .f32) := do
  sortB i a.1 a.2.2.2.2.1
  copyFirst i
  let v63 : BitVec 32 := Scalar.muli a.2.1 256#32
  At (k0_part17 i) a.1 v63 (Scalar.muli a.1 8#32)
  At (k0_part18 i) a.1 v63
  At (k0_part19 i) a.1 v63
  let v130 : BitVec 32 ← At (k0_part20 i) a.1 v63
  At (k0_part21 i) a.1 v63 v130
  let ⟨v157, c4_i32_115⟩ : Σ' (v157 : BitVec 32), BitVec 32 ← At (k0_part22 i) a.1 v63
  let v173 : BitVec 32 ← At (k0_part23 i) a.1 v63 v157 c4_i32_115
  At (k0_part24 i) a.1 v63 v173
  let ⟨v200, c6_i32_154⟩ : Σ' (v200 : BitVec 32), BitVec 32 ← At (k0_part25 i) a.1 v63
  let v216 : BitVec 32 ← At (k0_part26 i) a.1 v63 v200 c6_i32_154
  At (k0_part27 i) a.1 v63 v216
  let c8_i32_193 : BitVec 32 ← At (k0_part28 i) a.1 v63
  At (k0_part29 i) a.1 v63 c8_i32_193
  copyLast i
  let v263 : BitVec 32 ← Scf.Loop.for k0_t10_loop k0_t10_ok 0#32 (At (k0_t10_body i) a.1 a.2.2.2.1 v63)
  let v265 : FVec F S16 .f32 ← Scf.Loop.for k0_t11_loop k0_t11_ok a.2.2.2.1 (At (k0_t11_body i) a.1 a.2.2.2.1 v63)
  pure v265

/-- After the second meeting. -/
def progC (i : grid0.Coords) (a : HandA F) (v265 : FVec F S16 .f32) : TileProg F i PUnit := do
  let t : Memref sig .scVector .shared S12288 .i32 := (Memref.whole cc0_scratch26).slice (Rect.unit (s := S24576) (k0_off32 i) S12288.size (k0_off32_inb i)) (fun _ => rfl)
  Prog.lift (.enqueueDma t (.here (Memref.whole cc0_scratch9)) (.dma cc0_scoped56.sem) (View.wordExact_bits rfl) (Memref.isWhole_whole cc0_scratch9).wordExact ⟨Or.inl rfl, trivial⟩)
  Prog.lift (.waitDma2 cc0_scoped56.sem t (Memref.whole cc0_scratch9) (View.wordExact_bits rfl) (Memref.isWhole_whole cc0_scratch9).wordExact)
  let t : Memref sig .scVector .shared S2048 .i32 := (Memref.whole cc0_scratch27).slice (Rect.unit (s := S4096) (k0_off33 i) S2048.size (k0_off33_inb i)) (fun _ => rfl)
  Prog.lift (.enqueueDma t (.here (Memref.whole cc0_scratch10)) (.dma cc0_scoped57.sem) (View.wordExact_bits rfl) (Memref.isWhole_whole cc0_scratch10).wordExact ⟨Or.inl rfl, trivial⟩)
  Prog.lift (.waitDma2 cc0_scoped57.sem t (Memref.whole cc0_scratch10) (View.wordExact_bits rfl) (Memref.isWhole_whole cc0_scratch10).wordExact)
  let t : Memref sig .scVector .shared S2048 .i32 := (Memref.whole cc0_scratch28).slice (Rect.unit (s := S4096) (k0_off33 i) S2048.size (k0_off33_inb i)) (fun _ => rfl)
  Prog.lift (.enqueueDma t (.here (Memref.whole cc0_scratch11)) (.dma cc0_scoped58.sem) (View.wordExact_bits rfl) (Memref.isWhole_whole cc0_scratch11).wordExact ⟨Or.inl rfl, trivial⟩)
  Prog.lift (.waitDma2 cc0_scoped58.sem t (Memref.whole cc0_scratch11) (View.wordExact_bits rfl) (Memref.isWhole_whole cc0_scratch11).wordExact)
  let t : Memref sig .scVector .shared S12288 .i32 := (Memref.whole cc0_scratch25).slice (Rect.unit (s := S24576) (k0_off32 i) S12288.size (k0_off32_inb i)) (fun _ => rfl)
  Prog.lift (.enqueueDma t (.here (Memref.whole cc0_scratch8)) (.dma cc0_scoped59.sem) (View.wordExact_bits rfl) (Memref.isWhole_whole cc0_scratch8).wordExact ⟨Or.inl rfl, trivial⟩)
  Prog.lift (.waitDma2 cc0_scoped59.sem t (Memref.whole cc0_scratch8) (View.wordExact_bits rfl) (Memref.isWhole_whole cc0_scratch8).wordExact)
  let (v271_0, v271_1, v271_2, v271_3) ← Scf.Loop.for k0_t12_loop k0_t12_ok (a.2.2.2.1, a.2.2.2.1, a.2.2.2.1, a.2.2.2.1) (At (k0_t12_body i) a.2.2.1 a.2.2.2.2.1 a.2.2.2.2.2)
  let v272 : Vec F S16 .f32 ← Prog.lift (.load (Memref.whole cc0_scratch22) (Rect.unit (s := S80) ![0] S16.size inb_S80_S16_0).toLoadRect (View.loadsAt_vmem h_S16))
  Prog.lift (.store (Memref.whole cc0_scratch22) (Rect.unit (s := S80) ![0] S16.size inb_S80_S16_0) v271_0 Finset.univ (View.stores_vmem_bits_univ h_S16 rfl) (.inl rfl))
  let v273 : Vec F S16 .f32 ← Prog.lift (.load (Memref.whole cc0_scratch22) (Rect.unit (s := S80) ![16] S16.size inb_S80_S16_16).toLoadRect (View.loadsAt_vmem h_S16))
  Prog.lift (.store (Memref.whole cc0_scratch22) (Rect.unit (s := S80) ![16] S16.size inb_S80_S16_16) v271_1 Finset.univ (View.stores_vmem_bits_univ h_S16 rfl) (.inl rfl))
  let v274 : Vec F S16 .f32 ← Prog.lift (.load (Memref.whole cc0_scratch22) (Rect.unit (s := S80) ![32] S16.size inb_S80_S16_32).toLoadRect (View.loadsAt_vmem h_S16))
  Prog.lift (.store (Memref.whole cc0_scratch22) (Rect.unit (s := S80) ![32] S16.size inb_S80_S16_32) v265 Finset.univ (View.stores_vmem_bits_univ h_S16 rfl) (.inl rfl))
  let v275 : Vec F S16 .f32 ← Prog.lift (.load (Memref.whole cc0_scratch22) (Rect.unit (s := S80) ![48] S16.size inb_S80_S16_48).toLoadRect (View.loadsAt_vmem h_S16))
  Prog.lift (.store (Memref.whole cc0_scratch22) (Rect.unit (s := S80) ![48] S16.size inb_S80_S16_48) v271_2 Finset.univ (View.stores_vmem_bits_univ h_S16 rfl) (.inl rfl))
  let v276 : Vec F S16 .f32 ← Prog.lift (.load (Memref.whole cc0_scratch22) (Rect.unit (s := S80) ![64] S16.size inb_S80_S16_64).toLoadRect (View.loadsAt_vmem h_S16))
  Prog.lift (.store (Memref.whole cc0_scratch22) (Rect.unit (s := S80) ![64] S16.size inb_S80_S16_64) v271_3 Finset.univ (View.stores_vmem_bits_univ h_S16 rfl) (.inl rfl))
  let d : Memref sig .scVector .hbm S80 .f32 := (Memref.whole main_v4_scv).slice (Rect.unit (s := S2560) (k0_off36 i) S80.size (k0_off36_inb i)) (fun _ => rfl)
  Prog.lift (.enqueueDma (Memref.whole cc0_scratch22) (.here d) (.dma cc0_scoped60.sem) (Memref.isWhole_whole cc0_scratch22).wordExact (View.wordExact_bits rfl) ⟨Or.inl rfl, trivial⟩)
  Prog.lift (.waitDma2 cc0_scoped60.sem (Memref.whole cc0_scratch22) d (Memref.isWhole_whole cc0_scratch22).wordExact (View.wordExact_bits rfl))
  pure ⟨⟩

theorem body_eq (i : grid0.Coords) : (At (cc0__sc_mesh_body (F := F) i) : TileProg F i PUnit) =
    (progA i >>= fun a => SparseCore.subcoreBarrier sc_bar0 (grid0.bound 1) hsub0 >>= fun _ => progB i a >>= fun v =>
      SparseCore.subcoreBarrier sc_bar0 (grid0.bound 1) hsub0 >>= fun _ => progC i a v) := by
  unfold At
  rw [cc0__sc_mesh_body_eq_skeleton]
  unfold cc0__sc_mesh_body_skel
  rw [k0_part16_eq_skeleton, k0_part30_eq_skeleton]
  unfold k0_part16_skel k0_part30_skel progA progB copyLap2 copyLast copyFirst sortB
  by_cases h : k0_cond1 i = 1#1
  · simp only [bind_assoc, pure_bind, dif_pos h]
    rfl
  · simp only [bind_assoc, pure_bind, dif_neg h]
    rfl

end Cert.Proof.Tile
end
-- ==== Proof.PhaseA.lean ====
/-
  A tile up to the first meeting: what it holds of its batch's sums, and what it has laid out for its siblings.
-/
module

public import proofs.«01_k».proof.Proof.Scatter
public import proofs.«01_k».proof.Proof.Body

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀
variable {F : FTy → Type} [FloatOps F]

/-- The batch of a tile. -/
abbrev bat (i : grid0.Coords) : ℕ := 2 * (i 0).val + (i 1).val / 8

theorem off1 : ∀ i : grid0.Coords, k0_off1 i 0 = bat i * 6144 + 0 * 2048 := by decide +kernel
theorem off2a : ∀ i : grid0.Coords, k0_off2 i 2048#32 0 = bat i * 6144 + 1 * 2048 := by decide +kernel
theorem off2b : ∀ i : grid0.Coords, k0_off2 i 4096#32 0 = bat i * 6144 + 2 * 2048 := by decide +kernel
theorem off3 : ∀ i : grid0.Coords, k0_off3 i 0 = bat i * 12288 + 0 * 4096 := by decide +kernel
theorem off4a : ∀ i : grid0.Coords, k0_off4 i 4096#32 0 = bat i * 12288 + 1 * 4096 := by decide +kernel
theorem off4b : ∀ i : grid0.Coords, k0_off4 i 8192#32 0 = bat i * 12288 + 2 * 4096 := by decide +kernel
theorem off8 : ∀ (i : grid0.Coords) (r : Fin 3), k0_off8 i (BitVec.ofNat 32 (4096 * r.val)) 0 = 4096 * r.val + 512 * ((i 1).val % 8) := by decide +kernel
theorem off9 : ∀ (i : grid0.Coords) (r : Fin 3), k0_off9 i (BitVec.ofNat 32 (4096 * r.val)) 0 = (i 1).val / 8 * 12288 + (4096 * r.val + 512 * ((i 1).val % 8)) := by decide +kernel
theorem off10 : ∀ (i : grid0.Coords) (r : Fin 4), k0_off10 i (BitVec.ofNat 32 r.val) 0 = (i 1).val * 8192 + r.val * 2048 := by decide +kernel

theorem trips1 : k0_t1_loop.trips = 128 := by decide +kernel
theorem trips2 : k0_t2_loop.trips = 32 := by decide +kernel

/-- Before trip `n` of the pass over the faces. -/
structure Swept (i : grid0.Coords) (V : Vec F S24576 .f32) (G : Vec F S49152 .i32) (μ₀ : Mem F) (n : ℕ) (μ : Mem F) : Prop where
  off : Off accs μ μ₀
  a0 : μ cc0_scratch13 = accL V G (bat i) ((i 1).val % 8) n 0
  a1 : μ cc0_scratch14 = accL V G (bat i) ((i 1).val % 8) n 1
  a2 : μ cc0_scratch15 = accL V G (bat i) ((i 1).val % 8) n 2
  a3 : μ cc0_scratch16 = accL V G (bat i) ((i 1).val % 8) n 3
  ea : ∀ y : S12288.Idx, (y 0).val % 4096 / 512 = (i 1).val % 8 → (y 0).val % 512 < 16 * n → (μ cc0_scratch6 : Vec F S12288 .i32) y = EA (F := F) G (bat i) y
  pk : ∀ y : S12288.Idx, (y 0).val % 4096 / 512 = (i 1).val % 8 → (y 0).val % 512 < 16 * n → (μ cc0_scratch7 : Vec F S12288 .i32) y = PK (F := F) G (bat i) y
  eo : ∀ y : S12288.Idx, (y 0).val % 4096 / 512 = (i 1).val % 8 → (y 0).val % 512 < 16 * n → (μ cc0_scratch8 : Vec F S12288 .i32) y = EO (F := F) G (bat i) y

theorem word_add (w a c : BitVec 32) : w + a + c = w + (a + c) := BitVec.add_assoc ..

theorem pk_word (r o l : ℕ) : BitVec.ofNat 32 r + BitVec.ofNat 32 o + BitVec.ofNat 32 l = BitVec.ofNat 32 (r + o + l) := by
  rw [BitVec.ofNat_add, BitVec.ofNat_add]

section Words

variable (G : Vec F S49152 .i32) (b : ℕ) {s n o : ℕ} (ho : o = 512 * s + 16 * n) (hs : s < 8) (hn : n < 32) (x : S16.Idx)
include ho hs hn

theorem lane_lt : o + (x 0).val < 4096 := by
  have hx : (x 0).val < 16 := (x 0).isLt
  omega

/-- Edge word number `4096 r + o + lane` read back. -/
theorem at_edge {α : Type} (E : ℕ → α) (r : ℕ) (hr : r < 3) : at_ (fun y : S12288.Idx => E (y 0).val) (4096 * r + o + (x 0).val) = E (4096 * r + o + (x 0).val) := by
  have := lane_lt ho hs hn x
  unfold at_
  show E ((4096 * r + o + (x 0).val) % 12288) = _
  rw [Nat.mod_eq_of_lt (by omega)]

theorem third (r : ℕ) : (4096 * r + o + (x 0).val) / 4096 = r := by
  have := lane_lt ho hs hn x
  omega

theorem endA_at (r : ℕ) (hr : r < 3) : endA G b (4096 * r + o + (x 0).val) = fs G b s n (if r = 0 then 0 else if r = 1 then 1 else 2) x := by
  unfold endA
  rw [fs_at G b ho hs hn _ x r, third ho hs hn x r]

theorem endB_at (r : ℕ) (hr : r < 3) : endB G b (4096 * r + o + (x 0).val) = fs G b s n (if r = 0 then 1 else if r = 1 then 2 else 0) x := by
  unfold endB
  rw [fs_at G b ho hs hn _ x r, third ho hs hn x r]

theorem endO_at (r : ℕ) (hr : r < 3) : endO G b (4096 * r + o + (x 0).val) = fs G b s n (if r = 0 then 2 else if r = 1 then 0 else 1) x := by
  unfold endO
  rw [fs_at G b ho hs hn _ x r, third ho hs hn x r]

theorem EA_at (r : ℕ) (hr : r < 3) : at_ (EA (F := F) G b) (4096 * r + o + (x 0).val) =
    IntOp.minsi (fs G b s n (if r = 0 then 0 else if r = 1 then 1 else 2) x) (fs G b s n (if r = 0 then 1 else if r = 1 then 2 else 0) x) := by
  rw [← endA_at G b ho hs hn x r hr, ← endB_at G b ho hs hn x r hr]
  exact at_edge ho hs hn x (fun t => IntOp.minsi (endA G b t) (endB G b t)) r hr

theorem PK_at (r : ℕ) (hr : r < 3) : at_ (PK (F := F) G b) (4096 * r + o + (x 0).val) =
    IntOp.shli .vector (IntOp.maxsi (fs G b s n (if r = 0 then 0 else if r = 1 then 1 else 2) x) (fs G b s n (if r = 0 then 1 else if r = 1 then 2 else 0) x)) 14#32
      + (BitVec.ofNat 32 (4096 * r) + BitVec.ofNat 32 o) + lanes x := by
  rw [← endA_at G b ho hs hn x r hr, ← endB_at G b ho hs hn x r hr, lanes_val, BitVec.add_assoc, pk_word]
  exact at_edge ho hs hn x (fun t => IntOp.shli .vector (IntOp.maxsi (endA G b t) (endB G b t)) 14#32 + BitVec.ofNat 32 t) r hr

theorem EO_at (r : ℕ) (hr : r < 3) : at_ (EO (F := F) G b) (4096 * r + o + (x 0).val) =
    fs G b s n (if r = 0 then 2 else if r = 1 then 0 else 1) x := by
  rw [← endO_at G b ho hs hn x r hr]
  exact at_edge ho hs hn x (fun t => endO G b t) r hr

end Words

theorem swept_step (i : grid0.Coords) (V : Vec F S24576 .f32) (G : Vec F S49152 .i32) (hG : InRange G) (v0 : BitVec 32) (v5 : FVec F S16 .f32) (μ₀ : Mem F)
    (hx : μ₀ cc0_scratch0 = vtx V (bat i) 0) (hy : μ₀ cc0_scratch1 = vtx V (bat i) 1) (hz : μ₀ cc0_scratch2 = vtx V (bat i) 2)
    (hf0 : μ₀ cc0_scratch3 = fce G (bat i) 0) (hf1 : μ₀ cc0_scratch4 = fce G (bat i) 1) (hf2 : μ₀ cc0_scratch5 = fce G (bat i) 2)
    (n : Fin k0_t2_loop.trips) (a : BitVec 32) (μ : Mem F) (h : Swept i V G μ₀ n.val μ) :
    Lwp 0 (i 0).val (i 1).val (At (k0_t2_body (F := F) i) v0 (Scalar.andi (BitVec.ofNat 32 (i 1).val) 7#32) lanes v5
      (Scalar.muli (Scalar.andi (BitVec.ofNat 32 (i 1).val) 7#32) 512#32) n a)
      (fun _ σ => ∃ μ', σ = ⟨μ', none⟩ ∧ Swept i V G μ₀ (n.val + 1) μ') ⟨μ, none⟩ := by
  have hs : (i 1).val % 8 < 8 := Nat.mod_lt _ (by decide)
  have hn : n.val < 32 := by have := n.isLt; have := trips2; omega
  have hrng : ∀ k x, (fs G (bat i) ((i 1).val % 8) n.val k x : BitVec 32).toNat < 2048 := fun k x => hG _
  refine lwp_mono (p := .scVector _ _) _ _ ?_ _ (t2_step _ _ i v0 _ v5 _ n a μ lanes (vtx V (bat i)) ((h.off _ (by decide)).trans hx) ((h.off _ (by decide)).trans hy)
    ((h.off _ (by decide)).trans hz) (fs G (bat i) ((i 1).val % 8) n.val) _ rfl
    (congrArg _ ((h.off _ (by decide)).trans hf0)) (congrArg _ ((h.off _ (by decide)).trans hf1)) (congrArg _ ((h.off _ (by decide)).trans hf2)) hrng)
  rintro a' σ' ⟨μ', rfl, e0, e1, e2, e3, e4, e5, e6, hoff⟩
  refine ⟨μ', rfl, hoff.trans h.off, ?_, ?_, ?_, ?_, ?_, ?_, ?_⟩
  · rw [e0, h.a0]; rfl
  · rw [e1, h.a1]; rfl
  · rw [e2, h.a2]; rfl
  · rw [e3, h.a3]; rfl
  · rw [e4]
    exact stripe _ _ _ _ _ rfl hs hn h.ea (fun x => (EA_at G _ rfl hs hn x 0 (by decide)).symm) (fun x => (EA_at G _ rfl hs hn x 1 (by decide)).symm)
      (fun x => (EA_at G _ rfl hs hn x 2 (by decide)).symm)
  · rw [e5, w281]
    exact stripe _ _ _ _ _ rfl hs hn h.pk (fun x => (PK_at G _ rfl hs hn x 0 (by decide)).symm) (fun x => (PK_at G _ rfl hs hn x 1 (by decide)).symm)
      (fun x => (PK_at G _ rfl hs hn x 2 (by decide)).symm)
  · rw [e6]
    exact stripe _ _ _ _ _ rfl hs hn h.eo (fun x => (EO_at G _ rfl hs hn x 0 (by decide)).symm) (fun x => (EO_at G _ rfl hs hn x 1 (by decide)).symm)
      (fun x => (EO_at G _ rfl hs hn x 2 (by decide)).symm)

/-! ## What lies in the shared memory at the first meeting -/

/-- The lower ends of the edges of the two batches of a SparseCore. -/
def shEA (G : Vec F S49152 .i32) (c : ℕ) : Vec F S24576 .i32 := fun y => at_ (EA (F := F) G (2 * c + (y 0).val / 12288)) ((y 0).val % 12288)
/-- Their packed words. -/
def shPK (G : Vec F S49152 .i32) (c : ℕ) : Vec F S24576 .i32 := fun y => at_ (PK (F := F) G (2 * c + (y 0).val / 12288)) ((y 0).val % 12288)
/-- Their opposite corners. -/
def shEO (G : Vec F S49152 .i32) (c : ℕ) : Vec F S24576 .i32 := fun y => at_ (EO (F := F) G (2 * c + (y 0).val / 12288)) ((y 0).val % 12288)
/-- The partial sums of the sixteen tiles of a SparseCore. -/
def shLAP (V : Vec F S24576 .f32) (G : Vec F S49152 .i32) (c : ℕ) : Vec F S131072 .f32 := fun y =>
  at_ (accL V G (2 * c + (y 0).val / 8192 / 8) ((y 0).val / 8192 % 8) 32 ⟨(y 0).val % 8192 / 2048, by omega⟩) ((y 0).val % 2048)

/-- Three stretches make a tile's part of an edge array. -/
theorem stretch3 {α : Type} (E : ℕ → S12288.Idx → α) (ea : S12288.Idx → α) (f : S24576.Idx → α) {c s : ℕ} (hs : s < 16)
    (hea : ∀ y : S12288.Idx, (y 0).val % 4096 / 512 = s % 8 → ea y = E (2 * c + s / 8) y) (y : S24576.Idx) (h₁ : (y 0).val / 12288 = s / 8)
    (h₂ : (y 0).val % 4096 / 512 = s % 8) :
    put (s / 8 * 12288 + (4096 * 2 + 512 * (s % 8))) (cut (k := 512) (4096 * 2 + 512 * (s % 8)) ea)
      (put (s / 8 * 12288 + (4096 * 1 + 512 * (s % 8))) (cut (k := 512) (4096 * 1 + 512 * (s % 8)) ea)
        (put (s / 8 * 12288 + (4096 * 0 + 512 * (s % 8))) (cut (k := 512) (4096 * 0 + 512 * (s % 8)) ea) f)) y =
      at_ (E (2 * c + (y 0).val / 12288)) ((y 0).val % 12288) := by
  have hy : (y 0).val < 24576 := (y 0).isLt
  have key : ∀ r, r < 3 → (y 0).val % 12288 / 4096 = r →
      at_ (cut (k := 512) (4096 * r + 512 * (s % 8)) ea) ((y 0).val - (s / 8 * 12288 + (4096 * r + 512 * (s % 8)))) =
        at_ (E (2 * c + (y 0).val / 12288)) ((y 0).val % 12288) := by
    intro r hr hyr
    unfold at_ cut at_
    rw [h₁, ← hea]
    · congr 1
      refine idx_ext ?_
      show (_ + (_ % 512)) % 12288 = _ % 12288 % 12288
      rw [Nat.mod_eq_of_lt (a := _ - _) (b := 512) (by omega)]
      omega
    · show (_ % 12288 % 12288) % 4096 / 512 = _
      omega
  have h3 : (y 0).val % 12288 / 4096 = 0 ∨ (y 0).val % 12288 / 4096 = 1 ∨ (y 0).val % 12288 / 4096 = 2 := by omega
  rcases h3 with h | h | h
  · rw [put_out (by omega), put_out (by omega), put_in (by omega) (by omega)]; exact key 0 (by decide) h
  · rw [put_out (by omega), put_in (by omega) (by omega)]; exact key 1 (by decide) h
  · rw [put_in (by omega) (by omega)]; exact key 2 (by decide) h

/-- Four stretches make a tile's row of sums. -/
theorem stretch4 {α : Type} (A : Fin 4 → S2048.Idx → α) (f : S131072.Idx → α) {s : ℕ} (hs : s < 16) (y : S131072.Idx) (h₁ : (y 0).val / 8192 = s) :
    put (s * 8192 + 3 * 2048) (A 3) (put (s * 8192 + 2 * 2048) (A 2) (put (s * 8192 + 1 * 2048) (A 1) (put (s * 8192 + 0 * 2048) (A 0) f))) y =
      at_ (A ⟨(y 0).val % 8192 / 2048, by omega⟩) ((y 0).val % 2048) := by
  have key : ∀ r : Fin 4, (y 0).val % 8192 / 2048 = r.val →
      at_ (A r) ((y 0).val - (s * 8192 + r.val * 2048)) = at_ (A ⟨(y 0).val % 8192 / 2048, by omega⟩) ((y 0).val % 2048) := by
    intro r hr
    have e : (⟨(y 0).val % 8192 / 2048, by omega⟩ : Fin 4) = r := Fin.ext hr
    rw [e, show (y 0).val - (s * 8192 + r.val * 2048) = (y 0).val % 2048 by omega]
  have h3 : (y 0).val % 8192 / 2048 = 0 ∨ (y 0).val % 8192 / 2048 = 1 ∨ (y 0).val % 8192 / 2048 = 2 ∨ (y 0).val % 8192 / 2048 = 3 := by omega
  rcases h3 with h | h | h | h
  · rw [put_out (by omega), put_out (by omega), put_out (by omega), put_in (by omega) (by omega)]; exact key 0 h
  · rw [put_out (by omega), put_out (by omega), put_in (by omega) (by omega)]; exact key 1 h
  · rw [put_out (by omega), put_in (by omega) (by omega)]; exact key 2 h
  · rw [put_in (by omega) (by omega)]; exact key 3 h

theorem stretch4' {α : Type} (A : Fin 4 → S2048.Idx → α) (a0 a1 a2 a3 : S2048.Idx → α) (e0 : a0 = A 0) (e1 : a1 = A 1) (e2 : a2 = A 2) (e3 : a3 = A 3)
    (f : S131072.Idx → α) {s : ℕ} (hs : s < 16) (y : S131072.Idx) (h₁ : (y 0).val / 8192 = s) :
    put (s * 8192 + (3 : Fin 4).val * 2048) a3 (put (s * 8192 + (2 : Fin 4).val * 2048) a2 (put (s * 8192 + (1 : Fin 4).val * 2048) a1
      (put (s * 8192 + (0 : Fin 4).val * 2048) a0 f))) y = at_ (A ⟨(y 0).val % 8192 / 2048, by omega⟩) ((y 0).val % 2048) := by
  rw [e0, e1, e2, e3]; exact stretch4 A f hs y h₁

/-- The tile's zeros. -/
abbrev zeros : FVec F S16 .f32 := k0_pay90
abbrev izeros : IVec S16 32 := k0_pay91

/-- What a tile holds at the first meeting. -/
structure HasA (i : grid0.Coords) (V : Vec F S24576 .f32) (G : Vec F S49152 .i32) (μ : Mem F) : Prop where
  tv : μ main_v1_scv = V
  tg : μ main_v3_scv = G
  x : μ cc0_scratch0 = vtx V (bat i) 0
  y : μ cc0_scratch1 = vtx V (bat i) 1
  z : μ cc0_scratch2 = vtx V (bat i) 2
  ea : ∀ y : S12288.Idx, (y 0).val % 4096 / 512 = (i 1).val % 8 → (μ cc0_scratch6 : Vec F S12288 .i32) y = EA (F := F) G (bat i) y
  pk : ∀ y : S12288.Idx, (y 0).val % 4096 / 512 = (i 1).val % 8 → (μ cc0_scratch7 : Vec F S12288 .i32) y = PK (F := F) G (bat i) y
  eo : ∀ y : S12288.Idx, (y 0).val % 4096 / 512 = (i 1).val % 8 → (μ cc0_scratch8 : Vec F S12288 .i32) y = EO (F := F) G (bat i) y

/-- What it has laid out for its siblings. -/
structure LaidA (i : grid0.Coords) (V : Vec F S24576 .f32) (G : Vec F S49152 .i32) (μ : Mem F) : Prop where
  ea : ∀ y : S24576.Idx, (y 0).val / 12288 = (i 1).val / 8 → (y 0).val % 4096 / 512 = (i 1).val % 8 → (μ cc0_scratch23 : Vec F S24576 .i32) y = shEA (F := F) G (i 0).val y
  pk : ∀ y : S24576.Idx, (y 0).val / 12288 = (i 1).val / 8 → (y 0).val % 4096 / 512 = (i 1).val % 8 → (μ cc0_scratch24 : Vec F S24576 .i32) y = shPK (F := F) G (i 0).val y
  eo : ∀ y : S24576.Idx, (y 0).val / 12288 = (i 1).val / 8 → (y 0).val % 4096 / 512 = (i 1).val % 8 → (μ cc0_scratch25 : Vec F S24576 .i32) y = shEO (F := F) G (i 0).val y
  lap : ∀ y : S131072.Idx, (y 0).val / 8192 = (i 1).val → (μ cc0_scratch29 : Vec F S131072 .f32) y = shLAP V G (i 0).val y

/-- What the first piece hands on. -/
abbrev handA (i : grid0.Coords) : HandA F :=
  (Scalar.shrsi (BitVec.ofNat 32 (i 1).val) 3#32, Scalar.andi (BitVec.ofNat 32 (i 1).val) 7#32, lanes, zeros, izeros,
    Scalar.muli (Scalar.andi (BitVec.ofNat 32 (i 1).val) 7#32) 512#32)

theorem sub_tab {ph c s : ℕ} {j nm} (hj : (Ref.mk (sig := sig) (κ := .scVector) .hbm j nm).idx.val ≠ 6) (X : Finset (Ref.mk (sig := sig) (κ := .scVector) .hbm j nm).ty.shape.Idx) :
    X ⊆ (acc ph c s).own ⟨.hbm, j, nm⟩ := by
  intro x _
  rw [mem_own]
  unfold ownP
  split <;> simp_all

theorem sub_slice (b : Ref sig .scVector) (r : Rect b.ty.shape) {X : Finset b.ty.shape.Idx} (h : r.set ⊆ X) :
    ((View.whole b).slice r : View sig .scVector _ _ _).set ⊆ X := by
  rw [View.set_slice_whole]; exact h

theorem own_edge (i : grid0.Coords) (j : Fin 7) (hj : j.val < 3) (r : Fin 3) (n : ℕ) (h₁ : (i 1).val / 8 * 12288 + (4096 * r.val + 512 * ((i 1).val % 8)) ≤ n)
    (h₂ : n < (i 1).val / 8 * 12288 + (4096 * r.val + 512 * ((i 1).val % 8)) + 512) : ownP 0 (i 0).val (i 1).val .shared j.val n := by
  have hr := r.isLt
  have : n / 12288 = (i 1).val / 8 ∧ n % 4096 / 512 = (i 1).val % 8 := by omega
  obtain ⟨j, hj'⟩ := j
  have : j = 0 ∨ j = 1 ∨ j = 2 := by simp at hj; omega
  rcases this with rfl | rfl | rfl <;> (simp only [ownP, if_true]; exact this)

theorem own_lap (i : grid0.Coords) (r : Fin 4) (n : ℕ) (h₁ : (i 1).val * 8192 + r.val * 2048 ≤ n)
    (h₂ : n < (i 1).val * 8192 + r.val * 2048 + 2048) : ownP 0 (i 0).val (i 1).val .shared 6 n := by
  have hr := r.isLt
  simp only [ownP, if_true]
  omega

theorem put_zero {n : ℕ} {f : S2048.Idx → Elt F .f32} (h : ∀ y : S2048.Idx, (y 0).val < 16 * n → f y = Scalar.ofBits .f32 0#32) (y : S2048.Idx)
    (hy : (y 0).val < 16 * (n + 1)) : put (16 * n) (zeros : S16.Idx → Elt F .f32) f y = Scalar.ofBits .f32 0#32 := by
  by_cases hc : 16 * n ≤ (y 0).val
  · rw [put_in hc (by omega)]; rfl
  · rw [put_out (by omega)]; exact h y (by omega)

set_option maxHeartbeats 2000000 in
theorem phaseA (i : grid0.Coords) (V : Vec F S24576 .f32) (G : Vec F S49152 .i32) (hG : InRange G) (μ : Mem F) (hV : μ main_v1_scv = V) (hGm : μ main_v3_scv = G) :
    Lwp 0 (i 0).val (i 1).val (progA (F := F) i) (fun a σ => ∃ μ', σ = ⟨μ', none⟩ ∧ a = handA i ∧ HasA i V G μ' ∧ LaidA i V G μ') ⟨μ, none⟩ := by
  have hi1 : (i 1).val < 16 := (i 1).isLt
  subst hV hGm
  unfold progA
  refine lwp_enter ?_
  unfold At
  rw [k0_part12_eq_skeleton]
  unfold k0_part12_skel
  refine step_copy' main_v1_scv cc0_scratch0 rfl rfl (by decide) (by decide) (by decide) (sub_tab (by decide) _) (sub_own_vm _) rfl (by decide) ((write_whole _ _ _).trans (cut_eq (off1 i) _)) ?_
  refine step_copy' main_v1_scv cc0_scratch1 rfl rfl (by decide) (by decide) (by decide) (sub_tab (by decide) _) (sub_own_vm _) rfl (by decide) ((write_whole _ _ _).trans (cut_eq (off2a i) _)) ?_
  refine step_copy' main_v1_scv cc0_scratch2 rfl rfl (by decide) (by decide) (by decide) (sub_tab (by decide) _) (sub_own_vm _) rfl (by decide) ((write_whole _ _ _).trans (cut_eq (off2b i) _)) ?_
  refine step_copy' main_v3_scv cc0_scratch3 rfl rfl (by decide) (by decide) (by decide) (sub_tab (by decide) _) (sub_own_vm _) rfl (by decide) ((write_whole _ _ _).trans (cut_eq (off3 i) _)) ?_
  refine step_copy' main_v3_scv cc0_scratch4 rfl rfl (by decide) (by decide) (by decide) (sub_tab (by decide) _) (sub_own_vm _) rfl (by decide) ((write_whole _ _ _).trans (cut_eq (off4a i) _)) ?_
  refine step_enqueue (show named main_v3_scv = true by decide) named_vm (show main_v3_scv ≠ cc0_scratch5 by decide) (sub_tab (by decide) _) (sub_own_vm _) rfl (by decide) ((write_whole _ _ _).trans (cut_eq (off4b i) _)) ?_
  refine lwp_pure ?_
  dsimp only
  refine lwp_enter ?_
  rw [k0_part13_eq_skeleton]
  unfold k0_part13_skel
  refine step_wait ?_
  refine lwp_forget (fun μ' => (μ' main_v1_scv = μ main_v1_scv ∧ μ' main_v3_scv = μ main_v3_scv) ∧
    (μ' cc0_scratch0 = vtx (μ main_v1_scv) (bat i) 0 ∧ μ' cc0_scratch1 = vtx (μ main_v1_scv) (bat i) 1 ∧ μ' cc0_scratch2 = vtx (μ main_v1_scv) (bat i) 2) ∧
    (μ' cc0_scratch3 = fce (μ main_v3_scv) (bat i) 0 ∧ μ' cc0_scratch4 = fce (μ main_v3_scv) (bat i) 1 ∧ μ' cc0_scratch5 = fce (μ main_v3_scv) (bat i) 2)) ?_ ?_
  · refine ⟨⟨?_, ?_⟩, ⟨?_, ?_, ?_⟩, ?_, ?_, ?_⟩
    all_goals
      simp (disch := decide) only [Function.update_of_ne, Function.update_self]
      try rfl
  generalize μ main_v1_scv = V at *
  generalize μ main_v3_scv = G at *
  clear μ
  rintro μ₁ ⟨⟨hV, hG'⟩, ⟨hx, hy, hz⟩, hf0, hf1, hf2⟩
  refine step_for (fun n _ μ' => Off accs μ' μ₁ ∧
    (∀ y : S2048.Idx, (y 0).val < 16 * n → (μ' cc0_scratch13 : Vec F S2048 .f32) y = Scalar.ofBits .f32 0#32) ∧
    (∀ y : S2048.Idx, (y 0).val < 16 * n → (μ' cc0_scratch14 : Vec F S2048 .f32) y = Scalar.ofBits .f32 0#32) ∧
    (∀ y : S2048.Idx, (y 0).val < 16 * n → (μ' cc0_scratch15 : Vec F S2048 .f32) y = Scalar.ofBits .f32 0#32) ∧
    (∀ y : S2048.Idx, (y 0).val < 16 * n → (μ' cc0_scratch16 : Vec F S2048 .f32) y = Scalar.ofBits .f32 0#32)) ?_ ?_ ?_
  · refine ⟨Off.refl _ _, ?_, ?_, ?_, ?_⟩ <;> (intro y hy; omega)
  · rintro n a μ' ⟨hoff, h0, h1, h2, h3⟩
    refine lwp_mono (p := .scVector _ _) _ _ ?_ _ (t1_step _ _ i _ _ _ _ n a μ')
    rintro a' σ' ⟨μ'', rfl, e0, e1, e2, e3, eo⟩
    refine ⟨μ'', rfl, eo.trans hoff, ?_, ?_, ?_, ?_⟩
    · intro y hy; rw [e0]; exact put_zero h0 y hy
    · intro y hy; rw [e1]; exact put_zero h1 y hy
    · intro y hy; rw [e2]; exact put_zero h2 y hy
    · intro y hy; rw [e3]; exact put_zero h3 y hy
  rintro - μ₂ ⟨hoff, h0, h1, h2, h3⟩
  rw [trips1] at h0 h1 h2 h3
  refine step_for (fun n _ μ' => Swept i V G μ₂ n μ') ?_ ?_ ?_
  · refine ⟨Off.refl _ _, ?_, ?_, ?_, ?_, ?_, ?_, ?_⟩
    · funext y; exact h0 y (y 0).isLt
    · funext y; exact h1 y (y 0).isLt
    · funext y; exact h2 y (y 0).isLt
    · funext y; exact h3 y (y 0).isLt
    · intro y _ hy; omega
    · intro y _ hy; omega
    · intro y _ hy; omega
  · intro n a μ' h
    exact swept_step i V G hG _ _ μ₂ ((hoff _ (by decide)).trans hx) ((hoff _ (by decide)).trans hy) ((hoff _ (by decide)).trans hz)
      ((hoff _ (by decide)).trans hf0) ((hoff _ (by decide)).trans hf1) ((hoff _ (by decide)).trans hf2) n a μ' h
  rintro - μ₃ h
  rw [trips2] at h
  have hoff' : ∀ r, r ∉ accs → μ₃ r = μ₁ r := fun r hr => (h.off r hr).trans (hoff r hr)
  refine step_copy' cc0_scratch6 cc0_scratch23 rfl rfl (by decide) (by decide) (by decide) (sub_own_vm _) (sub_slice cc0_scratch23 _ (stretch_sub (m := 24576) (k := 512) (fun x => mem_own) (off9 i 0) (own_edge i ⟨0, by decide⟩ (by decide) 0))) rfl (View.dmaCredit_pos _ (by decide)) (((write_slice cc0_scratch23 _ _ _).trans (put_eq (m := 24576) (off9 i 0) _ _)).trans (congrArg (fun w => put _ w _) (cut_eq (m := 12288) (off8 i 0) _))) ?_
  refine step_copy' cc0_scratch7 cc0_scratch24 rfl rfl (by decide) (by decide) (by decide) (sub_own_vm _) (sub_slice cc0_scratch24 _ (stretch_sub (m := 24576) (k := 512) (fun x => mem_own) (off9 i 0) (own_edge i ⟨1, by decide⟩ (by decide) 0))) rfl (View.dmaCredit_pos _ (by decide)) (((write_slice cc0_scratch24 _ _ _).trans (put_eq (m := 24576) (off9 i 0) _ _)).trans (congrArg (fun w => put _ w _) (cut_eq (m := 12288) (off8 i 0) _))) ?_
  refine step_copy' cc0_scratch8 cc0_scratch25 rfl rfl (by decide) (by decide) (by decide) (sub_own_vm _) (sub_slice cc0_scratch25 _ (stretch_sub (m := 24576) (k := 512) (fun x => mem_own) (off9 i 0) (own_edge i ⟨2, by decide⟩ (by decide) 0))) rfl (View.dmaCredit_pos _ (by decide)) (((write_slice cc0_scratch25 _ _ _).trans (put_eq (m := 24576) (off9 i 0) _ _)).trans (congrArg (fun w => put _ w _) (cut_eq (m := 12288) (off8 i 0) _))) ?_
  refine lwp_pure ?_
  dsimp only
  refine lwp_enter ?_
  rw [k0_part14_eq_skeleton]
  unfold k0_part14_skel
  refine step_copy' cc0_scratch6 cc0_scratch23 rfl rfl (by decide) (by decide) (by decide) (sub_own_vm _) (sub_slice cc0_scratch23 _ (stretch_sub (m := 24576) (k := 512) (fun x => mem_own) (off9 i 1) (own_edge i ⟨0, by decide⟩ (by decide) 1))) rfl (View.dmaCredit_pos _ (by decide)) (((write_slice cc0_scratch23 _ _ _).trans (put_eq (m := 24576) (off9 i 1) _ _)).trans (congrArg (fun w => put _ w _) (cut_eq (m := 12288) (off8 i 1) _))) ?_
  refine step_copy' cc0_scratch7 cc0_scratch24 rfl rfl (by decide) (by decide) (by decide) (sub_own_vm _) (sub_slice cc0_scratch24 _ (stretch_sub (m := 24576) (k := 512) (fun x => mem_own) (off9 i 1) (own_edge i ⟨1, by decide⟩ (by decide) 1))) rfl (View.dmaCredit_pos _ (by decide)) (((write_slice cc0_scratch24 _ _ _).trans (put_eq (m := 24576) (off9 i 1) _ _)).trans (congrArg (fun w => put _ w _) (cut_eq (m := 12288) (off8 i 1) _))) ?_
  refine step_copy' cc0_scratch8 cc0_scratch25 rfl rfl (by decide) (by decide) (by decide) (sub_own_vm _) (sub_slice cc0_scratch25 _ (stretch_sub (m := 24576) (k := 512) (fun x => mem_own) (off9 i 1) (own_edge i ⟨2, by decide⟩ (by decide) 1))) rfl (View.dmaCredit_pos _ (by decide)) (((write_slice cc0_scratch25 _ _ _).trans (put_eq (m := 24576) (off9 i 1) _ _)).trans (congrArg (fun w => put _ w _) (cut_eq (m := 12288) (off8 i 1) _))) ?_
  refine step_copy' cc0_scratch6 cc0_scratch23 rfl rfl (by decide) (by decide) (by decide) (sub_own_vm _) (sub_slice cc0_scratch23 _ (stretch_sub (m := 24576) (k := 512) (fun x => mem_own) (off9 i 2) (own_edge i ⟨0, by decide⟩ (by decide) 2))) rfl (View.dmaCredit_pos _ (by decide)) (((write_slice cc0_scratch23 _ _ _).trans (put_eq (m := 24576) (off9 i 2) _ _)).trans (congrArg (fun w => put _ w _) (cut_eq (m := 12288) (off8 i 2) _))) ?_
  refine lwp_pure ?_
  dsimp only
  refine lwp_enter ?_
  rw [k0_part15_eq_skeleton]
  unfold k0_part15_skel
  refine step_copy' cc0_scratch7 cc0_scratch24 rfl rfl (by decide) (by decide) (by decide) (sub_own_vm _) (sub_slice cc0_scratch24 _ (stretch_sub (m := 24576) (k := 512) (fun x => mem_own) (off9 i 2) (own_edge i ⟨1, by decide⟩ (by decide) 2))) rfl (View.dmaCredit_pos _ (by decide)) (((write_slice cc0_scratch24 _ _ _).trans (put_eq (m := 24576) (off9 i 2) _ _)).trans (congrArg (fun w => put _ w _) (cut_eq (m := 12288) (off8 i 2) _))) ?_
  refine step_copy' cc0_scratch8 cc0_scratch25 rfl rfl (by decide) (by decide) (by decide) (sub_own_vm _) (sub_slice cc0_scratch25 _ (stretch_sub (m := 24576) (k := 512) (fun x => mem_own) (off9 i 2) (own_edge i ⟨2, by decide⟩ (by decide) 2))) rfl (View.dmaCredit_pos _ (by decide)) (((write_slice cc0_scratch25 _ _ _).trans (put_eq (m := 24576) (off9 i 2) _ _)).trans (congrArg (fun w => put _ w _) (cut_eq (m := 12288) (off8 i 2) _))) ?_
  refine step_copy' cc0_scratch13 cc0_scratch29 rfl rfl (by decide) (by decide) (by decide) (sub_own_vm _) (sub_slice cc0_scratch29 _ (stretch_sub (m := 131072) (k := 2048) (fun x => mem_own) (off10 i 0) (own_lap i 0))) rfl (View.dmaCredit_pos _ (by decide)) ((write_slice cc0_scratch29 _ _ _).trans (put_eq (m := 131072) (off10 i 0) _ _)) ?_
  refine step_copy' cc0_scratch14 cc0_scratch29 rfl rfl (by decide) (by decide) (by decide) (sub_own_vm _) (sub_slice cc0_scratch29 _ (stretch_sub (m := 131072) (k := 2048) (fun x => mem_own) (off10 i 1) (own_lap i 1))) rfl (View.dmaCredit_pos _ (by decide)) ((write_slice cc0_scratch29 _ _ _).trans (put_eq (m := 131072) (off10 i 1) _ _)) ?_
  refine lwp_pure ?_
  dsimp only
  refine lwp_enter ?_
  unfold copyLap2
  refine step_copy' cc0_scratch15 cc0_scratch29 rfl rfl (by decide) (by decide) (by decide) (sub_own_vm _) (sub_slice cc0_scratch29 _ (stretch_sub (m := 131072) (k := 2048) (fun x => mem_own) (off10 i 2) (own_lap i 2))) rfl (View.dmaCredit_pos _ (by decide)) ((write_slice cc0_scratch29 _ _ _).trans (put_eq (m := 131072) (off10 i 2) _ _)) ?_
  refine step_copy' cc0_scratch16 cc0_scratch29 rfl rfl (by decide) (by decide) (by decide) (sub_own_vm _) (sub_slice cc0_scratch29 _ (stretch_sub (m := 131072) (k := 2048) (fun x => mem_own) (off10 i 3) (own_lap i 3))) rfl (View.dmaCredit_pos _ (by decide)) ((write_slice cc0_scratch29 _ _ _).trans (put_eq (m := 131072) (off10 i 3) _ _)) ?_
  refine lwp_pure ?_
  dsimp only
  refine lwp_pure ?_
  refine ⟨_, rfl, rfl, ?_, ?_⟩
  · constructor
    all_goals
      simp (disch := decide) only [Function.update_of_ne, Function.update_self]
      first
      | exact fun y hy => h.ea y hy (by omega)
      | exact fun y hy => h.pk y hy (by omega)
      | exact fun y hy => h.eo y hy (by omega)
      | (rw [hoff' _ (by decide)]; assumption)
  · constructor
    · intro y h₁ h₂
      simp (disch := decide) only [Function.update_of_ne, Function.update_self]
      exact stretch3 (fun b => EA (F := F) G b) _ _ hi1 (fun y hy => h.ea y hy (by omega)) y h₁ h₂
    · intro y h₁ h₂
      simp (disch := decide) only [Function.update_of_ne, Function.update_self]
      exact stretch3 (fun b => PK (F := F) G b) _ _ hi1 (fun y hy => h.pk y hy (by omega)) y h₁ h₂
    · intro y h₁ h₂
      simp (disch := decide) only [Function.update_of_ne, Function.update_self]
      exact stretch3 (fun b => EO (F := F) G b) _ _ hi1 (fun y hy => h.eo y hy (by omega)) y h₁ h₂
    · intro y h₁
      simp (disch := decide) only [Function.update_of_ne, Function.update_self]
      refine Eq.trans (stretch4' (accL V G (bat i) ((i 1).val % 8) 32) _ _ _ _ h.a0 h.a1 h.a2 h.a3 _ hi1 y h₁) ?_
      unfold shLAP
      rw [h₁]

end Cert.Proof.Tile
end
-- ==== Proof.Count.lean ====
/-
  Counting on lanes: a running sum, a running maximum, and a scatter of counts, of words that hold small numbers.
-/
module

public import proofs.«01_k».proof.Proof.Scatter

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

variable {F : FTy → Type} [FloatOps F]

/-- Lane `l`. -/
def ln (l : Fin 16) : S16.Idx := Shape.ofLane (d := ![16]) l

theorem ln_val (l : Fin 16) : (ln l 0).val = l.val := rfl

/-! ## Lists of lanes -/

theorem foldl_add_sum {ι : Type} (f : ι → BitVec 32) : ∀ (L : List ι) (a : BitVec 32), L.foldl (fun r k => r + f k) a = a + (L.map f).sum
  | [], a => by simp
  | x :: L, a => by rw [List.foldl_cons, foldl_add_sum f L, List.map_cons, List.sum_cons, BitVec.add_assoc]

theorem sum_filter_ite {ι : Type} (p : ι → Bool) (f : ι → ℕ) : ∀ L : List ι, ((L.filter p).map f).sum = (L.map fun x => if p x then f x else 0).sum
  | [] => rfl
  | x :: L => by
    rw [List.filter_cons, List.map_cons, List.sum_cons, ← sum_filter_ite p f L]
    split <;> simp

theorem sum_ofNat {ι : Type} (f : ι → ℕ) : ∀ L : List ι, (L.map fun k => BitVec.ofNat 32 (f k)).sum = BitVec.ofNat 32 (L.map f).sum
  | [] => rfl
  | x :: L => by rw [List.map_cons, List.sum_cons, List.map_cons, List.sum_cons, sum_ofNat f L, BitVec.ofNat_add]

/-- The running sum of sixteen small numbers. -/
theorem scan_sum (v : IVec S16 32) (W : ℕ → ℕ) (hv : ∀ x : S16.Idx, v x = BitVec.ofNat 32 (W (x 0).val)) (x : S16.Idx) :
    scan .sum v x = BitVec.ofNat 32 (∑ l ∈ Finset.range ((x 0).val + 1), W l) := by
  have hx : (x 0).val < 16 := (x 0).isLt
  have h0 : scan .sum v x = ((List.finRange 16).filter fun k => decide (0 < k.val ∧ k.val ≤ (x 0).val)).foldl (fun r k => r + v (ln k)) (v (ln 0)) := rfl
  have e : (fun k : Fin 16 => v (ln k)) = fun k : Fin 16 => BitVec.ofNat 32 (W k.val) := funext fun k => hv _
  rw [h0, foldl_add_sum (fun k : Fin 16 => v (ln k)), e, sum_ofNat (fun k : Fin 16 => W k.val), sum_filter_ite, hv, ← BitVec.ofNat_add, ← Fin.sum_univ_def]
  refine congrArg (BitVec.ofNat 32) ?_
  show W 0 + _ = _
  rw [Finset.sum_range_succ', Nat.add_comm]
  refine congrArg (· + W 0) ?_
  rw [Fin.sum_univ_eq_sum_range (fun k => if decide (0 < k ∧ k ≤ (x 0).val) = true then W k else 0) 16, Finset.sum_range_succ']
  simp only [decide_eq_true_eq, Nat.lt_irrefl, false_and, if_false, Nat.add_zero]
  rw [← Finset.sum_filter]
  refine Finset.sum_congr ?_ fun _ _ => rfl
  ext k
  simp only [Finset.mem_filter, Finset.mem_range]
  omega

theorem foldl_max {ι : Type} (f : ι → BitVec 32) : ∀ (L : List ι) (a : BitVec 32),
    (L.foldl (fun r k => IntOp.maxui r (f k)) a = a ∨ ∃ k ∈ L, L.foldl (fun r k => IntOp.maxui r (f k)) a = f k) ∧
      a.toNat ≤ (L.foldl (fun r k => IntOp.maxui r (f k)) a).toNat ∧ ∀ k ∈ L, (f k).toNat ≤ (L.foldl (fun r k => IntOp.maxui r (f k)) a).toNat
  | [], a => ⟨.inl rfl, le_rfl, fun _ h => nomatch h⟩
  | x :: L, a => by
    obtain ⟨h1, h2, h3⟩ := foldl_max f L (IntOp.maxui a (f x))
    rw [List.foldl_cons]
    have hm : (IntOp.maxui a (f x) = a ∨ IntOp.maxui a (f x) = f x) ∧ a.toNat ≤ (IntOp.maxui a (f x)).toNat ∧ (f x).toNat ≤ (IntOp.maxui a (f x)).toNat := by
      unfold IntOp.maxui
      split
      · rename_i h
        have := BitVec.ult_iff_toNat_lt.1 h
        exact ⟨.inl rfl, by omega, by omega⟩
      · rename_i h
        have : ¬ (f x).toNat < a.toNat := fun hh => h (BitVec.ult_iff_toNat_lt.2 hh)
        exact ⟨.inr rfl, by omega, by omega⟩
    refine ⟨?_, hm.2.1.trans h2, ?_⟩
    · rcases h1 with h1 | ⟨k, hk, h1⟩
      · rcases hm.1 with e | e
        · exact .inl (h1.trans e)
        · exact .inr ⟨x, List.mem_cons_self .., h1.trans e⟩
      · exact .inr ⟨k, List.mem_cons_of_mem _ hk, h1⟩
    · intro k hk
      rcases List.mem_cons.1 hk with rfl | hk
      · exact hm.2.2.trans h2
      · exact h3 k hk

/-- The last lane of a running maximum is one of the lanes, and bounds the last. -/
theorem scan_max_last (v : IVec S16 32) (x : S16.Idx) (hx : (x 0).val = 15) :
    (∃ y, scan .max v x = v y) ∧ (v x).toNat ≤ (scan .max v x).toNat := by
  obtain ⟨h1, h2, h3⟩ := foldl_max (fun k : Fin 16 => v (ln k)) ((List.finRange 16).filter fun k => decide (0 < k.val ∧ k.val ≤ (x 0).val))
    (v (ln 0))
  refine ⟨?_, ?_⟩
  · rcases h1 with h | ⟨k, _, h⟩
    · exact ⟨_, h⟩
    · exact ⟨_, h⟩
  · have e : x = ln 15 := idx_ext hx
    have := h3 15 (by simp [hx])
    rw [← e] at this
    exact this

/-- The sign bit twice is nothing. -/
theorem sign_twice (w : BitVec 32) : IntOp.xori (IntOp.xori w 2147483648#32) 2147483648#32 = w := by
  show (w ^^^ _) ^^^ _ = w
  rw [BitVec.xor_assoc, BitVec.xor_self, BitVec.xor_zero]

theorem sign_small {n : ℕ} (h : n < 2147483648) : (IntOp.xori (BitVec.ofNat 32 n) 2147483648#32).toNat = 2147483648 + n := by
  have e : IntOp.xori (BitVec.ofNat 32 n) 2147483648#32 = BitVec.ofNat 32 (2147483648 + n) := by
    have hn : n < 2 ^ 31 := h
    show BitVec.ofNat 32 n ^^^ 2147483648#32 = _
    have : (2147483648#32 : BitVec 32) = BitVec.twoPow 32 31 := by decide
    apply BitVec.eq_of_toNat_eq
    rw [BitVec.toNat_xor, BitVec.toNat_ofNat, BitVec.toNat_ofNat, BitVec.toNat_ofNat, Nat.mod_eq_of_lt (by omega), Nat.mod_eq_of_lt (by omega), Nat.mod_eq_of_lt (by omega)]
    rw [show 2147483648 + n = 2 ^ 31 * 1 + n from rfl, Nat.two_pow_add_eq_or_of_lt hn, Nat.xor_comm]
    apply Nat.eq_of_testBit_eq
    intro j
    rw [Nat.testBit_xor, Nat.testBit_or, Nat.mul_one, show 2147483648 = 2 ^ 31 from rfl]
    by_cases hj : j = 31
    · subst hj
      rw [Nat.testBit_lt_two_pow hn]; rfl
    · have e2 : Nat.testBit (2 ^ 31) j = false := by rw [Nat.testBit_two_pow]; simp; omega
      rw [e2]; simp
  rw [e, BitVec.toNat_ofNat, Nat.mod_eq_of_lt (by omega)]

/-! ## A scatter of counts -/

theorem scat_add {m : ℕ} (f : (⟨1, ![m]⟩ : Shape).Idx → BitVec 32) (v : IVec S16 32) (w : S16.Idx → BitVec 32) (j : (⟨1, ![m]⟩ : Shape).Idx)
    (a : ℕ) (W : S16.Idx → ℕ) (hf : f j = BitVec.ofNat 32 a) (hw : ∀ x, w x = BitVec.ofNat 32 (W x)) :
    scat (· + ·) f v w j = BitVec.ofNat 32 (a + ∑ l : Fin 16, if (v (ln l)).toNat = (j 0).val then W (ln l) else 0) := by
  have key : ∀ (L : List (Fin 16)) (f : (⟨1, ![m]⟩ : Shape).Idx → BitVec 32) (a : ℕ), f j = BitVec.ofNat 32 a →
      L.foldl (fun (h : (⟨1, ![m]⟩ : Shape).Idx → BitVec 32) (l : Fin 16) => fun j => if (j 0).val = (v (ln l)).toNat then h j + w (ln l) else h j) f j =
        BitVec.ofNat 32 (a + (L.map fun l => if (v (ln l)).toNat = (j 0).val then W (ln l) else 0).sum) := by
    intro L
    induction L with
    | nil => intro f a h; simpa using h
    | cons x L ih =>
      intro f a h
      rw [List.foldl_cons, List.map_cons, List.sum_cons]
      by_cases c : (v (ln x)).toNat = (j 0).val
      · rw [if_pos c, ← Nat.add_assoc]
        refine ih _ _ ?_
        show (if _ then _ else _) = _
        rw [if_pos c.symm, h, hw, BitVec.ofNat_add]
      · rw [if_neg c, Nat.zero_add]
        refine ih _ _ ?_
        show (if _ then _ else _) = _
        rw [if_neg fun e => c e.symm, h]
  rw [Fin.sum_univ_def]
  exact key _ f a hf

/-! ## How many of the first `n` have a value -/

/-- How many of the first `n` numbers of `E` are `u`. -/
def cnt (E : ℕ → ℕ) (n u : ℕ) : ℕ := ∑ t ∈ Finset.range n, if E t = u then 1 else 0

/-- How many of the first `n` are below `u`, counted value by value. -/
def below (E : ℕ → ℕ) (n u : ℕ) : ℕ := ∑ x ∈ Finset.range u, cnt E n x

theorem cnt_add (E : ℕ → ℕ) (n k u : ℕ) : cnt E (n + k) u = cnt E n u + ∑ l ∈ Finset.range k, if E (n + l) = u then 1 else 0 :=
  Finset.sum_range_add _ _ _

theorem cnt_mono (E : ℕ → ℕ) {n m : ℕ} (h : n ≤ m) (u : ℕ) : cnt E n u ≤ cnt E m u := by
  obtain ⟨k, rfl⟩ := Nat.exists_eq_add_of_le h
  rw [cnt_add]; omega

theorem below_le (E : ℕ → ℕ) (n u : ℕ) : below E n u ≤ n := by
  unfold below cnt
  rw [Finset.sum_comm]
  calc ∑ y ∈ Finset.range n, ∑ x ∈ Finset.range u, (if E y = x then 1 else 0) ≤ ∑ y ∈ Finset.range n, 1 := by
        refine Finset.sum_le_sum fun y _ => ?_
        rw [Finset.sum_ite_eq]
        split <;> omega
    _ = n := by simp

theorem below_succ (E : ℕ → ℕ) (n u : ℕ) : below E n (u + 1) = below E n u + cnt E n u := Finset.sum_range_succ _ _

theorem below_add (E : ℕ → ℕ) (n u k : ℕ) : below E n (u + k) = below E n u + ∑ l ∈ Finset.range k, cnt E n (u + l) := Finset.sum_range_add _ _ _

/-- Sixteen lanes' occurrences of a value. -/
theorem lanes_cnt (E : ℕ → ℕ) (n u : ℕ) (v : IVec S16 32) (hv : ∀ x : S16.Idx, (v x).toNat = E (n + (x 0).val)) :
    cnt E (n + 16) u = cnt E n u + ∑ l : Fin 16, if (v (ln l)).toNat = u then 1 else 0 := by
  rw [cnt_add]
  refine congrArg (cnt E n u + ·) ?_
  rw [← Fin.sum_univ_eq_sum_range (fun l => if E (n + l) = u then 1 else 0) 16]
  refine Finset.sum_congr rfl fun l _ => ?_
  rw [hv]; rfl

/-! ## Ranks among the lanes -/

/-- How many lanes up to this one hold its value. -/
def rank (v : IVec S16 32) (x : S16.Idx) : ℕ := ∑ l : Fin 16, if l.val ≤ (x 0).val ∧ v (ln l) = v x then 1 else 0

theorem lane_of (x : S16.Idx) : ln (⟨(x 0).val, (x 0).isLt⟩ : Fin 16) = x := idx_ext rfl

theorem pos_lane (x : S16.Idx) : (S16.rowMajor x).val = (x 0).val := Shape.rowMajor_val_one x

theorem pay44_val (v : Vec F S16 .i32) (x : S16.Idx) : k0_pay44 (F := F) v x = BitVec.ofNat 32 (rank v x) := by
  show (if (1#1 : BitVec 1) = 1 then BitVec.ofNat 32 (Finset.univ.filter fun j : S16.Idx => (S16.rowMajor j).val ≤ (S16.rowMajor x).val ∧ (1#1 : BitVec 1) = 1 ∧ v j = v x).card else 1) = _
  refine (if_pos rfl).trans ?_
  congr 1
  unfold rank
  rw [← Finset.card_filter]
  refine (Finset.card_bij (fun (l : Fin 16) _ => ln l) ?_ ?_ ?_).symm
  · intro l hl
    rw [Finset.mem_filter] at hl ⊢
    refine ⟨Finset.mem_univ _, ?_, rfl, hl.2.2⟩
    rw [pos_lane, pos_lane]; exact hl.2.1
  · intro a _ b _ h
    exact Fin.ext (congrArg (fun y : S16.Idx => (y 0).val) h)
  · intro y hy
    rw [Finset.mem_filter, pos_lane, pos_lane] at hy
    refine ⟨⟨(y 0).val, (y 0).isLt⟩, ?_, lane_of y⟩
    rw [Finset.mem_filter, lane_of]
    exact ⟨Finset.mem_univ _, hy.2.1, hy.2.2.2⟩

theorem rank_pos (v : IVec S16 32) (x : S16.Idx) : 1 ≤ rank v x := by
  unfold rank
  refine le_trans ?_ (Finset.single_le_sum (f := fun l : Fin 16 => if l.val ≤ (x 0).val ∧ v (ln l) = v x then 1 else 0)
    (fun _ _ => Nat.zero_le _) (Finset.mem_univ (⟨(x 0).val, (x 0).isLt⟩ : Fin 16)))
  simp only [lane_of]
  simp

theorem rank_le (v : IVec S16 32) (x : S16.Idx) : rank v x ≤ ∑ l : Fin 16, if (v (ln l)).toNat = (v x).toNat then 1 else 0 := by
  unfold rank
  refine Finset.sum_le_sum fun l _ => ?_
  split
  · rename_i h; rw [if_pos (congrArg _ h.2)]
  · exact Nat.zero_le _

/-- The count a lane adds: its rank if it is the last of its value, else nothing. -/
def rankLast (v : IVec S16 32) (x : S16.Idx) : ℕ := if ∀ y : S16.Idx, (x 0).val < (y 0).val → v y ≠ v x then rank v x else 0

theorem pay46_val (v : Vec F S16 .i32) (x : S16.Idx) : k0_pay46 (F := F) v x = BitVec.ofNat 32 (rankLast v x) := by
  have e : k0_pay46 (F := F) v x = k0_pay44 (F := F) v x * BitVec.setWidth 32 ((scanCount k0_pay43 v).1 x) := rfl
  rw [e, pay44_val]
  unfold rankLast scanCount
  dsimp only
  by_cases h : ∀ y : S16.Idx, (x 0).val < (y 0).val → v y ≠ v x
  · rw [if_pos h, if_pos]
    · exact BitVec.mul_one _
    · refine ⟨rfl, fun j hj hh => h j ?_ hh.2⟩
      rw [pos_lane, pos_lane] at hj; exact hj
  · rw [if_neg h, if_neg]
    · exact BitVec.mul_zero
    · rintro ⟨_, hh⟩
      refine h fun y hy e => hh y ?_ ⟨rfl, e⟩
      rw [pos_lane, pos_lane]; exact hy

/-- The last lane of a value brings the count of all its lanes. -/
theorem sum_rankLast (v : IVec S16 32) (u : ℕ) :
    (∑ l : Fin 16, if (v (ln l)).toNat = u then rankLast v (ln l) else 0) =
      ∑ l : Fin 16, if (v (ln l)).toNat = u then 1 else 0 := by
  by_cases hex : ∃ l : Fin 16, (v (ln l)).toNat = u
  · obtain ⟨m, hm, hmax⟩ := (Finset.univ.filter fun l : Fin 16 => (v (ln l)).toNat = u).exists_maximal
      (by obtain ⟨l, hl⟩ := hex; exact ⟨l, Finset.mem_filter.2 ⟨Finset.mem_univ _, hl⟩⟩)
    have hmu := (Finset.mem_filter.1 hm).2
    have hlast : ∀ l : Fin 16, (v (ln l)).toNat = u → l ≤ m := by
      intro l hl
      by_contra hc
      exact hc (hmax (Finset.mem_filter.2 ⟨Finset.mem_univ _, hl⟩) (le_of_lt (not_le.1 hc)))
    rw [Finset.sum_eq_single m]
    · rw [if_pos hmu]
      unfold rankLast
      rw [if_pos]
      · unfold rank
        refine Finset.sum_congr rfl fun l _ => ?_
        by_cases c : (v (ln l)).toNat = u
        · rw [if_pos c, if_pos ⟨hlast l c, BitVec.eq_of_toNat_eq (c.trans hmu.symm)⟩]
        · rw [if_neg c, if_neg]
          rintro ⟨_, h⟩
          exact c ((congrArg _ h).trans hmu)
      · intro y hy e
        have := hlast ⟨(y 0).val, (y 0).isLt⟩ (by rw [lane_of, e]; exact hmu)
        have : (y 0).val ≤ m.val := this
        have hy' : m.val < (y 0).val := hy
        omega
    · intro l _ hl
      by_cases c : (v (ln l)).toNat = u
      · rw [if_pos c]
        unfold rankLast
        rw [if_neg]
        intro h
        have h1 := hlast l c
        have h2 : l.val < m.val := lt_of_le_of_ne h1 fun e => hl (Fin.ext e)
        exact h (ln m) h2 (BitVec.eq_of_toNat_eq (hmu.trans c.symm))
      · rw [if_neg c]
    · intro h; exact absurd (Finset.mem_univ _) h
  · rw [Finset.sum_eq_zero, Finset.sum_eq_zero]
    · intro l _; rw [if_neg fun h => hex ⟨l, h⟩]
    · intro l _; rw [if_neg fun h => hex ⟨l, h⟩]

end Cert.Proof.Tile
end
-- ==== Proof.Slots.lean ====
/-
  The slots of a counting sort: the edges of one lower end get consecutive slots, in the order of their numbers, and no two edges share one.
  A scatter of words to distinct places.
-/
module

public import proofs.«01_k».proof.Proof.Count

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

variable {F : FTy → Type} [FloatOps F]

variable (E : ℕ → ℕ) (N : ℕ)

/-- The slot of edge `t`: behind the edges of lower vertices, and behind the earlier edges of its own. -/
def slotOf (t : ℕ) : ℕ := below E N (E t) + cnt E t (E t)

theorem cnt_succ_self (t : ℕ) : cnt E (t + 1) (E t) = cnt E t (E t) + 1 := by
  unfold cnt; rw [Finset.sum_range_succ, if_pos rfl]

theorem cnt_lt {t : ℕ} (h : t < N) : cnt E t (E t) < cnt E N (E t) := by
  have := cnt_mono E (show t + 1 ≤ N from h) (E t)
  rw [cnt_succ_self] at this; omega

theorem below_mono {u v : ℕ} (h : u ≤ v) : below E N u ≤ below E N v := by
  obtain ⟨k, rfl⟩ := Nat.exists_eq_add_of_le h
  rw [below_add]; omega

theorem slotOf_lt {t : ℕ} (h : t < N) : slotOf E N t < below E N (E t + 1) := by
  have := cnt_lt E N h
  rw [below_succ]; unfold slotOf; omega

theorem slotOf_lt_all {t : ℕ} (h : t < N) : slotOf E N t < N := (slotOf_lt E N h).trans_le (below_le E N _)

/-- Two edges of one vertex with the same count are one edge. -/
theorem cnt_inj {t t' : ℕ} (he : E t = E t') (hc : cnt E t (E t) = cnt E t' (E t')) : t = t' := by
  rcases Nat.lt_trichotomy t t' with h | h | h
  · have := cnt_lt E t' h
    rw [hc, he] at this; omega
  · exact h
  · have := cnt_lt E t h
    rw [← hc, ← he] at this; omega

theorem slotOf_inj {t t' : ℕ} (h : t < N) (h' : t' < N) (e : slotOf E N t = slotOf E N t') : t = t' := by
  rcases Nat.lt_trichotomy (E t) (E t') with hu | hu | hu
  · have h1 := slotOf_lt E N h
    have h2 := below_mono E N (show E t + 1 ≤ E t' from hu)
    have : below E N (E t') ≤ slotOf E N t' := by unfold slotOf; omega
    omega
  · refine cnt_inj E hu ?_
    unfold slotOf at e
    rw [hu] at e
    rw [hu]
    omega
  · have h1 := slotOf_lt E N h'
    have h2 := below_mono E N (show E t' + 1 ≤ E t from hu)
    have : below E N (E t) ≤ slotOf E N t := by unfold slotOf; omega
    omega

/-- Every count below the whole count is met. -/
theorem cnt_surj (u : ℕ) : ∀ M n : ℕ, n < cnt E M u → ∃ t < M, E t = u ∧ cnt E t u = n
  | 0, n, h => absurd h (by simp [cnt])
  | M + 1, n, h => by
    by_cases c : n < cnt E M u
    · obtain ⟨t, ht, h1, h2⟩ := cnt_surj u M n c
      exact ⟨t, by omega, h1, h2⟩
    · by_cases e : E M = u
      · refine ⟨M, by omega, e, ?_⟩
        have := cnt_succ_self E M
        rw [e] at this; omega
      · have : cnt E (M + 1) u = cnt E M u := by unfold cnt; rw [Finset.sum_range_succ, if_neg e]; omega
        omega

/-- The `n`th slot of a vertex's stretch is one edge's, or lies beyond the stretch. -/
theorem nth_slot (u n : ℕ) : (n < cnt E N u ∧ ∃ t < N, E t = u ∧ cnt E t u = n ∧ slotOf E N t = below E N u + n ∧
      ∀ t', E t' = u → cnt E t' u = n → t' = t) ∨ (cnt E N u ≤ n ∧ ∀ t' < N, E t' = u → cnt E t' u < n) := by
  by_cases c : n < cnt E N u
  · obtain ⟨t, ht, h1, h2⟩ := cnt_surj E u N n c
    refine .inl ⟨c, t, ht, h1, h2, ?_, fun t' h3 h4 => cnt_inj E (h3.trans h1.symm) ?_⟩
    · unfold slotOf; rw [h1, h2]
    · rw [h3, h4, h1, h2]
  · refine .inr ⟨by omega, fun t' h1 h2 => ?_⟩
    have := cnt_lt E N h1
    rw [h2] at this; omega

/-! ## A scatter of words to distinct places -/

theorem scat_set {m : ℕ} (f : (⟨1, ![m]⟩ : Shape).Idx → BitVec 32) (v : IVec S16 32) (w : S16.Idx → BitVec 32) (j : (⟨1, ![m]⟩ : Shape).Idx)
    (hd : ∀ l l' : Fin 16, (v (ln l)).toNat = (v (ln l')).toNat → l = l') :
    (∀ l : Fin 16, (v (ln l)).toNat = (j 0).val → scat (fun _ y => y) f v w j = w (ln l)) ∧
      ((∀ l : Fin 16, (v (ln l)).toNat ≠ (j 0).val) → scat (fun _ y => y) f v w j = f j) := by
  have key : ∀ (L : List (Fin 16)) (f : (⟨1, ![m]⟩ : Shape).Idx → BitVec 32),
      (∀ l : Fin 16, (v (ln l)).toNat = (j 0).val → l ∈ L ∨ f j = w (ln l) →
        L.foldl (fun (h : (⟨1, ![m]⟩ : Shape).Idx → BitVec 32) (l : Fin 16) => fun j => if (j 0).val = (v (ln l)).toNat then w (ln l) else h j) f j = w (ln l)) ∧
      ((∀ l : Fin 16, (v (ln l)).toNat ≠ (j 0).val) →
        L.foldl (fun (h : (⟨1, ![m]⟩ : Shape).Idx → BitVec 32) (l : Fin 16) => fun j => if (j 0).val = (v (ln l)).toNat then w (ln l) else h j) f j = f j) := by
    intro L
    induction L with
    | nil => exact fun f => ⟨fun l _ h => h.resolve_left (fun h => nomatch h), fun _ => rfl⟩
    | cons x L ih =>
      intro f
      refine ⟨fun l hl h => ?_, fun h => ?_⟩
      · rw [List.foldl_cons]
        refine (ih _).1 l hl ?_
        by_cases c : l = x
        · subst c
          exact .inr (if_pos hl.symm)
        · rcases h with h | h
          · exact .inl ((List.mem_cons.1 h).resolve_left c)
          · exact .inr ((if_neg fun e => c (hd _ _ (hl.trans e))).trans h)
      · rw [List.foldl_cons]
        exact ((ih _).2 h).trans (if_neg fun e => h x e.symm)
  exact ⟨fun l hl => (key _ f).1 l hl (.inl (List.mem_finRange l)), (key _ f).2⟩

/-- The running maximum's last lane bounds every lane. -/
theorem scan_max_all (v : IVec S16 32) (y : S16.Idx) : (v y).toNat ≤ (scan .max v (ln 15)).toNat := by
  obtain ⟨h1, h2, h3⟩ := foldl_max (fun k : Fin 16 => v (ln k)) ((List.finRange 16).filter fun k => decide (0 < k.val ∧ k.val ≤ (ln 15 0).val))
    (v (ln 0))
  have hy : (y 0).val < 16 := (y 0).isLt
  by_cases c : (y 0).val = 0
  · have e : y = ln 0 := idx_ext c
    rw [e]; exact h2
  · have e : y = ln ⟨(y 0).val, hy⟩ := idx_ext rfl
    rw [e]
    refine h3 ⟨(y 0).val, hy⟩ ?_
    rw [List.mem_filter]
    refine ⟨List.mem_finRange _, ?_⟩
    have : (ln 15 0).val = 15 := rfl
    rw [this]
    simp only [decide_eq_true_eq]
    omega

/-- The lanes up to this one of its value are the earlier ones and itself. -/
theorem rank_cnt (n : ℕ) (v : IVec S16 32) (hv : ∀ x : S16.Idx, (v x).toNat = E (n + (x 0).val)) (x : S16.Idx) :
    cnt E (n + (x 0).val) (E (n + (x 0).val)) + 1 = cnt E n (E (n + (x 0).val)) + rank v x := by
  have hx : (x 0).val < 16 := (x 0).isLt
  rw [← cnt_succ_self, Nat.add_assoc, cnt_add]
  congr 1
  unfold rank
  rw [← Finset.sum_filter, Finset.sum_const, smul_eq_mul, Nat.mul_one, ← Finset.sum_filter, Finset.sum_const, smul_eq_mul, Nat.mul_one]
  refine (Finset.card_bij (fun (l : Fin 16) _ => l.val) ?_ ?_ ?_).symm
  · intro l hl
    rw [Finset.mem_filter] at hl
    rw [Finset.mem_filter, Finset.mem_range]
    refine ⟨by omega, ?_⟩
    rw [← hv x, ← hl.2.2, hv]; rfl
  · intro a _ b _ h; exact Fin.ext h
  · intro l hl
    rw [Finset.mem_filter, Finset.mem_range] at hl
    refine ⟨⟨l, by omega⟩, ?_, rfl⟩
    rw [Finset.mem_filter]
    refine ⟨Finset.mem_univ _, by show l ≤ _; omega, BitVec.eq_of_toNat_eq ?_⟩
    rw [hv, hv]; exact hl.2

/-! ## What the sort leaves -/

/-- The numbers an edge array holds. -/
def num (X : Vec F S12288 .i32) (t : ℕ) : ℕ := (at_ X t : BitVec 32).toNat

theorem num_lt {X : Vec F S12288 .i32} (hX : ∀ y, (X y : BitVec 32).toNat < 2048) (t : ℕ) : num X t < 2048 := hX _

/-- Half `s` of the shared memory after the sort: each edge's word in its slot, and each vertex's first slot and the one behind its last. -/
structure SortedOf (X P : Vec F S12288 .i32) (s : ℕ) (f : Vec F S24576 .i32) (g h : Vec F S4096 .i32) : Prop where
  srt : ∀ t < 12288, (at_ f (s * 12288 + slotOf (num X) 12288 t) : BitVec 32) = at_ P t
  off : ∀ u < 2048, (at_ g (s * 2048 + u) : BitVec 32) = BitVec.ofNat 32 (below (num X) 12288 u)
  stop : ∀ u < 2048, (at_ h (s * 2048 + u) : BitVec 32) = BitVec.ofNat 32 (below (num X) 12288 (u + 1))

end Cert.Proof.Tile
end
-- ==== Proof.Sort.lean ====
/-
  The counting sort of a batch's edges by their lower end, on the first tile of each half: it counts the edges of each vertex, sums
  the counts up, and gives every edge its slot.  Every slot lies inside the array, and the starts and ends of the vertices' stretches
  are at most the number of edges.
-/
module

public import proofs.«01_k».proof.Proof.PhaseA
public import proofs.«01_k».proof.Proof.Slots

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀
variable {F : FTy → Type} [FloatOps F]

theorem off11 : ∀ i : grid0.Coords, k0_off11 i 0 = (i 1).val / 8 * 12288 := by decide +kernel
theorem off16 : ∀ i : grid0.Coords, k0_off16 i 0 = (i 1).val / 8 * 2048 := by decide +kernel
theorem off12 (k : Fin k0_t3_loop.trips) : k0_off12 k 0 = 16 * k.val := by rw [k0_off12_eq]; rfl
theorem off13 (k : Fin k0_t4_loop.trips) : k0_off13 k 0 = 16 * k.val := by rw [k0_off13_eq]; rfl
theorem off14 (k : Fin k0_t5_loop.trips) : k0_off14 k 0 = 16 * k.val := by rw [k0_off14_eq]; rfl
theorem off15 (k : Fin k0_t6_loop.trips) : k0_off15 k 0 = 16 * k.val := by rw [k0_off15_eq]; rfl
theorem trips3 : k0_t3_loop.trips = 128 := by decide +kernel
theorem trips4 : k0_t4_loop.trips = 768 := by decide +kernel
theorem trips5 : k0_t5_loop.trips = 128 := by decide +kernel
theorem trips6 : k0_t6_loop.trips = 768 := by decide +kernel
theorem cond1 : ∀ i : grid0.Coords, k0_cond1 i = 1#1 ↔ (i 1).val % 8 = 0 := by decide +kernel

theorem lane_num {X : Vec F S12288 .i32} {n : ℕ} (x : S16.Idx) : (cut (k := 16) (16 * n) X x : BitVec 32).toNat = num X (16 * n + (x 0).val) := rfl

theorem small {n : ℕ} (h : n < 4294967296) : (BitVec.ofNat 32 n).toNat = n := by rw [BitVec.toNat_ofNat, Nat.mod_eq_of_lt h]

theorem put_at {n : ℕ} {α : Type} {f E : S2048.Idx → α} {w : S16.Idx → α} (hn : n < 128) (h : ∀ y : S2048.Idx, (y 0).val < 16 * n → f y = E y)
    (hw : ∀ x : S16.Idx, w x = at_ E (16 * n + (x 0).val)) (y : S2048.Idx) (hy : (y 0).val < 16 * (n + 1)) : put (16 * n) w f y = E y := by
  by_cases hc : 16 * n ≤ (y 0).val
  · rw [put_in hc (by omega)]
    unfold at_
    rw [hw, ix_val_lt (by omega), show 16 * n + ((y 0).val - 16 * n) = (y 0).val by omega, at_val]
  · rw [put_out (by omega)]; exact h y (by omega)

variable (X : Vec F S12288 .i32) (hX : ∀ y, (X y : BitVec 32).toNat < 2048)

/-- The counts after `n` trips of the counting loop. -/
abbrev Cn (n : ℕ) (f : Vec F S2048 .i32) : Prop := ∀ y : S2048.Idx, (f y : BitVec 32) = BitVec.ofNat 32 (cnt (num X) (16 * n) (y 0).val)

include hX in
theorem count_step {n : ℕ} {f : Vec F S2048 .i32} (h : Cn X n f) :
    Cn X (n + 1) (scat (Elt.idxAdd (F := F) .i32) f (cut (16 * n) X) k0_pay38) := by
  intro y
  refine (scat_add (f := f) _ _ y _ (fun _ => 1) (h y) fun _ => rfl).trans ?_
  rw [show 16 * (n + 1) = 16 * n + 16 by omega, lanes_cnt (num X) (16 * n) (y 0).val (cut (16 * n) X) lane_num]

theorem ofNat_sub_add (s w c : ℕ) : BitVec.ofNat 32 (s + w) - BitVec.ofNat 32 w + BitVec.ofNat 32 c = BitVec.ofNat 32 (c + s) := by
  rw [BitVec.ofNat_add, BitVec.add_sub_cancel, BitVec.ofNat_add, BitVec.add_comm]

theorem pay40_val (v : Vec F S16 .i32) (W : ℕ → ℕ) (hv : ∀ x : S16.Idx, (v x : BitVec 32) = BitVec.ofNat 32 (W (x 0).val)) (c : ℕ) (x : S16.Idx) :
    k0_pay40 (BitVec.ofNat 32 c) v x = BitVec.ofNat 32 (c + ∑ l ∈ Finset.range (x 0).val, W l) := by
  have e : k0_pay40 (BitVec.ofNat 32 c) v x = scan .sum v x - v x + BitVec.ofNat 32 c := rfl
  rw [e, scan_sum v W hv, hv, Finset.sum_range_succ, ofNat_sub_add]

theorem pay41_val (v : Vec F S16 .i32) (W : ℕ → ℕ) (hv : ∀ x : S16.Idx, (v x : BitVec 32) = BitVec.ofNat 32 (W (x 0).val)) (c : ℕ) (x : S16.Idx) :
    k0_pay41 (BitVec.ofNat 32 c) v x = BitVec.ofNat 32 (c + ∑ l ∈ Finset.range ((x 0).val + 1), W l) := by
  have e : k0_pay41 (BitVec.ofNat 32 c) v x = scan .sum v x + BitVec.ofNat 32 c := rfl
  rw [e, scan_sum v W hv, BitVec.ofNat_add, BitVec.add_comm]

theorem pay42_val (v : Vec F S16 .i32) (W : ℕ → ℕ) (hv : ∀ x : S16.Idx, (v x : BitVec 32) = BitVec.ofNat 32 (W (x 0).val))
    (hs : ∑ l ∈ Finset.range 16, W l < 2147483648) (x : S16.Idx) (hx : (x 0).val = 15) :
    k0_pay42 v x = BitVec.ofNat 32 (∑ l ∈ Finset.range 16, W l) := by
  have e : k0_pay42 v x = IntOp.xori (scan .max (fun y => IntOp.xori (scan .sum v y) 2147483648#32) x) 2147483648#32 := rfl
  have hle : ∀ y : S16.Idx, ∑ l ∈ Finset.range ((y 0).val + 1), W l ≤ ∑ l ∈ Finset.range 16, W l := fun y =>
    Finset.sum_le_sum_of_subset (Finset.range_mono (by have : (y 0).val < 16 := (y 0).isLt; omega))
  obtain ⟨⟨y, hy⟩, hb⟩ := scan_max_last (fun y => IntOp.xori (scan .sum v y) 2147483648#32) x hx
  rw [hy] at hb
  simp only [scan_sum v W hv] at hb
  rw [sign_small ((hle _).trans_lt hs), sign_small ((hle _).trans_lt hs), hx, show 15 + 1 = 16 from rfl] at hb
  rw [e, hy, sign_twice, scan_sum v W hv]
  have := hle y
  rw [le_antisymm this (by omega)]

section Starts

variable {X}

abbrev Wn (X : Vec F S12288 .i32) (n : ℕ) (l : ℕ) : ℕ := cnt (num X) 12288 (16 * n + l)

theorem sum_Wn (n k : ℕ) : below (num X) 12288 (16 * n) + ∑ l ∈ Finset.range k, Wn X n l = below (num X) 12288 (16 * n + k) := (below_add _ _ _ _).symm

theorem Wn_lt (n : ℕ) : ∑ l ∈ Finset.range 16, Wn X n l < 2147483648 := by
  have := sum_Wn (X := X) n 16
  have := below_le (num X) 12288 (16 * n + 16)
  omega

end Starts

/-- The starts: how many edges have a lower end below the vertex. -/
def starts : Vec F S2048 .i32 := fun y => BitVec.ofNat 32 (below (num X) 12288 (y 0).val)
/-- The ends. -/
def stops : Vec F S2048 .i32 := fun y => BitVec.ofNat 32 (below (num X) 12288 ((y 0).val + 1))

theorem starts_at {n : ℕ} (hn : n < 128) (x : S16.Idx) : at_ (starts X) (16 * n + (x 0).val) = BitVec.ofNat 32 (below (num X) 12288 (16 * n + (x 0).val)) := by
  have hx : (x 0).val < 16 := (x 0).isLt
  unfold at_ starts
  rw [ix_val_lt (by omega)]
theorem stops_at {n : ℕ} (hn : n < 128) (x : S16.Idx) : at_ (stops X) (16 * n + (x 0).val) = BitVec.ofNat 32 (below (num X) 12288 (16 * n + (x 0).val + 1)) := by
  have hx : (x 0).val < 16 := (x 0).isLt
  unfold at_ stops
  rw [ix_val_lt (by omega)]

theorem starts_le (y : S2048.Idx) : (starts X y : BitVec 32).toNat ≤ 12288 := by
  have := below_le (num X) 12288 (y 0).val
  unfold starts
  rw [small (by omega)]; exact this
theorem stops_le (y : S2048.Idx) : (stops X y : BitVec 32).toNat ≤ 12288 := by
  have := below_le (num X) 12288 ((y 0).val + 1)
  unfold stops
  rw [small (by omega)]; exact this

/-- The next free slot of each vertex after `n` trips of the placing loop. -/
abbrev Cur (n : ℕ) (f : Vec F S2048 .i32) : Prop :=
  ∀ y : S2048.Idx, (f y : BitVec 32) = BitVec.ofNat 32 (below (num X) 12288 (y 0).val + cnt (num X) (16 * n) (y 0).val)

include hX in
theorem cur_step {n : ℕ} {f : Vec F S2048 .i32} (h : Cur X n f) :
    Cur X (n + 1) (scat (Elt.idxAdd (F := F) .i32) f (cut (16 * n) X) (k0_pay46 (F := F) (cut (16 * n) X))) := by
  intro y
  refine (scat_add (f := f) _ _ y _ (rankLast (cut (16 * n) X)) (h y) fun x => pay46_val _ x).trans ?_
  rw [show 16 * (n + 1) = 16 * n + 16 by omega, lanes_cnt (num X) (16 * n) (y 0).val (cut (16 * n) X) lane_num, sum_rankLast, Nat.add_assoc]

include hX in
/-- A slot lies inside the array. -/
theorem slot_lt {n : ℕ} (hn : n < 768) {f : Vec F S2048 .i32} (h : Cur X n f) (x : S16.Idx) :
    (k0_pay45 (F := F) (cut (16 * n) X) (gat f (cut (16 * n) X)) x).toNat < 12288 := by
  have e : k0_pay45 (F := F) (cut (16 * n) X) (gat f (cut (16 * n) X)) x = gat f (cut (16 * n) X) x + k0_pay44 (F := F) (cut (16 * n) X) x - 1#32 := rfl
  have hu : (cut (k := 16) (16 * n) X x : BitVec 32).toNat < 2048 := hX _
  have hg : (gat f (cut (k := 16) (16 * n) X) x : BitVec 32) = BitVec.ofNat 32 (below (num X) 12288 (cut (k := 16) (16 * n) X x : BitVec 32).toNat + cnt (num X) (16 * n) (cut (k := 16) (16 * n) X x : BitVec 32).toNat) := by
    unfold gat at_
    rw [h, ix_val_lt hu]
  obtain ⟨u, hue⟩ : ∃ u, u = (cut (k := 16) (16 * n) X x : BitVec 32).toNat := ⟨_, rfl⟩
  rw [← hue] at hg
  have h1 := rank_pos (cut (16 * n) X) x
  have h2 := rank_le (cut (16 * n) X) x
  rw [← hue] at h2
  have h3 := lanes_cnt (num X) (16 * n) u (cut (16 * n) X) lane_num
  have h4 := cnt_mono (num X) (show 16 * n + 16 ≤ 12288 by omega) u
  have h5 := below_succ (num X) 12288 u
  have h6 := below_le (num X) 12288 (u + 1)
  rw [e, hg, pay44_val, ← BitVec.ofNat_add]
  obtain ⟨r, hr⟩ : ∃ r, rank (cut (16 * n) X) x = r + 1 := ⟨_, (Nat.sub_add_cancel h1).symm⟩
  have : below (num X) 12288 u + cnt (num X) (16 * n) u + r < 12288 := by omega
  rw [hr, ← Nat.add_assoc, BitVec.ofNat_add _ 1, BitVec.add_sub_cancel, small (by omega)]
  exact this

include hX in
/-- The slot a lane computes is its edge's. -/
theorem slot_eq {n : ℕ} (hn : n < 768) {f : Vec F S2048 .i32} (h : Cur X n f) (x : S16.Idx) :
    (k0_pay45 (F := F) (cut (16 * n) X) (gat f (cut (16 * n) X)) x).toNat = slotOf (num X) 12288 (16 * n + (x 0).val) := by
  have hx : (x 0).val < 16 := (x 0).isLt
  have e : k0_pay45 (F := F) (cut (16 * n) X) (gat f (cut (16 * n) X)) x = gat f (cut (16 * n) X) x + k0_pay44 (F := F) (cut (16 * n) X) x - 1#32 := rfl
  have hu : (cut (k := 16) (16 * n) X x : BitVec 32).toNat < 2048 := hX _
  have hg : (gat f (cut (k := 16) (16 * n) X) x : BitVec 32) = BitVec.ofNat 32 (below (num X) 12288 (num X (16 * n + (x 0).val)) + cnt (num X) (16 * n) (num X (16 * n + (x 0).val))) := by
    unfold gat
    show at_ f (cut (k := 16) (16 * n) X x : BitVec 32).toNat = _
    unfold at_
    rw [h, ix_val_lt hu]
    rfl
  have h1 := rank_cnt (num X) (16 * n) (cut (16 * n) X) lane_num x
  have h2 := slotOf_lt_all (num X) 12288 (show 16 * n + (x 0).val < 12288 by omega)
  have h3 := rank_pos (cut (16 * n) X) x
  unfold slotOf at h2 ⊢
  rw [e, hg, pay44_val, ← BitVec.ofNat_add, Nat.add_assoc, ← h1, ← Nat.add_assoc, BitVec.ofNat_add _ 1, BitVec.add_sub_cancel, small (by omega)]

/-- The first `16 n` edges' words lie in their slots. -/
abbrev Placed (P : Vec F S12288 .i32) (n : ℕ) (f : Vec F S12288 .i32) : Prop :=
  ∀ t < 16 * n, t < 12288 → (at_ f (slotOf (num X) 12288 t) : BitVec 32) = at_ P t

theorem place_step {P : Vec F S12288 .i32} {n : ℕ} (hn : n < 768) {f : Vec F S12288 .i32} (h : Placed X P n f) (v : IVec S16 32)
    (hv : ∀ x, (v x).toNat = slotOf (num X) 12288 (16 * n + (x 0).val)) :
    Placed X P (n + 1) (scat (fun _ y => y) f v (cut (16 * n) P)) := by
  intro t ht ht'
  have hs := slotOf_lt_all (num X) 12288 ht'
  have hd : ∀ l l' : Fin 16, (v (ln l)).toNat = (v (ln l')).toNat → l = l' := by
    intro l l' e
    rw [hv, hv] at e
    have := slotOf_inj (num X) 12288 (show 16 * n + l.val < 12288 by omega) (show 16 * n + l'.val < 12288 by omega) e
    exact Fin.ext (by omega)
  obtain ⟨h1, h2⟩ := scat_set f v (cut (16 * n) P) (ix (m := 12288) (slotOf (num X) 12288 t)) hd
  unfold at_
  by_cases c : t < 16 * n
  · refine (h2 fun l e => ?_).trans (h t c ht')
    rw [hv, ix_val_lt hs] at e
    have := slotOf_inj (num X) 12288 (show 16 * n + l.val < 12288 by omega) ht' e
    omega
  · refine (h1 ⟨t - 16 * n, by omega⟩ ?_).trans ?_
    · rw [hv, ix_val_lt hs, ln_val]
      show slotOf _ _ (16 * n + (t - 16 * n)) = _
      rw [show 16 * n + (t - 16 * n) = t by omega]
    · unfold cut
      rw [ln_val]
      show at_ P (16 * n + (t - 16 * n)) = _
      rw [show 16 * n + (t - 16 * n) = t by omega]; rfl

/-- The buffers the sort writes. -/
abbrev sorted : List (Ref sig .scVector) :=
  [cc0_scratch6, cc0_scratch7, cc0_scratch9, cc0_scratch10, cc0_scratch11, cc0_scratch12, cc0_scratch26, cc0_scratch27, cc0_scratch28]

theorem own_half (i : grid0.Coords) (h : (i 1).val % 8 = 0) (ph : ℕ) (hph : ph = 1) (j : Fin 7) (hj : j.val < 4) (n : ℕ) (h₁ : (i 1).val / 8 * 12288 ≤ n)
    (h₂ : n < (i 1).val / 8 * 12288 + 12288) : ownP ph (i 0).val (i 1).val .shared j.val n := by
  subst hph
  have h3 : n / 12288 = (i 1).val / 8 := by omega
  obtain ⟨j, hj'⟩ := j
  have : j = 0 ∨ j = 1 ∨ j = 2 ∨ j = 3 := by simp at hj; omega
  rcases this with rfl | rfl | rfl | rfl <;> simp [ownP, h, h3]

theorem own_starts (i : grid0.Coords) (h : (i 1).val % 8 = 0) (j : Fin 7) (hj : j.val = 4 ∨ j.val = 5) (n : ℕ) (h₁ : (i 1).val / 8 * 2048 ≤ n)
    (h₂ : n < (i 1).val / 8 * 2048 + 2048) : ownP 1 (i 0).val (i 1).val .shared j.val n := by
  have h3 : n / 2048 = (i 1).val / 8 := by omega
  obtain ⟨j, hj'⟩ := j
  simp only at hj
  rcases hj with rfl | rfl <;> simp [ownP, h, h3]

/-- What the sort leaves in the shared memory, on the half's first tile. -/
def SrtOK (i : grid0.Coords) (X P : Vec F S12288 .i32) (μ : Mem F) : Prop := (i 1).val % 8 = 0 →
  SortedOf X P ((i 1).val / 8) (μ cc0_scratch26) (μ cc0_scratch27) (μ cc0_scratch28)

theorem at_put {m k : ℕ} [NeZero m] [NeZero k] {α : Type} (f : (⟨1, ![m]⟩ : Shape).Idx → α) (w : (⟨1, ![k]⟩ : Shape).Idx → α) {o j : ℕ}
    (hj : j < k) (h : o + j < m) : at_ (put o w f) (o + j) = at_ w j := by
  show put o w f (ix (o + j)) = _
  rw [put_in (by rw [ix_val_lt h]; omega) (by rw [ix_val_lt h]; omega), ix_val_lt h, Nat.add_sub_cancel_left]

set_option maxHeartbeats 2000000 in
theorem phaseS (i : grid0.Coords) (v0 : BitVec 32) (μ₀ : Mem F)
    (hX : (i 1).val % 8 = 0 → ∀ y, (cut (k := 12288) ((i 1).val / 8 * 12288) (μ₀ cc0_scratch23 : Vec F S24576 .i32) y : BitVec 32).toNat < 2048) :
    Lwp 1 (i 0).val (i 1).val (sortB (F := F) i v0 izeros) (fun _ σ => ∃ μ', σ = ⟨μ', none⟩ ∧ Off sorted μ' μ₀ ∧ SrtOK i (cut (k := 12288) ((i 1).val / 8 * 12288) (μ₀ cc0_scratch23 : Vec F S24576 .i32))
        (cut (k := 12288) ((i 1).val / 8 * 12288) (μ₀ cc0_scratch24 : Vec F S24576 .i32)) μ' ∧
      ((i 1).val % 8 = 0 → μ' cc0_scratch6 = cut (k := 12288) ((i 1).val / 8 * 12288) (μ₀ cc0_scratch23 : Vec F S24576 .i32) ∧
        μ' cc0_scratch7 = cut (k := 12288) ((i 1).val / 8 * 12288) (μ₀ cc0_scratch24 : Vec F S24576 .i32)) ∧
      ((i 1).val % 8 ≠ 0 → μ' = μ₀)) ⟨μ₀, none⟩ := by
  unfold sortB
  by_cases hc : k0_cond1 i = 1#1
  swap
  · have h8 : ¬ (i 1).val % 8 = 0 := fun h => hc ((cond1 i).2 h)
    rw [dif_neg hc]
    exact lwp_pure ⟨_, rfl, Off.refl _ _, fun h => absurd h h8, fun h => absurd h h8, fun _ => rfl⟩
  have h8 := (cond1 i).1 hc
  replace hX := hX h8
  rw [dif_pos hc]
  refine lwp_enter ?_
  unfold At
  rw [k0_part4_eq_skeleton]
  unfold k0_part4_skel
  refine step_copy' cc0_scratch23 cc0_scratch6 rfl rfl (by decide) (by decide) (by decide)
    (sub_slice cc0_scratch23 _ (stretch_sub (m := 24576) (k := 12288) (fun x => mem_own) (off11 i) (own_half i h8 1 rfl 0 (by decide)))) (sub_own_vm _) rfl
    (View.dmaCredit_pos _ (by decide)) ((write_whole _ _ _).trans (cut_eq (off11 i) _)) ?_
  refine step_copy' cc0_scratch24 cc0_scratch7 rfl rfl (by decide) (by decide) (by decide)
    (sub_slice cc0_scratch24 _ (stretch_sub (m := 24576) (k := 12288) (fun x => mem_own) (off11 i) (own_half i h8 1 rfl 1 (by decide)))) (sub_own_vm _) rfl
    (View.dmaCredit_pos _ (by decide)) ((write_whole _ _ _).trans (cut_eq (off11 i) _)) ?_
  set X : Vec F S12288 .i32 := cut (k := 12288) ((i 1).val / 8 * 12288) (μ₀ cc0_scratch23 : Vec F S24576 .i32) with hXd
  refine lwp_forget (fun μ' => Off sorted μ' μ₀ ∧ μ' cc0_scratch6 = X ∧ μ' cc0_scratch7 = cut (k := 12288) ((i 1).val / 8 * 12288) (μ₀ cc0_scratch24 : Vec F S24576 .i32)) ?_ ?_
  · refine ⟨((Off.refl _ _).update (by decide) _).update (by decide) _, ?_, ?_⟩ <;> simp (disch := decide) only [Function.update_of_ne, Function.update_self]
  rintro μ₁ ⟨hoff, h6, h7⟩
  generalize hPd : (cut (k := 12288) ((i 1).val / 8 * 12288) (μ₀ cc0_scratch24 : Vec F S24576 .i32) : Vec F S12288 .i32) = P at h7 ⊢
  -- the zeros
  refine step_for (fun n _ μ' => Off [cc0_scratch12] μ' μ₁ ∧ ∀ y : S2048.Idx, (y 0).val < 16 * n → ((μ' cc0_scratch12 : Vec F S2048 .i32) y : BitVec 32) = 0#32) ⟨Off.refl _ _, fun y hy => by omega⟩ ?_ ?_
  · rintro n a μ' ⟨ho, hz⟩
    have hn : n.val < 128 := by have := n.isLt; have := trips3; omega
    unfold k0_t3_body
    beta_reduce
    refine step_load (cut_eq (off12 n) _) ?_
    refine step_store (put_eq (off12 n) _ _) ?_
    refine lwp_pure ⟨_, rfl, ho.update (by decide) _, ?_⟩
    rw [Function.update_self]
    exact put_at (E := fun _ => 0#32) hn hz fun x => rfl
  rintro a3 μ₂ ⟨ho2, hz2⟩
  rw [trips3] at hz2
  -- the counts
  refine step_for (fun n _ μ' => Off [cc0_scratch12] μ' μ₁ ∧ Cn X n (μ' cc0_scratch12)) ⟨ho2, ?_⟩ ?_ ?_
  · intro y
    rw [hz2 y (by have := idx_lt y; omega)]; rfl
  · rintro n a μ' ⟨ho, hz⟩
    have hn : n.val < 768 := by have := n.isLt; have := trips4; omega
    unfold k0_t4_body
    beta_reduce
    refine step_load ((cut_eq (off13 n) _).trans (congrArg (cut _) ((ho _ (by decide)).trans h6))) ?_
    refine step_assume (fun _ => chk_of fun x => hX _) ?_
    refine step_storeIdx (storeIdx_add_eq _ _ _ _) ?_
    refine lwp_pure ⟨_, rfl, ho.update (by decide) _, ?_⟩
    rw [Function.update_self]
    exact count_step X hX hz
  rintro a4 μ₃ ⟨ho3, hz3⟩
  rw [trips4] at hz3
  -- the starts and the ends
  refine step_for (fun n a μ' => Off [cc0_scratch10, cc0_scratch11, cc0_scratch12] μ' μ₁ ∧ a = BitVec.ofNat 32 (below (num X) 12288 (16 * n)) ∧
    (∀ y : S2048.Idx, (y 0).val < 16 * n → (μ' cc0_scratch10 : Vec F S2048 .i32) y = starts X y) ∧
    (∀ y : S2048.Idx, (y 0).val < 16 * n → (μ' cc0_scratch11 : Vec F S2048 .i32) y = stops X y) ∧
    (∀ y : S2048.Idx, (y 0).val < 16 * n → (μ' cc0_scratch12 : Vec F S2048 .i32) y = starts X y) ∧
    (∀ y : S2048.Idx, 16 * n ≤ (y 0).val → ((μ' cc0_scratch12 : Vec F S2048 .i32) y : BitVec 32) = BitVec.ofNat 32 (cnt (num X) 12288 (y 0).val)))
    ⟨ho3.mono (by decide), rfl, fun y hy => by omega, fun y hy => by omega, fun y hy => by omega, fun y _ => hz3 y⟩ ?_ ?_
  · rintro n a μ' ⟨ho, rfl, e1, e2, e3, e4⟩
    have hn : n.val < 128 := by have := n.isLt; have := trips5; omega
    unfold k0_t5_body
    beta_reduce
    refine step_load (cut_eq (off14 n) _) ?_
    have hW : ∀ x : S16.Idx, (cut (k := 16) (16 * n.val) (μ' cc0_scratch12 : Vec F S2048 .i32) x : BitVec 32) = BitVec.ofNat 32 (Wn X n.val (x 0).val) := by
      intro x
      have hx : (x 0).val < 16 := (x 0).isLt
      unfold cut at_
      rw [e4 _ (by rw [ix_val_lt (by omega)]; omega), ix_val_lt (by omega)]
    generalize (cut (k := 16) (16 * n.val) (μ' cc0_scratch12 : Vec F S2048 .i32)) = v at hW ⊢
    refine step_load (cut_eq (off14 n) _) ?_
    refine step_store (put_eq (off14 n) _ _) ?_
    refine step_load (cut_eq (off14 n) _) ?_
    refine step_store (put_eq (off14 n) _ _) ?_
    refine step_load (cut_eq (off14 n) _) ?_
    refine step_store (put_eq (off14 n) _ _) ?_
    have p40 : ∀ x : S16.Idx, k0_pay40 (BitVec.ofNat 32 (below (num X) 12288 (16 * n.val))) v x = at_ (starts X) (16 * n.val + (x 0).val) := fun x => by
      rw [pay40_val v _ hW, sum_Wn, starts_at X hn]
    have p41 : ∀ x : S16.Idx, k0_pay41 (BitVec.ofNat 32 (below (num X) 12288 (16 * n.val))) v x = at_ (stops X) (16 * n.val + (x 0).val) := fun x => by
      rw [pay41_val v _ hW, sum_Wn, stops_at X hn]; rfl
    refine lwp_pure ⟨_, rfl, ((ho.update (by decide) _).update (by decide) _).update (by decide) _, ?_, ?_, ?_, ?_, ?_⟩
    · refine (congrArg (fun w => BitVec.ofNat 32 (below (num X) 12288 (16 * n.val)) + w) (pay42_val v _ hW (Wn_lt n.val) _ rfl)).trans ?_
      rw [← BitVec.ofNat_add, sum_Wn]
      rfl
    all_goals simp (disch := decide) only [Function.update_of_ne, Function.update_self]
    · exact put_at hn e1 p40
    · exact put_at hn e2 p41
    · exact put_at hn e3 p40
    · intro y hy
      rw [put_out (by omega)]
      exact e4 y (by omega)
  rintro a5 μ₄ ⟨ho4, -, e1, e2, e3, -⟩
  rw [trips5] at e1 e2 e3
  replace e1 : μ₄ cc0_scratch10 = starts X := funext fun y => e1 y (idx_lt y)
  replace e2 : μ₄ cc0_scratch11 = stops X := funext fun y => e2 y (idx_lt y)
  -- the slots
  refine step_for (fun n _ μ' => Off [cc0_scratch9, cc0_scratch12] μ' μ₄ ∧ Cur X n (μ' cc0_scratch12) ∧ Placed X P n (μ' cc0_scratch9))
    ⟨Off.refl _ _, ?_, fun t ht => absurd ht (by omega)⟩ ?_ ?_
  · intro y
    rw [e3 y (idx_lt y)]; rfl
  · rintro n a μ' ⟨ho, hz, hp⟩
    have hn : n.val < 768 := by have := n.isLt; have := trips6; omega
    unfold k0_t6_body
    beta_reduce
    refine step_load ((cut_eq (off15 n) _).trans (congrArg (cut _) (((ho _ (by decide)).trans (ho4 _ (by decide))).trans h6))) ?_
    refine step_assume ⟨fun _ => chk_of fun x => hX _, fun _ => chk_of fun x => hX _⟩ ?_
    refine step_load ((cut_eq (off15 n) _).trans (congrArg (cut _) (((ho _ (by decide)).trans (ho4 _ (by decide))).trans h7))) ?_
    refine step_loadIdx (loadIdx_eq _ _ _) ?_
    refine step_assume (fun _ => chk_of fun x => slot_lt X hX hn hz x) ?_
    refine step_storeIdx (storeIdx_set_eq _ _ _ _) ?_
    refine step_storeIdx (storeIdx_add_eq _ _ _ _) ?_
    refine lwp_pure ⟨_, rfl, (ho.update (by decide) _).update (by decide) _, ?_, ?_⟩
    swap
    · simp (disch := decide) only [Function.update_of_ne, Function.update_self]
      exact place_step X hn hp _ fun x => slot_eq X hX hn hz x
    simp (disch := decide) only [Function.update_of_ne, Function.update_self]
    exact cur_step X hX hz
  rintro a6 μ₅ ⟨ho5, -, hp5⟩
  rw [trips6] at hp5
  have f1 : μ₅ cc0_scratch10 = starts X := (ho5 _ (by decide)).trans e1
  have f2 : μ₅ cc0_scratch11 = stops X := (ho5 _ (by decide)).trans e2
  have f6 : μ₅ cc0_scratch6 = X := ((ho5 _ (by decide)).trans (ho4 _ (by decide))).trans h6
  have f7 := ((ho5 cc0_scratch7 (by decide)).trans (ho4 _ (by decide))).trans h7
  have fo : Off sorted μ₅ μ₀ := ((ho5.mono (by decide)).trans (ho4.mono (by decide))).trans hoff
  refine step_copy' cc0_scratch9 cc0_scratch26 rfl rfl (by decide) (by decide) (by decide) (sub_own_vm _)
    (sub_slice cc0_scratch26 _ (stretch_sub (m := 24576) (k := 12288) (fun x => mem_own) (off11 i) (own_half i h8 1 rfl 3 (by decide)))) rfl
    (View.dmaCredit_pos _ (by decide)) ((write_slice cc0_scratch26 _ _ _).trans (put_eq (m := 24576) (off11 i) _ _)) ?_
  refine step_copy' cc0_scratch10 cc0_scratch27 rfl rfl (by decide) (by decide) (by decide) (sub_own_vm _)
    (sub_slice cc0_scratch27 _ (stretch_sub (m := 4096) (k := 2048) (fun x => mem_own) (off16 i) (own_starts i h8 4 (by decide)))) rfl
    (View.dmaCredit_pos _ (by decide)) ((write_slice cc0_scratch27 _ _ _).trans (put_eq (m := 4096) (off16 i) _ _)) ?_
  refine lwp_pure ?_
  dsimp only
  refine step_copy' cc0_scratch11 cc0_scratch28 rfl rfl (by decide) (by decide) (by decide) (sub_own_vm _)
    (sub_slice cc0_scratch28 _ (stretch_sub (m := 4096) (k := 2048) (fun x => mem_own) (off16 i) (own_starts i h8 5 (by decide)))) rfl
    (View.dmaCredit_pos _ (by decide)) ((write_slice cc0_scratch28 _ _ _).trans (put_eq (m := 4096) (off16 i) _ _)) ?_
  refine lwp_pure ⟨_, rfl, ((fo.update (by decide) _).update (by decide) _).update (by decide) _, ?_, ?_, fun h => absurd h8 h⟩
  · intro _
    simp (disch := decide) only [Function.update_of_ne, Function.update_self]
    have hi1 : (i 1).val < 16 := (i 1).isLt
    refine ⟨fun t ht => ?_, fun u hu => ?_, fun u hu => ?_⟩
    · have hs := slotOf_lt_all (num X) 12288 ht
      exact (at_put _ _ hs (by omega)).trans (hp5 t (by omega) ht)
    · refine (at_put _ _ hu (by omega)).trans ((congrArg (fun w : Vec F S2048 .i32 => (at_ w u : BitVec 32)) f1).trans ?_)
      show BitVec.ofNat 32 (below (num X) 12288 _) = _
      rw [ix_val_lt hu]
    · refine (at_put _ _ hu (by omega)).trans ((congrArg (fun w : Vec F S2048 .i32 => (at_ w u : BitVec 32)) f2).trans ?_)
      show BitVec.ofNat 32 (below (num X) 12288 (_ + 1)) = _
      rw [ix_val_lt hu]
  · intro _
    simp (disch := decide) only [Function.update_of_ne, Function.update_self]
    exact ⟨f6, f7⟩

end Cert.Proof.Tile
end
-- ==== Proof.Walk.lean ====
/-
  The walk over a vertex's stretch of sorted edges: what it finds is whether an earlier edge has the same two ends, and which is
  the next edge that has.
-/
module

public import proofs.«01_k».proof.Proof.Sort

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀
variable {F : FTy → Type} [FloatOps F]

/-- Where trip `n` of the walk reads. -/
abbrev walkAt (i : grid0.Coords) (n : ℕ) : ℕ := 4096 * (n / 32) + 512 * ((i 1).val % 8) + 16 * (n % 32)

theorem off32 : ∀ i : grid0.Coords, k0_off32 i 0 = (i 1).val / 8 * 12288 := by decide +kernel
theorem off33 : ∀ i : grid0.Coords, k0_off33 i 0 = (i 1).val / 8 * 2048 := by decide +kernel
theorem off34 : ∀ (i : grid0.Coords) (k : Fin k0_t12_loop.trips), k0_off34 i k 0 = walkAt i k.val := by decide +kernel
theorem off35 : ∀ (i : grid0.Coords) (k : Fin k0_t12_loop.trips), k0_off35 i k 0 = walkAt i k.val := by decide +kernel
theorem off36 : ∀ i : grid0.Coords, k0_off36 i 0 = 80 * ((i 0).val * 16 + (i 1).val) := by decide +kernel

theorem minsi_cases (a b : BitVec 32) : IntOp.minsi a b = a ∨ IntOp.minsi a b = b := by unfold IntOp.minsi; split <;> simp
theorem maxsi_cases (a b : BitVec 32) : IntOp.maxsi a b = a ∨ IntOp.maxsi a b = b := by unfold IntOp.maxsi; split <;> simp

/-- A word that is not negative, kept at most the last slot. -/
theorem clamp (a : BitVec 32) (h : a.toNat < 2147483648) : (IntOp.minsi a 12287#32).toNat < 12288 := by
  unfold IntOp.minsi
  split
  · rename_i hc
    rw [BitVec.slt_iff_toInt_lt, BitVec.toInt_eq_toNat_of_lt (by omega), show (12287#32 : BitVec 32).toInt = 12287 from rfl] at hc
    omega
  · decide

theorem PK_small (G : Vec F S49152 .i32) (hG : InRange G) (b : ℕ) (y : S12288.Idx) : (PK (F := F) G b y : BitVec 32).toNat < 33554432 := by
  have hm : (IntOp.maxsi (endA G b (y 0).val) (endB G b (y 0).val) : BitVec 32).toNat < 2048 := by
    rcases maxsi_cases (endA G b (y 0).val) (endB G b (y 0).val) with h | h <;> rw [h]
    · exact at_lt (fun z => hG _) _
    · exact at_lt (fun z => hG _) _
  have hy := idx_lt y
  have e : (PK (F := F) G b y : BitVec 32) = (IntOp.maxsi (endA G b (y 0).val) (endB G b (y 0).val) <<< 14) + BitVec.ofNat 32 (y 0).val := rfl
  rw [e, BitVec.toNat_add, BitVec.toNat_shiftLeft, BitVec.toNat_ofNat, Nat.shiftLeft_eq]
  omega

theorem high_small (w : BitVec 32) (h : w.toNat < 33554432) : (IntOp.shrsi .vector w 14#32).toNat < 2048 := by
  have e : IntOp.shrsi .vector w 14#32 = w.sshiftRight 14 := rfl
  have hm : w.msb = false := by rw [BitVec.msb_eq_false_iff_two_mul_lt]; omega
  rw [e, BitVec.sshiftRight_eq_of_msb_false hm, BitVec.toNat_ushiftRight, Nat.shiftRight_eq_div_pow]
  omega

theorem EA_small (G : Vec F S49152 .i32) (hG : InRange G) (b : ℕ) (y : S12288.Idx) : (EA (F := F) G b y : BitVec 32).toNat < 2048 := by
  have e : (EA (F := F) G b y : BitVec 32) = IntOp.minsi (endA G b (y 0).val) (endB G b (y 0).val) := rfl
  rw [e]
  rcases minsi_cases (endA G b (y 0).val) (endB G b (y 0).val) with h | h <;> rw [h]
  · exact at_lt (fun z => hG _) _
  · exact at_lt (fun z => hG _) _

theorem EO_small (G : Vec F S49152 .i32) (hG : InRange G) (b : ℕ) (y : S12288.Idx) : (EO (F := F) G b y : BitVec 32).toNat < 2048 := by
  have e : (EO (F := F) G b y : BitVec 32) = endO G b (y 0).val := rfl
  rw [e]
  exact at_lt (fun z => hG _) _

theorem trips13_le (v : BitVec 32) (h : v.toInt ≤ 12288) : (k0_t13_loop v).trips ≤ 12288 := by
  have e : (k0_t13_loop v).trips = Scf.trips 0#32 (0#32 + IntOp.divsi .scalar (v - 0#32) 1#32 * 1#32) 1#32 := rfl
  rw [e]
  unfold Scf.trips
  have e2 : 0#32 + IntOp.divsi .scalar (v - 0#32) 1#32 * 1#32 = v := by
    unfold IntOp.divsi
    rw [if_neg (by unfold IntOp.SDivCorner; simp)]
    simp [BitVec.sdiv_one]
  rw [e2, show (0#32 : BitVec 32).toInt = 0 from rfl, show (1#32 : BitVec 32).toInt = 1 from rfl]
  omega

theorem trips14_zero (v : BitVec 32) : (k0_t14_loop v).trips = 0 := Nat.le_zero.1 (k0_t14_abs v).2.1

theorem diff_le (a b : BitVec 32) (ha : a.toNat ≤ 12288) (hb : b.toNat ≤ 12288) : (a - b).toInt ≤ 12288 := by
  rw [BitVec.toInt_sub, BitVec.toInt_eq_toNat_of_lt (by omega), BitVec.toInt_eq_toNat_of_lt (by omega)]
  rw [Int.bmod_def]
  split <;> omega

/-- The number of trips is the length of the longest stretch. -/
theorem longest (v w : Vec F S16 .i32) (hv : ∀ x, (v x : BitVec 32).toNat ≤ 12288) (hw : ∀ x, (w x : BitVec 32).toNat ≤ 12288) :
    (extractAt ![15] (k0_pay55 v w) inpos_S16_p15 : BitVec 32).toInt ≤ 12288 := by
  have e : ∀ x, k0_pay55 v w x = IntOp.xori (scan .max (fun y => IntOp.xori (w y - v y) 2147483648#32) x) 2147483648#32 := fun _ => rfl
  have e2 : (extractAt ![15] (k0_pay55 v w) inpos_S16_p15 : BitVec 32) = k0_pay55 v w (ln 15) := rfl
  obtain ⟨⟨y, hy⟩, -⟩ := scan_max_last (fun y => IntOp.xori (w y - v y) 2147483648#32) (ln 15) rfl
  rw [e2, e, hy, sign_twice]
  exact diff_le _ _ (hw _) (hv _)

/-! ## Edges by number -/

/-- The lower end of edge `t`. -/
def lowE (G : Vec F S49152 .i32) (b t : ℕ) : ℕ := num (EA (F := F) G b) t
/-- The higher end. -/
def highE (G : Vec F S49152 .i32) (b t : ℕ) : ℕ := (IntOp.maxsi (endA G b t) (endB G b t) : BitVec 32).toNat

/-- Two edges with the same two ends. -/
abbrev Same (G : Vec F S49152 .i32) (b t t' : ℕ) : Prop := lowE G b t' = lowE G b t ∧ highE G b t' = highE G b t

theorem highE_lt (G : Vec F S49152 .i32) (hG : InRange G) (b t : ℕ) : highE G b t < 2048 := by
  unfold highE
  rcases maxsi_cases (endA G b t) (endB G b t) with h | h <;> rw [h]
  · exact at_lt (fun z => hG _) _
  · exact at_lt (fun z => hG _) _

theorem lowE_lt (G : Vec F S49152 .i32) (hG : InRange G) (b t : ℕ) : lowE G b t < 2048 := num_lt (EA_small G hG b) t

/-- An edge's word as a number. -/
theorem PK_num (G : Vec F S49152 .i32) (hG : InRange G) (b : ℕ) {t : ℕ} (ht : t < 12288) :
    (at_ (PK (F := F) G b) t : BitVec 32).toNat = highE G b t * 16384 + t := by
  have hm := highE_lt G hG b t
  have e : (at_ (PK (F := F) G b) t : BitVec 32) = (IntOp.maxsi (endA G b t) (endB G b t) <<< 14) + BitVec.ofNat 32 t := by
    unfold at_
    show (IntOp.maxsi (endA G b ((ix (m := 12288) t : S12288.Idx) 0).val) (endB G b ((ix (m := 12288) t : S12288.Idx) 0).val) <<< 14) + BitVec.ofNat 32 ((ix (m := 12288) t : S12288.Idx) 0).val = _
    rw [ix_val_lt ht]
  rw [e, BitVec.toNat_add, BitVec.toNat_shiftLeft, BitVec.toNat_ofNat, Nat.shiftLeft_eq]
  unfold highE at hm ⊢
  omega

theorem high_num (w : BitVec 32) (h : w.toNat < 33554432) : (IntOp.shrsi .vector w 14#32).toNat = w.toNat / 16384 := by
  have e : IntOp.shrsi .vector w 14#32 = w.sshiftRight 14 := rfl
  have hm : w.msb = false := by rw [BitVec.msb_eq_false_iff_two_mul_lt]; omega
  rw [e, BitVec.sshiftRight_eq_of_msb_false hm, BitVec.toNat_ushiftRight, Nat.shiftRight_eq_div_pow]

theorem low_num (w : BitVec 32) : (IntOp.andi w 16383#32).toNat = w.toNat % 16384 := by
  show (w &&& 16383#32).toNat = _
  rw [BitVec.toNat_and, show (16383#32 : BitVec 32).toNat = 2 ^ 14 - 1 from rfl, Nat.and_two_pow_sub_one_eq_mod]

theorem PK_high (G : Vec F S49152 .i32) (hG : InRange G) (b : ℕ) {t : ℕ} (ht : t < 12288) :
    (IntOp.shrsi .vector (at_ (PK (F := F) G b) t : BitVec 32) 14#32).toNat = highE G b t := by
  have := highE_lt G hG b t
  have h := PK_num G hG b ht
  rw [high_num _ (by omega), h]; omega

theorem PK_low (G : Vec F S49152 .i32) (hG : InRange G) (b : ℕ) {t : ℕ} (ht : t < 12288) :
    (IntOp.andi (at_ (PK (F := F) G b) t : BitVec 32) 16383#32).toNat = t := by
  have h := PK_num G hG b ht
  rw [low_num, h]; omega

/-! ## Comparisons as propositions -/

theorem bit_and {p q : Prop} [Decidable p] [Decidable q] {a b : BitVec 1} (ha : a = if p then 1#1 else 0#1) (hb : b = if q then 1#1 else 0#1) :
    IntOp.andi a b = if p ∧ q then 1#1 else 0#1 := by
  subst ha hb
  by_cases hp : p <;> by_cases hq : q <;> simp [hp, hq, IntOp.andi]

theorem cmp_eq (a b : BitVec 32) : IntOp.cmpi .eq a b = if a.toNat = b.toNat then 1#1 else 0#1 := by
  by_cases h : a = b
  · subst h; simp [IntOp.cmpi]
  · have : ¬ a.toNat = b.toNat := fun e => h (BitVec.eq_of_toNat_eq e)
    rw [if_neg this]
    show BitVec.ofBool (a == b) = _
    rw [beq_false_of_ne h]; rfl

theorem slt_num {a b : BitVec 32} (ha : a.toNat < 2147483648) (hb : b.toNat < 2147483648) : a.slt b = decide (a.toNat < b.toNat) := by
  rw [Bool.eq_iff_iff, BitVec.slt_iff_toInt_lt, BitVec.toInt_eq_toNat_of_lt (by omega), BitVec.toInt_eq_toNat_of_lt (by omega), decide_eq_true_eq]
  omega

theorem cmp_slt {a b : BitVec 32} (ha : a.toNat < 2147483648) (hb : b.toNat < 2147483648) :
    IntOp.cmpi .slt a b = if a.toNat < b.toNat then 1#1 else 0#1 := by
  by_cases h : a.toNat < b.toNat <;> simp [IntOp.cmpi, slt_num ha hb, h]

theorem cmp_sgt {a b : BitVec 32} (ha : a.toNat < 2147483648) (hb : b.toNat < 2147483648) :
    IntOp.cmpi .sgt a b = if b.toNat < a.toNat then 1#1 else 0#1 := by
  by_cases h : b.toNat < a.toNat <;> simp [IntOp.cmpi, slt_num hb ha, h]

theorem minsi_num {a b : BitVec 32} (ha : a.toNat < 2147483648) (hb : b.toNat < 2147483648) : (IntOp.minsi a b).toNat = min a.toNat b.toNat := by
  unfold IntOp.minsi
  rw [slt_num ha hb]
  by_cases h : a.toNat < b.toNat
  · simp only [h, decide_true, if_true]; omega
  · simp only [h, decide_false, Bool.false_eq_true, if_false]; omega

/-! ## One lane of the walk -/

section Lane

variable (G : Vec F S49152 .i32) (b t : ℕ)

/-- Before the `n`th slot of its vertex's stretch: the slot's number; whether an earlier edge with the same ends was met; the least later one met. -/
structure LaneAt (n : ℕ) (j p s : BitVec 32) : Prop where
  j : j = BitVec.ofNat 32 (below (lowE G b) 12288 (lowE G b t) + n)
  p : p = 0#32 ∧ (∀ t' < t, Same G b t t' → n ≤ cnt (lowE G b) t' (lowE G b t)) ∨ p = 1#32 ∧ ∃ t' < t, Same G b t t'
  lo : ∀ t' < 12288, t < t' → Same G b t t' → cnt (lowE G b) t' (lowE G b t) < n → s.toNat ≤ t'
  hi : s.toNat = 16384 ∨ t < s.toNat ∧ s.toNat < 12288 ∧ Same G b t s.toNat

variable {G b t}

theorem LaneAt.zero : LaneAt G b t 0 (BitVec.ofNat 32 (below (lowE G b) 12288 (lowE G b t))) 0#32 16384#32 :=
  ⟨rfl, .inl ⟨rfl, fun _ _ _ => Nat.zero_le _⟩, fun _ _ _ _ h => absurd h (Nat.not_lt_zero _), .inl rfl⟩

/-- One step, given the word fetched. -/
theorem LaneAt.step (hG : InRange G) (ht : t < 12288) {n : ℕ} (hn : n < 12288) {j p s px bw ew tw : BitVec 32} (h : LaneAt G b t n j p s)
    (hpx : ∀ t' < 12288, (IntOp.minsi j 12287#32).toNat = slotOf (lowE G b) 12288 t' → px = at_ (PK (F := F) G b) t')
    (hbw : bw.toNat = highE G b t) (hew : ew = BitVec.ofNat 32 (below (lowE G b) 12288 (lowE G b t + 1))) (htw : tw.toNat = t) {q q' c : BitVec 1}
    (hc : c = IntOp.andi (IntOp.cmpi .eq (IntOp.shrsi .vector px 14#32) bw) (IntOp.cmpi .slt j ew))
    (hq : q = IntOp.andi c (IntOp.cmpi .slt (IntOp.andi px 16383#32) tw)) (hq' : q' = IntOp.andi c (IntOp.cmpi .sgt (IntOp.andi px 16383#32) tw)) :
    LaneAt G b t (n + 1) (j + 1#32) (IntOp.maxsi p (if q = 1 then 1#32 else 0#32))
      (IntOp.minsi s (if q' = 1 then IntOp.andi px 16383#32 else 16384#32)) := by
  have hb1 := below_le (lowE G b) 12288 (lowE G b t)
  have hb2 := below_le (lowE G b) 12288 (lowE G b t + 1)
  have hjn : j.toNat = below (lowE G b) 12288 (lowE G b t) + n := by rw [h.j, small (by omega)]
  have hen : ew.toNat = below (lowE G b) 12288 (lowE G b t + 1) := by rw [hew, small (by omega)]
  have hbs := below_succ (lowE G b) 12288 (lowE G b t)
  have hlow : (IntOp.andi px 16383#32).toNat < 16384 := by rw [low_num]; omega
  have hs : s.toNat ≤ 16384 := by rcases h.hi with e | e <;> omega
  have hj' : j + 1#32 = BitVec.ofNat 32 (below (lowE G b) 12288 (lowE G b t) + (n + 1)) := by
    rw [h.j]
    refine BitVec.eq_of_toNat_eq ?_
    simp only [BitVec.toNat_add, BitVec.toNat_ofNat]
    omega
  have hp1 : IntOp.maxsi p 0#32 = p := by rcases h.p with ⟨e, _⟩ | ⟨e, _⟩ <;> rw [e] <;> decide
  have hp2 : IntOp.maxsi p 1#32 = 1#32 := by rcases h.p with ⟨e, _⟩ | ⟨e, _⟩ <;> rw [e] <;> decide
  have hs1 : (IntOp.minsi s 16384#32).toNat = s.toNat := by
    rw [minsi_num (by omega) (by decide), show (16384#32 : BitVec 32).toNat = 16384 from rfl]; omega
  have hs2 : (IntOp.minsi s (IntOp.andi px 16383#32)).toNat = min s.toNat (IntOp.andi px 16383#32).toNat := minsi_num (by omega) (by omega)
  rw [bit_and (cmp_eq _ _) (cmp_slt (by omega) (by omega))] at hc
  rw [bit_and hc (cmp_slt (by omega) (by omega))] at hq
  rw [bit_and hc (cmp_sgt (by omega) (by omega))] at hq'
  rcases nth_slot (lowE G b) 12288 (lowE G b t) n with ⟨h1, t₁, ht₁, e1, e2, e3, e4⟩ | ⟨h1, h2⟩
  · -- the slot is edge `t₁`'s
    have hsl := slotOf_lt_all (lowE G b) 12288 ht₁
    have hpx' := hpx t₁ ht₁ (by
      rw [minsi_num (by omega) (by decide), show (12287#32 : BitVec 32).toNat = 12287 from rfl]; omega)
    have k1 := PK_high G hG b ht₁
    have k2 := PK_low G hG b ht₁
    rw [← hpx'] at k1 k2
    rw [k1, hbw, hjn, hen, k2, htw] at hq hq'
    rw [k2] at hs2
    have hjlt : below (lowE G b) 12288 (lowE G b t) + n < below (lowE G b) 12288 (lowE G b t + 1) := by omega
    refine ⟨hj', ?_, ?_, ?_⟩
    · by_cases c : highE G b t₁ = highE G b t ∧ t₁ < t
      · rw [if_pos ⟨⟨c.1, hjlt⟩, c.2⟩] at hq
        rw [if_pos (show q = 1 from hq), hp2]
        exact .inr ⟨rfl, t₁, c.2, e1, c.1⟩
      · rw [if_neg (fun hh => c ⟨hh.1.1, hh.2⟩)] at hq
        rw [if_neg (by rw [hq]; decide), hp1]
        rcases h.p with ⟨e, h3⟩ | h3
        · refine .inl ⟨e, fun t' h4 h5 => ?_⟩
          rcases Nat.lt_or_ge n (cnt (lowE G b) t' (lowE G b t)) with h6 | h6
          · exact h6
          · have h7 := e4 t' h5.1 (le_antisymm h6 (h3 t' h4 h5))
            subst h7
            exact absurd ⟨h5.2, h4⟩ c
        · exact .inr h3
    · intro t' h3 h4 h5 h6
      by_cases c : highE G b t₁ = highE G b t ∧ t < t₁
      · rw [if_pos ⟨⟨c.1, hjlt⟩, c.2⟩] at hq'
        rw [if_pos (show q' = 1 from hq'), hs2]
        rcases Nat.lt_or_ge (cnt (lowE G b) t' (lowE G b t)) n with h7 | h7
        · exact (min_le_left _ _).trans (h.lo t' h3 h4 h5 h7)
        · rw [e4 t' h5.1 (by omega)]; exact min_le_right _ _
      · rw [if_neg (fun hh => c ⟨hh.1.1, hh.2⟩)] at hq'
        rw [if_neg (by rw [hq']; decide), hs1]
        rcases Nat.lt_or_ge (cnt (lowE G b) t' (lowE G b t)) n with h7 | h7
        · exact h.lo t' h3 h4 h5 h7
        · have h8 := e4 t' h5.1 (by omega)
          subst h8
          exact absurd ⟨h5.2, h4⟩ c
    · by_cases c : highE G b t₁ = highE G b t ∧ t < t₁
      · rw [if_pos ⟨⟨c.1, hjlt⟩, c.2⟩] at hq'
        rw [if_pos (show q' = 1 from hq'), hs2]
        rcases le_total s.toNat t₁ with h7 | h7
        · rw [min_eq_left h7]; exact h.hi
        · rw [min_eq_right h7]; exact .inr ⟨c.2, ht₁, e1, c.1⟩
      · rw [if_neg (fun hh => c ⟨hh.1.1, hh.2⟩)] at hq'
        rw [if_neg (by rw [hq']; decide), hs1]; exact h.hi
  · -- beyond the stretch
    have hge : ¬ j.toNat < ew.toNat := by omega
    rw [if_neg (fun hh => hge hh.1.2)] at hq hq'
    rw [if_neg (by rw [hq]; decide), if_neg (by rw [hq']; decide), hp1]
    refine ⟨hj', ?_, fun t' h3 h4 h5 h6 => ?_, ?_⟩
    · rcases h.p with ⟨e, h3⟩ | h3
      · refine .inl ⟨e, fun t' h4 h5 => ?_⟩
        have := h2 t' (by omega) h5.1
        have := h3 t' h4 h5
        omega
      · exact .inr h3
    · rw [hs1]; exact h.lo t' h3 h4 h5 (h2 t' h3 h5.1)
    · rw [hs1]; exact h.hi

end Lane

/-! ## The whole walk -/

open Classical in
/-- The next edge with the same ends, or a number no edge has. -/
def nextE (G : Vec F S49152 .i32) (b t : ℕ) : ℕ := if h : ∃ t', t < t' ∧ t' < 12288 ∧ Same G b t t' then Nat.find h else 16384

theorem nextE_le (G : Vec F S49152 .i32) (b t : ℕ) : nextE G b t ≤ 16384 := by
  classical
  unfold nextE
  split
  · rename_i h
    exact (Nat.find_spec h).2.1.le.trans (by omega)
  · exact le_rfl

/-- Past its stretch a lane has what it looked for. -/
theorem LaneAt.done {G : Vec F S49152 .i32} {b t n : ℕ} (ht : t < 12288) {j p s : BitVec 32} (h : LaneAt G b t n j p s)
    (hn : cnt (lowE G b) 12288 (lowE G b t) ≤ n) [Decidable (∃ t' < t, Same G b t t')] :
    p = (if ∃ t' < t, Same G b t t' then 1#32 else 0#32) ∧ s = BitVec.ofNat 32 (nextE G b t) := by
  classical
  have hlt : ∀ t' < 12288, lowE G b t' = lowE G b t → cnt (lowE G b) t' (lowE G b t) < n := fun t' h1 h2 =>
    lt_of_lt_of_le (by rw [← h2]; exact cnt_lt _ _ h1) hn
  constructor
  · rcases h.p with ⟨e, h1⟩ | ⟨e, h1⟩
    · rw [e, if_neg]
      rintro ⟨t', h2, h3⟩
      have := hlt t' (by omega) h3.1
      have := h1 t' h2 h3
      omega
    · rw [e, if_pos h1]
  · refine BitVec.eq_of_toNat_eq ?_
    have := nextE_le G b t
    rw [small (by omega)]
    unfold nextE
    split
    · rename_i hex
      have h2 := Nat.find_spec hex
      have h3 := h.lo _ h2.2.1 h2.1 h2.2.2 (hlt _ h2.2.1 h2.2.2.1)
      rcases h.hi with e | e
      · omega
      · exact le_antisymm h3 (Nat.find_min' hex ⟨e.1, e.2.1, e.2.2⟩)
    · rename_i hex
      rcases h.hi with e | e
      · exact e
      · exact absurd ⟨_, e.1, e.2.1, e.2.2⟩ hex

theorem trips13_eq (v : BitVec 32) : (k0_t13_loop v).trips = v.toInt.toNat := by
  have e : (k0_t13_loop v).trips = Scf.trips 0#32 (0#32 + IntOp.divsi .scalar (v - 0#32) 1#32 * 1#32) 1#32 := rfl
  rw [e]
  unfold Scf.trips
  have e2 : 0#32 + IntOp.divsi .scalar (v - 0#32) 1#32 * 1#32 = v := by
    unfold IntOp.divsi
    rw [if_neg (by unfold IntOp.SDivCorner; simp)]
    simp [BitVec.sdiv_one]
  rw [e2, show (0#32 : BitVec 32).toInt = 0 from rfl, show (1#32 : BitVec 32).toInt = 1 from rfl]
  omega

/-- There are as many trips as any lane's stretch is long. -/
theorem longest_ge (v w : Vec F S16 .i32) (a c : S16.Idx → ℕ) (hv : ∀ x, (v x : BitVec 32) = BitVec.ofNat 32 (a x))
    (hw : ∀ x, (w x : BitVec 32) = BitVec.ofNat 32 (a x + c x)) (hac : ∀ x, a x + c x ≤ 12288) (x : S16.Idx) :
    c x ≤ (extractAt ![15] (k0_pay55 v w) inpos_S16_p15 : BitVec 32).toInt.toNat := by
  have hd : ∀ y, w y - v y = BitVec.ofNat 32 (c y) := fun y => by
    have := hac y
    rw [hv, hw]
    refine BitVec.eq_of_toNat_eq ?_
    rw [BitVec.toNat_sub, small (by omega), small (by omega), small (by omega)]; omega
  have e : ∀ x, k0_pay55 v w x = IntOp.xori (scan .max (fun y => IntOp.xori (w y - v y) 2147483648#32) x) 2147483648#32 := fun _ => rfl
  have e2 : (extractAt ![15] (k0_pay55 v w) inpos_S16_p15 : BitVec 32) = k0_pay55 v w (ln 15) := rfl
  obtain ⟨⟨y, hy⟩, -⟩ := scan_max_last (fun y => IntOp.xori (w y - v y) 2147483648#32) (ln 15) rfl
  have hm := scan_max_all (fun y => IntOp.xori (w y - v y) 2147483648#32) x
  have hx := hac x
  have hy' := hac y
  rw [hy] at hm
  rw [e2, e, hy, sign_twice, hd, BitVec.toInt_eq_toNat_of_lt (by rw [small (by omega)]; omega), small (by omega)]
  rw [hd, hd, sign_small (by omega), sign_small (by omega)] at hm
  omega

section Vectors

variable (V : Vec F S24576 .f32) (G : Vec F S49152 .i32) (i : grid0.Coords) (n : ℕ)

/-- The sixteen edges of a trip: their lower ends, their higher ends, their opposite corners; -/
def wA : Vec F S16 .i32 := cut (walkAt i n) (EA (F := F) G (bat i))
def wB : IVec S16 32 := k0_pay53 (F := F) (cut (k := 16) (walkAt i n) (PK (F := F) G (bat i)))
def wO : Vec F S16 .i32 := cut (walkAt i n) (EO (F := F) G (bat i))
open Classical in
/-- whether an earlier edge has the same ends; -/
def wPre : IVec S16 32 := fun x => if ∃ t' < walkAt i n + (x 0).val, Same G (bat i) (walkAt i n + (x 0).val) t' then 1#32 else 0#32
/-- the next edge that has, and its opposite corner; -/
def wNxt : IVec S16 32 := fun x => BitVec.ofNat 32 (nextE G (bat i) (walkAt i n + (x 0).val))
def wQ : Vec F S16 .i32 := gat (EO (F := F) G (bat i)) (k0_pay77 (wNxt G i n))
/-- a coordinate of sixteen vertices. -/
def wC (q : Fin 3) (w : IVec S16 32) : Vec F S16 .f32 := gat (vtx V (bat i) q) w
/-- The edge itself, by coordinates. -/
def wX : FVec F S16 .f32 := k0_pay70 (wC V i 0 (wA G i n)) (wC V i 0 (wB G i n))
def wY : FVec F S16 .f32 := k0_pay71 (wC V i 1 (wA G i n)) (wC V i 1 (wB G i n))
def wZ : FVec F S16 .f32 := k0_pay72 (wC V i 2 (wA G i n)) (wC V i 2 (wB G i n))

/-- The four accumulators of the walk: squared lengths and number of first edges, normal terms and number of pairs. -/
abbrev Acc4 (F : FTy → Type) : Type := FVec F S16 .f32 × FVec F S16 .f32 × FVec F S16 .f32 × FVec F S16 .f32

/-- One trip. -/
def walkStep (a : Acc4 F) : Acc4 F :=
  (k0_pay74 a.1 (k0_pay69 (wPre G i n)) (wY V G i n) (wZ V G i n) (k0_pay73 (wC V i 0 (wA G i n)) (wC V i 0 (wB G i n))),
   k0_pay75 a.2.1 (k0_pay69 (wPre G i n)),
   k0_pay1 a.2.2.1 (wX V G i n) (k0_pay76 (wNxt G i n)) (k0_pay82 (wC V i 1 (wB G i n)) (wC V i 1 (wQ G i n)))
     (k0_pay84 (wC V i 1 (wB G i n)) (wC V i 2 (wB G i n)) (wY V G i n) (wZ V G i n) (wC V i 1 (wO G i n)) (wC V i 2 (wO G i n)))
     (k0_pay85 (wC V i 0 (wB G i n)) (wC V i 2 (wB G i n)) (wX V G i n) (wZ V G i n) (wC V i 0 (wO G i n)) (wC V i 2 (wO G i n)))
     (k0_pay86 (wC V i 0 (wB G i n)) (wC V i 1 (wB G i n)) (wX V G i n) (wY V G i n) (wC V i 0 (wO G i n)) (wC V i 1 (wO G i n)))
     (k0_pay87 (wC V i 1 (wB G i n)) (wC V i 2 (wB G i n)) (wY V G i n) (wZ V G i n) (wC V i 1 (wQ G i n)) (wC V i 2 (wQ G i n)))
     (k0_pay88 (wC V i 0 (wB G i n)) (wC V i 2 (wB G i n)) (wX V G i n) (wZ V G i n) (wC V i 0 (wQ G i n)) (wC V i 2 (wQ G i n)))
     (k0_pay89 (wC V i 0 (wB G i n)) (wY V G i n) (wC V i 0 (wQ G i n))),
   k0_pay2 a.2.2.2 (k0_pay76 (wNxt G i n)))

end Vectors

/-- The accumulators after `n` trips. -/
def walkAcc (V : Vec F S24576 .f32) (G : Vec F S49152 .i32) (i : grid0.Coords) : ℕ → Acc4 F
  | 0 => (zeros, zeros, zeros, zeros)
  | n + 1 => walkStep V G i n (walkAcc V G i n)

theorem sc54 : ∀ (i : grid0.Coords) (k : Fin k0_t12_loop.trips), Scalar.addi (Scalar.addi (Scalar.muli (Scalar.shrsi (Scf.iv 0#32 1#32 k.val) 5#32) 4096#32)
    (Scalar.muli (Scalar.andi (BitVec.ofNat 32 (i 1).val) 7#32) 512#32)) (Scalar.muli (Scalar.andi (Scf.iv 0#32 1#32 k.val) 31#32) 16#32) =
      BitVec.ofNat 32 (walkAt i k.val) := by decide +kernel

/-- The number of the edge of a lane. -/
theorem edge_no (i : grid0.Coords) (k : Fin k0_t12_loop.trips) (x : S16.Idx) :
    k0_pay54 lanes (Scalar.muli (Scalar.andi (BitVec.ofNat 32 (i 1).val) 7#32) 512#32) 0#32 1#32 k x = BitVec.ofNat 32 (walkAt i k.val + (x 0).val) := by
  have e : k0_pay54 lanes (Scalar.muli (Scalar.andi (BitVec.ofNat 32 (i 1).val) 7#32) 512#32) 0#32 1#32 k x =
      Scalar.addi (Scalar.addi (Scalar.muli (Scalar.shrsi (Scf.iv 0#32 1#32 k.val) 5#32) 4096#32)
    (Scalar.muli (Scalar.andi (BitVec.ofNat 32 (i 1).val) 7#32) 512#32)) (Scalar.muli (Scalar.andi (Scf.iv 0#32 1#32 k.val) 31#32) 16#32) + lanes x := rfl
  rw [e, sc54, lanes_val]
  exact (BitVec.ofNat_add _ _).symm

theorem walkAt_lt (i : grid0.Coords) {n : ℕ} (hn : n < 96) (x : S16.Idx) : walkAt i n + (x 0).val < 12288 := by
  have := idx_lt x
  unfold walkAt; omega

end Cert.Proof.Tile
end
-- ==== Proof.PhaseC.lean ====
/-
  The third piece of a tile's body: the tile fetches its half's sorted edges, and walks its own edges to see which is the first of its
  kind and which face comes next at it.  It leaves its five partial sums in its stretch of the result.
-/
module

public import proofs.«01_k».proof.Proof.Walk

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀
variable {F : FTy → Type} [FloatOps F]

/-- What the walk may rely on. -/
structure WalkOK (i : grid0.Coords) (V : Vec F S24576 .f32) (G : Vec F S49152 .i32) (μ : Mem F) : Prop where
  x : μ cc0_scratch0 = vtx V (bat i) 0
  y : μ cc0_scratch1 = vtx V (bat i) 1
  z : μ cc0_scratch2 = vtx V (bat i) 2
  ea : ∀ n < 96, cut (k := 16) (walkAt i n) (μ cc0_scratch6 : Vec F S12288 .i32) = wA G i n
  pk : ∀ n < 96, cut (k := 16) (walkAt i n) (μ cc0_scratch7 : Vec F S12288 .i32) = cut (k := 16) (walkAt i n) (PK (F := F) G (bat i))
  eo : μ cc0_scratch8 = EO (F := F) G (bat i)
  srt : ∀ t < 12288, at_ (μ cc0_scratch9 : Vec F S12288 .i32) (slotOf (lowE G (bat i)) 12288 t) = at_ (PK (F := F) G (bat i)) t
  off : μ cc0_scratch10 = starts (EA (F := F) G (bat i))
  stop : μ cc0_scratch11 = stops (EA (F := F) G (bat i))

theorem trips12_le (k : Fin k0_t12_loop.trips) : k.val < 96 := lt_of_lt_of_le k.isLt k0_t12_abs.2.1

section Lanes

variable (G : Vec F S49152 .i32) (hG : InRange G) (i : grid0.Coords) {n : ℕ} (hn : n < 96) (x : S16.Idx)
include hG

theorem wA_lt : (wA G i n x : BitVec 32).toNat < 2048 := EA_small G hG _ _
theorem wO_lt : (wO G i n x : BitVec 32).toNat < 2048 := EO_small G hG _ _
theorem wQ_lt : (wQ G i n x : BitVec 32).toNat < 2048 := EO_small G hG _ _
theorem wB_lt : (wB G i n x).toNat < 2048 := high_small _ (PK_small G hG _ _)

omit hG in
theorem wA_num : (wA G i n x : BitVec 32).toNat = lowE G (bat i) (walkAt i n + (x 0).val) := rfl

include hn in
theorem wB_num : (wB G i n x).toNat = highE G (bat i) (walkAt i n + (x 0).val) := PK_high G hG _ (walkAt_lt i hn x)

theorem start_num : (gat (starts (EA (F := F) G (bat i))) (wA G i n) x : BitVec 32) =
    BitVec.ofNat 32 (below (lowE G (bat i)) 12288 (lowE G (bat i) (walkAt i n + (x 0).val))) := by
  have h := wA_lt G hG i (n := n) x
  unfold gat at_ starts
  rw [ix_val_lt h]; rfl
theorem stop_num : (gat (stops (EA (F := F) G (bat i))) (wA G i n) x : BitVec 32) =
    BitVec.ofNat 32 (below (lowE G (bat i)) 12288 (lowE G (bat i) (walkAt i n + (x 0).val) + 1)) := by
  have h := wA_lt G hG i (n := n) x
  unfold gat at_ stops
  rw [ix_val_lt h]; rfl

end Lanes

set_option maxHeartbeats 2000000 in
theorem part10 (c s : ℕ) (i : grid0.Coords) (V : Vec F S24576 .f32) (G : Vec F S49152 .i32) (hG : InRange G) (k : Fin k0_t12_loop.trips) (μ : Mem F) (hμ : WalkOK i V G μ) :
    Lwp 2 c s (At (k0_part10 (F := F) i) lanes izeros (Scalar.muli (Scalar.andi (BitVec.ofNat 32 (i 1).val) 7#32) 512#32) 0#32 1#32 k)
      (fun a σ => σ = ⟨μ, none⟩ ∧ ∃ v, a = ⟨v, wNxt G i k.val, k0_pay69 (wPre G i k.val), wC V i 0 (wB G i k.val), wC V i 1 (wB G i k.val), wC V i 2 (wB G i k.val),
        wX V G i k.val, wY V G i k.val, wZ V G i k.val, k0_pay73 (wC V i 0 (wA G i k.val)) (wC V i 0 (wB G i k.val))⟩) ⟨μ, none⟩ := by
  have hk := trips12_le k
  unfold At
  rw [k0_part10_eq_skeleton]
  unfold k0_part10_skel
  refine step_load (cut_eq (off34 i k) _) ?_
  rw [hμ.ea k.val hk]
  have h1 := wA_lt G hG i (n := k.val)
  refine step_assume ⟨chk_of h1, chk_of h1, chk_of h1, chk_of h1, chk_of h1⟩ ?_
  refine step_load (cut_eq (off34 i k) _) ?_
  rw [hμ.pk k.val hk]
  have h3 : ∀ x, (k0_pay53 (F := F) (cut (k := 16) (walkAt i k.val) (PK (F := F) G (bat i))) x).toNat < 2048 := wB_lt G hG i (n := k.val)
  refine step_assume ⟨chk_of h3, chk_of h3, chk_of h3⟩ ?_
  refine step_loadIdx (loadIdx_eq _ _ _) ?_
  refine step_loadIdx (loadIdx_eq _ _ _) ?_
  rw [hμ.off, hμ.stop]
  have hst := start_num G hG i (n := k.val)
  have hen := stop_num G hG i (n := k.val)
  generalize gat (starts (EA (F := F) G (bat i))) (wA G i k.val) = v294 at hst ⊢
  generalize gat (stops (EA (F := F) G (bat i))) (wA G i k.val) = v295 at hen ⊢
  have hle : ∀ x : S16.Idx, below (lowE G (bat i)) 12288 (lowE G (bat i) (walkAt i k.val + (x 0).val)) +
      cnt (lowE G (bat i)) 12288 (lowE G (bat i) (walkAt i k.val + (x 0).val)) ≤ 12288 := fun x => by
    rw [← below_succ]; exact below_le _ _ _
  have h4 : ∀ x, (v294 x : BitVec 32).toNat ≤ 12288 := fun x => by
    have := hle x
    rw [hst, small (by omega)]; omega
  have h5 : ∀ x, (v295 x : BitVec 32).toNat ≤ 12288 := fun x => by
    have := below_le (lowE G (bat i)) 12288 (lowE G (bat i) (walkAt i k.val + (x 0).val) + 1)
    rw [hen, small (by omega)]; exact this
  have h6 := longest v294 v295 h4 h5
  have h6' := longest_ge v294 v295 _ _ hst (fun x => by rw [hen, below_succ]) hle
  refine step_assume (k0_chk8_all _) ?_
  have h7 := trips13_le _ h6
  refine step_for (fun n a μ' => μ' = μ ∧ ∀ x : S16.Idx, LaneAt G (bat i) (walkAt i k.val + (x 0).val) n (a.1 x) (a.2.1 x) (a.2.2 x))
    ⟨rfl, fun x => by show LaneAt G _ _ 0 (v294 x) 0#32 16384#32; rw [hst x]; exact LaneAt.zero⟩ ?_ ?_
  · rintro n a μ' ⟨rfl, ha⟩
    have hn := n.isLt
    have h8 : ∀ x, (k0_pay57 (F := F) a.1 x).toNat < 12288 := fun x => clamp _ (by
      have := hle x
      have := below_le (lowE G (bat i)) 12288 (lowE G (bat i) (walkAt i k.val + (x 0).val))
      rw [(ha x).j, small (by omega)]; omega)
    unfold k0_t13_body
    beta_reduce
    refine step_assume (chk_of h8) ?_
    refine step_loadIdx (loadIdx_eq _ _ _) ?_
    refine lwp_pure ⟨_, rfl, rfl, fun x => ?_⟩
    refine (ha x).step hG (walkAt_lt i hk x) (by omega) (fun t' ht' e => ?_) (wB_num G hG i hk x) (hen x) (tw := k0_pay54 lanes _ 0#32 1#32 k x) ?_ rfl rfl rfl
    · rw [← hμ.srt t' ht', ← e]; rfl
    · have := walkAt_lt i hk x
      rw [edge_no, small (by omega)]
  rintro a μ' ⟨rfl, ha⟩
  refine step_for (fun n a' μ'' => μ'' = μ' ∧ a' = a) ⟨rfl, rfl⟩ ?_ ?_
  · rintro n
    exact absurd (Nat.lt_of_lt_of_eq n.isLt (trips14_zero _)) (Nat.not_lt_zero _)
  rintro a' μ'' ⟨rfl, rfl⟩
  have hfin : a'.2.1 = wPre G i k.val ∧ a'.2.2 = wNxt G i k.val := by
    classical
    constructor <;> funext x
    · exact ((ha x).done (walkAt_lt i hk x) (by rw [trips13_eq]; exact h6' x)).1
    · exact ((ha x).done (walkAt_lt i hk x) (by rw [trips13_eq]; exact h6' x)).2
  obtain ⟨a1, a2, a3⟩ := a'
  obtain ⟨rfl, rfl⟩ := hfin
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  rw [hμ.x, hμ.y, hμ.z]
  exact lwp_pure ⟨rfl, _, rfl⟩

set_option maxHeartbeats 2000000 in
theorem part11 (c s : ℕ) (i : grid0.Coords) (V : Vec F S24576 .f32) (G : Vec F S49152 .i32) (hG : InRange G) (k : Fin k0_t12_loop.trips) (arg36 arg37 : FVec F S16 .f32)
    (v285 : BitVec 32) (v312 : IVec S16 1) (v316 v317 v318 : Vec F S16 .f32) (v319 v320 v321 v322 : FVec F S16 .f32) (μ : Mem F) (hμ : WalkOK i V G μ) :
    Lwp 2 c s (At (k0_part11 (F := F) i) k arg36 arg37 v285 (wNxt G i k.val) v312 v316 v317 v318 v319 v320 v321 v322) (fun a σ => σ = ⟨μ, none⟩ ∧
      a = ⟨k0_pay74 arg36 v312 v320 v321 v322, k0_pay75 arg37 v312, k0_pay76 (wNxt G i k.val), k0_pay82 v317 (wC V i 1 (wQ G i k.val)),
        k0_pay84 v317 v318 v320 v321 (wC V i 1 (wO G i k.val)) (wC V i 2 (wO G i k.val)), k0_pay85 v316 v318 v319 v321 (wC V i 0 (wO G i k.val)) (wC V i 2 (wO G i k.val)),
        k0_pay86 v316 v317 v319 v320 (wC V i 0 (wO G i k.val)) (wC V i 1 (wO G i k.val)), k0_pay87 v317 v318 v320 v321 (wC V i 1 (wQ G i k.val)) (wC V i 2 (wQ G i k.val)),
        k0_pay88 v316 v318 v319 v321 (wC V i 0 (wQ G i k.val)) (wC V i 2 (wQ G i k.val)), k0_pay89 v316 v320 (wC V i 0 (wQ G i k.val))⟩) ⟨μ, none⟩ := by
  unfold At
  rw [k0_part11_eq_skeleton]
  unfold k0_part11_skel
  refine step_assume (chk_of fun x => clamp _ (by
    have := nextE_le G (bat i) (walkAt i k.val + (x 0).val)
    show (BitVec.ofNat 32 (nextE G (bat i) (walkAt i k.val + (x 0).val))).toNat < _
    rw [small (by omega)]; omega)) ?_
  refine step_load (cut_eq (off35 i k) _) ?_
  rw [hμ.eo]
  have h1 : ∀ x, (cut (k := 16) (walkAt i k.val) (EO (F := F) G (bat i)) x : BitVec 32).toNat < 2048 := wO_lt G hG i (n := k.val)
  refine step_assume ⟨chk_of h1, chk_of h1, chk_of h1⟩ ?_
  refine step_loadIdx (loadIdx_eq _ _ _) ?_
  rw [hμ.eo]
  have h2 : ∀ x, (gat (EO (F := F) G (bat i)) (k0_pay77 (wNxt G i k.val)) x : BitVec 32).toNat < 2048 := wQ_lt G hG i (n := k.val)
  refine step_assume ⟨chk_of h2, chk_of h2, chk_of h2⟩ ?_
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  refine step_loadIdx (loadIdx_eq _ _ _) ?_
  rw [hμ.x, hμ.y, hμ.z]
  exact lwp_pure ⟨rfl, rfl⟩

theorem own_half2 (i : grid0.Coords) (j : Fin 7) (hj : j.val = 2 ∨ j.val = 3) (n : ℕ) (h₁ : (i 1).val / 8 * 12288 ≤ n)
    (h₂ : n < (i 1).val / 8 * 12288 + 12288) : ownP 2 (i 0).val (i 1).val .shared j.val n := by
  have h3 : n / 12288 = (i 1).val / 8 := by omega
  obtain ⟨j, hj'⟩ := j
  simp only at hj
  rcases hj with rfl | rfl <;> simp [ownP, h3]

theorem own_starts2 (i : grid0.Coords) (j : Fin 7) (hj : j.val = 4 ∨ j.val = 5) (n : ℕ) (h₁ : (i 1).val / 8 * 2048 ≤ n)
    (h₂ : n < (i 1).val / 8 * 2048 + 2048) : ownP 2 (i 0).val (i 1).val .shared j.val n := by
  have h3 : n / 2048 = (i 1).val / 8 := by omega
  obtain ⟨j, hj'⟩ := j
  simp only at hj
  rcases hj with rfl | rfl <;> simp [ownP, h3]

theorem own_out (i : grid0.Coords) (n : ℕ) (h₁ : 80 * ((i 0).val * 16 + (i 1).val) ≤ n)
    (h₂ : n < 80 * ((i 0).val * 16 + (i 1).val) + 80) : ownP 2 (i 0).val (i 1).val .hbm 6 n := by
  show n / 80 = _
  omega

/-- What the third piece needs of the memory. -/
structure ReadyC (i : grid0.Coords) (V : Vec F S24576 .f32) (G : Vec F S49152 .i32) (μ : Mem F) : Prop where
  x : μ cc0_scratch0 = vtx V (bat i) 0
  y : μ cc0_scratch1 = vtx V (bat i) 1
  z : μ cc0_scratch2 = vtx V (bat i) 2
  ea : ∀ y : S12288.Idx, (y 0).val % 4096 / 512 = (i 1).val % 8 → (μ cc0_scratch6 : Vec F S12288 .i32) y = EA (F := F) G (bat i) y
  pk : ∀ y : S12288.Idx, (y 0).val % 4096 / 512 = (i 1).val % 8 → (μ cc0_scratch7 : Vec F S12288 .i32) y = PK (F := F) G (bat i) y
  eo : μ cc0_scratch25 = shEO (F := F) G (i 0).val
  srt : SortedOf (EA (F := F) G (bat i)) (PK (F := F) G (bat i)) ((i 1).val / 8) (μ cc0_scratch26) (μ cc0_scratch27) (μ cc0_scratch28)

/-- The tile's stretch of the result, row by row. -/
def OutLap (i : grid0.Coords) (w : Fin 5 → FVec F S16 .f32) (f : Vec F S2560 .f32) : Prop :=
  ∀ (q : Fin 5) (x : S16.Idx), at_ f (80 * ((i 0).val * 16 + (i 1).val) + 16 * q.val + (x 0).val) = w q x

/-- The five rows a tile leaves: the first edges' squared lengths and their number, the Laplacian norms, the normal terms and the
    number of pairs. -/
def rowsOf (w : FVec F S16 .f32) (a : Acc4 F) : Fin 5 → FVec F S16 .f32 := ![a.1, a.2.1, w, a.2.2.1, a.2.2.2]

/-- A half of the shared opposite corners is its batch's. -/
theorem cut_shEO (i : grid0.Coords) (G : Vec F S49152 .i32) :
    (cut (k := 12288) ((i 1).val / 8 * 12288) (shEO (F := F) G (i 0).val) : Vec F S12288 .i32) = EO (F := F) G (bat i) := by
  have hi1 : (i 1).val < 16 := (i 1).isLt
  funext y
  have hy : (y 0).val < 12288 := (y 0).isLt
  unfold cut at_ shEO
  show at_ (EO (F := F) G (2 * (i 0).val + (((i 1).val / 8 * 12288 + (y 0).val) % 24576) / 12288)) ((((i 1).val / 8 * 12288 + (y 0).val) % 24576) % 12288) = _
  rw [show (((i 1).val / 8 * 12288 + (y 0).val) % 24576) / 12288 = (i 1).val / 8 by omega,
    show (((i 1).val / 8 * 12288 + (y 0).val) % 24576) % 12288 = (y 0).val by omega]
  exact at_val _ y

theorem cut_at {m k : ℕ} [NeZero m] [NeZero k] {α : Type} (o : ℕ) (f : (⟨1, ![m]⟩ : Shape).Idx → α) {n : ℕ} (h : n < k) :
    at_ (cut (k := k) o f) n = at_ f (o + n) := by
  unfold at_ cut at_
  rw [ix_val_lt h]

theorem rows {α : Type} (b0 b1 b2 b3 b4 : S16.Idx → α) (f : S80.Idx → α) (q : Fin 5) (x : S16.Idx) :
    at_ (put 64 b4 (put 48 b3 (put 32 b2 (put 16 b1 (put 0 b0 f))))) (16 * q.val + (x 0).val) = (![b0, b1, b2, b3, b4] q) x := by
  have hx : (x 0).val < 16 := idx_lt x
  have h : ∀ {q : ℕ}, q < 5 → 16 * q + (x 0).val < 80 := fun h => by omega
  unfold at_
  fin_cases q
  · rw [put_out (by rw [ix_val_lt (by simp; omega)]; simp; omega), put_out (by rw [ix_val_lt (by simp; omega)]; simp; omega),
      put_out (by rw [ix_val_lt (by simp; omega)]; simp; omega), put_out (by rw [ix_val_lt (by simp; omega)]; simp; omega),
      put_in (by rw [ix_val_lt (by simp; omega)]; simp) (by rw [ix_val_lt (by simp; omega)]; simp; omega), ix_val_lt (by simp; omega)]
    exact congrArg b0 (eq_ix (by simp)).symm
  · rw [put_out (by rw [ix_val_lt (by simp; omega)]; simp; omega), put_out (by rw [ix_val_lt (by simp; omega)]; simp; omega),
      put_out (by rw [ix_val_lt (by simp; omega)]; simp; omega),
      put_in (by rw [ix_val_lt (by simp; omega)]; simp) (by rw [ix_val_lt (by simp; omega)]; simp; omega), ix_val_lt (by simp; omega)]
    exact congrArg b1 (eq_ix (by simp)).symm
  · rw [put_out (by rw [ix_val_lt (by simp; omega)]; simp; omega), put_out (by rw [ix_val_lt (by simp; omega)]; simp; omega),
      put_in (by rw [ix_val_lt (by simp; omega)]; simp) (by rw [ix_val_lt (by simp; omega)]; simp; omega), ix_val_lt (by simp; omega)]
    exact congrArg b2 (eq_ix (by simp)).symm
  · rw [put_out (by rw [ix_val_lt (by simp; omega)]; simp; omega),
      put_in (by rw [ix_val_lt (by simp; omega)]; simp) (by rw [ix_val_lt (by simp; omega)]; simp; omega), ix_val_lt (by simp; omega)]
    exact congrArg b3 (eq_ix (by simp)).symm
  · rw [put_in (by rw [ix_val_lt (by simp; omega)]; simp) (by rw [ix_val_lt (by simp; omega)]; simp; omega), ix_val_lt (by simp; omega)]
    exact congrArg b4 (eq_ix (by simp)).symm

set_option maxHeartbeats 4000000 in
theorem phaseC (i : grid0.Coords) (V : Vec F S24576 .f32) (G : Vec F S49152 .i32) (hG : InRange G) (w : FVec F S16 .f32) (μ : Mem F) (hμ : ReadyC i V G μ) :
    Lwp 2 (i 0).val (i 1).val (progC (F := F) i (handA i) w) (fun _ σ => ∃ μ', σ = ⟨μ', none⟩ ∧ OutLap i (rowsOf w (walkAcc V G i 96)) (μ' main_v4_scv)) ⟨μ, none⟩ := by
  have hs : (i 1).val < 16 := (i 1).isLt
  have hc : (i 0).val < 2 := (i 0).isLt
  unfold progC
  refine step_copy' cc0_scratch26 cc0_scratch9 rfl rfl (by decide) (by decide) (by decide)
    (sub_slice cc0_scratch26 _ (stretch_sub (m := 24576) (k := 12288) (fun x => mem_own) (off32 i) (own_half2 i 3 (by decide)))) (sub_own_vm _) rfl
    (View.dmaCredit_pos _ (by decide)) ((write_whole _ _ _).trans (cut_eq (off32 i) _)) ?_
  refine step_copy' cc0_scratch27 cc0_scratch10 rfl rfl (by decide) (by decide) (by decide)
    (sub_slice cc0_scratch27 _ (stretch_sub (m := 4096) (k := 2048) (fun x => mem_own) (off33 i) (own_starts2 i 4 (by decide)))) (sub_own_vm _) rfl
    (View.dmaCredit_pos _ (by decide)) ((write_whole _ _ _).trans (cut_eq (off33 i) _)) ?_
  refine step_copy' cc0_scratch28 cc0_scratch11 rfl rfl (by decide) (by decide) (by decide)
    (sub_slice cc0_scratch28 _ (stretch_sub (m := 4096) (k := 2048) (fun x => mem_own) (off33 i) (own_starts2 i 5 (by decide)))) (sub_own_vm _) rfl
    (View.dmaCredit_pos _ (by decide)) ((write_whole _ _ _).trans (cut_eq (off33 i) _)) ?_
  refine step_copy' cc0_scratch25 cc0_scratch8 rfl rfl (by decide) (by decide) (by decide)
    (sub_slice cc0_scratch25 _ (stretch_sub (m := 24576) (k := 12288) (fun x => mem_own) (off32 i) (own_half2 i 2 (by decide)))) (sub_own_vm _) rfl
    (View.dmaCredit_pos _ (by decide)) ((write_whole _ _ _).trans (cut_eq (off32 i) _)) ?_
  refine lwp_forget (WalkOK i V G) ?_ ?_
  · constructor
    all_goals simp (disch := decide) only [Function.update_of_ne, Function.update_self]
    · exact hμ.x
    · exact hμ.y
    · exact hμ.z
    · intro n hn
      funext x
      have hx := idx_lt x
      unfold cut at_
      rw [hμ.ea _ (by rw [ix_val_lt (by unfold walkAt; omega)]; unfold walkAt; omega)]
      rfl
    · intro n hn
      funext x
      have hx := idx_lt x
      unfold cut at_
      rw [hμ.pk _ (by rw [ix_val_lt (by unfold walkAt; omega)]; unfold walkAt; omega)]
    · rw [hμ.eo, cut_shEO]
    · intro t ht
      rw [cut_at _ _ (slotOf_lt_all _ _ ht)]
      exact hμ.srt.srt t ht
    · funext u
      have hu := idx_lt u
      exact hμ.srt.off _ hu
    · funext u
      have hu := idx_lt u
      exact hμ.srt.stop _ hu
  intro μ₁ h1
  refine step_for (fun n b μ' => μ' = μ₁ ∧ b = walkAcc V G i n) ⟨rfl, rfl⟩ ?_ ?_
  · rintro n b μ' ⟨rfl, rfl⟩
    unfold At k0_t12_body
    beta_reduce
    refine lwp_seq (part10 _ _ i V G hG n _ h1) ?_
    rintro r σ ⟨rfl, v, rfl⟩
    refine lwp_seq (part11 _ _ i V G hG n _ _ _ _ _ _ _ _ _ _ _ _ h1) ?_
    rintro r2 σ ⟨rfl, rfl⟩
    exact lwp_pure ⟨_, rfl, rfl, rfl⟩
  rintro b μ' ⟨rfl, rfl⟩
  rw [show k0_t12_loop.trips = 96 from by decide +kernel]
  refine step_load (cut_eq rfl _) ?_
  refine step_store (put_eq rfl _ _) ?_
  refine step_load (cut_eq rfl _) ?_
  refine step_store (put_eq rfl _ _) ?_
  refine step_load (cut_eq rfl _) ?_
  refine step_store (put_eq rfl _ _) ?_
  refine step_load (cut_eq rfl _) ?_
  refine step_store (put_eq rfl _ _) ?_
  refine step_load (cut_eq rfl _) ?_
  refine step_store (put_eq rfl _ _) ?_
  refine step_copy' cc0_scratch22 main_v4_scv rfl rfl (by decide) (by decide) (by decide) (sub_own_vm _)
    (sub_slice main_v4_scv _ (stretch_sub (m := 2560) (k := 80) (fun x => mem_own) (off36 i) (own_out i))) rfl
    (View.dmaCredit_pos _ (by decide)) ((write_slice main_v4_scv _ _ _).trans (put_eq (m := 2560) (off36 i) _ _)) ?_
  refine lwp_pure ⟨_, rfl, ?_⟩
  simp (disch := decide) only [Function.update_of_ne, Function.update_self]
  intro q x
  have hx : (x 0).val < 16 := idx_lt x
  have hq := q.isLt
  unfold at_
  rw [put_in (by rw [ix_val_lt (by omega)]; omega) (by rw [ix_val_lt (by omega)]; omega), ix_val_lt (by omega)]
  exact (congrArg (at_ _) (show 80 * ((i 0).val * 16 + (i 1).val) + 16 * q.val + (x 0).val - 80 * ((i 0).val * 16 + (i 1).val) = 16 * q.val + (x 0).val by omega)).trans
    (rows _ _ _ _ _ _ q x)

end Cert.Proof.Tile
end
-- ==== Proof.Merge.lean ====
/-
  Between the meetings: a tile adds up the eight partial sums of its stretch of the vertices, and from them its share of the laplacian.
-/
module

public import proofs.«01_k».proof.Proof.PhaseA

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀
variable {F : FTy → Type} [FloatOps F]

/-- Where the stretch of tile `i` of quantity `q` of partial sum `k` begins. -/
abbrev col (i : grid0.Coords) (q k : ℕ) : ℕ := ((i 1).val / 8 * 8 + k) * 8192 + q * 2048 + 256 * ((i 1).val % 8)

theorem off17 : ∀ (i : grid0.Coords) (k : Fin 8) (q : Fin 4), k0_off17 i (BitVec.ofNat 32 k.val) (BitVec.ofNat 32 q.val) 0 = col i q.val k.val := by decide +kernel
theorem off18 : ∀ k : Fin k0_t7_loop.trips, k0_off18 k 0 = 256 * 0 + 16 * k.val := by decide +kernel
theorem off19 : ∀ (k : Fin k0_t7_loop.trips) (r : Fin 7), k0_off19 k (BitVec.ofNat 32 (256 * (r.val + 1))) 0 = 256 * (r.val + 1) + 16 * k.val := by decide +kernel
theorem off20 : ∀ k : Fin k0_t7_loop.trips, k0_off20 k 0 = 16 * k.val := by decide +kernel
theorem off21 : ∀ k : Fin k0_t8_loop.trips, k0_off21 k 0 = 256 * 0 + 16 * k.val := by decide +kernel
theorem off22 : ∀ (k : Fin k0_t8_loop.trips) (r : Fin 7), k0_off22 k (BitVec.ofNat 32 (256 * (r.val + 1))) 0 = 256 * (r.val + 1) + 16 * k.val := by decide +kernel
theorem off23 : ∀ k : Fin k0_t8_loop.trips, k0_off23 k 0 = 16 * k.val := by decide +kernel
theorem off24 : ∀ k : Fin k0_t9_loop.trips, k0_off24 k 0 = 256 * 0 + 16 * k.val := by decide +kernel
theorem off25 : ∀ (k : Fin k0_t9_loop.trips) (r : Fin 7), k0_off25 k (BitVec.ofNat 32 (256 * (r.val + 1))) 0 = 256 * (r.val + 1) + 16 * k.val := by decide +kernel
theorem off26 : ∀ k : Fin k0_t9_loop.trips, k0_off26 k 0 = 16 * k.val := by decide +kernel
theorem off27 : ∀ k : Fin k0_t10_loop.trips, k0_off27 k 0 = 256 * 0 + 16 * k.val := by decide +kernel
theorem off28 : ∀ (k : Fin k0_t10_loop.trips) (r : Fin 7), k0_off28 k (BitVec.ofNat 32 (256 * (r.val + 1))) 0 = 256 * (r.val + 1) + 16 * k.val := by decide +kernel
theorem off29 : ∀ k : Fin k0_t10_loop.trips, k0_off29 k 0 = 16 * k.val := by decide +kernel
theorem off30 : ∀ k : Fin k0_t11_loop.trips, k0_off30 k 0 = 16 * k.val := by decide +kernel
theorem off31 : ∀ (i : grid0.Coords) (k : Fin k0_t11_loop.trips), k0_off31 i k 0 = 256 * ((i 1).val % 8) + 16 * k.val := by decide +kernel
theorem trips7 : k0_t7_loop.trips = 16 := by decide +kernel
theorem trips8 : k0_t8_loop.trips = 16 := by decide +kernel
theorem trips9 : k0_t9_loop.trips = 16 := by decide +kernel
theorem trips10 : k0_t10_loop.trips = 16 := by decide +kernel
theorem trips11 : k0_t11_loop.trips = 16 := by decide +kernel

/-- Sixteen merged sums of quantity `q`, from vertex `16 n` of the tile's stretch on. -/
def mgw (i : grid0.Coords) (L : Vec F S131072 .f32) (q n : ℕ) : FVec F S16 .f32 :=
  k0_pay47 (cut (col i q 0 + 16 * n) L) (cut (col i q 1 + 16 * n) L) (cut (col i q 2 + 16 * n) L) (cut (col i q 3 + 16 * n) L)
    (cut (col i q 4 + 16 * n) L) (cut (col i q 5 + 16 * n) L) (cut (col i q 6 + 16 * n) L) (cut (col i q 7 + 16 * n) L)

/-- The merged sums of the tile's stretch. -/
def mg (i : grid0.Coords) (L : Vec F S131072 .f32) (q : ℕ) : Vec F S256 .f32 := fun y => at_ (mgw i L q ((y 0).val / 16)) ((y 0).val % 16)

theorem mg_cut (i : grid0.Coords) (L : Vec F S131072 .f32) (q n : ℕ) (hn : n < 16) : (cut (16 * n) (mg i L q) : S16.Idx → Elt F .f32) = mgw i L q n := by
  funext x
  have hx : (x 0).val < 16 := (x 0).isLt
  unfold cut at_ mg at_
  have e : ((ix (16 * n + (x 0).val) : S256.Idx) 0).val = 16 * n + (x 0).val := ix_val_lt (by omega)
  rw [e, show (16 * n + (x 0).val) / 16 = n by omega, show (16 * n + (x 0).val) % 16 = (x 0).val by omega]
  rw [ix_self]

/-- The tile's share of the laplacian after `n` trips. -/
def lapW (i : grid0.Coords) (V : Vec F S24576 .f32) (L : Vec F S131072 .f32) : ℕ → FVec F S16 .f32
  | 0 => zeros
  | n + 1 => k0_pay92 (lapW i V L n) (k0_pay51 (mgw i L 3 n) (cut (256 * ((i 1).val % 8) + 16 * n) (vtx V (bat i) 0))
      (cut (256 * ((i 1).val % 8) + 16 * n) (vtx V (bat i) 1)) (cut (256 * ((i 1).val % 8) + 16 * n) (vtx V (bat i) 2))
      (mgw i L 0 n) (mgw i L 1 n) (mgw i L 2 n)) k0_pay52

/-- The buffers the merging writes. -/
abbrev mgs : List (Ref sig .scVector) := [cc0_scratch17, cc0_scratch18, cc0_scratch19, cc0_scratch20, cc0_scratch21]

/-- Before partial sum `n` of quantity `q` is fetched. -/
structure Mrg (i : grid0.Coords) (L : Vec F S131072 .f32) (μ₀ : Mem F) (q n : ℕ) (μ : Mem F) : Prop where
  off : Off mgs μ μ₀
  tm : ∀ k, k < n → ∀ x, x < 256 → at_ (μ cc0_scratch17 : Vec F S2048 .f32) (256 * k + x) = at_ L (col i q k + x)
  m0 : 0 < q → μ cc0_scratch18 = mg i L 0
  m1 : 1 < q → μ cc0_scratch19 = mg i L 1
  m2 : 2 < q → μ cc0_scratch20 = mg i L 2
  m3 : 3 < q → μ cc0_scratch21 = mg i L 3

theorem Mrg.put {i : grid0.Coords} {L : Vec F S131072 .f32} {μ₀ μ : Mem F} {q n : ℕ} (h : Mrg i L μ₀ q n μ) (hn : n < 8)
    (hL : μ cc0_scratch29 = L) :
    Mrg i L μ₀ q (n + 1) (Function.update μ cc0_scratch17 (Tile.put (256 * n) (cut (k := 256) (col i q n) (μ cc0_scratch29 : Vec F S131072 .f32)) (μ cc0_scratch17 : Vec F S2048 .f32))) := by
  refine ⟨h.off.update (by decide) _, ?_, ?_, ?_, ?_, ?_⟩
  · intro k hk x hx
    rw [Function.update_self, hL]
    have hy : ((ix (256 * k + x) : S2048.Idx) 0).val = 256 * k + x := ix_val_lt (by omega)
    by_cases hc : k = n
    · subst hc
      unfold at_
      rw [put_in (by omega) (by omega), hy]
      unfold at_ cut at_
      rw [ix_val_lt (by omega : 256 * k + x - 256 * k < 256), show 256 * k + x - 256 * k = x by omega]
    · unfold at_
      rw [put_out (by omega)]
      exact h.tm k (by omega) x hx
  · intro hq; rw [Function.update_of_ne (by decide)]; exact h.m0 hq
  · intro hq; rw [Function.update_of_ne (by decide)]; exact h.m1 hq
  · intro hq; rw [Function.update_of_ne (by decide)]; exact h.m2 hq
  · intro hq; rw [Function.update_of_ne (by decide)]; exact h.m3 hq

theorem Mrg.cut {i : grid0.Coords} {L : Vec F S131072 .f32} {μ₀ μ : Mem F} {q n : ℕ} (h : Mrg i L μ₀ q n μ) (k t : ℕ) (hk : k < n) (ht : t < 16) :
    (Tile.cut (256 * k + 16 * t) (μ cc0_scratch17 : Vec F S2048 .f32) : S16.Idx → Elt F .f32) = Tile.cut (col i q k + 16 * t) L := by
  funext x
  have hx : (x 0).val < 16 := (x 0).isLt
  unfold Tile.cut
  rw [Nat.add_assoc, Nat.add_assoc]
  exact h.tm k hk _ (by omega)

section Fetch

variable {cc : Fin τ.nSC} {ss : Fin τ.nSub} {α : Type} {μ : Mem F} {Q : α → LSt sig (Elt F) .scVector → Prop}
    {i : grid0.Coords} {L : Vec F S131072 .f32} {μ₀ : Mem F}

theorem own_col (i : grid0.Coords) (q : Fin 4) (k : Fin 8) (n : ℕ) (h₁ : col i q.val k.val ≤ n) (h₂ : n < col i q.val k.val + 256) :
    ownP 1 (i 0).val (i 1).val .shared 6 n := by
  have hq := q.isLt
  have hk := k.isLt
  have hi1 : (i 1).val < 16 := (i 1).isLt
  simp only [ownP, if_neg (show ¬ (1 = 0) by decide)]
  unfold col at *
  omega

/-- The fetch of a partial sum. -/
theorem step_fetch (k : Fin 8) (q : Fin 4) {m : ℕ} {inb inb'} {hr hr'} {sem : DmaSem sig} {h₁ h₂ h₃ h₄ h₅} (hm : m = 256 * k.val)
    (h0 : μ₀ cc0_scratch29 = L) (hM : Mrg i L μ₀ q.val k.val μ)
    {kk : PUnit → Prog (TpuEff nD τ sig (Elt F) Λ₀ (.scVector cc ss)) α}
    (h : ∀ μ', Mrg i L μ₀ q.val (k.val + 1) μ' → Lwp 1 (i 0).val (i 1).val (kk ⟨⟩) Q ⟨μ', none⟩) :
    Lwp 1 (i 0).val (i 1).val (Prog.lift (.enqueueDma ((Memref.whole cc0_scratch29).slice (Rect.unit (s := S131072) (k0_off17 i (BitVec.ofNat 32 k.val) (BitVec.ofNat 32 q.val)) S256.size inb) hr)
        (.here ((Memref.whole cc0_scratch17).slice (Rect.unit (s := S2048) ![m] S256.size inb') hr')) (.dma sem) h₁ h₂ h₃) >>=
      fun _ => Prog.lift (.waitDma2 sem ((Memref.whole cc0_scratch29).slice (Rect.unit (s := S131072) (k0_off17 i (BitVec.ofNat 32 k.val) (BitVec.ofNat 32 q.val)) S256.size inb) hr)
        ((Memref.whole cc0_scratch17).slice (Rect.unit (s := S2048) ![m] S256.size inb') hr') h₄ h₅) >>= kk) Q ⟨μ, none⟩ := by
  refine step_copy' cc0_scratch29 cc0_scratch17 rfl rfl (by decide) (by decide) (by decide)
    (sub_slice cc0_scratch29 _ (stretch_sub (m := 131072) (k := 256) (fun x => mem_own) (off17 i k q) (own_col i q k))) (sub_own_vm _) rfl (View.dmaCredit_pos _ (show 0 < S256.numel by decide))
    (((write_slice cc0_scratch17 _ _ _).trans (put_eq (m := 2048) (k := 256) (o := 256 * k.val) hm _ _)).trans
      (congrArg (fun w => put _ w _) (cut_eq (m := 131072) (off17 i k q) _))) ?_
  exact h _ (hM.put k.isLt ((hM.off _ (by decide)).trans h0))

/-- The fetch, its wait to come. -/
theorem step_fetch_enq (k : Fin 8) (q : Fin 4) {m : ℕ} {inb inb'} {hr hr'} {sem : DmaSem sig} {h₁ h₂ h₃} (hm : m = 256 * k.val)
    {kk : PUnit → Prog (TpuEff nD τ sig (Elt F) Λ₀ (.scVector cc ss)) α}
    (h : Lwp 1 (i 0).val (i 1).val (kk ⟨⟩) Q ⟨Function.update μ cc0_scratch17 (put (256 * k.val) (cut (k := 256) (col i q.val k.val) (μ cc0_scratch29 : Vec F S131072 .f32)) (μ cc0_scratch17 : Vec F S2048 .f32)),
      some (.dma sem, ((Memref.whole cc0_scratch17).slice (Rect.unit (s := S2048) ![m] S256.size inb') hr').view.dmaCredit)⟩) :
    Lwp 1 (i 0).val (i 1).val (Prog.lift (.enqueueDma ((Memref.whole cc0_scratch29).slice (Rect.unit (s := S131072) (k0_off17 i (BitVec.ofNat 32 k.val) (BitVec.ofNat 32 q.val)) S256.size inb) hr)
        (.here ((Memref.whole cc0_scratch17).slice (Rect.unit (s := S2048) ![m] S256.size inb') hr')) (.dma sem) h₁ h₂ h₃) >>= kk) Q ⟨μ, none⟩ := by
  refine step_enqueue (src := (Memref.whole cc0_scratch29).slice (Rect.unit (s := S131072) (k0_off17 i (BitVec.ofNat 32 k.val) (BitVec.ofNat 32 q.val)) S256.size inb) hr)
    (dst := (Memref.whole cc0_scratch17).slice (Rect.unit (s := S2048) ![m] S256.size inb') hr') (show named cc0_scratch29 = true by decide) (show named cc0_scratch17 = true by decide) (show cc0_scratch29 ≠ cc0_scratch17 by decide)
    (sub_slice cc0_scratch29 _ (stretch_sub (m := 131072) (k := 256) (fun x => mem_own) (off17 i k q) (own_col i q k))) (sub_own_vm _) rfl (View.dmaCredit_pos _ (show 0 < S256.numel by decide))
    (((write_slice cc0_scratch17 _ _ _).trans (put_eq (m := 2048) (k := 256) (o := 256 * k.val) hm _ _)).trans
      (congrArg (fun w => put _ w _) (cut_eq (m := 131072) (off17 i k q) _))) ?_
  exact h

/-- Its wait. -/
theorem step_fetch_wait (k : Fin 8) (q : Fin 4) {m : ℕ} {inb inb'} {hr hr'} {sem : DmaSem sig} {h₄ h₅} (hm : m = 256 * k.val)
    (h0 : μ₀ cc0_scratch29 = L) (hM : Mrg i L μ₀ q.val k.val μ)
    {kk : PUnit → Prog (TpuEff nD τ sig (Elt F) Λ₀ (.scVector cc ss)) α}
    (h : ∀ μ', Mrg i L μ₀ q.val (k.val + 1) μ' → Lwp 1 (i 0).val (i 1).val (kk ⟨⟩) Q ⟨μ', none⟩) :
    Lwp 1 (i 0).val (i 1).val (Prog.lift (.waitDma2 sem ((Memref.whole cc0_scratch29).slice (Rect.unit (s := S131072) (k0_off17 i (BitVec.ofNat 32 k.val) (BitVec.ofNat 32 q.val)) S256.size inb) hr)
        ((Memref.whole cc0_scratch17).slice (Rect.unit (s := S2048) ![m] S256.size inb') hr') h₄ h₅) >>= kk) Q
      ⟨Function.update μ cc0_scratch17 (put (256 * k.val) (cut (k := 256) (col i q.val k.val) (μ cc0_scratch29 : Vec F S131072 .f32)) (μ cc0_scratch17 : Vec F S2048 .f32)),
      some (.dma sem, ((Memref.whole cc0_scratch17).slice (Rect.unit (s := S2048) ![m] S256.size inb') hr').view.dmaCredit)⟩ :=
  step_wait (h _ (hM.put k.isLt ((hM.off _ (by decide)).trans h0)))

end Fetch

/-- The stores of a merging loop fill the stretch. -/
theorem fill {n : ℕ} {α : Type} {f E : S256.Idx → α} {w : S16.Idx → α} (hn : n < 16) (h : ∀ y : S256.Idx, (y 0).val < 16 * n → f y = E y)
    (hw : ∀ x : S16.Idx, w x = at_ E (16 * n + (x 0).val)) (y : S256.Idx) (hy : (y 0).val < 16 * (n + 1)) : put (16 * n) w f y = E y := by
  by_cases hc : 16 * n ≤ (y 0).val
  · rw [put_in hc (by omega)]
    unfold at_
    rw [hw, ix_val_lt (by omega), show 16 * n + ((y 0).val - 16 * n) = (y 0).val by omega, at_val]
  · rw [put_out (by omega)]; exact h y (by omega)

theorem t7_step (i : grid0.Coords) (v0 v63 : BitVec 32) (n : Fin k0_t7_loop.trips) (a : BitVec 32) (μ : Mem F) :
    Lwp 1 (i 0).val (i 1).val (At (k0_t7_body (F := F) i) v0 v63 n a) (fun _ σ => σ = ⟨Function.update μ cc0_scratch18 (put (16 * n.val) (k0_pay47
      (cut (256 * 0 + 16 * n.val) (μ cc0_scratch17 : Vec F S2048 .f32)) (cut (256 * 1 + 16 * n.val) (μ cc0_scratch17 : Vec F S2048 .f32))
      (cut (256 * 2 + 16 * n.val) (μ cc0_scratch17 : Vec F S2048 .f32)) (cut (256 * 3 + 16 * n.val) (μ cc0_scratch17 : Vec F S2048 .f32))
      (cut (256 * 4 + 16 * n.val) (μ cc0_scratch17 : Vec F S2048 .f32)) (cut (256 * 5 + 16 * n.val) (μ cc0_scratch17 : Vec F S2048 .f32))
      (cut (256 * 6 + 16 * n.val) (μ cc0_scratch17 : Vec F S2048 .f32)) (cut (256 * 7 + 16 * n.val) (μ cc0_scratch17 : Vec F S2048 .f32))) (μ cc0_scratch18 : Vec F S256 .f32)), none⟩) ⟨μ, none⟩ := by
  unfold At k0_t7_body
  beta_reduce
  rw [k0_part5_eq_skeleton]
  unfold k0_part5_skel
  refine step_load (cut_eq (off18 n) _) ?_
  refine step_load (cut_eq (off19 n 0) _) ?_
  refine step_load (cut_eq (off19 n 1) _) ?_
  refine step_load (cut_eq (off19 n 2) _) ?_
  refine step_load (cut_eq (off19 n 3) _) ?_
  refine step_load (cut_eq (off19 n 4) _) ?_
  refine step_load (cut_eq (off19 n 5) _) ?_
  refine step_load (cut_eq (off19 n 6) _) ?_
  refine step_load (cut_eq (off20 n) _) ?_
  refine step_store (put_eq (off20 n) _ _) ?_
  exact lwp_pure rfl

theorem merge7 {α : Type} {Q : α → LSt sig (Elt F) .scVector → Prop} (i : grid0.Coords) (L : Vec F S131072 .f32) (μ₀ μ : Mem F) (v0 v63 a : BitVec 32) (hM : Mrg i L μ₀ 0 8 μ)
    {k : BitVec 32 → TileProg F i α} (h : ∀ a μ', Mrg i L μ₀ 1 0 μ' → Lwp 1 (i 0).val (i 1).val (k a) Q ⟨μ', none⟩) :
    Lwp 1 (i 0).val (i 1).val (Scf.Loop.for k0_t7_loop k0_t7_ok a (At (k0_t7_body i) v0 v63) >>= k) Q ⟨μ, none⟩ := by
  refine step_for (fun n _ μ' => Mrg i L μ₀ 0 8 μ' ∧ ∀ y : S256.Idx, (y 0).val < 16 * n → (μ' cc0_scratch18 : Vec F S256 .f32) y = mg i L 0 y) ⟨hM, fun y hy => by omega⟩ ?_ ?_
  · rintro n a μ' ⟨hM', hy⟩
    have hn : n.val < 16 := by have := n.isLt; have := trips7; omega
    refine lwp_mono (p := .scVector _ _) _ _ ?_ _ (t7_step i v0 v63 n a μ')
    rintro a' σ' rfl
    refine ⟨_, rfl, ⟨hM'.off.update (by decide) _, ?_, ?_, ?_, ?_, ?_⟩, ?_⟩
    · rw [Function.update_of_ne (by decide)]; exact hM'.tm
    · intro h; omega
    · intro h; omega
    · intro h; omega
    · intro h; omega
    · rw [Function.update_self]
      refine fill hn hy ?_
      intro x
      rw [hM'.cut 0 _ (by decide) hn, hM'.cut 1 _ (by decide) hn, hM'.cut 2 _ (by decide) hn, hM'.cut 3 _ (by decide) hn, hM'.cut 4 _ (by decide) hn,
        hM'.cut 5 _ (by decide) hn, hM'.cut 6 _ (by decide) hn, hM'.cut 7 _ (by decide) hn]
      exact (congrFun (mg_cut i L 0 n.val hn) x).symm
  · rintro a μ' ⟨hM', hy⟩
    rw [trips7] at hy
    exact h a μ' ⟨hM'.off, fun k hk => absurd hk (by omega), fun _ => funext fun y => hy y (y 0).isLt, fun h => by omega, fun h => by omega, fun h => by omega⟩

theorem t8_step (i : grid0.Coords) (v0 v63 v157 c4 : BitVec 32) (n : Fin k0_t8_loop.trips) (a : BitVec 32) (μ : Mem F) :
    Lwp 1 (i 0).val (i 1).val (At (k0_t8_body (F := F) i) v0 v63 v157 c4 n a) (fun _ σ => σ = ⟨Function.update μ cc0_scratch19 (put (16 * n.val) (k0_pay48
      (cut (256 * 0 + 16 * n.val) (μ cc0_scratch17 : Vec F S2048 .f32)) (cut (256 * 1 + 16 * n.val) (μ cc0_scratch17 : Vec F S2048 .f32))
      (cut (256 * 2 + 16 * n.val) (μ cc0_scratch17 : Vec F S2048 .f32)) (cut (256 * 3 + 16 * n.val) (μ cc0_scratch17 : Vec F S2048 .f32))
      (cut (256 * 4 + 16 * n.val) (μ cc0_scratch17 : Vec F S2048 .f32)) (cut (256 * 5 + 16 * n.val) (μ cc0_scratch17 : Vec F S2048 .f32))
      (cut (256 * 6 + 16 * n.val) (μ cc0_scratch17 : Vec F S2048 .f32)) (cut (256 * 7 + 16 * n.val) (μ cc0_scratch17 : Vec F S2048 .f32))) (μ cc0_scratch19 : Vec F S256 .f32)), none⟩) ⟨μ, none⟩ := by
  unfold At k0_t8_body
  beta_reduce
  rw [k0_part6_eq_skeleton]
  unfold k0_part6_skel
  refine step_load (cut_eq (off21 n) _) ?_
  refine step_load (cut_eq (off22 n 0) _) ?_
  refine step_load (cut_eq (off22 n 1) _) ?_
  refine step_load (cut_eq (off22 n 2) _) ?_
  refine step_load (cut_eq (off22 n 3) _) ?_
  refine step_load (cut_eq (off22 n 4) _) ?_
  refine step_load (cut_eq (off22 n 5) _) ?_
  refine step_load (cut_eq (off22 n 6) _) ?_
  refine step_load (cut_eq (off23 n) _) ?_
  refine step_store (put_eq (off23 n) _ _) ?_
  exact lwp_pure rfl

theorem merge8 {α : Type} {Q : α → LSt sig (Elt F) .scVector → Prop} (i : grid0.Coords) (L : Vec F S131072 .f32) (μ₀ μ : Mem F) (v0 v63 v157 c4 a : BitVec 32) (hM : Mrg i L μ₀ 1 8 μ)
    {k : BitVec 32 → TileProg F i α} (h : ∀ a μ', Mrg i L μ₀ 2 0 μ' → Lwp 1 (i 0).val (i 1).val (k a) Q ⟨μ', none⟩) :
    Lwp 1 (i 0).val (i 1).val (Scf.Loop.for k0_t8_loop k0_t8_ok a (At (k0_t8_body i) v0 v63 v157 c4) >>= k) Q ⟨μ, none⟩ := by
  refine step_for (fun n _ μ' => Mrg i L μ₀ 1 8 μ' ∧ ∀ y : S256.Idx, (y 0).val < 16 * n → (μ' cc0_scratch19 : Vec F S256 .f32) y = mg i L 1 y) ⟨hM, fun y hy => by omega⟩ ?_ ?_
  · rintro n a μ' ⟨hM', hy⟩
    have hn : n.val < 16 := by have := n.isLt; have := trips8; omega
    refine lwp_mono (p := .scVector _ _) _ _ ?_ _ (t8_step i v0 v63 v157 c4 n a μ')
    rintro a' σ' rfl
    refine ⟨_, rfl, ⟨hM'.off.update (by decide) _, ?_, ?_, ?_, ?_, ?_⟩, ?_⟩
    · rw [Function.update_of_ne (by decide)]; exact hM'.tm
    · intro h; rw [Function.update_of_ne (by decide)]; exact hM'.m0 h
    · intro h; omega
    · intro h; omega
    · intro h; omega
    · rw [Function.update_self]
      refine fill hn hy ?_
      intro x
      rw [hM'.cut 0 _ (by decide) hn, hM'.cut 1 _ (by decide) hn, hM'.cut 2 _ (by decide) hn, hM'.cut 3 _ (by decide) hn, hM'.cut 4 _ (by decide) hn,
        hM'.cut 5 _ (by decide) hn, hM'.cut 6 _ (by decide) hn, hM'.cut 7 _ (by decide) hn]
      exact (congrFun (mg_cut i L 1 n.val hn) x).symm
  · rintro a μ' ⟨hM', hy⟩
    rw [trips8] at hy
    exact h a μ' ⟨hM'.off, fun k hk => absurd hk (by omega), fun _ => hM'.m0 (by decide), fun _ => funext fun y => hy y (y 0).isLt, fun h => by omega, fun h => by omega⟩

theorem t9_step (i : grid0.Coords) (v0 v63 v200 c6 : BitVec 32) (n : Fin k0_t9_loop.trips) (a : BitVec 32) (μ : Mem F) :
    Lwp 1 (i 0).val (i 1).val (At (k0_t9_body (F := F) i) v0 v63 v200 c6 n a) (fun _ σ => σ = ⟨Function.update μ cc0_scratch20 (put (16 * n.val) (k0_pay49
      (cut (256 * 0 + 16 * n.val) (μ cc0_scratch17 : Vec F S2048 .f32)) (cut (256 * 1 + 16 * n.val) (μ cc0_scratch17 : Vec F S2048 .f32))
      (cut (256 * 2 + 16 * n.val) (μ cc0_scratch17 : Vec F S2048 .f32)) (cut (256 * 3 + 16 * n.val) (μ cc0_scratch17 : Vec F S2048 .f32))
      (cut (256 * 4 + 16 * n.val) (μ cc0_scratch17 : Vec F S2048 .f32)) (cut (256 * 5 + 16 * n.val) (μ cc0_scratch17 : Vec F S2048 .f32))
      (cut (256 * 6 + 16 * n.val) (μ cc0_scratch17 : Vec F S2048 .f32)) (cut (256 * 7 + 16 * n.val) (μ cc0_scratch17 : Vec F S2048 .f32))) (μ cc0_scratch20 : Vec F S256 .f32)), none⟩) ⟨μ, none⟩ := by
  unfold At k0_t9_body
  beta_reduce
  rw [k0_part7_eq_skeleton]
  unfold k0_part7_skel
  refine step_load (cut_eq (off24 n) _) ?_
  refine step_load (cut_eq (off25 n 0) _) ?_
  refine step_load (cut_eq (off25 n 1) _) ?_
  refine step_load (cut_eq (off25 n 2) _) ?_
  refine step_load (cut_eq (off25 n 3) _) ?_
  refine step_load (cut_eq (off25 n 4) _) ?_
  refine step_load (cut_eq (off25 n 5) _) ?_
  refine step_load (cut_eq (off25 n 6) _) ?_
  refine step_load (cut_eq (off26 n) _) ?_
  refine step_store (put_eq (off26 n) _ _) ?_
  exact lwp_pure rfl

theorem merge9 {α : Type} {Q : α → LSt sig (Elt F) .scVector → Prop} (i : grid0.Coords) (L : Vec F S131072 .f32) (μ₀ μ : Mem F) (v0 v63 v200 c6 a : BitVec 32) (hM : Mrg i L μ₀ 2 8 μ)
    {k : BitVec 32 → TileProg F i α} (h : ∀ a μ', Mrg i L μ₀ 3 0 μ' → Lwp 1 (i 0).val (i 1).val (k a) Q ⟨μ', none⟩) :
    Lwp 1 (i 0).val (i 1).val (Scf.Loop.for k0_t9_loop k0_t9_ok a (At (k0_t9_body i) v0 v63 v200 c6) >>= k) Q ⟨μ, none⟩ := by
  refine step_for (fun n _ μ' => Mrg i L μ₀ 2 8 μ' ∧ ∀ y : S256.Idx, (y 0).val < 16 * n → (μ' cc0_scratch20 : Vec F S256 .f32) y = mg i L 2 y) ⟨hM, fun y hy => by omega⟩ ?_ ?_
  · rintro n a μ' ⟨hM', hy⟩
    have hn : n.val < 16 := by have := n.isLt; have := trips9; omega
    refine lwp_mono (p := .scVector _ _) _ _ ?_ _ (t9_step i v0 v63 v200 c6 n a μ')
    rintro a' σ' rfl
    refine ⟨_, rfl, ⟨hM'.off.update (by decide) _, ?_, ?_, ?_, ?_, ?_⟩, ?_⟩
    · rw [Function.update_of_ne (by decide)]; exact hM'.tm
    · intro h; rw [Function.update_of_ne (by decide)]; exact hM'.m0 h
    · intro h; rw [Function.update_of_ne (by decide)]; exact hM'.m1 h
    · intro h; omega
    · intro h; omega
    · rw [Function.update_self]
      refine fill hn hy ?_
      intro x
      rw [hM'.cut 0 _ (by decide) hn, hM'.cut 1 _ (by decide) hn, hM'.cut 2 _ (by decide) hn, hM'.cut 3 _ (by decide) hn, hM'.cut 4 _ (by decide) hn,
        hM'.cut 5 _ (by decide) hn, hM'.cut 6 _ (by decide) hn, hM'.cut 7 _ (by decide) hn]
      exact (congrFun (mg_cut i L 2 n.val hn) x).symm
  · rintro a μ' ⟨hM', hy⟩
    rw [trips9] at hy
    exact h a μ' ⟨hM'.off, fun k hk => absurd hk (by omega), fun _ => hM'.m0 (by decide), fun _ => hM'.m1 (by decide), fun _ => funext fun y => hy y (y 0).isLt, fun h => by omega⟩

theorem t10_step (i : grid0.Coords) (v0 : BitVec 32) (v5 : FVec F S16 .f32) (v63 : BitVec 32) (n : Fin k0_t10_loop.trips) (a : BitVec 32) (μ : Mem F) :
    Lwp 1 (i 0).val (i 1).val (At (k0_t10_body (F := F) i) v0 v5 v63 n a) (fun _ σ => σ = ⟨Function.update μ cc0_scratch21 (put (16 * n.val) (k0_pay50
      (cut (256 * 0 + 16 * n.val) (μ cc0_scratch17 : Vec F S2048 .f32)) (cut (256 * 1 + 16 * n.val) (μ cc0_scratch17 : Vec F S2048 .f32))
      (cut (256 * 2 + 16 * n.val) (μ cc0_scratch17 : Vec F S2048 .f32)) (cut (256 * 3 + 16 * n.val) (μ cc0_scratch17 : Vec F S2048 .f32))
      (cut (256 * 4 + 16 * n.val) (μ cc0_scratch17 : Vec F S2048 .f32)) (cut (256 * 5 + 16 * n.val) (μ cc0_scratch17 : Vec F S2048 .f32))
      (cut (256 * 6 + 16 * n.val) (μ cc0_scratch17 : Vec F S2048 .f32)) (cut (256 * 7 + 16 * n.val) (μ cc0_scratch17 : Vec F S2048 .f32))) (μ cc0_scratch21 : Vec F S256 .f32)), none⟩) ⟨μ, none⟩ := by
  unfold At k0_t10_body
  beta_reduce
  rw [k0_part8_eq_skeleton]
  unfold k0_part8_skel
  refine step_load (cut_eq (off27 n) _) ?_
  refine step_load (cut_eq (off28 n 0) _) ?_
  refine step_load (cut_eq (off28 n 1) _) ?_
  refine step_load (cut_eq (off28 n 2) _) ?_
  refine step_load (cut_eq (off28 n 3) _) ?_
  refine step_load (cut_eq (off28 n 4) _) ?_
  refine step_load (cut_eq (off28 n 5) _) ?_
  refine step_load (cut_eq (off28 n 6) _) ?_
  refine step_load (cut_eq (off29 n) _) ?_
  refine step_store (put_eq (off29 n) _ _) ?_
  exact lwp_pure rfl

theorem merge10 {α : Type} {Q : α → LSt sig (Elt F) .scVector → Prop} (i : grid0.Coords) (L : Vec F S131072 .f32) (μ₀ μ : Mem F) (v0 : BitVec 32) (v5 : FVec F S16 .f32) (v63 a : BitVec 32) (hM : Mrg i L μ₀ 3 8 μ)
    {k : BitVec 32 → TileProg F i α} (h : ∀ a μ', Mrg i L μ₀ 4 0 μ' → Lwp 1 (i 0).val (i 1).val (k a) Q ⟨μ', none⟩) :
    Lwp 1 (i 0).val (i 1).val (Scf.Loop.for k0_t10_loop k0_t10_ok a (At (k0_t10_body i) v0 v5 v63) >>= k) Q ⟨μ, none⟩ := by
  refine step_for (fun n _ μ' => Mrg i L μ₀ 3 8 μ' ∧ ∀ y : S256.Idx, (y 0).val < 16 * n → (μ' cc0_scratch21 : Vec F S256 .f32) y = mg i L 3 y) ⟨hM, fun y hy => by omega⟩ ?_ ?_
  · rintro n a μ' ⟨hM', hy⟩
    have hn : n.val < 16 := by have := n.isLt; have := trips10; omega
    refine lwp_mono (p := .scVector _ _) _ _ ?_ _ (t10_step i v0 v5 v63 n a μ')
    rintro a' σ' rfl
    refine ⟨_, rfl, ⟨hM'.off.update (by decide) _, ?_, ?_, ?_, ?_, ?_⟩, ?_⟩
    · rw [Function.update_of_ne (by decide)]; exact hM'.tm
    · intro h; rw [Function.update_of_ne (by decide)]; exact hM'.m0 h
    · intro h; rw [Function.update_of_ne (by decide)]; exact hM'.m1 h
    · intro h; rw [Function.update_of_ne (by decide)]; exact hM'.m2 h
    · intro h; omega
    · rw [Function.update_self]
      refine fill hn hy ?_
      intro x
      rw [hM'.cut 0 _ (by decide) hn, hM'.cut 1 _ (by decide) hn, hM'.cut 2 _ (by decide) hn, hM'.cut 3 _ (by decide) hn, hM'.cut 4 _ (by decide) hn,
        hM'.cut 5 _ (by decide) hn, hM'.cut 6 _ (by decide) hn, hM'.cut 7 _ (by decide) hn]
      exact (congrFun (mg_cut i L 3 n.val hn) x).symm
  · rintro a μ' ⟨hM', hy⟩
    rw [trips10] at hy
    exact h a μ' ⟨hM'.off, fun k hk => absurd hk (by omega), fun _ => hM'.m0 (by decide), fun _ => hM'.m1 (by decide), fun _ => hM'.m2 (by decide), fun _ => funext fun y => hy y (y 0).isLt⟩

theorem lapl {Q : FVec F S16 .f32 → LSt sig (Elt F) .scVector → Prop} (i : grid0.Coords) (V : Vec F S24576 .f32) (L : Vec F S131072 .f32) (μ₀ μ : Mem F) (v0 v63 : BitVec 32)
    (hM : Mrg i L μ₀ 4 0 μ) (hx : μ₀ cc0_scratch0 = vtx V (bat i) 0) (hy : μ₀ cc0_scratch1 = vtx V (bat i) 1) (hz : μ₀ cc0_scratch2 = vtx V (bat i) 2)
    (h : Q (lapW i V L 16) ⟨μ, none⟩) :
    Lwp 1 (i 0).val (i 1).val (Scf.Loop.for k0_t11_loop k0_t11_ok zeros (At (k0_t11_body (F := F) i) v0 zeros v63)) Q ⟨μ, none⟩ := by
  rw [← bind_pure (Scf.Loop.for k0_t11_loop k0_t11_ok zeros (At (k0_t11_body (F := F) i) v0 zeros v63))]
  refine step_for (fun n a μ' => μ' = μ ∧ a = lapW i V L n) ⟨rfl, rfl⟩ ?_ ?_
  · rintro n a μ' ⟨rfl, rfl⟩
    have hn : n.val < 16 := by have := n.isLt; have := trips11; omega
    unfold At k0_t11_body
    beta_reduce
    refine lwp_enter ?_
    rw [k0_part9_eq_skeleton]
    unfold k0_part9_skel
    refine step_load (cut_eq (off30 n) _) ?_
    refine step_load (cut_eq (off31 i n) _) ?_
    refine step_load (cut_eq (off31 i n) _) ?_
    refine step_load (cut_eq (off31 i n) _) ?_
    refine step_load (cut_eq (off30 n) _) ?_
    refine step_load (cut_eq (off30 n) _) ?_
    refine step_load (cut_eq (off30 n) _) ?_
    refine lwp_pure ?_
    refine lwp_pure ⟨_, rfl, rfl, ?_⟩
    rw [hM.m0 (by decide), hM.m1 (by decide), hM.m2 (by decide), hM.m3 (by decide), hM.off _ (by decide), hM.off _ (by decide), hM.off _ (by decide), hx, hy, hz,
      mg_cut _ _ _ _ hn, mg_cut _ _ _ _ hn, mg_cut _ _ _ _ hn, mg_cut _ _ _ _ hn]
    rfl
  · rintro a μ' ⟨rfl, rfl⟩
    rw [trips11]
    exact lwp_pure h

/-- The merging part of the middle piece. -/
def restB (i : grid0.Coords) (a : HandA F) : TileProg F i (FVec F S16 .f32) := do
  copyFirst i
  let v63 : BitVec 32 := Scalar.muli a.2.1 256#32
  At (k0_part17 i) a.1 v63 (Scalar.muli a.1 8#32)
  At (k0_part18 i) a.1 v63
  At (k0_part19 i) a.1 v63
  let v130 : BitVec 32 ← At (k0_part20 i) a.1 v63
  At (k0_part21 i) a.1 v63 v130
  let ⟨v157, c4_i32_115⟩ : Σ' (v157 : BitVec 32), BitVec 32 ← At (k0_part22 i) a.1 v63
  let v173 : BitVec 32 ← At (k0_part23 i) a.1 v63 v157 c4_i32_115
  At (k0_part24 i) a.1 v63 v173
  let ⟨v200, c6_i32_154⟩ : Σ' (v200 : BitVec 32), BitVec 32 ← At (k0_part25 i) a.1 v63
  let v216 : BitVec 32 ← At (k0_part26 i) a.1 v63 v200 c6_i32_154
  At (k0_part27 i) a.1 v63 v216
  let c8_i32_193 : BitVec 32 ← At (k0_part28 i) a.1 v63
  At (k0_part29 i) a.1 v63 c8_i32_193
  copyLast i
  let v263 : BitVec 32 ← Scf.Loop.for k0_t10_loop k0_t10_ok 0#32 (At (k0_t10_body i) a.1 a.2.2.2.1 v63)
  let v265 : FVec F S16 .f32 ← Scf.Loop.for k0_t11_loop k0_t11_ok a.2.2.2.1 (At (k0_t11_body i) a.1 a.2.2.2.1 v63)
  pure v265

theorem progB_eq (i : grid0.Coords) (a : HandA F) : progB i a = sortB i a.1 a.2.2.2.2.1 >>= fun _ => restB i a := rfl

set_option maxHeartbeats 2000000 in
theorem phaseM (i : grid0.Coords) (V : Vec F S24576 .f32) (L : Vec F S131072 .f32) (μ₀ : Mem F) (h0 : μ₀ cc0_scratch29 = L)
    (hx : μ₀ cc0_scratch0 = vtx V (bat i) 0) (hy : μ₀ cc0_scratch1 = vtx V (bat i) 1) (hz : μ₀ cc0_scratch2 = vtx V (bat i) 2) :
    Lwp 1 (i 0).val (i 1).val (restB i (handA (F := F) i)) (fun v σ => ∃ μ', σ = ⟨μ', none⟩ ∧ v = lapW i V L 16 ∧ Off mgs μ' μ₀) ⟨μ₀, none⟩ := by
  have hM : Mrg i L μ₀ 0 0 μ₀ := ⟨Off.refl _ _, fun k hk => absurd hk (by omega), fun h => by omega, fun h => by omega, fun h => by omega, fun h => by omega⟩
  unfold restB copyFirst
  refine lwp_enter ?_
  refine step_fetch 0 0 rfl h0 hM fun μ' hM => ?_
  refine lwp_pure ?_
  try dsimp only
  refine lwp_enter ?_
  rw [k0_part17_eq_skeleton]
  unfold k0_part17_skel
  refine step_fetch 1 0 rfl h0 hM fun μ' hM => ?_
  refine step_fetch 2 0 rfl h0 hM fun μ' hM => ?_
  refine lwp_pure ?_
  try dsimp only
  refine lwp_enter ?_
  rw [k0_part18_eq_skeleton]
  unfold k0_part18_skel
  refine step_fetch 3 0 rfl h0 hM fun μ' hM => ?_
  refine step_fetch 4 0 rfl h0 hM fun μ' hM => ?_
  refine step_fetch_enq 5 0 rfl ?_
  refine lwp_pure ?_
  try dsimp only
  refine lwp_enter ?_
  rw [k0_part19_eq_skeleton]
  unfold k0_part19_skel
  refine step_fetch_wait 5 0 rfl h0 hM fun μ' hM => ?_
  refine step_fetch 6 0 rfl h0 hM fun μ' hM => ?_
  refine step_fetch 7 0 rfl h0 hM fun μ' hM => ?_
  refine merge7 i L μ₀ _ _ _ _ hM fun _ μ' hM => ?_
  refine lwp_pure ?_
  try dsimp only
  refine lwp_enter ?_
  rw [k0_part20_eq_skeleton]
  unfold k0_part20_skel
  refine step_fetch 0 1 rfl h0 hM fun μ' hM => ?_
  refine step_fetch 1 1 rfl h0 hM fun μ' hM => ?_
  refine lwp_pure ?_
  try dsimp only
  refine lwp_enter ?_
  rw [k0_part21_eq_skeleton]
  unfold k0_part21_skel
  refine step_fetch 2 1 rfl h0 hM fun μ' hM => ?_
  refine step_fetch 3 1 rfl h0 hM fun μ' hM => ?_
  refine step_fetch_enq 4 1 rfl ?_
  refine lwp_pure ?_
  try dsimp only
  refine lwp_enter ?_
  rw [k0_part22_eq_skeleton]
  unfold k0_part22_skel
  refine step_fetch_wait 4 1 rfl h0 hM fun μ' hM => ?_
  refine step_fetch 5 1 rfl h0 hM fun μ' hM => ?_
  refine step_fetch 6 1 rfl h0 hM fun μ' hM => ?_
  refine lwp_pure ?_
  try dsimp only
  refine lwp_enter ?_
  rw [k0_part23_eq_skeleton]
  unfold k0_part23_skel
  refine step_fetch 7 1 rfl h0 hM fun μ' hM => ?_
  refine merge8 i L μ₀ _ _ _ _ _ _ hM fun _ μ' hM => ?_
  refine step_fetch 0 2 rfl h0 hM fun μ' hM => ?_
  refine lwp_pure ?_
  try dsimp only
  refine lwp_enter ?_
  rw [k0_part24_eq_skeleton]
  unfold k0_part24_skel
  refine step_fetch 1 2 rfl h0 hM fun μ' hM => ?_
  refine step_fetch 2 2 rfl h0 hM fun μ' hM => ?_
  refine step_fetch_enq 3 2 rfl ?_
  refine lwp_pure ?_
  try dsimp only
  refine lwp_enter ?_
  rw [k0_part25_eq_skeleton]
  unfold k0_part25_skel
  refine step_fetch_wait 3 2 rfl h0 hM fun μ' hM => ?_
  refine step_fetch 4 2 rfl h0 hM fun μ' hM => ?_
  refine step_fetch 5 2 rfl h0 hM fun μ' hM => ?_
  refine lwp_pure ?_
  try dsimp only
  refine lwp_enter ?_
  rw [k0_part26_eq_skeleton]
  unfold k0_part26_skel
  refine step_fetch 6 2 rfl h0 hM fun μ' hM => ?_
  refine step_fetch 7 2 rfl h0 hM fun μ' hM => ?_
  refine merge9 i L μ₀ _ _ _ _ _ _ hM fun _ μ' hM => ?_
  refine lwp_pure ?_
  try dsimp only
  refine lwp_enter ?_
  rw [k0_part27_eq_skeleton]
  unfold k0_part27_skel
  refine step_fetch 0 3 rfl h0 hM fun μ' hM => ?_
  refine step_fetch 1 3 rfl h0 hM fun μ' hM => ?_
  refine lwp_pure ?_
  try dsimp only
  refine lwp_enter ?_
  rw [k0_part28_eq_skeleton]
  unfold k0_part28_skel
  refine step_fetch 2 3 rfl h0 hM fun μ' hM => ?_
  refine step_fetch 3 3 rfl h0 hM fun μ' hM => ?_
  refine step_fetch 4 3 rfl h0 hM fun μ' hM => ?_
  refine lwp_pure ?_
  try dsimp only
  refine lwp_enter ?_
  rw [k0_part29_eq_skeleton]
  unfold k0_part29_skel
  refine step_fetch 5 3 rfl h0 hM fun μ' hM => ?_
  refine step_fetch 6 3 rfl h0 hM fun μ' hM => ?_
  refine lwp_pure ?_
  try dsimp only
  refine lwp_enter ?_
  unfold copyLast
  refine step_fetch 7 3 rfl h0 hM fun μ' hM => ?_
  refine lwp_pure ?_
  try dsimp only
  refine merge10 i L μ₀ _ _ _ _ _ hM fun _ μ' hM => ?_
  refine lapl i V L μ₀ _ _ _ hM hx hy hz ?_
  exact ⟨_, rfl, rfl, hM.off⟩

end Cert.Proof.Tile
end
-- ==== Proof.Split.lean ====
/-
  How the tiles of a SparseCore divide the memory they share, before, between and after their two meetings: what one tile hands to another
  at a meeting is the part that the first held before it and the second holds after it.
-/
module

public import proofs.«01_k».proof.Proof.Barrier
public import proofs.«01_k».proof.Proof.PhaseC
public import proofs.«01_k».proof.Proof.Merge
public import proofs.«01_k».proof.Proof.Body

@[expose] public section

noncomputable section

namespace Cert.Proof.Tile

open Cert.KernelIdeal Cert.KernelIdeal.Gen Cert.Proof.LocalRun Cert.Proof.Meet

open Idealize.ShloMosaic
open Idealize.ShloMosaic.SparseCore (S V T)
open Idealize.ShloMosaic.SparseCore.Cfg (HIx Blocks Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts₀
attribute [local instance] Cert.Proof.Meet.blocks
variable {F : FTy → Type}

local notation "𝕄" => MT nD τ sig (HIx 2) (Elt F) ℕ UU ℕ

/-! ## Dividing an array -/

section Divide

variable {ℓ : Loc nD τ sig} {q : PosShare TreeShare} {f : Buf (Elt F) ℓ}

/-- Parts that do not meet and together cover `X` divide it. -/
theorem divide (X : Finset (Idx ℓ)) (Y : Fin 16 → Finset (Idx ℓ)) (hcov : ∀ x ∈ X, ∃ j, x ∈ Y j)
    (hdis : ∀ j j' x, x ∈ X → x ∈ Y j → x ∈ Y j' → j = j') :
    (ℓ ↦[X]{q} f : sProp 𝕄) = bigSep Finset.univ fun j : Fin 16 => (ℓ ↦[X ∩ Y j]{q} f : sProp 𝕄) := by
  rw [← pointsTo_biUnion]
  · congr 1
    ext x
    simp only [Finset.mem_biUnion, Finset.mem_inter, Finset.mem_univ, true_and]
    exact ⟨fun h => (hcov x h).imp fun j hj => ⟨h, hj⟩, fun ⟨_, h, _⟩ => h⟩
  · intro j _ j' _ hne
    refine Finset.disjoint_left.mpr fun x hx hx' => hne ?_
    exact hdis j j' x (Finset.mem_inter.mp hx).1 (Finset.mem_inter.mp hx).2 (Finset.mem_inter.mp hx').2

/-- The same, the parts taken out of a whole. -/
theorem divide_all (Y : Fin 16 → Finset (Idx ℓ)) (hcov : ∀ x, ∃ j, x ∈ Y j) (hdis : ∀ j j' x, x ∈ Y j → x ∈ Y j' → j = j') :
    (ℓ ↦[Finset.univ]{q} f : sProp 𝕄) = bigSep Finset.univ fun j : Fin 16 => (ℓ ↦[Y j]{q} f : sProp 𝕄) := by
  rw [divide Finset.univ Y (fun x _ => hcov x) (fun j j' x _ => hdis j j' x)]
  refine bigSep_congr fun j _ => ?_
  rw [Finset.univ_inter]

theorem rank8 : ∀ (h : Fin 2) (j : Fin 16), j.val / 8 = h.val →
    ((Finset.univ.filter fun k : Fin 16 => k.val / 8 = h.val).filter (· < j)).card = j.val % 8 := by decide +kernel
theorem card8 : ∀ (h : Fin 2), (Finset.univ.filter fun k : Fin 16 => k.val / 8 = h.val).card = 8 := by decide +kernel
theorem some8 : ∀ (h : Fin 2), (Finset.univ.filter fun k : Fin 16 => k.val / 8 = h.val).Nonempty := by decide +kernel

/-- Read shares for the eight tiles of half `h`. -/
theorem deal8 (X : Finset (Idx ℓ)) (h : Fin 2) :
    (ℓ ↦[X]{fullShare} f : sProp 𝕄)
      = bigSep (Finset.univ.filter fun k : Fin 16 => k.val / 8 = h.val) fun j => (ℓ ↦[X]{shr (j.val % 8)} f : sProp 𝕄) := by
  rw [Transfers.pointsTo_deal _ (some8 h) fullShare]
  refine bigSep_congr fun j hj => ?_
  unfold Transfers.dealOf shr
  rw [rank8 h j (Finset.mem_filter.mp hj).2, card8 h]

/-- The same to all sixteen, the other half's tiles getting nothing. -/
theorem deal16 (X : Finset (Idx ℓ)) (Y : Fin 16 → Finset (Idx ℓ)) (h : Fin 2)
    (hin : ∀ j : Fin 16, j.val / 8 = h.val → X ∩ Y j = X) (hout : ∀ j : Fin 16, j.val / 8 ≠ h.val → X ∩ Y j = ∅) :
    (ℓ ↦[X]{fullShare} f : sProp 𝕄) = bigSep Finset.univ fun j : Fin 16 => (ℓ ↦[X ∩ Y j]{shr (j.val % 8)} f : sProp 𝕄) := by
  rw [SparseCore.bigSep_filter_split' Finset.univ (fun k : Fin 16 => k.val / 8 = h.val)]
  have e : (bigSep (Finset.univ.filter fun k : Fin 16 => ¬ k.val / 8 = h.val) fun j => (ℓ ↦[X ∩ Y j]{shr (j.val % 8)} f : sProp 𝕄)) = (BI.emp : sProp 𝕄) := by
    rw [← bigSep_emp_const (Finset.univ.filter fun k : Fin 16 => ¬ k.val / 8 = h.val)]
    refine bigSep_congr fun j hj => ?_
    rw [hout j (Finset.mem_filter.mp hj).2, pointsTo_empty]; rfl
  rw [e, deal8 X h]
  refine Eq.trans ?_ (equiv_iff.mp sep_emp).symm
  refine bigSep_congr fun j hj => ?_
  rw [hin j (Finset.mem_filter.mp hj).2]

/-- Read shares of one part, at whatever contents, are at one contents. -/
theorem same_contents (X : Finset (Idx ℓ)) (S : Finset (Fin 16)) (qs : Fin 16 → PosShare TreeShare) (fs : Fin 16 → Buf (Elt F) ℓ) (q₀ : PosShare TreeShare)
    (f₀ : Buf (Elt F) ℓ) :
    iprop((ℓ ↦[X]{q₀} f₀) ∗ bigSep S fun k => (ℓ ↦[X]{qs k} fs k))
      ⊢ (iprop((ℓ ↦[X]{q₀} f₀) ∗ bigSep S fun k => (ℓ ↦[X]{qs k} f₀)) : sProp 𝕄) := by
  induction S using Finset.induction_on with
  | empty => rw [bigSep_empty, bigSep_empty]
  | insert a S ha ih =>
    rw [SparseCore.bigSep_insert' ha, SparseCore.bigSep_insert' ha]
    have key : iprop((ℓ ↦[X]{q₀} f₀) ∗ (ℓ ↦[X]{qs a} fs a)) ⊢ (iprop((ℓ ↦[X]{q₀} f₀) ∗ (ℓ ↦[X]{qs a} f₀)) : sProp 𝕄) := by
      intro x hx
      have := pointsTo_agree x hx
      have h : ∀ i ∈ X, fs a i = f₀ i := fun i hi => ((this i (by simpa using hi)).1).symm
      rw [pointsTo_congr h] at hx
      exact hx
    iintro ⟨H0, Ha, HS⟩
    ihave H := key $$ [H0 Ha]
    · isplitl [H0] <;> iassumption
    icases H with ⟨H0, Ha⟩
    ihave H := ih $$ [H0 HS]
    · isplitl [H0] <;> iassumption
    icases H with ⟨H0, HS⟩
    isplitl [H0]; · iexact H0
    isplitl [Ha] <;> iassumption

/-- The eight read shares of a part, each at some contents, are the part at some contents. -/
theorem undeal8 [Nonempty (Buf (Elt F) ℓ)] (X : Finset (Idx ℓ)) (h : Fin 2) :
    (bigSep (Finset.univ.filter fun k : Fin 16 => k.val / 8 = h.val) fun j => iprop(∃ f, (ℓ ↦[X]{shr (j.val % 8)} f)))
      ⊢ (iprop(∃ f, (ℓ ↦[X]{fullShare} f)) : sProp 𝕄) := by
  refine (bigSep_exists_pi (Y := fun _ => Buf (Elt F) ℓ) _ (fun (j : Fin 16) f => (ℓ ↦[X]{shr (j.val % 8)} f : sProp 𝕄))).trans ?_
  obtain ⟨k, hk⟩ := some8 h
  have key : ∀ fs : Fin 16 → Buf (Elt F) ℓ, (bigSep (Finset.univ.filter fun k : Fin 16 => k.val / 8 = h.val) fun j => (ℓ ↦[X]{shr (j.val % 8)} fs j))
      ⊢ ((ℓ ↦[X]{fullShare} fs k) : sProp 𝕄) := by
    intro fs
    rw [deal8 (F := F) (f := fs k) X h, SparseCore.bigSep_erase' hk, SparseCore.bigSep_erase' hk]
    exact same_contents X _ (fun j => shr (j.val % 8)) fs (shr (k.val % 8)) (fs k)
  iintro ⟨%fs, H⟩
  iexists (fs k)
  iapply (key fs)
  iexact H

end Divide

/-! ## What a tile holds, and what it hands on -/

/-- What tile `(c, i)` holds of buffer `r`, after `ph` meetings. -/
abbrev piece (ph : ℕ) (d : Dev nD) (c : Fin τ.nSC) (i : Fin τ.nSub) (r : Ref sig .scVector) (f : r.ty.Contents (Elt F)) : Res F :=
  ((V d c i).loc r ↦[(acc ph c.val i.val).own r]{(acc ph c.val i.val).sh r} f)

/-- What tile `i` hands to tile `j` of it at the meeting then. -/
abbrev hand (ph : ℕ) (d : Dev nD) (c : Fin τ.nSC) (i j : Fin τ.nSub) (r : Ref sig .scVector) (f : r.ty.Contents (Elt F)) : Res F :=
  ((V d c i).loc r ↦[(acc ph c.val i.val).own r ∩ (acc (ph + 1) c.val j.val).own r]{(acc (ph + 1) c.val j.val).sh r} f)

theorem lt_numel {s : Shape} (x : s.Idx) : (s.rowMajor x).val < s.numel := (s.rowMajor x).isLt

section Hand

variable {ph : ℕ} {d : Dev nD} {c : Fin τ.nSC} {r : Ref sig .scVector} {f : r.ty.Contents (Elt F)}

/-- A tile cuts what it holds into parts for the others. -/
theorem send_cut (i : Fin τ.nSub) (hq : ∀ j : Fin τ.nSub, (acc (ph + 1) c.val j.val).sh r = (acc ph c.val i.val).sh r)
    (hcov : ∀ n, n < r.ty.shape.numel → ∃ j : Fin 16, ownP (ph + 1) c.val j.val r.space r.idx.val n)
    (hdis : ∀ n, n < r.ty.shape.numel → ∀ j j' : Fin 16, ownP (ph + 1) c.val j.val r.space r.idx.val n → ownP (ph + 1) c.val j'.val r.space r.idx.val n → j = j') :
    piece ph d c i r f = bigSep Finset.univ fun j : Fin τ.nSub => hand ph d c i j r f := by
  unfold piece hand
  refine (divide (ℓ := (V d c i).loc r) _ (fun j : Fin 16 => (acc (ph + 1) c.val j.val).own r) (fun x _ => ?_) (fun j j' x _ h h' => ?_)).trans ?_
  · exact (hcov _ (lt_numel x)).imp fun j hj => mem_own.2 hj
  · exact hdis _ (lt_numel x) j j' (mem_own.1 h) (mem_own.1 h')
  · exact bigSep_congr fun j _ => by rw [hq j]

/-- A tile gives its half's tiles a read share each of what it holds. -/
theorem send_deal (i : Fin τ.nSub) (hq : (acc ph c.val i.val).sh r = fullShare) (hq' : ∀ j : Fin τ.nSub, (acc (ph + 1) c.val j.val).sh r = shr (j.val % 8))
    (hin : ∀ n, n < r.ty.shape.numel → ∀ j : Fin 16, j.val / 8 = i.val / 8 → ownP ph c.val i.val r.space r.idx.val n → ownP (ph + 1) c.val j.val r.space r.idx.val n)
    (hout : ∀ n, n < r.ty.shape.numel → ∀ j : Fin 16, j.val / 8 ≠ i.val / 8 → ownP ph c.val i.val r.space r.idx.val n → ¬ ownP (ph + 1) c.val j.val r.space r.idx.val n) :
    piece ph d c i r f = bigSep Finset.univ fun j : Fin τ.nSub => hand ph d c i j r f := by
  unfold piece hand
  have hi : i.val < 16 := i.isLt
  rw [hq]
  refine (deal16 (ℓ := (V d c i).loc r) _ (fun j : Fin 16 => (acc (ph + 1) c.val j.val).own r) (⟨i.val / 8, by omega⟩ : Fin 2) (fun j hj => ?_) (fun j hj => ?_)).trans ?_
  · exact Finset.inter_eq_left.mpr fun x hx => mem_own.2 (hin _ (lt_numel x) j hj (mem_own.1 hx))
  · refine Finset.eq_empty_of_forall_notMem fun x hx => ?_
    exact hout _ (lt_numel x) j hj (mem_own.1 (Finset.mem_inter.mp hx).1) (mem_own.1 (Finset.mem_inter.mp hx).2)
  · exact bigSep_congr fun j _ => by rw [hq' j]

/-- What the sixteen hand to a tile is what it then holds. -/
theorem receive (j : Fin τ.nSub) (hloc : ∀ i : Fin τ.nSub, hand ph d c i j r f
      = ((V d c j).loc r ↦[(acc ph c.val i.val).own r ∩ (acc (ph + 1) c.val j.val).own r]{(acc (ph + 1) c.val j.val).sh r} f))
    (hcov : ∀ n, n < r.ty.shape.numel → ∃ i : Fin 16, ownP ph c.val i.val r.space r.idx.val n)
    (hdis : ∀ n, n < r.ty.shape.numel → ∀ i i' : Fin 16, ownP ph c.val i.val r.space r.idx.val n → ownP ph c.val i'.val r.space r.idx.val n → i = i') :
    (bigSep Finset.univ fun i : Fin τ.nSub => hand ph d c i j r f) = piece (ph + 1) d c j r f := by
  refine Eq.symm ?_
  unfold piece
  refine (divide (ℓ := (V d c j).loc r) _ (fun i : Fin 16 => (acc ph c.val i.val).own r) (fun x _ => ?_) (fun i i' x _ h h' => ?_)).trans ?_
  · exact (hcov _ (lt_numel x)).imp fun i hi => mem_own.2 hi
  · exact hdis _ (lt_numel x) i i' (mem_own.1 h) (mem_own.1 h')
  · refine bigSep_congr fun i _ => ?_
    rw [hloc i, Finset.inter_comm]

end Hand

theorem regroup (A B C D E : Res F) : iprop((A ∗ B ∗ C ∗ D) ∗ E) = (iprop(A ∗ B ∗ C ∗ D ∗ E) : Res F) := by
  have h1 : iprop((A ∗ B ∗ C ∗ D) ∗ E) ⊢ (iprop(A ∗ B ∗ C ∗ D ∗ E) : Res F) := by
    iintro ⟨⟨H1, H2, H3, H4⟩, H5⟩
    isplitl [H1]; · iexact H1
    isplitl [H2]; · iexact H2
    isplitl [H3]; · iexact H3
    isplitl [H4] <;> iassumption
  have h2 : iprop(A ∗ B ∗ C ∗ D ∗ E) ⊢ (iprop((A ∗ B ∗ C ∗ D) ∗ E) : Res F) := by
    iintro ⟨H1, H2, H3, H4, H5⟩
    isplitr [H5]
    · isplitl [H1]; · iexact H1
      isplitl [H2]; · iexact H2
      isplitl [H3] <;> iassumption
    · iexact H5
  exact equiv_iff.mp ⟨h1, h2⟩

/-! ## Who holds what, by numbers -/

theorem cov_ea {ph c n : ℕ} {k : Fin 3} (h : n < 24576) (hk : k.val = 2 → ph = 0) : ∃ j : Fin 16, ownP ph c j.val .shared k.val n := by
  by_cases hp : ph = 0
  · refine ⟨⟨n / 12288 * 8 + n % 4096 / 512, by omega⟩, ?_⟩
    fin_cases k <;> simp only [ownP, hp, ↓reduceIte] <;> omega
  · refine ⟨⟨n / 12288 * 8, by omega⟩, ?_⟩
    fin_cases k
    · simp only [ownP, hp, ↓reduceIte]; omega
    · simp only [ownP, hp, ↓reduceIte]; omega
    · exact absurd (hk rfl) hp

theorem dis_ea {ph c n : ℕ} {k : Fin 3} (hk : k.val = 2 → ph = 0) (j j' : Fin 16) (h : ownP ph c j.val .shared k.val n) (h' : ownP ph c j'.val .shared k.val n) : j = j' := by
  by_cases hp : ph = 0
  · fin_cases k <;> simp only [ownP, hp, ↓reduceIte] at h h' <;> exact Fin.ext (by omega)
  · fin_cases k
    · simp only [ownP, hp, ↓reduceIte] at h h'; exact Fin.ext (by omega)
    · simp only [ownP, hp, ↓reduceIte] at h h'; exact Fin.ext (by omega)
    · exact absurd (hk rfl) hp

theorem cov_lap {ph c n : ℕ} (h : n < 131072) : ∃ j : Fin 16, ownP ph c j.val .shared 6 n := by
  by_cases hp : ph = 0
  · exact ⟨⟨n / 8192, by omega⟩, by simp only [ownP, hp, ↓reduceIte]⟩
  · exact ⟨⟨n / 65536 * 8 + n % 2048 / 256, by omega⟩, by simp only [ownP, hp, ↓reduceIte]; omega⟩

theorem dis_lap {ph c n : ℕ} (j j' : Fin 16) (h : ownP ph c j.val .shared 6 n) (h' : ownP ph c j'.val .shared 6 n) : j = j' := by
  by_cases hp : ph = 0
  · simp only [ownP, hp, ↓reduceIte] at h h'; exact Fin.ext (by omega)
  · simp only [ownP, hp, ↓reduceIte] at h h'; exact Fin.ext (by omega)

/-! ## The first meeting -/

section Meetings

variable (Vd : Dev nD → Vec F S24576 .f32) (Gd : Dev nD → Vec F S49152 .i32)

variable [FloatOps F]

/-- What tile `i` hands to tile `j` at the first meeting. -/
def P1 : Fam F := fun d c i j => iprop(hand 0 d c i j cc0_scratch23 (shEA (F := F) (Gd d) c.val) ∗ hand 0 d c i j cc0_scratch24 (shPK (F := F) (Gd d) c.val)
  ∗ hand 0 d c i j cc0_scratch25 (shEO (F := F) (Gd d) c.val) ∗ hand 0 d c i j cc0_scratch29 (shLAP (Vd d) (Gd d) c.val))

/-- What tile `i` hands to tile `j` at the second: the sorted edges and where each vertex's run of them starts and ends. -/
def P2 : Fam F := fun d c i j => iprop(∃ (f : cc0_scratch26.ty.Contents (Elt F)) (g : cc0_scratch27.ty.Contents (Elt F)) (h : cc0_scratch28.ty.Contents (Elt F)),
  ⌜i.val % 8 = 0 → SortedOf (EA (F := F) (Gd d) (2 * c.val + i.val / 8)) (PK (F := F) (Gd d) (2 * c.val + i.val / 8)) (i.val / 8) f g h⌝
    ∗ hand 1 d c i j cc0_scratch26 f ∗ hand 1 d c i j cc0_scratch27 g ∗ hand 1 d c i j cc0_scratch28 h)

omit [FloatOps F] in
theorem take3 (Φ : Ref sig .scVector → Res F) (s : Finset (Ref sig .scVector)) {a b e : Ref sig .scVector} (ha : a ∈ s) (hb : b ∈ s) (he : e ∈ s)
    (hba : b ≠ a) (hea : e ≠ a) (heb : e ≠ b) :
    bigSep s Φ = iprop(Φ a ∗ Φ b ∗ Φ e ∗ bigSep (((s.erase a).erase b).erase e) Φ) := by
  rw [SparseCore.bigSep_erase' ha, SparseCore.bigSep_erase' (Finset.mem_erase.mpr ⟨hba, hb⟩),
    SparseCore.bigSep_erase' (Finset.mem_erase.mpr ⟨heb, Finset.mem_erase.mpr ⟨hea, he⟩⟩)]

omit [FloatOps F] in
theorem take4 (Φ : Ref sig .scVector → Res F) (s : Finset (Ref sig .scVector)) {a b e g : Ref sig .scVector} (ha : a ∈ s) (hb : b ∈ s) (he : e ∈ s) (hg : g ∈ s)
    (hba : b ≠ a) (hea : e ≠ a) (heb : e ≠ b) (hga : g ≠ a) (hgb : g ≠ b) (hge : g ≠ e) :
    bigSep s Φ = iprop(Φ a ∗ Φ b ∗ Φ e ∗ Φ g ∗ bigSep ((((s.erase a).erase b).erase e).erase g) Φ) := by
  rw [take3 Φ s ha hb he hba hea heb,
    SparseCore.bigSep_erase' (Finset.mem_erase.mpr ⟨hge, Finset.mem_erase.mpr ⟨hgb, Finset.mem_erase.mpr ⟨hga, hg⟩⟩⟩)]

omit [FloatOps F] in
theorem ownP_first (c s : ℕ) (sp : Space) (j x : ℕ) (h : sp = .shared → j = 3 ∨ j = 4 ∨ j = 5) : ownP 0 c s sp j x ↔ ownP 1 c s sp j x := by
  cases sp
  all_goals first | exact Iff.rfl | rfl | (rcases h rfl with rfl | rfl | rfl <;> simp [ownP]) | (unfold ownP; split <;> simp_all)

omit [FloatOps F] in
theorem shP_first (c s : ℕ) (sp : Space) (j : ℕ) (h : sp = .shared → j = 3 ∨ j = 4 ∨ j = 5) : shP 0 c s sp j = shP 1 c s sp j := by
  cases sp
  all_goals first | exact Iff.rfl | rfl | (rcases h rfl with rfl | rfl | rfl <;> simp [shP]) | (unfold shP; split <;> simp_all)

omit [FloatOps F] in
theorem ownP_second (c s : ℕ) (sp : Space) (j x : ℕ) (h : sp = .shared → j = 0 ∨ j = 1 ∨ j = 2 ∨ j = 6) : ownP 1 c s sp j x ↔ ownP 2 c s sp j x := by
  cases sp
  all_goals first | exact Iff.rfl | rfl | (rcases h rfl with rfl | rfl | rfl | rfl <;> simp [ownP]) | (unfold ownP; split <;> simp_all)

omit [FloatOps F] in
theorem shP_second (c s : ℕ) (sp : Space) (j : ℕ) (h : sp = .shared → j = 0 ∨ j = 1 ∨ j = 2 ∨ j = 6) : shP 1 c s sp j = shP 2 c s sp j := by
  cases sp
  all_goals first | exact Iff.rfl | rfl | (rcases h rfl with rfl | rfl | rfl | rfl <;> simp [shP]) | (unfold shP; split <;> simp_all)

omit [FloatOps F] in
theorem rest_first : ∀ r : Ref sig .scVector, r ≠ cc0_scratch23 → r ≠ cc0_scratch24 → r ≠ cc0_scratch25 → r ≠ cc0_scratch29 → r.space = .shared →
    r.idx.val = 3 ∨ r.idx.val = 4 ∨ r.idx.val = 5 := by
  rintro ⟨sp, j, nm⟩ h1 h2 h3 h4 (rfl : sp = .shared)
  have hj : j.val < 7 := j.isLt
  have key : ∀ n : Fin 7, j.val = n.val → n.val = 3 ∨ n.val = 4 ∨ n.val = 5 := by
    intro n hn
    fin_cases n
    · exact absurd (by congr 1; exact Fin.ext hn) h1
    · exact absurd (by congr 1; exact Fin.ext hn) h2
    · exact absurd (by congr 1; exact Fin.ext hn) h3
    · simp
    · simp
    · simp
    · exact absurd (by congr 1; exact Fin.ext hn) h4
  exact key ⟨j.val, hj⟩ rfl

omit [FloatOps F] in
theorem rest_second : ∀ r : Ref sig .scVector, r ≠ cc0_scratch26 → r ≠ cc0_scratch27 → r ≠ cc0_scratch28 → r.space = .shared →
    r.idx.val = 0 ∨ r.idx.val = 1 ∨ r.idx.val = 2 ∨ r.idx.val = 6 := by
  rintro ⟨sp, j, nm⟩ h1 h2 h3 (rfl : sp = .shared)
  have hj : j.val < 7 := j.isLt
  have key : ∀ n : Fin 7, j.val = n.val → n.val = 0 ∨ n.val = 1 ∨ n.val = 2 ∨ n.val = 6 := by
    intro n hn
    fin_cases n
    · simp
    · simp
    · simp
    · exact absurd (by congr 1; exact Fin.ext hn) h1
    · exact absurd (by congr 1; exact Fin.ext hn) h2
    · exact absurd (by congr 1; exact Fin.ext hn) h3
    · simp
  exact key ⟨j.val, hj⟩ rfl

/-- The buffers a tile names. -/
abbrev Names : Finset (Ref sig .scVector) := (acc 0 0 0).refs
/-- Those of them the first meeting leaves as they are, -/
abbrev Rest₁ : Finset (Ref sig .scVector) := (((Names.erase cc0_scratch23).erase cc0_scratch24).erase cc0_scratch25).erase cc0_scratch29
/-- and those the second does. -/
abbrev Rest₂ : Finset (Ref sig .scVector) := ((Names.erase cc0_scratch26).erase cc0_scratch27).erase cc0_scratch28

omit [FloatOps F] in
theorem piece_first (d : Dev nD) (c : Fin τ.nSC) (i : Fin τ.nSub) {r : Ref sig .scVector} (hr : r ∈ Rest₁) (f : r.ty.Contents (Elt F)) :
    piece 0 d c i r f = piece 1 d c i r f := by
  simp only [Finset.mem_erase] at hr
  have h := rest_first r hr.2.2.2.1 hr.2.2.1 hr.2.1 hr.1
  unfold piece
  rw [show (acc 0 c.val i.val).own r = (acc 1 c.val i.val).own r from Finset.ext fun x => by
      rw [mem_own, mem_own]; exact ownP_first _ _ _ _ _ h,
    show (acc 0 c.val i.val).sh r = (acc 1 c.val i.val).sh r from shP_first _ _ _ _ h]

omit [FloatOps F] in
theorem piece_second (d : Dev nD) (c : Fin τ.nSC) (i : Fin τ.nSub) {r : Ref sig .scVector} (hr : r ∈ Rest₂) (f : r.ty.Contents (Elt F)) :
    piece 1 d c i r f = piece 2 d c i r f := by
  simp only [Finset.mem_erase] at hr
  have h := rest_second r hr.2.2.1 hr.2.1 hr.1
  unfold piece
  rw [show (acc 1 c.val i.val).own r = (acc 2 c.val i.val).own r from Finset.ext fun x => by
      rw [mem_own, mem_own]; exact ownP_second _ _ _ _ _ h,
    show (acc 1 c.val i.val).sh r = (acc 2 c.val i.val).sh r from shP_second _ _ _ _ h]

/-- The state after the first meeting: what the tiles handed over is there. -/
def met₁ (V : Vec F S24576 .f32) (G : Vec F S49152 .i32) (c : ℕ) (μ : Mem F) : Mem F :=
  Function.update (Function.update (Function.update (Function.update μ cc0_scratch23 (shEA (F := F) G c)) cc0_scratch24 (shPK (F := F) G c))
    cc0_scratch25 (shEO (F := F) G c)) cc0_scratch29 (shLAP V G c)

/-- The state after the second. -/
def met₂ (f : cc0_scratch26.ty.Contents (Elt F)) (g : cc0_scratch27.ty.Contents (Elt F)) (h : cc0_scratch28.ty.Contents (Elt F)) (μ : Mem F) : Mem F :=
  Function.update (Function.update (Function.update μ cc0_scratch26 f) cc0_scratch27 g) cc0_scratch28 h

omit [FloatOps F] in
theorem names {r : Ref sig .scVector} (h : named r = true) : r ∈ Names := mem_refs h

/-- Before the first meeting a tile lays out what it has for the others. -/
theorem meet₁_send (d : Dev nD) (c : Fin τ.nSC) (i : Fin τ.nSub) (μ : Mem F)
    (hea : ∀ y : S24576.Idx, (y 0).val / 12288 = i.val / 8 → (y 0).val % 4096 / 512 = i.val % 8 → (μ cc0_scratch23 : Vec F S24576 .i32) y = shEA (F := F) (Gd d) c.val y)
    (hpk : ∀ y : S24576.Idx, (y 0).val / 12288 = i.val / 8 → (y 0).val % 4096 / 512 = i.val % 8 → (μ cc0_scratch24 : Vec F S24576 .i32) y = shPK (F := F) (Gd d) c.val y)
    (heo : ∀ y : S24576.Idx, (y 0).val / 12288 = i.val / 8 → (y 0).val % 4096 / 512 = i.val % 8 → (μ cc0_scratch25 : Vec F S24576 .i32) y = shEO (F := F) (Gd d) c.val y)
    (hlap : ∀ y : S131072.Idx, (y 0).val / 8192 = i.val → (μ cc0_scratch29 : Vec F S131072 .f32) y = shLAP (Vd d) (Gd d) c.val y) :
    (memSt (V d c i) (acc 0 c.val i.val) μ : Res F)
      = iprop((bigSep Finset.univ fun j : Fin τ.nSub => P1 Vd Gd d c i j) ∗ bigSep Rest₁ fun r => piece 1 d c i r (μ r)) := by
  have e0 : (memSt (V d c i) (acc 0 c.val i.val) μ : Res F) = bigSep Names fun r => piece 0 d c i r (μ r) := rfl
  rw [e0, take4 (fun r => piece 0 d c i r (μ r)) Names (names (r := cc0_scratch23) (by decide)) (names (r := cc0_scratch24) (by decide))
    (names (r := cc0_scratch25) (by decide)) (names (r := cc0_scratch29) (by decide)) (by decide) (by decide) (by decide) (by decide) (by decide) (by decide),
    bigSep_congr (fun r hr => piece_first d c i hr (μ r))]
  unfold P1
  rw [bigSep_sep', bigSep_sep', bigSep_sep']
  have h23 : piece 0 d c i cc0_scratch23 (μ cc0_scratch23) = bigSep Finset.univ fun j : Fin τ.nSub => hand 0 d c i j cc0_scratch23 (shEA (F := F) (Gd d) c.val) := by
    rw [← send_cut i (fun j => rfl) (fun n hn => cov_ea (k := 0) hn (by decide)) (fun n _ => dis_ea (k := 0) (by decide))]
    refine pointsTo_congr fun y hy => ?_
    have h := mem_own.1 hy
    rw [show (cc0_scratch23.ty.shape.rowMajor y).val = (y 0).val from Shape.rowMajor_val_one y] at h
    exact hea y h.1 h.2
  have h24 : piece 0 d c i cc0_scratch24 (μ cc0_scratch24) = bigSep Finset.univ fun j : Fin τ.nSub => hand 0 d c i j cc0_scratch24 (shPK (F := F) (Gd d) c.val) := by
    rw [← send_cut i (fun j => rfl) (fun n hn => cov_ea (k := 1) hn (by decide)) (fun n _ => dis_ea (k := 1) (by decide))]
    refine pointsTo_congr fun y hy => ?_
    have h := mem_own.1 hy
    rw [show (cc0_scratch24.ty.shape.rowMajor y).val = (y 0).val from Shape.rowMajor_val_one y] at h
    exact hpk y h.1 h.2
  have h25 : piece 0 d c i cc0_scratch25 (μ cc0_scratch25) = bigSep Finset.univ fun j : Fin τ.nSub => hand 0 d c i j cc0_scratch25 (shEO (F := F) (Gd d) c.val) := by
    rw [← send_deal i rfl (fun j => rfl) (fun n _ j hj h => by have h1 := h.1; show n / 12288 = _; omega)
      (fun n _ j hj h h' => by have h1 := h.1; have h2 : n / 12288 = j.val / 8 := h'; omega)]
    refine pointsTo_congr fun y hy => ?_
    have h := mem_own.1 hy
    rw [show (cc0_scratch25.ty.shape.rowMajor y).val = (y 0).val from Shape.rowMajor_val_one y] at h
    exact heo y h.1 h.2
  have h29 : piece 0 d c i cc0_scratch29 (μ cc0_scratch29) = bigSep Finset.univ fun j : Fin τ.nSub => hand 0 d c i j cc0_scratch29 (shLAP (Vd d) (Gd d) c.val) := by
    rw [← send_cut i (fun j => rfl) (fun n hn => cov_lap hn) (fun n _ => dis_lap)]
    refine pointsTo_congr fun y hy => ?_
    have h := mem_own.1 hy
    rw [show (cc0_scratch29.ty.shape.rowMajor y).val = (y 0).val from Shape.rowMajor_val_one y] at h
    exact hlap y h
  rw [h23, h24, h25, h29]
  exact (regroup _ _ _ _ _).symm

/-- After it a tile holds what the others laid out for it. -/
theorem meet₁_recv (d : Dev nD) (c : Fin τ.nSC) (i : Fin τ.nSub) (μ : Mem F) :
    iprop((bigSep Finset.univ fun j : Fin τ.nSub => P1 Vd Gd d c j i) ∗ bigSep Rest₁ fun r => piece 1 d c i r (μ r))
      = (memSt (V d c i) (acc 1 c.val i.val) (met₁ (Vd d) (Gd d) c.val μ) : Res F) := by
  have e0 : (memSt (V d c i) (acc 1 c.val i.val) (met₁ (Vd d) (Gd d) c.val μ) : Res F) = bigSep Names fun r => piece 1 d c i r (met₁ (Vd d) (Gd d) c.val μ r) := rfl
  rw [e0, take4 (fun r => piece 1 d c i r (met₁ (Vd d) (Gd d) c.val μ r)) Names (names (r := cc0_scratch23) (by decide)) (names (r := cc0_scratch24) (by decide))
    (names (r := cc0_scratch25) (by decide)) (names (r := cc0_scratch29) (by decide)) (by decide) (by decide) (by decide) (by decide) (by decide) (by decide)]
  have er : (bigSep Rest₁ fun r => piece 1 d c i r (met₁ (Vd d) (Gd d) c.val μ r)) = (bigSep Rest₁ fun r => piece 1 d c i r (μ r) : Res F) := by
    refine bigSep_congr fun r hr => ?_
    simp only [Finset.mem_erase] at hr
    unfold met₁
    rw [Function.update_of_ne hr.1, Function.update_of_ne hr.2.1, Function.update_of_ne hr.2.2.1, Function.update_of_ne hr.2.2.2.1]
  have e23 : met₁ (Vd d) (Gd d) c.val μ cc0_scratch23 = shEA (F := F) (Gd d) c.val := by
    unfold met₁; simp (disch := decide) only [Function.update_of_ne, Function.update_self]
  have e24 : met₁ (Vd d) (Gd d) c.val μ cc0_scratch24 = shPK (F := F) (Gd d) c.val := by
    unfold met₁; simp (disch := decide) only [Function.update_of_ne, Function.update_self]
  have e25 : met₁ (Vd d) (Gd d) c.val μ cc0_scratch25 = shEO (F := F) (Gd d) c.val := by
    unfold met₁; simp (disch := decide) only [Function.update_of_ne, Function.update_self]
  have e29 : met₁ (Vd d) (Gd d) c.val μ cc0_scratch29 = shLAP (Vd d) (Gd d) c.val := by
    unfold met₁; simp (disch := decide) only [Function.update_of_ne, Function.update_self]
  rw [er, e23, e24, e25, e29]
  unfold P1
  rw [bigSep_sep', bigSep_sep', bigSep_sep',
    receive (ph := 0) (r := cc0_scratch23) i (fun j => rfl) (fun n hn => cov_ea (k := 0) hn (by decide)) (fun n _ => dis_ea (k := 0) (by decide)),
    receive (ph := 0) (r := cc0_scratch24) i (fun j => rfl) (fun n hn => cov_ea (k := 1) hn (by decide)) (fun n _ => dis_ea (k := 1) (by decide)),
    receive (ph := 0) (r := cc0_scratch25) i (fun j => rfl) (fun n hn => cov_ea (k := 2) hn (by decide)) (fun n _ => dis_ea (k := 2) (by decide)),
    receive (ph := 0) (r := cc0_scratch29) i (fun j => rfl) (fun n hn => cov_lap hn) (fun n _ => dis_lap)]
  exact regroup _ _ _ _ _

/-! ## The second meeting -/

/-- Before the second meeting the first tile of a half lays out read shares of the sorted edges. -/
theorem meet₂_send (d : Dev nD) (c : Fin τ.nSC) (i : Fin τ.nSub) (μ : Mem F)
    (h : i.val % 8 = 0 → SortedOf (EA (F := F) (Gd d) (2 * c.val + i.val / 8)) (PK (F := F) (Gd d) (2 * c.val + i.val / 8)) (i.val / 8) (μ cc0_scratch26) (μ cc0_scratch27) (μ cc0_scratch28)) :
    (memSt (V d c i) (acc 1 c.val i.val) μ : Res F)
      ⊢ iprop((bigSep Finset.univ fun j : Fin τ.nSub => P2 Gd d c i j) ∗ bigSep Rest₂ fun r => piece 2 d c i r (μ r)) := by
  have e0 : (memSt (V d c i) (acc 1 c.val i.val) μ : Res F) = bigSep Names fun r => piece 1 d c i r (μ r) := rfl
  rw [e0, take3 (fun r => piece 1 d c i r (μ r)) Names (names (r := cc0_scratch26) (by decide)) (names (r := cc0_scratch27) (by decide))
    (names (r := cc0_scratch28) (by decide)) (by decide) (by decide) (by decide),
    bigSep_congr (fun r hr => piece_second d c i hr (μ r)),
    send_deal (ph := 1) (r := cc0_scratch26) (f := μ cc0_scratch26) i rfl (fun j => rfl) (fun n _ j hj h => by have h1 := h.1; show n / 12288 = _; omega)
      (fun n _ j hj h h' => by have h1 := h.1; have h2 : n / 12288 = j.val / 8 := h'; omega),
    send_deal (ph := 1) (r := cc0_scratch27) (f := μ cc0_scratch27) i rfl (fun j => rfl) (fun n _ j hj h => by have h1 := h.1; show n / 2048 = _; omega)
      (fun n _ j hj h h' => by have h1 := h.1; have h2 : n / 2048 = j.val / 8 := h'; omega),
    send_deal (ph := 1) (r := cc0_scratch28) (f := μ cc0_scratch28) i rfl (fun j => rfl) (fun n _ j hj h => by have h1 := h.1; show n / 2048 = _; omega)
      (fun n _ j hj h h' => by have h1 := h.1; have h2 : n / 2048 = j.val / 8 := h'; omega)]
  have hP : (bigSep Finset.univ fun j : Fin τ.nSub => iprop(hand 1 d c i j cc0_scratch26 (μ cc0_scratch26) ∗ hand 1 d c i j cc0_scratch27 (μ cc0_scratch27)
      ∗ hand 1 d c i j cc0_scratch28 (μ cc0_scratch28))) ⊢ (bigSep Finset.univ fun j : Fin τ.nSub => P2 Gd d c i j : Res F) := by
    refine bigSep_mono fun j _ => ?_
    unfold P2
    show iprop(hand 1 d c i j cc0_scratch26 (μ cc0_scratch26) ∗ hand 1 d c i j cc0_scratch27 (μ cc0_scratch27) ∗ hand 1 d c i j cc0_scratch28 (μ cc0_scratch28)) ⊢ _
    iintro H
    iexists (μ cc0_scratch26), (μ cc0_scratch27), (μ cc0_scratch28)
    isplitr; · ipureintro; exact h
    iexact H
  iintro ⟨H1, H2, H3, H4⟩
  isplitr [H4]
  · iapply hP
    rw [bigSep_sep', bigSep_sep']
    isplitl [H1]; · iexact H1
    isplitl [H2] <;> iassumption
  · iexact H4

/-- After it every tile of the half has one. -/
theorem meet₂_recv (d : Dev nD) (c : Fin τ.nSC) (i : Fin τ.nSub) (μ : Mem F) :
    iprop((bigSep Finset.univ fun j : Fin τ.nSub => P2 Gd d c j i) ∗ bigSep Rest₂ fun r => piece 2 d c i r (μ r))
      ⊢ (iprop(∃ f g h, ⌜SortedOf (EA (F := F) (Gd d) (2 * c.val + i.val / 8)) (PK (F := F) (Gd d) (2 * c.val + i.val / 8)) (i.val / 8) f g h⌝
        ∗ memSt (V d c i) (acc 2 c.val i.val) (met₂ f g h μ)) : Res F) := by
  have hi : i.val < 16 := i.isLt
  have e0 : ∀ f g h, (memSt (V d c i) (acc 2 c.val i.val) (met₂ f g h μ) : Res F) = bigSep Names fun r => piece 2 d c i r (met₂ f g h μ r) := fun _ _ _ => rfl
  have er : ∀ f g h, (bigSep Rest₂ fun r => piece 2 d c i r (met₂ f g h μ r)) = (bigSep Rest₂ fun r => piece 2 d c i r (μ r) : Res F) := by
    intro f g h
    refine bigSep_congr fun r hr => ?_
    simp only [Finset.mem_erase] at hr
    unfold met₂
    rw [Function.update_of_ne hr.1, Function.update_of_ne hr.2.1, Function.update_of_ne hr.2.2.1]
  have em : ∀ f g h, (memSt (V d c i) (acc 2 c.val i.val) (met₂ f g h μ) : Res F) = iprop(piece 2 d c i cc0_scratch26 f ∗ piece 2 d c i cc0_scratch27 g
      ∗ piece 2 d c i cc0_scratch28 h ∗ bigSep Rest₂ fun r => piece 2 d c i r (μ r)) := by
    intro f g h
    rw [e0, take3 (fun r => piece 2 d c i r (met₂ f g h μ r)) Names (names (r := cc0_scratch26) (by decide)) (names (r := cc0_scratch27) (by decide))
      (names (r := cc0_scratch28) (by decide)) (by decide) (by decide) (by decide), er]
    have e1 : met₂ f g h μ cc0_scratch26 = f := by unfold met₂; simp (disch := decide) only [Function.update_of_ne, Function.update_self]
    have e2 : met₂ f g h μ cc0_scratch27 = g := by unfold met₂; simp (disch := decide) only [Function.update_of_ne, Function.update_self]
    have e3 : met₂ f g h μ cc0_scratch28 = h := by unfold met₂; simp (disch := decide) only [Function.update_of_ne, Function.update_self]
    rw [e1, e2, e3]
  -- the first tile of the half
  obtain ⟨k, hk, hk8⟩ : ∃ k : Fin τ.nSub, k.val = i.val / 8 * 8 ∧ k.val / 8 = i.val / 8 := ⟨⟨i.val / 8 * 8, (by omega : i.val / 8 * 8 < 16)⟩, rfl, by show i.val / 8 * 8 / 8 = _; omega⟩
  have h26 : ∀ f : cc0_scratch26.ty.Contents (Elt F), hand 1 d c k i cc0_scratch26 f = piece 2 d c i cc0_scratch26 f := by
    intro f
    have e : (acc 1 c.val k.val).own cc0_scratch26 ∩ (acc 2 c.val i.val).own cc0_scratch26 = (acc 2 c.val i.val).own cc0_scratch26 :=
      Finset.inter_eq_right.mpr fun x hx => by
        have h1 : (cc0_scratch26.ty.shape.rowMajor x).val / 12288 = i.val / 8 := mem_own.1 hx
        refine mem_own.2 ?_
        show (cc0_scratch26.ty.shape.rowMajor x).val / 12288 = k.val / 8 ∧ k.val % 8 = 0
        omega
    unfold hand
    rw [show (1 + 1 : ℕ) = 2 from rfl, e]; rfl
  have h27 : ∀ f : cc0_scratch27.ty.Contents (Elt F), hand 1 d c k i cc0_scratch27 f = piece 2 d c i cc0_scratch27 f := by
    intro f
    have e : (acc 1 c.val k.val).own cc0_scratch27 ∩ (acc 2 c.val i.val).own cc0_scratch27 = (acc 2 c.val i.val).own cc0_scratch27 :=
      Finset.inter_eq_right.mpr fun x hx => by
        have h1 : (cc0_scratch27.ty.shape.rowMajor x).val / 2048 = i.val / 8 := mem_own.1 hx
        refine mem_own.2 ?_
        show (cc0_scratch27.ty.shape.rowMajor x).val / 2048 = k.val / 8 ∧ k.val % 8 = 0
        omega
    unfold hand
    rw [show (1 + 1 : ℕ) = 2 from rfl, e]; rfl
  have h28 : ∀ f : cc0_scratch28.ty.Contents (Elt F), hand 1 d c k i cc0_scratch28 f = piece 2 d c i cc0_scratch28 f := by
    intro f
    have e : (acc 1 c.val k.val).own cc0_scratch28 ∩ (acc 2 c.val i.val).own cc0_scratch28 = (acc 2 c.val i.val).own cc0_scratch28 :=
      Finset.inter_eq_right.mpr fun x hx => by
        have h1 : (cc0_scratch28.ty.shape.rowMajor x).val / 2048 = i.val / 8 := mem_own.1 hx
        refine mem_own.2 ?_
        show (cc0_scratch28.ty.shape.rowMajor x).val / 2048 = k.val / 8 ∧ k.val % 8 = 0
        omega
    unfold hand
    rw [show (1 + 1 : ℕ) = 2 from rfl, e]; rfl
  iintro ⟨H, Hr⟩
  ihave H := (SparseCore.ent (BI.bigSep_elim (Φ := fun j : Fin τ.nSub => P2 Gd d c j i) (Finset.mem_univ k))) $$ H
  unfold P2
  icases H with ⟨%f, %g, %h, %hb, H1, H2, H3⟩
  iexists f, g, h
  isplitr
  · ipureintro
    have h1 := hb (by omega)
    rw [hk8] at h1
    exact h1
  rw [em, ← h26, ← h27, ← h28]
  isplitl [H1]; · iexact H1
  isplitl [H2]; · iexact H2
  isplitl [H3]; · iexact H3
  iexact Hr

end Meetings

end Cert.Proof.Tile
end
end
-- ==== Proof.Between.lean ====
/-
  The tile's program between its two meetings, and what the meetings make ready for the piece that follows each.
-/
module

public import proofs.«01_k».proof.Proof.Split
public import proofs.«01_k».proof.Proof.Sort

@[expose] public section

noncomputable section

namespace Cert.Proof.Tile

open Idealize.ShloMosaic Idealize.ShloMosaic.Transfers Idealize.SL Idealize.SL.RA Idealize.SL.Sem Cert.KernelIdeal Cert.KernelIdeal.Gen Cert.Proof.LocalRun

attribute [local instance] Cert.KernelIdeal.Gen.facts₀
variable {F : FTy → Type} [FloatOps F]

/-- A half of the shared ends is its batch's. -/
theorem cut_shEA (i : grid0.Coords) (G : Vec F S49152 .i32) :
    (cut (k := 12288) ((i 1).val / 8 * 12288) (shEA (F := F) G (i 0).val) : Vec F S12288 .i32) = EA (F := F) G (bat i) := by
  have hi1 : (i 1).val < 16 := (i 1).isLt
  funext y
  have hy : (y 0).val < 12288 := (y 0).isLt
  unfold cut at_ shEA
  show at_ (EA (F := F) G (2 * (i 0).val + (((i 1).val / 8 * 12288 + (y 0).val) % 24576) / 12288)) ((((i 1).val / 8 * 12288 + (y 0).val) % 24576) % 12288) = _
  rw [show (((i 1).val / 8 * 12288 + (y 0).val) % 24576) / 12288 = (i 1).val / 8 by omega,
    show (((i 1).val / 8 * 12288 + (y 0).val) % 24576) % 12288 = (y 0).val by omega]
  exact at_val _ y

/-- A half of the shared words is its batch's. -/
theorem cut_shPK (i : grid0.Coords) (G : Vec F S49152 .i32) :
    (cut (k := 12288) ((i 1).val / 8 * 12288) (shPK (F := F) G (i 0).val) : Vec F S12288 .i32) = PK (F := F) G (bat i) := by
  have hi1 : (i 1).val < 16 := (i 1).isLt
  funext y
  have hy : (y 0).val < 12288 := (y 0).isLt
  unfold cut at_ shPK
  show at_ (PK (F := F) G (2 * (i 0).val + (((i 1).val / 8 * 12288 + (y 0).val) % 24576) / 12288)) ((((i 1).val / 8 * 12288 + (y 0).val) % 24576) % 12288) = _
  rw [show (((i 1).val / 8 * 12288 + (y 0).val) % 24576) / 12288 = (i 1).val / 8 by omega,
    show (((i 1).val / 8 * 12288 + (y 0).val) % 24576) % 12288 = (y 0).val by omega]
  exact at_val _ y

/-- What the piece between the meetings leaves. -/
structure HasB (i : grid0.Coords) (V : Vec F S24576 .f32) (G : Vec F S49152 .i32) (μ : Mem F) : Prop where
  x : μ cc0_scratch0 = vtx V (bat i) 0
  y : μ cc0_scratch1 = vtx V (bat i) 1
  z : μ cc0_scratch2 = vtx V (bat i) 2
  ea : ∀ y : S12288.Idx, (y 0).val % 4096 / 512 = (i 1).val % 8 → (μ cc0_scratch6 : Vec F S12288 .i32) y = EA (F := F) G (bat i) y
  pk : ∀ y : S12288.Idx, (y 0).val % 4096 / 512 = (i 1).val % 8 → (μ cc0_scratch7 : Vec F S12288 .i32) y = PK (F := F) G (bat i) y
  eo : μ cc0_scratch25 = shEO (F := F) G (i 0).val
  srt : SrtOK i (EA (F := F) G (bat i)) (PK (F := F) G (bat i)) μ

set_option maxHeartbeats 1000000 in
/-- The piece between the meetings, begun in the state the first meeting leaves: its value is the tile's sum of the merged
    Laplacian norms. -/
theorem phaseB (i : grid0.Coords) (V : Vec F S24576 .f32) (G : Vec F S49152 .i32) (hG : InRange G) (μ : Mem F) (hA : HasA i V G μ) :
    Lwp 1 (i 0).val (i 1).val (progB (F := F) i (handA i)) (fun v σ => ∃ μ', σ = ⟨μ', none⟩ ∧ v = lapW i V (shLAP V G (i 0).val) 16 ∧ HasB i V G μ')
      ⟨met₁ V G (i 0).val μ, none⟩ := by
  have e6 : (met₁ V G (i 0).val μ) cc0_scratch6 = μ cc0_scratch6 := by unfold met₁; simp (disch := decide) only [Function.update_of_ne]
  have e7 : (met₁ V G (i 0).val μ) cc0_scratch7 = μ cc0_scratch7 := by unfold met₁; simp (disch := decide) only [Function.update_of_ne]
  have e0 : (met₁ V G (i 0).val μ) cc0_scratch0 = μ cc0_scratch0 := by unfold met₁; simp (disch := decide) only [Function.update_of_ne]
  have e1 : (met₁ V G (i 0).val μ) cc0_scratch1 = μ cc0_scratch1 := by unfold met₁; simp (disch := decide) only [Function.update_of_ne]
  have e2 : (met₁ V G (i 0).val μ) cc0_scratch2 = μ cc0_scratch2 := by unfold met₁; simp (disch := decide) only [Function.update_of_ne]
  have e23 : (met₁ V G (i 0).val μ) cc0_scratch23 = shEA (F := F) G (i 0).val := by
    unfold met₁; simp (disch := decide) only [Function.update_of_ne, Function.update_self]
  have e24 : (met₁ V G (i 0).val μ) cc0_scratch24 = shPK (F := F) G (i 0).val := by
    unfold met₁; simp (disch := decide) only [Function.update_of_ne, Function.update_self]
  have e25 : (met₁ V G (i 0).val μ) cc0_scratch25 = shEO (F := F) G (i 0).val := by
    unfold met₁; simp (disch := decide) only [Function.update_of_ne, Function.update_self]
  have e29 : (met₁ V G (i 0).val μ) cc0_scratch29 = shLAP V G (i 0).val := by
    unfold met₁; simp only [Function.update_self]
  generalize met₁ V G (i 0).val μ = μ₀ at *
  rw [progB_eq]
  refine lwp_seq (phaseS i _ μ₀ (fun _ y => by rw [e23, cut_shEA]; exact EA_small G hG _ _)) ?_
  rintro _ _ ⟨μ₁, rfl, hoff, hsrt, h8, hn8⟩
  rw [e23, cut_shEA, e24, cut_shPK] at hsrt
  refine lwp_mono (p := .scVector _ _) _ _ ?_ _ (phaseM i V (shLAP V G (i 0).val) μ₁ ((hoff _ (by decide)).trans e29) ((hoff _ (by decide)).trans (e0.trans hA.x))
    ((hoff _ (by decide)).trans (e1.trans hA.y)) ((hoff _ (by decide)).trans (e2.trans hA.z)))
  rintro v _ ⟨μ₂, rfl, hv, hoff₂⟩
  have hd := hoff₂
  refine ⟨μ₂, rfl, hv, ?_, ?_, ?_, fun y hy => ?_, fun y hy => ?_, ?_, ?_⟩
  · rw [hd _ (by decide), hoff _ (by decide), e0, hA.x]
  · rw [hd _ (by decide), hoff _ (by decide), e1, hA.y]
  · rw [hd _ (by decide), hoff _ (by decide), e2, hA.z]
  · rw [hd cc0_scratch6 (by decide)]
    by_cases hs : (i 1).val % 8 = 0
    · rw [(h8 hs).1, e23, cut_shEA]
    · rw [hn8 hs, e6]; exact hA.ea y hy
  · rw [hd cc0_scratch7 (by decide)]
    by_cases hs : (i 1).val % 8 = 0
    · rw [(h8 hs).2, e24, cut_shPK]
    · rw [hn8 hs, e7]; exact hA.pk y hy
  · rw [hd _ (by decide), hoff _ (by decide), e25]
  · intro hs
    rw [hd cc0_scratch26 (by decide), hd cc0_scratch27 (by decide), hd cc0_scratch28 (by decide)]
    exact hsrt hs

/-- The second meeting makes ready the last piece. -/
theorem HasB.ready {i : grid0.Coords} {V : Vec F S24576 .f32} {G : Vec F S49152 .i32} {μ : Mem F} (h : HasB i V G μ) (f : cc0_scratch26.ty.Contents (Elt F))
    (g : cc0_scratch27.ty.Contents (Elt F)) (k : cc0_scratch28.ty.Contents (Elt F))
    (hgk : SortedOf (EA (F := F) G (bat i)) (PK (F := F) G (bat i)) ((i 1).val / 8) f g k) :
    ReadyC i V G (met₂ f g k μ) := by
  have e0 : (met₂ f g k μ) cc0_scratch0 = μ cc0_scratch0 := by unfold met₂; simp (disch := decide) only [Function.update_of_ne]
  have e1 : (met₂ f g k μ) cc0_scratch1 = μ cc0_scratch1 := by unfold met₂; simp (disch := decide) only [Function.update_of_ne]
  have e2 : (met₂ f g k μ) cc0_scratch2 = μ cc0_scratch2 := by unfold met₂; simp (disch := decide) only [Function.update_of_ne]
  have e6 : (met₂ f g k μ) cc0_scratch6 = μ cc0_scratch6 := by unfold met₂; simp (disch := decide) only [Function.update_of_ne]
  have e7 : (met₂ f g k μ) cc0_scratch7 = μ cc0_scratch7 := by unfold met₂; simp (disch := decide) only [Function.update_of_ne]
  have e25 : (met₂ f g k μ) cc0_scratch25 = μ cc0_scratch25 := by unfold met₂; simp (disch := decide) only [Function.update_of_ne]
  have e26 : (met₂ f g k μ) cc0_scratch26 = f := by unfold met₂; simp (disch := decide) only [Function.update_of_ne, Function.update_self]
  have e27 : (met₂ f g k μ) cc0_scratch27 = g := by unfold met₂; simp (disch := decide) only [Function.update_of_ne, Function.update_self]
  have e28 : (met₂ f g k μ) cc0_scratch28 = k := by unfold met₂; simp only [Function.update_self]
  refine ⟨?_, ?_, ?_, ?_, ?_, ?_, ?_⟩
  · rw [e0]; exact h.x
  · rw [e1]; exact h.y
  · rw [e2]; exact h.z
  · rw [e6]; exact h.ea
  · rw [e7]; exact h.pk
  · rw [e25]; exact h.eo
  · rw [e26, e27, e28]; exact hgk

end Cert.Proof.Tile
end
-- ==== Proof.Tile.lean ====
/-
  One tile's task: from what the launch hands it to what it hands back.
-/
module

public import proofs.«01_k».proof.Proof.Between

@[expose] public section

noncomputable section

namespace Cert.Proof.Tile

open Cert.KernelIdeal Cert.KernelIdeal.Gen Cert.Proof.LocalRun Cert.Proof.Meet

open Idealize.ShloMosaic
open Idealize.ShloMosaic.SparseCore (S V T)
open Idealize.ShloMosaic.SparseCore.Cfg (HIx Blocks Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts₀
attribute [local instance] Cert.Proof.Meet.blocks
variable {F : FTy → Type}

local notation "𝕄" => MT nD τ sig (HIx 2) (Elt F) ℕ UU ℕ

/-! ## The buffers a tile names, by where they are -/

/-- The seven buffers of the shared memory. -/
def shs : Finset (Ref sig .scVector) :=
  {cc0_scratch23, cc0_scratch24, cc0_scratch25, cc0_scratch26, cc0_scratch27, cc0_scratch28, cc0_scratch29}

/-- The tile's own buffers. -/
def vms : Finset (Ref sig .scVector) := Names.filter fun r => r.space = .vmem

theorem mem_vms {r : Ref sig .scVector} : r ∈ vms ↔ r.space = .vmem := by
  unfold vms
  rw [Finset.mem_filter]
  exact ⟨fun h => h.2, fun h => ⟨names (by unfold named; simp [h]), h⟩⟩

theorem shared_mem {r : Ref sig .scVector} (h : r.space = .shared) : r ∈ shs := by
  obtain ⟨sp, j, nm⟩ := r
  change sp = .shared at h
  subst h
  obtain ⟨j, hj⟩ := j
  have hj7 : j < 7 := hj
  interval_cases j <;> decide +revert

theorem rest_eq : (((Names.erase main_v1_scv).erase main_v3_scv).erase main_v4_scv).filter (fun r => ¬ r.space = .vmem) = shs := by
  ext r
  simp only [Finset.mem_filter, Finset.mem_erase]
  constructor
  · rintro ⟨⟨h4, h3, h1, hn⟩, hv⟩
    have hn' : named r = true := (Finset.mem_filter.mp hn).2
    unfold named at hn'
    simp only [Bool.or_eq_true, decide_eq_true_eq] at hn'
    rcases hn' with (((h | h) | h) | h) | h
    · exact absurd h hv
    · exact shared_mem h
    · exact absurd h h1
    · exact absurd h h3
    · exact absurd h h4
  · intro h
    have : ∀ r ∈ shs, (r ≠ main_v4_scv ∧ r ≠ main_v3_scv ∧ r ≠ main_v1_scv ∧ named r = true) ∧ ¬ r.space = .vmem := by decide
    obtain ⟨⟨h4, h3, h1, hn⟩, hv⟩ := this r h
    exact ⟨⟨h4, h3, h1, names hn⟩, hv⟩

theorem vms_eq : (((Names.erase main_v1_scv).erase main_v3_scv).erase main_v4_scv).filter (fun r => r.space = .vmem) = vms := by
  ext r
  rw [mem_vms]
  simp only [Finset.mem_filter, Finset.mem_erase]
  refine ⟨fun h => h.2, fun h => ⟨⟨?_, ?_, ?_, names (by unfold named; simp [h])⟩, h⟩⟩ <;> (rintro rfl; exact absurd h (by decide))

theorem names_split (Φ : Ref sig .scVector → Res F) :
    bigSep Names Φ = iprop(Φ main_v1_scv ∗ Φ main_v3_scv ∗ Φ main_v4_scv ∗ bigSep vms Φ ∗ bigSep shs Φ) := by
  rw [take3 Φ Names (names (r := main_v1_scv) (by decide)) (names (r := main_v3_scv) (by decide)) (names (r := main_v4_scv) (by decide))
    (by decide) (by decide) (by decide), SparseCore.bigSep_filter_split' _ (fun r : Ref sig .scVector => r.space = .vmem), rest_eq, vms_eq]

/-! ## A tile's own buffers and semaphores among what it is given -/

/-- The buffer as the device names it. -/
abbrev dref (c : Fin τ.nSC) (i : Fin τ.nSub) (r : Ref sig .scVector) : DevRef τ sig := (Proc.scVector c i).devRef r

theorem vms_own (c : Fin τ.nSC) (i : Fin τ.nSub) : vms.image (dref c i) ⊆ ownRefs (τ := τ) (sig := sig) (.scVector c i) := by
  intro b hb
  obtain ⟨r, hr, rfl⟩ := Finset.mem_image.mp hb
  have hs := mem_vms.mp hr
  obtain ⟨sp, j, nm⟩ := r
  change sp = .vmem at hs
  subst hs
  exact SparseCore.Cfg.mem_ownRefs_of_owner rfl

/-- The rest of a tile's own buffers. -/
def otherBufs (d : Dev nD) (c : Fin τ.nSC) (i : Fin τ.nSub) : Res F :=
  bigSep (ownRefs (τ := τ) (sig := sig) (.scVector c i) \ vms.image (dref c i)) fun b => iprop(∃ f, ((d, b) : Loc nD τ sig) ↦{fullShare} f)

theorem piece_vm (ph : ℕ) (d : Dev nD) (c : Fin τ.nSC) (i : Fin τ.nSub) {r : Ref sig .scVector} (h : r ∈ vms) (f : r.ty.Contents (Elt F)) :
    piece ph d c i r f = ((V d c i).loc r ↦{fullShare} f) := by
  have hs := mem_vms.mp h
  obtain ⟨sp, j, nm⟩ := r
  change sp = .vmem at hs
  subst hs
  unfold piece
  rw [own_vm, sh_vm]

theorem ownBufs_tile (ph : ℕ) (d : Dev nD) (c : Fin τ.nSC) (i : Fin τ.nSub) :
    (ownBufs (V d c i) : Res F) = iprop((bigSep vms fun r => iprop(∃ f, piece ph d c i r f)) ∗ otherBufs d c i) := by
  have e : (bigSep vms fun r => iprop(∃ f, piece ph d c i r f) : Res F) = bigSep vms fun r => iprop(∃ f, ((V d c i).loc r ↦{fullShare} f)) :=
    bigSep_congr fun r hr => by
      congr 1; funext f; exact piece_vm ph d c i hr f
  rw [e]
  unfold SparseCore.Cfg.ownBufs otherBufs
  rw [SparseCore.bigSep_sdiff_split' (vms_own c i), SparseCore.bigSep_image_of_injOn ((Proc.devRef_injective (sig := sig) (Proc.scVector c i)).injOn)]

theorem sems_own (d : Dev nD) (c : Fin τ.nSC) (i : Fin τ.nSub) (ph : ℕ) :
    ((acc ph c.val i.val).sems.image fun s => ((V d c i, s) : GSem nD τ sig)) ⊆ ownCells (V d c i) := by
  intro g hg
  obtain ⟨s, hs, rfl⟩ := Finset.mem_image.mp hg
  obtain ⟨k, -, rfl⟩ := Finset.mem_image.mp hs
  exact SparseCore.Cfg.mem_ownCells.mpr ⟨rfl, rfl⟩

/-- The rest of a tile's own semaphores. -/
def otherSems (d : Dev nD) (c : Fin τ.nSC) (i : Fin τ.nSub) : Res F :=
  bigSep (ownCells (V d c i) \ (acc 0 c.val i.val).sems.image fun s => ((V d c i, s) : GSem nD τ sig)) fun g => semVal g 0

theorem ownSems_tile (ph : ℕ) (d : Dev nD) (c : Fin τ.nSC) (i : Fin τ.nSub) :
    (ownSems0 (V d c i) : Res F) = iprop(semSt (V d c i) (acc ph c.val i.val) ∗ otherSems d c i) := by
  unfold SparseCore.Cfg.ownSems0 otherSems
  rw [SparseCore.bigSep_sdiff_split' (sems_own d c i 0), SparseCore.bigSep_image_of_injOn (f := fun s => ((V d c i, s) : GSem nD τ sig))
    (fun a _ b _ h => (Prod.mk.inj h).2)]
  rfl

/-! ## What the launch hands a tile, and what it hands back -/

variable [FloatOps F] (Vd : Dev nD → Vec F S24576 .f32) (Gd : Dev nD → Vec F S49152 .i32)

/-- The tile's coordinates in the grid. -/
def coordsV (c : Fin τ.nSC) (s : Fin τ.nSub) : grid0.Coords :=
  fun | 0 => ⟨c.val, c.isLt⟩ | 1 => ⟨s.val, s.isLt⟩ | ⟨_ + 2, h⟩ => absurd h (Nat.not_lt.2 (Nat.le_add_left _ _))

/-- The SparseCore and the tile of a place in the grid. -/
abbrev cV (L : grid0.Coords) : Fin τ.nSC := (L 0).castLE hcore0
abbrev jV (L : grid0.Coords) : Fin τ.nSub := (L 1).castLE hsub0

theorem coordsV_self (L : grid0.Coords) : coordsV (cV L) (jV L) = L := by
  funext k
  match k with
  | 0 => rfl
  | 1 => rfl
  | ⟨_ + 2, h⟩ => exact absurd h (Nat.not_lt.2 (Nat.le_add_left _ _))

/-- The tile's five partial sums. -/
def lapOf (d : Dev nD) (c : Fin τ.nSC) (i : Fin τ.nSub) : Fin 5 → FVec F S16 .f32 :=
  rowsOf (lapW (coordsV c i) (Vd d) (shLAP (Vd d) (Gd d) c.val) 16) (walkAcc (Vd d) (Gd d) (coordsV c i) 96)

/-- Handed to a tile: its share of the two tables, its stretch of the result, its part of each shared buffer. -/
def taskIn (d : Dev nD) (c : Fin τ.nSC) (i : Fin τ.nSub) : Res F :=
  iprop(piece 0 d c i main_v1_scv (Vd d) ∗ piece 0 d c i main_v3_scv (Gd d) ∗ (∃ f, piece 0 d c i main_v4_scv f)
    ∗ bigSep shs fun r => iprop(∃ f, piece 0 d c i r f))

/-- Handed back: the stretch of the result with its five rows, and its part of each shared buffer; and its barrier semaphore. -/
def taskOut (d : Dev nD) (c : Fin τ.nSC) (i : Fin τ.nSub) : Res F :=
  iprop((∃ f : main_v4_scv.ty.Contents (Elt F), ⌜OutLap (coordsV c i) (lapOf Vd Gd d c i) f⌝ ∗ piece 2 d c i main_v4_scv f)
    ∗ (bigSep shs fun r => iprop(∃ f, piece 2 d c i r f)) ∗ semVal (bcell d c i) 0)

variable [∀ e, Nonempty (Elt F e)]

omit [FloatOps F] in
theorem contents_nonempty (r : Ref sig .scVector) : Nonempty (r.ty.Contents (Elt F)) := ⟨fun _ => Classical.arbitrary _⟩

/-- The tile's buffers at the start, at some contents, the tables at theirs. -/
theorem start_state (d : Dev nD) (c : Fin τ.nSC) (i : Fin τ.nSub) :
    iprop(taskIn Vd Gd d c i ∗ ownBufs (V d c i))
      ⊢ (iprop(∃ μ : Mem F, ⌜μ main_v1_scv = Vd d ∧ μ main_v3_scv = Gd d⌝ ∗ memSt (V d c i) (acc 0 c.val i.val) μ ∗ otherBufs d c i) : Res F) := by
  haveI : ∀ r : Ref sig .scVector, Nonempty (r.ty.Contents (Elt F)) := contents_nonempty
  have hE : (iprop((bigSep vms fun r => iprop(∃ f, piece 0 d c i r f)) ∗ (bigSep shs fun r => iprop(∃ f, piece 0 d c i r f))) : Res F)
      ⊢ iprop(∃ μ : Mem F, (bigSep vms fun r => piece 0 d c i r (μ r)) ∗ bigSep shs fun r => piece 0 d c i r (μ r)) := by
    have hd : Disjoint vms shs := by
      rw [Finset.disjoint_left]; intro r h h'
      have h1 := mem_vms.mp h
      have : ∀ r ∈ shs, r.space ≠ .vmem := by decide
      exact this r h' h1
    rw [← SparseCore.bigSep_union' hd]
    refine (bigSep_exists_pi (vms ∪ shs) (fun r (f : r.ty.Contents (Elt F)) => (piece 0 d c i r f : Res F))).trans ?_
    iintro ⟨%μ, H⟩
    iexists μ
    ihave H := (Entails.of_eq (SparseCore.bigSep_union' hd)) $$ H
    iexact H
  rw [ownBufs_tile 0]
  unfold taskIn
  iintro ⟨⟨H1, H3, ⟨%f4, H4⟩, Hs⟩, Hv, Ho⟩
  ihave H := hE $$ [Hv Hs]
  · isplitl [Hv] <;> iassumption
  icases H with ⟨%μ, Hv, Hs⟩
  iexists (Function.update (Function.update (Function.update μ main_v1_scv (Vd d)) main_v3_scv (Gd d)) main_v4_scv f4 : Mem F)
  isplitr
  · ipureintro
    constructor
    · simp (disch := decide) only [Function.update_of_ne, Function.update_self]
    · simp (disch := decide) only [Function.update_of_ne, Function.update_self]
  isplitr [Ho]; swap; · iexact Ho
  have e0 : ∀ μ : Mem F, (memSt (V d c i) (acc 0 c.val i.val) μ : Res F) = bigSep Names fun r => piece 0 d c i r (μ r) := fun _ => rfl
  rw [e0, names_split]
  have eu : ∀ r : Ref sig .scVector, r ∈ vms ∨ r ∈ shs →
      (Function.update (Function.update (Function.update μ main_v1_scv (Vd d)) main_v3_scv (Gd d)) main_v4_scv f4 : Mem F) r = μ r := by
    intro r h
    have hn : r ≠ main_v1_scv ∧ r ≠ main_v3_scv ∧ r ≠ main_v4_scv := by
      rcases h with h | h
      · have h1 := mem_vms.mp h
        refine ⟨?_, ?_, ?_⟩ <;> (rintro rfl; exact absurd h1 (by decide))
      · have : ∀ r ∈ shs, r ≠ main_v1_scv ∧ r ≠ main_v3_scv ∧ r ≠ main_v4_scv := by decide
        exact this r h
    rw [Function.update_of_ne hn.2.2, Function.update_of_ne hn.2.1, Function.update_of_ne hn.1]
  rw [bigSep_congr (s := vms) (fun r hr => congrArg (piece 0 d c i r) (eu r (Or.inl hr))),
    bigSep_congr (s := shs) (fun r hr => congrArg (piece 0 d c i r) (eu r (Or.inr hr)))]
  simp (disch := decide) only [Function.update_of_ne, Function.update_self]
  isplitl [H1]; · iexact H1
  isplitl [H3]; · iexact H3
  isplitl [H4]; · iexact H4
  isplitl [Hv]; · iexact Hv
  iexact Hs

/-- The tile's buffers at the end, handed back. -/
theorem end_state (d : Dev nD) (c : Fin τ.nSC) (i : Fin τ.nSub) (μ : Mem F) (h : OutLap (coordsV c i) (lapOf Vd Gd d c i) (μ main_v4_scv)) :
    iprop(memSt (V d c i) (acc 2 c.val i.val) μ ∗ otherBufs d c i ∗ semVal (bcell d c i) 0) ⊢ (iprop(taskOut Vd Gd d c i ∗ ownBufs (V d c i)) : Res F) := by
  have e0 : (memSt (V d c i) (acc 2 c.val i.val) μ : Res F) = bigSep Names fun r => piece 2 d c i r (μ r) := rfl
  have ex : ∀ s : Finset (Ref sig .scVector), (bigSep s fun r => piece 2 d c i r (μ r)) ⊢ (bigSep s fun r => iprop(∃ f, piece 2 d c i r f) : Res F) :=
    fun s => SparseCore.ent (bigSep_mono fun r _ => BI.BIClass.exists_intro (Φ := fun f => (piece 2 d c i r f : Res F)) (μ r))
  rw [e0, names_split, ownBufs_tile 2]
  unfold taskOut
  iintro ⟨⟨-, -, H4, Hv, Hs⟩, Ho, Hb⟩
  ihave Hv := ex vms $$ Hv
  ihave Hs := ex shs $$ Hs
  isplitr [Hv Ho]
  · isplitl [H4]
    · iexists (μ main_v4_scv)
      isplitr; · ipureintro; exact h
      iexact H4
    isplitl [Hs]; · iexact Hs
    iexact Hb
  isplitl [Hv]; · iexact Hv
  iexact Ho

/-! ## What a tile owes -/

omit [FloatOps F] [∀ e, Nonempty (Elt F e)] in
theorem due_none (d : Dev nD) (c : Fin τ.nSC) (k : Fin 2) (g : GSem nD τ sig) : due d c (some k) g none = 0 := by
  unfold due
  rw [Finset.sum_apply, Finsupp.finsetSum_apply]
  exact Finset.sum_eq_zero fun j _ => by rw [tallyAt_apply, if_neg (fun e => nomatch e.2)]

omit [FloatOps F] [∀ e, Nonempty (Elt F e)] in
theorem due_pos {d : Dev nD} {c : Fin τ.nSC} {k : Fin 2} {g : GSem nD τ sig} {ι : HIx 2} (h : 0 < due d c (some k) g ι) :
    ∃ j : Fin (grid0.bound 1), g = bcell d c (j.castLE hsub0) ∧ ι = some k := by
  unfold due at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

omit [FloatOps F] [∀ e, Nonempty (Elt F e)] in
theorem lev_bar (d : Dev nD) (c : Fin τ.nSC) (j : Fin τ.nSub) (k : Fin 2) : (K (F := F)).lev (bcell d c j) (some k) = 8 * k.val + 3 :=
  (K (F := F)).lev_V_reg d c j (show (sc_bar0 : Sem sig) ≠ (K (F := F)).go from sc_bar0_ne_go) k

/-- What a tile owes from the launch on: a raise of every sibling's barrier semaphore for each meeting. -/
def owesAll (d : Dev nD) (c : Fin τ.nSC) : CellTallies nD τ sig (HIx 2) := due d c (some 1) + due d c (some 0)

/-! ## The task -/

instance P1_storable (d : Dev nD) (c : Fin τ.nSC) (i j : Fin τ.nSub) : BI.Storable (upEmb : UEmb _ 𝕄) (P1 Vd Gd d c i j) := by
  unfold P1; infer_instance
set_option synthInstance.maxHeartbeats 200000 in
omit [FloatOps F] [∀ e, Nonempty (Elt F e)] in
instance P2_storable (d : Dev nD) (c : Fin τ.nSC) (i j : Fin τ.nSub) : BI.Storable (upEmb : UEmb _ 𝕄) (P2 Gd d c i j) := by
  unfold P2; infer_instance

/-- A piece of the program between two meetings, by its description. -/
theorem run_piece (d : Dev nD) (L : grid0.Coords) (ph : ℕ) (O : CellTallies nD τ sig (HIx 2)) (W : Waits sig (HIx 2)) {α : Type}
    (q : TileProg F L α) (R : α → Mem F → Prop) (Φ : α → Res F) (μ : Mem F)
    (h : Lwp ph (L 0).val (L 1).val q (fun a σ => ∃ μ', σ = ⟨μ', none⟩ ∧ R a μ') ⟨μ, none⟩) :
    iprop(memSt (V d (cV L) (jV L)) (acc ph (cV L).val (jV L).val) μ ∗ semSt (V d (cV L) (jV L)) (acc 0 (cV L).val (jV L).val) ∗ owes (V d (cV L) (jV L)) O W
        ∗ Transfers.MayWaits (V d (cV L) (jV L)) none O
        ∗ (∀ a μ' W', iprop(⌜R a μ'⌝ ∗ ⌜∀ p ∈ W', p ∈ W ∨ p.2 = none⌝ ∗ memSt (V d (cV L) (jV L)) (acc ph (cV L).val (jV L).val) μ'
            ∗ semSt (V d (cV L) (jV L)) (acc 0 (cV L).val (jV L).val) ∗ owes (V d (cV L) (jV L)) O W') -∗ Φ a))
      ⊢ wp frame (wpE (defs₀ (F := F)) 𝒱₀ (V d (cV L) (jV L)) none) Set.univ q Φ := by
  have es : (semSt (V d (cV L) (jV L)) (acc 0 (cV L).val (jV L).val) : Res F) = semSt (V d (cV L) (jV L)) (acc ph (cV L).val (jV L).val) := rfl
  rw [es]
  iintro ⟨Hmem, Hsems, HO, Hw, HΦ⟩
  iapply (lwp_sound countersEmb 𝒱₀ (V d (cV L) (jV L)) none (acc ph (cV L).val (jV L).val) none O W q _ Φ ⟨μ, none⟩ h) $$ [Hmem Hsems HO Hw HΦ]
  isplitl [Hmem Hsems]
  · rw [stRes_none (EC := countersEmb) (h := rfl)]
    isplitl [Hmem] <;> iassumption
  isplitl [HO]
  · unfold LocalRun.owed; iexists W
    isplitr; · ipureintro; exact fun p hp => .inl hp
    iexact HO
  isplitl [Hw]; · iexact Hw
  iintro %a %σ ⟨%hQ, Hst, HO⟩
  obtain ⟨μ₁, rfl, hR⟩ := hQ
  ihave Hst := (Entails.of_eq (stRes_none (EC := countersEmb) (h := rfl))) $$ Hst
  icases Hst with ⟨Hmem, Hsems⟩
  unfold LocalRun.owed
  icases HO with ⟨%W₁, %hW₁, HO⟩
  iapply HΦ
  isplitr; · ipureintro; exact hR
  isplitr; · ipureintro; exact hW₁
  isplitl [Hmem]; · iexact Hmem
  isplitl [Hsems]; · iexact Hsems
  iexact HO

set_option maxHeartbeats 4000000 in
/-- A tile's task: the three pieces of its program and the two meetings between them. -/
theorem tile_body (d : Dev nD) (L : grid0.Coords) (hG : InRange (F := F) (Gd d)) (O : CellTallies nD τ sig (HIx 2)) (W : Waits sig (HIx 2))
    (hO : ∀ g, O g none = 0) (hOlev : ∀ g ι, 0 < O g ι → 14 ≤ (K (F := F)).lev g ι) :
    iprop(levAts (K (F := F)).L (K (F := F)).lev ∗ kit (P1 Vd Gd) (P2 Gd) d (cV L) (jV L) ∗ taskIn Vd Gd d (cV L) (jV L)
        ∗ scopedBufs (V d (cV L) (jV L)) ∗ scopedSems0 (V d (cV L) (jV L)) ∗ owes (V d (cV L) (jV L)) (O + owesAll d (cV L)) W)
      ⊢ wp frame (wpE (defs₀ (F := F)) 𝒱₀ (V d (cV L) (jV L)) none) Set.univ (At (cc0__sc_mesh_body (F := F) L) : TileProg F L PUnit)
          fun _ => iprop(taskOut Vd Gd d (cV L) (jV L) ∗ scopedBufs (V d (cV L) (jV L)) ∗ scopedSems0 (V d (cV L) (jV L))
            ∗ ∃ W', ⌜∀ p ∈ W', p ∈ W ∨ p.2 = none ∨ ∃ j, p.2 = some j⌝ ∗ owes (V d (cV L) (jV L)) O W') := by
  rw [body_eq, (K (F := F)).scopedBufs_V facts d (cV L) (jV L), SparseCore.Cfg.scopedSems0_V (Val := Elt F) d (cV L) (jV L)]
  have hO1 : ∀ g, (O + due d (cV L) (some 1)) g none = 0 := fun g => by rw [Pi.add_apply, Finsupp.add_apply, hO g, due_none]
  have hO2 : ∀ g, (O + owesAll d (cV L)) g none = 0 := fun g => by
    unfold owesAll; rw [← add_assoc, Pi.add_apply, Finsupp.add_apply, hO1 g, due_none]
  have hMW : ∀ O' : CellTallies nD τ sig (HIx 2), (∀ g, O' g none = 0) → (levAts (K (F := F)).L (K (F := F)).lev : Res F) ⊢ Transfers.MayWaits (V d (cV L) (jV L)) none O' :=
    fun O' h => (K (F := F)).mayWaits_none (thr := V d (cV L) (jV L)) h
  have hm1 : (levAts (K (F := F)).L (K (F := F)).lev : Res F) ⊢ MayWait (V d (cV L) (jV L)) (.reg sc_bar0) (some 0) (O + due d (cV L) (some 1)) :=
    (K (F := F)).mayOwe_of_bound (thr := V d (cV L) (jV L)) 3 (fun p hp => by
      rw [Finset.mem_singleton] at hp; subst hp
      exact (lev_bar d (cV L) (jV L) 0).le) (fun g ι hg => by
        rw [Pi.add_apply, Finsupp.add_apply] at hg
        rcases Nat.eq_zero_or_pos (O g ι) with h0 | h0
        · rw [h0, zero_add] at hg
          obtain ⟨j, rfl, rfl⟩ := due_pos hg
          rw [lev_bar]; decide
        · exact lt_of_lt_of_le (by decide) (hOlev g ι h0))
  have hm2 : (levAts (K (F := F)).L (K (F := F)).lev : Res F) ⊢ MayWait (V d (cV L) (jV L)) (.reg sc_bar0) (some 1) O :=
    (K (F := F)).mayOwe_of_bound (thr := V d (cV L) (jV L)) 11 (fun p hp => by
      rw [Finset.mem_singleton] at hp; subst hp
      exact (lev_bar d (cV L) (jV L) 1).le) (fun g ι hg => lt_of_lt_of_le (by decide) (hOlev g ι hg))
  rw [wp_bind, ownSems_tile 0]
  iintro ⟨#Hlv, Hkit, Hin, Hbufs, ⟨Hsems, Hos⟩, HO⟩
  ihave Hst := (start_state Vd Gd d (cV L) (jV L)) $$ [Hin Hbufs]
  · isplitl [Hin] <;> iassumption
  icases Hst with ⟨%μ, %hμ, Hmem, Hob⟩
  ihave Hw := (hMW _ hO2) $$ Hlv
  iapply (run_piece d L 0 (O + owesAll d (cV L)) W (progA (F := F) L) _ _ μ (phaseA L (Vd d) (Gd d) hG μ hμ.1 hμ.2))
  isplitl [Hmem]; · iexact Hmem
  isplitl [Hsems]; · iexact Hsems
  isplitl [HO]; · iexact HO
  isplitl [Hw]; · iexact Hw
  iintro %a %μ₁ %W₁ ⟨%hQ, %hW₁, Hmem, Hsems, HO⟩
  obtain ⟨rfl, hA, hL⟩ := hQ
  -- the first meeting
  ihave Hmem := (Entails.of_eq (meet₁_send Vd Gd d (cV L) (jV L) μ₁ hL.ea hL.pk hL.eo hL.lap)) $$ Hmem
  icases Hmem with ⟨Hsend, Hrest⟩
  ihave Hm1 := hm1 $$ Hlv
  have eO : O + owesAll d (cV L) = (O + due d (cV L) (some 1)) + due d (cV L) (some 0) := by unfold owesAll; rw [← add_assoc]
  rw [eO]
  iapply (wp_meet₁ (P1 Vd Gd) (P2 Gd) 𝒱₀ none d (cV L) (jV L) (O + due d (cV L) (some 1)) W₁)
  isplitl [Hkit]; · iexact Hkit
  isplitl [Hsend]; · iexact Hsend
  isplitl [HO]; · iexact HO
  isplitl [Hm1]; · iexact Hm1
  iintro Hkit Hgot HO
  ihave Hmem := (Entails.of_eq (meet₁_recv Vd Gd d (cV L) (jV L) μ₁)) $$ [Hgot Hrest]
  · isplitl [Hgot] <;> iassumption
  rw [wp_bind]
  ihave Hw := (hMW _ hO1) $$ Hlv
  iapply (run_piece d L 1 (O + due d (cV L) (some 1)) _ (progB (F := F) L (handA L)) _ _ _ (phaseB L (Vd d) (Gd d) hG μ₁ hA))
  isplitl [Hmem]; · iexact Hmem
  isplitl [Hsems]; · iexact Hsems
  isplitl [HO]; · iexact HO
  isplitl [Hw]; · iexact Hw
  iintro %v %μ₂ %W₂ ⟨%hQ, %hW₂, Hmem, Hsems, HO⟩
  obtain ⟨rfl, hB⟩ := hQ
  -- the second meeting
  ihave Hmem := (meet₂_send Gd d (cV L) (jV L) μ₂ hB.srt) $$ Hmem
  icases Hmem with ⟨Hsend, Hrest⟩
  ihave Hm2 := hm2 $$ Hlv
  iapply (wp_meet₂ (P2 Gd) 𝒱₀ none d (cV L) (jV L) O W₂)
  isplitl [Hkit]; · iexact Hkit
  isplitl [Hsend]; · iexact Hsend
  isplitl [HO]; · iexact HO
  isplitl [Hm2]; · iexact Hm2
  iintro Hbar Hgot HO
  ihave Hmem := (meet₂_recv Gd d (cV L) (jV L) μ₂) $$ [Hgot Hrest]
  · isplitl [Hgot] <;> iassumption
  icases Hmem with ⟨%f, %g, %k, %hgk, Hmem⟩
  ihave Hw := (hMW _ hO) $$ Hlv
  iapply (run_piece d L 2 O _ (progC (F := F) L (handA L) _) _ _ _ (phaseC L (Vd d) (Gd d) hG _ _ (hB.ready f g k hgk)))
  isplitl [Hmem]; · iexact Hmem
  isplitl [Hsems]; · iexact Hsems
  isplitl [HO]; · iexact HO
  isplitl [Hw]; · iexact Hw
  iintro %_ %μ₃ %W₃ ⟨%hC, %hW₃, Hmem, Hsems, HO⟩
  have hC' : OutLap (coordsV (cV L) (jV L)) (lapOf Vd Gd d (cV L) (jV L)) (μ₃ main_v4_scv) := by
    unfold lapOf; rw [coordsV_self]; exact hC
  ihave Hend := (end_state Vd Gd d (cV L) (jV L) μ₃ hC') $$ [Hmem Hob Hbar]
  · isplitl [Hmem]; · iexact Hmem
    isplitl [Hob] <;> iassumption
  icases Hend with ⟨Hout, Hbufs⟩
  isplitl [Hout]; · iexact Hout
  isplitl [Hbufs]; · iexact Hbufs
  isplitl [Hsems Hos]
  · isplitl [Hsems] <;> iassumption
  iexists W₃
  isplitr [HO]; swap; · iexact HO
  ipureintro
  intro p hp
  rcases hW₃ p hp with h | h
  · rcases Finset.mem_insert.mp h with rfl | h
    · exact .inr (.inr ⟨1, rfl⟩)
    · rcases hW₂ p h with h | h
      · rcases Finset.mem_union.mp h with h | h
        · rcases hW₁ p h with h | h
          · exact .inl h
          · exact .inr (.inl h)
        · rw [Finset.mem_singleton] at h; subst h; exact .inr (.inr ⟨0, rfl⟩)
      · exact .inr (.inl h)
  · exact .inr (.inl h)

end Cert.Proof.Tile
-- ==== Proof.Share.lean ====
/-
  The sequencer's part: the shared buffers of a SparseCore dealt to its sixteen tiles and put together again.
-/
module

public import proofs.«01_k».proof.Proof.Tile

@[expose] public section

noncomputable section

namespace Cert.Proof.Tile

open Cert.KernelIdeal Cert.KernelIdeal.Gen Cert.Proof.LocalRun Cert.Proof.Meet

open Idealize.ShloMosaic
open Idealize.ShloMosaic.SparseCore (S V T)
open Idealize.ShloMosaic.SparseCore.Cfg (HIx Blocks Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts₀
attribute [local instance] Cert.Proof.Meet.blocks
variable {F : FTy → Type}

local notation "𝕄" => MT nD τ sig (HIx 2) (Elt F) ℕ UU ℕ

/-! ## Each buffer to each tile, and back -/

/-- What is divided among the tiles one by one is divided among them all together. -/
theorem deal_each {I J : Type} [DecidableEq I] (s : Finset I) (t : Finset J) (Φ : I → Res F) (Ψ : J → I → Res F) (h : ∀ r ∈ s, Φ r ⊢ bigSep t fun i => Ψ i r) :
    bigSep s Φ ⊢ (bigSep t fun i => bigSep s (Ψ i) : Res F) := by
  induction s using Finset.induction_on with
  | empty => simp only [bigSep_empty]; rw [bigSep_emp_const]
  | insert a s ha ih =>
    simp only [SparseCore.bigSep_insert' ha]
    rw [bigSep_sep']
    exact BI.sep_mono (h a (Finset.mem_insert_self _ _)) (ih fun r hr => h r (Finset.mem_insert_of_mem hr))

/-- The converse. -/
theorem gather_each {I J : Type} [DecidableEq I] (s : Finset I) (t : Finset J) (Φ : I → Res F) (Ψ : J → I → Res F) (h : ∀ r ∈ s, (bigSep t fun i => Ψ i r) ⊢ Φ r) :
    (bigSep t fun i => bigSep s (Ψ i) : Res F) ⊢ bigSep s Φ := by
  induction s using Finset.induction_on with
  | empty => simp only [bigSep_empty]; rw [bigSep_emp_const]
  | insert a s ha ih =>
    simp only [SparseCore.bigSep_insert' ha]
    rw [bigSep_sep']
    exact BI.sep_mono (h a (Finset.mem_insert_self _ _)) (ih fun r hr => h r (Finset.mem_insert_of_mem hr))

section Parts

variable {ℓ : Loc nD τ sig}

theorem open_of (Y : Fin 16 → Finset (Idx ℓ)) (hcov : ∀ x, ∃ j, x ∈ Y j) (hdis : ∀ j j' x, x ∈ Y j → x ∈ Y j' → j = j') :
    (iprop(∃ f, ℓ ↦{fullShare} f) : Res F) ⊢ bigSep Finset.univ fun j : Fin 16 => iprop(∃ f, ℓ ↦[Y j]{fullShare} f) := by
  iintro ⟨%f, H⟩
  ihave H := (Entails.of_eq (divide_all Y hcov hdis)) $$ H
  iapply (SparseCore.ent (bigSep_mono (Φ := fun j : Fin 16 => (ℓ ↦[Y j]{fullShare} f : Res F)) fun j _ =>
    BI.BIClass.exists_intro (Φ := fun f => (ℓ ↦[Y j]{fullShare} f : Res F)) f))
  iexact H

theorem close_of [Nonempty (Buf (Elt F) ℓ)] {I : Type} [Fintype I] [DecidableEq I] (Y : I → Finset (Idx ℓ)) (hcov : ∀ x, ∃ j, x ∈ Y j)
    (hdis : ∀ j j' x, x ∈ Y j → x ∈ Y j' → j = j') :
    (bigSep Finset.univ fun j : I => iprop(∃ f, ℓ ↦[Y j]{fullShare} f)) ⊢ (iprop(∃ f, ℓ ↦{fullShare} f) : Res F) := by
  refine (bigSep_exists_pi (Y := fun _ => Buf (Elt F) ℓ) Finset.univ (fun (j : I) f => (ℓ ↦[Y j]{fullShare} f : Res F))).trans ?_
  have hu : Finset.univ.biUnion Y = Finset.univ := by
    ext x; simp only [Finset.mem_biUnion, Finset.mem_univ, true_and, iff_true]; exact hcov x
  iintro ⟨%fs, H⟩
  ihave H := (pointsTo_biUnion_join Finset.univ Y fs (Classical.arbitrary _) (fun j _ j' _ hne => Finset.disjoint_left.mpr fun x hx hx' => hne (hdis j j' x hx hx'))) $$ H
  icases H with ⟨%g, -, H⟩
  rw [hu]
  iexists g; iexact H

/-- Read shares of the two halves, one half's for each tile, are the whole. -/
theorem close_halves [Nonempty (Buf (Elt F) ℓ)] (Y : Fin 2 → Finset (Idx ℓ)) (hcov : ∀ x, ∃ j, x ∈ Y j) (hdis : ∀ j j' x, x ∈ Y j → x ∈ Y j' → j = j')
    (X : Fin 16 → Finset (Idx ℓ)) (hX : ∀ (h : Fin 2) (j : Fin 16), j.val / 8 = h.val → X j = Y h) :
    (bigSep Finset.univ fun j : Fin 16 => iprop(∃ f, ℓ ↦[X j]{shr (j.val % 8)} f)) ⊢ (iprop(∃ f, ℓ ↦{fullShare} f) : Res F) := by
  have hf : (Finset.univ.filter fun k : Fin 16 => ¬ k.val / 8 = (0 : Fin 2).val) = Finset.univ.filter fun k : Fin 16 => k.val / 8 = (1 : Fin 2).val := by decide
  have hh : ∀ h : Fin 2, (bigSep (Finset.univ.filter fun k : Fin 16 => k.val / 8 = h.val) fun j => iprop(∃ f, ℓ ↦[X j]{shr (j.val % 8)} f))
      ⊢ (iprop(∃ f, ℓ ↦[Y h]{fullShare} f) : Res F) := fun h => by
    rw [bigSep_congr (Ψ := fun j : Fin 16 => (iprop(∃ f, ℓ ↦[Y h]{shr (j.val % 8)} f) : Res F)) fun j hj => by rw [hX h j (Finset.mem_filter.mp hj).2]]
    exact undeal8 (Y h) h
  rw [SparseCore.bigSep_filter_split' Finset.univ (fun k : Fin 16 => k.val / 8 = (0 : Fin 2).val), hf]
  refine BI.Entails.trans ?_ (close_of Y hcov hdis)
  rw [show (bigSep Finset.univ fun j : Fin 2 => iprop(∃ f, ℓ ↦[Y j]{fullShare} f) : Res F) = iprop((∃ f, ℓ ↦[Y 0]{fullShare} f) ∗ (∃ f, ℓ ↦[Y 1]{fullShare} f))
    from BI.bigSep_fin_two _]
  exact BI.sep_mono (hh 0) (hh 1)

end Parts

section Shared

variable (d : Dev nD) (c : Fin τ.nSC)

/-- A shared buffer of SparseCore `c`. -/
abbrev sloc (r : Ref sig .scVector) : Loc nD τ sig := (V d c (0 : Fin τ.nSub)).loc r

theorem open_ref [∀ e, Nonempty (Elt F e)] (r : Ref sig .scVector) (hsh : ∀ i : Fin τ.nSub, (acc 0 c.val i.val).sh r = fullShare)
    (hcov : ∀ n, n < r.ty.shape.numel → ∃ j : Fin 16, ownP 0 c.val j.val r.space r.idx.val n)
    (hdis : ∀ n, n < r.ty.shape.numel → ∀ j j' : Fin 16, ownP 0 c.val j.val r.space r.idx.val n → ownP 0 c.val j'.val r.space r.idx.val n → j = j')
    :
    (iprop(∃ f, sloc d c r ↦{fullShare} f) : Res F) ⊢ bigSep Finset.univ fun i : Fin τ.nSub => iprop(∃ f, sloc d c r ↦[(acc 0 c.val i.val).own r]{fullShare} f) :=
  open_of (ℓ := sloc d c r) (fun i => (acc 0 c.val i.val).own r) (fun x => (hcov _ (lt_numel (s := r.ty.shape) x)).imp fun j hj => mem_own.2 hj)
    (fun j j' x h h' => hdis _ (lt_numel (s := r.ty.shape) x) j j' (mem_own.1 h) (mem_own.1 h'))

theorem close_ref [∀ e, Nonempty (Elt F e)] (r : Ref sig .scVector)
    (hcov : ∀ n, n < r.ty.shape.numel → ∃ j : Fin 16, ownP 2 c.val j.val r.space r.idx.val n)
    (hdis : ∀ n, n < r.ty.shape.numel → ∀ j j' : Fin 16, ownP 2 c.val j.val r.space r.idx.val n → ownP 2 c.val j'.val r.space r.idx.val n → j = j') :
    (bigSep Finset.univ fun i : Fin 16 => iprop(∃ f, sloc d c r ↦[(acc 2 c.val i.val).own r]{fullShare} f)) ⊢ (iprop(∃ f, sloc d c r ↦{fullShare} f) : Res F) := by
  haveI : ∀ ℓ : Loc nD τ sig, Nonempty (Buf (Elt F) ℓ) := fun ℓ => ⟨fun _ => Classical.arbitrary _⟩
  exact close_of (ℓ := sloc d c r) (fun i : Fin 16 => (acc 2 c.val i.val).own r) (fun x => (hcov _ (lt_numel (s := r.ty.shape) x)).imp fun j hj => mem_own.2 hj)
    (fun j j' x h h' => hdis _ (lt_numel (s := r.ty.shape) x) j j' (mem_own.1 h) (mem_own.1 h'))

/-- The stripes of a tile in eight that only the first holds. -/
theorem cov_first {n k : ℕ} (h : n < 2 * k) (hk : 0 < k) : ∃ j : Fin 16, n / k = j.val / 8 ∧ j.val % 8 = 0 := by
  have hx : n / k < 2 := (Nat.div_lt_iff_lt_mul hk).2 h
  exact ⟨⟨n / k * 8, by omega⟩, by dsimp only; omega, by dsimp only; omega⟩

theorem dis_first {a : ℕ} (j j' : Fin 16) (h : a = j.val / 8 ∧ j.val % 8 = 0) (h' : a = j'.val / 8 ∧ j'.val % 8 = 0) : j = j' := Fin.ext (by omega)

theorem open_shared [∀ e, Nonempty (Elt F e)] : ∀ r ∈ shs, (iprop(∃ f, sloc d c r ↦{fullShare} f) : Res F)
    ⊢ bigSep Finset.univ fun i : Fin τ.nSub => iprop(∃ f, piece 0 d c i r f) := by
  intro r hr
  simp only [shs, Finset.mem_insert, Finset.mem_singleton] at hr
  rcases hr with rfl | rfl | rfl | rfl | rfl | rfl | rfl
  · exact open_ref d c cc0_scratch23 (fun _ => rfl) (fun n hn => cov_ea (k := 0) hn (fun _ => rfl)) (fun n _ j j' => dis_ea (k := 0) (fun _ => rfl) j j')
  · exact open_ref d c cc0_scratch24 (fun _ => rfl) (fun n hn => cov_ea (k := 1) hn (fun _ => rfl)) (fun n _ j j' => dis_ea (k := 1) (fun _ => rfl) j j')
  · exact open_ref d c cc0_scratch25 (fun _ => rfl) (fun n hn => cov_ea (k := 2) hn (fun _ => rfl)) (fun n _ j j' => dis_ea (k := 2) (fun _ => rfl) j j')
  · exact open_ref d c cc0_scratch26 (fun _ => rfl) (fun n hn => cov_first (k := 12288) hn (by decide)) (fun n _ j j' => dis_first j j')
  · exact open_ref d c cc0_scratch27 (fun _ => rfl) (fun n hn => cov_first (k := 2048) hn (by decide)) (fun n _ j j' => dis_first j j')
  · exact open_ref d c cc0_scratch28 (fun _ => rfl) (fun n hn => cov_first (k := 2048) hn (by decide)) (fun n _ j j' => dis_first j j')
  · exact open_ref d c cc0_scratch29 (fun _ => rfl) (fun n hn => cov_lap hn) (fun n _ j j' => dis_lap j j')

/-- The half of an array of `2 k` elements. -/
def halfOf (r : Ref sig .scVector) (k : ℕ) (h : Fin 2) : Finset (Idx (sloc d c r)) :=
  Finset.univ.filter fun x : r.ty.shape.Idx => (r.ty.shape.rowMajor x).val / k = h.val

theorem close_shared [∀ e, Nonempty (Elt F e)] : ∀ r ∈ shs, (bigSep Finset.univ fun i : Fin τ.nSub => iprop(∃ f, piece 2 d c i r f))
    ⊢ (iprop(∃ f, sloc d c r ↦{fullShare} f) : Res F) := by
  intro r hr
  haveI : ∀ ℓ : Loc nD τ sig, Nonempty (Buf (Elt F) ℓ) := fun ℓ => ⟨fun _ => Classical.arbitrary _⟩
  have halves : ∀ (r : Ref sig .scVector) (k : ℕ) (hk : 0 < k) (hn : r.ty.shape.numel = 2 * k)
      (hown : ∀ (i : Fin 16) (x : r.ty.shape.Idx), ownP 2 c.val i.val r.space r.idx.val (r.ty.shape.rowMajor x).val ↔ (r.ty.shape.rowMajor x).val / k = i.val / 8),
      (bigSep Finset.univ fun i : Fin 16 => iprop(∃ f, sloc d c r ↦[(acc 2 c.val i.val).own r]{shr (i.val % 8)} f))
        ⊢ (iprop(∃ f, sloc d c r ↦{fullShare} f) : Res F) := by
    intro r k hk hn hown
    refine close_halves (ℓ := sloc d c r) (halfOf d c r k) (fun x => ?_) (fun j j' x h h' => ?_) (fun i => (acc 2 c.val i.val).own r) (fun h j hj => ?_)
    · have hx := (lt_numel (s := r.ty.shape) x).trans_eq hn
      exact ⟨⟨(r.ty.shape.rowMajor x).val / k, (Nat.div_lt_iff_lt_mul hk).2 hx⟩, Finset.mem_filter.mpr ⟨Finset.mem_univ _, rfl⟩⟩
    · exact Fin.ext ((Finset.mem_filter.mp h).2.symm.trans (Finset.mem_filter.mp h').2)
    · refine Finset.ext fun x => ?_
      refine mem_own.trans ((hown j x).trans ?_)
      rw [hj]
      exact ⟨fun hx => Finset.mem_filter.mpr ⟨Finset.mem_univ _, hx⟩, fun hx => (Finset.mem_filter.mp hx).2⟩
  simp only [shs, Finset.mem_insert, Finset.mem_singleton] at hr
  rcases hr with rfl | rfl | rfl | rfl | rfl | rfl | rfl
  · exact close_ref d c cc0_scratch23 (fun n hn => cov_ea (k := 0) hn (fun h => nomatch h)) (fun n _ j j' => dis_ea (k := 0) (fun h => nomatch h) j j')
  · exact close_ref d c cc0_scratch24 (fun n hn => cov_ea (k := 1) hn (fun h => nomatch h)) (fun n _ j j' => dis_ea (k := 1) (fun h => nomatch h) j j')
  · exact halves cc0_scratch25 12288 (by decide) rfl (fun i x => Iff.rfl)
  · exact halves cc0_scratch26 12288 (by decide) rfl (fun i x => Iff.rfl)
  · exact halves cc0_scratch27 2048 (by decide) rfl (fun i x => Iff.rfl)
  · exact halves cc0_scratch28 2048 (by decide) rfl (fun i x => Iff.rfl)
  · exact close_ref d c cc0_scratch29 (fun n hn => cov_lap hn) (fun n _ j j' => dis_lap j j')

theorem shs_own : shs.image (dref c 0) ⊆ ownRefs (τ := τ) (sig := sig) (.scScalar c) := by
  intro b hb
  obtain ⟨r, hr, rfl⟩ := Finset.mem_image.mp hb
  refine SparseCore.Cfg.mem_ownRefs.mpr ?_
  simp only [shs, Finset.mem_insert, Finset.mem_singleton] at hr
  rcases hr with rfl | rfl | rfl | rfl | rfl | rfl | rfl <;> rfl

/-- The rest of the sequencer's buffers. -/
def seqBufs : Res F :=
  bigSep (ownRefs (τ := τ) (sig := sig) (.scScalar c) \ shs.image (dref c 0)) fun b => iprop(∃ f, ((d, b) : Loc nD τ sig) ↦{fullShare} f)

theorem ownBufs_seq : (ownBufs (S d c) : Res F) = iprop((bigSep shs fun r => iprop(∃ f, sloc d c r ↦{fullShare} f)) ∗ seqBufs d c) := by
  unfold SparseCore.Cfg.ownBufs seqBufs
  rw [show (S d c : Thread nD τ).2 = .scScalar c from rfl, SparseCore.bigSep_sdiff_split' (shs_own c),
    SparseCore.bigSep_image_of_injOn ((Proc.devRef_injective (sig := sig) (Proc.scVector c 0)).injOn)]

/-- The sequencer's buffers, the shared ones in the tiles' parts. -/
theorem deal_shared [∀ e, Nonempty (Elt F e)] :
    (ownBufs (S d c) : Res F) ⊢ iprop((bigSep Finset.univ fun i : Fin τ.nSub => bigSep shs fun r => iprop(∃ f, piece 0 d c i r f)) ∗ seqBufs d c) := by
  rw [ownBufs_seq]
  exact BI.sep_mono (deal_each shs Finset.univ _ (fun (i : Fin τ.nSub) r => (iprop(∃ f, piece 0 d c i r f) : Res F)) (open_shared d c)) (BI.Entails.refl _)

/-- And back. -/
theorem gather_shared [∀ e, Nonempty (Elt F e)] :
    iprop((bigSep Finset.univ fun i : Fin τ.nSub => bigSep shs fun r => iprop(∃ f, piece 2 d c i r f)) ∗ seqBufs d c) ⊢ (ownBufs (S d c) : Res F) := by
  rw [ownBufs_seq]
  exact BI.sep_mono (gather_each shs Finset.univ _ (fun (i : Fin τ.nSub) r => (iprop(∃ f, piece 2 d c i r f) : Res F)) (close_shared d c)) (BI.Entails.refl _)

end Shared

end Cert.Proof.Tile
-- ==== Proof.Launch.lean ====
/-
  The launch: what the handshakes carry, the tiles' obligation, and the launch element dealt.
-/
module

public import proofs.«01_k».proof.Proof.Share

@[expose] public section

noncomputable section

namespace Cert.Proof.Tile

open Cert.KernelIdeal Cert.KernelIdeal.Gen Cert.Proof.LocalRun Cert.Proof.Meet

open Idealize.ShloMosaic
open Idealize.ShloMosaic.SparseCore (S V T)
open Idealize.ShloMosaic.SparseCore.Cfg (HIx Blocks Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts₀
attribute [local instance] Cert.Proof.Meet.blocks
variable {F : FTy → Type} [FloatOps F]

local notation "𝕄" => MT nD τ sig (HIx 2) (Elt F) ℕ UU ℕ

variable (Vd : Dev nD → main_v1_scv.ty.Contents (Elt F)) (Gd : Dev nD → main_v3_scv.ty.Contents (Elt F))

/-! ## What the handshakes carry -/

/-- Of the arguments and the result, what one tile works on. -/
def tileArgs (d : Dev nD) (c : Fin τ.nSC) (i : Fin τ.nSub) : Res F :=
  iprop(piece 0 d c i main_v1_scv (Vd d) ∗ piece 0 d c i main_v3_scv (Gd d) ∗ ∃ f, piece 0 d c i main_v4_scv f)

/-- What comes back of it: its stretch of the result with its Laplacian row, and its barrier semaphore. -/
def tileDone (d : Dev nD) (c : Fin τ.nSC) (i : Fin τ.nSub) : Res F :=
  iprop((∃ f : main_v4_scv.ty.Contents (Elt F), ⌜OutLap (coordsV c i) (lapOf Vd Gd d c i) f⌝ ∗ piece 2 d c i main_v4_scv f) ∗ semVal (bcell d c i) 0)

set_option backward.proofsInPublic true in
/-- The one call takes the tables' shares and the stretches of the result of a SparseCore's tiles; each tile also its part
    of the shared memory; each tile's proof consumes its kit; each tile owes its raises. -/
def P : (K (F := F)).Pay (nD := nD) (N := 2) (Val := Elt F) (Name := ℕ) (U := UU) where
  st := fun q d c => match q with | 0 => bigSep Finset.univ fun i : Fin τ.nSub => tileArgs Vd Gd d (coreOf c) i
  dn := fun q d c => match q with | 0 => bigSep Finset.univ fun i : Fin τ.nSub => tileDone Vd Gd d (coreOf c) i
  go := fun q d c i => match q with | 0 => taskIn Vd Gd d (coreOf c) ((K (F := F)).sub 0 i)
  td := fun q d c i => match q with | 0 => taskOut Vd Gd d (coreOf c) ((K (F := F)).sub 0 i)
  x := fun _ thr => match thr with
    | (d, .scVector c i) => kit (P1 Vd Gd) (P2 Gd) d c i
    | _ => iprop(emp)
  ox := fun _ thr => match thr with
    | (d, .scVector c _) => owesAll d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · have h' : 0 < due d c (some 1) g ι + due d c (some 0) g ι := h
      rcases Nat.eq_zero_or_pos (due d c (some 1) g ι) with h0 | h1
      · rw [h0, Nat.zero_add] at h'
        obtain ⟨j, rfl, rfl⟩ := due_pos h'
        rw [lev_bar]; exact ⟨by decide, by decide⟩
      · obtain ⟨j, rfl, rfl⟩ := due_pos h1
        rw [lev_bar]; exact ⟨by decide, by decide⟩
  ox_tc := fun _ _ => rfl
  ox_sc := fun _ _ _ h => absurd rfl h
  ox_vc := by
    intro q d c i h
    obtain rfl : q = 0 := Subsingleton.elim _ _
    exact ⟨rfl, c.isLt, i.isLt⟩

set_option synthInstance.maxHeartbeats 400000 in
instance P_storable : (P Vd Gd).IsStorable where
  st q d c := match q with
    | 0 => by
      show BI.Storable (upEmb : UEmb _ 𝕄) (bigSep Finset.univ fun i : Fin τ.nSub => tileArgs Vd Gd d (coreOf c) i)
      unfold tileArgs piece; infer_instance
  dn q d c := match q with
    | 0 => by
      show BI.Storable (upEmb : UEmb _ 𝕄) (bigSep Finset.univ fun i : Fin τ.nSub => tileDone Vd Gd d (coreOf c) i)
      unfold tileDone piece; infer_instance
  go q d c i := match q with
    | 0 => by
      show BI.Storable (upEmb : UEmb _ 𝕄) (taskIn Vd Gd d (coreOf c) ((K (F := F)).sub 0 i))
      unfold taskIn piece; infer_instance
  td q d c i := match q with
    | 0 => by
      show BI.Storable (upEmb : UEmb _ 𝕄) (taskOut Vd Gd d (coreOf c) ((K (F := F)).sub 0 i))
      unfold taskOut piece; infer_instance

/-! ## The tiles' obligation -/

def coordsG (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => At (cc0__sc_mesh_body (F := F) (coordsG c s))) ⟨⟩ c s := rfl

set_option maxRecDepth 16384 in
theorem tileObl [∀ e, Nonempty (Elt F e)] (hG : ∀ d, InRange (F := F) (Gd d)) : (K (F := F)).TileObl (D (F := F)) 𝒱 (P Vd Gd) v₀ 0 (K (F := F)).lev := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Vd Gd d (coordsG ⟨_, hci.1⟩ ⟨_, hci.2⟩) (hG d) O W hO hOlev

/-! ## The sequencer's split -/

theorem bigSep_tasks (Φ : Fin τ.nSub → Res F) :
    (bigSep Finset.univ fun i : Fin ((K (F := F)).nSub 0) => Φ ((K (F := F)).sub 0 i)) = bigSep Finset.univ Φ :=
  bigSep_congr fun _ _ => congrArg Φ (Fin.ext rfl)

theorem split_in [∀ e, Nonempty (Elt F e)] (d : Dev nD) (c : Fin τ.nSC) :
    iprop((bigSep Finset.univ fun i : Fin τ.nSub => tileArgs Vd Gd d c i) ∗ bigSep Finset.univ fun i : Fin τ.nSub => bigSep shs fun r => iprop(∃ f, piece 0 d c i r f))
      ⊢ (bigSep Finset.univ fun i : Fin τ.nSub => taskIn Vd Gd d c i : Res F) := by
  rw [← bigSep_sep']
  refine bigSep_mono fun i _ => ?_
  show (iprop(tileArgs Vd Gd d c i ∗ bigSep shs fun r => iprop(∃ f, piece 0 d c i r f)) : Res F) ⊢ taskIn Vd Gd d c i
  unfold tileArgs taskIn
  iintro ⟨⟨H1, H2, H3⟩, H4⟩
  isplitl [H1]; · iexact H1
  isplitl [H2]; · iexact H2
  isplitl [H3]; · iexact H3
  iexact H4

theorem split_out [∀ e, Nonempty (Elt F e)] (d : Dev nD) (c : Fin τ.nSC) :
    (bigSep Finset.univ fun i : Fin τ.nSub => taskOut Vd Gd d c i : Res F)
      ⊢ iprop((bigSep Finset.univ fun i : Fin τ.nSub => tileDone Vd Gd d c i) ∗ bigSep Finset.univ fun i : Fin τ.nSub => bigSep shs fun r => iprop(∃ f, piece 2 d c i r f)) := by
  rw [← bigSep_sep']
  refine bigSep_mono fun i _ => ?_
  show (taskOut Vd Gd d c i : Res F) ⊢ iprop(tileDone Vd Gd d c i ∗ bigSep shs fun r => iprop(∃ f, piece 2 d c i r f))
  unfold tileDone taskOut
  iintro ⟨H1, H2, H3⟩
  isplitr [H2]
  · isplitl [H1]; · iexact H1
    iexact H3
  iexact H2

theorem vecSplit [∀ e, Nonempty (Elt F e)] : (K (F := F)).VecSplit (P Vd Gd) 0 := by
  intro d c
  show iprop((bigSep Finset.univ fun i : Fin τ.nSub => tileArgs Vd Gd d (coreOf c) i) ∗ ownBufs (S d (coreOf c))) ⊢ |={Set.univ}=> iprop(
      (bigSep Finset.univ fun i : Fin ((K (F := F)).nSub 0) => taskIn Vd Gd d (coreOf c) ((K (F := F)).sub 0 i))
      ∗ ((bigSep Finset.univ fun i : Fin ((K (F := F)).nSub 0) => taskOut Vd Gd d (coreOf c) ((K (F := F)).sub 0 i))
          -∗ iprop((bigSep Finset.univ fun i : Fin τ.nSub => tileDone Vd Gd d (coreOf c) i) ∗ ownBufs (S d (coreOf c)))))
  rw [bigSep_tasks (fun i => taskIn Vd Gd d (coreOf c) i), bigSep_tasks (fun i => taskOut Vd Gd d (coreOf c) i)]
  iintro ⟨Ha, Ho⟩
  ihave H := (deal_shared d (coreOf c)) $$ Ho
  icases H with ⟨Hs, Hr⟩
  imodintro
  isplitr [Hr]
  · iapply (split_in Vd Gd d (coreOf c))
    isplitl [Ha] <;> iassumption
  iintro H
  ihave H := (split_out Vd Gd d (coreOf c)) $$ H
  icases H with ⟨Hd, Hs⟩
  isplitl [Hd]; · iexact Hd
  iapply (gather_shared d (coreOf c))
  isplitl [Hs] <;> iassumption

/-! ## The launch element, and what the launch deals -/

abbrev DCI : Type := Dev nD × Fin τ.nSC × Fin τ.nSub
abbrev bcell₃ (x : DCI) : GSem nD τ sig := bcell x.1 x.2.1 x.2.2

/-- The barrier cells of all tiles. -/
def bCells : Finset (GSem nD τ sig) := Finset.univ.image bcell₃
/-- Of each pair of tiles of a SparseCore, a token of the first in the second's cell, numbered from `o`. -/
def toksOf (o : ℕ) : Finset (GSem nD τ sig × ℕ × ℕ) :=
  Finset.univ.image fun x : DCI × Fin τ.nSub => (bcell x.1.1 x.1.2.1 x.2, 0, o + x.1.2.2.val)
/-- The tokens of both meetings. -/
def bToks : Finset (GSem nD τ sig × ℕ × ℕ) := toksOf 0 ∪ toksOf 16
def u₀ : UU := (initOf (K (F := F)).hsCells (K (F := F)).hsToks, (initOf bCells bToks, (initOf bCells (toksOf 0), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UH) (c : UH) : (ownU ((a, (b, (c, 1))) : UU) : Res F) ⊢ iprop(BI.own (EH a) ∗ BI.own (EB b) ∗ BI.own (ED c)) := by
  have h1 : (ownU ((a, (b, (c, 1))) : UU) : Res F) ⊢ iprop(BI.own (EH a) ∗ ownU ((1, (b, (c, 1))) : UU)) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, (c, (1 : Counters))))))
  have h2 : (ownU ((1, (b, (c, 1))) : UU) : Res F) ⊢ iprop(BI.own (EB b) ∗ BI.own (ED c)) :=
    BI.own_op_elim ((uEmb (nD := nD) (sig := sig) (Ix := HIx 2) (Val := Elt F) (Name := ℕ) (U := UU) (Lvl := ℕ)).toEmb.op_of_mem
      (Prod.mk_mem_op (URA.mem_op_one 1) (Prod.mk_mem_op (URA.mem_op_one b) (URA.mem_one_op (c, (1 : Counters))))))
  exact h1.trans (BI.sep_mono (BI.Entails.refl _) h2)

/-- Every barrier semaphore at zero, out of the free semaphores the launch hands over. -/
theorem sems_b : ((K (F := F)).freeOn (· ∈ bCells) : Res F) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : Res F)) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ dci)⟩)

/-- The barrier cells' invariants, allocated at once. -/
theorem invs_b : iprop((bigSep bCells fun g => (semVal g 0 : Res F)) ∗ bigSep bCells fun g => roundState EB (bRd (F := F) (P2 Gd)) g 0)
    ⊢ |={Set.univ}=> iprop(∃ κ : GSem nD τ sig → ℕ, bigSep bCells fun g => cellInv EB (bRd (F := F) (P2 Gd)) (κ g) g) := by
  refine (Rounds.bodies_intro EB (bRd (F := F) (P2 Gd)) bCells).trans ((inv_alloc_family bCells (Rounds.body EB (bRd (F := F) (P2 Gd))) ∅ (E := Set.univ)).trans ?_)
  iintro H
  imod H with ⟨%κ, -, Hinv⟩
  imodintro; iexists κ; iexact Hinv

omit [FloatOps F] in
theorem bCells_eq (Φ : GSem nD τ sig → Res F) : bigSep bCells Φ = bigSep Finset.univ fun x : DCI => Φ (bcell₃ x) := by
  unfold bCells; exact SparseCore.bigSep_image_of_injOn (fun a _ b _ e => bcell₃_injective e) Φ

/-- The stores' invariants, every store empty. -/
theorem invs_d : (bigSep bCells fun g => Rounds.initState (ED (F := F)) g)
    ⊢ (|={Set.univ}=> iprop(∃ κ : DCI → ℕ, bigSep Finset.univ fun x : DCI => inv (κ x) (depBody (P1 Vd Gd) x)) : Res F) := by
  rw [bCells_eq]
  refine BI.Entails.trans (bigSep_mono (Ψ := fun x : DCI => depBody (P1 Vd Gd) x) fun x _ => ?_)
    ((inv_alloc_family Finset.univ (fun x : DCI => depBody (P1 Vd Gd) x) ∅ (E := Set.univ)).trans ?_)
  · unfold depBody
    exact BI.Entails.trans (show (iprop(roundAuth ED (bcell₃ x) 0 ∅ 0 ∗ Rounds.ledgerAuth ED (bcell₃ x) 0 ∅ (fun _ => 0)) : Res F) ⊢ roundAuth ED (bcell₃ x) 0 ∅ 0 from sep_elim_left) BI.or_introL
  · iintro H
    imod H with ⟨%κ, -, Hinv⟩
    imodintro; iexists κ; iexact Hinv

omit [FloatOps F] in
theorem sum_tallyAt_one (g : GSem nD τ sig) (ι : HIx 2) (n : ℕ) : ∑ _ : Fin n, tallyAt g ι 1 = (tallyAt g ι n : CellTallies nD τ sig (HIx 2)) := by
  induction n with
  | zero => rw [Fin.sum_univ_zero, tallyAt_zero]
  | succ n ih => rw [Fin.sum_univ_castSucc, ih, tallyAt_add]

omit [FloatOps F] in
theorem cred_due (d : Dev nD) (c : Fin τ.nSC) (k : Fin 2) :
    (bigSep Finset.univ fun _ : Fin τ.nSub => (cred (due d c (some k)) : Res F)) ⊢ bigSep Finset.univ fun j : Fin τ.nSub => cred (tallyAt (bcell d c j) (some k) 16) := by
  unfold due
  rw [bigSep_congr (Ψ := fun _ : Fin τ.nSub => (bigSep Finset.univ fun j : Fin (grid0.bound 1) => (cred (tallyAt (bcell d c (j.castLE hsub0)) (some k) 1) : Res F)))
    fun _ _ => SparseCore.Cfg.cred_finsum _ _, bigSep_univ_comm]
  show (bigSep Finset.univ fun j : Fin τ.nSub => bigSep Finset.univ fun _ : Fin τ.nSub => (cred (tallyAt (bcell d c j) (some k) 1) : Res F)) ⊢ _
  refine bigSep_mono fun j _ => ?_
  rw [← SparseCore.Cfg.cred_finsum, sum_tallyAt_one]; rfl

/-- The credit for the tiles' own debts, regrouped: each tile the sixteen units of its own cell, for either meeting. -/
theorem creds_b : ((P Vd Gd).oxCred : Res F) ⊢ bigSep Finset.univ fun x : DCI =>
    iprop(cred (tallyAt (bcell₃ x) (some 1) 16) ∗ cred (tallyAt (bcell₃ x) (some 0) 16)) := by
  unfold SparseCore.Cfg.Pay.oxCred
  rw [SparseCore.Cfg.bigSep_threads (fun thr : Thread nD τ => (cred ((P Vd Gd).oxFrom 0 thr) : Res F))]
  refine sep_elim_right.trans (sep_elim_right.trans ?_)
  rw [bigSep_univ_prod, bigSep_univ_prod (fun x : DCI => (iprop(cred (tallyAt (bcell₃ x) (some 1) 16) ∗ cred (tallyAt (bcell₃ x) (some 0) 16)) : Res F))]
  refine bigSep_mono fun d _ => ?_
  rw [bigSep_univ_prod, bigSep_univ_prod (fun ci : Fin τ.nSC × Fin τ.nSub => (iprop(cred (tallyAt (bcell₃ (d, ci)) (some 1) 16) ∗ cred (tallyAt (bcell₃ (d, ci)) (some 0) 16)) : Res F))]
  refine bigSep_mono fun c _ => ?_
  dsimp only
  have hox : ∀ i, (P Vd Gd).oxFrom 0 (V d c i) = owesAll d c := fun i => by
    rw [show (0 : ℕ) = (0 : Fin 1).val from rfl, (P Vd Gd).oxFrom_step, (P Vd Gd).oxFrom_end _ (n := (0 : Fin 1).val + 1) le_rfl, add_zero]; rfl
  simp only [hox]
  have e : (cred (owesAll d c) : Res F) = iprop(cred (due d c (some 1)) ∗ cred (due d c (some 0))) :=
    BI.Entails.antisymm (cred_add _ _).1 (cred_add _ _).2
  rw [e, bigSep_sep', bigSep_sep']
  exact BI.sep_mono (cred_due d c 1) (cred_due d c 0)

omit [FloatOps F] in
theorem bigSep_none {I : Type} (s : Finset I) : (bigSep s fun _ => iprop(emp)) = (iprop(emp) : Res F) := bigSep_emp_const s

omit [FloatOps F] in
/-- What is there for all alike goes to each beside its own. -/
theorem deal_shared_part {I : Type} [DecidableEq I] {R : Res F} [BI.Persistent R] (s : Finset I) (Φ Ψ : I → Res F)
    (h : ∀ i ∈ s, iprop(R ∗ Φ i) ⊢ Ψ i) : iprop(R ∗ bigSep s Φ) ⊢ (bigSep s Ψ : Res F) := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
/-- Some of what is there for all alike. -/
theorem each_of {I : Type} [DecidableEq I] {R : Res F} [BI.Persistent R] (s : Finset I) (Ψ : I → Res F) (h : ∀ i ∈ s, R ⊢ Ψ i) : R ⊢ (bigSep s Ψ : Res F) := by
  have H := deal_shared_part (R := R) s (fun _ => iprop(emp)) Ψ fun i hi => sep_elim_left.trans (h i hi)
  iintro #HR
  iapply H
  isplitl; · iexact HR
  rw [bigSep_none]; iempintro

omit [FloatOps F] in
theorem toks_eq (E : Emb UH 𝕄) (o : ℕ) : (bigSep (toksOf o) fun x => (dutyTok E x.1 x.2.1 x.2.2 : Res F))
    = bigSep Finset.univ fun x : DCI => bigSep Finset.univ fun j : Fin τ.nSub => dutyTok E (bcell x.1 x.2.1 j) 0 (o + x.2.2.val) := by
  unfold toksOf
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := Nat.add_left_cancel (Prod.mk.inj (Prod.mk.inj e).2).2
  obtain ⟨rfl, h⟩ := Prod.mk.inj e1
  obtain ⟨rfl, hj⟩ := Proc.scVector.inj h
  have hj' : j = j' := hj
  subst hj'
  have hi' : i = i' := Fin.ext e2
  subst hi'
  rfl

omit [FloatOps F] in
theorem toks_disjoint : Disjoint (toksOf 0) (toksOf 16) := by
  rw [Finset.disjoint_left]
  intro x h h'
  obtain ⟨a, -, rfl⟩ := Finset.mem_image.mp h
  obtain ⟨b, -, e⟩ := Finset.mem_image.mp h'
  have e2 : 16 + b.1.2.2.val = 0 + a.1.2.2.val := (Prod.mk.inj (Prod.mk.inj e).2).2
  have h1 : a.1.2.2.val < 16 := a.1.2.2.isLt
  omega

omit [FloatOps F] in
theorem bToks_eq (Φ : GSem nD τ sig × ℕ × ℕ → Res F) : bigSep bToks Φ = iprop(bigSep (toksOf 0) Φ ∗ bigSep (toksOf 16) Φ) := by
  unfold bToks; exact SparseCore.bigSep_union' toks_disjoint

theorem Px_T (d : Dev nD) : (bigSep Finset.univ fun q : Fin 1 => (P Vd Gd).x q (SparseCore.T d)) = iprop(emp) := bigSep_univ_of_subsingleton (0 : Fin 1)
theorem Px_S (d : Dev nD) (c : Fin τ.nSC) : (bigSep Finset.univ fun q : Fin 1 => (P Vd Gd).x q (S d c)) = iprop(emp) := bigSep_univ_of_subsingleton (0 : Fin 1)
theorem Px_V (d : Dev nD) (c : Fin τ.nSC) (i : Fin τ.nSub) : (bigSep Finset.univ fun q : Fin 1 => (P Vd Gd).x q (V d c i)) = kit (P1 Vd Gd) (P2 Gd) d c i :=
  bigSep_univ_of_subsingleton (0 : Fin 1)

/-- What every tile is handed alike. -/
abbrev forAll : Res F :=
  iprop((∃ κ : GSem nD τ sig → ℕ, bigSep Finset.univ fun x : DCI => cellInv EB (bRd (F := F) (P2 Gd)) (κ (bcell₃ x)) (bcell₃ x))
    ∗ (∃ κ : DCI → ℕ, bigSep Finset.univ fun x : DCI => inv (κ x) (depBody (P1 Vd Gd) x))
    ∗ bigSep Finset.univ fun x : DCI => reached EB (bcell₃ x) 0)
/-- What each tile is handed of its own. -/
abbrev mine (x : DCI) : Res F :=
  iprop(atPos EB (bcell₃ x) 0 ∅ 0 ∗ atPos ED (bcell₃ x) 0 ∅ 0
    ∗ (bigSep Finset.univ fun j : Fin τ.nSub => dutyTok EB (bcell x.1 x.2.1 j) 0 (0 + x.2.2.val))
    ∗ (bigSep Finset.univ fun j : Fin τ.nSub => dutyTok EB (bcell x.1 x.2.1 j) 0 (16 + x.2.2.val))
    ∗ (bigSep Finset.univ fun j : Fin τ.nSub => dutyTok ED (bcell x.1 x.2.1 j) 0 (0 + x.2.2.val))
    ∗ cred (tallyAt (bcell₃ x) (some 1) 16) ∗ cred (tallyAt (bcell₃ x) (some 0) 16))

omit [FloatOps F] in
theorem mine_all : (bigSep Finset.univ fun x : DCI => mine x : Res F) = iprop((bigSep Finset.univ fun x : DCI => atPos EB (bcell₃ x) 0 ∅ 0)
    ∗ (bigSep Finset.univ fun x : DCI => atPos ED (bcell₃ x) 0 ∅ 0)
    ∗ (bigSep Finset.univ fun x : DCI => bigSep Finset.univ fun j : Fin τ.nSub => dutyTok EB (bcell x.1 x.2.1 j) 0 (0 + x.2.2.val))
    ∗ (bigSep Finset.univ fun x : DCI => bigSep Finset.univ fun j : Fin τ.nSub => dutyTok EB (bcell x.1 x.2.1 j) 0 (16 + x.2.2.val))
    ∗ (bigSep Finset.univ fun x : DCI => bigSep Finset.univ fun j : Fin τ.nSub => dutyTok ED (bcell x.1 x.2.1 j) 0 (0 + x.2.2.val))
    ∗ bigSep Finset.univ fun x : DCI => iprop(cred (tallyAt (bcell₃ x) (some 1) 16) ∗ cred (tallyAt (bcell₃ x) (some 0) 16))) := by
  unfold mine
  rw [bigSep_sep', bigSep_sep', bigSep_sep', bigSep_sep', bigSep_sep']

theorem kit_intro (x : DCI) : iprop(forAll Vd Gd ∗ mine x) ⊢ (kit (P1 Vd Gd) (P2 Gd) x.1 x.2.1 x.2.2 : Res F) := by
  obtain ⟨d, c, i⟩ := x
  iintro ⟨⟨#Hinv, #Hsto, #Hr⟩, Hat, Hat', Ht0, Ht1, Htd, Hc1, Hc0⟩
  unfold kit
  ihave Ht0 := (Entails.of_eq (show (bigSep Finset.univ fun j : Fin τ.nSub => (dutyTok EB (bcell d c j) 0 (0 + i.val) : Res F))
    = bigSep Finset.univ fun j : Fin τ.nSub => dutyTok EB (bcell d c j) 0 i.val by rw [Nat.zero_add])) $$ Ht0
  ihave Htd := (Entails.of_eq (show (bigSep Finset.univ fun j : Fin τ.nSub => (dutyTok ED (bcell d c j) 0 (0 + i.val) : Res F))
    = bigSep Finset.univ fun j : Fin τ.nSub => dutyTok ED (bcell d c j) 0 i.val by rw [Nat.zero_add])) $$ Htd
  isplitr
  · icases Hinv with ⟨%κ, Hinv⟩
    iexists κ
    iapply (SparseCore.ent (each_of (R := bigSep Finset.univ fun x : DCI => cellInv EB (bRd (F := F) (P2 Gd)) (κ (bcell₃ x)) (bcell₃ x)) Finset.univ
      (fun j : Fin τ.nSub => cellInv EB (bRd (F := F) (P2 Gd)) (κ (bcell d c j)) (bcell d c j)) fun j _ =>
        bigSep_elim (Φ := fun x : DCI => (cellInv EB (bRd (F := F) (P2 Gd)) (κ (bcell₃ x)) (bcell₃ x) : Res F)) (Finset.mem_univ ((d, c, j) : DCI))))
    iexact Hinv
  isplitr
  · icases Hsto with ⟨%κ, Hsto⟩
    iexists κ
    iapply (SparseCore.ent (each_of (R := bigSep Finset.univ fun x : DCI => inv (κ x) (depBody (P1 Vd Gd) x)) Finset.univ
      (fun j : Fin τ.nSub => inv (κ (d, c, j)) (depBody (P1 Vd Gd) (d, c, j))) fun j _ =>
        bigSep_elim (Φ := fun x : DCI => (inv (κ x) (depBody (P1 Vd Gd) x) : Res F)) (Finset.mem_univ ((d, c, j) : DCI))))
    iexact Hsto
  isplitl [Ht0]; · iexact Ht0
  isplitl [Ht1]; · iexact Ht1
  isplitr
  · iapply (SparseCore.ent (each_of (R := bigSep Finset.univ fun x : DCI => reached EB (bcell₃ x) 0) Finset.univ
      (fun j : Fin τ.nSub => reached EB (bcell d c j) 0) fun j _ =>
        bigSep_elim (Φ := fun x : DCI => (reached EB (bcell₃ x) 0 : Res F)) (Finset.mem_univ ((d, c, j) : DCI))))
    iexact Hr
  isplitl [Hat]; · iexact Hat
  isplitl [Hc0]; · iexact Hc0
  isplitl [Hc1]; · iexact Hc1
  isplitl [Hat']; · iexact Hat'
  iexact Htd

/-- Each tile its kit. -/
theorem kits_deal : iprop(forAll Vd Gd ∗ bigSep Finset.univ fun x : DCI => mine x)
      ⊢ (bigSep Finset.univ fun thr : Thread nD τ => bigSep Finset.univ fun q : Fin 1 => (P Vd Gd).x q thr : Res F) := by
  rw [SparseCore.Cfg.bigSep_threads (fun thr : Thread nD τ => bigSep Finset.univ fun q : Fin 1 => (P Vd Gd).x q thr)]
  simp only [Px_T, Px_S, Px_V, bigSep_none]
  iintro ⟨#Hsh, H⟩
  isplitr; · iempintro
  isplitr; · iempintro
  iapply (SparseCore.ent (deal_shared_part (R := forAll Vd Gd) Finset.univ (fun x : DCI => mine x) (fun x : DCI => kit (P1 Vd Gd) (P2 Gd) x.1 x.2.1 x.2.2) fun x _ => kit_intro Vd Gd x))
  isplitr; · iexact Hsh
  iexact H

theorem hu₀ : iprop(ownU (u₀ (F := F)) ∗ (P Vd Gd).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P Vd Gd).x q thr) : Res F) := by
  unfold u₀
  iintro ⟨Hu, Hcred, Hfree⟩
  ihave H := (ownU_split _ _ _) $$ Hu
  icases H with ⟨HH, HB, HD⟩
  imod (Rounds.fund EB (bRd (F := F) (P2 Gd)) bCells bToks) $$ HB with ⟨Hst, #Hr, Hat, Htok⟩
  ihave HD := (Rounds.own_initOf ED bCells (toksOf 0)) $$ HD
  icases HD with ⟨Hsto, HatD, HtokD⟩
  ihave Hsems := (sems_b (F := F)) $$ Hfree
  imod (invs_b Gd) $$ [Hsems Hst] with ⟨%κ, #Hinv⟩
  · isplitl [Hsems] <;> iassumption
  imod (invs_d Vd Gd) $$ Hsto with ⟨%κ', #Hinvd⟩
  ihave Hcred' := (creds_b Vd Gd) $$ Hcred
  ihave Hinv' := (Entails.of_eq (bCells_eq (F := F) fun g => cellInv EB (bRd (F := F) (P2 Gd)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave HatD' := (Entails.of_eq (bCells_eq (F := F) fun g => atPos ED g 0 ∅ 0)) $$ HatD
  ihave Htok' := (Entails.of_eq (bToks_eq (F := F) fun x => dutyTok EB x.1 x.2.1 x.2.2)) $$ Htok
  icases Htok' with ⟨Ht0, Ht1⟩
  ihave Ht0 := (Entails.of_eq (toks_eq (F := F) EB 0)) $$ Ht0
  ihave Ht1 := (Entails.of_eq (toks_eq (F := F) EB 16)) $$ Ht1
  ihave Htd := (Entails.of_eq (toks_eq (F := F) ED 0)) $$ HtokD
  imodintro
  isplitl [HH]; · iexact HH
  isplitr; · rw [bigSep_none]; iempintro
  iapply (kits_deal Vd Gd)
  isplitr
  · isplitl; · iexists κ; iexact Hinv'
    isplitl; · iexists κ'; iexact Hinvd
    iexact Hr'
  iapply (SparseCore.ent (Entails.of_eq (mine_all (F := F)).symm))
  isplitl [Hat']; · iexact Hat'
  isplitl [HatD']; · iexact HatD'
  isplitl [Ht0]; · iexact Ht0
  isplitl [Ht1]; · iexact Ht1
  isplitl [Htd]; · iexact Htd
  iexact Hcred'

end Cert.Proof.Tile
-- ==== Proof.Main.lean ====
/-
  The TensorCore's part: the arguments laid out, the call, the loss from the sums; and the whole run.
-/
module

public import proofs.«01_k».proof.Proof.Launch

@[expose] public section

noncomputable section

namespace Cert.Proof.Tile

open Cert.KernelIdeal Cert.KernelIdeal.Gen Cert.Proof.LocalRun Cert.Proof.Meet

open Idealize.ShloMosaic
open Idealize.ShloMosaic.StableHlo (held held_sub_split wp_hlo_within)
open Idealize.ShloMosaic.SparseCore (S V T)
open Idealize.ShloMosaic.SparseCore.Cfg (HIx Blocks Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

attribute [local instance] Cert.KernelIdeal.Gen.facts₀
attribute [local instance] Cert.Proof.Meet.blocks
variable {F : FTy → Type} [FloatOps F]

local notation "𝕄" => MT nD τ sig (HIx 2) (Elt F) ℕ UU ℕ

/-! ## The tables dealt, the result dealt and joined -/

theorem bigSep_cores (Φ : Fin τ.nSC → Res F) :
    (bigSep Finset.univ fun c : Fin ((K (F := F)).nCore 0) => Φ (coreOf c)) = bigSep Finset.univ Φ :=
  bigSep_congr fun _ _ => congrArg Φ (Fin.ext rfl)

/-- The location of an array of the high-bandwidth memory. -/
abbrev hloc (d : Dev nD) (r : Ref sig .scVector) : Loc nD τ sig := (V d (0 : Fin τ.nSC) (0 : Fin τ.nSub)).loc r

theorem table_deal {ℓ : Loc nD τ sig} (Y : Fin τ.nSC → Fin τ.nSub → Finset (Idx ℓ)) (hY : ∀ c i, Y c i = Finset.univ) (f : Buf (Elt F) ℓ) :
    (ℓ ↦{fullShare} f : Res F) ⊢ bigSep Finset.univ fun c : Fin τ.nSC => bigSep Finset.univ fun i : Fin τ.nSub => ℓ ↦[Y c i]{tabSh c.val i.val} f := by
  refine ((pointsTo_toks_split fullShare τ.nSC).trans sep_elim_right).trans ?_
  refine SparseCore.ent (bigSep_mono fun c _ => ?_)
  refine ((pointsTo_toks_split (shareTok fullShare τ.nSC c) τ.nSub).trans sep_elim_right).trans ?_
  refine SparseCore.ent (bigSep_mono fun i _ => ?_)
  rw [hY]
  exact BI.Entails.refl _

/-- Facts come out of a big separating conjunction. -/
theorem pull {I : Type} [DecidableEq I] (s : Finset I) (φ : I → Prop) (Φ : I → Res F) :
    (bigSep s fun x => iprop(⌜φ x⌝ ∗ Φ x)) ⊢ (iprop(⌜∀ x ∈ s, φ x⌝ ∗ bigSep s Φ) : Res F) := by
  induction s using Finset.induction_on with
  | empty =>
    iintro H
    isplitr; · ipureintro; intro x hx; exact absurd hx (Finset.notMem_empty x)
    iexact H
  | insert a s ha ih =>
    rw [SparseCore.bigSep_insert' ha, SparseCore.bigSep_insert' ha]
    iintro ⟨⟨%h, H⟩, Hs⟩
    ihave Hs := ih $$ Hs
    icases Hs with ⟨%hs, Hs⟩
    isplitr
    · ipureintro; intro x hx
      rcases Finset.mem_insert.mp hx with rfl | hx
      · exact h
      · exact hs x hx
    isplitl [H] <;> iassumption

section Out

variable (d : Dev nD)

/-- The stretch of the result of a tile. -/
abbrev oset (x : Fin τ.nSC × Fin τ.nSub) : Finset (Idx (hloc d main_v4_scv)) := (acc 0 x.1.val x.2.val).own main_v4_scv

theorem mem_oset {x : Fin τ.nSC × Fin τ.nSub} {y : S2560.Idx} : y ∈ oset d x ↔ (S2560.rowMajor y).val / 80 = x.1.val * 16 + x.2.val := mem_own

theorem oset_dis : ∀ t ∈ (Finset.univ : Finset (Fin τ.nSC × Fin τ.nSub)), ∀ t' ∈ (Finset.univ : Finset (Fin τ.nSC × Fin τ.nSub)), t ≠ t' → Disjoint (oset d t) (oset d t') := by
  intro t _ t' _ hne
  refine Finset.disjoint_left.mpr fun y h h' => hne ?_
  have h1 := (mem_oset d).1 h
  have h2 := (mem_oset d).1 h'
  have a1 : t.2.val < 16 := t.2.isLt
  have a2 : t'.2.val < 16 := t'.2.isLt
  exact Prod.ext (Fin.ext (by omega)) (Fin.ext (by omega))

theorem oset_cov : (Finset.univ : Finset (Fin τ.nSC × Fin τ.nSub)).biUnion (oset d) = Finset.univ := by
  refine Finset.ext fun y => ⟨fun _ => Finset.mem_univ _, fun _ => ?_⟩
  have hy : (S2560.rowMajor y).val < 2560 := (S2560.rowMajor y).isLt
  refine Finset.mem_biUnion.mpr ⟨(⟨(S2560.rowMajor y).val / 80 / 16, show _ < 2 by omega⟩, ⟨(S2560.rowMajor y).val / 80 % 16, show _ < 16 by omega⟩), Finset.mem_univ _, (mem_oset d).2 ?_⟩
  dsimp only; omega

theorem out_deal (f : Buf (Elt F) (hloc d main_v4_scv)) :
    (hloc d main_v4_scv ↦{fullShare} f : Res F) ⊢ bigSep Finset.univ fun c : Fin τ.nSC => bigSep Finset.univ fun i : Fin τ.nSub => iprop(∃ f, piece 0 d c i main_v4_scv f) := by
  have e : (hloc d main_v4_scv ↦{fullShare} f : Res F) = bigSep Finset.univ fun x : Fin τ.nSC × Fin τ.nSub => hloc d main_v4_scv ↦[oset d x]{fullShare} f := by
    rw [← pointsTo_biUnion Finset.univ (ℓ := hloc d main_v4_scv) (oset d) (oset_dis d), oset_cov]
  rw [e, bigSep_univ_prod]
  refine SparseCore.ent (bigSep_mono fun c _ => bigSep_mono fun i _ => ?_)
  exact BI.BIClass.exists_intro (Φ := fun f => (piece 0 d c i main_v4_scv f : Res F)) f

theorem out_join [∀ e, Nonempty (Elt F e)] (φ : Fin τ.nSC → Fin τ.nSub → main_v4_scv.ty.Contents (Elt F) → Prop)
    (hφ : ∀ c i f g, φ c i f → (∀ y : S2560.Idx, y ∈ oset d (c, i) → (g : S2560.Idx → F .f32) y = (f : S2560.Idx → F .f32) y) → φ c i g) :
    (bigSep Finset.univ fun c : Fin τ.nSC => bigSep Finset.univ fun i : Fin τ.nSub => iprop(∃ f : main_v4_scv.ty.Contents (Elt F), ⌜φ c i f⌝ ∗ piece 2 d c i main_v4_scv f))
      ⊢ (iprop(∃ g : main_v4_scv.ty.Contents (Elt F), ⌜∀ c i, φ c i g⌝ ∗ hloc d main_v4_scv ↦{fullShare} g) : Res F) := by
  haveI : Nonempty (main_v4_scv.ty.Contents (Elt F)) := ⟨fun _ => Classical.arbitrary _⟩
  rw [← bigSep_univ_prod (fun x : Fin τ.nSC × Fin τ.nSub => (iprop(∃ f : main_v4_scv.ty.Contents (Elt F), ⌜φ x.1 x.2 f⌝ ∗ piece 2 d x.1 x.2 main_v4_scv f) : Res F))]
  refine (bigSep_exists_pi (Y := fun _ => main_v4_scv.ty.Contents (Elt F)) Finset.univ
    (fun (x : Fin τ.nSC × Fin τ.nSub) f => (iprop(⌜φ x.1 x.2 f⌝ ∗ piece 2 d x.1 x.2 main_v4_scv f) : Res F))).trans ?_
  iintro ⟨%fs, H⟩
  ihave H := (pull Finset.univ (fun x => φ x.1 x.2 (fs x)) (fun x => (piece 2 d x.1 x.2 main_v4_scv (fs x) : Res F))) $$ H
  icases H with ⟨%hφs, H⟩
  ihave H := (Entails.of_eq (show (bigSep Finset.univ fun x : Fin τ.nSC × Fin τ.nSub => (piece 2 d x.1 x.2 main_v4_scv (fs x) : Res F))
    = bigSep Finset.univ fun x : Fin τ.nSC × Fin τ.nSub => hloc d main_v4_scv ↦[oset d x]{fullShare} fs x from rfl)) $$ H
  ihave H := (pointsTo_biUnion_join (ℓ := hloc d main_v4_scv) (q := fullShare) Finset.univ (oset d) fs (Classical.arbitrary _) (oset_dis d)) $$ H
  icases H with ⟨%g, %hg, H⟩
  ihave H := (Entails.of_eq (show ((hloc d main_v4_scv ↦[(Finset.univ : Finset (Fin τ.nSC × Fin τ.nSub)).biUnion (oset d)]{fullShare} g) : Res F) = (hloc d main_v4_scv ↦{fullShare} g) by rw [oset_cov])) $$ H
  iexists g
  isplitr
  · ipureintro
    intro c i
    exact hφ c i _ g (hφs (c, i) (Finset.mem_univ _)) fun y hy => hg (c, i) (Finset.mem_univ _) y hy
  iexact H

end Out

theorem outLap_congr (c : Fin τ.nSC) (i : Fin τ.nSub) (d : Dev nD) (w : Fin 5 → FVec F S16 .f32) (f g : Vec F S2560 .f32) (h : OutLap (coordsV c i) w f)
    (hg : ∀ y : S2560.Idx, y ∈ oset d (c, i) → g y = f y) : OutLap (coordsV c i) w g := by
  intro q x
  have hq := q.isLt
  have hx : (x 0).val < 16 := (x 0).isLt
  have hc : c.val < 2 := c.isLt
  have hi : i.val < 16 := i.isLt
  refine (hg _ ((mem_oset d).2 ?_)).trans (h q x)
  change (S2560.rowMajor (ix (80 * (c.val * 16 + i.val) + 16 * q.val + (x 0).val))).val / 80 = c.val * 16 + i.val
  rw [show (S2560.rowMajor (ix (80 * (c.val * 16 + i.val) + 16 * q.val + (x 0).val))).val = _ from Shape.rowMajor_val_one _]
  show (80 * (c.val * 16 + i.val) + 16 * q.val + (x 0).val) % 2560 / 80 = c.val * 16 + i.val
  omega

/-! ## The host's operations -/

abbrev R (r : Ref sig .tc) : DevRef τ sig := Proc.devRef .tc r

abbrev op1 : HloOp τ sig (Elt F) := StableHlo.unary main_arg0 main_v0 ((transpose S4x3x2048 [0, 2, 1] · transposes_S4x2048x3_S4x3x2048_0_2_1) : (⟨S4x2048x3, .f32⟩ : BufTy).Contents (Elt F) → (⟨S4x3x2048, .f32⟩ : BufTy).Contents (Elt F))
abbrev op2 : HloOp τ sig (Elt F) := StableHlo.reshape main_v0 main_v1 (rfl : (.f32 : EltTy) = .f32) shapeCasts_S4x3x2048_S24576
abbrev op3 : HloOp τ sig (Elt F) := StableHlo.unary main_arg1 main_v2 ((transpose S4x3x4096 [0, 2, 1] · transposes_S4x4096x3_S4x3x4096_0_2_1) : (⟨S4x4096x3, .i32⟩ : BufTy).Contents (Elt F) → (⟨S4x3x4096, .i32⟩ : BufTy).Contents (Elt F))
abbrev op4 : HloOp τ sig (Elt F) := StableHlo.reshape main_v2 main_v3 (rfl : (.i32 : EltTy) = .i32) shapeCasts_S4x3x4096_S49152
abbrev op5 : HloOp τ sig (Elt F) := StableHlo.reshape main_v4 main_v5 (rfl : (.f32 : EltTy) = .f32) shapeCasts_S2560_S4x8x5x16
abbrev op6 : HloOp τ sig (Elt F) := StableHlo.nullary main_cst (constant S_ .f32 0x00000000#32)
abbrev op7 : HloOp τ sig (Elt F) := StableHlo.binary main_v5 main_cst main_v6 ((fun x v => Host.reduceAdd x v reducesTo_S4x8x5x16_S4x5_d1_3 h_S_) : (⟨S4x8x5x16, .f32⟩ : BufTy).Contents (Elt F) → (⟨S_, .f32⟩ : BufTy).Contents (Elt F) → (⟨S4x5, .f32⟩ : BufTy).Contents (Elt F))
abbrev op8 : HloOp τ sig (Elt F) := StableHlo.unary main_v6 main_v7 ((extractStridedSlice S4x1 ![0, 0] · slices_S4x5_S4x1_0_0) : (⟨S4x5, .f32⟩ : BufTy).Contents (Elt F) → (⟨S4x1, .f32⟩ : BufTy).Contents (Elt F))
abbrev op9 : HloOp τ sig (Elt F) := StableHlo.reshape main_v7 main_v8 (rfl : (.f32 : EltTy) = .f32) shapeCasts_S4x1_S4
abbrev op10 : HloOp τ sig (Elt F) := StableHlo.unary main_v6 main_v9 ((extractStridedSlice S4x1 ![0, 1] · slices_S4x5_S4x1_0_1) : (⟨S4x5, .f32⟩ : BufTy).Contents (Elt F) → (⟨S4x1, .f32⟩ : BufTy).Contents (Elt F))
abbrev op11 : HloOp τ sig (Elt F) := StableHlo.reshape main_v9 main_v10 (rfl : (.f32 : EltTy) = .f32) shapeCasts_S4x1_S4
abbrev op12 : HloOp τ sig (Elt F) := StableHlo.nullary main_cst_0 (constant S_ .f32 0x3F800000#32)
abbrev op13 : HloOp τ sig (Elt F) := StableHlo.unary main_cst_0 main_v11 (broadcastInDim S4 ![] bcast_S_S4 : (⟨S_, .f32⟩ : BufTy).Contents (Elt F) → (⟨S4, .f32⟩ : BufTy).Contents (Elt F))
abbrev op14 : HloOp τ sig (Elt F) := StableHlo.binary main_v10 main_v11 main_v12 (maximumf : (⟨S4, .f32⟩ : BufTy).Contents (Elt F) → (⟨S4, .f32⟩ : BufTy).Contents (Elt F) → (⟨S4, .f32⟩ : BufTy).Contents (Elt F))
abbrev op15 : HloOp τ sig (Elt F) := StableHlo.binary main_v8 main_v12 main_v13 (Host.divf : (⟨S4, .f32⟩ : BufTy).Contents (Elt F) → (⟨S4, .f32⟩ : BufTy).Contents (Elt F) → (⟨S4, .f32⟩ : BufTy).Contents (Elt F))
abbrev op16 : HloOp τ sig (Elt F) := StableHlo.nullary main_cst_1 (constant S_ .f32 0x00000000#32)
abbrev op17 : HloOp τ sig (Elt F) := StableHlo.binary main_v13 main_cst_1 main_v14 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F))
abbrev op18 : HloOp τ sig (Elt F) := StableHlo.nullary main_cst_2 (constant S_ .f32 0x40800000#32)
abbrev op19 : HloOp τ sig (Elt F) := StableHlo.binary main_v14 main_cst_2 main_v15 (Host.divf : (⟨S_, .f32⟩ : BufTy).Contents (Elt F) → (⟨S_, .f32⟩ : BufTy).Contents (Elt F) → (⟨S_, .f32⟩ : BufTy).Contents (Elt F))
abbrev op20 : HloOp τ sig (Elt F) := StableHlo.unary main_v6 main_v16 ((extractStridedSlice S4x1 ![0, 2] · slices_S4x5_S4x1_0_2) : (⟨S4x5, .f32⟩ : BufTy).Contents (Elt F) → (⟨S4x1, .f32⟩ : BufTy).Contents (Elt F))
abbrev op21 : HloOp τ sig (Elt F) := StableHlo.reshape main_v16 main_v17 (rfl : (.f32 : EltTy) = .f32) shapeCasts_S4x1_S4
abbrev op22 : HloOp τ sig (Elt F) := StableHlo.nullary main_cst_3 (constant S_ .f32 0x00000000#32)
abbrev op23 : HloOp τ sig (Elt F) := StableHlo.binary main_v17 main_cst_3 main_v18 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F))
abbrev op24 : HloOp τ sig (Elt F) := StableHlo.nullary main_cst_4 (constant S_ .f32 0x40800000#32)
abbrev op25 : HloOp τ sig (Elt F) := StableHlo.binary main_v18 main_cst_4 main_v19 (Host.divf : (⟨S_, .f32⟩ : BufTy).Contents (Elt F) → (⟨S_, .f32⟩ : BufTy).Contents (Elt F) → (⟨S_, .f32⟩ : BufTy).Contents (Elt F))
abbrev op26 : HloOp τ sig (Elt F) := StableHlo.nullary main_cst_5 (constant S_ .f32 0x45000000#32)
abbrev op27 : HloOp τ sig (Elt F) := StableHlo.binary main_v19 main_cst_5 main_v20 (Host.divf : (⟨S_, .f32⟩ : BufTy).Contents (Elt F) → (⟨S_, .f32⟩ : BufTy).Contents (Elt F) → (⟨S_, .f32⟩ : BufTy).Contents (Elt F))
abbrev op28 : HloOp τ sig (Elt F) := StableHlo.unary main_v6 main_v21 ((extractStridedSlice S4x1 ![0, 4] · slices_S4x5_S4x1_0_4) : (⟨S4x5, .f32⟩ : BufTy).Contents (Elt F) → (⟨S4x1, .f32⟩ : BufTy).Contents (Elt F))
abbrev op29 : HloOp τ sig (Elt F) := StableHlo.reshape main_v21 main_v22 (rfl : (.f32 : EltTy) = .f32) shapeCasts_S4x1_S4
abbrev op30 : HloOp τ sig (Elt F) := StableHlo.nullary main_cst_6 (constant S_ .f32 0x00000000#32)
abbrev op31 : HloOp τ sig (Elt F) := StableHlo.unary main_cst_6 main_v23 (broadcastInDim S4 ![] bcast_S_S4 : (⟨S_, .f32⟩ : BufTy).Contents (Elt F) → (⟨S4, .f32⟩ : BufTy).Contents (Elt F))
abbrev op32 : HloOp τ sig (Elt F) := StableHlo.binary main_v22 main_v23 main_v24 (cmpf .ogt : (⟨S4, .f32⟩ : BufTy).Contents (Elt F) → (⟨S4, .f32⟩ : BufTy).Contents (Elt F) → (⟨S4, .i1⟩ : BufTy).Contents (Elt F))
abbrev op33 : HloOp τ sig (Elt F) := StableHlo.unary main_v6 main_v25 ((extractStridedSlice S4x1 ![0, 3] · slices_S4x5_S4x1_0_3) : (⟨S4x5, .f32⟩ : BufTy).Contents (Elt F) → (⟨S4x1, .f32⟩ : BufTy).Contents (Elt F))
abbrev op34 : HloOp τ sig (Elt F) := StableHlo.reshape main_v25 main_v26 (rfl : (.f32 : EltTy) = .f32) shapeCasts_S4x1_S4
abbrev op35 : HloOp τ sig (Elt F) := StableHlo.unary main_v6 main_v27 ((extractStridedSlice S4x1 ![0, 4] · slices_S4x5_S4x1_0_4) : (⟨S4x5, .f32⟩ : BufTy).Contents (Elt F) → (⟨S4x1, .f32⟩ : BufTy).Contents (Elt F))
abbrev op36 : HloOp τ sig (Elt F) := StableHlo.reshape main_v27 main_v28 (rfl : (.f32 : EltTy) = .f32) shapeCasts_S4x1_S4
abbrev op37 : HloOp τ sig (Elt F) := StableHlo.nullary main_cst_7 (constant S_ .f32 0x3F800000#32)
abbrev op38 : HloOp τ sig (Elt F) := StableHlo.unary main_cst_7 main_v29 (broadcastInDim S4 ![] bcast_S_S4 : (⟨S_, .f32⟩ : BufTy).Contents (Elt F) → (⟨S4, .f32⟩ : BufTy).Contents (Elt F))
abbrev op39 : HloOp τ sig (Elt F) := StableHlo.binary main_v28 main_v29 main_v30 (maximumf : (⟨S4, .f32⟩ : BufTy).Contents (Elt F) → (⟨S4, .f32⟩ : BufTy).Contents (Elt F) → (⟨S4, .f32⟩ : BufTy).Contents (Elt F))
abbrev op40 : HloOp τ sig (Elt F) := StableHlo.binary main_v26 main_v30 main_v31 (Host.divf : (⟨S4, .f32⟩ : BufTy).Contents (Elt F) → (⟨S4, .f32⟩ : BufTy).Contents (Elt F) → (⟨S4, .f32⟩ : BufTy).Contents (Elt F))
abbrev op41 : HloOp τ sig (Elt F) := StableHlo.nullary main_cst_8 (constant S_ .f32 0x00000000#32)
abbrev op42 : HloOp τ sig (Elt F) := StableHlo.unary main_cst_8 main_call0_v0 (id : (⟨S_, .f32⟩ : BufTy).Contents (Elt F) → (⟨S_, .f32⟩ : BufTy).Contents (Elt F))
abbrev op43 : HloOp τ sig (Elt F) := StableHlo.unary main_call0_v0 main_call0_v1 (broadcastInDim S4 ![] bcast_S_S4 : (⟨S_, .f32⟩ : BufTy).Contents (Elt F) → (⟨S4, .f32⟩ : BufTy).Contents (Elt F))
abbrev op44 : HloOp τ sig (Elt F) := StableHlo.ternary main_v24 main_v31 main_call0_v1 main_v32 (select : (⟨S4, .i1⟩ : BufTy).Contents (Elt F) → (⟨S4, .f32⟩ : BufTy).Contents (Elt F) → (⟨S4, .f32⟩ : BufTy).Contents (Elt F) → (⟨S4, .f32⟩ : BufTy).Contents (Elt F))
abbrev op45 : HloOp τ sig (Elt F) := StableHlo.nullary main_cst_9 (constant S_ .f32 0x00000000#32)
abbrev op46 : HloOp τ sig (Elt F) := StableHlo.binary main_v32 main_cst_9 main_v33 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F))
abbrev op47 : HloOp τ sig (Elt F) := StableHlo.nullary main_cst_10 (constant S_ .f32 0x40800000#32)
abbrev op48 : HloOp τ sig (Elt F) := StableHlo.binary main_v33 main_cst_10 main_v34 (Host.divf : (⟨S_, .f32⟩ : BufTy).Contents (Elt F) → (⟨S_, .f32⟩ : BufTy).Contents (Elt F) → (⟨S_, .f32⟩ : BufTy).Contents (Elt F))

/-- The positions laid out by coordinate, as the call takes them. -/
def vflat (p : FVec F S4x2048x3 .f32) : main_v1_scv.ty.Contents (Elt F) :=
  shapeCast S24576 (transpose S4x3x2048 [0, 2, 1] p transposes_S4x2048x3_S4x3x2048_0_2_1) shapeCasts_S4x3x2048_S24576
/-- The faces laid out by corner. -/
def gflat (q : IVec S4x4096x3 32) : main_v3_scv.ty.Contents (Elt F) :=
  shapeCast S49152 (transpose S4x3x4096 [0, 2, 1] q transposes_S4x4096x3_S4x3x4096_0_2_1) shapeCasts_S4x3x4096_S49152
/-- The tiles' sums, by batch and row. -/
def rowsV (g : FVec F S2560 .f32) : FVec F S4x5 .f32 :=
  Host.reduceAdd (shapeCast S4x8x5x16 g shapeCasts_S2560_S4x8x5x16) (constant S_ .f32 0x00000000#32) reducesTo_S4x8x5x16_S4x5_d1_3 h_S_
/-- The edges' loss from the tiles' sums. -/
def edgeOf (g : FVec F S2560 .f32) : FVec F S_ .f32 :=
  Host.divf (Host.reduceAdd (Host.divf (shapeCast S4 (extractStridedSlice S4x1 ![0, 0] (rowsV g) slices_S4x5_S4x1_0_0) shapeCasts_S4x1_S4)
    (maximumf (shapeCast S4 (extractStridedSlice S4x1 ![0, 1] (rowsV g) slices_S4x5_S4x1_0_1) shapeCasts_S4x1_S4) (broadcastInDim S4 ![] bcast_S_S4 (constant S_ .f32 0x3F800000#32))))
    (constant S_ .f32 0x00000000#32) reducesTo_S4_S_d0 h_S_) (constant S_ .f32 0x40800000#32)
/-- The vertices' loss from the tiles' sums. -/
def lossOf (g : FVec F S2560 .f32) : FVec F S_ .f32 :=
  Host.divf (Host.divf (Host.reduceAdd (shapeCast S4 (extractStridedSlice S4x1 ![0, 2] (rowsV g) slices_S4x5_S4x1_0_2) shapeCasts_S4x1_S4)
    (constant S_ .f32 0x00000000#32) reducesTo_S4_S_d0 h_S_) (constant S_ .f32 0x40800000#32)) (constant S_ .f32 0x45000000#32)
/-- The pairs' loss from the tiles' sums. -/
def normOf (g : FVec F S2560 .f32) : FVec F S_ .f32 :=
  Host.divf (Host.reduceAdd (select (cmpf .ogt (shapeCast S4 (extractStridedSlice S4x1 ![0, 4] (rowsV g) slices_S4x5_S4x1_0_4) shapeCasts_S4x1_S4) (broadcastInDim S4 ![] bcast_S_S4 (constant S_ .f32 0x00000000#32)))
    (Host.divf (shapeCast S4 (extractStridedSlice S4x1 ![0, 3] (rowsV g) slices_S4x5_S4x1_0_3) shapeCasts_S4x1_S4)
      (maximumf (shapeCast S4 (extractStridedSlice S4x1 ![0, 4] (rowsV g) slices_S4x5_S4x1_0_4) shapeCasts_S4x1_S4) (broadcastInDim S4 ![] bcast_S_S4 (constant S_ .f32 0x3F800000#32))))
    (broadcastInDim S4 ![] bcast_S_S4 (id (constant S_ .f32 0x00000000#32))))
    (constant S_ .f32 0x00000000#32) reducesTo_S4_S_d0 h_S_) (constant S_ .f32 0x40800000#32)

/-- The TensorCore's arrays. -/
abbrev arrays : Finset (DevRef τ sig) :=
  {R main_arg0, R main_arg1, R main_v0, R main_v1, R main_v2, R main_v3, R main_v4, R main_v5,
    R main_cst, R main_v6, R main_v7, R main_v8, R main_v9, R main_v10, R main_cst_0, R main_v11,
    R main_v12, R main_v13, R main_cst_1, R main_v14, R main_cst_2, R main_v15, R main_v16, R main_v17,
    R main_cst_3, R main_v18, R main_cst_4, R main_v19, R main_cst_5, R main_v20, R main_v21, R main_v22,
    R main_cst_6, R main_v23, R main_v24, R main_v25, R main_v26, R main_v27, R main_v28, R main_cst_7,
    R main_v29, R main_v30, R main_v31, R main_cst_8, R main_call0_v0, R main_call0_v1, R main_v32, R main_cst_9,
    R main_v33, R main_cst_10, R main_v34}
/-- Those of the call. -/
abbrev S3 : Finset (DevRef τ sig) := {R main_v1, R main_v3, R main_v4}
/-- The rest and the result. -/
abbrev later : Finset (DevRef τ sig) := insert (R main_v4) (arrays \ S3)

variable (m : (ℓ : Loc nD τ sig) → Buf (Elt F) ℓ) (ρ : Dev nD → PrngReg)

def V0 (d : Dev nD) : Valuation τ sig (Elt F) := fun b => m (d, b)
/-- Before the call. -/
def V4 (d : Dev nD) : Valuation τ sig (Elt F) := StableHlo.after [op1, op2, op3, op4] (V0 m d)
/-- After it, the result holding `g`. -/
def V5 (d : Dev nD) (g : main_v4_scv.ty.Contents (Elt F)) : Valuation τ sig (Elt F) := Function.update (V4 m d) (R main_v4) g
/-- The operations after the call. -/
abbrev rest : List (HloOp τ sig (Elt F)) :=
  [op5, op6, op7, op8, op9, op10, op11, op12, op13, op14, op15, op16, op17, op18,
    op19, op20, op21, op22, op23, op24, op25, op26, op27, op28, op29, op30, op31, op32,
    op33, op34, op35, op36, op37, op38, op39, op40, op41, op42, op43, op44, op45, op46,
    op47, op48]
/-- At the end. -/
def VE (d : Dev nD) (g : main_v4_scv.ty.Contents (Elt F)) : Valuation τ sig (Elt F) := StableHlo.after rest (V5 m d g)

abbrev aLoc (d : Dev nD) (r : Ref sig .tc) : Loc nD τ sig := (SparseCore.T d).loc r

/-- The positions and the faces the call is given. -/
def Vm (d : Dev nD) : main_v1_scv.ty.Contents (Elt F) := vflat (m (aLoc d main_arg0))
def Gm (d : Dev nD) : main_v3_scv.ty.Contents (Elt F) := gflat (m (aLoc d main_arg1))

theorem V4_v1 (d : Dev nD) : V4 m d (R main_v1) = Vm m d := by
  unfold V4
  after_results_simp
  rfl
theorem V4_v3 (d : Dev nD) : V4 m d (R main_v3) = Gm m d := by
  unfold V4
  after_results_simp
  rfl
theorem V4_arg0 (d : Dev nD) : V4 m d (R main_arg0) = m (aLoc d main_arg0) := by
  unfold V4
  after_results_simp
  rfl
theorem V4_arg1 (d : Dev nD) : V4 m d (R main_arg1) = m (aLoc d main_arg1) := by
  unfold V4
  after_results_simp
  rfl
theorem V5_v4 (d : Dev nD) (g : main_v4_scv.ty.Contents (Elt F)) : V5 m d g (R main_v4) = g := Function.update_self _ _ _
theorem V5_ne (d : Dev nD) (g : main_v4_scv.ty.Contents (Elt F)) (b : DevRef τ sig) (h : b ≠ R main_v4) : V5 m d g b = V4 m d b := Function.update_of_ne h _ _

theorem VE_v15 (d : Dev nD) (g : main_v4_scv.ty.Contents (Elt F)) : VE m d g (R main_v15) = edgeOf g := by
  unfold VE
  after_results_simp
  rw [V5_v4]; rfl
theorem VE_v20 (d : Dev nD) (g : main_v4_scv.ty.Contents (Elt F)) : VE m d g (R main_v20) = lossOf g := by
  unfold VE
  after_results_simp
  rw [V5_v4]; rfl
theorem VE_v34 (d : Dev nD) (g : main_v4_scv.ty.Contents (Elt F)) : VE m d g (R main_v34) = normOf g := by
  unfold VE
  after_results_simp
  rw [V5_v4]; rfl
theorem VE_arg0 (d : Dev nD) (g : main_v4_scv.ty.Contents (Elt F)) : VE m d g (R main_arg0) = m (aLoc d main_arg0) := by
  unfold VE
  after_results_simp
  rw [V5_ne m d g _ (by decide), V4_arg0]
theorem VE_arg1 (d : Dev nD) (g : main_v4_scv.ty.Contents (Elt F)) : VE m d g (R main_arg1) = m (aLoc d main_arg1) := by
  unfold VE
  after_results_simp
  rw [V5_ne m d g _ (by decide), V4_arg1]

/-! ## @main -/

theorem unscoped_held (d : Dev nD) : (unscopedBufs d (fun b => m ((SparseCore.T d).loc b)) : Res F) = held (SparseCore.T d) arrays (V0 m d) := by
  have e : arrays = (Finset.univ.filter fun b : Ref sig .tc => ¬ b.isScoped).image (Proc.devRef (.tc : Proc τ)) := by decide
  unfold unscopedBufs held
  rw [e, SparseCore.bigSep_image_of_injOn ((Proc.devRef_injective (sig := sig) (.tc : Proc τ)).injOn)]
  rfl

theorem hop1 : (op1 (F := F)).bufs ⊆ arrays := show ({R main_arg0, R main_v0} : Finset (DevRef τ sig)) ⊆ arrays by decide
theorem hop2 : (op2 (F := F)).bufs ⊆ arrays := show ({R main_v0, R main_v1} : Finset (DevRef τ sig)) ⊆ arrays by decide
theorem hop3 : (op3 (F := F)).bufs ⊆ arrays := show ({R main_arg1, R main_v2} : Finset (DevRef τ sig)) ⊆ arrays by decide
theorem hop4 : (op4 (F := F)).bufs ⊆ arrays := show ({R main_v2, R main_v3} : Finset (DevRef τ sig)) ⊆ arrays by decide
theorem hop5 : (op5 (F := F)).bufs ⊆ later := show ({R main_v4, R main_v5} : Finset (DevRef τ sig)) ⊆ later by decide
theorem hop6 : (op6 (F := F)).bufs ⊆ later := show ({R main_cst} : Finset (DevRef τ sig)) ⊆ later by decide
theorem hop7 : (op7 (F := F)).bufs ⊆ later := show ({R main_v5, R main_cst, R main_v6} : Finset (DevRef τ sig)) ⊆ later by decide
theorem hop8 : (op8 (F := F)).bufs ⊆ later := show ({R main_v6, R main_v7} : Finset (DevRef τ sig)) ⊆ later by decide
theorem hop9 : (op9 (F := F)).bufs ⊆ later := show ({R main_v7, R main_v8} : Finset (DevRef τ sig)) ⊆ later by decide
theorem hop10 : (op10 (F := F)).bufs ⊆ later := show ({R main_v6, R main_v9} : Finset (DevRef τ sig)) ⊆ later by decide
theorem hop11 : (op11 (F := F)).bufs ⊆ later := show ({R main_v9, R main_v10} : Finset (DevRef τ sig)) ⊆ later by decide
theorem hop12 : (op12 (F := F)).bufs ⊆ later := show ({R main_cst_0} : Finset (DevRef τ sig)) ⊆ later by decide
theorem hop13 : (op13 (F := F)).bufs ⊆ later := show ({R main_cst_0, R main_v11} : Finset (DevRef τ sig)) ⊆ later by decide
theorem hop14 : (op14 (F := F)).bufs ⊆ later := show ({R main_v10, R main_v11, R main_v12} : Finset (DevRef τ sig)) ⊆ later by decide
theorem hop15 : (op15 (F := F)).bufs ⊆ later := show ({R main_v8, R main_v12, R main_v13} : Finset (DevRef τ sig)) ⊆ later by decide
theorem hop16 : (op16 (F := F)).bufs ⊆ later := show ({R main_cst_1} : Finset (DevRef τ sig)) ⊆ later by decide
theorem hop17 : (op17 (F := F)).bufs ⊆ later := show ({R main_v13, R main_cst_1, R main_v14} : Finset (DevRef τ sig)) ⊆ later by decide
theorem hop18 : (op18 (F := F)).bufs ⊆ later := show ({R main_cst_2} : Finset (DevRef τ sig)) ⊆ later by decide
theorem hop19 : (op19 (F := F)).bufs ⊆ later := show ({R main_v14, R main_cst_2, R main_v15} : Finset (DevRef τ sig)) ⊆ later by decide
theorem hop20 : (op20 (F := F)).bufs ⊆ later := show ({R main_v6, R main_v16} : Finset (DevRef τ sig)) ⊆ later by decide
theorem hop21 : (op21 (F := F)).bufs ⊆ later := show ({R main_v16, R main_v17} : Finset (DevRef τ sig)) ⊆ later by decide
theorem hop22 : (op22 (F := F)).bufs ⊆ later := show ({R main_cst_3} : Finset (DevRef τ sig)) ⊆ later by decide
theorem hop23 : (op23 (F := F)).bufs ⊆ later := show ({R main_v17, R main_cst_3, R main_v18} : Finset (DevRef τ sig)) ⊆ later by decide
theorem hop24 : (op24 (F := F)).bufs ⊆ later := show ({R main_cst_4} : Finset (DevRef τ sig)) ⊆ later by decide
theorem hop25 : (op25 (F := F)).bufs ⊆ later := show ({R main_v18, R main_cst_4, R main_v19} : Finset (DevRef τ sig)) ⊆ later by decide
theorem hop26 : (op26 (F := F)).bufs ⊆ later := show ({R main_cst_5} : Finset (DevRef τ sig)) ⊆ later by decide
theorem hop27 : (op27 (F := F)).bufs ⊆ later := show ({R main_v19, R main_cst_5, R main_v20} : Finset (DevRef τ sig)) ⊆ later by decide
theorem hop28 : (op28 (F := F)).bufs ⊆ later := show ({R main_v6, R main_v21} : Finset (DevRef τ sig)) ⊆ later by decide
theorem hop29 : (op29 (F := F)).bufs ⊆ later := show ({R main_v21, R main_v22} : Finset (DevRef τ sig)) ⊆ later by decide
theorem hop30 : (op30 (F := F)).bufs ⊆ later := show ({R main_cst_6} : Finset (DevRef τ sig)) ⊆ later by decide
theorem hop31 : (op31 (F := F)).bufs ⊆ later := show ({R main_cst_6, R main_v23} : Finset (DevRef τ sig)) ⊆ later by decide
theorem hop32 : (op32 (F := F)).bufs ⊆ later := show ({R main_v22, R main_v23, R main_v24} : Finset (DevRef τ sig)) ⊆ later by decide
theorem hop33 : (op33 (F := F)).bufs ⊆ later := show ({R main_v6, R main_v25} : Finset (DevRef τ sig)) ⊆ later by decide
theorem hop34 : (op34 (F := F)).bufs ⊆ later := show ({R main_v25, R main_v26} : Finset (DevRef τ sig)) ⊆ later by decide
theorem hop35 : (op35 (F := F)).bufs ⊆ later := show ({R main_v6, R main_v27} : Finset (DevRef τ sig)) ⊆ later by decide
theorem hop36 : (op36 (F := F)).bufs ⊆ later := show ({R main_v27, R main_v28} : Finset (DevRef τ sig)) ⊆ later by decide
theorem hop37 : (op37 (F := F)).bufs ⊆ later := show ({R main_cst_7} : Finset (DevRef τ sig)) ⊆ later by decide
theorem hop38 : (op38 (F := F)).bufs ⊆ later := show ({R main_cst_7, R main_v29} : Finset (DevRef τ sig)) ⊆ later by decide
theorem hop39 : (op39 (F := F)).bufs ⊆ later := show ({R main_v28, R main_v29, R main_v30} : Finset (DevRef τ sig)) ⊆ later by decide
theorem hop40 : (op40 (F := F)).bufs ⊆ later := show ({R main_v26, R main_v30, R main_v31} : Finset (DevRef τ sig)) ⊆ later by decide
theorem hop41 : (op41 (F := F)).bufs ⊆ later := show ({R main_cst_8} : Finset (DevRef τ sig)) ⊆ later by decide
theorem hop42 : (op42 (F := F)).bufs ⊆ later := show ({R main_cst_8, R main_call0_v0} : Finset (DevRef τ sig)) ⊆ later by decide
theorem hop43 : (op43 (F := F)).bufs ⊆ later := show ({R main_call0_v0, R main_call0_v1} : Finset (DevRef τ sig)) ⊆ later by decide
theorem hop44 : (op44 (F := F)).bufs ⊆ later := show ({R main_v24, R main_v31, R main_call0_v1, R main_v32} : Finset (DevRef τ sig)) ⊆ later by decide
theorem hop45 : (op45 (F := F)).bufs ⊆ later := show ({R main_cst_9} : Finset (DevRef τ sig)) ⊆ later by decide
theorem hop46 : (op46 (F := F)).bufs ⊆ later := show ({R main_v32, R main_cst_9, R main_v33} : Finset (DevRef τ sig)) ⊆ later by decide
theorem hop47 : (op47 (F := F)).bufs ⊆ later := show ({R main_cst_10} : Finset (DevRef τ sig)) ⊆ later by decide
theorem hop48 : (op48 (F := F)).bufs ⊆ later := show ({R main_v33, R main_cst_10, R main_v34} : Finset (DevRef τ sig)) ⊆ later by decide

/-- The call of the function that chooses, its operations in line. -/
theorem where_eq : fn_where.body (F := F) (.of main_v24) (.of main_v31) (.of main_cst_8) main_call0
    = (do hlo rfl op42 (fun _ => .ret ⟨⟩); hlo rfl op43 (fun _ => .ret ⟨⟩); hlo rfl op44 (fun _ => .ret ⟨⟩); pure ⟨⟩) := rfl

/-- One operation of the host, over the arrays held whole. -/
theorem step (d : Dev nD) {op : HloOp τ sig (Elt F)} {S : Finset (DevRef τ sig)} (hS : op.bufs ⊆ S) (V : Valuation τ sig (Elt F)) {Q : PUnit → Res F}
    (hf : op.fresh = ∅ := by first | rfl | decide) :
    iprop((boundary (SparseCore.T d) ∗ held (SparseCore.T d) S V) ∗ ((boundary (SparseCore.T d) ∗ held (SparseCore.T d) S (op.result V)) -∗ Q ⟨⟩))
      ⊢ wp frame (wpE ((K (F := F)).defs (D (F := F))) 𝒱 (SparseCore.T d) none) Set.univ (hlo rfl op (fun _ => .ret ⟨⟩)) Q := by
  iintro ⟨H, HQ⟩
  iapply (wp_hlo_within 𝒱 (SparseCore.T d) none Set.univ (op := op) (S := S) hS (V := V) hf) $$ H
  iintro H
  rw [wp_ret]; imodintro
  iapply HQ; iexact H

/-- What comes of the call: for each tile its Laplacian row. -/
abbrev AllLap (d : Dev nD) (g : main_v4_scv.ty.Contents (Elt F)) : Prop :=
  ∀ (c : Fin τ.nSC) (i : Fin τ.nSub), OutLap (coordsV c i) (lapOf (Vm m) (Gm m) d c i) g

abbrev bars (d : Dev nD) : Res F := bigSep Finset.univ fun c : Fin τ.nSC => bigSep Finset.univ fun i : Fin τ.nSub => semVal (bcell d c i) 0

theorem held_S3 (d : Dev nD) (W : Valuation τ sig (Elt F)) : (held (SparseCore.T d) S3 W : Res F)
    = iprop((hloc d main_v1_scv ↦{fullShare} W (R main_v1)) ∗ (hloc d main_v3_scv ↦{fullShare} W (R main_v3)) ∗ hloc d main_v4_scv ↦{fullShare} W (R main_v4)) := by
  unfold held S3
  rw [SparseCore.bigSep_insert' (by decide), SparseCore.bigSep_insert' (by decide), bigSep_singleton]

theorem held_before (d : Dev nD) : (held (SparseCore.T d) arrays (V4 m d) : Res F)
    = iprop(((hloc d main_v1_scv ↦{fullShare} Vm m d) ∗ (hloc d main_v3_scv ↦{fullShare} Gm m d) ∗ hloc d main_v4_scv ↦{fullShare} V4 m d (R main_v4))
      ∗ held (SparseCore.T d) (arrays \ S3) (V4 m d)) := by
  rw [held_sub_split (T := S3) (SparseCore.T d) (by decide) (V4 m d), held_S3, V4_v1, V4_v3]

theorem held_after (d : Dev nD) (g : main_v4_scv.ty.Contents (Elt F)) :
    (held (SparseCore.T d) later (V5 m d g) : Res F) = iprop((hloc d main_v4_scv ↦{fullShare} g) ∗ held (SparseCore.T d) (arrays \ S3) (V4 m d)) := by
  unfold held later
  rw [SparseCore.bigSep_insert' (by decide), V5_v4, bigSep_congr (s := arrays \ S3) (Ψ := fun b => (((SparseCore.T d).1, b) ↦{fullShare} V4 m d b : Res F))
    fun b hb => by rw [V5_ne m d g b (fun e => absurd (e ▸ hb) (by decide))]]

theorem held_end (d : Dev nD) (W : Valuation τ sig (Elt F)) : (held (SparseCore.T d) later W : Res F)
    = iprop(((aLoc d main_arg0 ↦{fullShare} W (R main_arg0)) ∗ (aLoc d main_arg1 ↦{fullShare} W (R main_arg1)) ∗ (aLoc d main_v15 ↦{fullShare} W (R main_v15)) ∗ (aLoc d main_v20 ↦{fullShare} W (R main_v20)) ∗ aLoc d main_v34 ↦{fullShare} W (R main_v34))
      ∗ held (SparseCore.T d) (later \ {R main_arg0, R main_arg1, R main_v15, R main_v20, R main_v34}) W) := by
  rw [held_sub_split (T := {R main_arg0, R main_arg1, R main_v15, R main_v20, R main_v34}) (SparseCore.T d) (by decide) W]
  congr 1
  unfold held
  rw [SparseCore.bigSep_insert' (by decide), SparseCore.bigSep_insert' (by decide), SparseCore.bigSep_insert' (by decide), SparseCore.bigSep_insert' (by decide), bigSep_singleton]

/-- What @main leaves: the arguments as they were, the losses of sums that hold the tiles' rows, the barrier semaphores. -/
def FIN (d : Dev nD) : Res F :=
  iprop((aLoc d main_arg0 ↦{fullShare} m (aLoc d main_arg0)) ∗ (aLoc d main_arg1 ↦{fullShare} m (aLoc d main_arg1))
    ∗ (∃ g, ⌜AllLap m d g⌝ ∗ (aLoc d main_v15 ↦{fullShare} (edgeOf g : Buf (Elt F) (aLoc d main_v15))) ∗ (aLoc d main_v20 ↦{fullShare} (lossOf g : Buf (Elt F) (aLoc d main_v20))) ∗ aLoc d main_v34 ↦{fullShare} (normOf g : Buf (Elt F) (aLoc d main_v34))) ∗ bars d)

/-- What the call is given, from the three arrays. -/
theorem give (d : Dev nD) (f : Buf (Elt F) (hloc d main_v4_scv)) :
    iprop((hloc d main_v1_scv ↦{fullShare} Vm m d) ∗ (hloc d main_v3_scv ↦{fullShare} Gm m d) ∗ hloc d main_v4_scv ↦{fullShare} f)
      ⊢ (bigSep Finset.univ fun c : Fin ((K (F := F)).nCore 0) => (P (Vm m) (Gm m)).st 0 d c : Res F) := by
  show _ ⊢ (bigSep Finset.univ fun c : Fin ((K (F := F)).nCore 0) => bigSep Finset.univ fun i : Fin τ.nSub => tileArgs (Vm m) (Gm m) d (coreOf c) i : Res F)
  rw [bigSep_cores (fun c => bigSep Finset.univ fun i : Fin τ.nSub => tileArgs (Vm m) (Gm m) d c i)]
  unfold tileArgs
  rw [bigSep_congr (s := (Finset.univ : Finset (Fin τ.nSC))) fun c _ => bigSep_sep' _ _ _, bigSep_sep',
    bigSep_congr (s := (Finset.univ : Finset (Fin τ.nSC))) (Φ := fun c => bigSep Finset.univ fun i : Fin τ.nSub => iprop(piece 0 d c i main_v3_scv (Gm m d) ∗ ∃ f, piece 0 d c i main_v4_scv f)) fun c _ => bigSep_sep' _ _ _, bigSep_sep']
  iintro ⟨H1, H3, H4⟩
  isplitl [H1]
  · iapply (table_deal (ℓ := hloc d main_v1_scv) (fun c i => (acc 0 c.val i.val).own main_v1_scv) (fun c i => Finset.ext fun x => ⟨fun _ => Finset.mem_univ _, fun _ => mem_own.2 trivial⟩) _)
    iexact H1
  isplitl [H3]
  · iapply (table_deal (ℓ := hloc d main_v3_scv) (fun c i => (acc 0 c.val i.val).own main_v3_scv) (fun c i => Finset.ext fun x => ⟨fun _ => Finset.mem_univ _, fun _ => mem_own.2 trivial⟩) _)
    iexact H3
  iapply (out_deal d f)
  iexact H4

/-- What comes back of it. -/
theorem receive_all [∀ e, Nonempty (Elt F e)] (d : Dev nD) :
    (bigSep Finset.univ fun c : Fin ((K (F := F)).nCore 0) => (P (Vm m) (Gm m)).dn 0 d c : Res F)
      ⊢ iprop((∃ g : main_v4_scv.ty.Contents (Elt F), ⌜AllLap m d g⌝ ∗ hloc d main_v4_scv ↦{fullShare} g) ∗ bars d) := by
  show (bigSep Finset.univ fun c : Fin ((K (F := F)).nCore 0) => bigSep Finset.univ fun i : Fin τ.nSub => tileDone (Vm m) (Gm m) d (coreOf c) i : Res F) ⊢ _
  rw [bigSep_cores (fun c => bigSep Finset.univ fun i : Fin τ.nSub => tileDone (Vm m) (Gm m) d c i)]
  unfold tileDone
  rw [bigSep_congr (s := (Finset.univ : Finset (Fin τ.nSC))) fun c _ => bigSep_sep' _ _ _, bigSep_sep']
  iintro ⟨H, Hb⟩
  isplitl [H]
  · iapply (out_join d (fun c i f => OutLap (coordsV c i) (lapOf (Vm m) (Gm m) d c i) f) fun c i f g h hg => outLap_congr c i d _ f g h hg)
    iexact H
  iexact Hb

theorem hmain [∀ e, Nonempty (Elt F e)] (κ : GSem nD τ sig → ℕ) (d : Dev nD) :
    iprop((K (F := F)).ctx EH (P (Vm m) (Gm m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, where_eq, wp_bind, wp_pure]
  iintro ⟨#Hctx, Hst, ⟨Hb, Hh, Hts, -⟩, -⟩
  iapply (step d hop1 _)
  isplitl [Hb Hh]; · isplitl [Hb] <;> iassumption
  iintro ⟨Hb, Hh⟩
  iapply (step d hop2 _)
  isplitl [Hb Hh]; · isplitl [Hb] <;> iassumption
  iintro ⟨Hb, Hh⟩
  iapply (step d hop3 _)
  isplitl [Hb Hh]; · isplitl [Hb] <;> iassumption
  iintro ⟨Hb, Hh⟩
  iapply (step d hop4 _)
  isplitl [Hb Hh]; · isplitl [Hb] <;> iassumption
  iintro ⟨Hb, Hh⟩
  ihave Hh := (show (held (SparseCore.T d) arrays (op4.result (op3.result (op2.result (op1.result (V0 m d))))) : Res F) ⊢ _ from Entails.of_eq (held_before m d)) $$ Hh
  icases Hh with ⟨H3, Hh⟩
  ihave H3 := (give m d _) $$ H3
  iapply ((K (F := F)).wp_run (D (F := F)) 𝒱 (EH := EH) (P := P (Vm m) (Gm m)) κ d 0) $$ [Hst H3 Hb Hh Hts]
  isplitr; · iexact Hctx
  isplitl [Hst]; · iexact Hst
  isplitl [H3]; · iexact H3
  iintro ⟨Hst, Hdn⟩
  ihave Hdn := (receive_all m d) $$ Hdn
  icases Hdn with ⟨⟨%g, %hg, H4⟩, Hbars⟩
  ihave Hh := (Entails.of_eq (held_after m d g).symm) $$ [H4 Hh]
  · isplitl [H4] <;> iassumption
  iapply (step d hop5 _)
  isplitl [Hb Hh]; · isplitl [Hb] <;> iassumption
  iintro ⟨Hb, Hh⟩
  iapply (step d hop6 _)
  isplitl [Hb Hh]; · isplitl [Hb] <;> iassumption
  iintro ⟨Hb, Hh⟩
  iapply (step d hop7 _)
  isplitl [Hb Hh]; · isplitl [Hb] <;> iassumption
  iintro ⟨Hb, Hh⟩
  iapply (step d hop8 _)
  isplitl [Hb Hh]; · isplitl [Hb] <;> iassumption
  iintro ⟨Hb, Hh⟩
  iapply (step d hop9 _)
  isplitl [Hb Hh]; · isplitl [Hb] <;> iassumption
  iintro ⟨Hb, Hh⟩
  iapply (step d hop10 _)
  isplitl [Hb Hh]; · isplitl [Hb] <;> iassumption
  iintro ⟨Hb, Hh⟩
  iapply (step d hop11 _)
  isplitl [Hb Hh]; · isplitl [Hb] <;> iassumption
  iintro ⟨Hb, Hh⟩
  iapply (step d hop12 _)
  isplitl [Hb Hh]; · isplitl [Hb] <;> iassumption
  iintro ⟨Hb, Hh⟩
  iapply (step d hop13 _)
  isplitl [Hb Hh]; · isplitl [Hb] <;> iassumption
  iintro ⟨Hb, Hh⟩
  iapply (step d hop14 _)
  isplitl [Hb Hh]; · isplitl [Hb] <;> iassumption
  iintro ⟨Hb, Hh⟩
  iapply (step d hop15 _)
  isplitl [Hb Hh]; · isplitl [Hb] <;> iassumption
  iintro ⟨Hb, Hh⟩
  iapply (step d hop16 _)
  isplitl [Hb Hh]; · isplitl [Hb] <;> iassumption
  iintro ⟨Hb, Hh⟩
  iapply (step d hop17 _)
  isplitl [Hb Hh]; · isplitl [Hb] <;> iassumption
  iintro ⟨Hb, Hh⟩
  iapply (step d hop18 _)
  isplitl [Hb Hh]; · isplitl [Hb] <;> iassumption
  iintro ⟨Hb, Hh⟩
  iapply (step d hop19 _)
  isplitl [Hb Hh]; · isplitl [Hb] <;> iassumption
  iintro ⟨Hb, Hh⟩
  iapply (step d hop20 _)
  isplitl [Hb Hh]; · isplitl [Hb] <;> iassumption
  iintro ⟨Hb, Hh⟩
  iapply (step d hop21 _)
  isplitl [Hb Hh]; · isplitl [Hb] <;> iassumption
  iintro ⟨Hb, Hh⟩
  iapply (step d hop22 _)
  isplitl [Hb Hh]; · isplitl [Hb] <;> iassumption
  iintro ⟨Hb, Hh⟩
  iapply (step d hop23 _)
  isplitl [Hb Hh]; · isplitl [Hb] <;> iassumption
  iintro ⟨Hb, Hh⟩
  iapply (step d hop24 _)
  isplitl [Hb Hh]; · isplitl [Hb] <;> iassumption
  iintro ⟨Hb, Hh⟩
  iapply (step d hop25 _)
  isplitl [Hb Hh]; · isplitl [Hb] <;> iassumption
  iintro ⟨Hb, Hh⟩
  iapply (step d hop26 _)
  isplitl [Hb Hh]; · isplitl [Hb] <;> iassumption
  iintro ⟨Hb, Hh⟩
  iapply (step d hop27 _)
  isplitl [Hb Hh]; · isplitl [Hb] <;> iassumption
  iintro ⟨Hb, Hh⟩
  iapply (step d hop28 _)
  isplitl [Hb Hh]; · isplitl [Hb] <;> iassumption
  iintro ⟨Hb, Hh⟩
  iapply (step d hop29 _)
  isplitl [Hb Hh]; · isplitl [Hb] <;> iassumption
  iintro ⟨Hb, Hh⟩
  iapply (step d hop30 _)
  isplitl [Hb Hh]; · isplitl [Hb] <;> iassumption
  iintro ⟨Hb, Hh⟩
  iapply (step d hop31 _)
  isplitl [Hb Hh]; · isplitl [Hb] <;> iassumption
  iintro ⟨Hb, Hh⟩
  iapply (step d hop32 _)
  isplitl [Hb Hh]; · isplitl [Hb] <;> iassumption
  iintro ⟨Hb, Hh⟩
  iapply (step d hop33 _)
  isplitl [Hb Hh]; · isplitl [Hb] <;> iassumption
  iintro ⟨Hb, Hh⟩
  iapply (step d hop34 _)
  isplitl [Hb Hh]; · isplitl [Hb] <;> iassumption
  iintro ⟨Hb, Hh⟩
  iapply (step d hop35 _)
  isplitl [Hb Hh]; · isplitl [Hb] <;> iassumption
  iintro ⟨Hb, Hh⟩
  iapply (step d hop36 _)
  isplitl [Hb Hh]; · isplitl [Hb] <;> iassumption
  iintro ⟨Hb, Hh⟩
  iapply (step d hop37 _)
  isplitl [Hb Hh]; · isplitl [Hb] <;> iassumption
  iintro ⟨Hb, Hh⟩
  iapply (step d hop38 _)
  isplitl [Hb Hh]; · isplitl [Hb] <;> iassumption
  iintro ⟨Hb, Hh⟩
  iapply (step d hop39 _)
  isplitl [Hb Hh]; · isplitl [Hb] <;> iassumption
  iintro ⟨Hb, Hh⟩
  iapply (step d hop40 _)
  isplitl [Hb Hh]; · isplitl [Hb] <;> iassumption
  iintro ⟨Hb, Hh⟩
  iapply (step d hop41 _)
  isplitl [Hb Hh]; · isplitl [Hb] <;> iassumption
  iintro ⟨Hb, Hh⟩
  iapply (step d hop42 _)
  isplitl [Hb Hh]; · isplitl [Hb] <;> iassumption
  iintro ⟨Hb, Hh⟩
  iapply (step d hop43 _)
  isplitl [Hb Hh]; · isplitl [Hb] <;> iassumption
  iintro ⟨Hb, Hh⟩
  iapply (step d hop44 _)
  isplitl [Hb Hh]; · isplitl [Hb] <;> iassumption
  iintro ⟨Hb, Hh⟩
  imodintro
  iapply (step d hop45 _)
  isplitl [Hb Hh]; · isplitl [Hb] <;> iassumption
  iintro ⟨Hb, Hh⟩
  iapply (step d hop46 _)
  isplitl [Hb Hh]; · isplitl [Hb] <;> iassumption
  iintro ⟨Hb, Hh⟩
  iapply (step d hop47 _)
  isplitl [Hb Hh]; · isplitl [Hb] <;> iassumption
  iintro ⟨Hb, Hh⟩
  iapply (step d hop48 _)
  isplitl [Hb Hh]; · isplitl [Hb] <;> iassumption
  iintro ⟨Hb, Hh⟩
  ihave Hh := (show (held (SparseCore.T d) later (op48.result (op47.result (op46.result (op45.result (op44.result (op43.result (op42.result (op41.result (op40.result (op39.result (op38.result (op37.result (op36.result (op35.result (op34.result (op33.result (op32.result (op31.result (op30.result (op29.result (op28.result (op27.result (op26.result (op25.result (op24.result (op23.result (op22.result (op21.result (op20.result (op19.result (op18.result (op17.result (op16.result (op15.result (op14.result (op13.result (op12.result (op11.result (op10.result (op9.result (op8.result (op7.result (op6.result (op5.result (V5 m d g))))))))))))))))))))))))))))))))))))))))))))) : Res F) ⊢ _ from Entails.of_eq (held_end d (VE m d g))) $$ Hh
  icases Hh with ⟨⟨H0, H1, H15, H20, H34⟩, -⟩
  ihave H0 := (Entails.of_eq (show (aLoc d main_arg0 ↦{fullShare} VE m d g (R main_arg0) : Res F) = (aLoc d main_arg0 ↦{fullShare} m (aLoc d main_arg0)) by rw [VE_arg0])) $$ H0
  ihave H1 := (Entails.of_eq (show (aLoc d main_arg1 ↦{fullShare} VE m d g (R main_arg1) : Res F) = (aLoc d main_arg1 ↦{fullShare} m (aLoc d main_arg1)) by rw [VE_arg1])) $$ H1
  ihave H15 := (Entails.of_eq (show (aLoc d main_v15 ↦{fullShare} VE m d g (R main_v15) : Res F) = (aLoc d main_v15 ↦{fullShare} (edgeOf g : Buf (Elt F) (aLoc d main_v15))) by rw [VE_v15])) $$ H15
  ihave H20 := (Entails.of_eq (show (aLoc d main_v20 ↦{fullShare} VE m d g (R main_v20) : Res F) = (aLoc d main_v20 ↦{fullShare} (lossOf g : Buf (Elt F) (aLoc d main_v20))) by rw [VE_v20])) $$ H20
  ihave H34 := (Entails.of_eq (show (aLoc d main_v34 ↦{fullShare} VE m d g (R main_v34) : Res F) = (aLoc d main_v34 ↦{fullShare} (normOf g : Buf (Elt F) (aLoc d main_v34))) by rw [VE_v34])) $$ H34
  imodintro
  isplitl [Hst]; · iexact Hst
  isplitr [Hb Hts]
  · unfold FIN
    isplitl [H0]; · iexact H0
    isplitl [H1]; · iexact H1
    isplitl [H15 H20 H34]
    · iexists g
      isplitr; · ipureintro; exact hg
      isplitl [H15]; · iassumption
      isplitl [H20] <;> iassumption
    iexact Hbars
  isplitl [Hb] <;> iassumption

/-! ## The final states -/

/-- What the claims read of a device's final state. -/
def fq (d : Dev nD) (s' : Phys nD τ sig (Elt F)) : Prop :=
  s'.mem.mem (aLoc d main_arg0) = m (aLoc d main_arg0) ∧ s'.mem.mem (aLoc d main_arg1) = m (aLoc d main_arg1)
    ∧ (∃ g, AllLap m d g ∧ s'.mem.mem (aLoc d main_v15) = edgeOf g ∧ s'.mem.mem (aLoc d main_v20) = lossOf g ∧ s'.mem.mem (aLoc d main_v34) = normOf g) ∧ ∀ (c : Fin τ.nSC) (i : Fin τ.nSub), s'.mem.sem (bcell d c i) = 0

theorem read_all (ℓ : Loc nD τ sig) (f : Buf (Elt F) ℓ) (s' : Phys nD τ sig (Elt F)) : iprop((ℓ ↦{fullShare} f) ∗ SI s') ⊢ (⌜s'.mem.mem ℓ = f⌝ : Res F) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : Res F) := by
  have h11 : iprop((∃ g, ⌜AllLap m d g⌝ ∗ (aLoc d main_v15 ↦{fullShare} (edgeOf g : Buf (Elt F) (aLoc d main_v15))) ∗ (aLoc d main_v20 ↦{fullShare} (lossOf g : Buf (Elt F) (aLoc d main_v20))) ∗ aLoc d main_v34 ↦{fullShare} (normOf g : Buf (Elt F) (aLoc d main_v34))) ∗ SI s')
      ⊢ (⌜∃ g, AllLap m d g ∧ s'.mem.mem (aLoc d main_v15) = edgeOf g ∧ s'.mem.mem (aLoc d main_v20) = lossOf g ∧ s'.mem.mem (aLoc d main_v34) = normOf g⌝ : Res F) := by
    have k : ∀ g : main_v4_scv.ty.Contents (Elt F), iprop(((aLoc d main_v15 ↦{fullShare} (edgeOf g : Buf (Elt F) (aLoc d main_v15))) ∗ (aLoc d main_v20 ↦{fullShare} (lossOf g : Buf (Elt F) (aLoc d main_v20))) ∗ aLoc d main_v34 ↦{fullShare} (normOf g : Buf (Elt F) (aLoc d main_v34))) ∗ SI s')
        ⊢ (⌜s'.mem.mem (aLoc d main_v15) = edgeOf g ∧ s'.mem.mem (aLoc d main_v20) = lossOf g ∧ s'.mem.mem (aLoc d main_v34) = normOf g⌝ : Res F) := fun g x hx =>
      ⟨((sep_mono_left sep_elim_left).trans (read_all _ _ s')) x hx, ((sep_mono_left (sep_elim_right.trans sep_elim_left)).trans (read_all _ _ s')) x hx, ((sep_mono_left (sep_elim_right.trans sep_elim_right)).trans (read_all _ _ s')) x hx⟩
    iintro ⟨⟨%g, %hg, H⟩, HSI⟩
    ihave H := (k g) $$ [H HSI]
    · isplitl [H] <;> iassumption
    icases H with %h
    ipureintro; exact ⟨g, hg, h⟩
  unfold FIN
  exact fun x hx => ⟨((sep_mono_left sep_elim_left).trans (read_all _ _ s')) x hx,
    ((sep_mono_left (sep_elim_right.trans sep_elim_left)).trans (read_all _ _ s')) x hx,
    ((sep_mono_left (sep_elim_right.trans (sep_elim_right.trans sep_elim_left))).trans h11) x hx,
    fun c i => ((sep_mono_left (sep_elim_right.trans (sep_elim_right.trans (sep_elim_right.trans
      ((SparseCore.ent (bigSep_elim (Finset.mem_univ c))).trans (SparseCore.ent (bigSep_elim (Finset.mem_univ i)))))))).trans (SparseCore.Cfg.semVal_zero_read _ s')) x hx⟩

theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2.2 c i

/-- The arguments end as they were, the result is the losses of sums that hold the tiles' rows, every counter is zero. -/
def QC : PUnit × MemSt nD τ sig (Elt F) → Prop := fun r =>
  (∀ d : Dev nD, r.2.mem (aLoc d main_arg0) = m (aLoc d main_arg0) ∧ r.2.mem (aLoc d main_arg1) = m (aLoc d main_arg1)
    ∧ ∃ g, AllLap m d g ∧ r.2.mem (aLoc d main_v15) = edgeOf g ∧ r.2.mem (aLoc d main_v20) = lossOf g ∧ r.2.mem (aLoc d main_v34) = normOf g) ∧ r.2.sem = fun _ => 0

theorem run_main [∀ e, Nonempty (Elt F e)] (hG : ∀ d, InRange (F := F) (Gm m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Vm m) (Gm m)) (hA := hA m) facts v₀
    (fun q hq => match q with | 0 => nomatch hq)
    (fun q _ => match q with | 0 => tileObl (Vm m) (Gm m) hG)
    (fun q _ => match q with | 0 => vecSplit (Vm m) (Gm m))
    m ρ main (fun _ => iprop(emp)) (FIN m) (u₀ (F := F)) (hu₀ (Vm m) (Gm m)) (hmain m ρ) (fq m) (hfin m) (QC m)
    (fun _ h hz => ⟨fun d => ⟨(h d).1, (h d).2.1, (h d).2.2.1⟩, hz⟩)

end Cert.Proof.Tile
-- ==== Proof.Frames.lean ====
/- The frames, from the one run of Main.lean: the precondition puts every face index in range, the kernel's run reads back
   its arguments and counters, the reference's run is the generated one. -/
module

public import proofs.«01_k».proof.Defs
public import proofs.«01_k».proof.Proof.Main
public import Idealize.ShloMosaic.Lib.ReduceAll
public import Idealize.ShloMosaic.Lib.WordCmp
public import proofs.«01_k».proof.Proof.Gen.Kernel
public import proofs.«01_k».proof.Proof.Gen.ReferenceIdeal.Run
public import proofs.«01_k».proof.Proof.Gen.Pre_faces_in_range

@[expose] public section

noncomputable section

namespace Cert.Proof

open Idealize.ShloMosaic Idealize.ShloMosaic.IntOp Idealize.SL.Sem

/-- Where the precondition's function is true, every index of the faces is below 2048. -/
theorem below_of_pre {F : FTy → Type} [FloatOps F] (p : FVec F Cert.Pre_faces_in_range.S4x2048x3 .f32) (q : IVec Cert.Pre_faces_in_range.S4x4096x3 32)
    (h : Cert.Pre_faces_in_range.fn p q = fun _ => 1#1) (x) : (q x).toNat < 2048 := by
  have e := Host.reduce_andi_all _ _ _ _ _ (congrFun h (fun k => k.elim0)) x
  have e' : IntOp.andi (IntOp.cmpi .sge (q x) 0#32) (IntOp.cmpi .slt (q x) (BitVec.ofNat 32 2048)) = 1#1 := e
  rw [WordCmp.andi_sge_zero_slt_ofNat (by decide)] at e'
  by_contra hn
  rw [decide_eq_false hn] at e'
  exact absurd e' (by decide)

/-- Then so is every index the call reads. -/
theorem inRange_of {F : FTy → Type} [FloatOps F] (q : IVec Cert.KernelIdeal.S4x4096x3 32) (h : ∀ x, (q x).toNat < 2048) : Tile.InRange (F := F) (Tile.gflat (F := F) q) :=
  fun _ => h _

theorem frame_kernel : Cert.quiescent_Kernel := fun m ρ hp =>
  (θ_run Cert.KernelIdeal.defs _ _).mono (fun _ h => ⟨fun c => ⟨(h.1 c).1, (h.1 c).2.1⟩, h.2⟩)
    (Tile.run_main (F := Bits) m ρ fun d => inRange_of _ (below_of_pre _ _ (hp d)))

theorem frame_ideal : Cert.quiescent_KernelIdeal := fun m ρ hp =>
  (θ_run Cert.KernelIdeal.defs _ _).mono (fun _ h => ⟨fun c => ⟨(h.1 c).1, (h.1 c).2.1⟩, h.2⟩)
    (Tile.run_main (F := Ideal) m ρ fun d => inRange_of _ (below_of_pre _ _ (hp d)))

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof

end
-- ==== Proof.Spec.lean ====
/-
  The Laplacian term as mathematics over the extended reals.

  `p v q` is coordinate `q` of vertex `v` and `t n k` the vertex at corner `k` of face `n`.  A face gives each of its corners a
  cotangent weight; a vertex sums, over the faces and their corners' opposite edges, the weighted other ends of those edges,
  divides by the sum of the weights and takes the distance to itself.  Two ways to write a weight, and two ways to take the
  mean of the four batches, are shown to agree.
-/
module

public import Idealize.ShloMosaic.Lib.IdealHost
public import Idealize.ShloMosaic.PureOps.Ideal.Laws
public import Mathlib.Data.EReal.Inv

@[expose] public section

noncomputable section

namespace Cert.Proof.Mesh

open Idealize.ShloMosaic

/-! ## The constants -/

/-- What is added under the roots of lengths. -/
def eps : EReal := Ideal.ofBits .f32 0x1E3CE508#32
/-- The least value taken for a squared area. -/
def floorA : EReal := Ideal.ofBits .f32 0x2B8CBCCC#32
def half : EReal := Ideal.ofBits .f32 0x3F000000#32
def quarter : EReal := Ideal.ofBits .f32 0x3E800000#32
def four : EReal := Ideal.ofBits .f32 0x40800000#32
/-- The number of vertices. -/
def nVert : EReal := Ideal.ofBits .f32 0x45000000#32

theorem four_eq : four = ((4 : ℝ) : EReal) := by
  unfold four; simp [Ideal.ofBits, Ideal.ieee, -EReal.coe_mul]; norm_num
theorem nVert_eq : nVert = ((2048 : ℝ) : EReal) := by
  unfold nVert; simp [Ideal.ofBits, Ideal.ieee, -EReal.coe_mul]; norm_num
theorem quarter_eq : quarter = ((4⁻¹ : ℝ) : EReal) := by
  unfold quarter; simp [Ideal.ofBits, Ideal.ieee, -EReal.coe_mul]; norm_num
theorem eps_nonneg : 0 ≤ eps := by
  unfold eps; simp [Ideal.ofBits, Ideal.ieee, -EReal.coe_mul]
theorem floorA_pos : 0 < floorA := by
  unfold floorA; simp [Ideal.ofBits, Ideal.ieee, -EReal.coe_mul]

/-! ## Roots and quotients -/

theorem sq_nonneg (x : EReal) : 0 ≤ x * x := by
  rw [EReal.mul_nonneg_iff]
  rcases le_total 0 x with h | h
  · exact .inl ⟨h, h⟩
  · exact .inr ⟨h, h⟩

theorem sqrt_nonneg {x : EReal} (h : 0 ≤ x) : 0 ≤ Ideal.sqrt x := by
  induction x with
  | bot => exact absurd h (by simp)
  | top => exact le_top
  | coe r =>
    have hr : 0 ≤ r := EReal.coe_nonneg.1 h
    show 0 ≤ (if r < 0 then (⊥ : EReal) else (Real.sqrt r : EReal))
    rw [if_neg (not_lt.2 hr)]
    exact EReal.coe_nonneg.2 (Real.sqrt_nonneg r)

/-- A root times itself. -/
theorem sqrt_mul_self {x : EReal} (h : 0 ≤ x) : Ideal.sqrt x * Ideal.sqrt x = x := by
  induction x with
  | bot => exact absurd h (by simp)
  | top => exact EReal.top_mul_top
  | coe r =>
    have hr : 0 ≤ r := EReal.coe_nonneg.1 h
    have e : Ideal.sqrt (r : EReal) = (Real.sqrt r : EReal) := if_neg (not_lt.2 hr)
    rw [e, ← EReal.coe_mul, Real.mul_self_sqrt hr]

theorem sqrt_ne_zero {x : EReal} (h : 0 < x) : Ideal.sqrt x ≠ 0 := by
  intro e
  have := sqrt_mul_self h.le
  rw [e, zero_mul] at this
  exact h.ne this

theorem div_eq {x y : EReal} (h : y ≠ 0) : Ideal.div x y = x * y⁻¹ := if_neg h

theorem four_ne : four ≠ 0 := by rw [four_eq]; exact EReal.coe_ne_zero.2 (by norm_num)
theorem nVert_ne : nVert ≠ 0 := by rw [nVert_eq]; exact EReal.coe_ne_zero.2 (by norm_num)
theorem quarter_inv : quarter = four⁻¹ := by rw [quarter_eq, four_eq, EReal.coe_inv]

/-- A quarter of a quotient, the quarter taken first or last. -/
theorem quarter_div (x y : EReal) (h : y ≠ 0) : x * Ideal.div quarter y = Ideal.div (Ideal.div x y) four := by
  rw [div_eq h, div_eq h, div_eq four_ne, quarter_inv, mul_comm four⁻¹, mul_assoc]

/-! ## One face -/

/-- A squared length. -/
def len2 (u v : Fin 3 → EReal) : EReal :=
  (((u 0 - v 0) * (u 0 - v 0) + (u 1 - v 1) * (u 1 - v 1)) + (u 2 - v 2) * (u 2 - v 2)) + eps

theorem len2_nonneg (u v : Fin 3 → EReal) : 0 ≤ len2 u v :=
  add_nonneg (add_nonneg (add_nonneg (sq_nonneg _) (sq_nonneg _)) (sq_nonneg _)) eps_nonneg

/-- Sixteen times the squared area over sixteen, by the three lengths. -/
def heron (a b c : EReal) : EReal :=
  let s := half * ((a + b) + c)
  ((s * (s - a)) * (s - b)) * (s - c)

/-- Twice the dot product at each corner, by the squared lengths of the edges opposite the corners. -/
def num (a b c : EReal) : Fin 3 → EReal
  | 0 => (b + c) - a
  | 1 => (a + c) - b
  | 2 => (a + b) - c

/-- The face's three weights, from the corners' coordinates. -/
def wgt (x : Fin 3 → Fin 3 → EReal) (k : Fin 3) : EReal :=
  num (len2 (x 1) (x 2)) (len2 (x 0) (x 2)) (len2 (x 0) (x 1)) k *
    Ideal.div quarter (Ideal.sqrt (max (heron (Ideal.sqrt (len2 (x 1) (x 2))) (Ideal.sqrt (len2 (x 0) (x 2))) (Ideal.sqrt (len2 (x 0) (x 1)))) floorA))

/-- The weight with the squares taken of the lengths and the quarter last. -/
theorem wgt_eq (x : Fin 3 → Fin 3 → EReal) (k : Fin 3) {a b c : EReal} (ha : a = Ideal.sqrt (len2 (x 1) (x 2)))
    (hb : b = Ideal.sqrt (len2 (x 0) (x 2))) (hc : c = Ideal.sqrt (len2 (x 0) (x 1))) :
    wgt x k = Ideal.div (Ideal.div (num (a * a) (b * b) (c * c) k) (Ideal.sqrt (max floorA (heron a b c)))) four := by
  subst ha hb hc
  rw [sqrt_mul_self (len2_nonneg _ _), sqrt_mul_self (len2_nonneg _ _), sqrt_mul_self (len2_nonneg _ _), max_comm floorA,
    ← quarter_div _ _ (sqrt_ne_zero (lt_of_lt_of_le floorA_pos (le_max_right _ _)))]
  rfl

/-! ## One vertex -/

/-- The ends of the edge opposite each corner. -/
def e1 : Fin 3 → Fin 3
  | 0 => 1
  | 1 => 2
  | 2 => 0
def e2 : Fin 3 → Fin 3
  | 0 => 2
  | 1 => 0
  | 2 => 1

/-- What a face whose corners are the vertices `t`, weighted `w`, adds at vertex `v` to the sum of `x`. -/
def face (t : Fin 3 → ℕ) (w x : Fin 3 → EReal) (v : ℕ) : EReal :=
  ∑ k : Fin 3, ((if t (e1 k) = v then w k * x (e2 k) else 0) + (if t (e2 k) = v then w k * x (e1 k) else 0))

variable (p : ℕ → Fin 3 → EReal) (t : ℕ → Fin 3 → ℕ)

/-- The weights of face `n`. -/
def wt (n : ℕ) : Fin 3 → EReal := wgt fun k => p (t n k)

/-- The weighted sum of the neighbours' coordinate `q`. -/
def nbr (q : Fin 3) (v : ℕ) : EReal := ∑ n ∈ Finset.range 4096, face (t n) (wt p t n) (fun k => p (t n k) q) v
/-- The sum of the weights. -/
def mass (v : ℕ) : EReal := ∑ n ∈ Finset.range 4096, face (t n) (wt p t n) (fun _ => 1) v

/-- One over the sum of the weights where it is positive. -/
def invOf (w : EReal) : EReal :=
  Scalar.select (Ideal.cmp .ogt w (Ideal.ofBits .f32 0x00000000#32))
    (Ideal.div (Ideal.ofBits .f32 0x3F800000#32) (Scalar.select (Ideal.cmp .ogt w (Ideal.ofBits .f32 0x00000000#32)) w (Ideal.ofBits .f32 0x3F800000#32)))
    (Ideal.ofBits .f32 0x00000000#32)

/-- A coordinate of the Laplacian of a vertex. -/
def lapl (v : ℕ) (q : Fin 3) : EReal := nbr p t q v * invOf (mass p t v) - p v q

/-- The length of the Laplacian of a vertex. -/
def node (v : ℕ) : EReal :=
  Ideal.sqrt (((lapl p t v 0 * lapl p t v 0 + lapl p t v 1 * lapl p t v 1) + lapl p t v 2 * lapl p t v 2) + eps)

theorem node_nonneg (v : ℕ) : 0 ≤ node p t v :=
  sqrt_nonneg (add_nonneg (add_nonneg (add_nonneg (sq_nonneg _) (sq_nonneg _)) (sq_nonneg _)) eps_nonneg)

/-- The sum of a batch. -/
def total : EReal := ∑ v ∈ Finset.range 2048, node p t v

theorem total_nonneg : 0 ≤ total p t := Finset.sum_nonneg fun v _ => node_nonneg p t v

/-- The mean over the batches and then the vertices, and the mean over the vertices and then the batches. -/
theorem mean_eq {a b c d : EReal} (ha : 0 ≤ a) (hb : 0 ≤ b) (hc : 0 ≤ c) (hd : 0 ≤ d) :
    Ideal.div (Ideal.div (((a + b) + c) + d) four) nVert =
      Ideal.div (((Ideal.div a nVert + Ideal.div b nVert) + Ideal.div c nVert) + Ideal.div d nVert) four := by
  simp only [div_eq four_ne, div_eq nVert_ne]
  rw [← EReal.right_distrib_of_nonneg ha hb, ← EReal.right_distrib_of_nonneg (add_nonneg ha hb) hc,
    ← EReal.right_distrib_of_nonneg (add_nonneg (add_nonneg ha hb) hc) hd, mul_assoc, mul_assoc, mul_comm four⁻¹]

/-! ## Sums cut into stretches -/

/-- A sum over `a` stretches of `b`. -/
theorem sum_stretch {M : Type*} [AddCommMonoid M] (f : ℕ → M) (a b : ℕ) :
    ∑ i ∈ Finset.range a, ∑ j ∈ Finset.range b, f (b * i + j) = ∑ v ∈ Finset.range (b * a), f v := by
  induction a with
  | zero => simp
  | succ a ih => rw [Finset.sum_range_succ, ih, Nat.mul_succ, Finset.sum_range_add]

end Cert.Proof.Mesh

end
-- ==== Proof.KernelSum.lean ====
/-
  What the tiles compute, over the extended reals, as the mathematics of `Spec`: the accumulators are sums over the tile's
  faces, the merged accumulators sums over all the batch's faces, and a tile's result row the sums of its vertices' lengths.
-/
module

public import proofs.«01_k».proof.Proof.Merge
public import proofs.«01_k».proof.Proof.Spec

@[expose] public section

noncomputable section

namespace Cert.Proof.Tile

open Idealize.ShloMosaic Cert.KernelIdeal Cert.KernelIdeal.Gen Cert.Proof.Mesh

/-! ## A scatter is a sum -/

theorem fold_add {m : ℕ} {ι : Type} (L : List ι) (a : ι → ℕ) (w : ι → EReal) (A : (⟨1, ![m]⟩ : Shape).Idx → EReal) (j : (⟨1, ![m]⟩ : Shape).Idx) :
    L.foldl (fun h l => fun j => if (j 0).val = a l then h j + w l else h j) A j = A j + (L.map fun l => if a l = (j 0).val then w l else 0).sum := by
  induction L generalizing A with
  | nil => simp
  | cons l L ih =>
    rw [List.foldl_cons, ih, List.map_cons, List.sum_cons, ← add_assoc]
    congr 1
    by_cases h : (j 0).val = a l
    · rw [if_pos h, if_pos h.symm]
    · rw [if_neg h, if_neg (Ne.symm h), add_zero]

/-- What the lanes addressed at `n` carry. -/
def hits (v : S16.Idx → BitVec 32) (w : S16.Idx → EReal) (n : ℕ) : EReal :=
  ∑ l ∈ Finset.range 16, if (at_ v l).toNat = n then at_ w l else 0

/-- Element `j` after a scatter with addition: what was there and the values of the lanes addressed there. -/
theorem scat_apply (A : Vec Ideal S2048 .f32) (v : Vec Ideal S16 .i32) (w : Vec Ideal S16 .f32) (j : S2048.Idx) :
    (scat (Elt.idxAdd (F := Ideal) .f32) A v w j : EReal) = (A j : EReal) + hits v w (j 0).val := by
  refine (fold_add (List.finRange 16) (fun l => (v (Shape.ofLane l)).toNat) (fun l => w (Shape.ofLane l)) A j).trans ?_
  unfold hits
  rw [Finset.sum_range, Fin.sum_univ_def]
  congr 2

/-- Six scatters. -/
theorem scat6_apply (A : Vec Ideal S2048 .f32) (v0 v1 v2 v3 v4 v5 : Vec Ideal S16 .i32) (w0 w1 w2 w3 w4 w5 : Vec Ideal S16 .f32) (j : S2048.Idx) :
    (scat (Elt.idxAdd (F := Ideal) .f32) (scat (Elt.idxAdd (F := Ideal) .f32) (scat (Elt.idxAdd (F := Ideal) .f32) (scat (Elt.idxAdd (F := Ideal) .f32)
      (scat (Elt.idxAdd (F := Ideal) .f32) (scat (Elt.idxAdd (F := Ideal) .f32) A v0 w0) v1 w1) v2 w2) v3 w3) v4 w4) v5 w5 j : EReal) =
    ((((((A j : EReal) + hits v0 w0 (j 0).val) + hits v1 w1 (j 0).val) + hits v2 w2 (j 0).val) + hits v3 w3 (j 0).val) + hits v4 w4 (j 0).val) + hits v5 w5 (j 0).val :=
  (scat_apply _ v5 w5 j).trans (congrArg (fun z : EReal => z + hits v5 w5 (j 0).val) ((scat_apply _ v4 w4 j).trans (congrArg (fun z : EReal => z + hits v4 w4 (j 0).val)
    ((scat_apply _ v3 w3 j).trans (congrArg (fun z : EReal => z + hits v3 w3 (j 0).val) ((scat_apply _ v2 w2 j).trans (congrArg (fun z : EReal => z + hits v2 w2 (j 0).val)
      ((scat_apply _ v1 w1 j).trans (congrArg (fun z : EReal => z + hits v1 w1 (j 0).val) (scat_apply _ v0 w0 j))))))))))

/-- The six sums of a trip are the faces' sums. -/
theorem faces_sum (f : Fin 3 → S16.Idx → BitVec 32) (ct w : Fin 3 → S16.Idx → EReal) (n : ℕ) (a : EReal) :
    (((((a + hits (f 1) (fun x => ct 0 x * w 2 x) n) + hits (f 2) (fun x => ct 0 x * w 1 x) n) + hits (f 2) (fun x => ct 1 x * w 0 x) n)
      + hits (f 0) (fun x => ct 1 x * w 2 x) n) + hits (f 0) (fun x => ct 2 x * w 1 x) n) + hits (f 1) (fun x => ct 2 x * w 0 x) n =
    a + ∑ l ∈ Finset.range 16, face (fun k => (at_ (f k) l).toNat) (fun k => at_ (ct k) l) (fun k => at_ (w k) l) n := by
  have e : ∀ l, face (fun k => (at_ (f k) l).toNat) (fun k => at_ (ct k) l) (fun k => at_ (w k) l) n =
      (((if (at_ (f 1) l).toNat = n then at_ (ct 0) l * at_ (w 2) l else 0) + (if (at_ (f 2) l).toNat = n then at_ (ct 0) l * at_ (w 1) l else 0)) +
       ((if (at_ (f 2) l).toNat = n then at_ (ct 1) l * at_ (w 0) l else 0) + (if (at_ (f 0) l).toNat = n then at_ (ct 1) l * at_ (w 2) l else 0))) +
       ((if (at_ (f 0) l).toNat = n then at_ (ct 2) l * at_ (w 1) l else 0) + (if (at_ (f 1) l).toNat = n then at_ (ct 2) l * at_ (w 0) l else 0)) := fun l => by
    unfold face
    rw [Fin.sum_univ_three]
    rfl
  rw [Finset.sum_congr rfl fun l _ => e l]
  simp only [Finset.sum_add_distrib]
  unfold hits
  show (((((a + (∑ l ∈ Finset.range 16, if (at_ (f 1) l).toNat = n then at_ (ct 0) l * at_ (w 2) l else 0)) +
    (∑ l ∈ Finset.range 16, if (at_ (f 2) l).toNat = n then at_ (ct 0) l * at_ (w 1) l else 0)) +
    (∑ l ∈ Finset.range 16, if (at_ (f 2) l).toNat = n then at_ (ct 1) l * at_ (w 0) l else 0)) +
    (∑ l ∈ Finset.range 16, if (at_ (f 0) l).toNat = n then at_ (ct 1) l * at_ (w 2) l else 0)) +
    (∑ l ∈ Finset.range 16, if (at_ (f 0) l).toNat = n then at_ (ct 2) l * at_ (w 1) l else 0)) +
    (∑ l ∈ Finset.range 16, if (at_ (f 1) l).toNat = n then at_ (ct 2) l * at_ (w 0) l else 0) = _
  abel

/-! ## A tile's faces -/

variable (V : Vec Ideal S24576 .f32) (G : Vec Ideal S49152 .i32)

/-- Coordinate `q` of vertex `v` of batch `b`, and the vertex at corner `k` of its face `n`. -/
def pK (b v : ℕ) (q : Fin 3) : EReal := at_ (vtx V b q) v
def tK (b n : ℕ) (k : Fin 3) : ℕ := (at_ (fce G b k) n : BitVec 32).toNat

/-- The quantity an accumulator sums: a coordinate, or one. -/
def chan (p : ℕ → Fin 3 → EReal) (t : ℕ → Fin 3 → ℕ) : Fin 4 → ℕ → Fin 3 → EReal
  | 0 => fun n k => p (t n k) 0
  | 1 => fun n k => p (t n k) 1
  | 2 => fun n k => p (t n k) 2
  | 3 => fun _ _ => 1

theorem six_apply (f : Fin 3 → Vec Ideal S16 .i32) (ct w : Fin 3 → FVec Ideal S16 .f32) (A : Vec Ideal S2048 .f32) (j : S2048.Idx) :
    (six f ct w A j : EReal) = (A j : EReal) + ∑ l ∈ Finset.range 16, face (fun k => (at_ (f k) l : BitVec 32).toNat) (fun k => (at_ (ct k) l : EReal)) (fun k => (at_ (w k) l : EReal)) (j 0).val :=
  (scat6_apply A _ _ _ _ _ _ _ _ _ _ _ _ j).trans (faces_sum f ct w (j 0).val (A j))

theorem sixW_apply (f : Fin 3 → Vec Ideal S16 .i32) (ct : Fin 3 → FVec Ideal S16 .f32) (A : Vec Ideal S2048 .f32) (j : S2048.Idx) :
    (sixW f ct A j : EReal) = (A j : EReal) + ∑ l ∈ Finset.range 16, face (fun k => (at_ (f k) l : BitVec 32).toNat) (fun k => (at_ (ct k) l : EReal)) (fun _ => 1) (j 0).val := by
  have h := faces_sum f ct (fun _ _ => 1) (j 0).val (A j)
  simp only [mul_one] at h
  exact (scat6_apply A _ _ _ _ _ _ _ _ _ _ _ _ j).trans h

/-- The weights of sixteen faces. -/
theorem cots_apply (p : Fin 3 → Fin 3 → FVec Ideal S16 .f32) (k : Fin 3) (x : S16.Idx) :
    (cots (lens p) k x : EReal) = wgt (fun k q => (p k q x : EReal)) k := by
  fin_cases k <;> rfl

theorem fs_lane (b s n l : ℕ) (k : Fin 3) (hl : l < 16) : (at_ (fs G b s n k) l : BitVec 32) = at_ (fce G b k) (512 * s + 16 * n + l) := by
  show at_ (fce G b k) (512 * s + 16 * n + ((ix l : S16.Idx) 0).val) = _
  rw [ix_val_lt hl]

/-- What the faces of one trip add to accumulator `q`. -/
theorem step_eq (b s n l : ℕ) (q : Fin 4) (hl : l < 16) (w : Fin 3 → EReal) (hw : ∀ k, w k = chan (pK V b) (tK G b) q (512 * s + 16 * n + l) k) (v : ℕ) :
    face (fun k => (at_ (fs G b s n k) l : BitVec 32).toNat) (fun k => (at_ (cots (lens (corners (vtx V b) (fs G b s n))) k) l : EReal)) w v =
      face (tK G b (512 * s + 16 * n + l)) (wt (pK V b) (tK G b) (512 * s + 16 * n + l)) (chan (pK V b) (tK G b) q (512 * s + 16 * n + l)) v := by
  have e : ∀ k, (at_ (fs G b s n k) l : BitVec 32) = at_ (fce G b k) (512 * s + 16 * n + l) := fun k => fs_lane G b s n l k hl
  have h1 : (fun k => (at_ (fs G b s n k) l : BitVec 32).toNat) = tK G b (512 * s + 16 * n + l) := by
    funext k; rw [e k]; rfl
  have h2 : (fun k => (at_ (cots (lens (corners (vtx V b) (fs G b s n))) k) l : EReal)) = wt (pK V b) (tK G b) (512 * s + 16 * n + l) := by
    funext k
    refine (cots_apply _ k _).trans ?_
    unfold wt
    congr 1
    funext k' q'
    show at_ (vtx V b q') (fs G b s n k' (ix l)).toNat = _
    have := e k'
    unfold at_ at this
    rw [this]; rfl
  rw [h1, h2, funext hw]

/-- What trip `n` of tile `s` adds to accumulator `q`. -/
def trip (b s n : ℕ) (q : Fin 4) (v : ℕ) : EReal := ∑ l ∈ Finset.range 16,
  face (tK G b (512 * s + 16 * n + l)) (wt (pK V b) (tK G b) (512 * s + 16 * n + l)) (chan (pK V b) (tK G b) q (512 * s + 16 * n + l)) v

theorem corner_lane (b s n : ℕ) (q : Fin 3) (l : ℕ) (hl : l < 16) (k : Fin 3) :
    (at_ (corners (vtx V b) (fs G b s n) k q) l : EReal) = pK V b (tK G b (512 * s + 16 * n + l) k) q := by
  show at_ (vtx V b q) (at_ (fs G b s n k) l : BitVec 32).toNat = _
  rw [fs_lane G b s n l k hl]; rfl

theorem trip_six (b s n : ℕ) (q : Fin 3) (q' : Fin 4) (hq : ∀ m k, pK V b (tK G b m k) q = chan (pK V b) (tK G b) q' m k) (A : Vec Ideal S2048 .f32) (j : S2048.Idx) :
    (six (fs G b s n) (cots (lens (corners (vtx V b) (fs G b s n)))) (fun k => corners (vtx V b) (fs G b s n) k q) A j : EReal) = (A j : EReal) + trip V G b s n q' (j 0).val := by
  refine (six_apply _ _ _ A j).trans (congrArg (fun z : EReal => (A j : EReal) + z) (Finset.sum_congr rfl fun l hl => ?_))
  exact step_eq V G b s n l q' (Finset.mem_range.1 hl) _ (fun k => (corner_lane V G b s n q l (Finset.mem_range.1 hl) k).trans (hq _ k)) _

theorem trip_sixW (b s n : ℕ) (A : Vec Ideal S2048 .f32) (j : S2048.Idx) :
    (sixW (fs G b s n) (cots (lens (corners (vtx V b) (fs G b s n)))) A j : EReal) = (A j : EReal) + trip V G b s n 3 (j 0).val := by
  refine (sixW_apply _ _ A j).trans (congrArg (fun z : EReal => (A j : EReal) + z) (Finset.sum_congr rfl fun l hl => ?_))
  exact step_eq V G b s n l 3 (Finset.mem_range.1 hl) _ (fun k => rfl) _

theorem accL_succ (b s n : ℕ) (q : Fin 4) (j : S2048.Idx) :
    (accL V G b s (n + 1) q j : EReal) = (accL V G b s n q j : EReal) + trip V G b s n q (j 0).val := by
  match q with
  | 0 => exact trip_six V G b s n 0 0 (fun _ _ => rfl) _ j
  | 1 => exact trip_six V G b s n 1 1 (fun _ _ => rfl) _ j
  | 2 => exact trip_six V G b s n 2 2 (fun _ _ => rfl) _ j
  | 3 => exact trip_sixW V G b s n _ j

/-- An accumulator of a tile after `n` trips. -/
theorem accL_apply (b s n : ℕ) (q : Fin 4) (j : S2048.Idx) :
    (accL V G b s n q j : EReal) = ∑ i ∈ Finset.range n, trip V G b s i q (j 0).val := by
  induction n with
  | zero => exact Ideal.ofBits_zero_f32
  | succ n ih => rw [Finset.sum_range_succ, ← ih]; exact accL_succ V G b s n q j

/-! ## The merged accumulators -/

/-- The sum of quantity `q` at vertex `v`, over all the batch's faces. -/
def full (b : ℕ) (q : Fin 4) (v : ℕ) : EReal :=
  ∑ n ∈ Finset.range 4096, face (tK G b n) (wt (pK V b) (tK G b) n) (chan (pK V b) (tK G b) q n) v

theorem full_eq (b : ℕ) (q : Fin 4) (v : ℕ) :
    ∑ s ∈ Finset.range 8, ∑ i ∈ Finset.range 32, trip V G b s i q v = full V G b q v := by
  set f := fun n => face (tK G b n) (wt (pK V b) (tK G b) n) (chan (pK V b) (tK G b) q n) v with hf
  have e : ∀ s, (∑ i ∈ Finset.range 32, ∑ l ∈ Finset.range 16, f (512 * s + 16 * i + l)) = ∑ r ∈ Finset.range 512, f (512 * s + r) := fun s => by
    refine Eq.trans ?_ (sum_stretch (fun r => f (512 * s + r)) 32 16)
    refine Finset.sum_congr rfl fun i _ => Finset.sum_congr rfl fun l _ => ?_
    rw [Nat.add_assoc]
  show (∑ s ∈ Finset.range 8, ∑ i ∈ Finset.range 32, ∑ l ∈ Finset.range 16, f (512 * s + 16 * i + l)) = _
  rw [Finset.sum_congr rfl fun s _ => e s]
  exact sum_stretch f 8 512

theorem shLAP_at (i : grid0.Coords) (q : Fin 4) (k : ℕ) (hk : k < 8) (n l : ℕ) (hn : n < 16) (hl : l < 16) :
    (at_ (shLAP V G (i 0).val) (col i q.val k + 16 * n + l) : EReal) = ∑ a ∈ Finset.range 32, trip V G (bat i) k a q (256 * ((i 1).val % 8) + 16 * n + l) := by
  have hs : (i 1).val < 16 := (i 1).isLt
  have hq := q.isLt
  have hy : ((ix (col i q.val k + 16 * n + l) : S131072.Idx) 0).val = col i q.val k + 16 * n + l := ix_val_lt (by unfold col; omega)
  have key : ∀ (b s v : ℕ) (q' : Fin 4), b = bat i → s = k → q' = q → v = 256 * ((i 1).val % 8) + 16 * n + l →
      (at_ (accL V G b s 32 q') v : EReal) = ∑ a ∈ Finset.range 32, trip V G (bat i) k a q (256 * ((i 1).val % 8) + 16 * n + l) := by
    intro b s v q' hb hs' hq' hv
    subst hb hs' hq'
    refine (accL_apply V G (bat i) s 32 q' (ix v)).trans ?_
    rw [ix_val_lt (m := 2048) (by omega), hv]
  refine key _ _ _ _ ?_ ?_ ?_ ?_
  · rw [hy]; unfold col bat; omega
  · rw [hy]; unfold col; omega
  · apply Fin.ext; show _ % 8192 / 2048 = _; rw [hy]; unfold col; omega
  · rw [hy]; unfold col; omega

/-- Sixteen merged sums. -/
theorem mgw_apply (i : grid0.Coords) (q : Fin 4) (n : ℕ) (hn : n < 16) (x : S16.Idx) :
    (mgw i (shLAP V G (i 0).val) q.val n x : EReal) = full V G (bat i) q (256 * ((i 1).val % 8) + 16 * n + (x 0).val) := by
  have hx : (x 0).val < 16 := idx_lt x
  rw [← full_eq]
  simp only [Finset.sum_range_succ (n := 7), Finset.sum_range_succ (n := 6), Finset.sum_range_succ (n := 5), Finset.sum_range_succ (n := 4),
    Finset.sum_range_succ (n := 3), Finset.sum_range_succ (n := 2), Finset.sum_range_succ (n := 1), Finset.sum_range_one]
  rw [← shLAP_at V G i q 0 (by omega) n _ hn hx, ← shLAP_at V G i q 1 (by omega) n _ hn hx, ← shLAP_at V G i q 2 (by omega) n _ hn hx,
    ← shLAP_at V G i q 3 (by omega) n _ hn hx, ← shLAP_at V G i q 4 (by omega) n _ hn hx, ← shLAP_at V G i q 5 (by omega) n _ hn hx,
    ← shLAP_at V G i q 6 (by omega) n _ hn hx, ← shLAP_at V G i q 7 (by omega) n _ hn hx]
  rfl

/-- What one trip of the last pass adds. -/
theorem pass_apply (a w m0 m1 m2 v0 v1 v2 : FVec Ideal S16 .f32) (x : S16.Idx) :
    (k0_pay92 a (k0_pay51 w v0 v1 v2 m0 m1 m2) k0_pay52 x : EReal) = (a x : EReal) + Ideal.sqrt
      (((((m0 x : EReal) * invOf (w x) - v0 x) * ((m0 x : EReal) * invOf (w x) - v0 x) + ((m1 x : EReal) * invOf (w x) - v1 x) * ((m1 x : EReal) * invOf (w x) - v1 x))
        + ((m2 x : EReal) * invOf (w x) - v2 x) * ((m2 x : EReal) * invOf (w x) - v2 x)) + eps) := rfl

/-- A tile's row of the result after `n` trips. -/
theorem lapW_apply (i : grid0.Coords) (n : ℕ) (hn : n ≤ 16) (x : S16.Idx) :
    (lapW i V (shLAP V G (i 0).val) n x : EReal) =
      ∑ a ∈ Finset.range n, node (pK V (bat i)) (tK G (bat i)) (256 * ((i 1).val % 8) + 16 * a + (x 0).val) := by
  induction n with
  | zero => exact Ideal.ofBits_zero_f32
  | succ n ih =>
    have hx : (x 0).val < 16 := idx_lt x
    rw [Finset.sum_range_succ, ← ih (by omega)]
    refine (pass_apply _ _ _ _ _ _ _ _ x).trans (congrArg _ ?_)
    have hm : ∀ q : Fin 4, (mgw i (shLAP V G (i 0).val) q.val n x : EReal) = full V G (bat i) q (256 * ((i 1).val % 8) + 16 * n + (x 0).val) :=
      fun q => mgw_apply V G i q n (by omega) x
    have h0 := hm 0; have h1 := hm 1; have h2 := hm 2; have h3 := hm 3
    simp only [Fin.val_zero, Fin.val_one, Fin.val_two] at h0 h1 h2
    rw [show ((3 : Fin 4).val) = 3 from rfl] at h3
    rw [h0, h1, h2, h3]
    rfl

end Cert.Proof.Tile

end
-- ==== Proof.KernelLoss.lean ====
/-
  The kernel's result over the extended reals: from the tiles' rows to the mean of the vertices' lengths.
-/
module

public import proofs.«01_k».proof.Proof.Main
public import proofs.«01_k».proof.Proof.KernelSum
public import Idealize.ShloMosaic.Lib.Pointwise

@[expose] public section

noncomputable section

namespace Cert.Proof.Mesh

open Idealize.ShloMosaic

/-- Coordinate `q` of vertex `v` of batch `b`, in the argument. -/
def pOf (P : (⟨3, ![4, 2048, 3]⟩ : Shape).Idx → EReal) (b : Fin 4) (v : ℕ) (q : Fin 3) : EReal :=
  P (ix3 b (⟨v % 2048, Nat.mod_lt _ (by decide)⟩ : Fin 2048) q)
/-- The vertex at corner `k` of face `n` of batch `b`, in the argument. -/
def tOf (Q : (⟨3, ![4, 4096, 3]⟩ : Shape).Idx → BitVec 32) (b : Fin 4) (n : ℕ) (k : Fin 3) : ℕ :=
  (Q (ix3 b (⟨n % 4096, Nat.mod_lt _ (by decide)⟩ : Fin 4096) k)).toNat

/-- The loss. -/
def loss (P : (⟨3, ![4, 2048, 3]⟩ : Shape).Idx → EReal) (Q : (⟨3, ![4, 4096, 3]⟩ : Shape).Idx → BitVec 32) : EReal :=
  Ideal.div (Ideal.div (((total (pOf P 0) (tOf Q 0) + total (pOf P 1) (tOf Q 1)) + total (pOf P 2) (tOf Q 2)) + total (pOf P 3) (tOf Q 3)) four) nVert

/-- Only the vertices and the faces there are enter a total. -/
theorem node_congr {p p' : ℕ → Fin 3 → EReal} {t t' : ℕ → Fin 3 → ℕ} (hp : ∀ v q, p v q = p' v q) (ht : ∀ n k, t n k = t' n k) (v : ℕ) :
    node p t v = node p' t' v := by
  rw [show p = p' from funext fun v => funext (hp v), show t = t' from funext fun n => funext (ht n)]

end Cert.Proof.Mesh

namespace Cert.Proof.Tile

open Idealize.ShloMosaic Cert.KernelIdeal Cert.KernelIdeal.Gen Cert.Proof.Mesh

attribute [local instance] Cert.KernelIdeal.Gen.facts₀

theorem ix_eq_ix1 {m : ℕ} [NeZero m] (n : ℕ) (h : n < m) : (ix n : (⟨1, ![m]⟩ : Shape).Idx) = ix1 (⟨n, h⟩ : Fin m) := by
  refine idx_ext ?_
  exact (ix_val_lt h).trans rfl

set_option maxRecDepth 16384 in
theorem vflat_at (P : FVec Ideal S4x2048x3 .f32) (b : Fin 4) (v : Fin 2048) (q : Fin 3) :
    (at_ (vflat P) (b.val * 6144 + q.val * 2048 + v.val) : EReal) = P (ix3 b v q) := by
  have hb := b.isLt; have hv := v.isLt; have hq := q.isLt
  have hlt : b.val * 6144 + q.val * 2048 + v.val < 24576 := by omega
  unfold at_
  rw [ix_eq_ix1 _ hlt]
  pointwise [vflat]

set_option maxRecDepth 16384 in
theorem gflat_at (Q : IVec S4x4096x3 32) (b : Fin 4) (n : Fin 4096) (k : Fin 3) :
    (at_ (gflat (F := Ideal) Q) (b.val * 12288 + k.val * 4096 + n.val) : BitVec 32) = Q (ix3 b n k) := by
  have hb := b.isLt; have hv := n.isLt; have hq := k.isLt
  have hlt : b.val * 12288 + k.val * 4096 + n.val < 49152 := by omega
  unfold at_
  rw [ix_eq_ix1 _ hlt]
  pointwise [gflat]

theorem pK_eq (P : FVec Ideal S4x2048x3 .f32) (b : Fin 4) (v : ℕ) (q : Fin 3) : pK (vflat P) b.val v q = pOf P b v q :=
  vflat_at P b ⟨v % 2048, Nat.mod_lt _ (by decide)⟩ q

theorem tK_eq (Q : IVec S4x4096x3 32) (b : Fin 4) (n : ℕ) (k : Fin 3) : tK (gflat (F := Ideal) Q) b.val n k = tOf Q b n k :=
  congrArg BitVec.toNat (gflat_at Q b ⟨n % 4096, Nat.mod_lt _ (by decide)⟩ k)

/-! ## The rows' sums -/

/-- The indices of the result that one batch's one row sums. -/
theorem row_fiber (h : S4x8x5x16.ReducesTo [1, 3] S4x5) (b : Fin 4) (q : Fin 5) (i : S4x8x5x16.Idx) :
    h.drop i = (ix2 b q : S4x5.Idx) ↔ ∃ k : Fin 8 × Fin 16, (ix4 b k.1 q k.2 : S4x8x5x16.Idx) = i := by
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext a; apply Fin.ext
    match a with
    | ⟨0, _⟩ => rfl
    | ⟨1, _⟩ => rfl

set_option maxRecDepth 16384 in
theorem row_sum (g : FVec Ideal S2560 .f32) (b : Fin 4) (q : Fin 5) :
    (Host.reduceAdd (F := Ideal) (shapeCast S4x8x5x16 g shapeCasts_S2560_S4x8x5x16) (constant S_ .f32 0x00000000#32) reducesTo_S4x8x5x16_S4x5_d1_3 h_S_ (ix2 b q) : EReal) =
      ∑ i ∈ Finset.range 8, ∑ j ∈ Finset.range 16, (at_ g (640 * b.val + 80 * i + 16 * q.val + j) : EReal) := by
  have hb := b.isLt; have hq := q.isLt
  refine Eq.trans (b := Ideal.ofBits .f32 0x00000000#32 + ∑ i ∈ Finset.univ.filter (fun i => reducesTo_S4x8x5x16_S4x5_d1_3.drop i = (ix2 b q : S4x5.Idx)), (shapeCast S4x8x5x16 g shapeCasts_S2560_S4x8x5x16 i : EReal)) rfl ?_
  rw [Ideal.ofBits_zero_f32, zero_add]
  refine (Finset.sum_filter_eq_sum_of_fiber _ (fun k : Fin 8 × Fin 16 => (ix4 b k.1 q k.2 : S4x8x5x16.Idx))
    (fun _ _ e => Prod.ext (congrFun e 1) (congrFun e 3)) (row_fiber _ b q) _).trans ?_
  rw [Fintype.sum_prod_type, Finset.sum_range]
  refine Finset.sum_congr rfl fun i _ => ?_
  rw [Finset.sum_range]
  refine Finset.sum_congr rfl fun j _ => ?_
  have hi := i.isLt; have hj := j.isLt
  unfold at_
  rw [ix_eq_ix1 _ (by omega)]
  pointwise []
  refine congrArg g (congrArg ix1 (Fin.ext ?_))
  show b.val * 640 + i.val * 80 + q.val * 16 + j.val = 640 * b.val + 80 * i.val + 16 * q.val + j.val
  omega

variable (m : (ℓ : Loc nD τ sig) → Buf (Elt Ideal) ℓ) (d : Dev nD)

/-- The predictions and the faces. -/
abbrev Pm : FVec Ideal S4x2048x3 .f32 := m (aLoc d main_arg0)
abbrev Qm : IVec S4x4096x3 32 := m (aLoc d main_arg1)

/-- A lane of a tile's row. -/
theorem lap_lane {g : FVec Ideal S2560 .f32} (h : AllLap m d g) (b : Fin 4) (i j : ℕ) (hi : i < 8) (hj : j < 16) :
    (at_ g (640 * b.val + 80 * i + 16 * 2 + j) : EReal) = ∑ a ∈ Finset.range 16, node (pOf (Pm m d) b) (tOf (Qm m d) b) (256 * i + 16 * a + j) := by
  have hb := b.isLt
  have e := h ⟨b.val / 2, by show b.val / 2 < 2; omega⟩ ⟨8 * (b.val % 2) + i, by show _ < 16; omega⟩ 2 (ix j)
  have e1 : ((ix j : S16.Idx) 0).val = j := ix_val_lt hj
  rw [e1] at e
  have e2 : 80 * (b.val / 2 * 16 + (8 * (b.val % 2) + i)) + 16 * (2 : Fin 5).val + j = 640 * b.val + 80 * i + 16 * 2 + j := by
    rw [show ((2 : Fin 5).val) = 2 from rfl]; omega
  have e3 : (at_ g (640 * b.val + 80 * i + 16 * 2 + j) : EReal) = _ := (congrArg (fun z => (at_ g z : EReal)) e2.symm).trans e
  rw [e3]
  refine (lapW_apply (Vm m d) (Gm m d) (coordsV ⟨b.val / 2, by show b.val / 2 < 2; omega⟩ ⟨8 * (b.val % 2) + i, by show _ < 16; omega⟩) 16 le_rfl (ix j)).trans ?_
  rw [e1]
  have e4 : bat (coordsV ⟨b.val / 2, by show b.val / 2 < 2; omega⟩ ⟨8 * (b.val % 2) + i, by show _ < 16; omega⟩) = b.val := by
    show 2 * (b.val / 2) + (8 * (b.val % 2) + i) / 8 = b.val
    omega
  rw [e4]
  refine Finset.sum_congr rfl fun a _ => ?_
  have e5 : 256 * ((coordsV ⟨b.val / 2, by show b.val / 2 < 2; omega⟩ ⟨8 * (b.val % 2) + i, by show _ < 16; omega⟩ 1).val % 8) + 16 * a + j = 256 * i + 16 * a + j := by
    show 256 * ((8 * (b.val % 2) + i) % 8) + 16 * a + j = _
    omega
  rw [e5]
  exact node_congr (pK_eq (Pm m d) b) (tK_eq (Qm m d) b) _

/-- A batch's rows sum to its total. -/
theorem batch_sum {g : FVec Ideal S2560 .f32} (h : AllLap m d g) (b : Fin 4) :
    (∑ i ∈ Finset.range 8, ∑ j ∈ Finset.range 16, (at_ g (640 * b.val + 80 * i + 16 * 2 + j) : EReal)) = total (pOf (Pm m d) b) (tOf (Qm m d) b) := by
  set f := node (pOf (Pm m d) b) (tOf (Qm m d) b) with hf
  have e : ∀ i ∈ Finset.range 8, (∑ j ∈ Finset.range 16, (at_ g (640 * b.val + 80 * i + 16 * 2 + j) : EReal)) = ∑ r ∈ Finset.range 256, f (256 * i + r) := by
    intro i hi
    rw [Finset.sum_congr rfl fun j hj => lap_lane m d h b i j (Finset.mem_range.1 hi) (Finset.mem_range.1 hj), Finset.sum_comm]
    refine Eq.trans ?_ (sum_stretch (fun r => f (256 * i + r)) 16 16)
    refine Finset.sum_congr rfl fun a _ => Finset.sum_congr rfl fun j _ => ?_
    rw [Nat.add_assoc]
  rw [Finset.sum_congr rfl e]
  exact sum_stretch f 8 256

set_option maxRecDepth 16384 in
/-- The kernel's result is the loss. -/
theorem lossOf_eq {g : FVec Ideal S2560 .f32} (h : AllLap m d g) (x : S_.Idx) : (lossOf g x : EReal) = loss (Pm m d) (Qm m d) := by
  have r : ∀ b : Fin 4, _ := fun b => (row_sum g b 2).trans (batch_sum m d h b)
  unfold lossOf rowsV
  generalize Host.reduceAdd (F := Ideal) (shapeCast S4x8x5x16 g shapeCasts_S2560_S4x8x5x16) (constant S_ .f32 0x00000000#32) reducesTo_S4x8x5x16_S4x5_d1_3 h_S_ = w at r ⊢
  pointwise []
  rw [Fin.sum_univ_four]
  have r0 := r 0; have r1 := r 1; have r2 := r 2; have r3 := r 3
  rw [r0, r1, r2, r3]
  rfl

end Cert.Proof.Tile

end
-- ==== Proof.RefOps.lean ====
/-
  The reference's gathers and scatters at an index.
-/
module

public import proofs.«01_k».proof.Defs
public import proofs.«01_k».proof.Proof.Gen.ReferenceIdeal
public import Idealize.ShloMosaic.Lib.Pointwise
public import Idealize.ShloMosaic.Lib.Routing.OpsPair
public import Idealize.ShloMosaic.Lib.Routing.Ops

@[expose] public section

noncomputable section

namespace Cert.Proof.Ref

open Idealize.ShloMosaic Cert.ReferenceIdeal Cert.ReferenceIdeal.Gen

attribute [local instance] Cert.ReferenceIdeal.Gen.facts₀

variable {α : Type}

/-- The rows of the vertices named by a list. -/
theorem rows_at (x : S2048x3.Idx → α) (idx : IVec S4096x1 32) (n : Fin 4096) (q : Fin 3) (b : Fin 2048) (h : idx (ix2 n 0) = BitVec.ofNat 32 b.val) :
    Host.gather gather_S2048x3_S4096x1_S4096x3_1_0_n_n_0_1_13 x idx (ix2 n q) = x (ix2 b q) :=
  Routing.gather_row _ rfl rfl rfl rfl rfl x idx n q b h (by decide)

theorem rowsE_at (x : S2048x3.Idx → α) (idx : IVec S12288x1 32) (n : Fin 12288) (q : Fin 3) (b : Fin 2048) (h : idx (ix2 n 0) = BitVec.ofNat 32 b.val) :
    Host.gather gather_S2048x3_S12288x1_S12288x3_1_0_n_n_0_1_13 x idx (ix2 n q) = x (ix2 b q) :=
  Routing.gather_row _ rfl rfl rfl rfl rfl x idx n q b h (by decide)

/-- The columns of the faces named by a list of three. -/
theorem cols_at (x : S4096x3.Idx → α) (idx : IVec S3x1 32) (n : Fin 4096) (k : Fin 3) (b : Fin 3) (h : idx (ix2 k 0) = BitVec.ofNat 32 b.val) :
    Host.gather gather_S4096x3_S3x1_S4096x3_0_1_n_n_1_1_40961 x idx (ix2 n k) = x (ix2 n b) := by
  unfold Host.gather
  refine congrArg x (funext fun a => Fin.ext ?_)
  have hb := b.isLt
  match a with
  | ⟨0, _⟩ =>
    show 0 + 0 + n.val = n.val
    omega
  | ⟨1, _⟩ =>
    show min (idx _).toInt.toNat (3 - 1) + 0 + 0 = b.val
    have e : GatherDims.siIdx gather_S4096x3_S3x1_S4096x3_0_1_n_n_1_1_40961 (ix2 n k : S4096x3.Idx) ⟨0, by decide⟩ = (ix2 k 0 : S3x1.Idx) := by
      funext c; apply Fin.ext
      match c with
      | ⟨0, _⟩ => rfl
      | ⟨1, _⟩ => rfl
    refine (congrArg (fun z => min (idx z).toInt.toNat 2 + 0 + 0) e).trans ?_
    show min (idx (ix2 k 0)).toInt.toNat 2 + 0 + 0 = b.val
    rw [h, StableHlo.Predicate.toInt_ofNat_small b.val (by omega)]
    omega

/-- Where an update of the weights lands. -/
theorem lands1 (idx : IVec S12288x1 32) (u : Fin 12288) (v : Fin 2048) :
    scatter_S2048_S12288x1_S12288_n_0_0_1.resultIdx? (ix1 u : S12288.Idx) idx = some (ix1 v : S2048.Idx) ↔ (idx (ix2 u 0)).toInt = (v.val : Int) := by
  refine (Routing.resultIdx?_ix1 scatter_S2048_S12288x1_S12288_n_0_0_1 (ix1 u : S12288.Idx) idx v).trans ?_
  have h0 : scatter_S2048_S12288x1_S12288_n_0_0_1.start (ix1 u : S12288.Idx) idx 0 = (idx (ix2 u 0)).toInt := by
    refine congrArg (fun z => (idx z).toInt) (funext fun c => Fin.ext ?_)
    match c with
    | ⟨0, _⟩ => rfl
    | ⟨1, _⟩ => rfl
  have h1 : scatter_S2048_S12288x1_S12288_n_0_0_1.window (ix1 u : S12288.Idx) 0 = 0 := rfl
  rw [h0, h1]; simp

theorem lands2 (idx : IVec S12288x1 32) (u : Fin 12288) (c : Fin 3) (v : Fin 2048) (q : Fin 3) :
    scatter_S2048x3_S12288x1_S12288x3_1_0_0_1.resultIdx? (ix2 u c : S12288x3.Idx) idx = some (ix2 v q : S2048x3.Idx) ↔ (idx (ix2 u 0)).toInt = (v.val : Int) ∧ c = q := by
  refine (Routing.resultIdx?_ix2 scatter_S2048x3_S12288x1_S12288x3_1_0_0_1 (ix2 u c : S12288x3.Idx) idx v q).trans ?_
  have h0 : scatter_S2048x3_S12288x1_S12288x3_1_0_0_1.start (ix2 u c : S12288x3.Idx) idx 0 = (idx (ix2 u 0)).toInt := by
    refine congrArg (fun z => (idx z).toInt) (funext fun c => Fin.ext ?_)
    match c with
    | ⟨0, _⟩ => rfl
    | ⟨1, _⟩ => rfl
  have h1 : scatter_S2048x3_S12288x1_S12288x3_1_0_0_1.window (ix2 u c : S12288x3.Idx) 0 = 0 := rfl
  have h2 : scatter_S2048x3_S12288x1_S12288x3_1_0_0_1.start (ix2 u c : S12288x3.Idx) idx 1 = 0 := rfl
  have h3 : scatter_S2048x3_S12288x1_S12288x3_1_0_0_1.window (ix2 u c : S12288x3.Idx) 1 = c.val := rfl
  rw [h0, h1, h2, h3, Fin.ext_iff]; omega

/-- A scatter of weights adds, at a vertex, the updates whose index names it. -/
theorem scat1_at (x : FVec Ideal S2048 .f32) (idx : IVec S12288x1 32) (upd : FVec Ideal S12288 .f32) (v : Fin 2048) :
    Host.scatterAdd (F := Ideal) scatter_S2048_S12288x1_S12288_n_0_0_1 x idx upd (ix1 v)
      = (x (ix1 v) + ∑ u : Fin 12288, if (idx (ix2 u 0)).toInt = (v.val : Int) then upd (ix1 u) else 0 : EReal) := by
  show (x (ix1 v) + ∑ j ∈ Finset.univ.filter (fun j => scatter_S2048_S12288x1_S12288_n_0_0_1.resultIdx? j idx = some (ix1 v : S2048.Idx)), upd j : EReal) = _
  rw [Finset.sum_filter, sum_idx1]
  refine congrArg (fun z : EReal => (x (ix1 v) + z : EReal)) (Finset.sum_congr rfl fun u _ => ?_)
  simp only [lands1]

/-- A scatter of rows adds, at a vertex, the rows whose index names it. -/
theorem scat2_at (x : FVec Ideal S2048x3 .f32) (idx : IVec S12288x1 32) (upd : FVec Ideal S12288x3 .f32) (v : Fin 2048) (q : Fin 3) :
    Host.scatterAdd (F := Ideal) scatter_S2048x3_S12288x1_S12288x3_1_0_0_1 x idx upd (ix2 v q)
      = (x (ix2 v q) + ∑ u : Fin 12288, if (idx (ix2 u 0)).toInt = (v.val : Int) then upd (ix2 u q) else 0 : EReal) := by
  show (x (ix2 v q) + ∑ j ∈ Finset.univ.filter (fun j => scatter_S2048x3_S12288x1_S12288x3_1_0_0_1.resultIdx? j idx = some (ix2 v q : S2048x3.Idx)), upd j : EReal) = _
  rw [Finset.sum_filter, sum_idx2]
  refine congrArg (fun z : EReal => (x (ix2 v q) + z : EReal)) (Finset.sum_congr rfl fun u _ => ?_)
  simp only [lands2]
  by_cases h : (idx (ix2 u 0)).toInt = (v.val : Int)
  · simp [h]
  · simp [h]

end Cert.Proof.Ref

end
-- ==== Proof.RefValue.lean ====
/-
  One batch of the reference: its gathers, scatters and elementwise steps, at an index, are the faces' sums of Spec.lean.
-/
module

public import proofs.«01_k».proof.Proof.RefOps
public import proofs.«01_k».proof.Proof.Spec

@[expose] public section

noncomputable section

namespace Cert.Proof.Ref

open Idealize.ShloMosaic Cert.ReferenceIdeal Cert.ReferenceIdeal.Gen Cert.Proof.Mesh

attribute [local instance] Cert.ReferenceIdeal.Gen.facts₀

/-! ## The steps -/

/-- Lists of indices, a negative one taken from the end. -/
def idxF (x : IVec S4096 32) : IVec S4096x1 32 :=
  broadcastInDim S4096x1 ![0] bcast_S4096_S4096x1_0 (select (cmpi .slt x (broadcastInDim S4096 ![] bcast_S_S4096 (constantI S_ 32 0#32))) (addi x (broadcastInDim S4096 ![] bcast_S_S4096 (constantI S_ 32 2048#32))) x)
def idxE (x : IVec S12288 32) : IVec S12288x1 32 :=
  broadcastInDim S12288x1 ![0] bcast_S12288_S12288x1_0 (select (cmpi .slt x (broadcastInDim S12288 ![] bcast_S_S12288 (constantI S_ 32 0#32))) (addi x (broadcastInDim S12288 ![] bcast_S_S12288 (constantI S_ 32 2048#32))) x)
def idxC (x : IVec S3 32) : IVec S3x1 32 :=
  broadcastInDim S3x1 ![0] bcast_S3_S3x1_0 (select (cmpi .slt x (broadcastInDim S3 ![] bcast_S_S3 (constantI S_ 32 0#32))) (addi x (broadcastInDim S3 ![] bcast_S_S3 (constantI S_ 32 3#32))) x)

/-- The corners' columns. -/
def corner0 (fc : IVec S4096x3 32) : IVec S4096 32 := shapeCast _ (extractStridedSlice S4096x1 ![0, 0] fc slices_S4096x3_S4096x1_0_0) shapeCasts_S4096x1_S4096
def corner1 (fc : IVec S4096x3 32) : IVec S4096 32 := shapeCast _ (extractStridedSlice S4096x1 ![0, 1] fc slices_S4096x3_S4096x1_0_1) shapeCasts_S4096x1_S4096
def corner2 (fc : IVec S4096x3 32) : IVec S4096 32 := shapeCast _ (extractStridedSlice S4096x1 ![0, 2] fc slices_S4096x3_S4096x1_0_2) shapeCasts_S4096x1_S4096

def rows (vs : FVec Ideal S2048x3 .f32) (x : IVec S4096 32) : FVec Ideal S4096x3 .f32 :=
  Host.gather gather_S2048x3_S4096x1_S4096x3_1_0_n_n_0_1_13 vs (idxF x)
def rowsE (vs : FVec Ideal S2048x3 .f32) (x : IVec S12288 32) : FVec Ideal S12288x3 .f32 :=
  Host.gather gather_S2048x3_S12288x1_S12288x3_1_0_n_n_0_1_13 vs (idxE x)

/-- The distances of two lists of points. -/
def dist (u v : FVec Ideal S4096x3 .f32) : FVec Ideal S4096 .f32 :=
  Host.sqrt (addf (Host.reduceAdd (mulf (subf u v) (subf u v)) (constant S_ .f32 0x00000000#32) reducesTo_S4096x3_S4096_d1 h_S_) (broadcastInDim S4096 ![] bcast_S_S4096 (constant S_ .f32 0x1E3CE508#32)))

def semi (a b c : FVec Ideal S4096 .f32) : FVec Ideal S4096 .f32 :=
  mulf (broadcastInDim S4096 ![] bcast_S_S4096 (constant S_ .f32 0x3F000000#32)) (addf (addf a b) c)

def area (a b c : FVec Ideal S4096 .f32) : FVec Ideal S4096 .f32 :=
  Host.sqrt (maximumf (broadcastInDim S4096 ![] bcast_S_S4096 (id (constant S_ .f32 0x2B8CBCCC#32))) (mulf (mulf (mulf (semi a b c) (subf (semi a b c) a)) (subf (semi a b c) b)) (subf (semi a b c) c)))

/-- The three weights' columns, side by side. -/
def cots3 (a b c : FVec Ideal S4096 .f32) : FVec Ideal S4096x3 .f32 :=
  concatenate S4096x3 1 [⟨S4096x1, ((broadcastInDim S4096x1 ![0] bcast_S4096_S4096x1_0 (Host.divf (subf (addf (mulf b b) (mulf c c)) (mulf a a)) (area a b c))) : FVec Ideal S4096x1 .f32)⟩, ⟨S4096x1, ((broadcastInDim S4096x1 ![0] bcast_S4096_S4096x1_0 (Host.divf (subf (addf (mulf a a) (mulf c c)) (mulf b b)) (area a b c))) : FVec Ideal S4096x1 .f32)⟩, ⟨S4096x1, ((broadcastInDim S4096x1 ![0] bcast_S4096_S4096x1_0 (Host.divf (subf (addf (mulf a a) (mulf b b)) (mulf c c)) (area a b c))) : FVec Ideal S4096x1 .f32)⟩] concatenates_S4096x1_S4096x1_S4096x1_S4096x3_d1

def cots (a b c : FVec Ideal S4096 .f32) : FVec Ideal S12288 .f32 :=
  shapeCast _ (Host.divf (cots3 a b c) (broadcastInDim S4096x3 ![] bcast_S_S4096x3 (constant S_ .f32 0x40800000#32))) shapeCasts_S4096x3_S12288

/-- The faces' corners, in the order a list of three gives. -/
def ends (fc : IVec S4096x3 32) (c : IVec S3 32) : IVec S12288 32 :=
  shapeCast _ (Host.gather gather_S4096x3_S3x1_S4096x3_0_1_n_n_1_1_40961 fc (idxC c)) shapeCasts_S4096x3_S12288

def massV (w : FVec Ideal S12288 .f32) (i j : IVec S12288 32) : FVec Ideal S2048 .f32 :=
  Host.scatterAdd scatter_S2048_S12288x1_S12288_n_0_0_1 (Host.scatterAdd scatter_S2048_S12288x1_S12288_n_0_0_1 (broadcastInDim S2048 ![] bcast_S_S2048 (constant S_ .f32 0x00000000#32)) (idxE i) w) (idxE j) w

def prods (vs : FVec Ideal S2048x3 .f32) (w : FVec Ideal S12288 .f32) (i : IVec S12288 32) : FVec Ideal S12288x3 .f32 :=
  mulf (broadcastInDim S12288x3 ![0, 1] bcast_S12288x1_S12288x3_0_1 (broadcastInDim S12288x1 ![0] bcast_S12288_S12288x1_0 w)) (rowsE vs i)

def nbrV (vs : FVec Ideal S2048x3 .f32) (w : FVec Ideal S12288 .f32) (i j : IVec S12288 32) : FVec Ideal S2048x3 .f32 :=
  Host.scatterAdd scatter_S2048x3_S12288x1_S12288x3_1_0_0_1 (Host.scatterAdd scatter_S2048x3_S12288x1_S12288x3_1_0_0_1 (broadcastInDim S2048x3 ![] bcast_S_S2048x3 (constant S_ .f32 0x00000000#32)) (idxE i) (prods vs w j)) (idxE j) (prods vs w i)

def invV (s : FVec Ideal S2048 .f32) : FVec Ideal S2048 .f32 :=
  select (cmpf .ogt s (broadcastInDim S2048 ![] bcast_S_S2048 (constant S_ .f32 0x00000000#32))) (Host.divf (broadcastInDim S2048 ![] bcast_S_S2048 (constant S_ .f32 0x3F800000#32)) (select (cmpf .ogt s (broadcastInDim S2048 ![] bcast_S_S2048 (constant S_ .f32 0x00000000#32))) s (broadcastInDim S2048 ![] bcast_S_S2048 (id (constant S_ .f32 0x3F800000#32))))) (broadcastInDim S2048 ![] bcast_S_S2048 (id (constant S_ .f32 0x00000000#32)))

def diff (vs nb : FVec Ideal S2048x3 .f32) (s : FVec Ideal S2048 .f32) : FVec Ideal S2048x3 .f32 :=
  subf (mulf nb (broadcastInDim S2048x3 ![0, 1] bcast_S2048x1_S2048x3_0_1 (broadcastInDim S2048x1 ![0] bcast_S2048_S2048x1_0 (invV s)))) vs

/-- The mean of the lengths of a list of vectors. -/
def meanV (x : FVec Ideal S2048x3 .f32) : FVec Ideal S_ .f32 :=
  Host.divf (Host.reduceAdd (Host.sqrt (addf (Host.reduceAdd (mulf x x) (constant S_ .f32 0x00000000#32) reducesTo_S2048x3_S2048_d1 h_S_) (broadcastInDim S2048 ![] bcast_S_S2048 (constant S_ .f32 0x1E3CE508#32)))) (constant S_ .f32 0x00000000#32) reducesTo_S2048_S_d0 h_S_) (constant S_ .f32 0x45000000#32)

/-! ## Batches -/

section
variable (vs : FVec Ideal S2048x3 .f32) (fc : IVec S4096x3 32)

def lenA := dist (rows vs (corner1 fc)) (rows vs (corner2 fc))
def lenB := dist (rows vs (corner0 fc)) (rows vs (corner2 fc))
def lenC := dist (rows vs (corner0 fc)) (rows vs (corner1 fc))
def wts := cots (lenA vs fc) (lenB vs fc) (lenC vs fc)

/-- The Laplacian of a batch's vertices. -/
def batch (c c' : IVec S3 32) : FVec Ideal S2048x3 .f32 :=
  diff vs (nbrV vs (wts vs fc) (ends fc c) (ends fc c')) (massV (wts vs fc) (ends fc c) (ends fc c'))

end

/-! ## At an index -/

theorem idxF_at (x : IVec S4096 32) (n : Fin 4096) (h : (x (ix1 n)).toNat < 2048) : idxF x (ix2 n 0) = x (ix1 n) := by
  have e := Routing.wrap_of_lt (x (ix1 n)) (IntOp.addi (x (ix1 n)) 2048#32) (by show _ < 2 ^ 31; omega)
  pointwise [idxF]
  exact e

theorem idxE_at (x : IVec S12288 32) (n : Fin 12288) (h : (x (ix1 n)).toNat < 2048) : idxE x (ix2 n 0) = x (ix1 n) := by
  have e := Routing.wrap_of_lt (x (ix1 n)) (IntOp.addi (x (ix1 n)) 2048#32) (by show _ < 2 ^ 31; omega)
  pointwise [idxE]
  exact e

theorem idxC_at (x : IVec S3 32) (n : Fin 3) (h : (x (ix1 n)).toNat < 3) : idxC x (ix2 n 0) = x (ix1 n) := by
  have e := Routing.wrap_of_lt (x (ix1 n)) (IntOp.addi (x (ix1 n)) 3#32) (by show _ < 2 ^ 31; omega)
  pointwise [idxC]
  exact e

theorem corner0_at (fc : IVec S4096x3 32) (n : Fin 4096) : corner0 fc (ix1 n) = fc (ix2 n 0) := by pointwise [corner0]
theorem corner1_at (fc : IVec S4096x3 32) (n : Fin 4096) : corner1 fc (ix1 n) = fc (ix2 n 1) := by pointwise [corner1]
theorem corner2_at (fc : IVec S4096x3 32) (n : Fin 4096) : corner2 fc (ix1 n) = fc (ix2 n 2) := by pointwise [corner2]

/-- The vertices and the faces, by numbers. -/
def pV (vs : FVec Ideal S2048x3 .f32) (v : ℕ) (q : Fin 3) : EReal := vs (ix2 (⟨v % 2048, Nat.mod_lt _ (by decide)⟩ : Fin 2048) q)
def tV (fc : IVec S4096x3 32) (n : ℕ) (k : Fin 3) : ℕ := (fc (ix2 (⟨n % 4096, Nat.mod_lt _ (by decide)⟩ : Fin 4096) k)).toNat

theorem pV_of (vs : FVec Ideal S2048x3 .f32) (v : Fin 2048) (q : Fin 3) : pV vs v.val q = vs (ix2 v q) :=
  congrArg (fun z => vs (ix2 z q)) (Fin.ext (Nat.mod_eq_of_lt v.isLt))
theorem tV_of (fc : IVec S4096x3 32) (n : Fin 4096) (k : Fin 3) : tV fc n.val k = (fc (ix2 n k)).toNat :=
  congrArg (fun z => (fc (ix2 z k)).toNat) (Fin.ext (Nat.mod_eq_of_lt n.isLt))

theorem rows_val (vs : FVec Ideal S2048x3 .f32) (x : IVec S4096 32) (n : Fin 4096) (q : Fin 3) (h : (x (ix1 n)).toNat < 2048) :
    rows vs x (ix2 n q) = pV vs (x (ix1 n)).toNat q := by
  refine (rows_at vs (idxF x) n q ⟨(x (ix1 n)).toNat, h⟩ ?_).trans (pV_of vs ⟨_, h⟩ q).symm
  rw [idxF_at x n h]; simp

theorem rowsE_val (vs : FVec Ideal S2048x3 .f32) (x : IVec S12288 32) (n : Fin 12288) (q : Fin 3) (h : (x (ix1 n)).toNat < 2048) :
    rowsE vs x (ix2 n q) = pV vs (x (ix1 n)).toNat q := by
  refine (rowsE_at vs (idxE x) n q ⟨(x (ix1 n)).toNat, h⟩ ?_).trans (pV_of vs ⟨_, h⟩ q).symm
  rw [idxE_at x n h]; simp

set_option maxRecDepth 16384 in
theorem dist_at (u v : FVec Ideal S4096x3 .f32) (n : Fin 4096) :
    (dist u v (ix1 n) : EReal) = Ideal.sqrt (len2 (fun q => u (ix2 n q)) (fun q => v (ix2 n q))) := by
  pointwise [dist]
  simp only [Fin.sum_univ_three, zero_add]
  rfl

set_option maxRecDepth 16384 in
theorem area_at (a b c : FVec Ideal S4096 .f32) (n : Fin 4096) :
    (area a b c (ix1 n) : EReal) = Ideal.sqrt (max floorA (heron (a (ix1 n)) (b (ix1 n)) (c (ix1 n)))) := by
  pointwise [area, semi]
  rfl

set_option maxRecDepth 16384 in
theorem cots3_at (a b c : FVec Ideal S4096 .f32) (n : Fin 4096) (k : Fin 3) :
    (cots3 a b c (ix2 n k) : EReal) = Ideal.div (num (a (ix1 n) * a (ix1 n)) (b (ix1 n) * b (ix1 n)) (c (ix1 n) * c (ix1 n)) k) (area a b c (ix1 n)) := by
  match k with
  | 0 => pointwise [cots3]; rfl
  | 1 => pointwise [cots3]; rfl
  | 2 => pointwise [cots3]; rfl

/-- Slot `k` of face `n` in a list of all the faces' slots. -/
def slot (n : Fin 4096) (k : Fin 3) : Fin 12288 := ⟨3 * n.val + k.val, by have := n.isLt; have := k.isLt; omega⟩

set_option maxRecDepth 16384 in
theorem cast_slot {α : Type} (x : S4096x3.Idx → α) (n : Fin 4096) (k : Fin 3) : shapeCast S12288 x shapeCasts_S4096x3_S12288 (ix1 (slot n k)) = x (ix2 n k) := by
  have hn := n.isLt; have hk := k.isLt
  unfold slot
  pointwise []

theorem cots_at (a b c : FVec Ideal S4096 .f32) (n : Fin 4096) (k : Fin 3) :
    (cots a b c (ix1 (slot n k)) : EReal) = Ideal.div (Ideal.div (num (a (ix1 n) * a (ix1 n)) (b (ix1 n) * b (ix1 n)) (c (ix1 n) * c (ix1 n)) k) (Ideal.sqrt (max floorA (heron (a (ix1 n)) (b (ix1 n)) (c (ix1 n)))))) four := by
  rw [← area_at, ← cots3_at]
  exact cast_slot (Host.divf (cots3 a b c) (broadcastInDim S4096x3 ![] bcast_S_S4096x3 (constant S_ .f32 0x40800000#32))) n k

theorem ends_at (fc : IVec S4096x3 32) (c : IVec S3 32) (n : Fin 4096) (k b : Fin 3) (h : c (ix1 k) = BitVec.ofNat 32 b.val) :
    ends fc c (ix1 (slot n k)) = fc (ix2 n b) := by
  have hb := b.isLt
  refine (cast_slot _ n k).trans (cols_at fc (idxC c) n k b ((idxC_at c k ?_).trans h))
  rw [h, BitVec.toNat_ofNat]; omega

/-- A sum over all the slots. -/
theorem sum_slots (f : Fin 12288 → EReal) : ∑ u, f u = ∑ n : Fin 4096, ∑ k : Fin 3, f (slot n k) := by
  have e : ∀ u : Fin 12288, f u = (fun u : ℕ => f ⟨u % 12288, Nat.mod_lt _ (by decide)⟩) u.val := fun u =>
    congrArg f (Fin.ext (Nat.mod_eq_of_lt u.isLt).symm)
  rw [Finset.sum_congr rfl fun u _ => e u, ← Finset.sum_range (fun u : ℕ => f ⟨u % 12288, Nat.mod_lt _ (by decide)⟩), ← sum_stretch _ 4096 3, Finset.sum_range]
  refine Finset.sum_congr rfl fun n _ => ?_
  rw [Finset.sum_range]
  exact Finset.sum_congr rfl fun k _ => (e (slot n k)).symm

set_option maxRecDepth 16384 in
theorem diff_at (vs nb : FVec Ideal S2048x3 .f32) (s : FVec Ideal S2048 .f32) (v : Fin 2048) (q : Fin 3) :
    (diff vs nb s (ix2 v q) : EReal) = nb (ix2 v q) * invOf (s (ix1 v)) - vs (ix2 v q) := by
  have e : (diff vs nb s (ix2 v q) : EReal) = nb (ix2 v q) * broadcastInDim S2048x3 ![0, 1] bcast_S2048x1_S2048x3_0_1 (broadcastInDim S2048x1 ![0] bcast_S2048_S2048x1_0 (invV s)) (ix2 v q) - vs (ix2 v q) := rfl
  have e' : ∀ y : FVec Ideal S2048 .f32, broadcastInDim S2048x3 ![0, 1] bcast_S2048x1_S2048x3_0_1 (broadcastInDim S2048x1 ![0] bcast_S2048_S2048x1_0 y) (ix2 v q) = y (ix1 v) := by
    intro y; pointwise []
  rw [e, e']
  rfl

/-! ## The weights and the sums -/

theorem names_iff (x : BitVec 32) (v : ℕ) (h : x.toNat < 2048) : x.toInt = (v : Int) ↔ x.toNat = v := by
  rw [BitVec.toInt_eq_toNat_of_lt (by omega)]; omega

section
variable (vs : FVec Ideal S2048x3 .f32) (fc : IVec S4096x3 32) (hf : ∀ x, (fc x).toNat < 2048)
include hf

theorem dist_corners (x y : IVec S4096 32) (n : Fin 4096) (k l : Fin 3) (hx : x (ix1 n) = fc (ix2 n k)) (hy : y (ix1 n) = fc (ix2 n l)) :
    (dist (rows vs x) (rows vs y) (ix1 n) : EReal) = Ideal.sqrt (len2 (pV vs (tV fc n.val k)) (pV vs (tV fc n.val l))) := by
  rw [dist_at]
  congr 2 <;> funext q
  · rw [rows_val vs x n q (by rw [hx]; exact hf _), hx, tV_of]
  · rw [rows_val vs y n q (by rw [hy]; exact hf _), hy, tV_of]

theorem wts_at (n : Fin 4096) (k : Fin 3) : (wts vs fc (ix1 (slot n k)) : EReal) = wt (pV vs) (tV fc) n.val k := by
  have ha : (lenA vs fc (ix1 n) : EReal) = _ := dist_corners vs fc hf _ _ n 1 2 (corner1_at fc n) (corner2_at fc n)
  have hb : (lenB vs fc (ix1 n) : EReal) = _ := dist_corners vs fc hf _ _ n 0 2 (corner0_at fc n) (corner2_at fc n)
  have hc : (lenC vs fc (ix1 n) : EReal) = _ := dist_corners vs fc hf _ _ n 0 1 (corner0_at fc n) (corner1_at fc n)
  unfold wts
  generalize lenA vs fc = a at ha ⊢
  generalize lenB vs fc = b at hb ⊢
  generalize lenC vs fc = c at hc ⊢
  rw [cots_at a b c n k]
  exact (wgt_eq (fun k => pV vs (tV fc n.val k)) k ha hb hc).symm

theorem ends_lt (c : IVec S3 32) (e : Fin 3 → Fin 3) (h : ∀ k, c (ix1 k) = BitVec.ofNat 32 (e k).val) (u : Fin 12288) : (ends fc c (ix1 u)).toNat < 2048 := by
  have hu := u.isLt
  have e' : u = slot ⟨u.val / 3, by omega⟩ ⟨u.val % 3, by omega⟩ := Fin.ext (by show u.val = 3 * (u.val / 3) + u.val % 3; omega)
  rw [e', ends_at fc c _ _ _ (h _)]
  exact hf _

variable (c c' : IVec S3 32) (hc : ∀ k, c (ix1 k) = BitVec.ofNat 32 (e1 k).val) (hc' : ∀ k, c' (ix1 k) = BitVec.ofNat 32 (e2 k).val)
include hc hc'

set_option maxRecDepth 16384 in
theorem massV_at (v : Fin 2048) : (massV (wts vs fc) (ends fc c) (ends fc c') (ix1 v) : EReal) = mass (pV vs) (tV fc) v.val := by
  unfold massV
  rw [scat1_at, scat1_at]
  have z : (broadcastInDim S2048 ![] bcast_S_S2048 (constant (F := Ideal) S_ .f32 0x00000000#32) (ix1 v) : EReal) = 0 := by pointwise []
  rw [z, zero_add, sum_slots, sum_slots, ← Finset.sum_add_distrib]
  unfold mass
  rw [Finset.sum_range]
  refine Finset.sum_congr rfl fun n _ => ?_
  rw [← Finset.sum_add_distrib]
  refine Finset.sum_congr rfl fun k _ => ?_
  rw [idxE_at _ _ (ends_lt fc hf c e1 hc _), idxE_at _ _ (ends_lt fc hf c' e2 hc' _), ends_at fc c n k (e1 k) (hc k), ends_at fc c' n k (e2 k) (hc' k), wts_at vs fc hf, mul_one, tV_of, tV_of]
  simp only [names_iff _ _ (hf _)]

theorem prods_at (i : IVec S12288 32) (n : Fin 4096) (k q : Fin 3) (l : Fin 3) (hi : i (ix1 (slot n k)) = fc (ix2 n l)) :
    (prods vs (wts vs fc) i (ix2 (slot n k) q) : EReal) = wt (pV vs) (tV fc) n.val k * pV vs (tV fc n.val l) q := by
  have e : (prods vs (wts vs fc) i (ix2 (slot n k) q) : EReal) = wts vs fc (ix1 (slot n k)) * rowsE vs i (ix2 (slot n k) q) := by
    pointwise [prods]
  rw [e, wts_at vs fc hf, rowsE_val vs i _ q (by rw [hi]; exact hf _), hi, tV_of]

set_option maxRecDepth 16384 in
theorem nbrV_at (v : Fin 2048) (q : Fin 3) : (nbrV vs (wts vs fc) (ends fc c) (ends fc c') (ix2 v q) : EReal) = nbr (pV vs) (tV fc) q v.val := by
  unfold nbrV
  rw [scat2_at, scat2_at]
  have z : (broadcastInDim S2048x3 ![] bcast_S_S2048x3 (constant (F := Ideal) S_ .f32 0x00000000#32) (ix2 v q) : EReal) = 0 := by pointwise []
  rw [z, zero_add, sum_slots, sum_slots, ← Finset.sum_add_distrib]
  unfold nbr
  rw [Finset.sum_range]
  refine Finset.sum_congr rfl fun n _ => ?_
  rw [← Finset.sum_add_distrib]
  refine Finset.sum_congr rfl fun k _ => ?_
  have h1 := ends_at fc c n k (e1 k) (hc k)
  have h2 := ends_at fc c' n k (e2 k) (hc' k)
  rw [idxE_at _ _ (ends_lt fc hf c e1 hc _), idxE_at _ _ (ends_lt fc hf c' e2 hc' _), prods_at vs fc hf c c' hc hc' _ n k q (e2 k) h2,
    prods_at vs fc hf c c' hc hc' _ n k q (e1 k) h1, h1, h2]
  simp only [names_iff _ _ (hf _), tV_of]

theorem batch_at (v : Fin 2048) (q : Fin 3) : (batch vs fc c c' (ix2 v q) : EReal) = lapl (pV vs) (tV fc) v.val q := by
  unfold batch
  rw [diff_at, nbrV_at vs fc hf c c' hc hc', massV_at vs fc hf c c' hc hc', ← pV_of vs]
  rfl

set_option maxRecDepth 16384 in
theorem mean_at (x : S_.Idx) : (meanV (batch vs fc c c') x : EReal) = Ideal.div (total (pV vs) (tV fc)) nVert := by
  pointwise [meanV]
  simp only [Fin.sum_univ_three, zero_add, batch_at vs fc hf c c' hc hc']
  unfold total
  rw [Finset.sum_range]
  rfl

end

end Cert.Proof.Ref

end
-- ==== Proof.RefLoss.lean ====
/-
  The reference's result over the extended reals: its four batches, and the mean.
-/
module

public import proofs.«01_k».proof.Proof.RefValue
public import proofs.«01_k».proof.Proof.KernelLoss
public import proofs.«01_k».proof.Proof.Gen.ReferenceIdeal.Run

@[expose] public section

noncomputable section

namespace Cert.Proof.Ref

open Idealize.ShloMosaic Cert.ReferenceIdeal Cert.ReferenceIdeal.Gen Cert.ReferenceIdeal.Value Cert.Proof.Mesh
open Idealize.ShloMosaic.StableHlo

attribute [local instance] Cert.ReferenceIdeal.Gen.facts₀

variable (V : Valuation τ sig (Elt Ideal))

/-- Each batch of the program is the batch of RefValue.lean, of its own vertices and faces. -/
theorem batch0 : (res_main_v430 V : FVec Ideal S2048x3 .f32) = batch (res_main_v274 V) (res_main_v276 V) (res_main_c_11 V) (res_main_c_12 V) := rfl
theorem batch1 : (res_main_v596 V : FVec Ideal S2048x3 .f32) = batch (res_main_v440 V) (res_main_v442 V) (res_main_c_13 V) (res_main_c_14 V) := rfl
theorem batch2 : (res_main_v762 V : FVec Ideal S2048x3 .f32) = batch (res_main_v606 V) (res_main_v608 V) (res_main_c_15 V) (res_main_c_16 V) := rfl
theorem batch3 : (res_main_v928 V : FVec Ideal S2048x3 .f32) = batch (res_main_v772 V) (res_main_v774 V) (res_main_c_17 V) (res_main_c_18 V) := rfl

/-- The two lists of three. -/
theorem lits1 (k : Fin 3) : lit12 (S3.rowMajor (ix1 k)) = BitVec.ofNat 32 (e1 k).val := by
  match k with
  | 0 => rfl
  | 1 => rfl
  | 2 => rfl
theorem lits2 (k : Fin 3) : lit13 (S3.rowMajor (ix1 k)) = BitVec.ofNat 32 (e2 k).val := by
  match k with
  | 0 => rfl
  | 1 => rfl
  | 2 => rfl

/-- A batch's vertices and faces, in the arguments. -/
abbrev P0 : FVec Ideal S4x2048x3 .f32 := V (Proc.devRef .tc main_arg0)
abbrev Q0 : IVec S4x4096x3 32 := V (Proc.devRef .tc main_arg1)

set_option maxRecDepth 16384 in
theorem verts0 (v : Fin 2048) (q : Fin 3) : (res_main_v274 V : FVec Ideal S2048x3 .f32) (ix2 v q) = P0 V (ix3 0 v q) := by pointwise [res_main_v274]
set_option maxRecDepth 16384 in
theorem verts1 (v : Fin 2048) (q : Fin 3) : (res_main_v440 V : FVec Ideal S2048x3 .f32) (ix2 v q) = P0 V (ix3 1 v q) := by pointwise [res_main_v440]
set_option maxRecDepth 16384 in
theorem verts2 (v : Fin 2048) (q : Fin 3) : (res_main_v606 V : FVec Ideal S2048x3 .f32) (ix2 v q) = P0 V (ix3 2 v q) := by pointwise [res_main_v606]
set_option maxRecDepth 16384 in
theorem verts3 (v : Fin 2048) (q : Fin 3) : (res_main_v772 V : FVec Ideal S2048x3 .f32) (ix2 v q) = P0 V (ix3 3 v q) := by pointwise [res_main_v772]
set_option maxRecDepth 16384 in
theorem faces0 (n : Fin 4096) (k : Fin 3) : (res_main_v276 V : IVec S4096x3 32) (ix2 n k) = Q0 V (ix3 0 n k) := by pointwise [res_main_v276]
set_option maxRecDepth 16384 in
theorem faces1 (n : Fin 4096) (k : Fin 3) : (res_main_v442 V : IVec S4096x3 32) (ix2 n k) = Q0 V (ix3 1 n k) := by pointwise [res_main_v442]
set_option maxRecDepth 16384 in
theorem faces2 (n : Fin 4096) (k : Fin 3) : (res_main_v608 V : IVec S4096x3 32) (ix2 n k) = Q0 V (ix3 2 n k) := by pointwise [res_main_v608]
set_option maxRecDepth 16384 in
theorem faces3 (n : Fin 4096) (k : Fin 3) : (res_main_v774 V : IVec S4096x3 32) (ix2 n k) = Q0 V (ix3 3 n k) := by pointwise [res_main_v774]

/-- The mean over one batch. -/
theorem mean_batch (P : FVec Ideal S4x2048x3 .f32) (Q : IVec S4x4096x3 32) (hQ : ∀ x, (Q x).toNat < 2048) (b : Fin 4) (vs : FVec Ideal S2048x3 .f32) (fc : IVec S4096x3 32)
    (hv : ∀ v q, vs (ix2 v q) = P (ix3 b v q)) (hf : ∀ n k, fc (ix2 n k) = Q (ix3 b n k)) (c c' : IVec S3 32)
    (hc : ∀ k, c (ix1 k) = BitVec.ofNat 32 (e1 k).val) (hc' : ∀ k, c' (ix1 k) = BitVec.ofNat 32 (e2 k).val) (x : S_.Idx) :
    (meanV (batch vs fc c c') x : EReal) = Ideal.div (total (pOf P b) (tOf Q b)) nVert := by
  have h : ∀ i, (fc i).toNat < 2048 := fun i => by
    have e : fc i = Q (ix3 b (i 0) (i 1)) := (congrArg fc (ix2_eta i)).symm.trans (hf (i 0) (i 1))
    rw [e]; exact hQ _
  rw [mean_at vs fc h c c' hc hc' x, show pV vs = pOf P b from funext fun v => funext fun q => hv _ q,
    show tV fc = tOf Q b from funext fun n => funext fun k => congrArg BitVec.toNat (hf _ k)]

/-- The reference's result. -/
def result : FVec Ideal S_ .f32 :=
  Host.divf (addf (addf (addf (addf (constant S_ .f32 0x00000000#32) (meanV (res_main_v430 V))) (meanV (res_main_v596 V))) (meanV (res_main_v762 V))) (meanV (res_main_v928 V))) (constant S_ .f32 0x40800000#32)

theorem result_eq (hQ : ∀ x, (Q0 V x).toNat < 2048) (x : S_.Idx) : (result V x : EReal) = loss (P0 V) (Q0 V) := by
  have e : (result V x : EReal) = Ideal.div ((((Ideal.ofBits .f32 0x00000000#32 + meanV (res_main_v430 V) x) + meanV (res_main_v596 V) x) + meanV (res_main_v762 V) x) + meanV (res_main_v928 V) x) four := rfl
  rw [e, Ideal.ofBits_zero_f32, zero_add, batch0, batch1, batch2, batch3,
    mean_batch (P0 V) (Q0 V) hQ 0 _ _ (verts0 V) (faces0 V) _ _ lits1 lits2,
    mean_batch (P0 V) (Q0 V) hQ 1 _ _ (verts1 V) (faces1 V) _ _ lits1 lits2,
    mean_batch (P0 V) (Q0 V) hQ 2 _ _ (verts2 V) (faces2 V) _ _ lits1 lits2,
    mean_batch (P0 V) (Q0 V) hQ 3 _ _ (verts3 V) (faces3 V) _ _ lits1 lits2]
  exact (mean_eq (total_nonneg _ _) (total_nonneg _ _) (total_nonneg _ _) (total_nonneg _ _)).symm

end Cert.Proof.Ref

end
-- ==== Proof.Edges.lean ====
/-
  The edges' mathematics: the distinct edges of a batch, as the first of the equal ones in the order they come, or as the
  first of each run of the sorted list; and the loss they give.
-/
module

public import proofs.«01_k».proof.Proof.Spec

@[expose] public section

noncomputable section

namespace Cert.Proof.Mesh

open Idealize.ShloMosaic

/-! ## First occurrences -/

open Classical in
/-- A sum over those that no earlier one equals is the sum over the distinct ones. -/
theorem sum_first {M : Type} [AddCommMonoid M] (κ : ℕ → ℕ) (g : ℕ → M) (N : ℕ) :
    (∑ t ∈ Finset.range N, if ∃ t' < t, κ t' = κ t then 0 else g (κ t)) = ∑ k ∈ (Finset.range N).image κ, g k := by
  induction N with
  | zero => simp
  | succ N ih =>
    rw [Finset.sum_range_succ, ih, Finset.range_add_one, Finset.image_insert]
    by_cases h : ∃ t' < N, κ t' = κ N
    · have hm : κ N ∈ (Finset.range N).image κ := by
        obtain ⟨t', h1, h2⟩ := h
        exact Finset.mem_image.2 ⟨t', Finset.mem_range.2 h1, h2⟩
      rw [if_pos h, add_zero, Finset.insert_eq_of_mem hm]
    · have hm : κ N ∉ (Finset.range N).image κ := fun hm => by
        obtain ⟨t', h1, h2⟩ := Finset.mem_image.1 hm
        exact h ⟨t', Finset.mem_range.1 h1, h2⟩
      rw [if_neg h, Finset.sum_insert hm, add_comm]

/-- The same over an ordered list: those that differ from the one before. -/
theorem sum_runs {M : Type} [AddCommMonoid M] (s : ℕ → ℕ) (g : ℕ → M) (N : ℕ) (hs : ∀ r r', r ≤ r' → r' < N → s r ≤ s r') :
    (∑ r ∈ Finset.range N, if r ≠ 0 ∧ s (r - 1) = s r then 0 else g (s r)) = ∑ k ∈ (Finset.range N).image s, g k := by
  classical
  rw [← sum_first s g N]
  refine Finset.sum_congr rfl fun r hr => ?_
  have hr' := Finset.mem_range.1 hr
  have e : (r ≠ 0 ∧ s (r - 1) = s r) ↔ ∃ t' < r, s t' = s r := by
    constructor
    · rintro ⟨h0, h1⟩
      exact ⟨r - 1, by omega, h1⟩
    · rintro ⟨t', h1, h2⟩
      refine ⟨by omega, ?_⟩
      have a := hs t' (r - 1) (by omega) (by omega)
      have c := hs (r - 1) r (by omega) hr'
      omega
  by_cases h : r ≠ 0 ∧ s (r - 1) = s r
  · rw [if_pos h, if_pos (e.1 h)]
  · rw [if_neg h, if_neg (fun hh => h (e.2 hh))]

/-! ## The edges -/

/-- The two ends of an edge: the batch's faces' first edges, then their second, then their third. -/
def endL (t : ℕ → Fin 3 → ℕ) (e : ℕ) : ℕ := t (e % 4096) (if e / 4096 = 0 then 0 else if e / 4096 = 1 then 1 else 2)
def endR (t : ℕ → Fin 3 → ℕ) (e : ℕ) : ℕ := t (e % 4096) (if e / 4096 = 0 then 1 else if e / 4096 = 1 then 2 else 0)
/-- The edge as a number: its lower end and its higher. -/
def key (t : ℕ → Fin 3 → ℕ) (e : ℕ) : ℕ := min (endL t e) (endR t e) * 2048 + max (endL t e) (endR t e)
/-- The distinct edges of a batch. -/
def keys (t : ℕ → Fin 3 → ℕ) : Finset ℕ := (Finset.range 12288).image (key t)

/-- The square of a distance. -/
def sq (u v : Fin 3 → EReal) : EReal := ((u 0 - v 0) * (u 0 - v 0) + (u 1 - v 1) * (u 1 - v 1)) + (u 2 - v 2) * (u 2 - v 2)

/-- The sum of the squared lengths of the distinct edges over their number. -/
def edgeMean (p : ℕ → Fin 3 → EReal) (t : ℕ → Fin 3 → ℕ) : EReal :=
  Ideal.div (∑ k ∈ keys t, sq (p (k / 2048)) (p (k % 2048))) (max (∑ _k ∈ keys t, (1 : EReal)) 1)

/-- A number of a pair of vertices gives the pair back. -/
theorem key_div {a c : ℕ} (hc : c < 2048) : (a * 2048 + c) / 2048 = a := by omega
theorem key_mod {a c : ℕ} (hc : c < 2048) : (a * 2048 + c) % 2048 = c := by omega
theorem key_inj {a c a' c' : ℕ} (hc : c < 2048) (hc' : c' < 2048) : a * 2048 + c = a' * 2048 + c' ↔ a = a' ∧ c = c' := by omega

end Cert.Proof.Mesh

end
-- ==== Proof.KernelWalk.lean ====
/-
  What the walk over the edges computes, over the extended reals: each lane's accumulators are sums over the lane's edges.
-/
module

public import proofs.«01_k».proof.Proof.PhaseC
public import proofs.«01_k».proof.Proof.KernelSum
public import proofs.«01_k».proof.Proof.Edges
public import Idealize.ShloMosaic.Lib.IdealHost

@[expose] public section

noncomputable section

namespace Cert.Proof.Tile

open Idealize.ShloMosaic Cert.KernelIdeal Cert.KernelIdeal.Gen Cert.Proof.Mesh

/-! ## The ends of an edge -/

theorem maxsi_num {a b : BitVec 32} (ha : a.toNat < 2147483648) (hb : b.toNat < 2147483648) : (IntOp.maxsi a b).toNat = max a.toNat b.toNat := by
  unfold IntOp.maxsi
  rw [slt_num hb ha]
  by_cases h : b.toNat < a.toNat
  · rw [decide_eq_true h, if_pos rfl]; omega
  · rw [decide_eq_false h, if_neg (by decide)]; omega

section
variable (V : Vec Ideal S24576 .f32) (G : Vec Ideal S49152 .i32) (hG : InRange G) (b : ℕ)
include hG

theorem endA_lt (t : ℕ) : (endA G b t).toNat < 2048 := at_lt (fun _ => hG _) _
theorem endB_lt (t : ℕ) : (endB G b t).toNat < 2048 := at_lt (fun _ => hG _) _

theorem lowE_eq {t : ℕ} (ht : t < 12288) : lowE G b t = min (endL (tK G b) t) (endR (tK G b) t) := by
  have e : lowE G b t = (IntOp.minsi (endA G b t) (endB G b t)).toNat := by
    show (IntOp.minsi (endA G b ((ix (m := 12288) t : S12288.Idx) 0).val) (endB G b ((ix (m := 12288) t : S12288.Idx) 0).val)).toNat = _
    rw [ix_val_lt ht]
  have h1 := endA_lt G hG b t; have h2 := endB_lt G hG b t
  rw [e, minsi_num (by omega) (by omega)]; rfl

theorem highE_eq (t : ℕ) : highE G b t = max (endL (tK G b) t) (endR (tK G b) t) := by
  have h1 := endA_lt G hG b t; have h2 := endB_lt G hG b t
  unfold highE
  rw [maxsi_num (by omega) (by omega)]; rfl

theorem key_eq {t : ℕ} (ht : t < 12288) : key (tK G b) t = lowE G b t * 2048 + highE G b t := by
  rw [lowE_eq G hG b ht, highE_eq G hG b t]; rfl

theorem key_low {t : ℕ} (ht : t < 12288) : key (tK G b) t / 2048 = lowE G b t := by
  rw [key_eq G hG b ht, key_div (highE_lt G hG b t)]
theorem key_high {t : ℕ} (ht : t < 12288) : key (tK G b) t % 2048 = highE G b t := by
  rw [key_eq G hG b ht, key_mod (highE_lt G hG b t)]

theorem same_iff {t t' : ℕ} (ht : t < 12288) (ht' : t' < 12288) : Same G b t t' ↔ key (tK G b) t' = key (tK G b) t := by
  rw [key_eq G hG b ht, key_eq G hG b ht', key_inj (highE_lt G hG b _) (highE_lt G hG b _)]

end

/-! ## One lane -/

section
variable (V : Vec Ideal S24576 .f32) (G : Vec Ideal S49152 .i32) (hG : InRange G)

open Classical in
/-- What an edge adds to the lengths, and to their number: nothing if an earlier edge has its ends. -/
def edgeTerm (b t : ℕ) : EReal :=
  if ∃ t' < t, key (tK G b) t' = key (tK G b) t then 0 else sq (pK V b (key (tK G b) t / 2048)) (pK V b (key (tK G b) t % 2048))
open Classical in
def oneTerm (b t : ℕ) : EReal := if ∃ t' < t, key (tK G b) t' = key (tK G b) t then 0 else 1

include hG

theorem first_bit (i : grid0.Coords) {n : ℕ} (hn : n < 96) (x : S16.Idx) :
    k0_pay69 (wPre G i n) x = (if ∃ t' < walkAt i n + (x 0).val, key (tK G (bat i)) t' = key (tK G (bat i)) (walkAt i n + (x 0).val) then 0#1 else 1#1 : BitVec 1) := by
  classical
  have hw := walkAt_lt i hn x
  have e : (∃ t' < walkAt i n + (x 0).val, Same G (bat i) (walkAt i n + (x 0).val) t') ↔
      ∃ t' < walkAt i n + (x 0).val, key (tK G (bat i)) t' = key (tK G (bat i)) (walkAt i n + (x 0).val) :=
    exists_congr fun t' => and_congr_right fun h => same_iff G hG (bat i) hw (by omega)
  show IntOp.cmpi .eq (wPre G i n x) 0#32 = _
  unfold wPre
  by_cases h : ∃ t' < walkAt i n + (x 0).val, Same G (bat i) (walkAt i n + (x 0).val) t'
  · rw [if_pos h, if_pos (e.1 h)]; rfl
  · rw [if_neg h, if_neg (fun hh => h (e.2 hh))]; rfl

omit hG in
/-- The words of a trip's additions. -/
theorem pay74_at (a : FVec Ideal S16 .f32) (c : IVec S16 1) (y z xA xB : FVec Ideal S16 .f32) (x : S16.Idx) :
    (k0_pay74 a c y z (k0_pay73 xA xB) x : EReal) =
      (a x : EReal) + Scalar.select (c x) ((((xA x : EReal) - xB x) * ((xA x : EReal) - xB x) + (y x : EReal) * y x) + (z x : EReal) * z x) (Ideal.ofBits .f32 0x00000000#32) := rfl
omit hG in
theorem pay75_at (a : FVec Ideal S16 .f32) (c : IVec S16 1) (x : S16.Idx) :
    (k0_pay75 a c x : EReal) = (a x : EReal) + Scalar.select (c x) (Ideal.ofBits .f32 0x3F800000#32) (Ideal.ofBits .f32 0x00000000#32) := rfl

/-- The lengths of a lane's first edges. -/
theorem walk_len (i : grid0.Coords) (n : ℕ) (hn : n ≤ 96) (x : S16.Idx) :
    ((walkAcc V G i n).1 x : EReal) = ∑ a ∈ Finset.range n, edgeTerm V G (bat i) (walkAt i a + (x 0).val) := by
  induction n with
  | zero => exact Ideal.ofBits_zero_f32
  | succ n ih =>
    rw [Finset.sum_range_succ, ← ih (by omega)]
    have hw := walkAt_lt i (n := n) (by omega) x
    refine (pay74_at _ _ _ _ _ _ x).trans (congrArg (fun z : EReal => ((walkAcc V G i n).1 x : EReal) + z) ?_)
    rw [first_bit G hG i (by omega) x, Ideal.ofBits_zero_f32]
    unfold edgeTerm
    by_cases h : ∃ t' < walkAt i n + (x 0).val, key (tK G (bat i)) t' = key (tK G (bat i)) (walkAt i n + (x 0).val)
    · rw [if_pos h, if_pos h]; rfl
    · rw [if_neg h, if_neg h, key_low G hG _ hw, key_high G hG _ hw]
      have hA : ∀ q, (wC V i q (wA G i n) x : EReal) = pK V (bat i) (lowE G (bat i) (walkAt i n + (x 0).val)) q := fun q => rfl
      have hB : ∀ q, (wC V i q (wB G i n) x : EReal) = pK V (bat i) (highE G (bat i) (walkAt i n + (x 0).val)) q := fun q =>
        congrArg (fun z => pK V (bat i) z q) (wB_num G hG i (by omega) x)
      have e1 : ((wY V G i n) x : EReal) = (wC V i 1 (wA G i n) x : EReal) - wC V i 1 (wB G i n) x := rfl
      have e2 : ((wZ V G i n) x : EReal) = (wC V i 2 (wA G i n) x : EReal) - wC V i 2 (wB G i n) x := rfl
      rw [e1, e2, hA, hA, hA, hB, hB, hB]
      rfl

/-- Their number. -/
theorem walk_cnt (i : grid0.Coords) (n : ℕ) (hn : n ≤ 96) (x : S16.Idx) :
    ((walkAcc V G i n).2.1 x : EReal) = ∑ a ∈ Finset.range n, oneTerm G (bat i) (walkAt i a + (x 0).val) := by
  induction n with
  | zero => exact Ideal.ofBits_zero_f32
  | succ n ih =>
    rw [Finset.sum_range_succ, ← ih (by omega)]
    refine (pay75_at _ _ x).trans (congrArg (fun z : EReal => ((walkAcc V G i n).2.1 x : EReal) + z) ?_)
    rw [first_bit G hG i (by omega) x, Ideal.ofBits_zero_f32, Ideal.ofBits_one_f32]
    unfold oneTerm
    by_cases h : ∃ t' < walkAt i n + (x 0).val, key (tK G (bat i)) t' = key (tK G (bat i)) (walkAt i n + (x 0).val)
    · rw [if_pos h, if_pos h]; rfl
    · rw [if_neg h, if_neg h]; rfl

omit hG in
/-- The lanes of a batch's tiles are all its edges. -/
theorem sum_walk (f : ℕ → EReal) :
    (∑ i ∈ Finset.range 8, ∑ j ∈ Finset.range 16, ∑ a ∈ Finset.range 96, f (4096 * (a / 32) + 512 * i + 16 * (a % 32) + j)) = ∑ t ∈ Finset.range 12288, f t := by
  have e1 : ∀ i j, (∑ a ∈ Finset.range 96, f (4096 * (a / 32) + 512 * i + 16 * (a % 32) + j)) =
      ∑ r ∈ Finset.range 3, ∑ c ∈ Finset.range 32, f (4096 * r + (512 * i + (16 * c + j))) := fun i j => by
    rw [← sum_stretch (fun a => f (4096 * (a / 32) + 512 * i + 16 * (a % 32) + j)) 3 32]
    refine Finset.sum_congr rfl fun r _ => Finset.sum_congr rfl fun c hc => congrArg f ?_
    have := Finset.mem_range.1 hc
    omega
  rw [Finset.sum_congr rfl fun i _ => Finset.sum_congr rfl fun j _ => e1 i j]
  have e2 : ∀ i, (∑ j ∈ Finset.range 16, ∑ r ∈ Finset.range 3, ∑ c ∈ Finset.range 32, f (4096 * r + (512 * i + (16 * c + j)))) =
      ∑ r ∈ Finset.range 3, ∑ u ∈ Finset.range 512, f (4096 * r + (512 * i + u)) := fun i => by
    rw [Finset.sum_comm]
    refine Finset.sum_congr rfl fun r _ => ?_
    rw [Finset.sum_comm]
    exact sum_stretch (fun u => f (4096 * r + (512 * i + u))) 32 16
  rw [Finset.sum_congr rfl fun i _ => e2 i, Finset.sum_comm]
  have e3 : ∀ r, (∑ i ∈ Finset.range 8, ∑ u ∈ Finset.range 512, f (4096 * r + (512 * i + u))) = ∑ v ∈ Finset.range 4096, f (4096 * r + v) := fun r =>
    sum_stretch (fun v => f (4096 * r + v)) 8 512
  rw [Finset.sum_congr rfl fun r _ => e3 r]
  exact sum_stretch f 3 4096

omit hG in
/-- The edges' terms sum to the sums over the distinct edges. -/
theorem sum_edgeTerm (b : ℕ) : (∑ t ∈ Finset.range 12288, edgeTerm V G b t) = ∑ k ∈ keys (tK G b), sq (pK V b (k / 2048)) (pK V b (k % 2048)) :=
  sum_first (key (tK G b)) (fun k => sq (pK V b (k / 2048)) (pK V b (k % 2048))) 12288
omit hG in
theorem sum_oneTerm (b : ℕ) : (∑ t ∈ Finset.range 12288, oneTerm G b t) = ∑ _k ∈ keys (tK G b), (1 : EReal) :=
  sum_first (key (tK G b)) (fun _ => (1 : EReal)) 12288

end

end Cert.Proof.Tile

end
-- ==== Proof.KernelEdge.lean ====
/-
  The kernel's edge term over the extended reals: from the tiles' rows to the mean over each batch's distinct edges.
-/
module

public import proofs.«01_k».proof.Proof.KernelLoss
public import proofs.«01_k».proof.Proof.KernelWalk

@[expose] public section

noncomputable section

namespace Cert.Proof.Mesh

open Idealize.ShloMosaic

/-- The edge term: the mean over the batches of the mean over the distinct edges. -/
def edgeLoss (P : (⟨3, ![4, 2048, 3]⟩ : Shape).Idx → EReal) (Q : (⟨3, ![4, 4096, 3]⟩ : Shape).Idx → BitVec 32) : EReal :=
  Ideal.div (((edgeMean (pOf P 0) (tOf Q 0) + edgeMean (pOf P 1) (tOf Q 1)) + edgeMean (pOf P 2) (tOf Q 2)) + edgeMean (pOf P 3) (tOf Q 3)) four

end Cert.Proof.Mesh

namespace Cert.Proof.Tile

open Idealize.ShloMosaic Cert.KernelIdeal Cert.KernelIdeal.Gen Cert.Proof.Mesh

attribute [local instance] Cert.KernelIdeal.Gen.facts₀

variable (m : (ℓ : Loc nD τ sig) → Buf (Elt Ideal) ℓ) (d : Dev nD)

theorem pK_batch (b : Fin 4) : pK (Vm m d) b.val = pOf (Pm m d) b := funext fun v => funext fun q => pK_eq (Pm m d) b v q
theorem tK_batch (b : Fin 4) : tK (Gm m d) b.val = tOf (Qm m d) b := funext fun n => funext fun k => tK_eq (Qm m d) b n k

/-- The tile that holds row `i` of batch `b`. -/
def tileOf (b : Fin 4) (i : ℕ) (hi : i < 8) : grid0.Coords :=
  coordsV ⟨b.val / 2, by have := b.isLt; show b.val / 2 < 2; omega⟩ ⟨8 * (b.val % 2) + i, by show _ < 16; omega⟩

theorem bat_tileOf (b : Fin 4) (i : ℕ) (hi : i < 8) : bat (tileOf b i hi) = b.val := by
  show 2 * (b.val / 2) + (8 * (b.val % 2) + i) / 8 = b.val
  omega

theorem walkAt_tileOf (b : Fin 4) (i : ℕ) (hi : i < 8) (a : ℕ) : walkAt (tileOf b i hi) a = 4096 * (a / 32) + 512 * i + 16 * (a % 32) := by
  show 4096 * (a / 32) + 512 * ((8 * (b.val % 2) + i) % 8) + 16 * (a % 32) = _
  omega

/-- A lane of one of a tile's rows. -/
theorem row_lane {g : FVec Ideal S2560 .f32} (h : AllLap m d g) (b : Fin 4) (q : Fin 5) (i j : ℕ) (hi : i < 8) (hj : j < 16) :
    (at_ g (640 * b.val + 80 * i + 16 * q.val + j) : EReal) = lapOf (Vm m) (Gm m) d ⟨b.val / 2, by have := b.isLt; show b.val / 2 < 2; omega⟩ ⟨8 * (b.val % 2) + i, by show _ < 16; omega⟩ q (ix j) := by
  have hb := b.isLt
  have e := h ⟨b.val / 2, by show b.val / 2 < 2; omega⟩ ⟨8 * (b.val % 2) + i, by show _ < 16; omega⟩ q (ix j)
  have e1 : ((ix j : S16.Idx) 0).val = j := ix_val_lt hj
  rw [e1] at e
  have e2 : 80 * (b.val / 2 * 16 + (8 * (b.val % 2) + i)) + 16 * q.val + j = 640 * b.val + 80 * i + 16 * q.val + j := by omega
  exact (congrArg (fun z => (at_ g z : EReal)) e2.symm).trans e

variable (hQ : InRange (F := Ideal) (Gm m d))
include hQ

/-- A batch's rows sum to the squared lengths of its distinct edges, and to their number. -/
theorem len_sum {g : FVec Ideal S2560 .f32} (h : AllLap m d g) (b : Fin 4) :
    (∑ i ∈ Finset.range 8, ∑ j ∈ Finset.range 16, (at_ g (640 * b.val + 80 * i + 16 * (0 : Fin 5).val + j) : EReal)) =
      ∑ k ∈ keys (tOf (Qm m d) b), sq (pOf (Pm m d) b (k / 2048)) (pOf (Pm m d) b (k % 2048)) := by
  rw [← tK_batch, ← pK_batch, ← sum_edgeTerm, ← sum_walk]
  refine Finset.sum_congr rfl fun i hi => Finset.sum_congr rfl fun j hj => ?_
  have hi := Finset.mem_range.1 hi; have hj := Finset.mem_range.1 hj
  refine ((row_lane m d h b 0 i j hi hj).trans (walk_len (Vm m d) (Gm m d) hQ (tileOf b i hi) 96 le_rfl (ix j))).trans ?_
  refine Finset.sum_congr rfl fun a _ => ?_
  rw [bat_tileOf, walkAt_tileOf, ix_val_lt hj]

theorem cnt_sum {g : FVec Ideal S2560 .f32} (h : AllLap m d g) (b : Fin 4) :
    (∑ i ∈ Finset.range 8, ∑ j ∈ Finset.range 16, (at_ g (640 * b.val + 80 * i + 16 * (1 : Fin 5).val + j) : EReal)) =
      ∑ _k ∈ keys (tOf (Qm m d) b), (1 : EReal) := by
  rw [← tK_batch, ← sum_oneTerm, ← sum_walk]
  refine Finset.sum_congr rfl fun i hi => Finset.sum_congr rfl fun j hj => ?_
  have hi := Finset.mem_range.1 hi; have hj := Finset.mem_range.1 hj
  refine ((row_lane m d h b 1 i j hi hj).trans (walk_cnt (Vm m d) (Gm m d) hQ (tileOf b i hi) 96 le_rfl (ix j))).trans ?_
  refine Finset.sum_congr rfl fun a _ => ?_
  rw [bat_tileOf, walkAt_tileOf, ix_val_lt hj]

set_option maxRecDepth 16384 in
/-- The kernel's edge term. -/
theorem edgeOf_eq {g : FVec Ideal S2560 .f32} (h : AllLap m d g) (x : S_.Idx) : (edgeOf g x : EReal) = edgeLoss (Pm m d) (Qm m d) := by
  have r : ∀ b : Fin 4, (rowsV g (ix2 b 0) : EReal) = _ := fun b => (row_sum g b 0).trans (len_sum m d hQ h b)
  have s : ∀ b : Fin 4, (rowsV g (ix2 b 1) : EReal) = _ := fun b => (row_sum g b 1).trans (cnt_sum m d hQ h b)
  unfold edgeOf
  generalize rowsV g = w at r s ⊢
  pointwise []
  rw [Fin.sum_univ_four]
  have r0 := r 0; have r1 := r 1; have r2 := r 2; have r3 := r 3
  have s0 := s 0; have s1 := s 1; have s2 := s 2; have s3 := s 3
  rw [r0, r1, r2, r3, s0, s1, s2, s3]
  rfl

end Cert.Proof.Tile

end
-- ==== Proof.RefEdge.lean ====
/-
  The edge term of one batch of the reference: the sorted list of the edges' numbers, at an index, and the mean over the
  first of each run of it, which is the mean over the distinct edges (Edges.lean).
-/
module

public import proofs.«01_k».proof.Proof.RefValue
public import proofs.«01_k».proof.Proof.Edges
public import Idealize.ShloMosaic.Lib.SortFacts
public import Idealize.ShloMosaic.Lib.Affine
public import Idealize.ShloMosaic.Lib.Pipeline.Value

@[expose] public section

noncomputable section

namespace Cert.Proof.Ref

open Idealize.ShloMosaic Cert.ReferenceIdeal Cert.ReferenceIdeal.Gen Cert.Proof.Mesh

attribute [local instance] Cert.ReferenceIdeal.Gen.facts₀

/-! ## The steps -/

def idx2 (x : IVec S2 32) : IVec S2x1 32 :=
  broadcastInDim S2x1 ![0] bcast_S2_S2x1_0 (select (cmpi .slt x (broadcastInDim S2 ![] bcast_S_S2 (constantI S_ 32 0#32))) (addi x (broadcastInDim S2 ![] bcast_S_S2 (constantI S_ 32 3#32))) x)
/-- Two columns of the faces. -/
def pair (fc : IVec S4096x3 32) (c : IVec S2 32) : IVec S4096x2 32 :=
  Host.gather gather_S4096x3_S2x1_S4096x2_0_1_n_n_1_1_40961 fc (idx2 c)
/-- All the edges, each with its ends in order. -/
def pairs (fc : IVec S4096x3 32) (c c' c'' : IVec S2 32) : IVec S12288x2 32 :=
  concatenate S12288x2 0 [⟨S4096x2, pair fc c⟩, ⟨S4096x2, pair fc c'⟩, ⟨S4096x2, pair fc c''⟩] concatenates_S4096x2_S4096x2_S4096x2_S12288x2_d0
def edges (e : IVec S12288x2 32) : IVec S12288x2 32 := Host.sort S12288x2 1 comparator_i32_d1 e
def keyV (e : IVec S12288x2 32) : IVec S12288 32 :=
  addi (muli (shapeCast _ (extractStridedSlice S12288x1 ![0, 0] e slices_S12288x2_S12288x1_0_0) shapeCasts_S12288x1_S12288) (broadcastInDim S12288 ![] bcast_S_S12288 (constantI S_ 32 2048#32))) (shapeCast _ (extractStridedSlice S12288x1 ![0, 1] e slices_S12288x2_S12288x1_0_1) shapeCasts_S12288x1_S12288)
def sortV (k : IVec S12288 32) : IVec S12288 32 := Host.sort S12288 0 comparator_i32_d0 k
/-- The numbers of a batch's edges, in order. -/
def list (fc : IVec S4096x3 32) (c c' c'' : IVec S2 32) : IVec S12288 32 := sortV (keyV (edges (pairs fc c c' c'')))
def firstB (k : IVec S12288 32) : IVec S12288 1 :=
  concatenate S12288 0 [⟨S1, (broadcastInDim S1 ![] bcast_S_S1 (constantI S_ 1 1#1))⟩, ⟨S12287, (cmpi .ne (extractStridedSlice S12287 ![1] k slices_S12288_S12287_1) (extractStridedSlice S12287 ![0] k slices_S12288_S12287_0))⟩] concatenates_S1_S12287_S12288_d0
/-- One at the first of each run, and zero at the others. -/
def firstV (k : IVec S12288 32) : FVec Ideal S12288 .f32 := uitofp .f32 (firstB k)
def quo0 (k : IVec S12288 32) : IVec S12288 32 := Host.divsi k (broadcastInDim S12288 ![] bcast_S_S12288 (id (constantI S_ 32 2048#32)))
def quoV (k : IVec S12288 32) : IVec S12288 32 :=
  select (andi (cmpi .ne (signi k) (broadcastInDim S12288 ![] bcast_S_S12288 (signi (id (constantI S_ 32 2048#32))))) (cmpi .ne (Host.remsi k (broadcastInDim S12288 ![] bcast_S_S12288 (id (constantI S_ 32 2048#32)))) (broadcastInDim S12288 ![] bcast_S_S12288 (constantI S_ 32 0#32)))) (subi (quo0 k) (broadcastInDim S12288 ![] bcast_S_S12288 (constantI S_ 32 1#32))) (quo0 k)
def div0 : IVec S_ 32 := select (cmpi .eq (id (constantI S_ 32 2048#32)) (constantI S_ 32 0#32)) (constantI S_ 32 1#32) (id (constantI S_ 32 2048#32))
def rem0 (k : IVec S12288 32) : IVec S12288 32 := Host.remsi k (broadcastInDim S12288 ![] bcast_S_S12288 div0)
def remV (k : IVec S12288 32) : IVec S12288 32 :=
  select (andi (cmpi .ne (cmpi .slt (rem0 k) (broadcastInDim S12288 ![] bcast_S_S12288 (constantI S_ 32 0#32))) (broadcastInDim S12288 ![] bcast_S_S12288 (cmpi .slt div0 (constantI S_ 32 0#32)))) (cmpi .ne (rem0 k) (broadcastInDim S12288 ![] bcast_S_S12288 (constantI S_ 32 0#32)))) (addi (rem0 k) (broadcastInDim S12288 ![] bcast_S_S12288 div0)) (rem0 k)
def spans (vs : FVec Ideal S2048x3 .f32) (k : IVec S12288 32) : FVec Ideal S12288x3 .f32 := subf (rowsE vs (quoV k)) (rowsE vs (remV k))
/-- The mean over the firsts. -/
def meanE (d : FVec Ideal S12288x3 .f32) (w : FVec Ideal S12288 .f32) : FVec Ideal S_ .f32 :=
  Host.divf (Host.reduceAdd (mulf (Host.reduceAdd (mulf d d) (constant S_ .f32 0x00000000#32) reducesTo_S12288x3_S12288_d1 h_S_) w) (constant S_ .f32 0x00000000#32) reducesTo_S12288_S_d0 h_S_)
    (maximumf (Host.reduceAdd w (constant S_ .f32 0x00000000#32) reducesTo_S12288_S_d0 h_S_) (constant S_ .f32 0x3F800000#32))

/-! ## The edges at an index -/

theorem idx2_at (x : IVec S2 32) (n : Fin 2) (h : (x (ix1 n)).toNat < 3) : idx2 x (ix2 n 0) = x (ix1 n) := by
  have e := Routing.wrap_of_lt (x (ix1 n)) (IntOp.addi (x (ix1 n)) 3#32) (by show _ < 2 ^ 31; omega)
  pointwise [idx2]
  exact e

theorem pair_at (x : IVec S4096x3 32) (c : IVec S2 32) (n : Fin 4096) (k : Fin 2) (b : Fin 3) (hc : c (ix1 k) = BitVec.ofNat 32 b.val) :
    pair x c (ix2 n k) = x (ix2 n b) := by
  have hb := b.isLt
  have h : idx2 c (ix2 k 0) = BitVec.ofNat 32 b.val := (idx2_at c k (by rw [hc, BitVec.toNat_ofNat]; omega)).trans hc
  unfold pair Host.gather
  generalize idx2 c = idx at h
  refine congrArg x (funext fun a => Fin.ext ?_)
  match a with
  | ⟨0, _⟩ =>
    show 0 + 0 + n.val = n.val
    omega
  | ⟨1, _⟩ =>
    show min (idx _).toInt.toNat (3 - 1) + 0 + 0 = b.val
    have e : GatherDims.siIdx gather_S4096x3_S2x1_S4096x2_0_1_n_n_1_1_40961 (ix2 n k : S4096x2.Idx) ⟨0, by decide⟩ = (ix2 k 0 : S2x1.Idx) := by
      funext c; apply Fin.ext
      match c with
      | ⟨0, _⟩ => rfl
      | ⟨1, _⟩ => rfl
    refine (congrArg (fun z => min (idx z).toInt.toNat 2 + 0 + 0) e).trans ?_
    show min (idx (ix2 k 0)).toInt.toNat 2 + 0 + 0 = b.val
    rw [h, StableHlo.Predicate.toInt_ofNat_small b.val (by omega)]
    omega

/-- The corners that the three lists name. -/
def c01 : Fin 2 → Fin 3 := ![0, 1]
def c12 : Fin 2 → Fin 3 := ![1, 2]
def c20 : Fin 2 → Fin 3 := ![2, 0]

section
variable (fc : IVec S4096x3 32) (c c' c'' : IVec S2 32)
variable (h0 : ∀ k, c (ix1 k) = BitVec.ofNat 32 (c01 k).val) (h1 : ∀ k, c' (ix1 k) = BitVec.ofNat 32 (c12 k).val) (h2 : ∀ k, c'' (ix1 k) = BitVec.ofNat 32 (c20 k).val)
include h0 h1 h2

set_option maxRecDepth 16384 in
theorem pairs_at (u : Fin 12288) (k : Fin 2) :
    pairs fc c c' c'' (ix2 u k) = fc (ix2 (⟨u.val % 4096, Nat.mod_lt _ (by decide)⟩ : Fin 4096) (if u.val / 4096 = 0 then c01 k else if u.val / 4096 = 1 then c12 k else c20 k)) := by
  have hu := u.isLt
  pointwise [pairs]
  simp only [pair_at fc c _ k _ (h0 k), pair_at fc c' _ k _ (h1 k), pair_at fc c'' _ k _ (h2 k)]
  split_ifs <;> refine congrArg₂ (fun (w : Fin 4096) z => fc (ix2 w z)) (Fin.ext ?_) ?_ <;> first | (dsimp only; omega) | (split_ifs <;> first | rfl | omega)

theorem pairs_left (u : Fin 12288) : (pairs fc c c' c'' (ix2 u 0)).toNat = endL (tV fc) u.val := by
  rw [pairs_at fc c c' c'' h0 h1 h2 u 0]
  unfold endL tV
  refine congrArg BitVec.toNat (congrArg fc (congrArg₂ ix2 (Fin.ext ?_) rfl))
  show u.val % 4096 = u.val % 4096 % 4096
  omega

theorem pairs_right (u : Fin 12288) : (pairs fc c c' c'' (ix2 u 1)).toNat = endR (tV fc) u.val := by
  rw [pairs_at fc c c' c'' h0 h1 h2 u 1]
  unfold endR tV
  refine congrArg BitVec.toNat (congrArg fc (congrArg₂ ix2 (Fin.ext ?_) rfl))
  show u.val % 4096 = u.val % 4096 % 4096
  omega

end

theorem slt_nat {x y : BitVec 32} (hx : x.toNat < 2147483648) (hy : y.toNat < 2147483648) : IntOp.cmpi .slt x y = 1#1 ↔ x.toNat < y.toNat := by
  rw [IntOp.cmpi_slt, BitVec.toInt_eq_toNat_of_lt (by omega), BitVec.toInt_eq_toNat_of_lt (by omega)]; omega

/-- A stable sort of two. -/
theorem sorted_two : ∀ b : Fin 2 → Fin 2 → Bool, sortedFrom b 0 = (if b 1 0 then 1 else 0) ∧ sortedFrom b 1 = (if b 1 0 then 0 else 1) := by
  intro b
  have e : sortPositions 2 b = if b 1 0 then [1, 0] else [0, 1] := by
    show (if b 1 0 then (1 : Fin 2) :: [0] else 0 :: 1 :: []) = _
    rfl
  unfold sortedFrom
  by_cases h : b 1 0 = true
  · rw [if_pos h] at e
    refine ⟨(List.get_of_eq e _).trans ?_, (List.get_of_eq e _).trans ?_⟩
    · rw [if_pos h]; rfl
    · rw [if_pos h]; rfl
  · rw [if_neg h] at e
    refine ⟨(List.get_of_eq e _).trans ?_, (List.get_of_eq e _).trans ?_⟩
    · rw [if_neg h]; rfl
    · rw [if_neg h]; rfl

theorem along_two (u : Fin 12288) (k k' : Fin 2) : (ix2 u k : S12288x2.Idx).along 1 k' = (ix2 u k' : S12288x2.Idx) := by
  funext a
  match a with
  | ⟨0, _⟩ => rfl
  | ⟨1, _⟩ => rfl

theorem edges_from (e : IVec S12288x2 32) (u : Fin 12288) (k : Fin 2) :
    edges e (ix2 u k) = e (ix2 u (sortedFrom (fun a b => comparator_i32_d1 (e (ix2 u a)) (e (ix2 u b)) == 1#1) k)) := by
  have hh : edges e (ix2 u k) = e ((ix2 u k : S12288x2.Idx).along 1 (sortedFrom (fun a b : Fin 2 => comparator_i32_d1 (e ((ix2 u k : S12288x2.Idx).along 1 a)) (e ((ix2 u k : S12288x2.Idx).along 1 b)) == 1#1) k)) := rfl
  rw [hh]
  simp only [along_two]
  exact congrArg e (along_two u k _)

theorem edges_at (e : IVec S12288x2 32) (u : Fin 12288) (h0 : (e (ix2 u 0)).toNat < 2048) (h1 : (e (ix2 u 1)).toNat < 2048) :
    (edges e (ix2 u 0)).toNat = min (e (ix2 u 0)).toNat (e (ix2 u 1)).toNat ∧ (edges e (ix2 u 1)).toNat = max (e (ix2 u 0)).toNat (e (ix2 u 1)).toNat := by
  rw [edges_from, edges_from]
  obtain ⟨a, b⟩ := sorted_two (fun a b => comparator_i32_d1 (e (ix2 u a)) (e (ix2 u b)) == 1#1)
  rw [a, b]
  have hs : (comparator_i32_d1 (e (ix2 u 1)) (e (ix2 u 0)) == 1#1) = true ↔ (e (ix2 u 1)).toNat < (e (ix2 u 0)).toNat := by
    rw [beq_iff_eq]
    exact slt_nat (by omega) (by omega)
  by_cases h : (comparator_i32_d1 (e (ix2 u 1)) (e (ix2 u 0)) == 1#1) = true
  · have := hs.1 h
    rw [if_pos h, if_pos h]
    exact ⟨(Nat.min_eq_right this.le).symm, (Nat.max_eq_left this.le).symm⟩
  · have := fun z => h (hs.2 z)
    rw [if_neg h, if_neg h]
    exact ⟨(Nat.min_eq_left (Nat.le_of_not_lt this)).symm, (Nat.max_eq_right (Nat.le_of_not_lt this)).symm⟩

set_option maxRecDepth 16384 in
theorem keyV_at (e : IVec S12288x2 32) (u : Fin 12288) (h0 : (e (ix2 u 0)).toNat < 2048) (h1 : (e (ix2 u 1)).toNat < 2048) :
    (keyV e (ix1 u)).toNat = (e (ix2 u 0)).toNat * 2048 + (e (ix2 u 1)).toNat := by
  have hh : keyV e (ix1 u) = e (ix2 u 0) * 2048#32 + e (ix2 u 1) := by
    pointwise [keyV]
    rfl
  rw [hh, BitVec.toNat_add, BitVec.toNat_mul, show (2048#32 : BitVec 32).toNat = 2048 from rfl]
  omega

/-! ## The sorted list -/

section
variable (k : IVec S12288 32) (hk : ∀ u : Fin 12288, (k (ix1 u)).toNat < 4194304)

/-- Where the sorted list's words come from. -/
def src (u : Fin 12288) : Fin 12288 := sortedFrom (fun a b => comparator_i32_d0 (k (ix1 a)) (k (ix1 b)) == 1#1) u

theorem along_one (u v : Fin 12288) : (ix1 u : S12288.Idx).along 0 v = (ix1 v : S12288.Idx) := by
  funext a
  match a with
  | ⟨0, _⟩ => rfl

theorem sortV_at (u : Fin 12288) : sortV k (ix1 u) = k (ix1 (src k u)) := by
  have hh : sortV k (ix1 u) = k ((ix1 u : S12288.Idx).along 0 (sortedFrom (fun a b : Fin 12288 => comparator_i32_d0 (k ((ix1 u : S12288.Idx).along 0 a)) (k ((ix1 u : S12288.Idx).along 0 b)) == 1#1) u)) := rfl
  rw [hh]
  simp only [along_one]
  exact congrArg k (along_one u _)

include hk in
theorem sortV_lt (u : Fin 12288) : (sortV k (ix1 u)).toNat < 4194304 := by rw [sortV_at]; exact hk _

include hk in
theorem sortV_mono (u v : Fin 12288) (h : u < v) : (sortV k (ix1 u)).toNat ≤ (sortV k (ix1 v)).toNat := by
  rw [sortV_at, sortV_at]
  have cmp : ∀ a b : Fin 12288, (comparator_i32_d0 (k (ix1 a)) (k (ix1 b)) == 1#1) = true ↔ (k (ix1 a)).toNat < (k (ix1 b)).toNat := fun a b => by
    rw [beq_iff_eq]
    exact slt_nat (by have := hk a; omega) (by have := hk b; omega)
  have cmpF : ∀ a b : Fin 12288, (comparator_i32_d0 (k (ix1 a)) (k (ix1 b)) == 1#1) = false ↔ (k (ix1 b)).toNat ≤ (k (ix1 a)).toNat := fun a b => by
    rw [← Bool.not_eq_true, cmp]; omega
  have key := sortedFrom_noInversion (fun a b => comparator_i32_d0 (k (ix1 a)) (k (ix1 b)) == 1#1) (fun a b => comparator_i32_d0 (k (ix1 a)) (k (ix1 b)) == 1#1)
    (fun a b hab => (cmpF b a).2 (Nat.le_of_lt ((cmp a b).1 hab))) (fun a b hab => hab)
    (fun a b c hab hbc => (cmpF a c).2 (((cmpF b c).1 hbc).trans ((cmpF a b).1 hab))) u v h
  exact (cmpF _ _).1 key

/-- The list as a list of numbers. -/
def numV (r : ℕ) : ℕ := (sortV k (ix1 (⟨r % 12288, Nat.mod_lt _ (by decide)⟩ : Fin 12288))).toNat

theorem numV_of (u : Fin 12288) : numV k u.val = (sortV k (ix1 u)).toNat :=
  congrArg (fun z => (sortV k (ix1 z)).toNat) (Fin.ext (Nat.mod_eq_of_lt u.isLt))

include hk in
theorem numV_mono (r r' : ℕ) (h : r ≤ r') (hr : r' < 12288) : numV k r ≤ numV k r' := by
  rcases Nat.lt_or_eq_of_le h with h | h
  · exact (numV_of k ⟨r, by omega⟩).trans_le ((sortV_mono k hk ⟨r, by omega⟩ ⟨r', hr⟩ h).trans_eq (numV_of k ⟨r', hr⟩).symm)
  · rw [h]

/-- Its numbers are the numbers there were. -/
theorem numV_image (κ : ℕ → ℕ) (hκ : ∀ u : Fin 12288, (k (ix1 u)).toNat = κ u.val) : (Finset.range 12288).image (numV k) = (Finset.range 12288).image κ := by
  ext z
  simp only [Finset.mem_image, Finset.mem_range]
  constructor
  · rintro ⟨r, hr, rfl⟩
    exact ⟨(src k ⟨r, hr⟩).val, (src k ⟨r, hr⟩).isLt, (hκ _).symm.trans ((congrArg BitVec.toNat (sortV_at k ⟨r, hr⟩)).symm.trans (numV_of k ⟨r, hr⟩).symm)⟩
  · rintro ⟨r, hr, rfl⟩
    obtain ⟨u, hu⟩ := sortedFrom_surjective (fun a b => comparator_i32_d0 (k (ix1 a)) (k (ix1 b)) == 1#1) ⟨r, hr⟩
    refine ⟨u.val, u.isLt, ?_⟩
    rw [numV_of, sortV_at, show src k u = ⟨r, hr⟩ from hu, hκ]

end

/-! ## The numbers' ends -/

theorem quo_word {x : BitVec 32} (hx : x.toNat < 4194304) : (IntOp.divsi .host x 2048#32).toNat = x.toNat / 2048 := by
  have hm : x.msb = false := by rw [BitVec.msb_eq_false_iff_two_mul_lt]; omega
  unfold IntOp.divsi
  rw [if_neg (IntOp.not_corner_of_pos (by decide)), BitVec.sdiv_eq, hm, show (2048#32 : BitVec 32).msb = false from by decide]
  show (x / 2048#32).toNat = _
  rw [BitVec.toNat_udiv]; rfl

theorem rem_word {x : BitVec 32} (hx : x.toNat < 4194304) : (IntOp.remsi .host x 2048#32).toNat = x.toNat % 2048 :=
  IntOp.toNat_remsi .host (by omega) 2048 (by decide) (by decide)

theorem quoV_at (k : IVec S12288 32) (u : Fin 12288) (h : (k (ix1 u)).toNat < 4194304) : (quoV k (ix1 u)).toNat = (k (ix1 u)).toNat / 2048 := by
  have e : quoV k (ix1 u) = Scalar.select (IntOp.andi (IntOp.cmpi .ne (signi k (ix1 u)) (if (2048#32 : BitVec 32) = 0 then 0 else if (2048#32 : BitVec 32).msb then -1 else 1)) (IntOp.cmpi .ne (IntOp.remsi .host (k (ix1 u)) 2048#32) 0#32))
      (IntOp.subi (IntOp.divsi .host (k (ix1 u)) 2048#32) 1#32) (IntOp.divsi .host (k (ix1 u)) 2048#32) := rfl
  rw [e, show (if (2048#32 : BitVec 32) = 0 then 0 else if (2048#32 : BitVec 32).msb then -1 else 1 : BitVec 32) = 1#32 from by decide]
  have hn : ¬ IntOp.andi (IntOp.cmpi .ne (signi k (ix1 u)) 1#32) (IntOp.cmpi .ne (IntOp.remsi .host (k (ix1 u)) 2048#32) 0#32) = 1#1 := by
    rw [IntOp.andi_eq_one, IntOp.cmpi_ne, IntOp.cmpi_ne]
    rintro ⟨a, b⟩
    have hm : (k (ix1 u)).msb = false := by rw [BitVec.msb_eq_false_iff_two_mul_lt]; omega
    have hs : signi k (ix1 u) = if k (ix1 u) = 0 then 0 else 1 := by
      show (if k (ix1 u) = 0 then 0 else if (k (ix1 u)).msb then -1 else 1) = _
      rw [hm]; rfl
    by_cases z : k (ix1 u) = 0
    · refine b ?_
      rw [z]; decide
    · exact a (by rw [hs, if_neg z]; rfl)
  rw [show ∀ p q : BitVec 32, Scalar.select (IntOp.andi (IntOp.cmpi .ne (signi k (ix1 u)) 1#32) (IntOp.cmpi .ne (IntOp.remsi .host (k (ix1 u)) 2048#32) 0#32)) p q = q from fun p q => if_neg hn]
  exact quo_word h

theorem remV_at (k : IVec S12288 32) (u : Fin 12288) (h : (k (ix1 u)).toNat < 4194304) : (remV k (ix1 u)).toNat = (k (ix1 u)).toNat % 2048 := by
  have e : remV k (ix1 u) = Scalar.select (IntOp.andi (IntOp.cmpi .ne (IntOp.cmpi .slt (IntOp.remsi .host (k (ix1 u)) 2048#32) 0#32) (IntOp.cmpi .slt 2048#32 0#32)) (IntOp.cmpi .ne (IntOp.remsi .host (k (ix1 u)) 2048#32) 0#32))
      (IntOp.addi (IntOp.remsi .host (k (ix1 u)) 2048#32) 2048#32) (IntOp.remsi .host (k (ix1 u)) 2048#32) := rfl
  rw [e]
  have hr := rem_word h
  generalize IntOp.remsi .host (k (ix1 u)) 2048#32 = r at hr ⊢
  have hlt : IntOp.cmpi .slt r 0#32 = 0#1 := by
    have : ¬ IntOp.cmpi .slt r 0#32 = 1#1 := by
      rw [slt_nat (by omega) (by decide)]; simp
    revert this
    generalize IntOp.cmpi .slt r 0#32 = z
    revert z; decide
  rw [hlt]
  refine (congrArg BitVec.toNat (if_neg ?_)).trans hr
  rw [show (1 : BitVec 1) = 1#1 from rfl, IntOp.andi_eq_one]
  rintro ⟨a, -⟩
  revert a; decide

/-! ## The firsts -/

set_option maxRecDepth 16384 in
theorem firstB_at (k : IVec S12288 32) (u : Fin 12288) :
    firstB k (ix1 u) = if u.val ≠ 0 ∧ k (ix1 (⟨(u.val - 1) % 12288, Nat.mod_lt _ (by decide)⟩ : Fin 12288)) = k (ix1 u) then 0#1 else 1#1 := by
  have hu := u.isLt
  unfold firstB
  by_cases z : u.val = 0
  · rw [if_neg (fun h => h.1 z)]
    refine (concatenate_apply_piece 0 _ _ (ix1 u : S12288.Idx) 0 (by simp) S1 (broadcastInDim S1 ![] bcast_S_S1 (constantI S_ 1 1#1)) rfl rfl 0 rfl (ix1 0) ?_ ?_).trans rfl
    · intro b hb
      match b with
      | ⟨0, _⟩ => exact absurd rfl hb
    · show 0 + 0 = u.val
      omega
  · refine (concatenate_apply_piece 0 _ _ (ix1 u : S12288.Idx) 1 (by simp) S12287 _ rfl rfl 1 rfl (ix1 (⟨u.val - 1, by omega⟩ : Fin 12287)) ?_ ?_).trans ?_
    · intro b hb
      match b with
      | ⟨0, _⟩ => exact absurd rfl hb
    · show 1 + (u.val - 1) = u.val
      omega
    · have e1 : extractStridedSlice S12287 ![1] k slices_S12288_S12287_1 (ix1 (⟨u.val - 1, by omega⟩ : Fin 12287)) = k (ix1 u) := by
        refine congrArg k (funext fun a => Fin.ext ?_)
        match a with
        | ⟨0, _⟩ => show 1 + (u.val - 1) = u.val; omega
      have e0 : extractStridedSlice S12287 ![0] k slices_S12288_S12287_0 (ix1 (⟨u.val - 1, by omega⟩ : Fin 12287)) = k (ix1 (⟨(u.val - 1) % 12288, Nat.mod_lt _ (by decide)⟩ : Fin 12288)) := by
        refine congrArg k (funext fun a => Fin.ext ?_)
        match a with
        | ⟨0, _⟩ => show 0 + (u.val - 1) = (u.val - 1) % 12288; omega
      show IntOp.cmpi .ne (extractStridedSlice S12287 ![1] k slices_S12288_S12287_1 (ix1 (⟨u.val - 1, by omega⟩ : Fin 12287))) (extractStridedSlice S12287 ![0] k slices_S12288_S12287_0 (ix1 (⟨u.val - 1, by omega⟩ : Fin 12287))) = _
      rw [e1, e0]
      by_cases h : k (ix1 (⟨(u.val - 1) % 12288, Nat.mod_lt _ (by decide)⟩ : Fin 12288)) = k (ix1 u)
      · rw [if_pos ⟨z, h⟩, h]
        show BitVec.ofBool (k (ix1 u) != k (ix1 u)) = 0#1
        rw [bne_self_eq_false]; rfl
      · rw [if_neg (fun hh => h hh.2)]
        exact IntOp.cmpi_ne.2 (fun hh => h hh.symm)

/-- A weight of the sorted list. -/
theorem firstV_at (k : IVec S12288 32) (u : Fin 12288) :
    (firstV (sortV k) (ix1 u) : EReal) = if u.val ≠ 0 ∧ numV k (u.val - 1) = numV k u.val then 0 else 1 := by
  have e : (firstV (sortV k) (ix1 u) : EReal) = (((firstB (sortV k) (ix1 u)).toNat : ℝ) : EReal) := rfl
  rw [e, firstB_at]
  have hi : (u.val ≠ 0 ∧ sortV k (ix1 (⟨(u.val - 1) % 12288, Nat.mod_lt _ (by decide)⟩ : Fin 12288)) = sortV k (ix1 u)) ↔ (u.val ≠ 0 ∧ numV k (u.val - 1) = numV k u.val) := by
    refine and_congr_right fun _ => ?_
    rw [numV_of]
    exact BitVec.toNat_inj.symm
  by_cases h : u.val ≠ 0 ∧ numV k (u.val - 1) = numV k u.val
  · rw [if_pos h, if_pos (hi.2 h)]; simp
  · rw [if_neg h, if_neg (fun hh => h (hi.1 hh))]; simp

/-! ## The mean -/

set_option maxRecDepth 16384 in
theorem meanE_at (d : FVec Ideal S12288x3 .f32) (w : FVec Ideal S12288 .f32) (x : S_.Idx) :
    (meanE d w x : EReal) = Ideal.div (∑ u : Fin 12288, ((((d (ix2 u 0) : EReal) * d (ix2 u 0)) + (d (ix2 u 1) : EReal) * d (ix2 u 1)) + (d (ix2 u 2) : EReal) * d (ix2 u 2)) * (w (ix1 u) : EReal))
      (max (∑ u : Fin 12288, (w (ix1 u) : EReal)) 1) := by
  pointwise [meanE]
  simp only [Fin.sum_univ_three, zero_add]

section
variable (vs : FVec Ideal S2048x3 .f32) (k : IVec S12288 32) (hk : ∀ u : Fin 12288, (k (ix1 u)).toNat < 4194304)
include hk

theorem spans_at (u : Fin 12288) (q : Fin 3) :
    (spans vs (sortV k) (ix2 u q) : EReal) = pV vs (numV k u.val / 2048) q - pV vs (numV k u.val % 2048) q := by
  have hu := sortV_lt k hk u
  have e1 := quoV_at (sortV k) u hu
  have e2 := remV_at (sortV k) u hu
  have e : (spans vs (sortV k) (ix2 u q) : EReal) = (rowsE vs (quoV (sortV k)) (ix2 u q) : EReal) - rowsE vs (remV (sortV k)) (ix2 u q) := rfl
  rw [e, rowsE_val vs _ u q (by rw [e1]; omega), rowsE_val vs _ u q (by rw [e2]; omega), e1, e2, numV_of]

theorem meanE_list (t : ℕ → Fin 3 → ℕ) (hκ : ∀ u : Fin 12288, (k (ix1 u)).toNat = key t u.val) (x : S_.Idx) :
    (meanE (spans vs (sortV k)) (firstV (sortV k)) x : EReal) = edgeMean (pV vs) t := by
  rw [meanE_at]
  unfold edgeMean keys
  rw [← numV_image k (key t) hκ, ← sum_runs (numV k) (fun z => sq (pV vs (z / 2048)) (pV vs (z % 2048))) 12288 (numV_mono k hk),
    ← sum_runs (numV k) (fun _ => (1 : EReal)) 12288 (numV_mono k hk), Finset.sum_range, Finset.sum_range]
  refine congrArg₂ Ideal.div ?_ ?_
  · refine Finset.sum_congr rfl fun u _ => ?_
    rw [firstV_at, spans_at vs k hk, spans_at vs k hk, spans_at vs k hk]
    by_cases h : u.val ≠ 0 ∧ numV k (u.val - 1) = numV k u.val
    · rw [if_pos h, if_pos h, mul_zero]
    · rw [if_neg h, if_neg h, mul_one]; rfl
  · refine congrArg (fun z : EReal => max z 1) (Finset.sum_congr rfl fun u _ => ?_)
    exact firstV_at k u

end

section
variable (fc : IVec S4096x3 32) (hf : ∀ x, (fc x).toNat < 2048) (c c' c'' : IVec S2 32)
variable (h0 : ∀ k, c (ix1 k) = BitVec.ofNat 32 (c01 k).val) (h1 : ∀ k, c' (ix1 k) = BitVec.ofNat 32 (c12 k).val) (h2 : ∀ k, c'' (ix1 k) = BitVec.ofNat 32 (c20 k).val)
include hf h0 h1 h2

theorem keys_at (u : Fin 12288) : (keyV (edges (pairs fc c c' c'')) (ix1 u)).toNat = key (tV fc) u.val := by
  have l := pairs_left fc c c' c'' h0 h1 h2 u
  have r := pairs_right fc c c' c'' h0 h1 h2 u
  have hl : (pairs fc c c' c'' (ix2 u 0)).toNat < 2048 := by rw [l]; exact hf _
  have hr : (pairs fc c c' c'' (ix2 u 1)).toNat < 2048 := by rw [r]; exact hf _
  obtain ⟨a, b⟩ := edges_at (pairs fc c c' c'') u hl hr
  rw [keyV_at _ u (by rw [a]; omega) (by rw [b]; omega), a, b, l, r]
  rfl

theorem keys_lt (u : Fin 12288) : (keyV (edges (pairs fc c c' c'')) (ix1 u)).toNat < 4194304 := by
  rw [keys_at fc hf c c' c'' h0 h1 h2 u]
  have a : endL (tV fc) u.val < 2048 := hf _
  have b : endR (tV fc) u.val < 2048 := hf _
  unfold key
  omega

/-- The edge term of one batch. -/
theorem edge_batch (vs : FVec Ideal S2048x3 .f32) (x : S_.Idx) :
    (meanE (spans vs (list fc c c' c'')) (firstV (list fc c c' c'')) x : EReal) = edgeMean (pV vs) (tV fc) :=
  meanE_list vs _ (keys_lt fc hf c c' c'' h0 h1 h2) (tV fc) (keys_at fc hf c c' c'' h0 h1 h2) x

end

end Cert.Proof.Ref

end
-- ==== Proof.RefEdgeLoss.lean ====
/-
  The reference's edge term over the extended reals: its four batches, and the mean.
-/
module

public import proofs.«01_k».proof.Proof.RefEdge
public import proofs.«01_k».proof.Proof.RefLoss
public import proofs.«01_k».proof.Proof.KernelEdge

@[expose] public section

noncomputable section

namespace Cert.Proof.Ref

open Idealize.ShloMosaic Cert.ReferenceIdeal Cert.ReferenceIdeal.Gen Cert.ReferenceIdeal.Value Cert.Proof.Mesh
open Idealize.ShloMosaic.StableHlo

attribute [local instance] Cert.ReferenceIdeal.Gen.facts₀

variable (V : Valuation τ sig (Elt Ideal))

/-- Each batch's sorted list of edges, of its own faces. -/
theorem list0 : (res_main_v32 V : IVec S12288 32) = list (res_main_v276 V) (res_main_c V) (res_main_c_0 V) (res_main_c_1 V) := rfl
theorem list1 : (res_main_v100 V : IVec S12288 32) = list (res_main_v442 V) (res_main_c_2 V) (res_main_c_3 V) (res_main_c_4 V) := rfl
theorem list2 : (res_main_v168 V : IVec S12288 32) = list (res_main_v608 V) (res_main_c_5 V) (res_main_c_6 V) (res_main_c_7 V) := rfl
theorem list3 : (res_main_v236 V : IVec S12288 32) = list (res_main_v774 V) (res_main_c_8 V) (res_main_c_9 V) (res_main_c_10 V) := rfl
/-- Its edges' vectors, of its own vertices. -/
theorem spans0 : (res_main_v59 V : FVec Ideal S12288x3 .f32) = spans (res_main_v274 V) (res_main_v32 V) := rfl
theorem spans1 : (res_main_v127 V : FVec Ideal S12288x3 .f32) = spans (res_main_v440 V) (res_main_v100 V) := rfl
theorem spans2 : (res_main_v195 V : FVec Ideal S12288x3 .f32) = spans (res_main_v606 V) (res_main_v168 V) := rfl
theorem spans3 : (res_main_v263 V : FVec Ideal S12288x3 .f32) = spans (res_main_v772 V) (res_main_v236 V) := rfl
/-- Its firsts. -/
theorem first0 : (res_main_v38 V : FVec Ideal S12288 .f32) = firstV (res_main_v32 V) := rfl
theorem first1 : (res_main_v106 V : FVec Ideal S12288 .f32) = firstV (res_main_v100 V) := rfl
theorem first2 : (res_main_v174 V : FVec Ideal S12288 .f32) = firstV (res_main_v168 V) := rfl
theorem first3 : (res_main_v242 V : FVec Ideal S12288 .f32) = firstV (res_main_v236 V) := rfl

/-- The three lists of two. -/
theorem lit01 (k : Fin 2) : lit0 (S2.rowMajor (ix1 k)) = BitVec.ofNat 32 (c01 k).val := by
  match k with
  | 0 => rfl
  | 1 => rfl
theorem lit12' (k : Fin 2) : lit1 (S2.rowMajor (ix1 k)) = BitVec.ofNat 32 (c12 k).val := by
  match k with
  | 0 => rfl
  | 1 => rfl
theorem lit20 (k : Fin 2) : lit2 (S2.rowMajor (ix1 k)) = BitVec.ofNat 32 (c20 k).val := by
  match k with
  | 0 => rfl
  | 1 => rfl

/-- The mean over one batch. -/
theorem edge_mean (P : FVec Ideal S4x2048x3 .f32) (Q : IVec S4x4096x3 32) (hQ : ∀ x, (Q x).toNat < 2048) (b : Fin 4) (vs : FVec Ideal S2048x3 .f32) (fc : IVec S4096x3 32)
    (hv : ∀ v q, vs (ix2 v q) = P (ix3 b v q)) (hf : ∀ n k, fc (ix2 n k) = Q (ix3 b n k)) (c c' c'' : IVec S2 32)
    (h0 : ∀ k, c (ix1 k) = BitVec.ofNat 32 (c01 k).val) (h1 : ∀ k, c' (ix1 k) = BitVec.ofNat 32 (c12 k).val) (h2 : ∀ k, c'' (ix1 k) = BitVec.ofNat 32 (c20 k).val) (x : S_.Idx) :
    (meanE (spans vs (list fc c c' c'')) (firstV (list fc c c' c'')) x : EReal) = edgeMean (pOf P b) (tOf Q b) := by
  have h : ∀ i, (fc i).toNat < 2048 := fun i => by
    have e : fc i = Q (ix3 b (i 0) (i 1)) := (congrArg fc (ix2_eta i)).symm.trans (hf (i 0) (i 1))
    rw [e]; exact hQ _
  rw [edge_batch fc h c c' c'' h0 h1 h2 vs x, show pV vs = pOf P b from funext fun v => funext fun q => hv _ q,
    show tV fc = tOf Q b from funext fun n => funext fun k => congrArg BitVec.toNat (hf _ k)]

/-- The reference's edge term. -/
def edgeResult : FVec Ideal S_ .f32 :=
  Host.divf (addf (addf (addf (addf (constant S_ .f32 0x00000000#32) (meanE (res_main_v59 V) (res_main_v38 V))) (meanE (res_main_v127 V) (res_main_v106 V))) (meanE (res_main_v195 V) (res_main_v174 V))) (meanE (res_main_v263 V) (res_main_v242 V))) (constant S_ .f32 0x40800000#32)

theorem edgeResult_eq (hQ : ∀ x, (Q0 V x).toNat < 2048) (x : S_.Idx) : (edgeResult V x : EReal) = edgeLoss (P0 V) (Q0 V) := by
  have e : (edgeResult V x : EReal) = Ideal.div ((((Ideal.ofBits .f32 0x00000000#32 + meanE (res_main_v59 V) (res_main_v38 V) x) + meanE (res_main_v127 V) (res_main_v106 V) x) + meanE (res_main_v195 V) (res_main_v174 V) x) + meanE (res_main_v263 V) (res_main_v242 V) x) four := rfl
  rw [e, Ideal.ofBits_zero_f32, zero_add, spans0, spans1, spans2, spans3, first0, first1, first2, first3, list0, list1, list2, list3,
    edge_mean (P0 V) (Q0 V) hQ 0 _ _ (verts0 V) (faces0 V) _ _ _ lit01 lit12' lit20,
    edge_mean (P0 V) (Q0 V) hQ 1 _ _ (verts1 V) (faces1 V) _ _ _ lit01 lit12' lit20,
    edge_mean (P0 V) (Q0 V) hQ 2 _ _ (verts2 V) (faces2 V) _ _ _ lit01 lit12' lit20,
    edge_mean (P0 V) (Q0 V) hQ 3 _ _ (verts3 V) (faces3 V) _ _ _ lit01 lit12' lit20]
  rfl

end Cert.Proof.Ref

end
-- ==== Proof.Pairs.lean ====
/-
  The pairs of faces that share an edge: each edge with the next that has the same ends, found in the order the edges come or
  as the neighbours of a stably sorted list; and the loss that the angles between the two faces give.
-/
module

public import proofs.«01_k».proof.Proof.Edges

@[expose] public section

noncomputable section

namespace Cert.Proof.Mesh

open Idealize.ShloMosaic

/-! ## The next equal one -/

open Classical in
/-- The next edge with the same number, and a number above all edges if there is none. -/
def nxt (κ : ℕ → ℕ) (t : ℕ) : ℕ := if h : ∃ t', t < t' ∧ t' < 12288 ∧ κ t' = κ t then Nat.find h else 16384

theorem nxt_some {κ : ℕ → ℕ} {t u : ℕ} (h1 : t < u) (h2 : u < 12288) (h3 : κ u = κ t) (h4 : ∀ v, t < v → v < u → κ v ≠ κ t) : nxt κ t = u := by
  classical
  have h : ∃ t', t < t' ∧ t' < 12288 ∧ κ t' = κ t := ⟨u, h1, h2, h3⟩
  unfold nxt
  rw [dif_pos h, Nat.find_eq_iff]
  exact ⟨⟨h1, h2, h3⟩, fun v hv hh => h4 v hh.1 hv hh.2.2⟩

theorem nxt_none {κ : ℕ → ℕ} {t : ℕ} (h : ∀ v, t < v → v < 12288 → κ v ≠ κ t) : nxt κ t = 16384 := by
  unfold nxt
  rw [dif_neg]
  rintro ⟨v, a, b, c⟩
  exact h v a b c

theorem nxt_lt {κ : ℕ → ℕ} {t : ℕ} (h : nxt κ t < 16384) : t < nxt κ t ∧ nxt κ t < 12288 ∧ κ (nxt κ t) = κ t := by
  classical
  unfold nxt at h ⊢
  by_cases hh : ∃ t', t < t' ∧ t' < 12288 ∧ κ t' = κ t
  · rw [dif_pos hh]
    exact Nat.find_spec hh
  · rw [dif_neg hh] at h
    omega

/-- A sum over each edge and the next equal one is the sum over the neighbours of the stably sorted list `σ` that are equal. -/
theorem sum_pairs {M : Type} [AddCommMonoid M] (κ σ : ℕ → ℕ) (f : ℕ → ℕ → M) (hσ : ∀ r, r < 12288 → σ r < 12288)
    (hs : ∀ t, t < 12288 → ∃ r, r < 12288 ∧ σ r = t)
    (ho : ∀ r r', r < r' → r' < 12288 → κ (σ r) < κ (σ r') ∨ κ (σ r) = κ (σ r') ∧ σ r < σ r') :
    (∑ t ∈ Finset.range 12288, if nxt κ t < 16384 then f t (nxt κ t) else 0) =
      ∑ r ∈ Finset.range 12287, if κ (σ (r + 1)) = κ (σ r) then f (σ r) (σ (r + 1)) else 0 := by
  have inj : ∀ r r', r < r' → r' < 12288 → σ r ≠ σ r' := fun r r' h h' e => by
    rcases ho r r' h h' with a | a
    · rw [e] at a; omega
    · omega
  have later : ∀ r, r < 12288 → ∀ v, σ r < v → v < 12288 → κ v = κ (σ r) → ∃ r', r < r' ∧ r' < 12288 ∧ σ r' = v := fun r hr v h1 h2 h3 => by
    obtain ⟨r', hr', e⟩ := hs v h2
    refine ⟨r', ?_, hr', e⟩
    rcases Nat.lt_trichotomy r r' with q | q | q
    · exact q
    · rw [q] at h1; omega
    · rcases ho r' r q hr with a | a
      · rw [e] at a; omega
      · rw [e] at a; omega
  have e0 : (∑ t ∈ Finset.range 12288, if nxt κ t < 16384 then f t (nxt κ t) else 0) =
      ∑ r ∈ Finset.range 12288, if nxt κ (σ r) < 16384 then f (σ r) (nxt κ (σ r)) else 0 := by
    refine (Finset.sum_nbij σ (fun r hr => Finset.mem_range.2 (hσ r (Finset.mem_range.1 hr))) ?_ ?_ fun _ _ => rfl).symm
    · intro r hr r' hr' e
      have hr := Finset.mem_range.1 hr; have hr' := Finset.mem_range.1 hr'
      rcases Nat.lt_trichotomy r r' with q | q | q
      · exact absurd e (inj r r' q hr')
      · exact q
      · exact absurd e.symm (inj r' r q hr)
    · intro t ht
      obtain ⟨r, hr, e⟩ := hs t (Finset.mem_range.1 ht)
      exact ⟨r, Finset.mem_coe.2 (Finset.mem_range.2 hr), e⟩
  rw [e0, Finset.sum_range_succ]
  have last : nxt κ (σ 12287) = 16384 := nxt_none fun v h1 h2 h3 => by
    obtain ⟨r', a, b, -⟩ := later 12287 (by omega) v h1 h2 h3
    omega
  rw [last, if_neg (by omega), add_zero]
  refine Finset.sum_congr rfl fun r hr => ?_
  have hr := Finset.mem_range.1 hr
  by_cases h : κ (σ (r + 1)) = κ (σ r)
  · have lt : σ r < σ (r + 1) := by
      rcases ho r (r + 1) (by omega) (by omega) with a | a
      · omega
      · exact a.2
    have e : nxt κ (σ r) = σ (r + 1) := nxt_some lt (hσ _ (by omega)) h fun v h1 h2 h3 => by
      have := hσ (r + 1) (by omega)
      obtain ⟨r', a, b, c⟩ := later r (by omega) v h1 (by omega) h3
      rcases Nat.lt_or_ge (r + 1) r' with q | q
      · rcases ho (r + 1) r' q b with z | z
        · rw [c] at z; omega
        · rw [c] at z; omega
      · have : r' = r + 1 := by omega
        rw [this] at c; omega
    rw [if_pos h, e, if_pos (by have := hσ (r + 1) (by omega); omega)]
  · have e : nxt κ (σ r) = 16384 := nxt_none fun v h1 h2 h3 => by
      obtain ⟨r', a, b, c⟩ := later r (by omega) v h1 h2 h3
      rcases Nat.lt_or_ge (r + 1) r' with q | q
      · have s := ho r (r + 1) (by omega) (by omega)
        rcases ho (r + 1) r' q b with z | z
        · rw [c] at z; omega
        · rw [c] at z; omega
      · have : r' = r + 1 := by omega
        rw [this] at c; rw [c] at h; exact h h3
    rw [if_neg h, e, if_neg (by omega)]

/-! ## The angle at an edge -/

/-- The corner opposite an edge. -/
def opp (t : ℕ → Fin 3 → ℕ) (e : ℕ) : ℕ := t (e % 4096) (if e / 4096 = 0 then 2 else if e / 4096 = 1 then 0 else 1)

/-- The least value taken for a normal's length. -/
def tiny : EReal := Ideal.ofBits .f32 0x322BCC77#32

def cross (u v : Fin 3 → EReal) : Fin 3 → EReal
  | 0 => u 1 * v 2 - u 2 * v 1
  | 1 => u 2 * v 0 - u 0 * v 2
  | 2 => u 0 * v 1 - u 1 * v 0
def dot (u v : Fin 3 → EReal) : EReal := (u 0 * v 0 + u 1 * v 1) + u 2 * v 2
/-- A normal's length. -/
def size (n : Fin 3 → EReal) : EReal := max (Ideal.sqrt (dot n n + eps)) tiny

/-- The normal of the face of vertex `o` and the edge numbered `k`. -/
def nrm (p : ℕ → Fin 3 → EReal) (k o : ℕ) : Fin 3 → EReal :=
  cross (fun q => p o q - p (k % 2048) q) (fun q => p (k / 2048) q - p (k % 2048) q)
/-- One less the cosine of the angle between a normal and another. -/
def unlike (m n : Fin 3 → EReal) : EReal := 1 - Ideal.div (dot m n) (size m * size n)
/-- The same of the two faces at an edge, the second face's normal turned over. -/
def bend (p : ℕ → Fin 3 → EReal) (t : ℕ → Fin 3 → ℕ) (e e' : ℕ) : EReal :=
  unlike (nrm p (key t e) (opp t e)) (fun q => - nrm p (key t e) (opp t e') q)

/-- What an edge adds: nothing if no later edge has its ends. -/
def bendTerm (p : ℕ → Fin 3 → EReal) (t : ℕ → Fin 3 → ℕ) (e : ℕ) : EReal := if nxt (key t) e < 16384 then bend p t e (nxt (key t) e) else 0
def pairTerm (t : ℕ → Fin 3 → ℕ) (e : ℕ) : EReal := if nxt (key t) e < 16384 then 1 else 0

/-- A mean of a sum and a number, zero where there is none. -/
def meanOr (s n : EReal) : EReal := if 0 < n then Ideal.div s (max n 1) else 0

/-- The mean over the pairs of a batch. -/
def normMean (p : ℕ → Fin 3 → EReal) (t : ℕ → Fin 3 → ℕ) : EReal :=
  meanOr (∑ e ∈ Finset.range 12288, bendTerm p t e) (∑ e ∈ Finset.range 12288, pairTerm t e)

end Cert.Proof.Mesh

end
-- ==== Proof.KernelPair.lean ====
/-
  The kernel's normal term over the extended reals: each lane sums one less the cosine over its edges that have a next equal
  one; from the tiles' rows to the mean over each batch's pairs.
-/
module

public import proofs.«01_k».proof.Proof.KernelEdge
public import proofs.«01_k».proof.Proof.Pairs

@[expose] public section

noncomputable section

namespace Cert.Proof.Mesh

open Idealize.ShloMosaic

/-- The normal term: the mean over the batches of the mean over the pairs. -/
def normLoss (P : (⟨3, ![4, 2048, 3]⟩ : Shape).Idx → EReal) (Q : (⟨3, ![4, 4096, 3]⟩ : Shape).Idx → BitVec 32) : EReal :=
  Ideal.div (((normMean (pOf P 0) (tOf Q 0) + normMean (pOf P 1) (tOf Q 1)) + normMean (pOf P 2) (tOf Q 2)) + normMean (pOf P 3) (tOf Q 3)) four

end Cert.Proof.Mesh

namespace Cert.Proof.Tile

open Idealize.ShloMosaic Cert.KernelIdeal Cert.KernelIdeal.Gen Cert.Proof.Mesh

attribute [local instance] Cert.KernelIdeal.Gen.facts₀

/-! ## One lane -/

section
variable (V : Vec Ideal S24576 .f32) (G : Vec Ideal S49152 .i32) (hG : InRange G)

theorem endO_eq (b t : ℕ) : (endO G b t).toNat = opp (tK G b) t := rfl

include hG

/-- The next edge with the same ends. -/
theorem nextE_eq (b : ℕ) {t : ℕ} (ht : t < 12288) : nextE G b t = nxt (key (tK G b)) t := by
  classical
  by_cases h : ∃ t', t < t' ∧ t' < 12288 ∧ Same G b t t'
  · have e : nextE G b t = Nat.find h := dif_pos h
    obtain ⟨h1, h2, h3⟩ := Nat.find_spec h
    rw [e]
    exact (nxt_some h1 h2 ((same_iff G hG b ht h2).1 h3) fun v a c hv => Nat.find_min h c ⟨a, by omega, (same_iff G hG b ht (by omega)).2 hv⟩).symm
  · have e : nextE G b t = 16384 := dif_neg h
    rw [e]
    exact (nxt_none fun v a c hv => h ⟨v, a, c, (same_iff G hG b ht c).2 hv⟩).symm

theorem next_bit (i : grid0.Coords) {n : ℕ} (hn : n < 96) (x : S16.Idx) :
    k0_pay76 (wNxt G i n) x = (if nxt (key (tK G (bat i))) (walkAt i n + (x 0).val) < 16384 then 1#1 else 0#1 : BitVec 1) := by
  have e := nextE_eq G hG (bat i) (walkAt_lt i hn x)
  have hle := nextE_le G (bat i) (walkAt i n + (x 0).val)
  have hv : (wNxt G i n x).toNat = nxt (key (tK G (bat i))) (walkAt i n + (x 0).val) := by
    show (BitVec.ofNat 32 (nextE G (bat i) (walkAt i n + (x 0).val))).toNat = _
    rw [BitVec.toNat_ofNat, ← e]; omega
  show IntOp.cmpi .slt (wNxt G i n x) 16384#32 = _
  rw [cmp_slt (by rw [hv, ← e]; omega) (by decide), hv]
  rfl

/-- The corner opposite the next edge. -/
theorem wQ_num (i : grid0.Coords) {n : ℕ} (hn : n < 96) (x : S16.Idx) (h : nxt (key (tK G (bat i))) (walkAt i n + (x 0).val) < 16384) :
    (wQ G i n x : BitVec 32).toNat = opp (tK G (bat i)) (nxt (key (tK G (bat i))) (walkAt i n + (x 0).val)) := by
  have e := nextE_eq G hG (bat i) (walkAt_lt i hn x)
  obtain ⟨-, h2, -⟩ := nxt_lt h
  have hle := nextE_le G (bat i) (walkAt i n + (x 0).val)
  have hv : (wNxt G i n x).toNat = nxt (key (tK G (bat i))) (walkAt i n + (x 0).val) := by
    show (BitVec.ofNat 32 (nextE G (bat i) (walkAt i n + (x 0).val))).toNat = _
    rw [BitVec.toNat_ofNat, ← e]; omega
  have hm : (k0_pay77 (wNxt G i n) x).toNat = nxt (key (tK G (bat i))) (walkAt i n + (x 0).val) := by
    show (IntOp.minsi (wNxt G i n x) 12287#32).toNat = _
    rw [minsi_num (by omega) (by decide), hv, show (12287#32 : BitVec 32).toNat = 12287 from rfl]
    exact Nat.min_eq_left (by omega)
  show (endO G (bat i) ((ix (m := 12288) (k0_pay77 (wNxt G i n) x).toNat : S12288.Idx) 0).val).toNat = _
  rw [hm, ix_val_lt h2]
  exact endO_eq G _ _

omit hG in
theorem wO_num (i : grid0.Coords) {n : ℕ} (hn : n < 96) (x : S16.Idx) :
    (wO G i n x : BitVec 32).toNat = opp (tK G (bat i)) (walkAt i n + (x 0).val) := by
  show (endO G (bat i) ((ix (m := 12288) (walkAt i n + (x 0).val) : S12288.Idx) 0).val).toNat = _
  rw [ix_val_lt (walkAt_lt i hn x)]
  exact endO_eq G _ _

/-- A vector of three. -/
def tri (a b c : EReal) : Fin 3 → EReal
  | 0 => a
  | 1 => b
  | 2 => c

omit hG in
set_option maxRecDepth 16384 in
/-- The words of a trip's additions. -/
theorem pay1_at (a : FVec Ideal S16 .f32) (c : IVec S16 1) (ax ay az bx bY bz ox oy oz qx qy qz : FVec Ideal S16 .f32) (x : S16.Idx) :
    (k0_pay1 a (k0_pay70 ax bx) c (k0_pay82 bY qy) (k0_pay84 bY bz (k0_pay71 ay bY) (k0_pay72 az bz) oy oz) (k0_pay85 bx bz (k0_pay70 ax bx) (k0_pay72 az bz) ox oz)
      (k0_pay86 bx bY (k0_pay70 ax bx) (k0_pay71 ay bY) ox oy) (k0_pay87 bY bz (k0_pay71 ay bY) (k0_pay72 az bz) qy qz)
      (k0_pay88 bx bz (k0_pay70 ax bx) (k0_pay72 az bz) qx qz) (k0_pay89 bx (k0_pay71 ay bY) qx) x : EReal) =
      (a x : EReal) + Scalar.select (c x)
        (Ideal.ofBits .f32 0x3F800000#32 -
          Ideal.div (dot (cross (tri (ox x - bx x) (oy x - bY x) (oz x - bz x)) (tri (ax x - bx x) (ay x - bY x) (az x - bz x)))
              (fun q => Ideal.ofBits .f32 0x00000000#32 - cross (tri (qx x - bx x) (qy x - bY x) (qz x - bz x)) (tri (ax x - bx x) (ay x - bY x) (az x - bz x)) q))
            (size (cross (tri (ox x - bx x) (oy x - bY x) (oz x - bz x)) (tri (ax x - bx x) (ay x - bY x) (az x - bz x))) *
              size (fun q => Ideal.ofBits .f32 0x00000000#32 - cross (tri (qx x - bx x) (qy x - bY x) (qz x - bz x)) (tri (ax x - bx x) (ay x - bY x) (az x - bz x)) q)))
        (Ideal.ofBits .f32 0x00000000#32) := rfl

omit hG in
theorem pay2_at (a : FVec Ideal S16 .f32) (c : IVec S16 1) (x : S16.Idx) :
    (k0_pay2 a c x : EReal) = (a x : EReal) + Scalar.select (c x) (Ideal.ofBits .f32 0x3F800000#32) (Ideal.ofBits .f32 0x00000000#32) := rfl

omit hG in
/-- A difference of two vertices, by coordinates. -/
theorem tri_sub (p q : Fin 3 → EReal) : tri (p 0 - q 0) (p 1 - q 1) (p 2 - q 2) = fun k => p k - q k := by
  funext k
  match k with
  | 0 => rfl
  | 1 => rfl
  | 2 => rfl

/-- The normal terms of a lane's first edges. -/
theorem walk_bend (i : grid0.Coords) (n : ℕ) (hn : n ≤ 96) (x : S16.Idx) :
    ((walkAcc V G i n).2.2.1 x : EReal) = ∑ a ∈ Finset.range n, bendTerm (pK V (bat i)) (tK G (bat i)) (walkAt i a + (x 0).val) := by
  induction n with
  | zero => exact Ideal.ofBits_zero_f32
  | succ n ih =>
    rw [Finset.sum_range_succ, ← ih (by omega)]
    have hw := walkAt_lt i (n := n) (by omega) x
    refine (pay1_at _ _ (wC V i 0 (wA G i n)) (wC V i 1 (wA G i n)) (wC V i 2 (wA G i n)) (wC V i 0 (wB G i n)) (wC V i 1 (wB G i n)) (wC V i 2 (wB G i n))
      (wC V i 0 (wO G i n)) (wC V i 1 (wO G i n)) (wC V i 2 (wO G i n)) (wC V i 0 (wQ G i n)) (wC V i 1 (wQ G i n)) (wC V i 2 (wQ G i n)) x).trans
      (congrArg (fun z : EReal => ((walkAcc V G i n).2.2.1 x : EReal) + z) ?_)
    rw [next_bit G hG i (by omega) x, Ideal.ofBits_zero_f32, Ideal.ofBits_one_f32]
    unfold bendTerm
    by_cases h : nxt (key (tK G (bat i))) (walkAt i n + (x 0).val) < 16384
    · rw [if_pos h, if_pos h]
      have hA : ∀ q, (wC V i q (wA G i n) x : EReal) = pK V (bat i) (key (tK G (bat i)) (walkAt i n + (x 0).val) / 2048) q := fun q => by
        rw [key_low G hG _ hw]; rfl
      have hB : ∀ q, (wC V i q (wB G i n) x : EReal) = pK V (bat i) (key (tK G (bat i)) (walkAt i n + (x 0).val) % 2048) q := fun q => by
        rw [key_high G hG _ hw]
        exact congrArg (fun z => pK V (bat i) z q) (wB_num G hG i (by omega) x)
      have hO : ∀ q, (wC V i q (wO G i n) x : EReal) = pK V (bat i) (opp (tK G (bat i)) (walkAt i n + (x 0).val)) q := fun q =>
        congrArg (fun z => pK V (bat i) z q) (wO_num G i (by omega) x)
      have hQ : ∀ q, (wC V i q (wQ G i n) x : EReal) = pK V (bat i) (opp (tK G (bat i)) (nxt (key (tK G (bat i))) (walkAt i n + (x 0).val))) q := fun q =>
        congrArg (fun z => pK V (bat i) z q) (wQ_num G hG i (by omega) x h)
      simp only [hA, hB, hO, hQ, tri_sub, zero_sub]
      rfl
    · rw [if_neg h, if_neg h]; rfl

/-- Their number. -/
theorem walk_pairs (i : grid0.Coords) (n : ℕ) (hn : n ≤ 96) (x : S16.Idx) :
    ((walkAcc V G i n).2.2.2 x : EReal) = ∑ a ∈ Finset.range n, pairTerm (tK G (bat i)) (walkAt i a + (x 0).val) := by
  induction n with
  | zero => exact Ideal.ofBits_zero_f32
  | succ n ih =>
    rw [Finset.sum_range_succ, ← ih (by omega)]
    refine (pay2_at _ _ x).trans (congrArg (fun z : EReal => ((walkAcc V G i n).2.2.2 x : EReal) + z) ?_)
    rw [next_bit G hG i (by omega) x, Ideal.ofBits_zero_f32, Ideal.ofBits_one_f32]
    unfold pairTerm
    by_cases h : nxt (key (tK G (bat i))) (walkAt i n + (x 0).val) < 16384
    · rw [if_pos h, if_pos h]; rfl
    · rw [if_neg h, if_neg h]; rfl

end

/-! ## The tiles' rows -/

variable (m : (ℓ : Loc nD τ sig) → Buf (Elt Ideal) ℓ) (d : Dev nD)
variable (hQ : InRange (F := Ideal) (Gm m d))
include hQ

theorem bend_sum {g : FVec Ideal S2560 .f32} (h : AllLap m d g) (b : Fin 4) :
    (∑ i ∈ Finset.range 8, ∑ j ∈ Finset.range 16, (at_ g (640 * b.val + 80 * i + 16 * (3 : Fin 5).val + j) : EReal)) =
      ∑ e ∈ Finset.range 12288, bendTerm (pOf (Pm m d) b) (tOf (Qm m d) b) e := by
  rw [← tK_batch, ← pK_batch, ← sum_walk]
  refine Finset.sum_congr rfl fun i hi => Finset.sum_congr rfl fun j hj => ?_
  have hi := Finset.mem_range.1 hi; have hj := Finset.mem_range.1 hj
  refine ((row_lane m d h b 3 i j hi hj).trans (walk_bend (Vm m d) (Gm m d) hQ (tileOf b i hi) 96 le_rfl (ix j))).trans ?_
  refine Finset.sum_congr rfl fun a _ => ?_
  rw [bat_tileOf, walkAt_tileOf, ix_val_lt hj]

theorem pairs_sum {g : FVec Ideal S2560 .f32} (h : AllLap m d g) (b : Fin 4) :
    (∑ i ∈ Finset.range 8, ∑ j ∈ Finset.range 16, (at_ g (640 * b.val + 80 * i + 16 * (4 : Fin 5).val + j) : EReal)) =
      ∑ e ∈ Finset.range 12288, pairTerm (tOf (Qm m d) b) e := by
  rw [← tK_batch, ← sum_walk]
  refine Finset.sum_congr rfl fun i hi => Finset.sum_congr rfl fun j hj => ?_
  have hi := Finset.mem_range.1 hi; have hj := Finset.mem_range.1 hj
  refine ((row_lane m d h b 4 i j hi hj).trans (walk_pairs (Vm m d) (Gm m d) hQ (tileOf b i hi) 96 le_rfl (ix j))).trans ?_
  refine Finset.sum_congr rfl fun a _ => ?_
  rw [bat_tileOf, walkAt_tileOf, ix_val_lt hj]

set_option maxRecDepth 16384 in
/-- The kernel's normal term. -/
theorem normOf_eq {g : FVec Ideal S2560 .f32} (h : AllLap m d g) (x : S_.Idx) : (normOf g x : EReal) = normLoss (Pm m d) (Qm m d) := by
  have r : ∀ b : Fin 4, (rowsV g (ix2 b 3) : EReal) = _ := fun b => (row_sum g b 3).trans (bend_sum m d hQ h b)
  have s : ∀ b : Fin 4, (rowsV g (ix2 b 4) : EReal) = _ := fun b => (row_sum g b 4).trans (pairs_sum m d hQ h b)
  unfold normOf
  generalize rowsV g = w at r s ⊢
  pointwise []
  rw [Fin.sum_univ_four]
  have r0 := r 0; have r1 := r 1; have r2 := r 2; have r3 := r 3
  have s0 := s 0; have s1 := s 1; have s2 := s 2; have s3 := s 3
  rw [r0, r1, r2, r3, s0, s1, s2, s3, show (id (constant (F := Ideal) S_ FTy.f32 0#32) ix0 : EReal) = 0 from Ideal.ofBits_zero_f32]
  rfl

end Cert.Proof.Tile

end
-- ==== Proof.RefPair.lean ====
/-
  The normal term of one batch of the reference: the edges in their stably sorted order, the pairs of neighbours with the
  same ends, and the mean over them, which is the mean over the edges that have a next equal one (Pairs.lean).
-/
module

public import proofs.«01_k».proof.Proof.RefEdge
public import proofs.«01_k».proof.Proof.Pairs
public import Idealize.ShloMosaic.Lib.PlanTiles.StableSort

@[expose] public section

noncomputable section

namespace Cert.Proof.Ref

open Idealize.ShloMosaic Cert.ReferenceIdeal Cert.ReferenceIdeal.Gen Cert.Proof.Mesh

attribute [local instance] Cert.ReferenceIdeal.Gen.facts₀

/-! ## The steps -/

/-- The positions of a list, in the order of its words. -/
def orderV (k : IVec S12288 32) : IVec S12288 32 := (Host.sort2 S12288 0 comparator_i32_i32_d0 k (iotaInDim S12288 32 0)).2
def idxS (x : IVec S12288 32) : IVec S12288x1 32 :=
  broadcastInDim S12288x1 ![0] bcast_S12288_S12288x1_0 (select (cmpi .slt x (broadcastInDim S12288 ![] bcast_S_S12288 (constantI S_ 32 0#32))) (addi x (broadcastInDim S12288 ![] bcast_S_S12288 (constantI S_ 32 12288#32))) x)
def takeV (x o : IVec S12288 32) : IVec S12288 32 := Host.gather gather_S12288_S12288x1_S12288_n_0_n_n_0_1_1 x (idxS o)
/-- The corner opposite each edge. -/
def oppV (fc : IVec S4096x3 32) : IVec S12288 32 :=
  concatenate S12288 0 [⟨S4096, corner2 fc⟩, ⟨S4096, corner0 fc⟩, ⟨S4096, corner1 fc⟩] concatenates_S4096_S4096_S4096_S12288_d0
/-- A list without its last, and without its first. -/
def cutL (k : IVec S12288 32) : IVec S12287 32 := extractStridedSlice S12287 ![0] k slices_S12288_S12287_0
def cutR (k : IVec S12288 32) : IVec S12287 32 := extractStridedSlice S12287 ![1] k slices_S12288_S12287_1
/-- One where neighbours are equal. -/
def meetV (k : IVec S12288 32) : FVec Ideal S12287 .f32 := uitofp .f32 (cmpi .eq (cutR k) (cutL k))
def quoW (k : IVec S12287 32) : IVec S12287 32 := Host.divsi k (broadcastInDim S12287 ![] bcast_S_S12287 (id (constantI S_ 32 2048#32)))
def quoP (k : IVec S12287 32) : IVec S12287 32 :=
  select (andi (cmpi .ne (signi k) (broadcastInDim S12287 ![] bcast_S_S12287 (signi (id (constantI S_ 32 2048#32))))) (cmpi .ne (Host.remsi k (broadcastInDim S12287 ![] bcast_S_S12287 (id (constantI S_ 32 2048#32)))) (broadcastInDim S12287 ![] bcast_S_S12287 (constantI S_ 32 0#32)))) (subi (quoW k) (broadcastInDim S12287 ![] bcast_S_S12287 (constantI S_ 32 1#32))) (quoW k)
def remW (k : IVec S12287 32) : IVec S12287 32 := Host.remsi k (broadcastInDim S12287 ![] bcast_S_S12287 div0)
def remP (k : IVec S12287 32) : IVec S12287 32 :=
  select (andi (cmpi .ne (cmpi .slt (remW k) (broadcastInDim S12287 ![] bcast_S_S12287 (constantI S_ 32 0#32))) (broadcastInDim S12287 ![] bcast_S_S12287 (cmpi .slt div0 (constantI S_ 32 0#32)))) (cmpi .ne (remW k) (broadcastInDim S12287 ![] bcast_S_S12287 (constantI S_ 32 0#32)))) (addi (remW k) (broadcastInDim S12287 ![] bcast_S_S12287 div0)) (remW k)
def idxP (x : IVec S12287 32) : IVec S12287x1 32 :=
  broadcastInDim S12287x1 ![0] bcast_S12287_S12287x1_0 (select (cmpi .slt x (broadcastInDim S12287 ![] bcast_S_S12287 (constantI S_ 32 0#32))) (addi x (broadcastInDim S12287 ![] bcast_S_S12287 (constantI S_ 32 2048#32))) x)
def rowsP (vs : FVec Ideal S2048x3 .f32) (x : IVec S12287 32) : FVec Ideal S12287x3 .f32 :=
  Host.gather gather_S2048x3_S12287x1_S12287x3_1_0_n_n_0_1_13 vs (idxP x)
/-- A column, and a product of two of them less another. -/
def col0 (u : FVec Ideal S12287x3 .f32) : FVec Ideal S12287 .f32 := shapeCast _ (extractStridedSlice S12287x1 ![0, 0] u slices_S12287x3_S12287x1_0_0) shapeCasts_S12287x1_S12287
def col1 (u : FVec Ideal S12287x3 .f32) : FVec Ideal S12287 .f32 := shapeCast _ (extractStridedSlice S12287x1 ![0, 1] u slices_S12287x3_S12287x1_0_1) shapeCasts_S12287x1_S12287
def col2 (u : FVec Ideal S12287x3 .f32) : FVec Ideal S12287 .f32 := shapeCast _ (extractStridedSlice S12287x1 ![0, 2] u slices_S12287x3_S12287x1_0_2) shapeCasts_S12287x1_S12287
def part (a b c d : FVec Ideal S12287 .f32) : FVec Ideal S12287x1 .f32 := broadcastInDim S12287x1 ![0] bcast_S12287_S12287x1_0 (subf (mulf a b) (mulf c d))
def crossV (u v : FVec Ideal S12287x3 .f32) : FVec Ideal S12287x3 .f32 :=
  concatenate S12287x3 1 [⟨S12287x1, part (col1 u) (col2 v) (col2 u) (col1 v)⟩, ⟨S12287x1, part (col2 u) (col0 v) (col0 u) (col2 v)⟩, ⟨S12287x1, part (col0 u) (col1 v) (col1 u) (col0 v)⟩] concatenates_S12287x1_S12287x1_S12287x1_S12287x3_d1
/-- The face's normals at the edges numbered `k`, with the corners `o`. -/
def nrmV (vs : FVec Ideal S2048x3 .f32) (k o : IVec S12287 32) : FVec Ideal S12287x3 .f32 :=
  crossV (subf (rowsP vs o) (rowsP vs (remP k))) (subf (rowsP vs (quoP k)) (rowsP vs (remP k)))
def numP (w : FVec Ideal S12287 .f32) : FVec Ideal S_ .f32 := Host.reduceAdd w (constant S_ .f32 0x00000000#32) reducesTo_S12287_S_d0 h_S_
def dotV (u v : FVec Ideal S12287x3 .f32) : FVec Ideal S12287 .f32 := Host.reduceAdd (mulf u v) (constant S_ .f32 0x00000000#32) reducesTo_S12287x3_S12287_d1 h_S_
def sizeV (u : FVec Ideal S12287x3 .f32) : FVec Ideal S12287 .f32 :=
  maximumf (Host.sqrt (addf (dotV u u) (broadcastInDim S12287 ![] bcast_S_S12287 (constant S_ .f32 0x1E3CE508#32)))) (broadcastInDim S12287 ![] bcast_S_S12287 (constant S_ .f32 0x322BCC77#32))
def unlikeV (u v : FVec Ideal S12287x3 .f32) : FVec Ideal S12287 .f32 :=
  subf (broadcastInDim S12287 ![] bcast_S_S12287 (constant S_ .f32 0x3F800000#32)) (Host.divf (dotV u v) (mulf (sizeV u) (sizeV v)))
/-- The mean over the equal neighbours. -/
def meanP (u v : FVec Ideal S12287x3 .f32) (w : FVec Ideal S12287 .f32) : FVec Ideal S_ .f32 :=
  select (cmpf .ogt (numP w) (constant S_ .f32 0x00000000#32))
    (Host.divf (Host.reduceAdd (mulf (unlikeV u v) w) (constant S_ .f32 0x00000000#32) reducesTo_S12287_S_d0 h_S_) (maximumf (numP w) (constant S_ .f32 0x3F800000#32)))
    (id (constant S_ .f32 0x00000000#32))

/-! ## The order -/

/-- A stable sort by falling `G` keeps equal ones in their order. -/
theorem sorted_lex {n : ℕ} (G : Fin n → ℕ) (u v : Fin n) (h : u < v) :
    PlanTiles.Lex G (fun a b : Fin n => a < b) (sortedFrom (fun a b => decide (G b < G a)) u) (sortedFrom (fun a b => decide (G b < G a)) v) :=
  List.pairwise_iff_get.1 (PlanTiles.pairwise_stableSort_lex G (fun a b : Fin n => a < b) (List.finRange n) (List.pairwise_lt_finRange n)) _ _ h

section
variable (k : IVec S12288 32) (hk : ∀ u : Fin 12288, (k (ix1 u)).toNat < 4194304)

set_option maxRecDepth 16384 in
theorem orderV_at (u : Fin 12288) : orderV k (ix1 u) = BitVec.ofNat 32 (src k u).val := by
  have hh : orderV k (ix1 u) = iotaInDim S12288 32 0 ((ix1 u : S12288.Idx).along 0 (sortedFrom (fun a b : Fin 12288 => comparator_i32_d0 (k ((ix1 u : S12288.Idx).along 0 a)) (k ((ix1 u : S12288.Idx).along 0 b)) == 1#1) u)) := rfl
  rw [hh]
  simp only [along_one]
  exact (congrArg (iotaInDim S12288 32 0) (along_one u (src k u))).trans rfl

include hk in
/-- Where the sorted list's words come from: equal words keep their order. -/
theorem src_order (u v : Fin 12288) (h : u < v) :
    (k (ix1 (src k u))).toNat < (k (ix1 (src k v))).toNat ∨ (k (ix1 (src k u))).toNat = (k (ix1 (src k v))).toNat ∧ (src k u).val < (src k v).val := by
  let G : Fin 12288 → ℕ := fun a => 4194304 - (k (ix1 a)).toNat
  have e : (fun a b : Fin 12288 => comparator_i32_d0 (k (ix1 a)) (k (ix1 b)) == 1#1) = fun a b => decide (G b < G a) := by
    funext a b
    have ha := hk a; have hb := hk b
    rw [Bool.eq_iff_iff, beq_iff_eq, decide_eq_true_eq]
    refine (slt_nat (by omega) (by omega)).trans ?_
    show _ ↔ 4194304 - (k (ix1 b)).toNat < 4194304 - (k (ix1 a)).toNat
    omega
  have es : src k = sortedFrom fun a b => decide (G b < G a) := by
    funext z
    show sortedFrom (fun a b : Fin 12288 => comparator_i32_d0 (k (ix1 a)) (k (ix1 b)) == 1#1) z = _
    rw [e]
  have key : PlanTiles.Lex G (fun a b : Fin 12288 => a < b) (src k u) (src k v) := by
    rw [es]
    exact sorted_lex G u v h
  have ha := hk (src k u); have hb := hk (src k v)
  rcases key with q | ⟨q, r⟩
  · have q' : 4194304 - (k (ix1 (src k v))).toNat < 4194304 - (k (ix1 (src k u))).toNat := q
    left; omega
  · have q' : 4194304 - (k (ix1 (src k u))).toNat = 4194304 - (k (ix1 (src k v))).toNat := q
    right
    exact ⟨by omega, r⟩

end

theorem take_at (x : IVec S12288 32) (idx : IVec S12288x1 32) (n b : Fin 12288) (h : idx (ix2 n 0) = BitVec.ofNat 32 b.val) :
    Host.gather gather_S12288_S12288x1_S12288_n_0_n_n_0_1_1 x idx (ix1 n) = x (ix1 b) := by
  unfold Host.gather
  refine congrArg x (funext fun a => Fin.ext ?_)
  have hb := b.isLt
  match a with
  | ⟨0, _⟩ =>
    show min (idx _).toInt.toNat (12288 - 1) + 0 + 0 = b.val
    have e : GatherDims.siIdx gather_S12288_S12288x1_S12288_n_0_n_n_0_1_1 (ix1 n : S12288.Idx) ⟨0, by decide⟩ = (ix2 n 0 : S12288x1.Idx) := by
      funext c; apply Fin.ext
      match c with
      | ⟨0, _⟩ => rfl
      | ⟨1, _⟩ => rfl
    refine (congrArg (fun z => min (idx z).toInt.toNat 12287 + 0 + 0) e).trans ?_
    show min (idx (ix2 n 0)).toInt.toNat 12287 + 0 + 0 = b.val
    rw [h, StableHlo.Predicate.toInt_ofNat_small b.val (by omega)]
    omega

theorem idxS_at (x : IVec S12288 32) (n : Fin 12288) (h : (x (ix1 n)).toNat < 12288) : idxS x (ix2 n 0) = x (ix1 n) := by
  have e := Routing.wrap_of_lt (x (ix1 n)) (IntOp.addi (x (ix1 n)) 12288#32) (by show _ < 2 ^ 31; omega)
  pointwise [idxS]
  exact e

/-- A list read in the order of another. -/
theorem takeV_at (x k : IVec S12288 32) (u : Fin 12288) : takeV x (orderV k) (ix1 u) = x (ix1 (src k u)) := by
  have hs := (src k u).isLt
  have h : idxS (orderV k) (ix2 u 0) = BitVec.ofNat 32 (src k u).val := by
    rw [idxS_at _ u (by rw [orderV_at, BitVec.toNat_ofNat]; omega), orderV_at]
  exact take_at x _ u _ h

/-! ## The steps at an index -/

/-- A place and its neighbour. -/
def lo (r : Fin 12287) : Fin 12288 := ⟨r.val, by have := r.isLt; omega⟩
def hi (r : Fin 12287) : Fin 12288 := ⟨r.val + 1, by have := r.isLt; omega⟩

theorem cutL_at (k : IVec S12288 32) (r : Fin 12287) : cutL k (ix1 r) = k (ix1 (lo r)) := by
  refine congrArg k (funext fun a => Fin.ext ?_)
  match a with
  | ⟨0, _⟩ => show 0 + r.val = r.val; omega
theorem cutR_at (k : IVec S12288 32) (r : Fin 12287) : cutR k (ix1 r) = k (ix1 (hi r)) := by
  refine congrArg k (funext fun a => Fin.ext ?_)
  match a with
  | ⟨0, _⟩ => show 1 + r.val = r.val + 1; omega

theorem meetV_at (k : IVec S12288 32) (r : Fin 12287) :
    (meetV k (ix1 r) : EReal) = if (k (ix1 (hi r))).toNat = (k (ix1 (lo r))).toNat then 1 else 0 := by
  have e : (meetV k (ix1 r) : EReal) = (((IntOp.cmpi .eq (cutR k (ix1 r)) (cutL k (ix1 r))).toNat : ℝ) : EReal) := rfl
  rw [e, cutL_at, cutR_at]
  by_cases h : k (ix1 (hi r)) = k (ix1 (lo r))
  · rw [if_pos (congrArg BitVec.toNat h), h, show IntOp.cmpi .eq (k (ix1 (lo r))) (k (ix1 (lo r))) = 1#1 by simp [IntOp.cmpi]]
    simp
  · rw [if_neg (fun hh => h (BitVec.toNat_inj.1 hh)), show IntOp.cmpi .eq (k (ix1 (hi r))) (k (ix1 (lo r))) = 0#1 by
      show BitVec.ofBool (k (ix1 (hi r)) == k (ix1 (lo r))) = 0#1
      rw [beq_eq_false_iff_ne.2 h]; rfl]
    simp

theorem quoP_at (k : IVec S12287 32) (r : Fin 12287) (h : (k (ix1 r)).toNat < 4194304) : (quoP k (ix1 r)).toNat = (k (ix1 r)).toNat / 2048 :=
  quoV_at (fun _ => k (ix1 r)) 0 h
theorem remP_at (k : IVec S12287 32) (r : Fin 12287) (h : (k (ix1 r)).toNat < 4194304) : (remP k (ix1 r)).toNat = (k (ix1 r)).toNat % 2048 :=
  remV_at (fun _ => k (ix1 r)) 0 h

theorem idxP_at (x : IVec S12287 32) (n : Fin 12287) (h : (x (ix1 n)).toNat < 2048) : idxP x (ix2 n 0) = x (ix1 n) := by
  have e := Routing.wrap_of_lt (x (ix1 n)) (IntOp.addi (x (ix1 n)) 2048#32) (by show _ < 2 ^ 31; omega)
  pointwise [idxP]
  exact e

theorem rowsP_at (vs : FVec Ideal S2048x3 .f32) (x : IVec S12287 32) (n : Fin 12287) (q : Fin 3) (h : (x (ix1 n)).toNat < 2048) :
    (rowsP vs x (ix2 n q) : EReal) = pV vs (x (ix1 n)).toNat q := by
  have e : idxP x (ix2 n 0) = BitVec.ofNat 32 (x (ix1 n)).toNat := by rw [idxP_at x n h]; simp
  exact (Routing.gather_row gather_S2048x3_S12287x1_S12287x3_1_0_n_n_0_1_13 rfl rfl rfl rfl rfl vs (idxP x) n q ⟨(x (ix1 n)).toNat, h⟩ e (by decide)).trans (pV_of vs ⟨_, h⟩ q).symm

theorem oppV_at (fc : IVec S4096x3 32) (u : Fin 12288) : (oppV fc (ix1 u)).toNat = opp (tV fc) u.val := by
  have hu := u.isLt
  have tm : ∀ k, (fc (ix2 (⟨u.val % 4096, Nat.mod_lt _ (by decide)⟩ : Fin 4096) k)).toNat = tV fc (u.val % 4096) k := fun k =>
    (tV_of fc ⟨u.val % 4096, Nat.mod_lt _ (by decide)⟩ k).symm
  unfold oppV
  pointwise
  simp only [corner2_at, corner0_at, corner1_at]
  unfold opp
  rw [← tm]
  split_ifs <;> refine congrArg₂ (fun (w : Fin 4096) z => (fc (ix2 w z)).toNat) (Fin.ext ?_) ?_ <;> first | (dsimp only; omega) | (split_ifs <;> first | rfl | omega)

theorem crossV_at (u v : FVec Ideal S12287x3 .f32) (r : Fin 12287) (q : Fin 3) :
    (crossV u v (ix2 r q) : EReal) = cross (fun q => u (ix2 r q)) (fun q => v (ix2 r q)) q := by
  pointwise [crossV, part, col0, col1, col2]
  match q with
  | 0 | 1 | 2 => rfl

theorem nrmV_at (vs : FVec Ideal S2048x3 .f32) (k o : IVec S12287 32) (r : Fin 12287) (q : Fin 3) (hk : (k (ix1 r)).toNat < 4194304) (ho : (o (ix1 r)).toNat < 2048) :
    (nrmV vs k o (ix2 r q) : EReal) = nrm (pV vs) (k (ix1 r)).toNat (o (ix1 r)).toNat q := by
  have a := quoP_at k r hk
  have b := remP_at k r hk
  unfold nrmV nrm
  rw [crossV_at]
  refine congrFun (congrArg₂ cross (funext fun q => ?_) (funext fun q => ?_)) q
  · have e : (subf (rowsP vs o) (rowsP vs (remP k)) (ix2 r q) : EReal) = (rowsP vs o (ix2 r q) : EReal) - rowsP vs (remP k) (ix2 r q) := rfl
    rw [e, rowsP_at vs o r q ho, rowsP_at vs (remP k) r q (by rw [b]; omega), b]
  · have e : (subf (rowsP vs (quoP k)) (rowsP vs (remP k)) (ix2 r q) : EReal) = (rowsP vs (quoP k) (ix2 r q) : EReal) - rowsP vs (remP k) (ix2 r q) := rfl
    rw [e, rowsP_at vs (quoP k) r q (by rw [a]; omega), rowsP_at vs (remP k) r q (by rw [b]; omega), a, b]

/-! ## The mean -/

set_option maxRecDepth 16384 in
theorem dotV_at (u v : FVec Ideal S12287x3 .f32) (r : Fin 12287) : (dotV u v (ix1 r) : EReal) = dot (fun q => u (ix2 r q)) (fun q => v (ix2 r q)) := by
  pointwise [dotV]
  simp only [Fin.sum_univ_three, zero_add]
  rfl

set_option maxRecDepth 16384 in
theorem sizeV_at (u : FVec Ideal S12287x3 .f32) (r : Fin 12287) : (sizeV u (ix1 r) : EReal) = size (fun q => u (ix2 r q)) := by
  have e : (sizeV u (ix1 r) : EReal) = max (Ideal.sqrt ((dotV u u (ix1 r) : EReal) + eps)) tiny := rfl
  rw [e, dotV_at]; rfl

set_option maxRecDepth 16384 in
theorem unlikeV_at (u v : FVec Ideal S12287x3 .f32) (r : Fin 12287) : (unlikeV u v (ix1 r) : EReal) = unlike (fun q => u (ix2 r q)) (fun q => v (ix2 r q)) := by
  have e : (unlikeV u v (ix1 r) : EReal) = Ideal.ofBits .f32 0x3F800000#32 - Ideal.div (dotV u v (ix1 r)) ((sizeV u (ix1 r) : EReal) * sizeV v (ix1 r)) := rfl
  rw [e, dotV_at, sizeV_at, sizeV_at, Ideal.ofBits_one_f32]; rfl

set_option maxRecDepth 16384 in
theorem meanP_at (u v : FVec Ideal S12287x3 .f32) (w : FVec Ideal S12287 .f32) (x : S_.Idx) :
    (meanP u v w x : EReal) = meanOr (∑ r : Fin 12287, unlike (fun q => u (ix2 r q)) (fun q => v (ix2 r q)) * (w (ix1 r) : EReal)) (∑ r : Fin 12287, (w (ix1 r) : EReal)) := by
  have h := unlikeV_at u v
  unfold meanP
  generalize unlikeV u v = z at h ⊢
  pointwise [numP]
  simp only [zero_add, h]
  rw [show (id (constant (F := Ideal) S_ FTy.f32 0#32) x : EReal) = 0 from Ideal.ofBits_zero_f32]
  rfl

section
variable (vs : FVec Ideal S2048x3 .f32) (fc : IVec S4096x3 32) (hf : ∀ x, (fc x).toNat < 2048) (k : IVec S12288 32)
variable (hk : ∀ u : Fin 12288, (k (ix1 u)).toNat = key (tV fc) u.val)
include hf hk

theorem word_lt (u : Fin 12288) : (k (ix1 u)).toNat < 4194304 := by
  have a : endL (tV fc) u.val < 2048 := hf _
  have b : endR (tV fc) u.val < 2048 := hf _
  rw [hk]
  unfold key
  omega

/-- The mean over the equal neighbours of the sorted list is the mean over the pairs. -/
theorem meanP_pairs (x : S_.Idx) :
    (meanP (nrmV vs (cutL (takeV k (orderV k))) (cutL (takeV (oppV fc) (orderV k)))) (Host.negf (nrmV vs (cutL (takeV k (orderV k))) (cutR (takeV (oppV fc) (orderV k)))))
      (meetV (takeV k (orderV k))) x : EReal) = normMean (pV vs) (tV fc) := by
  have hlt := word_lt fc hf k hk
  let σ : ℕ → ℕ := fun r => (src k (⟨r % 12288, Nat.mod_lt _ (by decide)⟩ : Fin 12288)).val
  have σof : ∀ u : Fin 12288, σ u.val = (src k u).val := fun u => congrArg (fun z => (src k z).val) (Fin.ext (Nat.mod_eq_of_lt u.isLt))
  have hσ : ∀ r, r < 12288 → σ r < 12288 := fun r _ => (src k _).isLt
  have hs : ∀ t, t < 12288 → ∃ r, r < 12288 ∧ σ r = t := fun t ht => by
    obtain ⟨u, hu⟩ := sortedFrom_surjective (fun a b => comparator_i32_d0 (k (ix1 a)) (k (ix1 b)) == 1#1) ⟨t, ht⟩
    exact ⟨u.val, u.isLt, (σof u).trans (congrArg Fin.val (show src k u = ⟨t, ht⟩ from hu))⟩
  have ho : ∀ r r', r < r' → r' < 12288 → key (tV fc) (σ r) < key (tV fc) (σ r') ∨ key (tV fc) (σ r) = key (tV fc) (σ r') ∧ σ r < σ r' := fun r r' h h' => by
    have z := src_order k hlt ⟨r, by omega⟩ ⟨r', h'⟩ h
    rw [hk, hk, ← σof, ← σof] at z
    exact z
  have hO : ∀ u, (oppV fc (ix1 u)).toNat < 2048 := fun u => by rw [oppV_at]; exact hf _
  have eK : ∀ u : Fin 12288, (takeV k (orderV k) (ix1 u)).toNat = key (tV fc) (σ u.val) := fun u => by rw [takeV_at, hk, σof]
  have eO : ∀ u : Fin 12288, (takeV (oppV fc) (orderV k) (ix1 u)).toNat = opp (tV fc) (σ u.val) := fun u => by rw [takeV_at, oppV_at, σof]
  have bK : ∀ u : Fin 12288, (takeV k (orderV k) (ix1 u)).toNat < 4194304 := fun u => by rw [takeV_at]; exact hlt _
  have bO : ∀ u : Fin 12288, (takeV (oppV fc) (orderV k) (ix1 u)).toNat < 2048 := fun u => by rw [takeV_at]; exact hO _
  generalize takeV k (orderV k) = K at eK bK ⊢
  generalize takeV (oppV fc) (orderV k) = O at eO bO ⊢
  have n0 : ∀ (r : Fin 12287) q, (nrmV vs (cutL K) (cutL O) (ix2 r q) : EReal) = nrm (pV vs) (key (tV fc) (σ r.val)) (opp (tV fc) (σ r.val)) q := fun r q => by
    rw [nrmV_at vs _ _ r q (by rw [cutL_at]; exact bK _) (by rw [cutL_at]; exact bO _), cutL_at, cutL_at, eK, eO]; rfl
  have n1 : ∀ (r : Fin 12287) q, (Host.negf (nrmV vs (cutL K) (cutR O)) (ix2 r q) : EReal) = - nrm (pV vs) (key (tV fc) (σ r.val)) (opp (tV fc) (σ (r.val + 1))) q := fun r q => by
    have e : (Host.negf (nrmV vs (cutL K) (cutR O)) (ix2 r q) : EReal) = - (nrmV vs (cutL K) (cutR O) (ix2 r q) : EReal) := rfl
    rw [e, nrmV_at vs _ _ r q (by rw [cutL_at]; exact bK _) (by rw [cutR_at]; exact bO _), cutL_at, cutR_at, eK, eO]; rfl
  have w : ∀ r : Fin 12287, (meetV K (ix1 r) : EReal) = if key (tV fc) (σ (r.val + 1)) = key (tV fc) (σ r.val) then 1 else 0 := fun r => by
    rw [meetV_at, eK, eK]; rfl
  rw [meanP_at]
  unfold normMean
  have s0 : (∑ e ∈ Finset.range 12288, bendTerm (pV vs) (tV fc) e) = _ := sum_pairs (key (tV fc)) σ (bend (pV vs) (tV fc)) hσ hs ho
  have s1 : (∑ e ∈ Finset.range 12288, pairTerm (tV fc) e) = _ := sum_pairs (key (tV fc)) σ (fun _ _ => (1 : EReal)) hσ hs ho
  rw [s0, s1, Finset.sum_range, Finset.sum_range]
  refine congrArg₂ meanOr (Finset.sum_congr rfl fun r _ => ?_) (Finset.sum_congr rfl fun r _ => w r)
  rw [w r]
  simp only [n0, n1]
  by_cases h : key (tV fc) (σ (r.val + 1)) = key (tV fc) (σ r.val)
  · rw [if_pos h, if_pos h, mul_one]; rfl
  · rw [if_neg h, if_neg h, mul_zero]

end

end Cert.Proof.Ref

end
-- ==== Proof.RefNorm.lean ====
/-
  The reference's normal term over the extended reals: its four batches, and the mean.
-/
module

public import proofs.«01_k».proof.Proof.RefPair
public import proofs.«01_k».proof.Proof.RefEdgeLoss
public import proofs.«01_k».proof.Proof.KernelPair

@[expose] public section

noncomputable section

namespace Cert.Proof.Ref

open Idealize.ShloMosaic Cert.ReferenceIdeal Cert.ReferenceIdeal.Gen Cert.ReferenceIdeal.Value Cert.Proof.Mesh
open Idealize.ShloMosaic.StableHlo

attribute [local instance] Cert.ReferenceIdeal.Gen.facts₀

variable (V : Valuation τ sig (Elt Ideal))

/-- Each batch's edges' numbers, of its own faces. -/
theorem words0 : (res_main_v978 V : IVec S12288 32) = keyV (edges (pairs (res_main_v941 V) (res_main_c_19 V) (res_main_c_20 V) (res_main_c_21 V))) := rfl
theorem words1 : (res_main_v1178 V : IVec S12288 32) = keyV (edges (pairs (res_main_v1141 V) (res_main_c_22 V) (res_main_c_23 V) (res_main_c_24 V))) := rfl
theorem words2 : (res_main_v1378 V : IVec S12288 32) = keyV (edges (pairs (res_main_v1341 V) (res_main_c_25 V) (res_main_c_26 V) (res_main_c_27 V))) := rfl
theorem words3 : (res_main_v1578 V : IVec S12288 32) = keyV (edges (pairs (res_main_v1541 V) (res_main_c_28 V) (res_main_c_29 V) (res_main_c_30 V))) := rfl
/-- They and the opposite corners in their order. -/
theorem sorted0 : (res_main_v986 V : IVec S12288 32) = takeV (res_main_v978 V) (orderV (res_main_v978 V)) := rfl
theorem opps0 : (res_main_v993 V : IVec S12288 32) = takeV (oppV (res_main_v941 V)) (orderV (res_main_v978 V)) := rfl
theorem sorted1 : (res_main_v1186 V : IVec S12288 32) = takeV (res_main_v1178 V) (orderV (res_main_v1178 V)) := rfl
theorem opps1 : (res_main_v1193 V : IVec S12288 32) = takeV (oppV (res_main_v1141 V)) (orderV (res_main_v1178 V)) := rfl
theorem sorted2 : (res_main_v1386 V : IVec S12288 32) = takeV (res_main_v1378 V) (orderV (res_main_v1378 V)) := rfl
theorem opps2 : (res_main_v1393 V : IVec S12288 32) = takeV (oppV (res_main_v1341 V)) (orderV (res_main_v1378 V)) := rfl
theorem sorted3 : (res_main_v1586 V : IVec S12288 32) = takeV (res_main_v1578 V) (orderV (res_main_v1578 V)) := rfl
theorem opps3 : (res_main_v1593 V : IVec S12288 32) = takeV (oppV (res_main_v1541 V)) (orderV (res_main_v1578 V)) := rfl
/-- The equal neighbours, and the two faces' normals. -/
theorem meet0 : (res_main_v997 V : FVec Ideal S12287 .f32) = meetV (res_main_v986 V) := rfl
theorem left0 : (res_main_v1069 V : FVec Ideal S12287x3 .f32) = nrmV (res_main_v939 V) (cutL (res_main_v986 V)) (cutL (res_main_v993 V)) := rfl
theorem right0 : (res_main_v1109 V : FVec Ideal S12287x3 .f32) = Host.negf (nrmV (res_main_v939 V) (cutL (res_main_v986 V)) (cutR (res_main_v993 V))) := rfl
theorem meet1 : (res_main_v1197 V : FVec Ideal S12287 .f32) = meetV (res_main_v1186 V) := rfl
theorem left1 : (res_main_v1269 V : FVec Ideal S12287x3 .f32) = nrmV (res_main_v1139 V) (cutL (res_main_v1186 V)) (cutL (res_main_v1193 V)) := rfl
theorem right1 : (res_main_v1309 V : FVec Ideal S12287x3 .f32) = Host.negf (nrmV (res_main_v1139 V) (cutL (res_main_v1186 V)) (cutR (res_main_v1193 V))) := rfl
theorem meet2 : (res_main_v1397 V : FVec Ideal S12287 .f32) = meetV (res_main_v1386 V) := rfl
theorem left2 : (res_main_v1469 V : FVec Ideal S12287x3 .f32) = nrmV (res_main_v1339 V) (cutL (res_main_v1386 V)) (cutL (res_main_v1393 V)) := rfl
theorem right2 : (res_main_v1509 V : FVec Ideal S12287x3 .f32) = Host.negf (nrmV (res_main_v1339 V) (cutL (res_main_v1386 V)) (cutR (res_main_v1393 V))) := rfl
theorem meet3 : (res_main_v1597 V : FVec Ideal S12287 .f32) = meetV (res_main_v1586 V) := rfl
theorem left3 : (res_main_v1669 V : FVec Ideal S12287x3 .f32) = nrmV (res_main_v1539 V) (cutL (res_main_v1586 V)) (cutL (res_main_v1593 V)) := rfl
theorem right3 : (res_main_v1709 V : FVec Ideal S12287x3 .f32) = Host.negf (nrmV (res_main_v1539 V) (cutL (res_main_v1586 V)) (cutR (res_main_v1593 V))) := rfl
/-- A batch's vertices and faces, in the arguments. -/
theorem points0 (v : Fin 2048) (q : Fin 3) : (res_main_v939 V : FVec Ideal S2048x3 .f32) (ix2 v q) = P0 V (ix3 0 v q) := verts0 V v q
theorem corners0 (n : Fin 4096) (k : Fin 3) : (res_main_v941 V : IVec S4096x3 32) (ix2 n k) = Q0 V (ix3 0 n k) := faces0 V n k
theorem points1 (v : Fin 2048) (q : Fin 3) : (res_main_v1139 V : FVec Ideal S2048x3 .f32) (ix2 v q) = P0 V (ix3 1 v q) := verts1 V v q
theorem corners1 (n : Fin 4096) (k : Fin 3) : (res_main_v1141 V : IVec S4096x3 32) (ix2 n k) = Q0 V (ix3 1 n k) := faces1 V n k
theorem points2 (v : Fin 2048) (q : Fin 3) : (res_main_v1339 V : FVec Ideal S2048x3 .f32) (ix2 v q) = P0 V (ix3 2 v q) := verts2 V v q
theorem corners2 (n : Fin 4096) (k : Fin 3) : (res_main_v1341 V : IVec S4096x3 32) (ix2 n k) = Q0 V (ix3 2 n k) := faces2 V n k
theorem points3 (v : Fin 2048) (q : Fin 3) : (res_main_v1539 V : FVec Ideal S2048x3 .f32) (ix2 v q) = P0 V (ix3 3 v q) := verts3 V v q
theorem corners3 (n : Fin 4096) (k : Fin 3) : (res_main_v1541 V : IVec S4096x3 32) (ix2 n k) = Q0 V (ix3 3 n k) := faces3 V n k

/-- The mean over one batch. -/
theorem norm_mean (P : FVec Ideal S4x2048x3 .f32) (Q : IVec S4x4096x3 32) (hQ : ∀ x, (Q x).toNat < 2048) (b : Fin 4) (vs : FVec Ideal S2048x3 .f32) (fc : IVec S4096x3 32)
    (hv : ∀ v q, vs (ix2 v q) = P (ix3 b v q)) (hf : ∀ n k, fc (ix2 n k) = Q (ix3 b n k)) (c c' c'' : IVec S2 32)
    (h0 : ∀ k, c (ix1 k) = BitVec.ofNat 32 (c01 k).val) (h1 : ∀ k, c' (ix1 k) = BitVec.ofNat 32 (c12 k).val) (h2 : ∀ k, c'' (ix1 k) = BitVec.ofNat 32 (c20 k).val)
    (k K O : IVec S12288 32) (n0 n1 : FVec Ideal S12287x3 .f32) (w : FVec Ideal S12287 .f32) (ek : k = keyV (edges (pairs fc c c' c'')))
    (eK : K = takeV k (orderV k)) (eO : O = takeV (oppV fc) (orderV k)) (e0 : n0 = nrmV vs (cutL K) (cutL O)) (e1 : n1 = Host.negf (nrmV vs (cutL K) (cutR O)))
    (ew : w = meetV K) (x : S_.Idx) : (meanP n0 n1 w x : EReal) = normMean (pOf P b) (tOf Q b) := by
  have h : ∀ i, (fc i).toNat < 2048 := fun i => by
    have e : fc i = Q (ix3 b (i 0) (i 1)) := (congrArg fc (ix2_eta i)).symm.trans (hf (i 0) (i 1))
    rw [e]; exact hQ _
  have hk : ∀ u : Fin 12288, (k (ix1 u)).toNat = key (tV fc) u.val := fun u => by rw [ek]; exact keys_at fc h c c' c'' h0 h1 h2 u
  rw [e0, e1, ew, eK, eO, meanP_pairs vs fc h k hk x, show pV vs = pOf P b from funext fun v => funext fun q => hv _ q,
    show tV fc = tOf Q b from funext fun n => funext fun k => congrArg BitVec.toNat (hf _ k)]

/-- The reference's normal term. -/
def normResult : FVec Ideal S_ .f32 :=
  Host.divf (addf (addf (addf (addf (constant S_ .f32 0x00000000#32) (meanP (res_main_v1069 V) (res_main_v1109 V) (res_main_v997 V))) (meanP (res_main_v1269 V) (res_main_v1309 V) (res_main_v1197 V))) (meanP (res_main_v1469 V) (res_main_v1509 V) (res_main_v1397 V))) (meanP (res_main_v1669 V) (res_main_v1709 V) (res_main_v1597 V))) (constant S_ .f32 0x40800000#32)

theorem normResult_eq (hQ : ∀ x, (Q0 V x).toNat < 2048) (x : S_.Idx) : (normResult V x : EReal) = normLoss (P0 V) (Q0 V) := by
  have e : (normResult V x : EReal) = Ideal.div ((((Ideal.ofBits .f32 0x00000000#32 + meanP (res_main_v1069 V) (res_main_v1109 V) (res_main_v997 V) x) + meanP (res_main_v1269 V) (res_main_v1309 V) (res_main_v1197 V) x) + meanP (res_main_v1469 V) (res_main_v1509 V) (res_main_v1397 V) x) + meanP (res_main_v1669 V) (res_main_v1709 V) (res_main_v1597 V) x) four := rfl
  rw [e, Ideal.ofBits_zero_f32, zero_add,
    norm_mean (P0 V) (Q0 V) hQ 0 _ _ (points0 V) (corners0 V) _ _ _ lit01 lit12' lit20 _ _ _ _ _ _ (words0 V) (sorted0 V) (opps0 V) (left0 V) (right0 V) (meet0 V),
    norm_mean (P0 V) (Q0 V) hQ 1 _ _ (points1 V) (corners1 V) _ _ _ lit01 lit12' lit20 _ _ _ _ _ _ (words1 V) (sorted1 V) (opps1 V) (left1 V) (right1 V) (meet1 V),
    norm_mean (P0 V) (Q0 V) hQ 2 _ _ (points2 V) (corners2 V) _ _ _ lit01 lit12' lit20 _ _ _ _ _ _ (words2 V) (sorted2 V) (opps2 V) (left2 V) (right2 V) (meet2 V),
    norm_mean (P0 V) (Q0 V) hQ 3 _ _ (points3 V) (corners3 V) _ _ _ lit01 lit12' lit20 _ _ _ _ _ _ (words3 V) (sorted3 V) (opps3 V) (left3 V) (right3 V) (meet3 V)]
  rfl

end Cert.Proof.Ref

end
-- ==== Proof.Algebraic.lean ====
/-
  The value claim: the kernel's run and the reference's both leave the edge term of Edges.lean, the Laplacian term of
  Spec.lean and the normal term of Pairs.lean.
-/
module

public import proofs.«01_k».proof.Proof.Frames
public import proofs.«01_k».proof.Proof.KernelLoss
public import proofs.«01_k».proof.Proof.RefLoss
public import proofs.«01_k».proof.Proof.KernelEdge
public import proofs.«01_k».proof.Proof.RefEdgeLoss
public import proofs.«01_k».proof.Proof.KernelPair
public import proofs.«01_k».proof.Proof.RefNorm

@[expose] public section

noncomputable section

namespace Cert.Proof

open Idealize.ShloMosaic Idealize.SL.Sem Idealize.ShloMosaic.StableHlo

/-- The reference's frame, stated under the precondition. -/
theorem frame_reference_pre : Cert.quiescent_ReferenceIdeal_pre_faces_in_range := fun m ρ _ => frame_reference m ρ trivial

/-- From the same arguments, with the faces' indices in range, kernel and reference end with the same three terms. -/
theorem algebraic : Cert.algebraic_KernelIdeal_ReferenceIdeal := by
  intro m g m' g' hp hag
  have below : ∀ d x, (Tile.Qm m d x).toNat < 2048 := fun d => below_of_pre _ _ (hp d)
  refine ⟨fun d => (fun _ => Mesh.edgeLoss (Tile.Pm m d) (Tile.Qm m d)), fun d => (fun _ => Mesh.loss (Tile.Pm m d) (Tile.Qm m d)), fun d => (fun _ => Mesh.normLoss (Tile.Pm m d) (Tile.Qm m d)), ?_, ?_⟩
  · refine (θ_run Cert.KernelIdeal.defs _ _).mono (fun r h d => ?_) (Tile.run_main (F := Ideal) m g fun d => inRange_of _ (below d))
    obtain ⟨h0, h1, gth, hg, hr, hl, hn⟩ := h.1 d
    exact ⟨hr.trans (funext fun x => Tile.edgeOf_eq m d (inRange_of _ (below d)) hg x), hl.trans (funext fun x => Tile.lossOf_eq m d hg x),
      hn.trans (funext fun x => Tile.normOf_eq m d (inRange_of _ (below d)) hg x), h0, h1⟩
  · refine (θ_run Cert.ReferenceIdeal.defs _ _).mono (fun r h d => ?_) (Cert.ReferenceIdeal.Value.run (F := Ideal) m' g')
    obtain ⟨hr, hl, hn, h0, h1⟩ := h d
    obtain ⟨a0, a1⟩ := hag d
    have e0 : Ref.P0 (launchContents m' d) = Tile.Pm m d := a0
    have e1 : Ref.Q0 (launchContents m' d) = Tile.Qm m d := a1
    refine ⟨hr.trans (funext fun x => ?_), hl.trans (funext fun x => ?_), hn.trans (funext fun x => ?_), h0, h1⟩
    · have key := Ref.edgeResult_eq (launchContents m' d) (by rw [e1]; exact below d) x
      rw [e0, e1] at key
      exact key
    · have key := Ref.result_eq (launchContents m' d) (by rw [e1]; exact below d) x
      rw [e0, e1] at key
      exact key
    · have key := Ref.normResult_eq (launchContents m' d) (by rw [e1]; exact below d) x
      rw [e0, e1] at key
      exact key

end Cert.Proof

end
-- ==== Proof.Chamfer.lean ====
/-
  The chamfer distance on extended reals, and the eight columns the TensorCore call computes it from.

  The squared distance of two points is `x·x + y·y − 2 x·y`. The call reads it as one product of eight columns, and fills
  the place after the last difference with a row whose distance to every other is larger than any the inputs reach.
-/
module

public import Idealize.ShloMosaic.PureOps
public import Idealize.ShloMosaic.Lib.IdealHost

@[expose] public section

noncomputable section

namespace Cert.Proof.Cham

open Idealize.ShloMosaic

/-- The product of a point with itself. -/
def square (x : Fin 3 → EReal) : EReal := ∑ k, x k * x k

/-- The squared distance of two points, as the reference writes it. -/
def dist (x y : Fin 3 → EReal) : EReal := square x + square y - Ideal.ofBits .f32 0x40000000#32 * ∑ k, x k * y k

/-- The least of finitely many values. -/
def nearest {n : ℕ} (f : Fin n → EReal) : EReal := Finset.univ.fold min (Ideal.ofBits .f32 0x7F800000#32) f

/-- The mean distance from each point of either set to the other set, the two added: `c` is the number of points. -/
def chamfer {n : ℕ} (c : EReal) (x y : Fin n → Fin 3 → EReal) : EReal :=
  Ideal.div (∑ i, nearest fun j => dist (x i) (y j)) c + Ideal.div (∑ j, nearest fun i => dist (x i) (y j)) c

/-- The eight columns of a query. -/
def query (x : Fin 3 → EReal) : Fin 8 → EReal :=
  ![Ideal.ofBits .f32 0xC0000000#32 * x 0, Ideal.ofBits .f32 0xC0000000#32 * x 1, Ideal.ofBits .f32 0xC0000000#32 * x 2, square x, 1, 0, 0, 0]

/-- The eight columns of a key. -/
def key (y : Fin 3 → EReal) : Fin 8 → EReal := ![y 0, y 1, y 2, 1, square y, 0, 0, 0]

/-- The padding row of the queries, and that of the keys. -/
def padQuery : Fin 8 → EReal := ![0, 0, 0, Ideal.ofBits .f32 0x7149F2CA#32, 1, 0, 0, 0]
def padKey : Fin 8 → EReal := ![0, 0, 0, 1, Ideal.ofBits .f32 0x7149F2CA#32, 0, 0, 0]

/-- A point whose coordinates are real and not large. -/
def Small (x : Fin 3 → EReal) : Prop := ∃ r : Fin 3 → ℝ, (∀ k, x k = (r k : EReal)) ∧ ∀ k, |r k| ≤ 3 * 10 ^ 14

theorem two_val : Ideal.ofBits .f32 0x40000000#32 = ((2 : ℝ) : EReal) := by
  simp [Ideal.ofBits, Ideal.ieee, -EReal.coe_mul]; norm_num
theorem negTwo_val : Ideal.ofBits .f32 0xC0000000#32 = ((-2 : ℝ) : EReal) := by
  simp [Ideal.ofBits, Ideal.ieee, -EReal.coe_mul, -EReal.coe_neg]; norm_num
theorem big_val : Ideal.ofBits .f32 0x7149F2CA#32 = ((13234890 * 2 ^ 76 : ℝ) : EReal) := by
  simp [Ideal.ofBits, Ideal.ieee, -EReal.coe_mul]
theorem bound_val : Ideal.ofBits .f32 0x56B5E621#32 = ((11920929 * 2 ^ 23 : ℝ) : EReal) := by
  simp [Ideal.ofBits, Ideal.ieee, -EReal.coe_mul]
theorem count_val : Ideal.ofBits .f32 0x45000000#32 = ((2048 : ℝ) : EReal) := by
  simp [Ideal.ofBits, Ideal.ieee, -EReal.coe_mul]; norm_num
theorem countS_val : Ideal.ofBits .f32 0x44FFE000#32 = ((2047 : ℝ) : EReal) := by
  simp [Ideal.ofBits, Ideal.ieee, -EReal.coe_mul]; norm_num

theorem square_coe (r : Fin 3 → ℝ) : square (fun k => (r k : EReal)) = ((r 0 * r 0 + r 1 * r 1 + r 2 * r 2 : ℝ) : EReal) := by
  simp only [square, Fin.sum_univ_three]; norm_cast

theorem dist_coe (r s : Fin 3 → ℝ) : dist (fun k => (r k : EReal)) (fun k => (s k : EReal))
    = (((r 0 * r 0 + r 1 * r 1 + r 2 * r 2) + (s 0 * s 0 + s 1 * s 1 + s 2 * s 2) - 2 * (r 0 * s 0 + r 1 * s 1 + r 2 * s 2) : ℝ) : EReal) := by
  simp only [dist, square_coe, two_val, Fin.sum_univ_three]; norm_cast

theorem coe_of {x : Fin 3 → EReal} {r : Fin 3 → ℝ} (h : ∀ k, x k = (r k : EReal)) : x = fun k => (r k : EReal) := funext h

/-- The product of the eight columns is the squared distance. -/
theorem query_key {x y : Fin 3 → EReal} (hx : Small x) (hy : Small y) : ∑ k, query x k * key y k = dist x y := by
  obtain ⟨r, hr, -⟩ := hx
  obtain ⟨s, hs, -⟩ := hy
  rw [coe_of hr, coe_of hs, dist_coe, Fin.sum_univ_eight]
  simp only [query, key, square_coe, negTwo_val]
  simp only [Matrix.cons_val, mul_one, one_mul, mul_zero, add_zero]
  simp only [← EReal.coe_mul, ← EReal.coe_add]
  exact congrArg _ (by ring)

/-- The padding key is as far from a query as its place says. -/
theorem query_pad (x : Fin 3 → EReal) : ∑ k, query x k * padKey k = square x + Ideal.ofBits .f32 0x7149F2CA#32 := by
  rw [Fin.sum_univ_eight]
  simp only [query, padKey, Matrix.cons_val, mul_one, one_mul, mul_zero, add_zero, zero_add]
theorem pad_key (y : Fin 3 → EReal) : ∑ k, padQuery k * key y k = Ideal.ofBits .f32 0x7149F2CA#32 + square y := by
  rw [Fin.sum_univ_eight]
  simp only [key, padQuery, Matrix.cons_val, mul_one, one_mul, mul_zero, zero_mul, add_zero, zero_add]

theorem gap (r s : Fin 3 → ℝ) (hr : ∀ k, |r k| ≤ 3 * 10 ^ 14) (hs : ∀ k, |s k| ≤ 3 * 10 ^ 14) :
    (s 0 * s 0 + s 1 * s 1 + s 2 * s 2) - 2 * (r 0 * s 0 + r 1 * s 1 + r 2 * s 2) ≤ 13234890 * 2 ^ 76 := by
  have sq : ∀ k, s k * s k ≤ 9 * 10 ^ 28 := fun k => by
    have := abs_mul_abs_self (s k)
    nlinarith [hs k, abs_nonneg (s k)]
  have cr : ∀ k, -(r k * s k) ≤ 9 * 10 ^ 28 := fun k => by
    have h1 := neg_abs_le (r k * s k)
    have h2 := abs_mul (r k) (s k)
    nlinarith [mul_le_mul (hr k) (hs k) (abs_nonneg _) (by norm_num)]
  have := sq 0; have := sq 1; have := sq 2; have := cr 0; have := cr 1; have := cr 2
  norm_num at *
  linarith

/-- It is farther than any point the inputs reach. -/
theorem dist_le_query_pad {x y : Fin 3 → EReal} (hx : Small x) (hy : Small y) : dist x y ≤ square x + Ideal.ofBits .f32 0x7149F2CA#32 := by
  obtain ⟨r, hr, br⟩ := hx
  obtain ⟨s, hs, bs⟩ := hy
  rw [coe_of hr, coe_of hs, dist_coe, square_coe, big_val, ← EReal.coe_add, EReal.coe_le_coe_iff]
  have := gap r s br bs
  linarith
theorem dist_le_pad_key {x y : Fin 3 → EReal} (hx : Small x) (hy : Small y) : dist x y ≤ Ideal.ofBits .f32 0x7149F2CA#32 + square y := by
  obtain ⟨r, hr, br⟩ := hx
  obtain ⟨s, hs, bs⟩ := hy
  rw [coe_of hr, coe_of hs, dist_coe, square_coe, big_val, ← EReal.coe_add, EReal.coe_le_coe_iff]
  have := gap s r bs br
  linarith

/-- A last value not below another does not change the least. -/
theorem nearest_last {n : ℕ} (g : Fin (n + 1) → EReal) (f : Fin n → EReal) (hg : ∀ j, g j.castSucc = f j) (j₀ : Fin n) (hl : f j₀ ≤ g (Fin.last n)) :
    nearest g = nearest f := by
  refine eq_of_forall_le_iff fun c => ?_
  simp only [nearest, Finset.le_fold_min, Finset.mem_univ, true_implies, Fin.forall_fin_succ', hg]
  exact ⟨fun h => ⟨h.1, h.2.1⟩, fun h => ⟨h.1, h.2, (h.2 j₀).trans hl⟩⟩

/-- A sum divided by a positive real is divided term by term. -/
theorem div_add {c : ℝ} (hc : 0 < c) (a b : EReal) : Ideal.div (a + b) (c : EReal) = Ideal.div a c + Ideal.div b c := by
  rw [Ideal.div_coe hc.ne', Ideal.div_coe hc.ne', Ideal.div_coe hc.ne', mul_comm, mul_comm a, mul_comm b]
  exact EReal.left_distrib_of_nonneg_of_ne_top (by exact_mod_cast (one_div_pos.mpr hc).le) (EReal.coe_ne_top _) _ _

/-- Which rows of a block count: all of the points, all but the last of the differences. -/
theorem all_count : ∀ v : Fin 2048, IntOp.cmpi .slt (BitVec.ofNat 32 v) (Scalar.subi 2048#32 (BitVec.ofNat 32 0)) = 1#1 := by decide +kernel
theorem some_count : ∀ v : Fin 2047, IntOp.cmpi .slt (BitVec.ofNat 32 v) (Scalar.subi 2048#32 (BitVec.ofNat 32 1)) = 1#1 := by decide +kernel
theorem last_out : IntOp.cmpi .slt (BitVec.ofNat 32 2047) (Scalar.subi 2048#32 (BitVec.ofNat 32 1)) = 0#1 := by decide +kernel

/-- The sum over the rows that count. -/
theorem sum_some (g : Fin 2048 → EReal) : (∑ i : Fin 2048, Scalar.select (IntOp.cmpi .slt (BitVec.ofNat 32 i) (Scalar.subi 2048#32 (BitVec.ofNat 32 1))) (g i) 0)
    = ∑ i : Fin 2047, g i.castSucc := by
  refine (Fin.sum_univ_castSucc (n := 2047) _).trans ?_
  refine (congrArg₂ (· + ·) (Finset.sum_congr rfl fun i _ => ?_) ?_).trans (add_zero _)
  · exact congrArg (Scalar.select · _ _) (some_count i)
  · exact congrArg (Scalar.select · _ _) last_out

/-- The value the call's body computes of one block. -/
def block (t : ℕ) (X Y : Fin 2048 → Fin 8 → EReal) : EReal :=
  Ideal.div ((∑ i : Fin 2048, Scalar.select (IntOp.cmpi .slt (BitVec.ofNat 32 i) (Scalar.subi 2048#32 (BitVec.ofNat 32 t))) (nearest fun j => ∑ k, X i k * Y j k) 0)
    + ∑ j : Fin 2048, Scalar.select (IntOp.cmpi .slt (BitVec.ofNat 32 j) (Scalar.subi 2048#32 (BitVec.ofNat 32 t))) (nearest fun i => ∑ k, X i k * Y j k) 0)
    (((Scalar.subi 2048#32 (BitVec.ofNat 32 t)).toInt : ℝ) : EReal)

/-- On the points it is their chamfer distance. -/
theorem block_points (X Y : Fin 2048 → Fin 8 → EReal) (x y : Fin 2048 → Fin 3 → EReal) (hX : ∀ i, X i = query (x i)) (hY : ∀ j, Y j = key (y j))
    (hx : ∀ i, Small (x i)) (hy : ∀ j, Small (y j)) : block 0 X Y = chamfer (Ideal.ofBits .f32 0x45000000#32) x y := by
  have e : (((Scalar.subi 2048#32 (BitVec.ofNat 32 0)).toInt : ℝ) : EReal) = ((2048 : ℝ) : EReal) := by
    rw [show (Scalar.subi 2048#32 (BitVec.ofNat 32 0)).toInt = 2048 by decide]; norm_num
  simp only [block, chamfer, all_count, hX, hY, query_key (hx _) (hy _), e, count_val]
  exact div_add (by norm_num) _ _

/-- On the differences, whose place 2047 holds the padding, it is theirs. -/
theorem block_differences (X Y : Fin 2048 → Fin 8 → EReal) (x y : Fin 2047 → Fin 3 → EReal) (hX : ∀ i : Fin 2047, X i.castSucc = query (x i)) (hY : ∀ j : Fin 2047, Y j.castSucc = key (y j))
    (pX : X (Fin.last 2047) = padQuery) (pY : Y (Fin.last 2047) = padKey)
    (hx : ∀ i, Small (x i)) (hy : ∀ j, Small (y j)) : block 1 X Y = chamfer (Ideal.ofBits .f32 0x44FFE000#32) x y := by
  have e : (((Scalar.subi 2048#32 (BitVec.ofNat 32 1)).toInt : ℝ) : EReal) = ((2047 : ℝ) : EReal) := by
    rw [show (Scalar.subi 2048#32 (BitVec.ofNat 32 1)).toInt = 2047 by decide]; norm_num
  have q : ∀ i : Fin 2047, (nearest fun j => ∑ k, X i.castSucc k * Y j k) = nearest fun j => dist (x i) (y j) := fun i =>
    nearest_last _ _ (fun j => by rw [hX, hY, query_key (hx i) (hy j)]) 0
      (by rw [hX, pY, query_pad]; exact dist_le_query_pad (hx i) (hy 0))
  have k : ∀ j : Fin 2047, (nearest fun i => ∑ k, X i k * Y j.castSucc k) = nearest fun i => dist (x i) (y j) := fun j =>
    nearest_last _ _ (fun i => by rw [hX, hY, query_key (hx i) (hy j)]) 0
      (by rw [hY, pX, pad_key]; exact dist_le_pad_key (hx 0) (hy j))
  unfold block chamfer
  rw [sum_some, sum_some]
  simp only [q, k, e, countS_val]
  exact div_add (by norm_num) _ _

end Cert.Proof.Cham

end
-- ==== Proof.ChamferCols.lean ====
/-
  The arrays the TensorCore call is run on: the points, and the differences of neighbouring points, in eight columns,
  and what they hold at an index.
-/
module

public import proofs.«01_k».proof.Proof.Gen.ChamferIdeal.Frame
public import proofs.«01_k».proof.Proof.Chamfer
public import Idealize.ShloMosaic.Lib.Pointwise
public import Idealize.ShloMosaic.Lib.Pipeline.ValueKit

@[expose] public section

noncomputable section

namespace Cert.Proof.Cham

open Idealize.ShloMosaic Idealize.ShloMosaic.TcCoe Idealize.SL.Sem Idealize.ShloMosaic.StableHlo
open Cert.ChamferIdeal Cert.ChamferIdeal.Gen

attribute [local instance] Cert.ChamferIdeal.Gen.facts₀

variable {F : FTy → Type} [FloatOps F]

/-- The differences of neighbouring points. -/
def shift (p : FVec F S4x2048x3 .f32) : FVec F S4x2047x3 .f32 :=
  subf (extractStridedSlice S4x2047x3 ![0, 1, 0] p slices_S4x2048x3_S4x2047x3_0_1_0) (extractStridedSlice S4x2047x3 ![0, 0, 0] p slices_S4x2048x3_S4x2047x3_0_0_0)

/-- The eight columns of a query: minus twice the point, its square, one, and three zeros. -/
def queries (p : FVec F S4x2048x3 .f32) : FVec F S4x2048x8 .f32 :=
  concatenate S4x2048x8 2 [⟨S4x2048x3, mulf (broadcastInDim S4x2048x3 ![] bcast_S_S4x2048x3 (constant S_ .f32 0xC0000000#32)) p⟩,
    ⟨S4x2048x1, broadcastInDim S4x2048x1 ![0, 1] bcast_S4x2048_S4x2048x1_0_1 (Host.reduceAdd (mulf p p) (constant S_ .f32 0x00000000#32) reducesTo_S4x2048x3_S4x2048_d2 h_S_)⟩,
    ⟨S4x2048x1, broadcastInDim S4x2048x1 ![] bcast_S_S4x2048x1 (constant S_ .f32 0x3F800000#32)⟩,
    ⟨S4x2048x3, broadcastInDim S4x2048x3 ![] bcast_S_S4x2048x3 (constant S_ .f32 0x00000000#32)⟩] concatenates_S4x2048x3_S4x2048x1_S4x2048x1_S4x2048x3_S4x2048x8_d2

/-- The eight columns of a key: the point, one, its square, and three zeros. -/
def keys (p : FVec F S4x2048x3 .f32) : FVec F S4x2048x8 .f32 :=
  concatenate S4x2048x8 2 [⟨S4x2048x3, p⟩,
    ⟨S4x2048x1, broadcastInDim S4x2048x1 ![] bcast_S_S4x2048x1 (constant S_ .f32 0x3F800000#32)⟩,
    ⟨S4x2048x1, broadcastInDim S4x2048x1 ![0, 1] bcast_S4x2048_S4x2048x1_0_1 (Host.reduceAdd (mulf p p) (constant S_ .f32 0x00000000#32) reducesTo_S4x2048x3_S4x2048_d2 h_S_)⟩,
    ⟨S4x2048x3, broadcastInDim S4x2048x3 ![] bcast_S_S4x2048x3 (constant S_ .f32 0x00000000#32)⟩] concatenates_S4x2048x3_S4x2048x1_S4x2048x1_S4x2048x3_S4x2048x8_d2

/-- The same of the differences, with one padding row after them. -/
def queriesS (p : FVec F S4x2047x3 .f32) : FVec F S4x2048x8 .f32 :=
  concatenate S4x2048x8 1 [⟨S4x2047x8, concatenate S4x2047x8 2 [⟨S4x2047x3, mulf (broadcastInDim S4x2047x3 ![] bcast_S_S4x2047x3 (constant S_ .f32 0xC0000000#32)) p⟩,
    ⟨S4x2047x1, broadcastInDim S4x2047x1 ![0, 1] bcast_S4x2047_S4x2047x1_0_1 (Host.reduceAdd (mulf p p) (constant S_ .f32 0x00000000#32) reducesTo_S4x2047x3_S4x2047_d2 h_S_)⟩,
    ⟨S4x2047x1, broadcastInDim S4x2047x1 ![] bcast_S_S4x2047x1 (constant S_ .f32 0x3F800000#32)⟩,
    ⟨S4x2047x3, broadcastInDim S4x2047x3 ![] bcast_S_S4x2047x3 (constant S_ .f32 0x00000000#32)⟩] concatenates_S4x2047x3_S4x2047x1_S4x2047x1_S4x2047x3_S4x2047x8_d2⟩,
    ⟨S4x1x8, broadcastInDim S4x1x8 ![2] bcast_S8_S4x1x8_2 (fun i => FloatOps.ofBits .f32 (lit0 (S8.rowMajor i)))⟩] concatenates_S4x2047x8_S4x1x8_S4x2048x8_d1

/-- The keys of the differences, with their padding row. -/
def keysS (p : FVec F S4x2047x3 .f32) : FVec F S4x2048x8 .f32 :=
  concatenate S4x2048x8 1 [⟨S4x2047x8, concatenate S4x2047x8 2 [⟨S4x2047x3, p⟩,
    ⟨S4x2047x1, broadcastInDim S4x2047x1 ![] bcast_S_S4x2047x1 (constant S_ .f32 0x3F800000#32)⟩,
    ⟨S4x2047x1, broadcastInDim S4x2047x1 ![0, 1] bcast_S4x2047_S4x2047x1_0_1 (Host.reduceAdd (mulf p p) (constant S_ .f32 0x00000000#32) reducesTo_S4x2047x3_S4x2047_d2 h_S_)⟩,
    ⟨S4x2047x3, broadcastInDim S4x2047x3 ![] bcast_S_S4x2047x3 (constant S_ .f32 0x00000000#32)⟩] concatenates_S4x2047x3_S4x2047x1_S4x2047x1_S4x2047x3_S4x2047x8_d2⟩,
    ⟨S4x1x8, broadcastInDim S4x1x8 ![2] bcast_S8_S4x1x8_2 (fun i => FloatOps.ofBits .f32 (lit1 (S8.rowMajor i)))⟩] concatenates_S4x2047x8_S4x1x8_S4x2048x8_d1

/-- Two such arrays, one after the other. -/
def both (a b : FVec F S4x2048x8 .f32) : FVec F S2x4x2048x8 .f32 :=
  concatenate S2x4x2048x8 0 [⟨S1x4x2048x8, broadcastInDim S1x4x2048x8 ![1, 2, 3] bcast_S4x2048x8_S1x4x2048x8_1_2_3 a⟩,
    ⟨S1x4x2048x8, broadcastInDim S1x4x2048x8 ![1, 2, 3] bcast_S4x2048x8_S1x4x2048x8_1_2_3 b⟩] concatenates_S1x4x2048x8_S1x4x2048x8_S2x4x2048x8_d0

/-- A difference of neighbouring points, by coordinate. -/
theorem shift_at (p : FVec Ideal S4x2048x3 .f32) (b : Fin 4) (v : Fin 2047) (k : Fin 3) : (shift p (ix3 b v k) : EReal) = p (ix3 b v.succ k) - p (ix3 b v.castSucc k) := by
  pointwise [shift]
  have e : (⟨1 + v, by omega⟩ : Fin 2048) = v.succ := Fin.ext (Nat.add_comm _ _)
  exact congrArg (fun w : Fin 2048 => p (ix3 b w k) - p (ix3 b v.castSucc k)) e

/-- The first half holds the points' columns, the second the differences'. -/
theorem both0 (x y : FVec Ideal S4x2048x8 .f32) (b : Fin 4) (v : Fin 2048) (k : Fin 8) : both x y (ix4 0 b v k) = x (ix3 b v k) := by
  pointwise [both]
theorem both1 (x y : FVec Ideal S4x2048x8 .f32) (b : Fin 4) (v : Fin 2048) (k : Fin 8) : both x y (ix4 1 b v k) = y (ix3 b v k) := by
  pointwise [both]

/-- A row before the padding, and the padding. -/
theorem pad_lo (x : FVec Ideal S4x2047x8 .f32) (r : FVec Ideal S4x1x8 .f32) (b : Fin 4) (v : Fin 2047) (k : Fin 8) :
    concatenate S4x2048x8 1 [⟨S4x2047x8, x⟩, ⟨S4x1x8, r⟩] concatenates_S4x2047x8_S4x1x8_S4x2048x8_d1 (ix3 b v.castSucc k) = x (ix3 b v k) := by
  refine concatenate_apply_piece 1 _ _ (ix3 b v.castSucc k : S4x2048x8.Idx) 0 (by simp) S4x2047x8 x rfl rfl 0 rfl (ix3 b v k) ?_ ?_
  · intro a ha
    match a with
    | ⟨0, _⟩ => rfl
    | ⟨1, _⟩ => exact absurd rfl ha
    | ⟨2, _⟩ => rfl
  · exact Nat.zero_add _
theorem pad_hi (x : FVec Ideal S4x2047x8 .f32) (r : FVec Ideal S4x1x8 .f32) (b : Fin 4) (k : Fin 8) :
    concatenate S4x2048x8 1 [⟨S4x2047x8, x⟩, ⟨S4x1x8, r⟩] concatenates_S4x2047x8_S4x1x8_S4x2048x8_d1 (ix3 b (Fin.last 2047) k) = r (ix3 b 0 k) := by
  refine concatenate_apply_piece 1 _ _ (ix3 b (Fin.last 2047) k : S4x2048x8.Idx) 1 (by simp) S4x1x8 r rfl rfl 2047 rfl (ix3 b 0 k) ?_ ?_
  · intro a ha
    match a with
    | ⟨0, _⟩ => rfl
    | ⟨1, _⟩ => exact absurd rfl ha
    | ⟨2, _⟩ => rfl
  · rfl

/-- The columns of `queries` are those of the mathematics. -/
theorem queries_at (p : FVec Ideal S4x2048x3 .f32) (b : Fin 4) (v : Fin 2048) (k : Fin 8) : (queries p (ix3 b v k) : EReal) = query (fun k => p (ix3 b v k)) k := by
  pointwise [queries]
  match k with
  | 0 | 1 | 2 | 3 | 4 | 5 | 6 | 7 => rfl

/-- The columns of `keys` are those of the mathematics. -/
theorem keys_at (p : FVec Ideal S4x2048x3 .f32) (b : Fin 4) (v : Fin 2048) (k : Fin 8) : (keys p (ix3 b v k) : EReal) = key (fun k => p (ix3 b v k)) k := by
  pointwise [keys]
  match k with
  | 0 | 1 | 2 | 3 | 4 | 5 | 6 | 7 => rfl

/-- The same of the differences, and of the row after them. -/
theorem queriesS_at (p : FVec Ideal S4x2047x3 .f32) (b : Fin 4) (v : Fin 2047) (k : Fin 8) : (queriesS p (ix3 b v.castSucc k) : EReal) = query (fun k => p (ix3 b v k)) k := by
  unfold queriesS
  refine (pad_lo _ _ b v k).trans ?_
  pointwise
  match k with
  | 0 | 1 | 2 | 3 | 4 | 5 | 6 | 7 => rfl
theorem queriesS_pad (p : FVec Ideal S4x2047x3 .f32) (b : Fin 4) (k : Fin 8) : (queriesS p (ix3 b (Fin.last 2047) k) : EReal) = padQuery k := by
  unfold queriesS
  refine (pad_hi _ _ b k).trans ?_
  pointwise
  have one := Ideal.ofBits_one_f32
  have zero := Ideal.ofBits_zero_f32
  match k with
  | 0 => exact zero
  | 1 => exact zero
  | 2 => exact zero
  | 3 => exact rfl
  | 4 => exact one
  | 5 => exact zero
  | 6 => exact zero
  | 7 => exact zero

theorem keysS_at (p : FVec Ideal S4x2047x3 .f32) (b : Fin 4) (v : Fin 2047) (k : Fin 8) : (keysS p (ix3 b v.castSucc k) : EReal) = key (fun k => p (ix3 b v k)) k := by
  unfold keysS
  refine (pad_lo _ _ b v k).trans ?_
  pointwise
  match k with
  | 0 | 1 | 2 | 3 | 4 | 5 | 6 | 7 => rfl
theorem keysS_pad (p : FVec Ideal S4x2047x3 .f32) (b : Fin 4) (k : Fin 8) : (keysS p (ix3 b (Fin.last 2047) k) : EReal) = padKey k := by
  unfold keysS
  refine (pad_hi _ _ b k).trans ?_
  pointwise
  have one := Ideal.ofBits_one_f32
  have zero := Ideal.ofBits_zero_f32
  match k with
  | 0 => exact zero
  | 1 => exact zero
  | 2 => exact zero
  | 3 => exact one
  | 4 => exact rfl
  | 5 => exact zero
  | 6 => exact zero
  | 7 => exact zero

end Cert.Proof.Cham

end
-- ==== Proof.ChamferHost.lean ====
/-
  What the TensorCore call finds in its two operands.
-/
module

public import proofs.«01_k».proof.Proof.Gen.ChamferIdeal.Frame
public import proofs.«01_k».proof.Proof.ChamferCols
public import Idealize.ShloMosaic.Lib.Pointwise
public import Idealize.ShloMosaic.Lib.Pipeline.ValueKit

@[expose] public section

noncomputable section

namespace Cert.Proof.Cham

open Idealize.ShloMosaic Idealize.ShloMosaic.TcCoe Idealize.SL.Sem Idealize.ShloMosaic.StableHlo
open Cert.ChamferIdeal Cert.ChamferIdeal.Gen

attribute [local instance] Cert.ChamferIdeal.Gen.facts₀

variable {F : FTy → Type} [FloatOps F]

variable (m : (ℓ : Loc nD τ sig) → Buf (Elt F) ℓ)

/-- The two arguments as the call's device holds them. -/
abbrev Am (c : Dev nD) : FVec F S4x2048x3 .f32 := m ((c.tc : Thread nD τ).loc main_arg0)
abbrev Bm (c : Dev nD) : FVec F S4x2048x3 .f32 := m ((c.tc : Thread nD τ).loc main_arg1)

set_option maxHeartbeats 0 in
/-- The call's first operand: the queries. -/
theorem V_v40 (c : Dev nD) : V m c main_v40 = both (queries (Am m c)) (queriesS (shift (Am m c))) := by
  unfold V V0
  simp only [hostOps0, List.flatten_cons, List.flatten_nil, List.append_nil]
  after_results_simp
  rfl
set_option maxHeartbeats 0 in
/-- Its second: the keys. -/
theorem V_v43 (c : Dev nD) : V m c main_v43 = both (keys (Bm m c)) (keysS (shift (Bm m c))) := by
  unfold V V0
  simp only [hostOps0, List.flatten_cons, List.flatten_nil, List.append_nil]
  after_results_simp
  rfl

end Cert.Proof.Cham

end
-- ==== Proof.ChamferRun.lean ====
/-
  What the TensorCore call leaves, one value for each block, and what the program around it returns: the means of these values.
-/
module

public import proofs.«01_k».proof.Proof.Gen.ChamferIdeal.Frame
public import proofs.«01_k».proof.Proof.Chamfer
public import Idealize.ShloMosaic.Lib.Pointwise
public import Idealize.ShloMosaic.Lib.Pipeline.ValueKit

@[expose] public section

noncomputable section

namespace Cert.Proof.Cham

open Idealize.ShloMosaic Idealize.ShloMosaic.TcCoe Idealize.SL.Sem Idealize.ShloMosaic.StableHlo
open Cert.ChamferIdeal Cert.ChamferIdeal.Gen

attribute [local instance] Cert.ChamferIdeal.Gen.facts₀

variable {F : FTy → Type} [FloatOps F]

/-- The body's value of a block. -/
theorem pay_at (i : grid0.Coords) (x y : FVec Ideal S1x1x2048x8 .f32) (j : S1x1x1x1.Idx) :
    (k0_pay1 (F := Ideal) i x y j : EReal) = block (i 0) (fun v k => x (ix4 0 0 v k)) (fun v k => y (ix4 0 0 v k)) := by
  pointwise [k0_pay1]
  unfold block nearest
  simp only [Finset.univ_unique, Finset.sum_singleton]

variable (m : (ℓ : Loc nD τ sig) → Buf (Elt F) ℓ)

/-- The value of each block, computed from the block's rows. -/
def outArr (X Y : FVec F S2x4x2048x8 .f32) : FVec F S2x4x1x1 .f32 := fun j =>
  k0_pay1 (F := F) (fun a => match a with | ⟨0, _⟩ => j 0 | ⟨1, _⟩ => j 1) (fun z : S1x1x2048x8.Idx => X (ix4 (j 0) (j 1) (z 2) (z 3))) (fun z : S1x1x2048x8.Idx => Y (ix4 (j 0) (j 1) (z 2) (z 3))) (ix4 0 0 0 0)

/-- Where a grid point's blocks lie. -/
theorem place0 : ∀ t : Fin cfg0.grid.N, win0_0.index t 0 = (grid0.coords t 0 : ℕ) ∧ win0_0.index t 1 = (grid0.coords t 1 : ℕ) ∧ win0_0.index t 2 = 0 ∧ win0_0.index t 3 = 0 := by decide +kernel
theorem place1 : ∀ t : Fin cfg0.grid.N, win0_1.index t 0 = (grid0.coords t 0 : ℕ) ∧ win0_1.index t 1 = (grid0.coords t 1 : ℕ) ∧ win0_1.index t 2 = 0 ∧ win0_1.index t 3 = 0 := by decide +kernel
theorem place2 : ∀ t : Fin cfg0.grid.N, win0_2.index t 0 = (grid0.coords t 0 : ℕ) ∧ win0_2.index t 1 = (grid0.coords t 1 : ℕ) := by decide +kernel

/-- The rows a grid point is given. -/
theorem rows0 (c : Dev nD) (t : Fin cfg0.grid.N) : iblk m c 0 t = fun z : S1x1x2048x8.Idx => V m c main_v40 (ix4 (grid0.coords t 0) (grid0.coords t 1) (z 2) (z 3)) := by
  obtain ⟨e0, e1, e2, e3⟩ := place0 t
  funext z
  blk_ext [iblk, e0, e1, e2, e3]
theorem rows1 (c : Dev nD) (t : Fin cfg0.grid.N) : iblk m c 1 t = fun z : S1x1x2048x8.Idx => V m c main_v43 (ix4 (grid0.coords t 0) (grid0.coords t 1) (z 2) (z 3)) := by
  obtain ⟨e0, e1, e2, e3⟩ := place1 t
  funext z
  blk_ext [iblk, e0, e1, e2, e3]

/-- What the call leaves in its result. -/
theorem arr_out (c : Dev nD) : (dats m 0 c).arrAt 2 (cfgs 0).N = outArr (V m c main_v40) (V m c main_v43) := by
  refine (dats m 0 c).arrAt_eq_of_covers 2 _ (by decide +kernel) fun t hf y => ?_
  blk_simp
  rw [after0_2]
  frame_out
  have e0 : (((View.whole main_v44).slice (win0_2.rect t)).emb y) 0 = grid0.coords t 0 := Fin.ext (by
    have := (place2 t).1
    blk_simp
    exact this)
  have e1 : (((View.whole main_v44).slice (win0_2.rect t)).emb y) 1 = grid0.coords t 1 := Fin.ext (by
    have := (place2 t).2
    blk_simp
    exact this)
  have ey : y = (ix4 0 0 0 0 : S1x1x1x1.Idx) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
  have ec : (fun a => match a with | ⟨0, _⟩ => grid0.coords t 0 | ⟨1, _⟩ => grid0.coords t 1 : grid0.Coords) = grid0.coords t := by
    funext a
    match a with
    | ⟨0, _⟩ => rfl
    | ⟨1, _⟩ => rfl
  rw [rows0, rows1]
  unfold outArr
  rw [e0, e1, ec, ey]

/-- The mean over the clouds of the points' values, and of the differences' values. -/
def meanPoints (a : FVec F S2x4x1x1 .f32) : FVec F S_ .f32 :=
  Host.divf (Host.reduceAdd (shapeCast S4x1x1 (extractStridedSlice S1x4x1x1 ![0, 0, 0, 0] a slices_S2x4x1x1_S1x4x1x1_0_0_0_0) shapeCasts_S1x4x1x1_S4x1x1) (constant S_ .f32 0x00000000#32) reducesTo_S4x1x1_S_d0_1_2 h_S_) (constant S_ .f32 0x40800000#32)
def meanShifts (a : FVec F S2x4x1x1 .f32) : FVec F S_ .f32 :=
  Host.divf (Host.reduceAdd (shapeCast S4x1x1 (extractStridedSlice S1x4x1x1 ![1, 0, 0, 0] a slices_S2x4x1x1_S1x4x1x1_1_0_0_0) shapeCasts_S1x4x1x1_S4x1x1) (constant S_ .f32 0x00000000#32) reducesTo_S4x1x1_S_d0_1_2 h_S_) (constant S_ .f32 0x40800000#32)

/-- The result's buffer after the call, and each mean read from it. -/
theorem at44 (c : Dev nD) : Pipeline.withArrays (cfgs 0).spec c (V0 m c) (fun w => (dats m 0 c).arrAt w (cfgs 0).N) (Proc.devRef .tc main_v44) = outArr (V m c main_v40) (V m c main_v43) :=
  (Pipeline.withArrays_arr _ launch0.win.arr_inj c _ _ 2).trans (arr_out m c)

theorem tail48 (c : Dev nD) : Pipeline.afterTail₀ cfgs (dats m) 0 (V0 m) [hostOps1] c main_v48 = meanPoints (outArr (V m c main_v40) (V m c main_v43)) := by
  unfold Pipeline.afterTail₀
  simp only [hostOps1, List.flatten_cons, List.flatten_nil, List.append_nil]
  after_results_simp
  rw [at44]
  rfl
theorem tail52 (c : Dev nD) : Pipeline.afterTail₀ cfgs (dats m) 0 (V0 m) [hostOps1] c main_v52 = meanShifts (outArr (V m c main_v40) (V m c main_v43)) := by
  unfold Pipeline.afterTail₀
  simp only [hostOps1, List.flatten_cons, List.flatten_nil, List.append_nil]
  after_results_simp
  rw [at44]
  rfl

/-- Every run ends with the two means and the arguments as they were. -/
theorem run_chamfer (ρ : Dev nD → PrngReg) : θ_run defs (onTc (τ := τ) (main (F := F))) ⟨m, fun _ => 0, ρ⟩ (fun r => ∀ c : Dev nD,
      r.2.mem ((c.tc : Thread nD τ).loc main_v48) = meanPoints (outArr (V m c main_v40) (V m c main_v43))
      ∧ r.2.mem ((c.tc : Thread nD τ).loc main_v52) = meanShifts (outArr (V m c main_v40) (V m c main_v43))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.2 c).2 main_v48 (Pipeline.mem_restRefs_of main_v48 (by decide) (by decide))).trans (tail48 m c),
      ((h.2 c).2 main_v52 (Pipeline.mem_restRefs_of main_v52 (by decide) (by decide))).trans (tail52 m c), h.1 c⟩)
    (θ_run_and (unchanged m ρ) (run_main m ρ))

end Cert.Proof.Cham

end
-- ==== Proof.ChamferRef.lean ====
/-
  What the reference of the TensorCore call computes: the mean over the clouds of the chamfer distance of the points, and
  the same of the differences of neighbouring points.
-/
module

public import proofs.«01_k».proof.Proof.Gen.ChamferReferenceIdeal.Run
public import proofs.«01_k».proof.Proof.Chamfer
public import Idealize.ShloMosaic.Lib.Pointwise

@[expose] public section

noncomputable section

namespace Cert.Proof.Cham.Ref

open Idealize.ShloMosaic Idealize.ShloMosaic.TcCoe Idealize.SL.Sem Idealize.ShloMosaic.StableHlo
open Cert.ChamferReferenceIdeal Cert.ChamferReferenceIdeal.Gen

variable {F : FTy → Type} [FloatOps F]

/-- The differences of neighbouring points. -/
def shift (p : FVec F S4x2048x3 .f32) : FVec F S4x2047x3 .f32 :=
  subf (extractStridedSlice S4x2047x3 ![0, 1, 0] p slices_S4x2048x3_S4x2047x3_0_1_0) (extractStridedSlice S4x2047x3 ![0, 0, 0] p slices_S4x2048x3_S4x2047x3_0_0_0)

/-- The reference's squared distances, as an array. -/
def distV (x y : FVec F S4x2048x3 .f32) : FVec F S4x2048x2048 .f32 :=
  subf (addf (broadcastInDim S4x2048x2048 ![0, 1, 2] bcast_S4x2048x1_S4x2048x2048_0_1_2 (broadcastInDim S4x2048x1 ![0, 1] bcast_S4x2048_S4x2048x1_0_1 (Host.reduceAdd (mulf x x) (constant S_ .f32 0x00000000#32) reducesTo_S4x2048x3_S4x2048_d2 h_S_))) (broadcastInDim S4x2048x2048 ![0, 1, 2] bcast_S4x1x2048_S4x2048x2048_0_1_2 (broadcastInDim S4x1x2048 ![0, 2] bcast_S4x2048_S4x1x2048_0_2 (Host.reduceAdd (mulf y y) (constant S_ .f32 0x00000000#32) reducesTo_S4x2048x3_S4x2048_d2 h_S_)))) (mulf (broadcastInDim S4x2048x2048 ![] bcast_S_S4x2048x2048 (constant S_ .f32 0x40000000#32)) (Host.dotGeneral dot_S4x2048x3_S4x2048x3_S4x2048x2048_2_2_1_1_0_0 none x y))

/-- The mean over a cloud. -/
def meanV (a : FVec F S4x2048 .f32) : FVec F S4 .f32 :=
  Host.divf (Host.reduceAdd a (constant S_ .f32 0x00000000#32) reducesTo_S4x2048_S4_d1 h_S_) (broadcastInDim S4 ![] bcast_S_S4 (constant S_ .f32 0x45000000#32))

/-- The loss the reference makes of them. -/
def lossV (x y : FVec F S4x2048x3 .f32) : FVec F S_ .f32 :=
  Host.divf (Host.reduceAdd (addf (meanV (Host.reduce FloatOps.minimumf (distV x y) (constant S_ .f32 0x7F800000#32) reducesTo_S4x2048x2048_S4x2048_d2 h_S_)) (meanV (Host.reduce FloatOps.minimumf (distV x y) (constant S_ .f32 0x7F800000#32) reducesTo_S4x2048x2048_S4x2048_d1 h_S_))) (constant S_ .f32 0x00000000#32) reducesTo_S4_S_d0 h_S_) (constant S_ .f32 0x40800000#32)

theorem distV_at (x y : FVec Ideal S4x2048x3 .f32) (b : Fin 4) (i j : Fin 2048) : (distV x y (ix3 b i j) : EReal) = dist (fun k => x (ix3 b i k)) (fun k => y (ix3 b j k)) := by
  pointwise [distV]
  rfl

/-- It is the mean over the clouds of the chamfer distances. -/
theorem lossV_at (x y : FVec Ideal S4x2048x3 .f32) (u : S_.Idx) :
    (lossV x y u : EReal) = Ideal.div (∑ b : Fin 4, chamfer (Ideal.ofBits .f32 0x45000000#32) (fun i k => x (ix3 b i k)) (fun j k => y (ix3 b j k))) (Ideal.ofBits .f32 0x40800000#32) := by
  pointwise [lossV, meanV]
  simp only [distV_at]
  rfl

/-- The reference's squared distances of the differences, as an array. -/
def distShiftV (x y : FVec F S4x2047x3 .f32) : FVec F S4x2047x2047 .f32 :=
  subf (addf (broadcastInDim S4x2047x2047 ![0, 1, 2] bcast_S4x2047x1_S4x2047x2047_0_1_2 (broadcastInDim S4x2047x1 ![0, 1] bcast_S4x2047_S4x2047x1_0_1 (Host.reduceAdd (mulf x x) (constant S_ .f32 0x00000000#32) reducesTo_S4x2047x3_S4x2047_d2 h_S_))) (broadcastInDim S4x2047x2047 ![0, 1, 2] bcast_S4x1x2047_S4x2047x2047_0_1_2 (broadcastInDim S4x1x2047 ![0, 2] bcast_S4x2047_S4x1x2047_0_2 (Host.reduceAdd (mulf y y) (constant S_ .f32 0x00000000#32) reducesTo_S4x2047x3_S4x2047_d2 h_S_)))) (mulf (broadcastInDim S4x2047x2047 ![] bcast_S_S4x2047x2047 (constant S_ .f32 0x40000000#32)) (Host.dotGeneral dot_S4x2047x3_S4x2047x3_S4x2047x2047_2_2_1_1_0_0 none x y))

/-- The mean over a cloud. -/
def meanShiftV (a : FVec F S4x2047 .f32) : FVec F S4 .f32 :=
  Host.divf (Host.reduceAdd a (constant S_ .f32 0x00000000#32) reducesTo_S4x2047_S4_d1 h_S_) (broadcastInDim S4 ![] bcast_S_S4 (constant S_ .f32 0x44FFE000#32))

/-- The loss the reference makes of them. -/
def lossShiftV (x y : FVec F S4x2047x3 .f32) : FVec F S_ .f32 :=
  Host.divf (Host.reduceAdd (addf (meanShiftV (Host.reduce FloatOps.minimumf (distShiftV x y) (constant S_ .f32 0x7F800000#32) reducesTo_S4x2047x2047_S4x2047_d2 h_S_)) (meanShiftV (Host.reduce FloatOps.minimumf (distShiftV x y) (constant S_ .f32 0x7F800000#32) reducesTo_S4x2047x2047_S4x2047_d1 h_S_))) (constant S_ .f32 0x00000000#32) reducesTo_S4_S_d0 h_S_) (constant S_ .f32 0x40800000#32)

theorem distShiftV_at (x y : FVec Ideal S4x2047x3 .f32) (b : Fin 4) (i j : Fin 2047) : (distShiftV x y (ix3 b i j) : EReal) = dist (fun k => x (ix3 b i k)) (fun k => y (ix3 b j k)) := by
  pointwise [distShiftV]
  rfl

/-- It is the mean over the clouds of the chamfer distances. -/
theorem lossShiftV_at (x y : FVec Ideal S4x2047x3 .f32) (u : S_.Idx) :
    (lossShiftV x y u : EReal) = Ideal.div (∑ b : Fin 4, chamfer (Ideal.ofBits .f32 0x44FFE000#32) (fun i k => x (ix3 b i k)) (fun j k => y (ix3 b j k))) (Ideal.ofBits .f32 0x40800000#32) := by
  pointwise [lossShiftV, meanShiftV]
  simp only [distShiftV_at]
  rfl

variable (m : (ℓ : Loc nD τ sig) → Buf (Elt F) ℓ)

/-- Every run of the reference ends with the two losses and the arguments as they were. -/
theorem run (ρ : Dev nD → PrngReg) : θ_run defs (onTc (τ := τ) (main (F := F))) ⟨m, fun _ => 0, ρ⟩ (fun r => ∀ c : Dev nD,
      r.2.mem ((c.tc : Thread nD τ).loc main_v23) = lossV (m ((c.tc : Thread nD τ).loc main_arg0)) (m ((c.tc : Thread nD τ).loc main_arg1))
      ∧ r.2.mem ((c.tc : Thread nD τ).loc main_v53) = lossShiftV (shift (m ((c.tc : Thread nD τ).loc main_arg0))) (shift (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans rfl, (h c).2.1.trans rfl, (h c).2.2⟩) (Cert.ChamferReferenceIdeal.Value.run m ρ)

end Cert.Proof.Cham.Ref

end
-- ==== Proof.ChamferAlgebraic.lean ====
/-
  The TensorCore call and its reference compute the same two losses, where no coordinate is larger than the padding allows.
  Both terminate, leave their arguments as they were and every semaphore at zero.
-/
module

public import proofs.«01_k».proof.Defs
public import proofs.«01_k».proof.Proof.ChamferHost
public import proofs.«01_k».proof.Proof.ChamferRun
public import proofs.«01_k».proof.Proof.ChamferRef
public import proofs.«01_k».proof.Proof.Gen.Chamfer.Frame
public import proofs.«01_k».proof.Proof.Gen.Pre_below_big
public import Idealize.ShloMosaic.Lib.Affine
public import Idealize.ShloMosaic.Lib.ReduceAll

@[expose] public section

noncomputable section

namespace Cert.Proof.Cham

open Idealize.ShloMosaic Idealize.ShloMosaic.TcCoe Idealize.SL.Sem Idealize.ShloMosaic.StableHlo
open Cert.ChamferIdeal Cert.ChamferIdeal.Gen

/-- Every point's coordinates are at most `10^14` in size. -/
def Bounded (p : FVec Ideal S4x2048x3 .f32) : Prop := ∀ z, ∃ r : ℝ, p z = (r : EReal) ∧ |r| ≤ 11920929 * 2 ^ 23

theorem real_of_abs {a : EReal} (h : Ideal.cmp .ole (max a (-a)) (Ideal.ofBits .f32 0x56B5E621#32) = 1#1) : ∃ r : ℝ, a = (r : EReal) ∧ |r| ≤ 11920929 * 2 ^ 23 := by
  have h' : max a (-a) ≤ Ideal.ofBits .f32 0x56B5E621#32 := by
    by_contra hn
    have e : Ideal.cmp .ole (max a (-a)) (Ideal.ofBits .f32 0x56B5E621#32) = 0#1 := congrArg BitVec.ofBool (decide_eq_false hn)
    rw [e] at h
    exact absurd h (by decide)
  rw [bound_val, max_le_iff] at h'
  induction a using EReal.rec with
  | bot => exact absurd h'.2 (by rw [EReal.neg_bot]; exact not_le.mpr (EReal.coe_lt_top _))
  | top => exact absurd h'.1 (not_le.mpr (EReal.coe_lt_top _))
  | coe r => exact ⟨r, rfl, abs_le'.mpr ⟨by exact_mod_cast h'.1, by exact_mod_cast h'.2⟩⟩

/-- The precondition says so of both arguments. -/
theorem bounded_of_pre (p q : FVec Ideal Cert.Pre_below_big.S4x2048x3 .f32) (h : Cert.Pre_below_big.fn p q = fun _ => 1#1) : Bounded p ∧ Bounded q := by
  have e := IntOp.andi_eq_one.mp (congrFun h (fun k => k.elim0))
  exact ⟨fun z => real_of_abs (Host.reduce_andi_all _ _ _ _ _ e.1 z), fun z => real_of_abs (Host.reduce_andi_all _ _ _ _ _ e.2 z)⟩

theorem small_point {p : FVec Ideal S4x2048x3 .f32} (h : Bounded p) (b : Fin 4) (v : Fin 2048) : Small fun k => p (ix3 b v k) := by
  choose r e l using fun k => h (ix3 b v k)
  refine ⟨r, e, fun k => (l k).trans (by norm_num)⟩

theorem small_shift {p : FVec Ideal S4x2048x3 .f32} (h : Bounded p) (b : Fin 4) (v : Fin 2047) : Small fun k => shift p (ix3 b v k) := by
  choose r e l using fun w k => h (ix3 b w k)
  refine ⟨fun k => r v.succ k - r v.castSucc k, fun k => ?_, fun k => (abs_sub _ _).trans ((add_le_add (l _ _) (l _ _)).trans (by norm_num))⟩
  refine (shift_at p b v k).trans ?_
  rw [e, e]; norm_cast

/-- The call's value of a cloud is the chamfer distance of its points. -/
theorem out_points {p q : FVec Ideal S4x2048x3 .f32} (hp : Bounded p) (hq : Bounded q) (b : Fin 4) :
    (outArr (both (queries p) (queriesS (shift p))) (both (keys q) (keysS (shift q))) (ix4 0 b 0 0) : EReal)
      = chamfer (Ideal.ofBits .f32 0x45000000#32) (fun i k => p (ix3 b i k)) (fun j k => q (ix3 b j k)) := by
  unfold outArr
  refine (pay_at _ _ _ _).trans ?_
  exact block_points _ _ _ _ (fun i => funext fun k => (both0 _ _ b i k).trans (queries_at p b i k)) (fun j => funext fun k => (both0 _ _ b j k).trans (keys_at q b j k))
    (fun i => small_point hp b i) (fun j => small_point hq b j)

/-- And of the differences. -/
theorem out_shifts {p q : FVec Ideal S4x2048x3 .f32} (hp : Bounded p) (hq : Bounded q) (b : Fin 4) :
    (outArr (both (queries p) (queriesS (shift p))) (both (keys q) (keysS (shift q))) (ix4 1 b 0 0) : EReal)
      = chamfer (Ideal.ofBits .f32 0x44FFE000#32) (fun i k => shift p (ix3 b i k)) (fun j k => shift q (ix3 b j k)) := by
  unfold outArr
  refine (pay_at _ _ _ _).trans ?_
  exact block_differences _ _ _ _ (fun i => funext fun k => (both1 _ _ b _ k).trans (queriesS_at _ b i k)) (fun j => funext fun k => (both1 _ _ b _ k).trans (keysS_at _ b j k))
    (funext fun k => (both1 _ _ b _ k).trans (queriesS_pad _ b k)) (funext fun k => (both1 _ _ b _ k).trans (keysS_pad _ b k))
    (fun i => small_shift hp b i) (fun j => small_shift hq b j)

theorem meanPoints_at (a : FVec Ideal S2x4x1x1 .f32) (u : S_.Idx) : (meanPoints a u : EReal) = Ideal.div (∑ b : Fin 4, a (ix4 0 b 0 0)) (Ideal.ofBits .f32 0x40800000#32) := by
  pointwise [meanPoints]
  simp only [Finset.univ_unique, Finset.sum_singleton]
theorem meanShifts_at (a : FVec Ideal S2x4x1x1 .f32) (u : S_.Idx) : (meanShifts a u : EReal) = Ideal.div (∑ b : Fin 4, a (ix4 1 b 0 0)) (Ideal.ofBits .f32 0x40800000#32) := by
  pointwise [meanShifts]
  simp only [Finset.univ_unique, Finset.sum_singleton]

/-- Both programs return the same chamfer loss and the same velocity loss. -/
theorem algebraic_chamfer : Cert.algebraic_ChamferIdeal_ChamferReferenceIdeal_pre_below_big := by
  intro m g m' g' hp hag
  have hb : ∀ c, Bounded (Am m c) ∧ Bounded (Bm m c) := fun c => bounded_of_pre _ _ (hp c)
  refine ⟨fun c => Ref.lossV (F := Ideal) (Am m c) (Bm m c), fun c => Ref.lossShiftV (F := Ideal) (Ref.shift (F := Ideal) (Am m c)) (Ref.shift (F := Ideal) (Bm m c)), ?_, ?_⟩
  · refine (θ_run Cert.ChamferIdeal.defs _ _).mono (fun r h c => ?_) (run_chamfer (F := Ideal) m g)
    obtain ⟨h48, h52, h0, h1⟩ := h c
    rw [V_v40, V_v43] at h48 h52
    refine ⟨h48.trans (funext fun u => ?_), h52.trans (funext fun u => ?_), h0, h1⟩
    · refine (meanPoints_at _ u).trans (Eq.trans ?_ (Ref.lossV_at (Am m c) (Bm m c) u).symm)
      simp only [out_points (hb c).1 (hb c).2]
    · refine (meanShifts_at _ u).trans (Eq.trans ?_ (Ref.lossShiftV_at (Ref.shift (F := Ideal) (Am m c)) (Ref.shift (F := Ideal) (Bm m c)) u).symm)
      simp only [out_shifts (hb c).1 (hb c).2]
      rfl
  · refine (θ_run Cert.ChamferReferenceIdeal.defs _ _).mono (fun r h c => ?_) (Ref.run (F := Ideal) m' g')
    obtain ⟨h23, h53, h0, h1⟩ := h c
    obtain ⟨a0, a1⟩ := hag c
    rw [a0, a1] at h23 h53
    exact ⟨h23, h53, h0, h1⟩

/-! ## The frames -/

theorem frame_kernel : Cert.quiescent_Chamfer := fun m ρ _ => Cert.Chamfer.Gen.frame (F := Bits) m ρ

theorem frame_ideal : Cert.quiescent_ChamferIdeal := fun m ρ _ => Cert.ChamferIdeal.Gen.frame (F := Ideal) m ρ

theorem frame_ideal_pre : Cert.quiescent_ChamferIdeal_pre_below_big := fun m ρ _ => frame_ideal m ρ trivial

theorem frame_reference : Cert.quiescent_ChamferReferenceIdeal := fun m ρ _ =>
  (θ_run Cert.ChamferReferenceIdeal.defs _ _).mono (fun r h => ⟨fun c => (h c).2.2, sem_eq_zero_of_no_sems (by decide) r.2⟩)
    (Cert.ChamferReferenceIdeal.Value.run (F := Ideal) m ρ)

theorem frame_reference_pre : Cert.quiescent_ChamferReferenceIdeal_pre_below_big := fun m ρ _ => frame_reference m ρ trivial

end Cert.Proof.Cham

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal.Run
public import proofs.«01_k».proof.Proof.Gen.Pre_faces_in_range
public import proofs.«01_k».proof.Proof.Gen.Chamfer
public import proofs.«01_k».proof.Proof.Gen.Chamfer.Skeleton
public import proofs.«01_k».proof.Proof.Gen.Chamfer.Launch
public import proofs.«01_k».proof.Proof.Gen.Chamfer.Points
public import proofs.«01_k».proof.Proof.Gen.Chamfer.Frame
public import proofs.«01_k».proof.Proof.Gen.ChamferIdeal
public import proofs.«01_k».proof.Proof.Gen.ChamferIdeal.Skeleton
public import proofs.«01_k».proof.Proof.Gen.ChamferIdeal.Launch
public import proofs.«01_k».proof.Proof.Gen.ChamferIdeal.Points
public import proofs.«01_k».proof.Proof.Gen.ChamferIdeal.Frame
public import proofs.«01_k».proof.Proof.Gen.ChamferReferenceIdeal.Run
public import proofs.«01_k».proof.Proof.Gen.Pre_below_big
public import proofs.«01_k».proof.Proof.Frames
public import proofs.«01_k».proof.Proof.Algebraic
public import proofs.«01_k».proof.Proof.ChamferAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Chamfer.Gen.facts, Cert.ChamferIdeal.Gen.facts, Cert.ChamferReferenceIdeal.Gen.facts, Cert.Pre_faces_in_range.Gen.facts, Cert.Pre_below_big.Gen.facts,
  frame_kernel, frame_ideal, frame_reference, frame_reference_pre,
  Cham.frame_kernel, Cham.frame_ideal, Cham.frame_ideal_pre, Cham.frame_reference, Cham.frame_reference_pre,
  trivial, algebraic, trivial, Cham.algebraic_chamfer⟩

end Cert.Proof

end
